-- ==== Defs.lean ====
def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))).1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))).2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))).2.2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))).2.2.2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))).2.2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.2.2 = (fun _ => 1#1)

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_finite [hPre_attn_finite : Cert.Pre_attn_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1))).1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1))).2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1))).1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1))).2 = (fun _ => 1#1)

def Pre_PoolKernel (m : (ℓ : Loc Cert.PoolKernel.nD Cert.PoolKernel.τ Cert.PoolKernel.sig) → Buf (Elt Bits) ℓ) : Prop :=
  True

def Pre_PoolKernelIdeal (m : (ℓ : Loc Cert.PoolKernelIdeal.nD Cert.PoolKernelIdeal.τ Cert.PoolKernelIdeal.sig) → Buf (Elt Ideal) ℓ) : Prop :=
  True

def Pre_PoolKernelIdeal_pool_finite [hPre_pool_finite : Cert.Pre_pool_finite.Facts] (m : (ℓ : Loc Cert.PoolKernelIdeal.nD Cert.PoolKernelIdeal.τ Cert.PoolKernelIdeal.sig) → Buf (Elt Ideal) ℓ) : Prop :=
  ∀ c : Dev Cert.PoolKernelIdeal.nD,
    (Cert.Pre_pool_finite.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3))).1 = (fun _ => 1#1)
    ∧ (Cert.Pre_pool_finite.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3))).2.1 = (fun _ => 1#1)
    ∧ (Cert.Pre_pool_finite.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3))).2.2.1 = (fun _ => 1#1)
    ∧ (Cert.Pre_pool_finite.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3))).2.2.2 = (fun _ => 1#1)

def Pre_PoolReferenceIdeal (m : (ℓ : Loc Cert.PoolReferenceIdeal.nD Cert.PoolReferenceIdeal.τ Cert.PoolReferenceIdeal.sig) → Buf (Elt Ideal) ℓ) : Prop :=
  True

def Pre_PoolReferenceIdeal_pool_finite [hPre_pool_finite : Cert.Pre_pool_finite.Facts] (m : (ℓ : Loc Cert.PoolReferenceIdeal.nD Cert.PoolReferenceIdeal.τ Cert.PoolReferenceIdeal.sig) → Buf (Elt Ideal) ℓ) : Prop :=
  ∀ c : Dev Cert.PoolReferenceIdeal.nD,
    (Cert.Pre_pool_finite.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3))).1 = (fun _ => 1#1)
    ∧ (Cert.Pre_pool_finite.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3))).2.1 = (fun _ => 1#1)
    ∧ (Cert.Pre_pool_finite.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3))).2.2.1 = (fun _ => 1#1)
    ∧ (Cert.Pre_pool_finite.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3))).2.2.2 = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_loss_finite [hPre_loss_finite : Cert.Pre_loss_finite.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).2.1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).2.2 = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_loss_finite [hPre_loss_finite : Cert.Pre_loss_finite.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))).1 = (fun _ => 1#1)
    ∧ (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))).2.1 = (fun _ => 1#1)
    ∧ (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))).2.2 = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_mix_finite [hPre_mix_finite : Cert.Pre_mix_finite.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4))).1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4))).2.1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4))).2.2.1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4))).2.2.2.1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4))).2.2.2.2 = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_mix_finite [hPre_mix_finite : Cert.Pre_mix_finite.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4))).1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4))).2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4))).2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4))).2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4))).2.2.2.2 = (fun _ => 1#1)

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormKernelIdeal_norm_finite [hPre_norm_finite : Cert.Pre_norm_finite.Facts] (m : (ℓ : Loc Cert.NormKernelIdeal.nD Cert.NormKernelIdeal.τ Cert.NormKernelIdeal.sig) → Buf (Elt Ideal) ℓ) : Prop :=
  ∀ c : Dev Cert.NormKernelIdeal.nD,
    (Cert.Pre_norm_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5)) (m ((c.tc : Thread Cert.NormKernelIdeal.nD Cert.NormKernelIdeal.τ).loc Cert.NormKernelIdeal.main_arg6))).1 = (fun _ => 1#1)
    ∧ (Cert.Pre_norm_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5)) (m ((c.tc : Thread Cert.NormKernelIdeal.nD Cert.NormKernelIdeal.τ).loc Cert.NormKernelIdeal.main_arg6))).2.1 = (fun _ => 1#1)
    ∧ (Cert.Pre_norm_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5)) (m ((c.tc : Thread Cert.NormKernelIdeal.nD Cert.NormKernelIdeal.τ).loc Cert.NormKernelIdeal.main_arg6))).2.2.1 = (fun _ => 1#1)
    ∧ (Cert.Pre_norm_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5)) (m ((c.tc : Thread Cert.NormKernelIdeal.nD Cert.NormKernelIdeal.τ).loc Cert.NormKernelIdeal.main_arg6))).2.2.2.1 = (fun _ => 1#1)
    ∧ (Cert.Pre_norm_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5)) (m ((c.tc : Thread Cert.NormKernelIdeal.nD Cert.NormKernelIdeal.τ).loc Cert.NormKernelIdeal.main_arg6))).2.2.2.2.1 = (fun _ => 1#1)
    ∧ (Cert.Pre_norm_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5)) (m ((c.tc : Thread Cert.NormKernelIdeal.nD Cert.NormKernelIdeal.τ).loc Cert.NormKernelIdeal.main_arg6))).2.2.2.2.2.1 = (fun _ => 1#1)
    ∧ (Cert.Pre_norm_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5)) (m ((c.tc : Thread Cert.NormKernelIdeal.nD Cert.NormKernelIdeal.τ).loc Cert.NormKernelIdeal.main_arg6))).2.2.2.2.2.2 = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_norm_finite [hPre_norm_finite : Cert.Pre_norm_finite.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_norm_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5)) (m ((c.tc : Thread Cert.NormReferenceIdeal.nD Cert.NormReferenceIdeal.τ).loc Cert.NormReferenceIdeal.main_arg6))).1 = (fun _ => 1#1)
    ∧ (Cert.Pre_norm_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5)) (m ((c.tc : Thread Cert.NormReferenceIdeal.nD Cert.NormReferenceIdeal.τ).loc Cert.NormReferenceIdeal.main_arg6))).2.1 = (fun _ => 1#1)
    ∧ (Cert.Pre_norm_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5)) (m ((c.tc : Thread Cert.NormReferenceIdeal.nD Cert.NormReferenceIdeal.τ).loc Cert.NormReferenceIdeal.main_arg6))).2.2.1 = (fun _ => 1#1)
    ∧ (Cert.Pre_norm_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5)) (m ((c.tc : Thread Cert.NormReferenceIdeal.nD Cert.NormReferenceIdeal.τ).loc Cert.NormReferenceIdeal.main_arg6))).2.2.2.1 = (fun _ => 1#1)
    ∧ (Cert.Pre_norm_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5)) (m ((c.tc : Thread Cert.NormReferenceIdeal.nD Cert.NormReferenceIdeal.τ).loc Cert.NormReferenceIdeal.main_arg6))).2.2.2.2.1 = (fun _ => 1#1)
    ∧ (Cert.Pre_norm_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5)) (m ((c.tc : Thread Cert.NormReferenceIdeal.nD Cert.NormReferenceIdeal.τ).loc Cert.NormReferenceIdeal.main_arg6))).2.2.2.2.2.1 = (fun _ => 1#1)
    ∧ (Cert.Pre_norm_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5)) (m ((c.tc : Thread Cert.NormReferenceIdeal.nD Cert.NormReferenceIdeal.τ).loc Cert.NormReferenceIdeal.main_arg6))).2.2.2.2.2.2 = (fun _ => 1#1)

def Pre_RmsKernel (m : (ℓ : Loc Cert.RmsKernel.nD Cert.RmsKernel.τ Cert.RmsKernel.sig) → Buf (Elt Bits) ℓ) : Prop :=
  True

def Pre_RmsKernelIdeal (m : (ℓ : Loc Cert.RmsKernelIdeal.nD Cert.RmsKernelIdeal.τ Cert.RmsKernelIdeal.sig) → Buf (Elt Ideal) ℓ) : Prop :=
  True

def Pre_RmsReferenceIdeal (m : (ℓ : Loc Cert.RmsReferenceIdeal.nD Cert.RmsReferenceIdeal.τ Cert.RmsReferenceIdeal.sig) → Buf (Elt Ideal) ℓ) : Prop :=
  True

def Pre_PlfKernel (m : (ℓ : Loc Cert.PlfKernel.nD Cert.PlfKernel.τ Cert.PlfKernel.sig) → Buf (Elt Bits) ℓ) : Prop :=
  True

def Pre_PlfKernelIdeal (m : (ℓ : Loc Cert.PlfKernelIdeal.nD Cert.PlfKernelIdeal.τ Cert.PlfKernelIdeal.sig) → Buf (Elt Ideal) ℓ) : Prop :=
  True

def Pre_PlfKernelIdeal_plf_finite [hPre_plf_finite : Cert.Pre_plf_finite.Facts] (m : (ℓ : Loc Cert.PlfKernelIdeal.nD Cert.PlfKernelIdeal.τ Cert.PlfKernelIdeal.sig) → Buf (Elt Ideal) ℓ) : Prop :=
  ∀ c : Dev Cert.PlfKernelIdeal.nD,
    (Cert.Pre_plf_finite.fn (F := Ideal) (m ((c.tc : Thread Cert.PlfKernelIdeal.nD Cert.PlfKernelIdeal.τ).loc Cert.PlfKernelIdeal.main_arg0)) (m ((c.tc : Thread Cert.PlfKernelIdeal.nD Cert.PlfKernelIdeal.τ).loc Cert.PlfKernelIdeal.main_arg1)) (m ((c.tc : Thread Cert.PlfKernelIdeal.nD Cert.PlfKernelIdeal.τ).loc Cert.PlfKernelIdeal.main_arg2))) = (fun _ => 1#1)

def Pre_PlfReferenceIdeal (m : (ℓ : Loc Cert.PlfReferenceIdeal.nD Cert.PlfReferenceIdeal.τ Cert.PlfReferenceIdeal.sig) → Buf (Elt Ideal) ℓ) : Prop :=
  True

def Pre_PlfReferenceIdeal_plf_finite [hPre_plf_finite : Cert.Pre_plf_finite.Facts] (m : (ℓ : Loc Cert.PlfReferenceIdeal.nD Cert.PlfReferenceIdeal.τ Cert.PlfReferenceIdeal.sig) → Buf (Elt Ideal) ℓ) : Prop :=
  ∀ c : Dev Cert.PlfReferenceIdeal.nD,
    (Cert.Pre_plf_finite.fn (F := Ideal) (m ((c.tc : Thread Cert.PlfReferenceIdeal.nD Cert.PlfReferenceIdeal.τ).loc Cert.PlfReferenceIdeal.main_arg0)) (m ((c.tc : Thread Cert.PlfReferenceIdeal.nD Cert.PlfReferenceIdeal.τ).loc Cert.PlfReferenceIdeal.main_arg1)) (m ((c.tc : Thread Cert.PlfReferenceIdeal.nD Cert.PlfReferenceIdeal.τ).loc Cert.PlfReferenceIdeal.main_arg2))) = (fun _ => 1#1)

def Pre_InpKernel (m : (ℓ : Loc Cert.InpKernel.nD Cert.InpKernel.τ Cert.InpKernel.sig) → Buf (Elt Bits) ℓ) : Prop :=
  True

def Pre_InpKernelIdeal (m : (ℓ : Loc Cert.InpKernelIdeal.nD Cert.InpKernelIdeal.τ Cert.InpKernelIdeal.sig) → Buf (Elt Ideal) ℓ) : Prop :=
  True

def Pre_InpReferenceIdeal (m : (ℓ : Loc Cert.InpReferenceIdeal.nD Cert.InpReferenceIdeal.τ Cert.InpReferenceIdeal.sig) → Buf (Elt Ideal) ℓ) : Prop :=
  True

def Pre_MobKernel (m : (ℓ : Loc Cert.MobKernel.nD Cert.MobKernel.τ Cert.MobKernel.sig) → Buf (Elt Bits) ℓ) : Prop :=
  True

def Pre_MobKernelIdeal (m : (ℓ : Loc Cert.MobKernelIdeal.nD Cert.MobKernelIdeal.τ Cert.MobKernelIdeal.sig) → Buf (Elt Ideal) ℓ) : Prop :=
  True

def Pre_MobReferenceIdeal (m : (ℓ : Loc Cert.MobReferenceIdeal.nD Cert.MobReferenceIdeal.τ Cert.MobReferenceIdeal.sig) → Buf (Elt Ideal) ℓ) : Prop :=
  True

def Pre_WgrKernel (m : (ℓ : Loc Cert.WgrKernel.nD Cert.WgrKernel.τ Cert.WgrKernel.sig) → Buf (Elt Bits) ℓ) : Prop :=
  True

def Pre_WgrKernelIdeal (m : (ℓ : Loc Cert.WgrKernelIdeal.nD Cert.WgrKernelIdeal.τ Cert.WgrKernelIdeal.sig) → Buf (Elt Ideal) ℓ) : Prop :=
  True

def Pre_WgrReferenceIdeal (m : (ℓ : Loc Cert.WgrReferenceIdeal.nD Cert.WgrReferenceIdeal.τ Cert.WgrReferenceIdeal.sig) → Buf (Elt Ideal) ℓ) : Prop :=
  True

def Pre_ResKernel (m : (ℓ : Loc Cert.ResKernel.nD Cert.ResKernel.τ Cert.ResKernel.sig) → Buf (Elt Bits) ℓ) : Prop :=
  True

def Pre_ResKernelIdeal (m : (ℓ : Loc Cert.ResKernelIdeal.nD Cert.ResKernelIdeal.τ Cert.ResKernelIdeal.sig) → Buf (Elt Ideal) ℓ) : Prop :=
  True

def Pre_ResReferenceIdeal (m : (ℓ : Loc Cert.ResReferenceIdeal.nD Cert.ResReferenceIdeal.τ Cert.ResReferenceIdeal.sig) → Buf (Elt Ideal) ℓ) : Prop :=
  True

def Pre_AdwKernel (m : (ℓ : Loc Cert.AdwKernel.nD Cert.AdwKernel.τ Cert.AdwKernel.sig) → Buf (Elt Bits) ℓ) : Prop :=
  True

def Pre_AdwKernelIdeal (m : (ℓ : Loc Cert.AdwKernelIdeal.nD Cert.AdwKernelIdeal.τ Cert.AdwKernelIdeal.sig) → Buf (Elt Ideal) ℓ) : Prop :=
  True

def Pre_AdwReferenceIdeal (m : (ℓ : Loc Cert.AdwReferenceIdeal.nD Cert.AdwReferenceIdeal.τ Cert.AdwReferenceIdeal.sig) → Buf (Elt Ideal) ℓ) : Prop :=
  True

def Pre_ChsKernel (m : (ℓ : Loc Cert.ChsKernel.nD Cert.ChsKernel.τ Cert.ChsKernel.sig) → Buf (Elt Bits) ℓ) : Prop :=
  True

def Pre_ChsKernelIdeal (m : (ℓ : Loc Cert.ChsKernelIdeal.nD Cert.ChsKernelIdeal.τ Cert.ChsKernelIdeal.sig) → Buf (Elt Ideal) ℓ) : Prop :=
  True

def Pre_ChsReferenceIdeal (m : (ℓ : Loc Cert.ChsReferenceIdeal.nD Cert.ChsReferenceIdeal.τ Cert.ChsReferenceIdeal.sig) → Buf (Elt Ideal) ℓ) : Prop :=
  True

def Pre_OwnKernel (m : (ℓ : Loc Cert.OwnKernel.nD Cert.OwnKernel.τ Cert.OwnKernel.sig) → Buf (Elt Bits) ℓ) : Prop :=
  True

def Pre_OwnKernelIdeal (m : (ℓ : Loc Cert.OwnKernelIdeal.nD Cert.OwnKernelIdeal.τ Cert.OwnKernelIdeal.sig) → Buf (Elt Ideal) ℓ) : Prop :=
  True

def Pre_OwnReferenceIdeal (m : (ℓ : Loc Cert.OwnReferenceIdeal.nD Cert.OwnReferenceIdeal.τ Cert.OwnReferenceIdeal.sig) → Buf (Elt Ideal) ℓ) : Prop :=
  True

def Pre_TotKernel (m : (ℓ : Loc Cert.TotKernel.nD Cert.TotKernel.τ Cert.TotKernel.sig) → Buf (Elt Bits) ℓ) : Prop :=
  True

def Pre_TotKernelIdeal (m : (ℓ : Loc Cert.TotKernelIdeal.nD Cert.TotKernelIdeal.τ Cert.TotKernelIdeal.sig) → Buf (Elt Ideal) ℓ) : Prop :=
  True

def Pre_TotReferenceIdeal (m : (ℓ : Loc Cert.TotReferenceIdeal.nD Cert.TotReferenceIdeal.τ Cert.TotReferenceIdeal.sig) → Buf (Elt Ideal) ℓ) : Prop :=
  True

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1))
      ∧ r.2.sem = fun _ => 0)

def quiescent_AttnKernelIdeal_pre_attn_finite [hAttnKernelIdeal : Cert.AttnKernelIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1))
      ∧ r.2.sem = fun _ => 0)

def quiescent_PoolKernel [hPoolKernel : Cert.PoolKernel.Facts] : Prop :=
  ∀ (m : (ℓ : Loc Cert.PoolKernel.nD Cert.PoolKernel.τ Cert.PoolKernel.sig) → Buf (Elt Bits) ℓ) (g : Dev Cert.PoolKernel.nD → PrngReg), Pre_PoolKernel m →
    θ_run (Cert.PoolKernel.defs (F := Bits)) (onTc (τ := Cert.PoolKernel.τ) (Cert.PoolKernel.main (F := Bits))) ⟨m, fun _ => 0, g⟩ (fun r => (∀ c : Dev Cert.PoolKernel.nD,
      r.2.mem ((c.tc : Thread Cert.PoolKernel.nD Cert.PoolKernel.τ).loc Cert.PoolKernel.main_arg0) = m ((c.tc : Thread Cert.PoolKernel.nD Cert.PoolKernel.τ).loc Cert.PoolKernel.main_arg0)
      ∧ r.2.mem ((c.tc : Thread Cert.PoolKernel.nD Cert.PoolKernel.τ).loc Cert.PoolKernel.main_arg1) = m ((c.tc : Thread Cert.PoolKernel.nD Cert.PoolKernel.τ).loc Cert.PoolKernel.main_arg1)
      ∧ r.2.mem ((c.tc : Thread Cert.PoolKernel.nD Cert.PoolKernel.τ).loc Cert.PoolKernel.main_arg2) = m ((c.tc : Thread Cert.PoolKernel.nD Cert.PoolKernel.τ).loc Cert.PoolKernel.main_arg2)
      ∧ r.2.mem ((c.tc : Thread Cert.PoolKernel.nD Cert.PoolKernel.τ).loc Cert.PoolKernel.main_arg3) = m ((c.tc : Thread Cert.PoolKernel.nD Cert.PoolKernel.τ).loc Cert.PoolKernel.main_arg3))
      ∧ r.2.sem = fun _ => 0)

def quiescent_PoolKernelIdeal [hPoolKernelIdeal : Cert.PoolKernelIdeal.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
      ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ r.2.sem = fun _ => 0)

def quiescent_PoolKernelIdeal_pre_pool_finite [hPoolKernelIdeal : Cert.PoolKernelIdeal.Facts] [hPre_pool_finite : Cert.Pre_pool_finite.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal_pool_finite m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
      ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3))
      ∧ r.2.sem = fun _ => 0)

def quiescent_PoolReferenceIdeal_pre_pool_finite [hPoolReferenceIdeal : Cert.PoolReferenceIdeal.Facts] [hPre_pool_finite : Cert.Pre_pool_finite.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal_pool_finite m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossKernelIdeal_pre_loss_finite [hLossKernelIdeal : Cert.LossKernelIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_loss_finite m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_LossReferenceIdeal_pre_loss_finite [hLossReferenceIdeal : Cert.LossReferenceIdeal.Facts] [hPre_loss_finite : Cert.Pre_loss_finite.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_loss_finite m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ r.2.sem = fun _ => 0)

def quiescent_MixKernelIdeal_pre_mix_finite [hMixKernelIdeal : Cert.MixKernelIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_mix_finite m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_MixReferenceIdeal_pre_mix_finite [hMixReferenceIdeal : Cert.MixReferenceIdeal.Facts] [hPre_mix_finite : Cert.Pre_mix_finite.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_mix_finite m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3)
      ∧ r.2.mem ((c.tc : Thread Cert.NormKernel.nD Cert.NormKernel.τ).loc Cert.NormKernel.main_arg4) = m ((c.tc : Thread Cert.NormKernel.nD Cert.NormKernel.τ).loc Cert.NormKernel.main_arg4)
      ∧ r.2.mem ((c.tc : Thread Cert.NormKernel.nD Cert.NormKernel.τ).loc Cert.NormKernel.main_arg5) = m ((c.tc : Thread Cert.NormKernel.nD Cert.NormKernel.τ).loc Cert.NormKernel.main_arg5)
      ∧ r.2.mem ((c.tc : Thread Cert.NormKernel.nD Cert.NormKernel.τ).loc Cert.NormKernel.main_arg6) = m ((c.tc : Thread Cert.NormKernel.nD Cert.NormKernel.τ).loc Cert.NormKernel.main_arg6))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
      ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5)
      ∧ r.2.mem ((c.tc : Thread Cert.NormKernelIdeal.nD Cert.NormKernelIdeal.τ).loc Cert.NormKernelIdeal.main_arg6) = m ((c.tc : Thread Cert.NormKernelIdeal.nD Cert.NormKernelIdeal.τ).loc Cert.NormKernelIdeal.main_arg6))
      ∧ r.2.sem = fun _ => 0)

def quiescent_NormKernelIdeal_pre_norm_finite [hNormKernelIdeal : Cert.NormKernelIdeal.Facts] [hPre_norm_finite : Cert.Pre_norm_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal_norm_finite m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
      ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5)
      ∧ r.2.mem ((c.tc : Thread Cert.NormKernelIdeal.nD Cert.NormKernelIdeal.τ).loc Cert.NormKernelIdeal.main_arg6) = m ((c.tc : Thread Cert.NormKernelIdeal.nD Cert.NormKernelIdeal.τ).loc Cert.NormKernelIdeal.main_arg6))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5)
      ∧ r.2.mem ((c.tc : Thread Cert.NormReferenceIdeal.nD Cert.NormReferenceIdeal.τ).loc Cert.NormReferenceIdeal.main_arg6) = m ((c.tc : Thread Cert.NormReferenceIdeal.nD Cert.NormReferenceIdeal.τ).loc Cert.NormReferenceIdeal.main_arg6))
      ∧ r.2.sem = fun _ => 0)

def quiescent_NormReferenceIdeal_pre_norm_finite [hNormReferenceIdeal : Cert.NormReferenceIdeal.Facts] [hPre_norm_finite : Cert.Pre_norm_finite.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_norm_finite m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5)
      ∧ r.2.mem ((c.tc : Thread Cert.NormReferenceIdeal.nD Cert.NormReferenceIdeal.τ).loc Cert.NormReferenceIdeal.main_arg6) = m ((c.tc : Thread Cert.NormReferenceIdeal.nD Cert.NormReferenceIdeal.τ).loc Cert.NormReferenceIdeal.main_arg6))
      ∧ r.2.sem = fun _ => 0)

def quiescent_RmsKernel [hRmsKernel : Cert.RmsKernel.Facts] : Prop :=
  ∀ (m : (ℓ : Loc Cert.RmsKernel.nD Cert.RmsKernel.τ Cert.RmsKernel.sig) → Buf (Elt Bits) ℓ) (g : Dev Cert.RmsKernel.nD → PrngReg), Pre_RmsKernel m →
    θ_run (Cert.RmsKernel.defs (F := Bits)) (onTc (τ := Cert.RmsKernel.τ) (Cert.RmsKernel.main (F := Bits))) ⟨m, fun _ => 0, g⟩ (fun r => (∀ c : Dev Cert.RmsKernel.nD,
      r.2.mem ((c.tc : Thread Cert.RmsKernel.nD Cert.RmsKernel.τ).loc Cert.RmsKernel.main_arg0) = m ((c.tc : Thread Cert.RmsKernel.nD Cert.RmsKernel.τ).loc Cert.RmsKernel.main_arg0)
      ∧ r.2.mem ((c.tc : Thread Cert.RmsKernel.nD Cert.RmsKernel.τ).loc Cert.RmsKernel.main_arg1) = m ((c.tc : Thread Cert.RmsKernel.nD Cert.RmsKernel.τ).loc Cert.RmsKernel.main_arg1))
      ∧ r.2.sem = fun _ => 0)

def quiescent_RmsKernelIdeal [hRmsKernelIdeal : Cert.RmsKernelIdeal.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg), Pre_RmsKernelIdeal m →
    θ_run (Cert.RmsKernelIdeal.defs (F := Ideal)) (onTc (τ := Cert.RmsKernelIdeal.τ) (Cert.RmsKernelIdeal.main (F := Ideal))) ⟨m, fun _ => 0, g⟩ (fun r => (∀ c : Dev Cert.RmsKernelIdeal.nD,
      r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
      ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1))
      ∧ r.2.sem = fun _ => 0)

def quiescent_RmsReferenceIdeal [hRmsReferenceIdeal : Cert.RmsReferenceIdeal.Facts] : Prop :=
  ∀ (m : (ℓ : Loc Cert.RmsReferenceIdeal.nD Cert.RmsReferenceIdeal.τ Cert.RmsReferenceIdeal.sig) → Buf (Elt Ideal) ℓ) (g : Dev Cert.RmsReferenceIdeal.nD → PrngReg), Pre_RmsReferenceIdeal m →
    θ_run (Cert.RmsReferenceIdeal.defs (F := Ideal)) (onTc (τ := Cert.RmsReferenceIdeal.τ) (Cert.RmsReferenceIdeal.main (F := Ideal))) ⟨m, fun _ => 0, g⟩ (fun r => (∀ c : Dev Cert.RmsReferenceIdeal.nD,
      r.2.mem ((c.tc : Thread Cert.RmsReferenceIdeal.nD Cert.RmsReferenceIdeal.τ).loc Cert.RmsReferenceIdeal.main_arg0) = m ((c.tc : Thread Cert.RmsReferenceIdeal.nD Cert.RmsReferenceIdeal.τ).loc Cert.RmsReferenceIdeal.main_arg0)
      ∧ r.2.mem ((c.tc : Thread Cert.RmsReferenceIdeal.nD Cert.RmsReferenceIdeal.τ).loc Cert.RmsReferenceIdeal.main_arg1) = m ((c.tc : Thread Cert.RmsReferenceIdeal.nD Cert.RmsReferenceIdeal.τ).loc Cert.RmsReferenceIdeal.main_arg1))
      ∧ r.2.sem = fun _ => 0)

def quiescent_PlfKernel [hPlfKernel : Cert.PlfKernel.Facts] : Prop :=
  ∀ (m : (ℓ : Loc Cert.PlfKernel.nD Cert.PlfKernel.τ Cert.PlfKernel.sig) → Buf (Elt Bits) ℓ) (g : Dev Cert.PlfKernel.nD → PrngReg), Pre_PlfKernel m →
    θ_run (Cert.PlfKernel.defs (F := Bits)) (onTc (τ := Cert.PlfKernel.τ) (Cert.PlfKernel.main (F := Bits))) ⟨m, fun _ => 0, g⟩ (fun r => (∀ c : Dev Cert.PlfKernel.nD,
      r.2.mem ((c.tc : Thread Cert.PlfKernel.nD Cert.PlfKernel.τ).loc Cert.PlfKernel.main_arg0) = m ((c.tc : Thread Cert.PlfKernel.nD Cert.PlfKernel.τ).loc Cert.PlfKernel.main_arg0)
      ∧ r.2.mem ((c.tc : Thread Cert.PlfKernel.nD Cert.PlfKernel.τ).loc Cert.PlfKernel.main_arg1) = m ((c.tc : Thread Cert.PlfKernel.nD Cert.PlfKernel.τ).loc Cert.PlfKernel.main_arg1)
      ∧ r.2.mem ((c.tc : Thread Cert.PlfKernel.nD Cert.PlfKernel.τ).loc Cert.PlfKernel.main_arg2) = m ((c.tc : Thread Cert.PlfKernel.nD Cert.PlfKernel.τ).loc Cert.PlfKernel.main_arg2))
      ∧ r.2.sem = fun _ => 0)

def quiescent_PlfKernelIdeal [hPlfKernelIdeal : Cert.PlfKernelIdeal.Facts] : Prop :=
  ∀ (m : (ℓ : Loc Cert.PlfKernelIdeal.nD Cert.PlfKernelIdeal.τ Cert.PlfKernelIdeal.sig) → Buf (Elt Ideal) ℓ) (g : Dev Cert.PlfKernelIdeal.nD → PrngReg), Pre_PlfKernelIdeal m →
    θ_run (Cert.PlfKernelIdeal.defs (F := Ideal)) (onTc (τ := Cert.PlfKernelIdeal.τ) (Cert.PlfKernelIdeal.main (F := Ideal))) ⟨m, fun _ => 0, g⟩ (fun r => (∀ c : Dev Cert.PlfKernelIdeal.nD,
      r.2.mem ((c.tc : Thread Cert.PlfKernelIdeal.nD Cert.PlfKernelIdeal.τ).loc Cert.PlfKernelIdeal.main_arg0) = m ((c.tc : Thread Cert.PlfKernelIdeal.nD Cert.PlfKernelIdeal.τ).loc Cert.PlfKernelIdeal.main_arg0)
      ∧ r.2.mem ((c.tc : Thread Cert.PlfKernelIdeal.nD Cert.PlfKernelIdeal.τ).loc Cert.PlfKernelIdeal.main_arg1) = m ((c.tc : Thread Cert.PlfKernelIdeal.nD Cert.PlfKernelIdeal.τ).loc Cert.PlfKernelIdeal.main_arg1)
      ∧ r.2.mem ((c.tc : Thread Cert.PlfKernelIdeal.nD Cert.PlfKernelIdeal.τ).loc Cert.PlfKernelIdeal.main_arg2) = m ((c.tc : Thread Cert.PlfKernelIdeal.nD Cert.PlfKernelIdeal.τ).loc Cert.PlfKernelIdeal.main_arg2))
      ∧ r.2.sem = fun _ => 0)

def quiescent_PlfKernelIdeal_pre_plf_finite [hPlfKernelIdeal : Cert.PlfKernelIdeal.Facts] [hPre_plf_finite : Cert.Pre_plf_finite.Facts] : Prop :=
  ∀ (m : (ℓ : Loc Cert.PlfKernelIdeal.nD Cert.PlfKernelIdeal.τ Cert.PlfKernelIdeal.sig) → Buf (Elt Ideal) ℓ) (g : Dev Cert.PlfKernelIdeal.nD → PrngReg), Pre_PlfKernelIdeal_plf_finite m →
    θ_run (Cert.PlfKernelIdeal.defs (F := Ideal)) (onTc (τ := Cert.PlfKernelIdeal.τ) (Cert.PlfKernelIdeal.main (F := Ideal))) ⟨m, fun _ => 0, g⟩ (fun r => (∀ c : Dev Cert.PlfKernelIdeal.nD,
      r.2.mem ((c.tc : Thread Cert.PlfKernelIdeal.nD Cert.PlfKernelIdeal.τ).loc Cert.PlfKernelIdeal.main_arg0) = m ((c.tc : Thread Cert.PlfKernelIdeal.nD Cert.PlfKernelIdeal.τ).loc Cert.PlfKernelIdeal.main_arg0)
      ∧ r.2.mem ((c.tc : Thread Cert.PlfKernelIdeal.nD Cert.PlfKernelIdeal.τ).loc Cert.PlfKernelIdeal.main_arg1) = m ((c.tc : Thread Cert.PlfKernelIdeal.nD Cert.PlfKernelIdeal.τ).loc Cert.PlfKernelIdeal.main_arg1)
      ∧ r.2.mem ((c.tc : Thread Cert.PlfKernelIdeal.nD Cert.PlfKernelIdeal.τ).loc Cert.PlfKernelIdeal.main_arg2) = m ((c.tc : Thread Cert.PlfKernelIdeal.nD Cert.PlfKernelIdeal.τ).loc Cert.PlfKernelIdeal.main_arg2))
      ∧ r.2.sem = fun _ => 0)

def quiescent_PlfReferenceIdeal [hPlfReferenceIdeal : Cert.PlfReferenceIdeal.Facts] : Prop :=
  ∀ (m : (ℓ : Loc Cert.PlfReferenceIdeal.nD Cert.PlfReferenceIdeal.τ Cert.PlfReferenceIdeal.sig) → Buf (Elt Ideal) ℓ) (g : Dev Cert.PlfReferenceIdeal.nD → PrngReg), Pre_PlfReferenceIdeal m →
    θ_run (Cert.PlfReferenceIdeal.defs (F := Ideal)) (onTc (τ := Cert.PlfReferenceIdeal.τ) (Cert.PlfReferenceIdeal.main (F := Ideal))) ⟨m, fun _ => 0, g⟩ (fun r => (∀ c : Dev Cert.PlfReferenceIdeal.nD,
      r.2.mem ((c.tc : Thread Cert.PlfReferenceIdeal.nD Cert.PlfReferenceIdeal.τ).loc Cert.PlfReferenceIdeal.main_arg0) = m ((c.tc : Thread Cert.PlfReferenceIdeal.nD Cert.PlfReferenceIdeal.τ).loc Cert.PlfReferenceIdeal.main_arg0)
      ∧ r.2.mem ((c.tc : Thread Cert.PlfReferenceIdeal.nD Cert.PlfReferenceIdeal.τ).loc Cert.PlfReferenceIdeal.main_arg1) = m ((c.tc : Thread Cert.PlfReferenceIdeal.nD Cert.PlfReferenceIdeal.τ).loc Cert.PlfReferenceIdeal.main_arg1)
      ∧ r.2.mem ((c.tc : Thread Cert.PlfReferenceIdeal.nD Cert.PlfReferenceIdeal.τ).loc Cert.PlfReferenceIdeal.main_arg2) = m ((c.tc : Thread Cert.PlfReferenceIdeal.nD Cert.PlfReferenceIdeal.τ).loc Cert.PlfReferenceIdeal.main_arg2))
      ∧ r.2.sem = fun _ => 0)

def quiescent_PlfReferenceIdeal_pre_plf_finite [hPlfReferenceIdeal : Cert.PlfReferenceIdeal.Facts] [hPre_plf_finite : Cert.Pre_plf_finite.Facts] : Prop :=
  ∀ (m : (ℓ : Loc Cert.PlfReferenceIdeal.nD Cert.PlfReferenceIdeal.τ Cert.PlfReferenceIdeal.sig) → Buf (Elt Ideal) ℓ) (g : Dev Cert.PlfReferenceIdeal.nD → PrngReg), Pre_PlfReferenceIdeal_plf_finite m →
    θ_run (Cert.PlfReferenceIdeal.defs (F := Ideal)) (onTc (τ := Cert.PlfReferenceIdeal.τ) (Cert.PlfReferenceIdeal.main (F := Ideal))) ⟨m, fun _ => 0, g⟩ (fun r => (∀ c : Dev Cert.PlfReferenceIdeal.nD,
      r.2.mem ((c.tc : Thread Cert.PlfReferenceIdeal.nD Cert.PlfReferenceIdeal.τ).loc Cert.PlfReferenceIdeal.main_arg0) = m ((c.tc : Thread Cert.PlfReferenceIdeal.nD Cert.PlfReferenceIdeal.τ).loc Cert.PlfReferenceIdeal.main_arg0)
      ∧ r.2.mem ((c.tc : Thread Cert.PlfReferenceIdeal.nD Cert.PlfReferenceIdeal.τ).loc Cert.PlfReferenceIdeal.main_arg1) = m ((c.tc : Thread Cert.PlfReferenceIdeal.nD Cert.PlfReferenceIdeal.τ).loc Cert.PlfReferenceIdeal.main_arg1)
      ∧ r.2.mem ((c.tc : Thread Cert.PlfReferenceIdeal.nD Cert.PlfReferenceIdeal.τ).loc Cert.PlfReferenceIdeal.main_arg2) = m ((c.tc : Thread Cert.PlfReferenceIdeal.nD Cert.PlfReferenceIdeal.τ).loc Cert.PlfReferenceIdeal.main_arg2))
      ∧ r.2.sem = fun _ => 0)

def quiescent_InpKernel [hInpKernel : Cert.InpKernel.Facts] : Prop :=
  ∀ (m : (ℓ : Loc Cert.InpKernel.nD Cert.InpKernel.τ Cert.InpKernel.sig) → Buf (Elt Bits) ℓ) (g : Dev Cert.InpKernel.nD → PrngReg), Pre_InpKernel m →
    θ_run (Cert.InpKernel.defs (F := Bits)) (onTc (τ := Cert.InpKernel.τ) (Cert.InpKernel.main (F := Bits))) ⟨m, fun _ => 0, g⟩ (fun r => (∀ c : Dev Cert.InpKernel.nD,
      r.2.mem ((c.tc : Thread Cert.InpKernel.nD Cert.InpKernel.τ).loc Cert.InpKernel.main_arg0) = m ((c.tc : Thread Cert.InpKernel.nD Cert.InpKernel.τ).loc Cert.InpKernel.main_arg0)
      ∧ r.2.mem ((c.tc : Thread Cert.InpKernel.nD Cert.InpKernel.τ).loc Cert.InpKernel.main_arg1) = m ((c.tc : Thread Cert.InpKernel.nD Cert.InpKernel.τ).loc Cert.InpKernel.main_arg1))
      ∧ r.2.sem = fun _ => 0)

def quiescent_InpKernelIdeal [hInpKernelIdeal : Cert.InpKernelIdeal.Facts] : Prop :=
  ∀ (m : (ℓ : Loc Cert.InpKernelIdeal.nD Cert.InpKernelIdeal.τ Cert.InpKernelIdeal.sig) → Buf (Elt Ideal) ℓ) (g : Dev Cert.InpKernelIdeal.nD → PrngReg), Pre_InpKernelIdeal m →
    θ_run (Cert.InpKernelIdeal.defs (F := Ideal)) (onTc (τ := Cert.InpKernelIdeal.τ) (Cert.InpKernelIdeal.main (F := Ideal))) ⟨m, fun _ => 0, g⟩ (fun r => (∀ c : Dev Cert.InpKernelIdeal.nD,
      r.2.mem ((c.tc : Thread Cert.InpKernelIdeal.nD Cert.InpKernelIdeal.τ).loc Cert.InpKernelIdeal.main_arg0) = m ((c.tc : Thread Cert.InpKernelIdeal.nD Cert.InpKernelIdeal.τ).loc Cert.InpKernelIdeal.main_arg0)
      ∧ r.2.mem ((c.tc : Thread Cert.InpKernelIdeal.nD Cert.InpKernelIdeal.τ).loc Cert.InpKernelIdeal.main_arg1) = m ((c.tc : Thread Cert.InpKernelIdeal.nD Cert.InpKernelIdeal.τ).loc Cert.InpKernelIdeal.main_arg1))
      ∧ r.2.sem = fun _ => 0)

def quiescent_InpReferenceIdeal [hInpReferenceIdeal : Cert.InpReferenceIdeal.Facts] : Prop :=
  ∀ (m : (ℓ : Loc Cert.InpReferenceIdeal.nD Cert.InpReferenceIdeal.τ Cert.InpReferenceIdeal.sig) → Buf (Elt Ideal) ℓ) (g : Dev Cert.InpReferenceIdeal.nD → PrngReg), Pre_InpReferenceIdeal m →
    θ_run (Cert.InpReferenceIdeal.defs (F := Ideal)) (onTc (τ := Cert.InpReferenceIdeal.τ) (Cert.InpReferenceIdeal.main (F := Ideal))) ⟨m, fun _ => 0, g⟩ (fun r => (∀ c : Dev Cert.InpReferenceIdeal.nD,
      r.2.mem ((c.tc : Thread Cert.InpReferenceIdeal.nD Cert.InpReferenceIdeal.τ).loc Cert.InpReferenceIdeal.main_arg0) = m ((c.tc : Thread Cert.InpReferenceIdeal.nD Cert.InpReferenceIdeal.τ).loc Cert.InpReferenceIdeal.main_arg0)
      ∧ r.2.mem ((c.tc : Thread Cert.InpReferenceIdeal.nD Cert.InpReferenceIdeal.τ).loc Cert.InpReferenceIdeal.main_arg1) = m ((c.tc : Thread Cert.InpReferenceIdeal.nD Cert.InpReferenceIdeal.τ).loc Cert.InpReferenceIdeal.main_arg1))
      ∧ r.2.sem = fun _ => 0)

def quiescent_MobKernel [hMobKernel : Cert.MobKernel.Facts] : Prop :=
  ∀ (m : (ℓ : Loc Cert.MobKernel.nD Cert.MobKernel.τ Cert.MobKernel.sig) → Buf (Elt Bits) ℓ) (g : Dev Cert.MobKernel.nD → PrngReg), Pre_MobKernel m →
    θ_run (Cert.MobKernel.defs (F := Bits)) (onTc (τ := Cert.MobKernel.τ) (Cert.MobKernel.main (F := Bits))) ⟨m, fun _ => 0, g⟩ (fun r => (∀ c : Dev Cert.MobKernel.nD,
      r.2.mem ((c.tc : Thread Cert.MobKernel.nD Cert.MobKernel.τ).loc Cert.MobKernel.main_arg0) = m ((c.tc : Thread Cert.MobKernel.nD Cert.MobKernel.τ).loc Cert.MobKernel.main_arg0)
      ∧ r.2.mem ((c.tc : Thread Cert.MobKernel.nD Cert.MobKernel.τ).loc Cert.MobKernel.main_arg1) = m ((c.tc : Thread Cert.MobKernel.nD Cert.MobKernel.τ).loc Cert.MobKernel.main_arg1))
      ∧ r.2.sem = fun _ => 0)

def quiescent_MobKernelIdeal [hMobKernelIdeal : Cert.MobKernelIdeal.Facts] : Prop :=
  ∀ (m : (ℓ : Loc Cert.MobKernelIdeal.nD Cert.MobKernelIdeal.τ Cert.MobKernelIdeal.sig) → Buf (Elt Ideal) ℓ) (g : Dev Cert.MobKernelIdeal.nD → PrngReg), Pre_MobKernelIdeal m →
    θ_run (Cert.MobKernelIdeal.defs (F := Ideal)) (onTc (τ := Cert.MobKernelIdeal.τ) (Cert.MobKernelIdeal.main (F := Ideal))) ⟨m, fun _ => 0, g⟩ (fun r => (∀ c : Dev Cert.MobKernelIdeal.nD,
      r.2.mem ((c.tc : Thread Cert.MobKernelIdeal.nD Cert.MobKernelIdeal.τ).loc Cert.MobKernelIdeal.main_arg0) = m ((c.tc : Thread Cert.MobKernelIdeal.nD Cert.MobKernelIdeal.τ).loc Cert.MobKernelIdeal.main_arg0)
      ∧ r.2.mem ((c.tc : Thread Cert.MobKernelIdeal.nD Cert.MobKernelIdeal.τ).loc Cert.MobKernelIdeal.main_arg1) = m ((c.tc : Thread Cert.MobKernelIdeal.nD Cert.MobKernelIdeal.τ).loc Cert.MobKernelIdeal.main_arg1))
      ∧ r.2.sem = fun _ => 0)

def quiescent_MobReferenceIdeal [hMobReferenceIdeal : Cert.MobReferenceIdeal.Facts] : Prop :=
  ∀ (m : (ℓ : Loc Cert.MobReferenceIdeal.nD Cert.MobReferenceIdeal.τ Cert.MobReferenceIdeal.sig) → Buf (Elt Ideal) ℓ) (g : Dev Cert.MobReferenceIdeal.nD → PrngReg), Pre_MobReferenceIdeal m →
    θ_run (Cert.MobReferenceIdeal.defs (F := Ideal)) (onTc (τ := Cert.MobReferenceIdeal.τ) (Cert.MobReferenceIdeal.main (F := Ideal))) ⟨m, fun _ => 0, g⟩ (fun r => (∀ c : Dev Cert.MobReferenceIdeal.nD,
      r.2.mem ((c.tc : Thread Cert.MobReferenceIdeal.nD Cert.MobReferenceIdeal.τ).loc Cert.MobReferenceIdeal.main_arg0) = m ((c.tc : Thread Cert.MobReferenceIdeal.nD Cert.MobReferenceIdeal.τ).loc Cert.MobReferenceIdeal.main_arg0)
      ∧ r.2.mem ((c.tc : Thread Cert.MobReferenceIdeal.nD Cert.MobReferenceIdeal.τ).loc Cert.MobReferenceIdeal.main_arg1) = m ((c.tc : Thread Cert.MobReferenceIdeal.nD Cert.MobReferenceIdeal.τ).loc Cert.MobReferenceIdeal.main_arg1))
      ∧ r.2.sem = fun _ => 0)

def quiescent_WgrKernel [hWgrKernel : Cert.WgrKernel.Facts] : Prop :=
  ∀ (m : (ℓ : Loc Cert.WgrKernel.nD Cert.WgrKernel.τ Cert.WgrKernel.sig) → Buf (Elt Bits) ℓ) (g : Dev Cert.WgrKernel.nD → PrngReg), Pre_WgrKernel m →
    θ_run (Cert.WgrKernel.defs (F := Bits)) (onTc (τ := Cert.WgrKernel.τ) (Cert.WgrKernel.main (F := Bits))) ⟨m, fun _ => 0, g⟩ (fun r => (∀ c : Dev Cert.WgrKernel.nD,
      r.2.mem ((c.tc : Thread Cert.WgrKernel.nD Cert.WgrKernel.τ).loc Cert.WgrKernel.main_arg0) = m ((c.tc : Thread Cert.WgrKernel.nD Cert.WgrKernel.τ).loc Cert.WgrKernel.main_arg0)
      ∧ r.2.mem ((c.tc : Thread Cert.WgrKernel.nD Cert.WgrKernel.τ).loc Cert.WgrKernel.main_arg1) = m ((c.tc : Thread Cert.WgrKernel.nD Cert.WgrKernel.τ).loc Cert.WgrKernel.main_arg1))
      ∧ r.2.sem = fun _ => 0)

def quiescent_WgrKernelIdeal [hWgrKernelIdeal : Cert.WgrKernelIdeal.Facts] : Prop :=
  ∀ (m : (ℓ : Loc Cert.WgrKernelIdeal.nD Cert.WgrKernelIdeal.τ Cert.WgrKernelIdeal.sig) → Buf (Elt Ideal) ℓ) (g : Dev Cert.WgrKernelIdeal.nD → PrngReg), Pre_WgrKernelIdeal m →
    θ_run (Cert.WgrKernelIdeal.defs (F := Ideal)) (onTc (τ := Cert.WgrKernelIdeal.τ) (Cert.WgrKernelIdeal.main (F := Ideal))) ⟨m, fun _ => 0, g⟩ (fun r => (∀ c : Dev Cert.WgrKernelIdeal.nD,
      r.2.mem ((c.tc : Thread Cert.WgrKernelIdeal.nD Cert.WgrKernelIdeal.τ).loc Cert.WgrKernelIdeal.main_arg0) = m ((c.tc : Thread Cert.WgrKernelIdeal.nD Cert.WgrKernelIdeal.τ).loc Cert.WgrKernelIdeal.main_arg0)
      ∧ r.2.mem ((c.tc : Thread Cert.WgrKernelIdeal.nD Cert.WgrKernelIdeal.τ).loc Cert.WgrKernelIdeal.main_arg1) = m ((c.tc : Thread Cert.WgrKernelIdeal.nD Cert.WgrKernelIdeal.τ).loc Cert.WgrKernelIdeal.main_arg1))
      ∧ r.2.sem = fun _ => 0)

def quiescent_WgrReferenceIdeal [hWgrReferenceIdeal : Cert.WgrReferenceIdeal.Facts] : Prop :=
  ∀ (m : (ℓ : Loc Cert.WgrReferenceIdeal.nD Cert.WgrReferenceIdeal.τ Cert.WgrReferenceIdeal.sig) → Buf (Elt Ideal) ℓ) (g : Dev Cert.WgrReferenceIdeal.nD → PrngReg), Pre_WgrReferenceIdeal m →
    θ_run (Cert.WgrReferenceIdeal.defs (F := Ideal)) (onTc (τ := Cert.WgrReferenceIdeal.τ) (Cert.WgrReferenceIdeal.main (F := Ideal))) ⟨m, fun _ => 0, g⟩ (fun r => (∀ c : Dev Cert.WgrReferenceIdeal.nD,
      r.2.mem ((c.tc : Thread Cert.WgrReferenceIdeal.nD Cert.WgrReferenceIdeal.τ).loc Cert.WgrReferenceIdeal.main_arg0) = m ((c.tc : Thread Cert.WgrReferenceIdeal.nD Cert.WgrReferenceIdeal.τ).loc Cert.WgrReferenceIdeal.main_arg0)
      ∧ r.2.mem ((c.tc : Thread Cert.WgrReferenceIdeal.nD Cert.WgrReferenceIdeal.τ).loc Cert.WgrReferenceIdeal.main_arg1) = m ((c.tc : Thread Cert.WgrReferenceIdeal.nD Cert.WgrReferenceIdeal.τ).loc Cert.WgrReferenceIdeal.main_arg1))
      ∧ r.2.sem = fun _ => 0)

def quiescent_ResKernel [hResKernel : Cert.ResKernel.Facts] : Prop :=
  ∀ (m : (ℓ : Loc Cert.ResKernel.nD Cert.ResKernel.τ Cert.ResKernel.sig) → Buf (Elt Bits) ℓ) (g : Dev Cert.ResKernel.nD → PrngReg), Pre_ResKernel m →
    θ_run (Cert.ResKernel.defs (F := Bits)) (onTc (τ := Cert.ResKernel.τ) (Cert.ResKernel.main (F := Bits))) ⟨m, fun _ => 0, g⟩ (fun r => (∀ c : Dev Cert.ResKernel.nD,
      r.2.mem ((c.tc : Thread Cert.ResKernel.nD Cert.ResKernel.τ).loc Cert.ResKernel.main_arg0) = m ((c.tc : Thread Cert.ResKernel.nD Cert.ResKernel.τ).loc Cert.ResKernel.main_arg0)
      ∧ r.2.mem ((c.tc : Thread Cert.ResKernel.nD Cert.ResKernel.τ).loc Cert.ResKernel.main_arg1) = m ((c.tc : Thread Cert.ResKernel.nD Cert.ResKernel.τ).loc Cert.ResKernel.main_arg1)
      ∧ r.2.mem ((c.tc : Thread Cert.ResKernel.nD Cert.ResKernel.τ).loc Cert.ResKernel.main_arg2) = m ((c.tc : Thread Cert.ResKernel.nD Cert.ResKernel.τ).loc Cert.ResKernel.main_arg2))
      ∧ r.2.sem = fun _ => 0)

def quiescent_ResKernelIdeal [hResKernelIdeal : Cert.ResKernelIdeal.Facts] : Prop :=
  ∀ (m : (ℓ : Loc Cert.ResKernelIdeal.nD Cert.ResKernelIdeal.τ Cert.ResKernelIdeal.sig) → Buf (Elt Ideal) ℓ) (g : Dev Cert.ResKernelIdeal.nD → PrngReg), Pre_ResKernelIdeal m →
    θ_run (Cert.ResKernelIdeal.defs (F := Ideal)) (onTc (τ := Cert.ResKernelIdeal.τ) (Cert.ResKernelIdeal.main (F := Ideal))) ⟨m, fun _ => 0, g⟩ (fun r => (∀ c : Dev Cert.ResKernelIdeal.nD,
      r.2.mem ((c.tc : Thread Cert.ResKernelIdeal.nD Cert.ResKernelIdeal.τ).loc Cert.ResKernelIdeal.main_arg0) = m ((c.tc : Thread Cert.ResKernelIdeal.nD Cert.ResKernelIdeal.τ).loc Cert.ResKernelIdeal.main_arg0)
      ∧ r.2.mem ((c.tc : Thread Cert.ResKernelIdeal.nD Cert.ResKernelIdeal.τ).loc Cert.ResKernelIdeal.main_arg1) = m ((c.tc : Thread Cert.ResKernelIdeal.nD Cert.ResKernelIdeal.τ).loc Cert.ResKernelIdeal.main_arg1)
      ∧ r.2.mem ((c.tc : Thread Cert.ResKernelIdeal.nD Cert.ResKernelIdeal.τ).loc Cert.ResKernelIdeal.main_arg2) = m ((c.tc : Thread Cert.ResKernelIdeal.nD Cert.ResKernelIdeal.τ).loc Cert.ResKernelIdeal.main_arg2))
      ∧ r.2.sem = fun _ => 0)

def quiescent_ResReferenceIdeal [hResReferenceIdeal : Cert.ResReferenceIdeal.Facts] : Prop :=
  ∀ (m : (ℓ : Loc Cert.ResReferenceIdeal.nD Cert.ResReferenceIdeal.τ Cert.ResReferenceIdeal.sig) → Buf (Elt Ideal) ℓ) (g : Dev Cert.ResReferenceIdeal.nD → PrngReg), Pre_ResReferenceIdeal m →
    θ_run (Cert.ResReferenceIdeal.defs (F := Ideal)) (onTc (τ := Cert.ResReferenceIdeal.τ) (Cert.ResReferenceIdeal.main (F := Ideal))) ⟨m, fun _ => 0, g⟩ (fun r => (∀ c : Dev Cert.ResReferenceIdeal.nD,
      r.2.mem ((c.tc : Thread Cert.ResReferenceIdeal.nD Cert.ResReferenceIdeal.τ).loc Cert.ResReferenceIdeal.main_arg0) = m ((c.tc : Thread Cert.ResReferenceIdeal.nD Cert.ResReferenceIdeal.τ).loc Cert.ResReferenceIdeal.main_arg0)
      ∧ r.2.mem ((c.tc : Thread Cert.ResReferenceIdeal.nD Cert.ResReferenceIdeal.τ).loc Cert.ResReferenceIdeal.main_arg1) = m ((c.tc : Thread Cert.ResReferenceIdeal.nD Cert.ResReferenceIdeal.τ).loc Cert.ResReferenceIdeal.main_arg1)
      ∧ r.2.mem ((c.tc : Thread Cert.ResReferenceIdeal.nD Cert.ResReferenceIdeal.τ).loc Cert.ResReferenceIdeal.main_arg2) = m ((c.tc : Thread Cert.ResReferenceIdeal.nD Cert.ResReferenceIdeal.τ).loc Cert.ResReferenceIdeal.main_arg2))
      ∧ r.2.sem = fun _ => 0)

def quiescent_AdwKernel [hAdwKernel : Cert.AdwKernel.Facts] : Prop :=
  ∀ (m : (ℓ : Loc Cert.AdwKernel.nD Cert.AdwKernel.τ Cert.AdwKernel.sig) → Buf (Elt Bits) ℓ) (g : Dev Cert.AdwKernel.nD → PrngReg), Pre_AdwKernel m →
    θ_run (Cert.AdwKernel.defs (F := Bits)) (onTc (τ := Cert.AdwKernel.τ) (Cert.AdwKernel.main (F := Bits))) ⟨m, fun _ => 0, g⟩ (fun r => (∀ c : Dev Cert.AdwKernel.nD,
      r.2.mem ((c.tc : Thread Cert.AdwKernel.nD Cert.AdwKernel.τ).loc Cert.AdwKernel.main_arg0) = m ((c.tc : Thread Cert.AdwKernel.nD Cert.AdwKernel.τ).loc Cert.AdwKernel.main_arg0)
      ∧ r.2.mem ((c.tc : Thread Cert.AdwKernel.nD Cert.AdwKernel.τ).loc Cert.AdwKernel.main_arg1) = m ((c.tc : Thread Cert.AdwKernel.nD Cert.AdwKernel.τ).loc Cert.AdwKernel.main_arg1)
      ∧ r.2.mem ((c.tc : Thread Cert.AdwKernel.nD Cert.AdwKernel.τ).loc Cert.AdwKernel.main_arg2) = m ((c.tc : Thread Cert.AdwKernel.nD Cert.AdwKernel.τ).loc Cert.AdwKernel.main_arg2)
      ∧ r.2.mem ((c.tc : Thread Cert.AdwKernel.nD Cert.AdwKernel.τ).loc Cert.AdwKernel.main_arg3) = m ((c.tc : Thread Cert.AdwKernel.nD Cert.AdwKernel.τ).loc Cert.AdwKernel.main_arg3))
      ∧ r.2.sem = fun _ => 0)

def quiescent_AdwKernelIdeal [hAdwKernelIdeal : Cert.AdwKernelIdeal.Facts] : Prop :=
  ∀ (m : (ℓ : Loc Cert.AdwKernelIdeal.nD Cert.AdwKernelIdeal.τ Cert.AdwKernelIdeal.sig) → Buf (Elt Ideal) ℓ) (g : Dev Cert.AdwKernelIdeal.nD → PrngReg), Pre_AdwKernelIdeal m →
    θ_run (Cert.AdwKernelIdeal.defs (F := Ideal)) (onTc (τ := Cert.AdwKernelIdeal.τ) (Cert.AdwKernelIdeal.main (F := Ideal))) ⟨m, fun _ => 0, g⟩ (fun r => (∀ c : Dev Cert.AdwKernelIdeal.nD,
      r.2.mem ((c.tc : Thread Cert.AdwKernelIdeal.nD Cert.AdwKernelIdeal.τ).loc Cert.AdwKernelIdeal.main_arg0) = m ((c.tc : Thread Cert.AdwKernelIdeal.nD Cert.AdwKernelIdeal.τ).loc Cert.AdwKernelIdeal.main_arg0)
      ∧ r.2.mem ((c.tc : Thread Cert.AdwKernelIdeal.nD Cert.AdwKernelIdeal.τ).loc Cert.AdwKernelIdeal.main_arg1) = m ((c.tc : Thread Cert.AdwKernelIdeal.nD Cert.AdwKernelIdeal.τ).loc Cert.AdwKernelIdeal.main_arg1)
      ∧ r.2.mem ((c.tc : Thread Cert.AdwKernelIdeal.nD Cert.AdwKernelIdeal.τ).loc Cert.AdwKernelIdeal.main_arg2) = m ((c.tc : Thread Cert.AdwKernelIdeal.nD Cert.AdwKernelIdeal.τ).loc Cert.AdwKernelIdeal.main_arg2)
      ∧ r.2.mem ((c.tc : Thread Cert.AdwKernelIdeal.nD Cert.AdwKernelIdeal.τ).loc Cert.AdwKernelIdeal.main_arg3) = m ((c.tc : Thread Cert.AdwKernelIdeal.nD Cert.AdwKernelIdeal.τ).loc Cert.AdwKernelIdeal.main_arg3))
      ∧ r.2.sem = fun _ => 0)

def quiescent_AdwReferenceIdeal [hAdwReferenceIdeal : Cert.AdwReferenceIdeal.Facts] : Prop :=
  ∀ (m : (ℓ : Loc Cert.AdwReferenceIdeal.nD Cert.AdwReferenceIdeal.τ Cert.AdwReferenceIdeal.sig) → Buf (Elt Ideal) ℓ) (g : Dev Cert.AdwReferenceIdeal.nD → PrngReg), Pre_AdwReferenceIdeal m →
    θ_run (Cert.AdwReferenceIdeal.defs (F := Ideal)) (onTc (τ := Cert.AdwReferenceIdeal.τ) (Cert.AdwReferenceIdeal.main (F := Ideal))) ⟨m, fun _ => 0, g⟩ (fun r => (∀ c : Dev Cert.AdwReferenceIdeal.nD,
      r.2.mem ((c.tc : Thread Cert.AdwReferenceIdeal.nD Cert.AdwReferenceIdeal.τ).loc Cert.AdwReferenceIdeal.main_arg0) = m ((c.tc : Thread Cert.AdwReferenceIdeal.nD Cert.AdwReferenceIdeal.τ).loc Cert.AdwReferenceIdeal.main_arg0)
      ∧ r.2.mem ((c.tc : Thread Cert.AdwReferenceIdeal.nD Cert.AdwReferenceIdeal.τ).loc Cert.AdwReferenceIdeal.main_arg1) = m ((c.tc : Thread Cert.AdwReferenceIdeal.nD Cert.AdwReferenceIdeal.τ).loc Cert.AdwReferenceIdeal.main_arg1)
      ∧ r.2.mem ((c.tc : Thread Cert.AdwReferenceIdeal.nD Cert.AdwReferenceIdeal.τ).loc Cert.AdwReferenceIdeal.main_arg2) = m ((c.tc : Thread Cert.AdwReferenceIdeal.nD Cert.AdwReferenceIdeal.τ).loc Cert.AdwReferenceIdeal.main_arg2)
      ∧ r.2.mem ((c.tc : Thread Cert.AdwReferenceIdeal.nD Cert.AdwReferenceIdeal.τ).loc Cert.AdwReferenceIdeal.main_arg3) = m ((c.tc : Thread Cert.AdwReferenceIdeal.nD Cert.AdwReferenceIdeal.τ).loc Cert.AdwReferenceIdeal.main_arg3))
      ∧ r.2.sem = fun _ => 0)

def quiescent_ChsKernel [hChsKernel : Cert.ChsKernel.Facts] : Prop :=
  ∀ (m : (ℓ : Loc Cert.ChsKernel.nD Cert.ChsKernel.τ Cert.ChsKernel.sig) → Buf (Elt Bits) ℓ) (g : Dev Cert.ChsKernel.nD → PrngReg), Pre_ChsKernel m →
    θ_run (Cert.ChsKernel.defs (F := Bits)) (onTc (τ := Cert.ChsKernel.τ) (Cert.ChsKernel.main (F := Bits))) ⟨m, fun _ => 0, g⟩ (fun r => (∀ c : Dev Cert.ChsKernel.nD,
      r.2.mem ((c.tc : Thread Cert.ChsKernel.nD Cert.ChsKernel.τ).loc Cert.ChsKernel.main_arg0) = m ((c.tc : Thread Cert.ChsKernel.nD Cert.ChsKernel.τ).loc Cert.ChsKernel.main_arg0)
      ∧ r.2.mem ((c.tc : Thread Cert.ChsKernel.nD Cert.ChsKernel.τ).loc Cert.ChsKernel.main_arg1) = m ((c.tc : Thread Cert.ChsKernel.nD Cert.ChsKernel.τ).loc Cert.ChsKernel.main_arg1))
      ∧ r.2.sem = fun _ => 0)

def quiescent_ChsKernelIdeal [hChsKernelIdeal : Cert.ChsKernelIdeal.Facts] : Prop :=
  ∀ (m : (ℓ : Loc Cert.ChsKernelIdeal.nD Cert.ChsKernelIdeal.τ Cert.ChsKernelIdeal.sig) → Buf (Elt Ideal) ℓ) (g : Dev Cert.ChsKernelIdeal.nD → PrngReg), Pre_ChsKernelIdeal m →
    θ_run (Cert.ChsKernelIdeal.defs (F := Ideal)) (onTc (τ := Cert.ChsKernelIdeal.τ) (Cert.ChsKernelIdeal.main (F := Ideal))) ⟨m, fun _ => 0, g⟩ (fun r => (∀ c : Dev Cert.ChsKernelIdeal.nD,
      r.2.mem ((c.tc : Thread Cert.ChsKernelIdeal.nD Cert.ChsKernelIdeal.τ).loc Cert.ChsKernelIdeal.main_arg0) = m ((c.tc : Thread Cert.ChsKernelIdeal.nD Cert.ChsKernelIdeal.τ).loc Cert.ChsKernelIdeal.main_arg0)
      ∧ r.2.mem ((c.tc : Thread Cert.ChsKernelIdeal.nD Cert.ChsKernelIdeal.τ).loc Cert.ChsKernelIdeal.main_arg1) = m ((c.tc : Thread Cert.ChsKernelIdeal.nD Cert.ChsKernelIdeal.τ).loc Cert.ChsKernelIdeal.main_arg1))
      ∧ r.2.sem = fun _ => 0)

def quiescent_ChsReferenceIdeal [hChsReferenceIdeal : Cert.ChsReferenceIdeal.Facts] : Prop :=
  ∀ (m : (ℓ : Loc Cert.ChsReferenceIdeal.nD Cert.ChsReferenceIdeal.τ Cert.ChsReferenceIdeal.sig) → Buf (Elt Ideal) ℓ) (g : Dev Cert.ChsReferenceIdeal.nD → PrngReg), Pre_ChsReferenceIdeal m →
    θ_run (Cert.ChsReferenceIdeal.defs (F := Ideal)) (onTc (τ := Cert.ChsReferenceIdeal.τ) (Cert.ChsReferenceIdeal.main (F := Ideal))) ⟨m, fun _ => 0, g⟩ (fun r => (∀ c : Dev Cert.ChsReferenceIdeal.nD,
      r.2.mem ((c.tc : Thread Cert.ChsReferenceIdeal.nD Cert.ChsReferenceIdeal.τ).loc Cert.ChsReferenceIdeal.main_arg0) = m ((c.tc : Thread Cert.ChsReferenceIdeal.nD Cert.ChsReferenceIdeal.τ).loc Cert.ChsReferenceIdeal.main_arg0)
      ∧ r.2.mem ((c.tc : Thread Cert.ChsReferenceIdeal.nD Cert.ChsReferenceIdeal.τ).loc Cert.ChsReferenceIdeal.main_arg1) = m ((c.tc : Thread Cert.ChsReferenceIdeal.nD Cert.ChsReferenceIdeal.τ).loc Cert.ChsReferenceIdeal.main_arg1))
      ∧ r.2.sem = fun _ => 0)

def quiescent_OwnKernel [hOwnKernel : Cert.OwnKernel.Facts] : Prop :=
  ∀ (m : (ℓ : Loc Cert.OwnKernel.nD Cert.OwnKernel.τ Cert.OwnKernel.sig) → Buf (Elt Bits) ℓ) (g : Dev Cert.OwnKernel.nD → PrngReg), Pre_OwnKernel m →
    θ_run (Cert.OwnKernel.defs (F := Bits)) (onTc (τ := Cert.OwnKernel.τ) (Cert.OwnKernel.main (F := Bits))) ⟨m, fun _ => 0, g⟩ (fun r => (∀ c : Dev Cert.OwnKernel.nD,
      r.2.mem ((c.tc : Thread Cert.OwnKernel.nD Cert.OwnKernel.τ).loc Cert.OwnKernel.main_arg0) = m ((c.tc : Thread Cert.OwnKernel.nD Cert.OwnKernel.τ).loc Cert.OwnKernel.main_arg0))
      ∧ r.2.sem = fun _ => 0)

def quiescent_OwnKernelIdeal [hOwnKernelIdeal : Cert.OwnKernelIdeal.Facts] : Prop :=
  ∀ (m : (ℓ : Loc Cert.OwnKernelIdeal.nD Cert.OwnKernelIdeal.τ Cert.OwnKernelIdeal.sig) → Buf (Elt Ideal) ℓ) (g : Dev Cert.OwnKernelIdeal.nD → PrngReg), Pre_OwnKernelIdeal m →
    θ_run (Cert.OwnKernelIdeal.defs (F := Ideal)) (onTc (τ := Cert.OwnKernelIdeal.τ) (Cert.OwnKernelIdeal.main (F := Ideal))) ⟨m, fun _ => 0, g⟩ (fun r => (∀ c : Dev Cert.OwnKernelIdeal.nD,
      r.2.mem ((c.tc : Thread Cert.OwnKernelIdeal.nD Cert.OwnKernelIdeal.τ).loc Cert.OwnKernelIdeal.main_arg0) = m ((c.tc : Thread Cert.OwnKernelIdeal.nD Cert.OwnKernelIdeal.τ).loc Cert.OwnKernelIdeal.main_arg0))
      ∧ r.2.sem = fun _ => 0)

def quiescent_OwnReferenceIdeal [hOwnReferenceIdeal : Cert.OwnReferenceIdeal.Facts] : Prop :=
  ∀ (m : (ℓ : Loc Cert.OwnReferenceIdeal.nD Cert.OwnReferenceIdeal.τ Cert.OwnReferenceIdeal.sig) → Buf (Elt Ideal) ℓ) (g : Dev Cert.OwnReferenceIdeal.nD → PrngReg), Pre_OwnReferenceIdeal m →
    θ_run (Cert.OwnReferenceIdeal.defs (F := Ideal)) (onTc (τ := Cert.OwnReferenceIdeal.τ) (Cert.OwnReferenceIdeal.main (F := Ideal))) ⟨m, fun _ => 0, g⟩ (fun r => (∀ c : Dev Cert.OwnReferenceIdeal.nD,
      r.2.mem ((c.tc : Thread Cert.OwnReferenceIdeal.nD Cert.OwnReferenceIdeal.τ).loc Cert.OwnReferenceIdeal.main_arg0) = m ((c.tc : Thread Cert.OwnReferenceIdeal.nD Cert.OwnReferenceIdeal.τ).loc Cert.OwnReferenceIdeal.main_arg0))
      ∧ r.2.sem = fun _ => 0)

def quiescent_TotKernel [hTotKernel : Cert.TotKernel.Facts] : Prop :=
  ∀ (m : (ℓ : Loc Cert.TotKernel.nD Cert.TotKernel.τ Cert.TotKernel.sig) → Buf (Elt Bits) ℓ) (g : Dev Cert.TotKernel.nD → PrngReg), Pre_TotKernel m →
    θ_run (Cert.TotKernel.defs (F := Bits)) (onTc (τ := Cert.TotKernel.τ) (Cert.TotKernel.main (F := Bits))) ⟨m, fun _ => 0, g⟩ (fun r => (∀ c : Dev Cert.TotKernel.nD,
      r.2.mem ((c.tc : Thread Cert.TotKernel.nD Cert.TotKernel.τ).loc Cert.TotKernel.main_arg0) = m ((c.tc : Thread Cert.TotKernel.nD Cert.TotKernel.τ).loc Cert.TotKernel.main_arg0)
      ∧ r.2.mem ((c.tc : Thread Cert.TotKernel.nD Cert.TotKernel.τ).loc Cert.TotKernel.main_arg1) = m ((c.tc : Thread Cert.TotKernel.nD Cert.TotKernel.τ).loc Cert.TotKernel.main_arg1))
      ∧ r.2.sem = fun _ => 0)

def quiescent_TotKernelIdeal [hTotKernelIdeal : Cert.TotKernelIdeal.Facts] : Prop :=
  ∀ (m : (ℓ : Loc Cert.TotKernelIdeal.nD Cert.TotKernelIdeal.τ Cert.TotKernelIdeal.sig) → Buf (Elt Ideal) ℓ) (g : Dev Cert.TotKernelIdeal.nD → PrngReg), Pre_TotKernelIdeal m →
    θ_run (Cert.TotKernelIdeal.defs (F := Ideal)) (onTc (τ := Cert.TotKernelIdeal.τ) (Cert.TotKernelIdeal.main (F := Ideal))) ⟨m, fun _ => 0, g⟩ (fun r => (∀ c : Dev Cert.TotKernelIdeal.nD,
      r.2.mem ((c.tc : Thread Cert.TotKernelIdeal.nD Cert.TotKernelIdeal.τ).loc Cert.TotKernelIdeal.main_arg0) = m ((c.tc : Thread Cert.TotKernelIdeal.nD Cert.TotKernelIdeal.τ).loc Cert.TotKernelIdeal.main_arg0)
      ∧ r.2.mem ((c.tc : Thread Cert.TotKernelIdeal.nD Cert.TotKernelIdeal.τ).loc Cert.TotKernelIdeal.main_arg1) = m ((c.tc : Thread Cert.TotKernelIdeal.nD Cert.TotKernelIdeal.τ).loc Cert.TotKernelIdeal.main_arg1))
      ∧ r.2.sem = fun _ => 0)

def quiescent_TotReferenceIdeal [hTotReferenceIdeal : Cert.TotReferenceIdeal.Facts] : Prop :=
  ∀ (m : (ℓ : Loc Cert.TotReferenceIdeal.nD Cert.TotReferenceIdeal.τ Cert.TotReferenceIdeal.sig) → Buf (Elt Ideal) ℓ) (g : Dev Cert.TotReferenceIdeal.nD → PrngReg), Pre_TotReferenceIdeal m →
    θ_run (Cert.TotReferenceIdeal.defs (F := Ideal)) (onTc (τ := Cert.TotReferenceIdeal.τ) (Cert.TotReferenceIdeal.main (F := Ideal))) ⟨m, fun _ => 0, g⟩ (fun r => (∀ c : Dev Cert.TotReferenceIdeal.nD,
      r.2.mem ((c.tc : Thread Cert.TotReferenceIdeal.nD Cert.TotReferenceIdeal.τ).loc Cert.TotReferenceIdeal.main_arg0) = m ((c.tc : Thread Cert.TotReferenceIdeal.nD Cert.TotReferenceIdeal.τ).loc Cert.TotReferenceIdeal.main_arg0)
      ∧ r.2.mem ((c.tc : Thread Cert.TotReferenceIdeal.nD Cert.TotReferenceIdeal.τ).loc Cert.TotReferenceIdeal.main_arg1) = m ((c.tc : Thread Cert.TotReferenceIdeal.nD Cert.TotReferenceIdeal.τ).loc Cert.TotReferenceIdeal.main_arg1))
      ∧ r.2.sem = fun _ => 0)

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v10_0)) (v1 : (c : Dev Cert.FfnKernelIdeal.nD) → Buf (Elt Ideal) ((c.tc : Thread Cert.FfnKernelIdeal.nD Cert.FfnKernelIdeal.τ).loc Cert.FfnKernelIdeal.main_v10_1)) (v2 : (c : Dev Cert.FfnKernelIdeal.nD) → Buf (Elt Ideal) ((c.tc : Thread Cert.FfnKernelIdeal.nD Cert.FfnKernelIdeal.τ).loc Cert.FfnKernelIdeal.main_v10_2)) (v3 : (c : Dev Cert.FfnKernelIdeal.nD) → Buf (Elt Ideal) ((c.tc : Thread Cert.FfnKernelIdeal.nD Cert.FfnKernelIdeal.τ).loc Cert.FfnKernelIdeal.main_v11_0)) (v4 : (c : Dev Cert.FfnKernelIdeal.nD) → Buf (Elt Ideal) ((c.tc : Thread Cert.FfnKernelIdeal.nD Cert.FfnKernelIdeal.τ).loc Cert.FfnKernelIdeal.main_v11_1)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v10_0) = v0 c
          ∧ r.2.mem ((c.tc : Thread Cert.FfnKernelIdeal.nD Cert.FfnKernelIdeal.τ).loc Cert.FfnKernelIdeal.main_v10_1) = v1 c
          ∧ r.2.mem ((c.tc : Thread Cert.FfnKernelIdeal.nD Cert.FfnKernelIdeal.τ).loc Cert.FfnKernelIdeal.main_v10_2) = v2 c
          ∧ r.2.mem ((c.tc : Thread Cert.FfnKernelIdeal.nD Cert.FfnKernelIdeal.τ).loc Cert.FfnKernelIdeal.main_v11_0) = v3 c
          ∧ r.2.mem ((c.tc : Thread Cert.FfnKernelIdeal.nD Cert.FfnKernelIdeal.τ).loc Cert.FfnKernelIdeal.main_v11_1) = v4 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v21) = v0 c
          ∧ r.2.mem ((c.tc : Thread Cert.FfnReferenceIdeal.nD Cert.FfnReferenceIdeal.τ).loc Cert.FfnReferenceIdeal.main_v24) = v1 c
          ∧ r.2.mem ((c.tc : Thread Cert.FfnReferenceIdeal.nD Cert.FfnReferenceIdeal.τ).loc Cert.FfnReferenceIdeal.main_v29) = v2 c
          ∧ r.2.mem ((c.tc : Thread Cert.FfnReferenceIdeal.nD Cert.FfnReferenceIdeal.τ).loc Cert.FfnReferenceIdeal.main_v32) = v3 c
          ∧ r.2.mem ((c.tc : Thread Cert.FfnReferenceIdeal.nD Cert.FfnReferenceIdeal.τ).loc Cert.FfnReferenceIdeal.main_v35) = v4 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_AttnKernel_AttnKernelIdeal : Prop :=
  True

def algebraic_AttnKernelIdeal_AttnReferenceIdeal_pre_attn_finite [hAttnKernelIdeal : Cert.AttnKernelIdeal.Facts] [hAttnReferenceIdeal : Cert.AttnReferenceIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_attn_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)) →
    ∃ (v0 : (c : Dev Cert.AttnKernelIdeal.nD) → Buf (Elt Ideal) ((c.tc : Thread Cert.AttnKernelIdeal.nD Cert.AttnKernelIdeal.τ).loc Cert.AttnKernelIdeal.main_v1_0)) (v1 : (c : Dev Cert.AttnKernelIdeal.nD) → Buf (Elt Ideal) ((c.tc : Thread Cert.AttnKernelIdeal.nD Cert.AttnKernelIdeal.τ).loc Cert.AttnKernelIdeal.main_v2_0)) (v2 : (c : Dev Cert.AttnKernelIdeal.nD) → Buf (Elt Ideal) ((c.tc : Thread Cert.AttnKernelIdeal.nD Cert.AttnKernelIdeal.τ).loc Cert.AttnKernelIdeal.main_v2_1)) (v3 : (c : Dev Cert.AttnKernelIdeal.nD) → Buf (Elt Ideal) ((c.tc : Thread Cert.AttnKernelIdeal.nD Cert.AttnKernelIdeal.τ).loc Cert.AttnKernelIdeal.main_v2_2)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v1_0) = v0 c
          ∧ r.2.mem ((c.tc : Thread Cert.AttnKernelIdeal.nD Cert.AttnKernelIdeal.τ).loc Cert.AttnKernelIdeal.main_v2_0) = v1 c
          ∧ r.2.mem ((c.tc : Thread Cert.AttnKernelIdeal.nD Cert.AttnKernelIdeal.τ).loc Cert.AttnKernelIdeal.main_v2_1) = v2 c
          ∧ r.2.mem ((c.tc : Thread Cert.AttnKernelIdeal.nD Cert.AttnKernelIdeal.τ).loc Cert.AttnKernelIdeal.main_v2_2) = v3 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v27) = v0 c
          ∧ r.2.mem ((c.tc : Thread Cert.AttnReferenceIdeal.nD Cert.AttnReferenceIdeal.τ).loc Cert.AttnReferenceIdeal.main_v52) = v1 c
          ∧ r.2.mem ((c.tc : Thread Cert.AttnReferenceIdeal.nD Cert.AttnReferenceIdeal.τ).loc Cert.AttnReferenceIdeal.main_v51) = v2 c
          ∧ r.2.mem ((c.tc : Thread Cert.AttnReferenceIdeal.nD Cert.AttnReferenceIdeal.τ).loc Cert.AttnReferenceIdeal.main_v50) = v3 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1))

def preserves_PoolKernel_PoolKernelIdeal : Prop :=
  True

def algebraic_PoolKernelIdeal_PoolReferenceIdeal_pre_pool_finite [hPoolKernelIdeal : Cert.PoolKernelIdeal.Facts] [hPoolReferenceIdeal : Cert.PoolReferenceIdeal.Facts] [hPre_pool_finite : Cert.Pre_pool_finite.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolKernelIdeal_pool_finite m →
    (∀ c : Dev Cert.PoolKernelIdeal.nD,
      m' ((c.tc : Thread Cert.PoolReferenceIdeal.nD Cert.PoolReferenceIdeal.τ).loc Cert.PoolReferenceIdeal.main_arg0) = m ((c.tc : Thread Cert.PoolKernelIdeal.nD Cert.PoolKernelIdeal.τ).loc Cert.PoolKernelIdeal.main_arg0)
      ∧ m' ((c.tc : Thread Cert.PoolReferenceIdeal.nD Cert.PoolReferenceIdeal.τ).loc Cert.PoolReferenceIdeal.main_arg1) = m ((c.tc : Thread Cert.PoolKernelIdeal.nD Cert.PoolKernelIdeal.τ).loc Cert.PoolKernelIdeal.main_arg1)
      ∧ m' ((c.tc : Thread Cert.PoolReferenceIdeal.nD Cert.PoolReferenceIdeal.τ).loc Cert.PoolReferenceIdeal.main_arg2) = m ((c.tc : Thread Cert.PoolKernelIdeal.nD Cert.PoolKernelIdeal.τ).loc Cert.PoolKernelIdeal.main_arg2)
      ∧ m' ((c.tc : Thread Cert.PoolReferenceIdeal.nD Cert.PoolReferenceIdeal.τ).loc Cert.PoolReferenceIdeal.main_arg3) = m ((c.tc : Thread Cert.PoolKernelIdeal.nD Cert.PoolKernelIdeal.τ).loc Cert.PoolKernelIdeal.main_arg3)) →
    ∃ (v0 : (c : Dev Cert.PoolKernelIdeal.nD) → Buf (Elt Ideal) ((c.tc : Thread Cert.PoolKernelIdeal.nD Cert.PoolKernelIdeal.τ).loc Cert.PoolKernelIdeal.main_v1_0)) (v1 : (c : Dev Cert.PoolKernelIdeal.nD) → Buf (Elt Ideal) ((c.tc : Thread Cert.PoolKernelIdeal.nD Cert.PoolKernelIdeal.τ).loc Cert.PoolKernelIdeal.main_v1_1)) (v2 : (c : Dev Cert.PoolKernelIdeal.nD) → Buf (Elt Ideal) ((c.tc : Thread Cert.PoolKernelIdeal.nD Cert.PoolKernelIdeal.τ).loc Cert.PoolKernelIdeal.main_v1_2)),
      θ_run (Cert.PoolKernelIdeal.defs (F := Ideal)) (onTc (τ := Cert.PoolKernelIdeal.τ) (Cert.PoolKernelIdeal.main (F := Ideal))) ⟨m, fun _ => 0, g⟩ (fun r => ∀ c : Dev Cert.PoolKernelIdeal.nD,
          r.2.mem ((c.tc : Thread Cert.PoolKernelIdeal.nD Cert.PoolKernelIdeal.τ).loc Cert.PoolKernelIdeal.main_v1_0) = v0 c
          ∧ r.2.mem ((c.tc : Thread Cert.PoolKernelIdeal.nD Cert.PoolKernelIdeal.τ).loc Cert.PoolKernelIdeal.main_v1_1) = v1 c
          ∧ r.2.mem ((c.tc : Thread Cert.PoolKernelIdeal.nD Cert.PoolKernelIdeal.τ).loc Cert.PoolKernelIdeal.main_v1_2) = v2 c
          ∧ r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
          ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
          ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
          ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v165) = v0 c
          ∧ r.2.mem ((c.tc : Thread Cert.PoolReferenceIdeal.nD Cert.PoolReferenceIdeal.τ).loc Cert.PoolReferenceIdeal.main_v99) = v1 c
          ∧ r.2.mem ((c.tc : Thread Cert.PoolReferenceIdeal.nD Cert.PoolReferenceIdeal.τ).loc Cert.PoolReferenceIdeal.main_v166) = v2 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3))

def preserves_LossKernel_LossKernelIdeal : Prop :=
  True

def algebraic_LossKernelIdeal_LossReferenceIdeal_pre_loss_finite [hLossKernelIdeal : Cert.LossKernelIdeal.Facts] [hLossReferenceIdeal : Cert.LossReferenceIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_loss_finite m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v4)) (v1 : (c : Dev Cert.LossKernelIdeal.nD) → Buf (Elt Ideal) ((c.tc : Thread Cert.LossKernelIdeal.nD Cert.LossKernelIdeal.τ).loc Cert.LossKernelIdeal.main_v1_1)) (v2 : (c : Dev Cert.LossKernelIdeal.nD) → Buf (Elt Ideal) ((c.tc : Thread Cert.LossKernelIdeal.nD Cert.LossKernelIdeal.τ).loc Cert.LossKernelIdeal.main_v1_2)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v4) = v0 c
          ∧ r.2.mem ((c.tc : Thread Cert.LossKernelIdeal.nD Cert.LossKernelIdeal.τ).loc Cert.LossKernelIdeal.main_v1_1) = v1 c
          ∧ r.2.mem ((c.tc : Thread Cert.LossKernelIdeal.nD Cert.LossKernelIdeal.τ).loc Cert.LossKernelIdeal.main_v1_2) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v24) = v0 c
          ∧ r.2.mem ((c.tc : Thread Cert.LossReferenceIdeal.nD Cert.LossReferenceIdeal.τ).loc Cert.LossReferenceIdeal.main_v50) = v1 c
          ∧ r.2.mem ((c.tc : Thread Cert.LossReferenceIdeal.nD Cert.LossReferenceIdeal.τ).loc Cert.LossReferenceIdeal.main_v51) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_MixKernel_MixKernelIdeal : Prop :=
  True

def algebraic_MixKernelIdeal_MixReferenceIdeal_pre_mix_finite [hMixKernelIdeal : Cert.MixKernelIdeal.Facts] [hMixReferenceIdeal : Cert.MixReferenceIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_mix_finite m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)) →
    ∃ (v0 : (c : Dev Cert.MixKernelIdeal.nD) → Buf (Elt Ideal) ((c.tc : Thread Cert.MixKernelIdeal.nD Cert.MixKernelIdeal.τ).loc Cert.MixKernelIdeal.main_v5_0)) (v1 : (c : Dev Cert.MixKernelIdeal.nD) → Buf (Elt Ideal) ((c.tc : Thread Cert.MixKernelIdeal.nD Cert.MixKernelIdeal.τ).loc Cert.MixKernelIdeal.main_v5_1)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v5_0) = v0 c
          ∧ r.2.mem ((c.tc : Thread Cert.MixKernelIdeal.nD Cert.MixKernelIdeal.τ).loc Cert.MixKernelIdeal.main_v5_1) = v1 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v40) = v0 c
          ∧ r.2.mem ((c.tc : Thread Cert.MixReferenceIdeal.nD Cert.MixReferenceIdeal.τ).loc Cert.MixReferenceIdeal.main_v41) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4))

def preserves_NormKernel_NormKernelIdeal : Prop :=
  True

def algebraic_NormKernelIdeal_NormReferenceIdeal_pre_norm_finite [hNormKernelIdeal : Cert.NormKernelIdeal.Facts] [hNormReferenceIdeal : Cert.NormReferenceIdeal.Facts] [hPre_norm_finite : Cert.Pre_norm_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal_norm_finite m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)
      ∧ m' ((c.tc : Thread Cert.NormReferenceIdeal.nD Cert.NormReferenceIdeal.τ).loc Cert.NormReferenceIdeal.main_arg4) = m ((c.tc : Thread Cert.NormKernelIdeal.nD Cert.NormKernelIdeal.τ).loc Cert.NormKernelIdeal.main_arg4)
      ∧ m' ((c.tc : Thread Cert.NormReferenceIdeal.nD Cert.NormReferenceIdeal.τ).loc Cert.NormReferenceIdeal.main_arg5) = m ((c.tc : Thread Cert.NormKernelIdeal.nD Cert.NormKernelIdeal.τ).loc Cert.NormKernelIdeal.main_arg5)
      ∧ m' ((c.tc : Thread Cert.NormReferenceIdeal.nD Cert.NormReferenceIdeal.τ).loc Cert.NormReferenceIdeal.main_arg6) = m ((c.tc : Thread Cert.NormKernelIdeal.nD Cert.NormKernelIdeal.τ).loc Cert.NormKernelIdeal.main_arg6)) →
    ∃ (v0 : (c : Dev Cert.NormKernelIdeal.nD) → Buf (Elt Ideal) ((c.tc : Thread Cert.NormKernelIdeal.nD Cert.NormKernelIdeal.τ).loc Cert.NormKernelIdeal.main_v14_0)) (v1 : (c : Dev Cert.NormKernelIdeal.nD) → Buf (Elt Ideal) ((c.tc : Thread Cert.NormKernelIdeal.nD Cert.NormKernelIdeal.τ).loc Cert.NormKernelIdeal.main_v14_1)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v14_0) = v0 c
          ∧ r.2.mem ((c.tc : Thread Cert.NormKernelIdeal.nD Cert.NormKernelIdeal.τ).loc Cert.NormKernelIdeal.main_v14_1) = v1 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
          ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
          ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5)
          ∧ r.2.mem ((c.tc : Thread Cert.NormKernelIdeal.nD Cert.NormKernelIdeal.τ).loc Cert.NormKernelIdeal.main_arg6) = m ((c.tc : Thread Cert.NormKernelIdeal.nD Cert.NormKernelIdeal.τ).loc Cert.NormKernelIdeal.main_arg6))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v45) = v0 c
          ∧ r.2.mem ((c.tc : Thread Cert.NormReferenceIdeal.nD Cert.NormReferenceIdeal.τ).loc Cert.NormReferenceIdeal.main_v46) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4)
          ∧ r.2.mem ((c.tc : Thread Cert.NormReferenceIdeal.nD Cert.NormReferenceIdeal.τ).loc Cert.NormReferenceIdeal.main_arg5) = m' ((c.tc : Thread Cert.NormReferenceIdeal.nD Cert.NormReferenceIdeal.τ).loc Cert.NormReferenceIdeal.main_arg5)
          ∧ r.2.mem ((c.tc : Thread Cert.NormReferenceIdeal.nD Cert.NormReferenceIdeal.τ).loc Cert.NormReferenceIdeal.main_arg6) = m' ((c.tc : Thread Cert.NormReferenceIdeal.nD Cert.NormReferenceIdeal.τ).loc Cert.NormReferenceIdeal.main_arg6))

def preserves_RmsKernel_RmsKernelIdeal : Prop :=
  True

def algebraic_RmsKernelIdeal_RmsReferenceIdeal [hRmsKernelIdeal : Cert.RmsKernelIdeal.Facts] [hRmsReferenceIdeal : Cert.RmsReferenceIdeal.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg)
    (m' : (ℓ : Loc Cert.RmsReferenceIdeal.nD Cert.RmsReferenceIdeal.τ Cert.RmsReferenceIdeal.sig) → Buf (Elt Ideal) ℓ) (g' : Dev Cert.RmsReferenceIdeal.nD → PrngReg), Pre_RmsKernelIdeal m →
    (∀ c : Dev Cert.RmsKernelIdeal.nD,
      m' ((c.tc : Thread Cert.RmsReferenceIdeal.nD Cert.RmsReferenceIdeal.τ).loc Cert.RmsReferenceIdeal.main_arg0) = m ((c.tc : Thread Cert.RmsKernelIdeal.nD Cert.RmsKernelIdeal.τ).loc Cert.RmsKernelIdeal.main_arg0)
      ∧ m' ((c.tc : Thread Cert.RmsReferenceIdeal.nD Cert.RmsReferenceIdeal.τ).loc Cert.RmsReferenceIdeal.main_arg1) = m ((c.tc : Thread Cert.RmsKernelIdeal.nD Cert.RmsKernelIdeal.τ).loc Cert.RmsKernelIdeal.main_arg1)) →
    ∃ (v0 : (c : Dev Cert.RmsKernelIdeal.nD) → Buf (Elt Ideal) ((c.tc : Thread Cert.RmsKernelIdeal.nD Cert.RmsKernelIdeal.τ).loc Cert.RmsKernelIdeal.main_v1)),
      θ_run (Cert.RmsKernelIdeal.defs (F := Ideal)) (onTc (τ := Cert.RmsKernelIdeal.τ) (Cert.RmsKernelIdeal.main (F := Ideal))) ⟨m, fun _ => 0, g⟩ (fun r => ∀ c : Dev Cert.RmsKernelIdeal.nD,
          r.2.mem ((c.tc : Thread Cert.RmsKernelIdeal.nD Cert.RmsKernelIdeal.τ).loc Cert.RmsKernelIdeal.main_v1) = v0 c
          ∧ r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
          ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1))
      ∧ θ_run (Cert.RmsReferenceIdeal.defs (F := Ideal)) (onTc (τ := Cert.RmsReferenceIdeal.τ) (Cert.RmsReferenceIdeal.main (F := Ideal))) ⟨m', fun _ => 0, g'⟩ (fun r => ∀ c : Dev Cert.RmsReferenceIdeal.nD,
          r.2.mem ((c.tc : Thread Cert.RmsReferenceIdeal.nD Cert.RmsReferenceIdeal.τ).loc Cert.RmsReferenceIdeal.main_v13) = v0 c
          ∧ r.2.mem ((c.tc : Thread Cert.RmsReferenceIdeal.nD Cert.RmsReferenceIdeal.τ).loc Cert.RmsReferenceIdeal.main_arg0) = m' ((c.tc : Thread Cert.RmsReferenceIdeal.nD Cert.RmsReferenceIdeal.τ).loc Cert.RmsReferenceIdeal.main_arg0)
          ∧ r.2.mem ((c.tc : Thread Cert.RmsReferenceIdeal.nD Cert.RmsReferenceIdeal.τ).loc Cert.RmsReferenceIdeal.main_arg1) = m' ((c.tc : Thread Cert.RmsReferenceIdeal.nD Cert.RmsReferenceIdeal.τ).loc Cert.RmsReferenceIdeal.main_arg1))

def preserves_PlfKernel_PlfKernelIdeal : Prop :=
  True

def algebraic_PlfKernelIdeal_PlfReferenceIdeal_pre_plf_finite [hPlfKernelIdeal : Cert.PlfKernelIdeal.Facts] [hPlfReferenceIdeal : Cert.PlfReferenceIdeal.Facts] [hPre_plf_finite : Cert.Pre_plf_finite.Facts] : Prop :=
  ∀ (m : (ℓ : Loc Cert.PlfKernelIdeal.nD Cert.PlfKernelIdeal.τ Cert.PlfKernelIdeal.sig) → Buf (Elt Ideal) ℓ) (g : Dev Cert.PlfKernelIdeal.nD → PrngReg)
    (m' : (ℓ : Loc Cert.PlfReferenceIdeal.nD Cert.PlfReferenceIdeal.τ Cert.PlfReferenceIdeal.sig) → Buf (Elt Ideal) ℓ) (g' : Dev Cert.PlfReferenceIdeal.nD → PrngReg), Pre_PlfKernelIdeal_plf_finite m →
    (∀ c : Dev Cert.PlfKernelIdeal.nD,
      m' ((c.tc : Thread Cert.PlfReferenceIdeal.nD Cert.PlfReferenceIdeal.τ).loc Cert.PlfReferenceIdeal.main_arg0) = m ((c.tc : Thread Cert.PlfKernelIdeal.nD Cert.PlfKernelIdeal.τ).loc Cert.PlfKernelIdeal.main_arg0)
      ∧ m' ((c.tc : Thread Cert.PlfReferenceIdeal.nD Cert.PlfReferenceIdeal.τ).loc Cert.PlfReferenceIdeal.main_arg1) = m ((c.tc : Thread Cert.PlfKernelIdeal.nD Cert.PlfKernelIdeal.τ).loc Cert.PlfKernelIdeal.main_arg1)
      ∧ m' ((c.tc : Thread Cert.PlfReferenceIdeal.nD Cert.PlfReferenceIdeal.τ).loc Cert.PlfReferenceIdeal.main_arg2) = m ((c.tc : Thread Cert.PlfKernelIdeal.nD Cert.PlfKernelIdeal.τ).loc Cert.PlfKernelIdeal.main_arg2)) →
    ∃ (v0 : (c : Dev Cert.PlfKernelIdeal.nD) → Buf (Elt Ideal) ((c.tc : Thread Cert.PlfKernelIdeal.nD Cert.PlfKernelIdeal.τ).loc Cert.PlfKernelIdeal.main_v1)),
      θ_run (Cert.PlfKernelIdeal.defs (F := Ideal)) (onTc (τ := Cert.PlfKernelIdeal.τ) (Cert.PlfKernelIdeal.main (F := Ideal))) ⟨m, fun _ => 0, g⟩ (fun r => ∀ c : Dev Cert.PlfKernelIdeal.nD,
          r.2.mem ((c.tc : Thread Cert.PlfKernelIdeal.nD Cert.PlfKernelIdeal.τ).loc Cert.PlfKernelIdeal.main_v1) = v0 c
          ∧ r.2.mem ((c.tc : Thread Cert.PlfKernelIdeal.nD Cert.PlfKernelIdeal.τ).loc Cert.PlfKernelIdeal.main_arg0) = m ((c.tc : Thread Cert.PlfKernelIdeal.nD Cert.PlfKernelIdeal.τ).loc Cert.PlfKernelIdeal.main_arg0)
          ∧ r.2.mem ((c.tc : Thread Cert.PlfKernelIdeal.nD Cert.PlfKernelIdeal.τ).loc Cert.PlfKernelIdeal.main_arg1) = m ((c.tc : Thread Cert.PlfKernelIdeal.nD Cert.PlfKernelIdeal.τ).loc Cert.PlfKernelIdeal.main_arg1)
          ∧ r.2.mem ((c.tc : Thread Cert.PlfKernelIdeal.nD Cert.PlfKernelIdeal.τ).loc Cert.PlfKernelIdeal.main_arg2) = m ((c.tc : Thread Cert.PlfKernelIdeal.nD Cert.PlfKernelIdeal.τ).loc Cert.PlfKernelIdeal.main_arg2))
      ∧ θ_run (Cert.PlfReferenceIdeal.defs (F := Ideal)) (onTc (τ := Cert.PlfReferenceIdeal.τ) (Cert.PlfReferenceIdeal.main (F := Ideal))) ⟨m', fun _ => 0, g'⟩ (fun r => ∀ c : Dev Cert.PlfReferenceIdeal.nD,
          r.2.mem ((c.tc : Thread Cert.PlfReferenceIdeal.nD Cert.PlfReferenceIdeal.τ).loc Cert.PlfReferenceIdeal.main_v83) = v0 c
          ∧ r.2.mem ((c.tc : Thread Cert.PlfReferenceIdeal.nD Cert.PlfReferenceIdeal.τ).loc Cert.PlfReferenceIdeal.main_arg0) = m' ((c.tc : Thread Cert.PlfReferenceIdeal.nD Cert.PlfReferenceIdeal.τ).loc Cert.PlfReferenceIdeal.main_arg0)
          ∧ r.2.mem ((c.tc : Thread Cert.PlfReferenceIdeal.nD Cert.PlfReferenceIdeal.τ).loc Cert.PlfReferenceIdeal.main_arg1) = m' ((c.tc : Thread Cert.PlfReferenceIdeal.nD Cert.PlfReferenceIdeal.τ).loc Cert.PlfReferenceIdeal.main_arg1)
          ∧ r.2.mem ((c.tc : Thread Cert.PlfReferenceIdeal.nD Cert.PlfReferenceIdeal.τ).loc Cert.PlfReferenceIdeal.main_arg2) = m' ((c.tc : Thread Cert.PlfReferenceIdeal.nD Cert.PlfReferenceIdeal.τ).loc Cert.PlfReferenceIdeal.main_arg2))

def preserves_InpKernel_InpKernelIdeal : Prop :=
  True

def algebraic_InpKernelIdeal_InpReferenceIdeal [hInpKernelIdeal : Cert.InpKernelIdeal.Facts] [hInpReferenceIdeal : Cert.InpReferenceIdeal.Facts] : Prop :=
  ∀ (m : (ℓ : Loc Cert.InpKernelIdeal.nD Cert.InpKernelIdeal.τ Cert.InpKernelIdeal.sig) → Buf (Elt Ideal) ℓ) (g : Dev Cert.InpKernelIdeal.nD → PrngReg)
    (m' : (ℓ : Loc Cert.InpReferenceIdeal.nD Cert.InpReferenceIdeal.τ Cert.InpReferenceIdeal.sig) → Buf (Elt Ideal) ℓ) (g' : Dev Cert.InpReferenceIdeal.nD → PrngReg), Pre_InpKernelIdeal m →
    (∀ c : Dev Cert.InpKernelIdeal.nD,
      m' ((c.tc : Thread Cert.InpReferenceIdeal.nD Cert.InpReferenceIdeal.τ).loc Cert.InpReferenceIdeal.main_arg0) = m ((c.tc : Thread Cert.InpKernelIdeal.nD Cert.InpKernelIdeal.τ).loc Cert.InpKernelIdeal.main_arg0)
      ∧ m' ((c.tc : Thread Cert.InpReferenceIdeal.nD Cert.InpReferenceIdeal.τ).loc Cert.InpReferenceIdeal.main_arg1) = m ((c.tc : Thread Cert.InpKernelIdeal.nD Cert.InpKernelIdeal.τ).loc Cert.InpKernelIdeal.main_arg1)) →
    ∃ (v0 : (c : Dev Cert.InpKernelIdeal.nD) → Buf (Elt Ideal) ((c.tc : Thread Cert.InpKernelIdeal.nD Cert.InpKernelIdeal.τ).loc Cert.InpKernelIdeal.main_v4_0)) (v1 : (c : Dev Cert.InpKernelIdeal.nD) → Buf (Elt Ideal) ((c.tc : Thread Cert.InpKernelIdeal.nD Cert.InpKernelIdeal.τ).loc Cert.InpKernelIdeal.main_v4_1)),
      θ_run (Cert.InpKernelIdeal.defs (F := Ideal)) (onTc (τ := Cert.InpKernelIdeal.τ) (Cert.InpKernelIdeal.main (F := Ideal))) ⟨m, fun _ => 0, g⟩ (fun r => ∀ c : Dev Cert.InpKernelIdeal.nD,
          r.2.mem ((c.tc : Thread Cert.InpKernelIdeal.nD Cert.InpKernelIdeal.τ).loc Cert.InpKernelIdeal.main_v4_0) = v0 c
          ∧ r.2.mem ((c.tc : Thread Cert.InpKernelIdeal.nD Cert.InpKernelIdeal.τ).loc Cert.InpKernelIdeal.main_v4_1) = v1 c
          ∧ r.2.mem ((c.tc : Thread Cert.InpKernelIdeal.nD Cert.InpKernelIdeal.τ).loc Cert.InpKernelIdeal.main_arg0) = m ((c.tc : Thread Cert.InpKernelIdeal.nD Cert.InpKernelIdeal.τ).loc Cert.InpKernelIdeal.main_arg0)
          ∧ r.2.mem ((c.tc : Thread Cert.InpKernelIdeal.nD Cert.InpKernelIdeal.τ).loc Cert.InpKernelIdeal.main_arg1) = m ((c.tc : Thread Cert.InpKernelIdeal.nD Cert.InpKernelIdeal.τ).loc Cert.InpKernelIdeal.main_arg1))
      ∧ θ_run (Cert.InpReferenceIdeal.defs (F := Ideal)) (onTc (τ := Cert.InpReferenceIdeal.τ) (Cert.InpReferenceIdeal.main (F := Ideal))) ⟨m', fun _ => 0, g'⟩ (fun r => ∀ c : Dev Cert.InpReferenceIdeal.nD,
          r.2.mem ((c.tc : Thread Cert.InpReferenceIdeal.nD Cert.InpReferenceIdeal.τ).loc Cert.InpReferenceIdeal.main_v2) = v0 c
          ∧ r.2.mem ((c.tc : Thread Cert.InpReferenceIdeal.nD Cert.InpReferenceIdeal.τ).loc Cert.InpReferenceIdeal.main_v3) = v1 c
          ∧ r.2.mem ((c.tc : Thread Cert.InpReferenceIdeal.nD Cert.InpReferenceIdeal.τ).loc Cert.InpReferenceIdeal.main_arg0) = m' ((c.tc : Thread Cert.InpReferenceIdeal.nD Cert.InpReferenceIdeal.τ).loc Cert.InpReferenceIdeal.main_arg0)
          ∧ r.2.mem ((c.tc : Thread Cert.InpReferenceIdeal.nD Cert.InpReferenceIdeal.τ).loc Cert.InpReferenceIdeal.main_arg1) = m' ((c.tc : Thread Cert.InpReferenceIdeal.nD Cert.InpReferenceIdeal.τ).loc Cert.InpReferenceIdeal.main_arg1))

def preserves_MobKernel_MobKernelIdeal : Prop :=
  True

def algebraic_MobKernelIdeal_MobReferenceIdeal [hMobKernelIdeal : Cert.MobKernelIdeal.Facts] [hMobReferenceIdeal : Cert.MobReferenceIdeal.Facts] : Prop :=
  ∀ (m : (ℓ : Loc Cert.MobKernelIdeal.nD Cert.MobKernelIdeal.τ Cert.MobKernelIdeal.sig) → Buf (Elt Ideal) ℓ) (g : Dev Cert.MobKernelIdeal.nD → PrngReg)
    (m' : (ℓ : Loc Cert.MobReferenceIdeal.nD Cert.MobReferenceIdeal.τ Cert.MobReferenceIdeal.sig) → Buf (Elt Ideal) ℓ) (g' : Dev Cert.MobReferenceIdeal.nD → PrngReg), Pre_MobKernelIdeal m →
    (∀ c : Dev Cert.MobKernelIdeal.nD,
      m' ((c.tc : Thread Cert.MobReferenceIdeal.nD Cert.MobReferenceIdeal.τ).loc Cert.MobReferenceIdeal.main_arg0) = m ((c.tc : Thread Cert.MobKernelIdeal.nD Cert.MobKernelIdeal.τ).loc Cert.MobKernelIdeal.main_arg0)
      ∧ m' ((c.tc : Thread Cert.MobReferenceIdeal.nD Cert.MobReferenceIdeal.τ).loc Cert.MobReferenceIdeal.main_arg1) = m ((c.tc : Thread Cert.MobKernelIdeal.nD Cert.MobKernelIdeal.τ).loc Cert.MobKernelIdeal.main_arg1)) →
    ∃ (v0 : (c : Dev Cert.MobKernelIdeal.nD) → Buf (Elt Ideal) ((c.tc : Thread Cert.MobKernelIdeal.nD Cert.MobKernelIdeal.τ).loc Cert.MobKernelIdeal.main_v3)),
      θ_run (Cert.MobKernelIdeal.defs (F := Ideal)) (onTc (τ := Cert.MobKernelIdeal.τ) (Cert.MobKernelIdeal.main (F := Ideal))) ⟨m, fun _ => 0, g⟩ (fun r => ∀ c : Dev Cert.MobKernelIdeal.nD,
          r.2.mem ((c.tc : Thread Cert.MobKernelIdeal.nD Cert.MobKernelIdeal.τ).loc Cert.MobKernelIdeal.main_v3) = v0 c
          ∧ r.2.mem ((c.tc : Thread Cert.MobKernelIdeal.nD Cert.MobKernelIdeal.τ).loc Cert.MobKernelIdeal.main_arg0) = m ((c.tc : Thread Cert.MobKernelIdeal.nD Cert.MobKernelIdeal.τ).loc Cert.MobKernelIdeal.main_arg0)
          ∧ r.2.mem ((c.tc : Thread Cert.MobKernelIdeal.nD Cert.MobKernelIdeal.τ).loc Cert.MobKernelIdeal.main_arg1) = m ((c.tc : Thread Cert.MobKernelIdeal.nD Cert.MobKernelIdeal.τ).loc Cert.MobKernelIdeal.main_arg1))
      ∧ θ_run (Cert.MobReferenceIdeal.defs (F := Ideal)) (onTc (τ := Cert.MobReferenceIdeal.τ) (Cert.MobReferenceIdeal.main (F := Ideal))) ⟨m', fun _ => 0, g'⟩ (fun r => ∀ c : Dev Cert.MobReferenceIdeal.nD,
          r.2.mem ((c.tc : Thread Cert.MobReferenceIdeal.nD Cert.MobReferenceIdeal.τ).loc Cert.MobReferenceIdeal.main_v4) = v0 c
          ∧ r.2.mem ((c.tc : Thread Cert.MobReferenceIdeal.nD Cert.MobReferenceIdeal.τ).loc Cert.MobReferenceIdeal.main_arg0) = m' ((c.tc : Thread Cert.MobReferenceIdeal.nD Cert.MobReferenceIdeal.τ).loc Cert.MobReferenceIdeal.main_arg0)
          ∧ r.2.mem ((c.tc : Thread Cert.MobReferenceIdeal.nD Cert.MobReferenceIdeal.τ).loc Cert.MobReferenceIdeal.main_arg1) = m' ((c.tc : Thread Cert.MobReferenceIdeal.nD Cert.MobReferenceIdeal.τ).loc Cert.MobReferenceIdeal.main_arg1))

def preserves_WgrKernel_WgrKernelIdeal : Prop :=
  True

def algebraic_WgrKernelIdeal_WgrReferenceIdeal [hWgrKernelIdeal : Cert.WgrKernelIdeal.Facts] [hWgrReferenceIdeal : Cert.WgrReferenceIdeal.Facts] : Prop :=
  ∀ (m : (ℓ : Loc Cert.WgrKernelIdeal.nD Cert.WgrKernelIdeal.τ Cert.WgrKernelIdeal.sig) → Buf (Elt Ideal) ℓ) (g : Dev Cert.WgrKernelIdeal.nD → PrngReg)
    (m' : (ℓ : Loc Cert.WgrReferenceIdeal.nD Cert.WgrReferenceIdeal.τ Cert.WgrReferenceIdeal.sig) → Buf (Elt Ideal) ℓ) (g' : Dev Cert.WgrReferenceIdeal.nD → PrngReg), Pre_WgrKernelIdeal m →
    (∀ c : Dev Cert.WgrKernelIdeal.nD,
      m' ((c.tc : Thread Cert.WgrReferenceIdeal.nD Cert.WgrReferenceIdeal.τ).loc Cert.WgrReferenceIdeal.main_arg0) = m ((c.tc : Thread Cert.WgrKernelIdeal.nD Cert.WgrKernelIdeal.τ).loc Cert.WgrKernelIdeal.main_arg0)
      ∧ m' ((c.tc : Thread Cert.WgrReferenceIdeal.nD Cert.WgrReferenceIdeal.τ).loc Cert.WgrReferenceIdeal.main_arg1) = m ((c.tc : Thread Cert.WgrKernelIdeal.nD Cert.WgrKernelIdeal.τ).loc Cert.WgrKernelIdeal.main_arg1)) →
    ∃ (v0 : (c : Dev Cert.WgrKernelIdeal.nD) → Buf (Elt Ideal) ((c.tc : Thread Cert.WgrKernelIdeal.nD Cert.WgrKernelIdeal.τ).loc Cert.WgrKernelIdeal.main_v4)),
      θ_run (Cert.WgrKernelIdeal.defs (F := Ideal)) (onTc (τ := Cert.WgrKernelIdeal.τ) (Cert.WgrKernelIdeal.main (F := Ideal))) ⟨m, fun _ => 0, g⟩ (fun r => ∀ c : Dev Cert.WgrKernelIdeal.nD,
          r.2.mem ((c.tc : Thread Cert.WgrKernelIdeal.nD Cert.WgrKernelIdeal.τ).loc Cert.WgrKernelIdeal.main_v4) = v0 c
          ∧ r.2.mem ((c.tc : Thread Cert.WgrKernelIdeal.nD Cert.WgrKernelIdeal.τ).loc Cert.WgrKernelIdeal.main_arg0) = m ((c.tc : Thread Cert.WgrKernelIdeal.nD Cert.WgrKernelIdeal.τ).loc Cert.WgrKernelIdeal.main_arg0)
          ∧ r.2.mem ((c.tc : Thread Cert.WgrKernelIdeal.nD Cert.WgrKernelIdeal.τ).loc Cert.WgrKernelIdeal.main_arg1) = m ((c.tc : Thread Cert.WgrKernelIdeal.nD Cert.WgrKernelIdeal.τ).loc Cert.WgrKernelIdeal.main_arg1))
      ∧ θ_run (Cert.WgrReferenceIdeal.defs (F := Ideal)) (onTc (τ := Cert.WgrReferenceIdeal.τ) (Cert.WgrReferenceIdeal.main (F := Ideal))) ⟨m', fun _ => 0, g'⟩ (fun r => ∀ c : Dev Cert.WgrReferenceIdeal.nD,
          r.2.mem ((c.tc : Thread Cert.WgrReferenceIdeal.nD Cert.WgrReferenceIdeal.τ).loc Cert.WgrReferenceIdeal.main_v5) = v0 c
          ∧ r.2.mem ((c.tc : Thread Cert.WgrReferenceIdeal.nD Cert.WgrReferenceIdeal.τ).loc Cert.WgrReferenceIdeal.main_arg0) = m' ((c.tc : Thread Cert.WgrReferenceIdeal.nD Cert.WgrReferenceIdeal.τ).loc Cert.WgrReferenceIdeal.main_arg0)
          ∧ r.2.mem ((c.tc : Thread Cert.WgrReferenceIdeal.nD Cert.WgrReferenceIdeal.τ).loc Cert.WgrReferenceIdeal.main_arg1) = m' ((c.tc : Thread Cert.WgrReferenceIdeal.nD Cert.WgrReferenceIdeal.τ).loc Cert.WgrReferenceIdeal.main_arg1))

def preserves_ResKernel_ResKernelIdeal : Prop :=
  True

def algebraic_ResKernelIdeal_ResReferenceIdeal [hResKernelIdeal : Cert.ResKernelIdeal.Facts] [hResReferenceIdeal : Cert.ResReferenceIdeal.Facts] : Prop :=
  ∀ (m : (ℓ : Loc Cert.ResKernelIdeal.nD Cert.ResKernelIdeal.τ Cert.ResKernelIdeal.sig) → Buf (Elt Ideal) ℓ) (g : Dev Cert.ResKernelIdeal.nD → PrngReg)
    (m' : (ℓ : Loc Cert.ResReferenceIdeal.nD Cert.ResReferenceIdeal.τ Cert.ResReferenceIdeal.sig) → Buf (Elt Ideal) ℓ) (g' : Dev Cert.ResReferenceIdeal.nD → PrngReg), Pre_ResKernelIdeal m →
    (∀ c : Dev Cert.ResKernelIdeal.nD,
      m' ((c.tc : Thread Cert.ResReferenceIdeal.nD Cert.ResReferenceIdeal.τ).loc Cert.ResReferenceIdeal.main_arg0) = m ((c.tc : Thread Cert.ResKernelIdeal.nD Cert.ResKernelIdeal.τ).loc Cert.ResKernelIdeal.main_arg0)
      ∧ m' ((c.tc : Thread Cert.ResReferenceIdeal.nD Cert.ResReferenceIdeal.τ).loc Cert.ResReferenceIdeal.main_arg1) = m ((c.tc : Thread Cert.ResKernelIdeal.nD Cert.ResKernelIdeal.τ).loc Cert.ResKernelIdeal.main_arg1)
      ∧ m' ((c.tc : Thread Cert.ResReferenceIdeal.nD Cert.ResReferenceIdeal.τ).loc Cert.ResReferenceIdeal.main_arg2) = m ((c.tc : Thread Cert.ResKernelIdeal.nD Cert.ResKernelIdeal.τ).loc Cert.ResKernelIdeal.main_arg2)) →
    ∃ (v0 : (c : Dev Cert.ResKernelIdeal.nD) → Buf (Elt Ideal) ((c.tc : Thread Cert.ResKernelIdeal.nD Cert.ResKernelIdeal.τ).loc Cert.ResKernelIdeal.main_v6)),
      θ_run (Cert.ResKernelIdeal.defs (F := Ideal)) (onTc (τ := Cert.ResKernelIdeal.τ) (Cert.ResKernelIdeal.main (F := Ideal))) ⟨m, fun _ => 0, g⟩ (fun r => ∀ c : Dev Cert.ResKernelIdeal.nD,
          r.2.mem ((c.tc : Thread Cert.ResKernelIdeal.nD Cert.ResKernelIdeal.τ).loc Cert.ResKernelIdeal.main_v6) = v0 c
          ∧ r.2.mem ((c.tc : Thread Cert.ResKernelIdeal.nD Cert.ResKernelIdeal.τ).loc Cert.ResKernelIdeal.main_arg0) = m ((c.tc : Thread Cert.ResKernelIdeal.nD Cert.ResKernelIdeal.τ).loc Cert.ResKernelIdeal.main_arg0)
          ∧ r.2.mem ((c.tc : Thread Cert.ResKernelIdeal.nD Cert.ResKernelIdeal.τ).loc Cert.ResKernelIdeal.main_arg1) = m ((c.tc : Thread Cert.ResKernelIdeal.nD Cert.ResKernelIdeal.τ).loc Cert.ResKernelIdeal.main_arg1)
          ∧ r.2.mem ((c.tc : Thread Cert.ResKernelIdeal.nD Cert.ResKernelIdeal.τ).loc Cert.ResKernelIdeal.main_arg2) = m ((c.tc : Thread Cert.ResKernelIdeal.nD Cert.ResKernelIdeal.τ).loc Cert.ResKernelIdeal.main_arg2))
      ∧ θ_run (Cert.ResReferenceIdeal.defs (F := Ideal)) (onTc (τ := Cert.ResReferenceIdeal.τ) (Cert.ResReferenceIdeal.main (F := Ideal))) ⟨m', fun _ => 0, g'⟩ (fun r => ∀ c : Dev Cert.ResReferenceIdeal.nD,
          r.2.mem ((c.tc : Thread Cert.ResReferenceIdeal.nD Cert.ResReferenceIdeal.τ).loc Cert.ResReferenceIdeal.main_v5) = v0 c
          ∧ r.2.mem ((c.tc : Thread Cert.ResReferenceIdeal.nD Cert.ResReferenceIdeal.τ).loc Cert.ResReferenceIdeal.main_arg0) = m' ((c.tc : Thread Cert.ResReferenceIdeal.nD Cert.ResReferenceIdeal.τ).loc Cert.ResReferenceIdeal.main_arg0)
          ∧ r.2.mem ((c.tc : Thread Cert.ResReferenceIdeal.nD Cert.ResReferenceIdeal.τ).loc Cert.ResReferenceIdeal.main_arg1) = m' ((c.tc : Thread Cert.ResReferenceIdeal.nD Cert.ResReferenceIdeal.τ).loc Cert.ResReferenceIdeal.main_arg1)
          ∧ r.2.mem ((c.tc : Thread Cert.ResReferenceIdeal.nD Cert.ResReferenceIdeal.τ).loc Cert.ResReferenceIdeal.main_arg2) = m' ((c.tc : Thread Cert.ResReferenceIdeal.nD Cert.ResReferenceIdeal.τ).loc Cert.ResReferenceIdeal.main_arg2))

def preserves_AdwKernel_AdwKernelIdeal : Prop :=
  True

def algebraic_AdwKernelIdeal_AdwReferenceIdeal [hAdwKernelIdeal : Cert.AdwKernelIdeal.Facts] [hAdwReferenceIdeal : Cert.AdwReferenceIdeal.Facts] : Prop :=
  ∀ (m : (ℓ : Loc Cert.AdwKernelIdeal.nD Cert.AdwKernelIdeal.τ Cert.AdwKernelIdeal.sig) → Buf (Elt Ideal) ℓ) (g : Dev Cert.AdwKernelIdeal.nD → PrngReg)
    (m' : (ℓ : Loc Cert.AdwReferenceIdeal.nD Cert.AdwReferenceIdeal.τ Cert.AdwReferenceIdeal.sig) → Buf (Elt Ideal) ℓ) (g' : Dev Cert.AdwReferenceIdeal.nD → PrngReg), Pre_AdwKernelIdeal m →
    (∀ c : Dev Cert.AdwKernelIdeal.nD,
      m' ((c.tc : Thread Cert.AdwReferenceIdeal.nD Cert.AdwReferenceIdeal.τ).loc Cert.AdwReferenceIdeal.main_arg0) = m ((c.tc : Thread Cert.AdwKernelIdeal.nD Cert.AdwKernelIdeal.τ).loc Cert.AdwKernelIdeal.main_arg0)
      ∧ m' ((c.tc : Thread Cert.AdwReferenceIdeal.nD Cert.AdwReferenceIdeal.τ).loc Cert.AdwReferenceIdeal.main_arg1) = m ((c.tc : Thread Cert.AdwKernelIdeal.nD Cert.AdwKernelIdeal.τ).loc Cert.AdwKernelIdeal.main_arg1)
      ∧ m' ((c.tc : Thread Cert.AdwReferenceIdeal.nD Cert.AdwReferenceIdeal.τ).loc Cert.AdwReferenceIdeal.main_arg2) = m ((c.tc : Thread Cert.AdwKernelIdeal.nD Cert.AdwKernelIdeal.τ).loc Cert.AdwKernelIdeal.main_arg2)
      ∧ m' ((c.tc : Thread Cert.AdwReferenceIdeal.nD Cert.AdwReferenceIdeal.τ).loc Cert.AdwReferenceIdeal.main_arg3) = m ((c.tc : Thread Cert.AdwKernelIdeal.nD Cert.AdwKernelIdeal.τ).loc Cert.AdwKernelIdeal.main_arg3)) →
    ∃ (v0 : (c : Dev Cert.AdwKernelIdeal.nD) → Buf (Elt Ideal) ((c.tc : Thread Cert.AdwKernelIdeal.nD Cert.AdwKernelIdeal.τ).loc Cert.AdwKernelIdeal.main_v0_0)) (v1 : (c : Dev Cert.AdwKernelIdeal.nD) → Buf (Elt Ideal) ((c.tc : Thread Cert.AdwKernelIdeal.nD Cert.AdwKernelIdeal.τ).loc Cert.AdwKernelIdeal.main_v0_1)) (v2 : (c : Dev Cert.AdwKernelIdeal.nD) → Buf (Elt Ideal) ((c.tc : Thread Cert.AdwKernelIdeal.nD Cert.AdwKernelIdeal.τ).loc Cert.AdwKernelIdeal.main_v0_2)),
      θ_run (Cert.AdwKernelIdeal.defs (F := Ideal)) (onTc (τ := Cert.AdwKernelIdeal.τ) (Cert.AdwKernelIdeal.main (F := Ideal))) ⟨m, fun _ => 0, g⟩ (fun r => ∀ c : Dev Cert.AdwKernelIdeal.nD,
          r.2.mem ((c.tc : Thread Cert.AdwKernelIdeal.nD Cert.AdwKernelIdeal.τ).loc Cert.AdwKernelIdeal.main_v0_0) = v0 c
          ∧ r.2.mem ((c.tc : Thread Cert.AdwKernelIdeal.nD Cert.AdwKernelIdeal.τ).loc Cert.AdwKernelIdeal.main_v0_1) = v1 c
          ∧ r.2.mem ((c.tc : Thread Cert.AdwKernelIdeal.nD Cert.AdwKernelIdeal.τ).loc Cert.AdwKernelIdeal.main_v0_2) = v2 c
          ∧ r.2.mem ((c.tc : Thread Cert.AdwKernelIdeal.nD Cert.AdwKernelIdeal.τ).loc Cert.AdwKernelIdeal.main_arg0) = m ((c.tc : Thread Cert.AdwKernelIdeal.nD Cert.AdwKernelIdeal.τ).loc Cert.AdwKernelIdeal.main_arg0)
          ∧ r.2.mem ((c.tc : Thread Cert.AdwKernelIdeal.nD Cert.AdwKernelIdeal.τ).loc Cert.AdwKernelIdeal.main_arg1) = m ((c.tc : Thread Cert.AdwKernelIdeal.nD Cert.AdwKernelIdeal.τ).loc Cert.AdwKernelIdeal.main_arg1)
          ∧ r.2.mem ((c.tc : Thread Cert.AdwKernelIdeal.nD Cert.AdwKernelIdeal.τ).loc Cert.AdwKernelIdeal.main_arg2) = m ((c.tc : Thread Cert.AdwKernelIdeal.nD Cert.AdwKernelIdeal.τ).loc Cert.AdwKernelIdeal.main_arg2)
          ∧ r.2.mem ((c.tc : Thread Cert.AdwKernelIdeal.nD Cert.AdwKernelIdeal.τ).loc Cert.AdwKernelIdeal.main_arg3) = m ((c.tc : Thread Cert.AdwKernelIdeal.nD Cert.AdwKernelIdeal.τ).loc Cert.AdwKernelIdeal.main_arg3))
      ∧ θ_run (Cert.AdwReferenceIdeal.defs (F := Ideal)) (onTc (τ := Cert.AdwReferenceIdeal.τ) (Cert.AdwReferenceIdeal.main (F := Ideal))) ⟨m', fun _ => 0, g'⟩ (fun r => ∀ c : Dev Cert.AdwReferenceIdeal.nD,
          r.2.mem ((c.tc : Thread Cert.AdwReferenceIdeal.nD Cert.AdwReferenceIdeal.τ).loc Cert.AdwReferenceIdeal.main_v23) = v0 c
          ∧ r.2.mem ((c.tc : Thread Cert.AdwReferenceIdeal.nD Cert.AdwReferenceIdeal.τ).loc Cert.AdwReferenceIdeal.main_v4) = v1 c
          ∧ r.2.mem ((c.tc : Thread Cert.AdwReferenceIdeal.nD Cert.AdwReferenceIdeal.τ).loc Cert.AdwReferenceIdeal.main_v10) = v2 c
          ∧ r.2.mem ((c.tc : Thread Cert.AdwReferenceIdeal.nD Cert.AdwReferenceIdeal.τ).loc Cert.AdwReferenceIdeal.main_arg0) = m' ((c.tc : Thread Cert.AdwReferenceIdeal.nD Cert.AdwReferenceIdeal.τ).loc Cert.AdwReferenceIdeal.main_arg0)
          ∧ r.2.mem ((c.tc : Thread Cert.AdwReferenceIdeal.nD Cert.AdwReferenceIdeal.τ).loc Cert.AdwReferenceIdeal.main_arg1) = m' ((c.tc : Thread Cert.AdwReferenceIdeal.nD Cert.AdwReferenceIdeal.τ).loc Cert.AdwReferenceIdeal.main_arg1)
          ∧ r.2.mem ((c.tc : Thread Cert.AdwReferenceIdeal.nD Cert.AdwReferenceIdeal.τ).loc Cert.AdwReferenceIdeal.main_arg2) = m' ((c.tc : Thread Cert.AdwReferenceIdeal.nD Cert.AdwReferenceIdeal.τ).loc Cert.AdwReferenceIdeal.main_arg2)
          ∧ r.2.mem ((c.tc : Thread Cert.AdwReferenceIdeal.nD Cert.AdwReferenceIdeal.τ).loc Cert.AdwReferenceIdeal.main_arg3) = m' ((c.tc : Thread Cert.AdwReferenceIdeal.nD Cert.AdwReferenceIdeal.τ).loc Cert.AdwReferenceIdeal.main_arg3))

def preserves_ChsKernel_ChsKernelIdeal : Prop :=
  True

def algebraic_ChsKernelIdeal_ChsReferenceIdeal [hChsKernelIdeal : Cert.ChsKernelIdeal.Facts] [hChsReferenceIdeal : Cert.ChsReferenceIdeal.Facts] : Prop :=
  ∀ (m : (ℓ : Loc Cert.ChsKernelIdeal.nD Cert.ChsKernelIdeal.τ Cert.ChsKernelIdeal.sig) → Buf (Elt Ideal) ℓ) (g : Dev Cert.ChsKernelIdeal.nD → PrngReg)
    (m' : (ℓ : Loc Cert.ChsReferenceIdeal.nD Cert.ChsReferenceIdeal.τ Cert.ChsReferenceIdeal.sig) → Buf (Elt Ideal) ℓ) (g' : Dev Cert.ChsReferenceIdeal.nD → PrngReg), Pre_ChsKernelIdeal m →
    (∀ c : Dev Cert.ChsKernelIdeal.nD,
      m' ((c.tc : Thread Cert.ChsReferenceIdeal.nD Cert.ChsReferenceIdeal.τ).loc Cert.ChsReferenceIdeal.main_arg0) = m ((c.tc : Thread Cert.ChsKernelIdeal.nD Cert.ChsKernelIdeal.τ).loc Cert.ChsKernelIdeal.main_arg0)
      ∧ m' ((c.tc : Thread Cert.ChsReferenceIdeal.nD Cert.ChsReferenceIdeal.τ).loc Cert.ChsReferenceIdeal.main_arg1) = m ((c.tc : Thread Cert.ChsKernelIdeal.nD Cert.ChsKernelIdeal.τ).loc Cert.ChsKernelIdeal.main_arg1)) →
    ∃ (v0 : (c : Dev Cert.ChsKernelIdeal.nD) → Buf (Elt Ideal) ((c.tc : Thread Cert.ChsKernelIdeal.nD Cert.ChsKernelIdeal.τ).loc Cert.ChsKernelIdeal.main_v1)),
      θ_run (Cert.ChsKernelIdeal.defs (F := Ideal)) (onTc (τ := Cert.ChsKernelIdeal.τ) (Cert.ChsKernelIdeal.main (F := Ideal))) ⟨m, fun _ => 0, g⟩ (fun r => ∀ c : Dev Cert.ChsKernelIdeal.nD,
          r.2.mem ((c.tc : Thread Cert.ChsKernelIdeal.nD Cert.ChsKernelIdeal.τ).loc Cert.ChsKernelIdeal.main_v1) = v0 c
          ∧ r.2.mem ((c.tc : Thread Cert.ChsKernelIdeal.nD Cert.ChsKernelIdeal.τ).loc Cert.ChsKernelIdeal.main_arg0) = m ((c.tc : Thread Cert.ChsKernelIdeal.nD Cert.ChsKernelIdeal.τ).loc Cert.ChsKernelIdeal.main_arg0)
          ∧ r.2.mem ((c.tc : Thread Cert.ChsKernelIdeal.nD Cert.ChsKernelIdeal.τ).loc Cert.ChsKernelIdeal.main_arg1) = m ((c.tc : Thread Cert.ChsKernelIdeal.nD Cert.ChsKernelIdeal.τ).loc Cert.ChsKernelIdeal.main_arg1))
      ∧ θ_run (Cert.ChsReferenceIdeal.defs (F := Ideal)) (onTc (τ := Cert.ChsReferenceIdeal.τ) (Cert.ChsReferenceIdeal.main (F := Ideal))) ⟨m', fun _ => 0, g'⟩ (fun r => ∀ c : Dev Cert.ChsReferenceIdeal.nD,
          r.2.mem ((c.tc : Thread Cert.ChsReferenceIdeal.nD Cert.ChsReferenceIdeal.τ).loc Cert.ChsReferenceIdeal.main_v2) = v0 c
          ∧ r.2.mem ((c.tc : Thread Cert.ChsReferenceIdeal.nD Cert.ChsReferenceIdeal.τ).loc Cert.ChsReferenceIdeal.main_arg0) = m' ((c.tc : Thread Cert.ChsReferenceIdeal.nD Cert.ChsReferenceIdeal.τ).loc Cert.ChsReferenceIdeal.main_arg0)
          ∧ r.2.mem ((c.tc : Thread Cert.ChsReferenceIdeal.nD Cert.ChsReferenceIdeal.τ).loc Cert.ChsReferenceIdeal.main_arg1) = m' ((c.tc : Thread Cert.ChsReferenceIdeal.nD Cert.ChsReferenceIdeal.τ).loc Cert.ChsReferenceIdeal.main_arg1))

def preserves_OwnKernel_OwnKernelIdeal : Prop :=
  True

def algebraic_OwnKernelIdeal_OwnReferenceIdeal [hOwnKernelIdeal : Cert.OwnKernelIdeal.Facts] [hOwnReferenceIdeal : Cert.OwnReferenceIdeal.Facts] : Prop :=
  ∀ (m : (ℓ : Loc Cert.OwnKernelIdeal.nD Cert.OwnKernelIdeal.τ Cert.OwnKernelIdeal.sig) → Buf (Elt Ideal) ℓ) (g : Dev Cert.OwnKernelIdeal.nD → PrngReg)
    (m' : (ℓ : Loc Cert.OwnReferenceIdeal.nD Cert.OwnReferenceIdeal.τ Cert.OwnReferenceIdeal.sig) → Buf (Elt Ideal) ℓ) (g' : Dev Cert.OwnReferenceIdeal.nD → PrngReg), Pre_OwnKernelIdeal m →
    (∀ c : Dev Cert.OwnKernelIdeal.nD,
      m' ((c.tc : Thread Cert.OwnReferenceIdeal.nD Cert.OwnReferenceIdeal.τ).loc Cert.OwnReferenceIdeal.main_arg0) = m ((c.tc : Thread Cert.OwnKernelIdeal.nD Cert.OwnKernelIdeal.τ).loc Cert.OwnKernelIdeal.main_arg0)) →
    ∃ (v0 : (c : Dev Cert.OwnKernelIdeal.nD) → Buf (Elt Ideal) ((c.tc : Thread Cert.OwnKernelIdeal.nD Cert.OwnKernelIdeal.τ).loc Cert.OwnKernelIdeal.main_v3)),
      θ_run (Cert.OwnKernelIdeal.defs (F := Ideal)) (onTc (τ := Cert.OwnKernelIdeal.τ) (Cert.OwnKernelIdeal.main (F := Ideal))) ⟨m, fun _ => 0, g⟩ (fun r => ∀ c : Dev Cert.OwnKernelIdeal.nD,
          r.2.mem ((c.tc : Thread Cert.OwnKernelIdeal.nD Cert.OwnKernelIdeal.τ).loc Cert.OwnKernelIdeal.main_v3) = v0 c
          ∧ r.2.mem ((c.tc : Thread Cert.OwnKernelIdeal.nD Cert.OwnKernelIdeal.τ).loc Cert.OwnKernelIdeal.main_arg0) = m ((c.tc : Thread Cert.OwnKernelIdeal.nD Cert.OwnKernelIdeal.τ).loc Cert.OwnKernelIdeal.main_arg0))
      ∧ θ_run (Cert.OwnReferenceIdeal.defs (F := Ideal)) (onTc (τ := Cert.OwnReferenceIdeal.τ) (Cert.OwnReferenceIdeal.main (F := Ideal))) ⟨m', fun _ => 0, g'⟩ (fun r => ∀ c : Dev Cert.OwnReferenceIdeal.nD,
          r.2.mem ((c.tc : Thread Cert.OwnReferenceIdeal.nD Cert.OwnReferenceIdeal.τ).loc Cert.OwnReferenceIdeal.main_v0) = v0 c
          ∧ r.2.mem ((c.tc : Thread Cert.OwnReferenceIdeal.nD Cert.OwnReferenceIdeal.τ).loc Cert.OwnReferenceIdeal.main_arg0) = m' ((c.tc : Thread Cert.OwnReferenceIdeal.nD Cert.OwnReferenceIdeal.τ).loc Cert.OwnReferenceIdeal.main_arg0))

def preserves_TotKernel_TotKernelIdeal : Prop :=
  True

def algebraic_TotKernelIdeal_TotReferenceIdeal [hTotKernelIdeal : Cert.TotKernelIdeal.Facts] [hTotReferenceIdeal : Cert.TotReferenceIdeal.Facts] : Prop :=
  ∀ (m : (ℓ : Loc Cert.TotKernelIdeal.nD Cert.TotKernelIdeal.τ Cert.TotKernelIdeal.sig) → Buf (Elt Ideal) ℓ) (g : Dev Cert.TotKernelIdeal.nD → PrngReg)
    (m' : (ℓ : Loc Cert.TotReferenceIdeal.nD Cert.TotReferenceIdeal.τ Cert.TotReferenceIdeal.sig) → Buf (Elt Ideal) ℓ) (g' : Dev Cert.TotReferenceIdeal.nD → PrngReg), Pre_TotKernelIdeal m →
    (∀ c : Dev Cert.TotKernelIdeal.nD,
      m' ((c.tc : Thread Cert.TotReferenceIdeal.nD Cert.TotReferenceIdeal.τ).loc Cert.TotReferenceIdeal.main_arg0) = m ((c.tc : Thread Cert.TotKernelIdeal.nD Cert.TotKernelIdeal.τ).loc Cert.TotKernelIdeal.main_arg0)
      ∧ m' ((c.tc : Thread Cert.TotReferenceIdeal.nD Cert.TotReferenceIdeal.τ).loc Cert.TotReferenceIdeal.main_arg1) = m ((c.tc : Thread Cert.TotKernelIdeal.nD Cert.TotKernelIdeal.τ).loc Cert.TotKernelIdeal.main_arg1)) →
    ∃ (v0 : (c : Dev Cert.TotKernelIdeal.nD) → Buf (Elt Ideal) ((c.tc : Thread Cert.TotKernelIdeal.nD Cert.TotKernelIdeal.τ).loc Cert.TotKernelIdeal.main_v6)),
      θ_run (Cert.TotKernelIdeal.defs (F := Ideal)) (onTc (τ := Cert.TotKernelIdeal.τ) (Cert.TotKernelIdeal.main (F := Ideal))) ⟨m, fun _ => 0, g⟩ (fun r => ∀ c : Dev Cert.TotKernelIdeal.nD,
          r.2.mem ((c.tc : Thread Cert.TotKernelIdeal.nD Cert.TotKernelIdeal.τ).loc Cert.TotKernelIdeal.main_v6) = v0 c
          ∧ r.2.mem ((c.tc : Thread Cert.TotKernelIdeal.nD Cert.TotKernelIdeal.τ).loc Cert.TotKernelIdeal.main_arg0) = m ((c.tc : Thread Cert.TotKernelIdeal.nD Cert.TotKernelIdeal.τ).loc Cert.TotKernelIdeal.main_arg0)
          ∧ r.2.mem ((c.tc : Thread Cert.TotKernelIdeal.nD Cert.TotKernelIdeal.τ).loc Cert.TotKernelIdeal.main_arg1) = m ((c.tc : Thread Cert.TotKernelIdeal.nD Cert.TotKernelIdeal.τ).loc Cert.TotKernelIdeal.main_arg1))
      ∧ θ_run (Cert.TotReferenceIdeal.defs (F := Ideal)) (onTc (τ := Cert.TotReferenceIdeal.τ) (Cert.TotReferenceIdeal.main (F := Ideal))) ⟨m', fun _ => 0, g'⟩ (fun r => ∀ c : Dev Cert.TotReferenceIdeal.nD,
          r.2.mem ((c.tc : Thread Cert.TotReferenceIdeal.nD Cert.TotReferenceIdeal.τ).loc Cert.TotReferenceIdeal.main_v7) = v0 c
          ∧ r.2.mem ((c.tc : Thread Cert.TotReferenceIdeal.nD Cert.TotReferenceIdeal.τ).loc Cert.TotReferenceIdeal.main_arg0) = m' ((c.tc : Thread Cert.TotReferenceIdeal.nD Cert.TotReferenceIdeal.τ).loc Cert.TotReferenceIdeal.main_arg0)
          ∧ r.2.mem ((c.tc : Thread Cert.TotReferenceIdeal.nD Cert.TotReferenceIdeal.τ).loc Cert.TotReferenceIdeal.main_arg1) = m' ((c.tc : Thread Cert.TotReferenceIdeal.nD Cert.TotReferenceIdeal.τ).loc Cert.TotReferenceIdeal.main_arg1))

def Claim : Prop :=
  ∃ (hFfnKernel : Cert.FfnKernel.Facts) (hFfnKernelIdeal : Cert.FfnKernelIdeal.Facts) (hFfnReferenceIdeal : Cert.FfnReferenceIdeal.Facts) (hAttnKernel : Cert.AttnKernel.Facts) (hAttnKernelIdeal : Cert.AttnKernelIdeal.Facts) (hAttnReferenceIdeal : Cert.AttnReferenceIdeal.Facts) (hPoolKernel : Cert.PoolKernel.Facts) (hPoolKernelIdeal : Cert.PoolKernelIdeal.Facts) (hPoolReferenceIdeal : Cert.PoolReferenceIdeal.Facts) (hLossKernel : Cert.LossKernel.Facts) (hLossKernelIdeal : Cert.LossKernelIdeal.Facts) (hLossReferenceIdeal : Cert.LossReferenceIdeal.Facts) (hMixKernel : Cert.MixKernel.Facts) (hMixKernelIdeal : Cert.MixKernelIdeal.Facts) (hMixReferenceIdeal : Cert.MixReferenceIdeal.Facts) (hNormKernel : Cert.NormKernel.Facts) (hNormKernelIdeal : Cert.NormKernelIdeal.Facts) (hNormReferenceIdeal : Cert.NormReferenceIdeal.Facts) (hRmsKernel : Cert.RmsKernel.Facts) (hRmsKernelIdeal : Cert.RmsKernelIdeal.Facts) (hRmsReferenceIdeal : Cert.RmsReferenceIdeal.Facts) (hPlfKernel : Cert.PlfKernel.Facts) (hPlfKernelIdeal : Cert.PlfKernelIdeal.Facts) (hPlfReferenceIdeal : Cert.PlfReferenceIdeal.Facts) (hInpKernel : Cert.InpKernel.Facts) (hInpKernelIdeal : Cert.InpKernelIdeal.Facts) (hInpReferenceIdeal : Cert.InpReferenceIdeal.Facts) (hMobKernel : Cert.MobKernel.Facts) (hMobKernelIdeal : Cert.MobKernelIdeal.Facts) (hMobReferenceIdeal : Cert.MobReferenceIdeal.Facts) (hWgrKernel : Cert.WgrKernel.Facts) (hWgrKernelIdeal : Cert.WgrKernelIdeal.Facts) (hWgrReferenceIdeal : Cert.WgrReferenceIdeal.Facts) (hResKernel : Cert.ResKernel.Facts) (hResKernelIdeal : Cert.ResKernelIdeal.Facts) (hResReferenceIdeal : Cert.ResReferenceIdeal.Facts) (hAdwKernel : Cert.AdwKernel.Facts) (hAdwKernelIdeal : Cert.AdwKernelIdeal.Facts) (hAdwReferenceIdeal : Cert.AdwReferenceIdeal.Facts) (hChsKernel : Cert.ChsKernel.Facts) (hChsKernelIdeal : Cert.ChsKernelIdeal.Facts) (hChsReferenceIdeal : Cert.ChsReferenceIdeal.Facts) (hOwnKernel : Cert.OwnKernel.Facts) (hOwnKernelIdeal : Cert.OwnKernelIdeal.Facts) (hOwnReferenceIdeal : Cert.OwnReferenceIdeal.Facts) (hTotKernel : Cert.TotKernel.Facts) (hTotKernelIdeal : Cert.TotKernelIdeal.Facts) (hTotReferenceIdeal : Cert.TotReferenceIdeal.Facts) (hPre_ffn_finite : Cert.Pre_ffn_finite.Facts) (hPre_attn_finite : Cert.Pre_attn_finite.Facts) (hPre_pool_finite : Cert.Pre_pool_finite.Facts) (hPre_loss_finite : Cert.Pre_loss_finite.Facts) (hPre_mix_finite : Cert.Pre_mix_finite.Facts) (hPre_norm_finite : Cert.Pre_norm_finite.Facts) (hPre_plf_finite : Cert.Pre_plf_finite.Facts),
    quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_AttnKernel (hAttnKernel := hAttnKernel)
    ∧ quiescent_AttnKernelIdeal (hAttnKernelIdeal := hAttnKernelIdeal)
    ∧ quiescent_AttnKernelIdeal_pre_attn_finite (hAttnKernelIdeal := hAttnKernelIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_PoolKernel (hPoolKernel := hPoolKernel)
    ∧ quiescent_PoolKernelIdeal (hPoolKernelIdeal := hPoolKernelIdeal)
    ∧ quiescent_PoolKernelIdeal_pre_pool_finite (hPoolKernelIdeal := hPoolKernelIdeal) (hPre_pool_finite := hPre_pool_finite)
    ∧ quiescent_PoolReferenceIdeal (hPoolReferenceIdeal := hPoolReferenceIdeal)
    ∧ quiescent_PoolReferenceIdeal_pre_pool_finite (hPoolReferenceIdeal := hPoolReferenceIdeal) (hPre_pool_finite := hPre_pool_finite)
    ∧ quiescent_LossKernel (hLossKernel := hLossKernel)
    ∧ quiescent_LossKernelIdeal (hLossKernelIdeal := hLossKernelIdeal)
    ∧ quiescent_LossKernelIdeal_pre_loss_finite (hLossKernelIdeal := hLossKernelIdeal) (hPre_loss_finite := hPre_loss_finite)
    ∧ quiescent_LossReferenceIdeal (hLossReferenceIdeal := hLossReferenceIdeal)
    ∧ quiescent_LossReferenceIdeal_pre_loss_finite (hLossReferenceIdeal := hLossReferenceIdeal) (hPre_loss_finite := hPre_loss_finite)
    ∧ quiescent_MixKernel (hMixKernel := hMixKernel)
    ∧ quiescent_MixKernelIdeal (hMixKernelIdeal := hMixKernelIdeal)
    ∧ quiescent_MixKernelIdeal_pre_mix_finite (hMixKernelIdeal := hMixKernelIdeal) (hPre_mix_finite := hPre_mix_finite)
    ∧ quiescent_MixReferenceIdeal (hMixReferenceIdeal := hMixReferenceIdeal)
    ∧ quiescent_MixReferenceIdeal_pre_mix_finite (hMixReferenceIdeal := hMixReferenceIdeal) (hPre_mix_finite := hPre_mix_finite)
    ∧ quiescent_NormKernel (hNormKernel := hNormKernel)
    ∧ quiescent_NormKernelIdeal (hNormKernelIdeal := hNormKernelIdeal)
    ∧ quiescent_NormKernelIdeal_pre_norm_finite (hNormKernelIdeal := hNormKernelIdeal) (hPre_norm_finite := hPre_norm_finite)
    ∧ quiescent_NormReferenceIdeal (hNormReferenceIdeal := hNormReferenceIdeal)
    ∧ quiescent_NormReferenceIdeal_pre_norm_finite (hNormReferenceIdeal := hNormReferenceIdeal) (hPre_norm_finite := hPre_norm_finite)
    ∧ quiescent_RmsKernel (hRmsKernel := hRmsKernel)
    ∧ quiescent_RmsKernelIdeal (hRmsKernelIdeal := hRmsKernelIdeal)
    ∧ quiescent_RmsReferenceIdeal (hRmsReferenceIdeal := hRmsReferenceIdeal)
    ∧ quiescent_PlfKernel (hPlfKernel := hPlfKernel)
    ∧ quiescent_PlfKernelIdeal (hPlfKernelIdeal := hPlfKernelIdeal)
    ∧ quiescent_PlfKernelIdeal_pre_plf_finite (hPlfKernelIdeal := hPlfKernelIdeal) (hPre_plf_finite := hPre_plf_finite)
    ∧ quiescent_PlfReferenceIdeal (hPlfReferenceIdeal := hPlfReferenceIdeal)
    ∧ quiescent_PlfReferenceIdeal_pre_plf_finite (hPlfReferenceIdeal := hPlfReferenceIdeal) (hPre_plf_finite := hPre_plf_finite)
    ∧ quiescent_InpKernel (hInpKernel := hInpKernel)
    ∧ quiescent_InpKernelIdeal (hInpKernelIdeal := hInpKernelIdeal)
    ∧ quiescent_InpReferenceIdeal (hInpReferenceIdeal := hInpReferenceIdeal)
    ∧ quiescent_MobKernel (hMobKernel := hMobKernel)
    ∧ quiescent_MobKernelIdeal (hMobKernelIdeal := hMobKernelIdeal)
    ∧ quiescent_MobReferenceIdeal (hMobReferenceIdeal := hMobReferenceIdeal)
    ∧ quiescent_WgrKernel (hWgrKernel := hWgrKernel)
    ∧ quiescent_WgrKernelIdeal (hWgrKernelIdeal := hWgrKernelIdeal)
    ∧ quiescent_WgrReferenceIdeal (hWgrReferenceIdeal := hWgrReferenceIdeal)
    ∧ quiescent_ResKernel (hResKernel := hResKernel)
    ∧ quiescent_ResKernelIdeal (hResKernelIdeal := hResKernelIdeal)
    ∧ quiescent_ResReferenceIdeal (hResReferenceIdeal := hResReferenceIdeal)
    ∧ quiescent_AdwKernel (hAdwKernel := hAdwKernel)
    ∧ quiescent_AdwKernelIdeal (hAdwKernelIdeal := hAdwKernelIdeal)
    ∧ quiescent_AdwReferenceIdeal (hAdwReferenceIdeal := hAdwReferenceIdeal)
    ∧ quiescent_ChsKernel (hChsKernel := hChsKernel)
    ∧ quiescent_ChsKernelIdeal (hChsKernelIdeal := hChsKernelIdeal)
    ∧ quiescent_ChsReferenceIdeal (hChsReferenceIdeal := hChsReferenceIdeal)
    ∧ quiescent_OwnKernel (hOwnKernel := hOwnKernel)
    ∧ quiescent_OwnKernelIdeal (hOwnKernelIdeal := hOwnKernelIdeal)
    ∧ quiescent_OwnReferenceIdeal (hOwnReferenceIdeal := hOwnReferenceIdeal)
    ∧ quiescent_TotKernel (hTotKernel := hTotKernel)
    ∧ quiescent_TotKernelIdeal (hTotKernelIdeal := hTotKernelIdeal)
    ∧ quiescent_TotReferenceIdeal (hTotReferenceIdeal := hTotReferenceIdeal)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_AttnKernel_AttnKernelIdeal
    ∧ algebraic_AttnKernelIdeal_AttnReferenceIdeal_pre_attn_finite (hAttnKernelIdeal := hAttnKernelIdeal) (hAttnReferenceIdeal := hAttnReferenceIdeal) (hPre_attn_finite := hPre_attn_finite)
    ∧ preserves_PoolKernel_PoolKernelIdeal
    ∧ algebraic_PoolKernelIdeal_PoolReferenceIdeal_pre_pool_finite (hPoolKernelIdeal := hPoolKernelIdeal) (hPoolReferenceIdeal := hPoolReferenceIdeal) (hPre_pool_finite := hPre_pool_finite)
    ∧ preserves_LossKernel_LossKernelIdeal
    ∧ algebraic_LossKernelIdeal_LossReferenceIdeal_pre_loss_finite (hLossKernelIdeal := hLossKernelIdeal) (hLossReferenceIdeal := hLossReferenceIdeal) (hPre_loss_finite := hPre_loss_finite)
    ∧ preserves_MixKernel_MixKernelIdeal
    ∧ algebraic_MixKernelIdeal_MixReferenceIdeal_pre_mix_finite (hMixKernelIdeal := hMixKernelIdeal) (hMixReferenceIdeal := hMixReferenceIdeal) (hPre_mix_finite := hPre_mix_finite)
    ∧ preserves_NormKernel_NormKernelIdeal
    ∧ algebraic_NormKernelIdeal_NormReferenceIdeal_pre_norm_finite (hNormKernelIdeal := hNormKernelIdeal) (hNormReferenceIdeal := hNormReferenceIdeal) (hPre_norm_finite := hPre_norm_finite)
    ∧ preserves_RmsKernel_RmsKernelIdeal
    ∧ algebraic_RmsKernelIdeal_RmsReferenceIdeal (hRmsKernelIdeal := hRmsKernelIdeal) (hRmsReferenceIdeal := hRmsReferenceIdeal)
    ∧ preserves_PlfKernel_PlfKernelIdeal
    ∧ algebraic_PlfKernelIdeal_PlfReferenceIdeal_pre_plf_finite (hPlfKernelIdeal := hPlfKernelIdeal) (hPlfReferenceIdeal := hPlfReferenceIdeal) (hPre_plf_finite := hPre_plf_finite)
    ∧ preserves_InpKernel_InpKernelIdeal
    ∧ algebraic_InpKernelIdeal_InpReferenceIdeal (hInpKernelIdeal := hInpKernelIdeal) (hInpReferenceIdeal := hInpReferenceIdeal)
    ∧ preserves_MobKernel_MobKernelIdeal
    ∧ algebraic_MobKernelIdeal_MobReferenceIdeal (hMobKernelIdeal := hMobKernelIdeal) (hMobReferenceIdeal := hMobReferenceIdeal)
    ∧ preserves_WgrKernel_WgrKernelIdeal
    ∧ algebraic_WgrKernelIdeal_WgrReferenceIdeal (hWgrKernelIdeal := hWgrKernelIdeal) (hWgrReferenceIdeal := hWgrReferenceIdeal)
    ∧ preserves_ResKernel_ResKernelIdeal
    ∧ algebraic_ResKernelIdeal_ResReferenceIdeal (hResKernelIdeal := hResKernelIdeal) (hResReferenceIdeal := hResReferenceIdeal)
    ∧ preserves_AdwKernel_AdwKernelIdeal
    ∧ algebraic_AdwKernelIdeal_AdwReferenceIdeal (hAdwKernelIdeal := hAdwKernelIdeal) (hAdwReferenceIdeal := hAdwReferenceIdeal)
    ∧ preserves_ChsKernel_ChsKernelIdeal
    ∧ algebraic_ChsKernelIdeal_ChsReferenceIdeal (hChsKernelIdeal := hChsKernelIdeal) (hChsReferenceIdeal := hChsReferenceIdeal)
    ∧ preserves_OwnKernel_OwnKernelIdeal
    ∧ algebraic_OwnKernelIdeal_OwnReferenceIdeal (hOwnKernelIdeal := hOwnKernelIdeal) (hOwnReferenceIdeal := hOwnReferenceIdeal)
    ∧ preserves_TotKernel_TotKernelIdeal
    ∧ algebraic_TotKernelIdeal_TotReferenceIdeal (hTotKernelIdeal := hTotKernelIdeal) (hTotReferenceIdeal := hTotReferenceIdeal)
-- ==== Pre_attn_finite.lean ====
abbrev S8192x4608 : Shape := ⟨2, ![8192, 4608]⟩
abbrev S8192x2048 : Shape := ⟨2, ![8192, 2048]⟩
abbrev S_ : Shape := ⟨0, ![]⟩

class Facts : Prop where
  bcast_S_S8192x4608 : S_.BroadcastsInDim S8192x4608 (![] : Fin 0 → Fin S8192x4608.rank)
  bcast_S_S8192x2048 : S_.BroadcastsInDim S8192x2048 (![] : Fin 0 → Fin S8192x2048.rank)

variable [Facts]

def fn {F : FTy → Type} [FloatOps F] (main_arg0 : FVec F S8192x4608 .f32) (main_arg1 : FVec F S8192x2048 .f32) : IVec S8192x4608 1 × IVec S8192x2048 1 :=
  let main_v0 : FVec F S8192x4608 .f32 := Host.absf main_arg0
  let main_cst : FVec F S_ .f32 := constant S_ .f32 0x7F800000#32
  let main_v1 : FVec F S8192x4608 .f32 := broadcastInDim S8192x4608 ![] bcast_S_S8192x4608 main_cst
  let main_v2 : IVec S8192x4608 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  (main_v2, main_v5)
-- ==== Pre_ffn_finite.lean ====
abbrev S8192x2048 : Shape := ⟨2, ![8192, 2048]⟩
abbrev S2x2048x5632 : Shape := ⟨3, ![2, 2048, 5632]⟩
abbrev S2x5632x2048 : Shape := ⟨3, ![2, 5632, 2048]⟩
abbrev S_ : Shape := ⟨0, ![]⟩

class Facts : Prop where
  bcast_S_S8192x2048 : S_.BroadcastsInDim S8192x2048 (![] : Fin 0 → Fin S8192x2048.rank)
  bcast_S_S2x2048x5632 : S_.BroadcastsInDim S2x2048x5632 (![] : Fin 0 → Fin S2x2048x5632.rank)
  bcast_S_S2x5632x2048 : S_.BroadcastsInDim S2x5632x2048 (![] : Fin 0 → Fin S2x5632x2048.rank)

variable [Facts]

def fn {F : FTy → Type} [FloatOps F] (main_arg0 : FVec F S8192x2048 .f32) (main_arg1 : FVec F S2x2048x5632 .f32) (main_arg2 : FVec F S2x2048x5632 .f32) (main_arg3 : FVec F S2x5632x2048 .f32) (main_arg4 : FVec F S8192x2048 .f32) : IVec S8192x2048 1 × IVec S2x2048x5632 1 × IVec S2x2048x5632 1 × IVec S2x5632x2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2x2048x5632 .f32 := Host.absf main_arg1
  let main_cst_0 : FVec F S_ .f32 := constant S_ .f32 0x7F800000#32
  let main_v4 : FVec F S2x2048x5632 .f32 := broadcastInDim S2x2048x5632 ![] bcast_S_S2x2048x5632 main_cst_0
  let main_v5 : IVec S2x2048x5632 1 := cmpf .olt main_v3 main_v4
  let main_v6 : FVec F S2x2048x5632 .f32 := Host.absf main_arg2
  let main_cst_1 : FVec F S_ .f32 := constant S_ .f32 0x7F800000#32
  let main_v7 : FVec F S2x2048x5632 .f32 := broadcastInDim S2x2048x5632 ![] bcast_S_S2x2048x5632 main_cst_1
  let main_v8 : IVec S2x2048x5632 1 := cmpf .olt main_v6 main_v7
  let main_v9 : FVec F S2x5632x2048 .f32 := Host.absf main_arg3
  let main_cst_2 : FVec F S_ .f32 := constant S_ .f32 0x7F800000#32
  let main_v10 : FVec F S2x5632x2048 .f32 := broadcastInDim S2x5632x2048 ![] bcast_S_S2x5632x2048 main_cst_2
  let main_v11 : IVec S2x5632x2048 1 := cmpf .olt main_v9 main_v10
  let main_v12 : FVec F S8192x2048 .f32 := Host.absf main_arg4
  let main_cst_3 : FVec F S_ .f32 := constant S_ .f32 0x7F800000#32
  let main_v13 : FVec F S8192x2048 .f32 := broadcastInDim S8192x2048 ![] bcast_S_S8192x2048 main_cst_3
  let main_v14 : IVec S8192x2048 1 := cmpf .olt main_v12 main_v13
  (main_v2, main_v5, main_v8, main_v11, main_v14)
-- ==== Pre_loss_finite.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  bcast_S_S2048 : S_.BroadcastsInDim S2048 (![] : Fin 0 → Fin S2048.rank)

variable [Facts]

def fn {F : FTy → Type} [FloatOps F] (main_arg0 : FVec F S8192x2048 .f32) (main_arg1 : FVec F S2048 .f32) (main_arg2 : FVec F S8192x2048 .f32) : IVec S8192x2048 1 × IVec S2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  (main_v2, main_v5, main_v8)
-- ==== Pre_mix_finite.lean ====
abbrev S8192x2048 : Shape := ⟨2, ![8192, 2048]⟩
abbrev S2048 : Shape := ⟨1, ![2048]⟩
abbrev S8192x4608 : Shape := ⟨2, ![8192, 4608]⟩
abbrev S2x2048x4608 : Shape := ⟨3, ![2, 2048, 4608]⟩
abbrev S_ : Shape := ⟨0, ![]⟩

class Facts : Prop where
  bcast_S_S8192x2048 : S_.BroadcastsInDim S8192x2048 (![] : Fin 0 → Fin S8192x2048.rank)
  bcast_S_S2048 : S_.BroadcastsInDim S2048 (![] : Fin 0 → Fin S2048.rank)
  bcast_S_S8192x4608 : S_.BroadcastsInDim S8192x4608 (![] : Fin 0 → Fin S8192x4608.rank)
  bcast_S_S2x2048x4608 : S_.BroadcastsInDim S2x2048x4608 (![] : Fin 0 → Fin S2x2048x4608.rank)

variable [Facts]

def fn {F : FTy → Type} [FloatOps F] (main_arg0 : FVec F S8192x2048 .f32) (main_arg1 : FVec F S2048 .f32) (main_arg2 : FVec F S8192x4608 .f32) (main_arg3 : FVec F S2x2048x4608 .f32) (main_arg4 : FVec F S8192x2048 .f32) : IVec S8192x2048 1 × IVec S2048 1 × IVec S8192x4608 1 × IVec S2x2048x4608 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S8192x4608 .f32 := Host.absf main_arg2
  let main_cst_1 : FVec F S_ .f32 := constant S_ .f32 0x7F800000#32
  let main_v7 : FVec F S8192x4608 .f32 := broadcastInDim S8192x4608 ![] bcast_S_S8192x4608 main_cst_1
  let main_v8 : IVec S8192x4608 1 := cmpf .olt main_v6 main_v7
  let main_v9 : FVec F S2x2048x4608 .f32 := Host.absf main_arg3
  let main_cst_2 : FVec F S_ .f32 := constant S_ .f32 0x7F800000#32
  let main_v10 : FVec F S2x2048x4608 .f32 := broadcastInDim S2x2048x4608 ![] bcast_S_S2x2048x4608 main_cst_2
  let main_v11 : IVec S2x2048x4608 1 := cmpf .olt main_v9 main_v10
  let main_v12 : FVec F S8192x2048 .f32 := Host.absf main_arg4
  let main_cst_3 : FVec F S_ .f32 := constant S_ .f32 0x7F800000#32
  let main_v13 : FVec F S8192x2048 .f32 := broadcastInDim S8192x2048 ![] bcast_S_S8192x2048 main_cst_3
  let main_v14 : IVec S8192x2048 1 := cmpf .olt main_v12 main_v13
  (main_v2, main_v5, main_v8, main_v11, main_v14)
-- ==== Pre_norm_finite.lean ====
abbrev S8192x2048 : Shape := ⟨2, ![8192, 2048]⟩
abbrev S2048 : Shape := ⟨1, ![2048]⟩
abbrev S8192x5632 : Shape := ⟨2, ![8192, 5632]⟩
abbrev S2x2048x5632 : Shape := ⟨3, ![2, 2048, 5632]⟩
abbrev S_ : Shape := ⟨0, ![]⟩

class Facts : Prop where
  bcast_S_S8192x2048 : S_.BroadcastsInDim S8192x2048 (![] : Fin 0 → Fin S8192x2048.rank)
  bcast_S_S2048 : S_.BroadcastsInDim S2048 (![] : Fin 0 → Fin S2048.rank)
  bcast_S_S8192x5632 : S_.BroadcastsInDim S8192x5632 (![] : Fin 0 → Fin S8192x5632.rank)
  bcast_S_S2x2048x5632 : S_.BroadcastsInDim S2x2048x5632 (![] : Fin 0 → Fin S2x2048x5632.rank)

variable [Facts]

def fn_part1 {F : FTy → Type} [FloatOps F] (main_arg6 : FVec F S8192x2048 .f32) (main_v2 : IVec S8192x2048 1) (main_v5 : IVec S2048 1) (main_v8 : IVec S8192x5632 1) (main_v11 : IVec S8192x5632 1) (main_v14 : IVec S2x2048x5632 1) (main_v17 : IVec S2x2048x5632 1) : IVec S8192x2048 1 × IVec S2048 1 × IVec S8192x5632 1 × IVec S8192x5632 1 × IVec S2x2048x5632 1 × IVec S2x2048x5632 1 × IVec S8192x2048 1 :=
  let main_v18 : FVec F S8192x2048 .f32 := Host.absf main_arg6
  let main_cst_5 : FVec F S_ .f32 := constant S_ .f32 0x7F800000#32
  let main_v19 : FVec F S8192x2048 .f32 := broadcastInDim S8192x2048 ![] bcast_S_S8192x2048 main_cst_5
  let main_v20 : IVec S8192x2048 1 := cmpf .olt main_v18 main_v19
  (main_v2, main_v5, main_v8, main_v11, main_v14, main_v17, main_v20)

def fn {F : FTy → Type} [FloatOps F] (main_arg0 : FVec F S8192x2048 .f32) (main_arg1 : FVec F S2048 .f32) (main_arg2 : FVec F S8192x5632 .f32) (main_arg3 : FVec F S8192x5632 .f32) (main_arg4 : FVec F S2x2048x5632 .f32) (main_arg5 : FVec F S2x2048x5632 .f32) (main_arg6 : FVec F S8192x2048 .f32) : IVec S8192x2048 1 × IVec S2048 1 × IVec S8192x5632 1 × IVec S8192x5632 1 × IVec S2x2048x5632 1 × IVec S2x2048x5632 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S8192x5632 .f32 := Host.absf main_arg2
  let main_cst_1 : FVec F S_ .f32 := constant S_ .f32 0x7F800000#32
  let main_v7 : FVec F S8192x5632 .f32 := broadcastInDim S8192x5632 ![] bcast_S_S8192x5632 main_cst_1
  let main_v8 : IVec S8192x5632 1 := cmpf .olt main_v6 main_v7
  let main_v9 : FVec F S8192x5632 .f32 := Host.absf main_arg3
  let main_cst_2 : FVec F S_ .f32 := constant S_ .f32 0x7F800000#32
  let main_v10 : FVec F S8192x5632 .f32 := broadcastInDim S8192x5632 ![] bcast_S_S8192x5632 main_cst_2
  let main_v11 : IVec S8192x5632 1 := cmpf .olt main_v9 main_v10
  let main_v12 : FVec F S2x2048x5632 .f32 := Host.absf main_arg4
  let main_cst_3 : FVec F S_ .f32 := constant S_ .f32 0x7F800000#32
  let main_v13 : FVec F S2x2048x5632 .f32 := broadcastInDim S2x2048x5632 ![] bcast_S_S2x2048x5632 main_cst_3
  let main_v14 : IVec S2x2048x5632 1 := cmpf .olt main_v12 main_v13
  let main_v15 : FVec F S2x2048x5632 .f32 := Host.absf main_arg5
  let main_cst_4 : FVec F S_ .f32 := constant S_ .f32 0x7F800000#32
  let main_v16 : FVec F S2x2048x5632 .f32 := broadcastInDim S2x2048x5632 ![] bcast_S_S2x2048x5632 main_cst_4
  let main_v17 : IVec S2x2048x5632 1 := cmpf .olt main_v15 main_v16
  fn_part1 (F := F) main_arg6 main_v2 main_v5 main_v8 main_v11 main_v14 main_v17
-- ==== Pre_plf_finite.lean ====
abbrev S8192x4608 : Shape := ⟨2, ![8192, 4608]⟩
abbrev S4x128x128 : Shape := ⟨3, ![4, 128, 128]⟩
abbrev S512 : Shape := ⟨1, ![512]⟩
abbrev S_ : Shape := ⟨0, ![]⟩

class Facts : Prop where
  bcast_S_S8192x4608 : S_.BroadcastsInDim S8192x4608 (![] : Fin 0 → Fin S8192x4608.rank)

variable [Facts]

def fn {F : FTy → Type} [FloatOps F] (main_arg0 : FVec F S8192x4608 .f32) (main_arg1 : FVec F S4x128x128 .f32) (main_arg2 : FVec F S512 .f32) : IVec S8192x4608 1 :=
  let main_v0 : FVec F S8192x4608 .f32 := Host.absf main_arg0
  let main_cst : FVec F S_ .f32 := constant S_ .f32 0x7F800000#32
  let main_v1 : FVec F S8192x4608 .f32 := broadcastInDim S8192x4608 ![] bcast_S_S8192x4608 main_cst
  let main_v2 : IVec S8192x4608 1 := cmpf .olt main_v0 main_v1
  main_v2
-- ==== Pre_pool_finite.lean ====
abbrev S8192x4608 : Shape := ⟨2, ![8192, 4608]⟩
abbrev S8192x2048 : Shape := ⟨2, ![8192, 2048]⟩
abbrev S4x128x128 : Shape := ⟨3, ![4, 128, 128]⟩
abbrev S512 : Shape := ⟨1, ![512]⟩
abbrev S_ : Shape := ⟨0, ![]⟩

class Facts : Prop where
  bcast_S_S8192x4608 : S_.BroadcastsInDim S8192x4608 (![] : Fin 0 → Fin S8192x4608.rank)
  bcast_S_S8192x2048 : S_.BroadcastsInDim S8192x2048 (![] : Fin 0 → Fin S8192x2048.rank)
  bcast_S_S4x128x128 : S_.BroadcastsInDim S4x128x128 (![] : Fin 0 → Fin S4x128x128.rank)
  bcast_S_S512 : S_.BroadcastsInDim S512 (![] : Fin 0 → Fin S512.rank)

variable [Facts]

def fn {F : FTy → Type} [FloatOps F] (main_arg0 : FVec F S8192x4608 .f32) (main_arg1 : FVec F S8192x2048 .f32) (main_arg2 : FVec F S4x128x128 .f32) (main_arg3 : FVec F S512 .f32) : IVec S8192x4608 1 × IVec S8192x2048 1 × IVec S4x128x128 1 × IVec S512 1 :=
  let main_v0 : FVec F S8192x4608 .f32 := Host.absf main_arg0
  let main_cst : FVec F S_ .f32 := constant S_ .f32 0x7F800000#32
  let main_v1 : FVec F S8192x4608 .f32 := broadcastInDim S8192x4608 ![] bcast_S_S8192x4608 main_cst
  let main_v2 : IVec S8192x4608 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S4x128x128 .f32 := Host.absf main_arg2
  let main_cst_1 : FVec F S_ .f32 := constant S_ .f32 0x7F800000#32
  let main_v7 : FVec F S4x128x128 .f32 := broadcastInDim S4x128x128 ![] bcast_S_S4x128x128 main_cst_1
  let main_v8 : IVec S4x128x128 1 := cmpf .olt main_v6 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  (main_v2, main_v5, main_v8, main_v11)
-- ==== FfnKernel.lean ====
abbrev S8192x2048 : Shape := ⟨2, ![8192, 2048]⟩
abbrev S2x2048x5632 : Shape := ⟨3, ![2, 2048, 5632]⟩
abbrev S2x5632x2048 : Shape := ⟨3, ![2, 5632, 2048]⟩
abbrev S2x4x1408x2048 : Shape := ⟨4, ![2, 4, 1408, 2048]⟩
abbrev S4x2x1408x2048 : Shape := ⟨4, ![4, 2, 1408, 2048]⟩
abbrev S2x2048x4x1408 : Shape := ⟨4, ![2, 2048, 4, 1408]⟩
abbrev S4x2x2048x1408 : Shape := ⟨4, ![4, 2, 2048, 1408]⟩
abbrev S4x8192x1408 : Shape := ⟨3, ![4, 8192, 1408]⟩
abbrev S512x2048 : Shape := ⟨2, ![512, 2048]⟩
abbrev S1x1x2048x1408 : Shape := ⟨4, ![1, 1, 2048, 1408]⟩
abbrev S1x512x1408 : Shape := ⟨3, ![1, 512, 1408]⟩
abbrev S2048x1408 : Shape := ⟨2, ![2048, 1408]⟩
abbrev S512x1408 : Shape := ⟨2, ![512, 1408]⟩
abbrev S1x1x1408x2048 : Shape := ⟨4, ![1, 1, 1408, 2048]⟩
abbrev S1408x2048 : Shape := ⟨2, ![1408, 2048]⟩

abbrev nBuf : Space → Nat
  | .hbm => 20
  | .vmem => 24
  | .smem => 0
  | _ => 0

abbrev bufTy : (tb : Table) → Fin (tcTables nBuf tb) → BufTy
  | .hbm, ⟨0, _⟩ => ⟨S8192x2048, .f32⟩
  | .hbm, ⟨1, _⟩ => ⟨S2x2048x5632, .f32⟩
  | .hbm, ⟨2, _⟩ => ⟨S2x2048x5632, .f32⟩
  | .hbm, ⟨3, _⟩ => ⟨S2x5632x2048, .f32⟩
  | .hbm, ⟨4, _⟩ => ⟨S8192x2048, .f32⟩
  | .hbm, ⟨5, _⟩ => ⟨S2x4x1408x2048, .f32⟩
  | .hbm, ⟨6, _⟩ => ⟨S4x2x1408x2048, .f32⟩
  | .hbm, ⟨7, _⟩ => ⟨S4x2x1408x2048, .bf16⟩
  | .hbm, ⟨8, _⟩ => ⟨S8192x2048, .bf16⟩
  | .hbm, ⟨9, _⟩ => ⟨S2x2048x4x1408, .f32⟩
  | .hbm, ⟨10, _⟩ => ⟨S4x2x2048x1408, .f32⟩
  | .hbm, ⟨11, _⟩ => ⟨S4x2x2048x1408, .bf16⟩
  | .hbm, ⟨12, _⟩ => ⟨S2x2048x4x1408, .f32⟩
  | .hbm, ⟨13, _⟩ => ⟨S4x2x2048x1408, .f32⟩
  | .hbm, ⟨14, _⟩ => ⟨S4x2x2048x1408, .bf16⟩
  | .hbm, ⟨15, _⟩ => ⟨S4x8192x1408, .bf16⟩
  | .hbm, ⟨16, _⟩ => ⟨S4x8192x1408, .bf16⟩
  | .hbm, ⟨17, _⟩ => ⟨S4x8192x1408, .bf16⟩
  | .hbm, ⟨18, _⟩ => ⟨S4x8192x1408, .bf16⟩
  | .hbm, ⟨19, _⟩ => ⟨S4x8192x1408, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1x1x2048x1408, .bf16⟩
  | .local _ .vmem, ⟨5, _⟩ => ⟨S1x1x2048x1408, .bf16⟩
  | .local _ .vmem, ⟨6, _⟩ => ⟨S1x512x1408, .bf16⟩
  | .local _ .vmem, ⟨7, _⟩ => ⟨S1x512x1408, .bf16⟩
  | .local _ .vmem, ⟨8, _⟩ => ⟨S1x512x1408, .bf16⟩
  | .local _ .vmem, ⟨9, _⟩ => ⟨S1x512x1408, .bf16⟩
  | .local _ .vmem, ⟨10, _⟩ => ⟨S1x512x1408, .bf16⟩
  | .local _ .vmem, ⟨11, _⟩ => ⟨S1x512x1408, .bf16⟩
  | .local _ .vmem, ⟨12, _⟩ => ⟨S512x2048, .f32⟩
  | .local _ .vmem, ⟨13, _⟩ => ⟨S512x2048, .f32⟩
  | .local _ .vmem, ⟨14, _⟩ => ⟨S1x1x1408x2048, .bf16⟩
  | .local _ .vmem, ⟨15, _⟩ => ⟨S1x1x1408x2048, .bf16⟩
  | .local _ .vmem, ⟨16, _⟩ => ⟨S1x512x1408, .bf16⟩
  | .local _ .vmem, ⟨17, _⟩ => ⟨S1x512x1408, .bf16⟩
  | .local _ .vmem, ⟨18, _⟩ => ⟨S1x512x1408, .bf16⟩
  | .local _ .vmem, ⟨19, _⟩ => ⟨S1x512x1408, .bf16⟩
  | .local _ .vmem, ⟨20, _⟩ => ⟨S1x512x1408, .bf16⟩
  | .local _ .vmem, ⟨21, _⟩ => ⟨S1x512x1408, .bf16⟩
  | .local _ .vmem, ⟨22, _⟩ => ⟨S1x512x1408, .bf16⟩
  | .local _ .vmem, ⟨23, _⟩ => ⟨S1x512x1408, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1x1408x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== FfnReferenceIdeal.lean ====
abbrev S8192x2048 : Shape := ⟨2, ![8192, 2048]⟩
abbrev S2x2048x5632 : Shape := ⟨3, ![2, 2048, 5632]⟩
abbrev S2x5632x2048 : Shape := ⟨3, ![2, 5632, 2048]⟩
abbrev S1x2048x5632 : Shape := ⟨3, ![1, 2048, 5632]⟩
abbrev S2048x5632 : Shape := ⟨2, ![2048, 5632]⟩
abbrev S8192x5632 : Shape := ⟨2, ![8192, 5632]⟩
abbrev S_ : Shape := ⟨0, ![]⟩
abbrev S1x5632x2048 : Shape := ⟨3, ![1, 5632, 2048]⟩
abbrev S5632x2048 : Shape := ⟨2, ![5632, 2048]⟩
abbrev S8192x4x1408 : Shape := ⟨3, ![8192, 4, 1408]⟩
abbrev S4x8192x1408 : Shape := ⟨3, ![4, 8192, 1408]⟩

abbrev nBuf : Space → Nat
  | .hbm => 66
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048x5632, .f32⟩
  | .hbm, ⟨2, _⟩ => ⟨S2x2048x5632, .f32⟩
  | .hbm, ⟨3, _⟩ => ⟨S2x5632x2048, .f32⟩
  | .hbm, ⟨4, _⟩ => ⟨S8192x2048, .f32⟩
  | .hbm, ⟨5, _⟩ => ⟨S1x2048x5632, .f32⟩
  | .hbm, ⟨6, _⟩ => ⟨S2048x5632, .f32⟩
  | .hbm, ⟨7, _⟩ => ⟨S8192x5632, .f32⟩
  | .hbm, ⟨8, _⟩ => ⟨S1x2048x5632, .f32⟩
  | .hbm, ⟨9, _⟩ => ⟨S2048x5632, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S_, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S1x5632x2048, .f32⟩
  | .hbm, ⟨26, _⟩ => ⟨S5632x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S8192x4x1408, .f32⟩
  | .hbm, ⟨42, _⟩ => ⟨S4x8192x1408, .f32⟩
  | .hbm, ⟨43, _⟩ => ⟨S4x8192x1408, .bf16⟩
  | .hbm, ⟨44, _⟩ => ⟨S8192x4x1408, .f32⟩
  | .hbm, ⟨45, _⟩ => ⟨S4x8192x1408, .f32⟩
  | .hbm, ⟨46, _⟩ => ⟨S4x8192x1408, .bf16⟩
  | .hbm, ⟨47, _⟩ => ⟨S8192x5632, .f32⟩
  | .hbm, ⟨48, _⟩ => ⟨S8192x5632, .f32⟩
  | .hbm, ⟨49, _⟩ => ⟨S_, .f32⟩
  | .hbm, ⟨50, _⟩ => ⟨S8192x5632, .f32⟩
  | .hbm, ⟨51, _⟩ => ⟨S8192x5632, .f32⟩
  | .hbm, ⟨52, _⟩ => ⟨S_, .f32⟩
  | .hbm, ⟨53, _⟩ => ⟨S8192x5632, .f32⟩
  | .hbm, ⟨54, _⟩ => ⟨S8192x5632, .f32⟩
  | .hbm, ⟨55, _⟩ => ⟨S8192x5632, .f32⟩
  | .hbm, ⟨56, _⟩ => ⟨S8192x5632, .f32⟩
  | .hbm, ⟨57, _⟩ => ⟨S8192x4x1408, .f32⟩
  | .hbm, ⟨58, _⟩ => ⟨S4x8192x1408, .f32⟩
  | .hbm, ⟨59, _⟩ => ⟨S4x8192x1408, .bf16⟩
  | .hbm, ⟨60, _⟩ => ⟨S8192x4x1408, .f32⟩
  | .hbm, ⟨61, _⟩ => ⟨S4x8192x1408, .f32⟩
  | .hbm, ⟨62, _⟩ => ⟨S4x8192x1408, .bf16⟩
  | .hbm, ⟨63, _⟩ => ⟨S8192x4x1408, .f32⟩
  | .hbm, ⟨64, _⟩ => ⟨S4x8192x1408, .f32⟩
  | .hbm, ⟨65, _⟩ => ⟨S4x8192x1408, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v6_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v6_1 : Ref sig .tc := ⟨.hbm, 22, rfl⟩
abbrev main_v6_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call2_v0 : Ref sig .tc := ⟨.hbm, 47, rfl⟩
abbrev main_call2_v1 : Ref sig .tc := ⟨.hbm, 48, rfl⟩
abbrev main_call2_cst : Ref sig .tc := ⟨.hbm, 49, rfl⟩
abbrev main_call2_v2 : Ref sig .tc := ⟨.hbm, 50, rfl⟩
abbrev main_call2_v3 : Ref sig .tc := ⟨.hbm, 51, rfl⟩
abbrev main_call2_cst_0 : Ref sig .tc := ⟨.hbm, 52, rfl⟩
abbrev main_call2_v4 : Ref sig .tc := ⟨.hbm, 53, rfl⟩
abbrev main_call2_v5 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩

abbrev nD : Nat := 1
abbrev τ : Topo := Topo.v7x

variable {F : FTy → Type} [FloatOps F]
-- ==== AttnKernel.lean ====
abbrev S8192x4608 : Shape := ⟨2, ![8192, 4608]⟩
abbrev S8192x2048 : Shape := ⟨2, ![8192, 2048]⟩
abbrev S8192x1024 : Shape := ⟨2, ![8192, 1024]⟩
abbrev S8x8192x1 : Shape := ⟨3, ![8, 8192, 1]⟩
abbrev S2048x128 : Shape := ⟨2, ![2048, 128]⟩
abbrev S8192x128 : Shape := ⟨2, ![8192, 128]⟩
abbrev S1x2048x1 : Shape := ⟨3, ![1, 2048, 1]⟩
abbrev S256x256 : Shape := ⟨2, ![256, 256]⟩
abbrev S2048x1 : Shape := ⟨2, ![2048, 1]⟩
abbrev S256x128 : Shape := ⟨2, ![256, 128]⟩
abbrev S256x1 : Shape := ⟨2, ![256, 1]⟩
abbrev S256 : Shape := ⟨1, ![256]⟩
abbrev S1792x1 : Shape := ⟨2, ![1792, 1]⟩
abbrev S1792x128 : Shape := ⟨2, ![1792, 128]⟩
abbrev S512x128 : Shape := ⟨2, ![512, 128]⟩
abbrev S512x1 : Shape := ⟨2, ![512, 1]⟩
abbrev S512x256 : Shape := ⟨2, ![512, 256]⟩
abbrev S512 : Shape := ⟨1, ![512]⟩
abbrev S1536x1 : Shape := ⟨2, ![1536, 1]⟩
abbrev S1536x128 : Shape := ⟨2, ![1536, 128]⟩
abbrev S768x128 : Shape := ⟨2, ![768, 128]⟩
abbrev S768x1 : Shape := ⟨2, ![768, 1]⟩
abbrev S768x256 : Shape := ⟨2, ![768, 256]⟩
abbrev S768 : Shape := ⟨1, ![768]⟩
abbrev S1280x1 : Shape := ⟨2, ![1280, 1]⟩
abbrev S1280x128 : Shape := ⟨2, ![1280, 128]⟩
abbrev S1024x128 : Shape := ⟨2, ![1024, 128]⟩
abbrev S1024x1 : Shape := ⟨2, ![1024, 1]⟩
abbrev S1024x256 : Shape := ⟨2, ![1024, 256]⟩
abbrev S1024 : Shape := ⟨1, ![1024]⟩
abbrev S1280x256 : Shape := ⟨2, ![1280, 256]⟩
abbrev S1280 : Shape := ⟨1, ![1280]⟩
abbrev S1536x256 : Shape := ⟨2, ![1536, 256]⟩
abbrev S1536 : Shape := ⟨1, ![1536]⟩
abbrev S1792x256 : Shape := ⟨2, ![1792, 256]⟩
abbrev S1792 : Shape := ⟨1, ![1792]⟩
abbrev S2048x256 : Shape := ⟨2, ![2048, 256]⟩
abbrev S2048 : Shape := ⟨1, ![2048]⟩
abbrev S1x1024x1 : Shape := ⟨3, ![1, 1024, 1]⟩

abbrev nBuf : Space → Nat
  | .hbm => 8
  | .vmem => 26
  | .smem => 0
  | _ => 0

abbrev bufTy : (tb : Table) → Fin (tcTables nBuf tb) → BufTy
  | .hbm, ⟨0, _⟩ => ⟨S8192x4608, .f32⟩
  | .hbm, ⟨1, _⟩ => ⟨S8192x2048, .f32⟩
  | .hbm, ⟨2, _⟩ => ⟨S8192x4608, .bf16⟩
  | .hbm, ⟨3, _⟩ => ⟨S8192x1024, .bf16⟩
  | .hbm, ⟨4, _⟩ => ⟨S8x8192x1, .f32⟩
  | .hbm, ⟨5, _⟩ => ⟨S8192x1024, .f32⟩
  | .hbm, ⟨6, _⟩ => ⟨S8192x1024, .f32⟩
  | .hbm, ⟨7, _⟩ => ⟨S8192x1024, .f32⟩
  | .local _ .vmem, ⟨0, _⟩ => ⟨S2048x128, .bf16⟩
  | .local _ .vmem, ⟨1, _⟩ => ⟨S2048x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S2048x128, .bf16⟩
  | .local _ .vmem, ⟨7, _⟩ => ⟨S2048x128, .bf16⟩
  | .local _ .vmem, ⟨8, _⟩ => ⟨S1x2048x1, .f32⟩
  | .local _ .vmem, ⟨9, _⟩ => ⟨S1x2048x1, .f32⟩
  | .local _ .vmem, ⟨10, _⟩ => ⟨S1024x128, .bf16⟩
  | .local _ .vmem, ⟨11, _⟩ => ⟨S1024x128, .bf16⟩
  | .local _ .vmem, ⟨12, _⟩ => ⟨S8192x128, .bf16⟩
  | .local _ .vmem, ⟨13, _⟩ => ⟨S8192x128, .bf16⟩
  | .local _ .vmem, ⟨14, _⟩ => ⟨S8192x128, .bf16⟩
  | .local _ .vmem, ⟨15, _⟩ => ⟨S8192x128, .bf16⟩
  | .local _ .vmem, ⟨16, _⟩ => ⟨S1x1024x1, .f32⟩
  | .local _ .vmem, ⟨17, _⟩ => ⟨S1x1024x1, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S8192x128, .f32⟩
  | .local _ .vmem, ⟨23, _⟩ => ⟨S8192x128, .f32⟩
  | .local _ .vmem, ⟨24, _⟩ => ⟨S8192x128, .f32⟩
  | .local _ .vmem, ⟨25, _⟩ => ⟨S8192x128, .f32⟩
  | _, _ => ⟨S8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c8_i32 : BitVec 32 := 8#32
  let v11 : BitVec 32 := Scalar.muli arg1 c8_i32
  let c7_i32 : BitVec 32 := 7#32
  let v12 : BitVec 32 := Scalar.addi v11 c7_i32
  let c256_i32 : BitVec 32 := 256#32
  let v13 : BitVec 32 := Scalar.muli v12 c256_i32
  v13
def k0_off1 (i : grid0.Coords) (c7_i32 : BitVec 32) : Fin 2 → Nat :=
  let arg1 : BitVec 32 := BitVec.ofNat 32 (i 1).val
  let c8_i32 : BitVec 32 := 8#32
  let v11 : BitVec 32 := Scalar.muli arg1 c8_i32
  let v12 : BitVec 32 := Scalar.addi v11 c7_i32
  let c256_i32 : BitVec 32 := 256#32
  let v13 : BitVec 32 := Scalar.muli v12 c256_i32
  let v14 : BitVec 32 := v13
  let v15 : Index := Scalar.indexCast v14
  let c0_4 : Index := 0#32
  ![v15.toNat, 0]
def k0_mult2 (i : grid0.Coords) : BitVec 32 :=
  let arg1 : BitVec 32 := BitVec.ofNat 32 (i 1).val
  let c8_i32_17 : BitVec 32 := 8#32
  let v63 : BitVec 32 := Scalar.muli arg1 c8_i32_17
  let c6_i32 : BitVec 32 := 6#32
  let v64 : BitVec 32 := Scalar.addi v63 c6_i32
  let c256_i32_18 : BitVec 32 := 256#32
  let v65 : BitVec 32 := Scalar.muli v64 c256_i32_18
  v65
def k0_mult3 (i : grid0.Coords) : BitVec 32 :=
  let arg1 : BitVec 32 := BitVec.ofNat 32 (i 1).val
  let c8_i32_32 : BitVec 32 := 8#32
  let v115 : BitVec 32 := Scalar.muli arg1 c8_i32_32
  let c5_i32 : BitVec 32 := 5#32
  let v116 : BitVec 32 := Scalar.addi v115 c5_i32
  let c256_i32_33 : BitVec 32 := 256#32
  let v117 : BitVec 32 := Scalar.muli v116 c256_i32_33
  v117
def k0_mult4 (i : grid0.Coords) : BitVec 32 :=
  let arg1 : BitVec 32 := BitVec.ofNat 32 (i 1).val
  let c8_i32_47 : BitVec 32 := 8#32
  let v167 : BitVec 32 := Scalar.muli arg1 c8_i32_47
  let c4_i32 : BitVec 32 := 4#32
  let v168 : BitVec 32 := Scalar.addi v167 c4_i32
  let c256_i32_48 : BitVec 32 := 256#32
  let v169 : BitVec 32 := Scalar.muli v168 c256_i32_48
  v169
def k0_mult5 (i : grid0.Coords) : BitVec 32 :=
  let arg1 : BitVec 32 := BitVec.ofNat 32 (i 1).val
  let c8_i32_62 : BitVec 32 := 8#32
  let v219 : BitVec 32 := Scalar.muli arg1 c8_i32_62
  let c3_i32 : BitVec 32 := 3#32
  let v220 : BitVec 32 := Scalar.addi v219 c3_i32
  let c256_i32_63 : BitVec 32 := 256#32
  let v221 : BitVec 32 := Scalar.muli v220 c256_i32_63
  v221
def k0_mult6 (i : grid0.Coords) : BitVec 32 :=
  let arg1 : BitVec 32 := BitVec.ofNat 32 (i 1).val
  let c8_i32_77 : BitVec 32 := 8#32
  let v271 : BitVec 32 := Scalar.muli arg1 c8_i32_77
  let c2_i32 : BitVec 32 := 2#32
  let v272 : BitVec 32 := Scalar.addi v271 c2_i32
  let c256_i32_78 : BitVec 32 := 256#32
  let v273 : BitVec 32 := Scalar.muli v272 c256_i32_78
  v273
def k0_mult7 (i : grid0.Coords) : BitVec 32 :=
  let arg1 : BitVec 32 := BitVec.ofNat 32 (i 1).val
  let c8_i32_92 : BitVec 32 := 8#32
  let v323 : BitVec 32 := Scalar.muli arg1 c8_i32_92
  let c1_i32 : BitVec 32 := 1#32
  let v324 : BitVec 32 := Scalar.addi v323 c1_i32
  let c256_i32_93 : BitVec 32 := 256#32
  let v325 : BitVec 32 := Scalar.muli v324 c256_i32_93
  v325
def k0_mult8 (i : grid0.Coords) : BitVec 32 :=
  let arg1 : BitVec 32 := BitVec.ofNat 32 (i 1).val
  let c8_i32_107 : BitVec 32 := 8#32
  let v375 : BitVec 32 := Scalar.muli arg1 c8_i32_107
  let c0_i32 : BitVec 32 := 0#32
  let v376 : BitVec 32 := Scalar.addi v375 c0_i32
  let c256_i32_108 : BitVec 32 := 256#32
  let v377 : BitVec 32 := Scalar.muli v376 c256_i32_108
  v377
@[reducible] def k0_t1_loop (i : grid0.Coords) : Scf.Loop 32 :=
  let c0_i32_123 : BitVec 32 := 0#32
  let arg1 : BitVec 32 := BitVec.ofNat 32 (i 1).val
  let c8_i32_122 : BitVec 32 := 8#32
  let v420 : BitVec 32 := Scalar.muli arg1 c8_i32_122
  let v421 : BitVec 32 := Scalar.subi v420 c0_i32_123
  let c1_i32_124 : BitVec 32 := 1#32
  let v423 : BitVec 32 := Scalar.divsi v421 c1_i32_124
  let v424 : BitVec 32 := Scalar.muli v423 c1_i32_124
  let v425 : BitVec 32 := Scalar.addi c0_i32_123 v424
  let c1_i32_125 : BitVec 32 := 1#32
  ⟨c0_i32_123, v425, c1_i32_125⟩
def k0_mult9 (i : grid0.Coords) (k0_t1 : Fin (k0_t1_loop i).trips) : BitVec 32 :=
  let arg1 : BitVec 32 := BitVec.ofNat 32 (i 1).val
  let c8_i32_132 : BitVec 32 := 8#32
  let v433 : BitVec 32 := Scalar.muli arg1 c8_i32_132
  let c1_i32_133 : BitVec 32 := 1#32
  let v434 : BitVec 32 := Scalar.subi v433 c1_i32_133
  let c0_i32_123 : BitVec 32 := 0#32
  let c1_i32_125 : BitVec 32 := 1#32
  let arg7 : BitVec 32 := Scf.iv c0_i32_123 c1_i32_125 k0_t1
  let v435 : BitVec 32 := Scalar.subi v434 arg7
  let c256_i32_134 : BitVec 32 := 256#32
  let v436 : BitVec 32 := Scalar.muli v435 c256_i32_134
  v436
def k0_off2 (i : grid0.Coords) (k0_t1 : Fin (k0_t1_loop i).trips) : Fin 2 → Nat :=
  let arg1 : BitVec 32 := BitVec.ofNat 32 (i 1).val
  let c8_i32_132 : BitVec 32 := 8#32
  let v433 : BitVec 32 := Scalar.muli arg1 c8_i32_132
  let c1_i32_133 : BitVec 32 := 1#32
  let v434 : BitVec 32 := Scalar.subi v433 c1_i32_133
  let c0_i32_123 : BitVec 32 := 0#32
  let c1_i32_125 : BitVec 32 := 1#32
  let arg7 : BitVec 32 := Scf.iv c0_i32_123 c1_i32_125 k0_t1
  let v435 : BitVec 32 := Scalar.subi v434 arg7
  let c256_i32_134 : BitVec 32 := 256#32
  let v436 : BitVec 32 := Scalar.muli v435 c256_i32_134
  let v437 : BitVec 32 := v436
  let v438 : Index := Scalar.indexCast v437
  let c0_135 : Index := 0#32
  ![v438.toNat, 0]
@[reducible] def k0_t2_loop (i : grid0.Coords) : Scf.Loop 32 :=
  let c0_i32_123 : BitVec 32 := 0#32
  let arg1 : BitVec 32 := BitVec.ofNat 32 (i 1).val
  let c8_i32_122 : BitVec 32 := 8#32
  let v420 : BitVec 32 := Scalar.muli arg1 c8_i32_122
  let v421 : BitVec 32 := Scalar.subi v420 c0_i32_123
  let c1_i32_124 : BitVec 32 := 1#32
  let v423 : BitVec 32 := Scalar.divsi v421 c1_i32_124
  let v424 : BitVec 32 := Scalar.muli v423 c1_i32_124
  let v425 : BitVec 32 := Scalar.addi c0_i32_123 v424
  let v422 : BitVec 32 := Scalar.addi c0_i32_123 v421
  let c1_i32_126 : BitVec 32 := 1#32
  ⟨v425, v422, c1_i32_126⟩
def k0_mult10 (i : grid0.Coords) (k0_t2 : Fin (k0_t2_loop i).trips) : BitVec 32 :=
  let arg1 : BitVec 32 := BitVec.ofNat 32 (i 1).val
  let c8_i32_132 : BitVec 32 := 8#32
  let v433 : BitVec 32 := Scalar.muli arg1 c8_i32_132
  let c1_i32_133 : BitVec 32 := 1#32
  let v434 : BitVec 32 := Scalar.subi v433 c1_i32_133
  let c0_i32_123 : BitVec 32 := 0#32
  let c8_i32_122 : BitVec 32 := 8#32
  let v420 : BitVec 32 := Scalar.muli arg1 c8_i32_122
  let v421 : BitVec 32 := Scalar.subi v420 c0_i32_123
  let c1_i32_124 : BitVec 32 := 1#32
  let v423 : BitVec 32 := Scalar.divsi v421 c1_i32_124
  let v424 : BitVec 32 := Scalar.muli v423 c1_i32_124
  let v425 : BitVec 32 := Scalar.addi c0_i32_123 v424
  let c1_i32_126 : BitVec 32 := 1#32
  let arg7 : BitVec 32 := Scf.iv v425 c1_i32_126 k0_t2
  let v435 : BitVec 32 := Scalar.subi v434 arg7
  let c256_i32_134 : BitVec 32 := 256#32
  let v436 : BitVec 32 := Scalar.muli v435 c256_i32_134
  v436
def k0_off3 (i : grid0.Coords) (k0_t2 : Fin (k0_t2_loop i).trips) : Fin 2 → Nat :=
  let arg1 : BitVec 32 := BitVec.ofNat 32 (i 1).val
  let c8_i32_132 : BitVec 32 := 8#32
  let v433 : BitVec 32 := Scalar.muli arg1 c8_i32_132
  let c1_i32_133 : BitVec 32 := 1#32
  let v434 : BitVec 32 := Scalar.subi v433 c1_i32_133
  let c0_i32_123 : BitVec 32 := 0#32
  let c8_i32_122 : BitVec 32 := 8#32
  let v420 : BitVec 32 := Scalar.muli arg1 c8_i32_122
  let v421 : BitVec 32 := Scalar.subi v420 c0_i32_123
  let c1_i32_124 : BitVec 32 := 1#32
  let v423 : BitVec 32 := Scalar.divsi v421 c1_i32_124
  let v424 : BitVec 32 := Scalar.muli v423 c1_i32_124
  let v425 : BitVec 32 := Scalar.addi c0_i32_123 v424
  let c1_i32_126 : BitVec 32 := 1#32
  let arg7 : BitVec 32 := Scf.iv v425 c1_i32_126 k0_t2
  let v435 : BitVec 32 := Scalar.subi v434 arg7
  let c256_i32_134 : BitVec 32 := 256#32
  let v436 : BitVec 32 := Scalar.muli v435 c256_i32_134
  let v437 : BitVec 32 := v436
  let v438 : Index := Scalar.indexCast v437
  let c0_135 : Index := 0#32
  ![v438.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 8], ![false, false]⟩

@[reducible] def k1_t1_loop (i : grid1.Coords) : Scf.Loop 32 :=
  let c0_i32_12 : BitVec 32 := 0#32
  let arg1 : BitVec 32 := BitVec.ofNat 32 (i 1).val
  let c4_i32 : BitVec 32 := 4#32
  let v24 : BitVec 32 := Scalar.muli arg1 c4_i32
  let v26 : BitVec 32 := Scalar.subi v24 c0_i32_12
  let c1_i32 : BitVec 32 := 1#32
  let v28 : BitVec 32 := Scalar.divsi v26 c1_i32
  let v29 : BitVec 32 := Scalar.muli v28 c1_i32
  let v30 : BitVec 32 := Scalar.addi c0_i32_12 v29
  let c1_i32_13 : BitVec 32 := 1#32
  ⟨c0_i32_12, v30, c1_i32_13⟩
def k1_mult1 (i : grid1.Coords) (k1_t1 : Fin (k1_t1_loop i).trips) : BitVec 32 :=
  let c0_i32_12 : BitVec 32 := 0#32
  let c1_i32_13 : BitVec 32 := 1#32
  let arg10 : BitVec 32 := Scf.iv c0_i32_12 c1_i32_13 k1_t1
  let c256_i32_125 : BitVec 32 := 256#32
  let v393 : BitVec 32 := Scalar.muli arg10 c256_i32_125
  v393
def k1_off1 (i : grid1.Coords) (k1_t1 : Fin (k1_t1_loop i).trips) : Fin 2 → Nat :=
  let c0_i32_12 : BitVec 32 := 0#32
  let c1_i32_13 : BitVec 32 := 1#32
  let arg10 : BitVec 32 := Scf.iv c0_i32_12 c1_i32_13 k1_t1
  let c256_i32_125 : BitVec 32 := 256#32
  let v393 : BitVec 32 := Scalar.muli arg10 c256_i32_125
  let v394 : BitVec 32 := v393
  let v395 : Index := Scalar.indexCast v394
  let c0_126 : Index := 0#32
  ![v395.toNat, 0]
@[reducible] def k1_t2_loop (i : grid1.Coords) : Scf.Loop 32 :=
  let c0_i32_12 : BitVec 32 := 0#32
  let arg1 : BitVec 32 := BitVec.ofNat 32 (i 1).val
  let c4_i32 : BitVec 32 := 4#32
  let v24 : BitVec 32 := Scalar.muli arg1 c4_i32
  let v26 : BitVec 32 := Scalar.subi v24 c0_i32_12
  let c1_i32 : BitVec 32 := 1#32
  let v28 : BitVec 32 := Scalar.divsi v26 c1_i32
  let v29 : BitVec 32 := Scalar.muli v28 c1_i32
  let v30 : BitVec 32 := Scalar.addi c0_i32_12 v29
  let v27 : BitVec 32 := Scalar.addi c0_i32_12 v26
  let c1_i32_14 : BitVec 32 := 1#32
  ⟨v30, v27, c1_i32_14⟩
def k1_mult2 (i : grid1.Coords) (k1_t2 : Fin (k1_t2_loop i).trips) : BitVec 32 :=
  let c0_i32_12 : BitVec 32 := 0#32
  let arg1 : BitVec 32 := BitVec.ofNat 32 (i 1).val
  let c4_i32 : BitVec 32 := 4#32
  let v24 : BitVec 32 := Scalar.muli arg1 c4_i32
  let v26 : BitVec 32 := Scalar.subi v24 c0_i32_12
  let c1_i32 : BitVec 32 := 1#32
  let v28 : BitVec 32 := Scalar.divsi v26 c1_i32
  let v29 : BitVec 32 := Scalar.muli v28 c1_i32
  let v30 : BitVec 32 := Scalar.addi c0_i32_12 v29
  let c1_i32_14 : BitVec 32 := 1#32
  let arg10 : BitVec 32 := Scf.iv v30 c1_i32_14 k1_t2
  let c256_i32_125 : BitVec 32 := 256#32
  let v393 : BitVec 32 := Scalar.muli arg10 c256_i32_125
  v393
def k1_off2 (i : grid1.Coords) (k1_t2 : Fin (k1_t2_loop i).trips) : Fin 2 → Nat :=
  let c0_i32_12 : BitVec 32 := 0#32
  let arg1 : BitVec 32 := BitVec.ofNat 32 (i 1).val
  let c4_i32 : BitVec 32 := 4#32
  let v24 : BitVec 32 := Scalar.muli arg1 c4_i32
  let v26 : BitVec 32 := Scalar.subi v24 c0_i32_12
  let c1_i32 : BitVec 32 := 1#32
  let v28 : BitVec 32 := Scalar.divsi v26 c1_i32
  let v29 : BitVec 32 := Scalar.muli v28 c1_i32
  let v30 : BitVec 32 := Scalar.addi c0_i32_12 v29
  let c1_i32_14 : BitVec 32 := 1#32
  let arg10 : BitVec 32 := Scf.iv v30 c1_i32_14 k1_t2
  let c256_i32_125 : BitVec 32 := 256#32
  let v393 : BitVec 32 := Scalar.muli arg10 c256_i32_125
  let v394 : BitVec 32 := v393
  let v395 : Index := Scalar.indexCast v394
  let c0_126 : Index := 0#32
  ![v395.toNat, 0]
def k1_mult3 (i : grid1.Coords) : BitVec 32 :=
  let arg1 : BitVec 32 := BitVec.ofNat 32 (i 1).val
  let c4_i32_15 : BitVec 32 := 4#32
  let v33 : BitVec 32 := Scalar.muli arg1 c4_i32_15
  let c0_i32_16 : BitVec 32 := 0#32
  let v34 : BitVec 32 := Scalar.addi v33 c0_i32_16
  let c256_i32 : BitVec 32 := 256#32
  let v38 : BitVec 32 := Scalar.muli v34 c256_i32
  v38
def k1_off3 (i : grid1.Coords) (c0_i32_16 : BitVec 32) : Fin 2 → Nat :=
  let arg1 : BitVec 32 := BitVec.ofNat 32 (i 1).val
  let c4_i32_15 : BitVec 32 := 4#32
  let v33 : BitVec 32 := Scalar.muli arg1 c4_i32_15
  let v34 : BitVec 32 := Scalar.addi v33 c0_i32_16
  let c256_i32 : BitVec 32 := 256#32
  let v38 : BitVec 32 := Scalar.muli v34 c256_i32
  let v39 : BitVec 32 := v38
  let v40 : Index := Scalar.indexCast v39
  let c0_17 : Index := 0#32
  ![v40.toNat, 0]
def k1_mult4 (i : grid1.Coords) : BitVec 32 :=
  let arg1 : BitVec 32 := BitVec.ofNat 32 (i 1).val
  let c4_i32_42 : BitVec 32 := 4#32
  let v114 : BitVec 32 := Scalar.muli arg1 c4_i32_42
  let c1_i32_43 : BitVec 32 := 1#32
  let v115 : BitVec 32 := Scalar.addi v114 c1_i32_43
  let c256_i32_44 : BitVec 32 := 256#32
  let v122 : BitVec 32 := Scalar.muli v115 c256_i32_44
  v122
def k1_mult5 (i : grid1.Coords) : BitVec 32 :=
  let arg1 : BitVec 32 := BitVec.ofNat 32 (i 1).val
  let c4_i32_70 : BitVec 32 := 4#32
  let v209 : BitVec 32 := Scalar.muli arg1 c4_i32_70
  let c2_i32 : BitVec 32 := 2#32
  let v210 : BitVec 32 := Scalar.addi v209 c2_i32
  let c256_i32_71 : BitVec 32 := 256#32
  let v217 : BitVec 32 := Scalar.muli v210 c256_i32_71
  v217
def k1_mult6 (i : grid1.Coords) : BitVec 32 :=
  let arg1 : BitVec 32 := BitVec.ofNat 32 (i 1).val
  let c4_i32_97 : BitVec 32 := 4#32
  let v304 : BitVec 32 := Scalar.muli arg1 c4_i32_97
  let c3_i32 : BitVec 32 := 3#32
  let v305 : BitVec 32 := Scalar.addi v304 c3_i32
  let c256_i32_98 : BitVec 32 := 256#32
  let v312 : BitVec 32 := Scalar.muli v305 c256_i32_98
  v312
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8192x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8192x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S8192x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S8192x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== AttnReferenceIdeal.lean ====
abbrev S8192x4608 : Shape := ⟨2, ![8192, 4608]⟩
abbrev S8192x2048 : Shape := ⟨2, ![8192, 2048]⟩
abbrev S8192x1024 : Shape := ⟨2, ![8192, 1024]⟩
abbrev S8192x8x128 : Shape := ⟨3, ![8192, 8, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩
abbrev S8x8192x128 : Shape := ⟨3, ![8, 8192, 128]⟩

abbrev nBuf : Space → Nat
  | .hbm => 175
  | .vmem => 0
  | .smem => 0
  | _ => 0

abbrev hbmTy0_0 (i : Nat) : BufTy := match i % 128 with
  | 0 => ⟨S8192x4608, .f32⟩
  | 1 => ⟨S8192x2048, .f32⟩
  | 2 => ⟨S8192x1024, .f32⟩
  | 3 => ⟨S8192x1024, .f32⟩
  | 4 => ⟨S8192x1024, .f32⟩
  | 5 => ⟨S8192x8x128, .f32⟩
  | 6 => ⟨S8192x8x128, .f32⟩
  | 7 => ⟨S8192x8x128, .f32⟩
  | 8 => ⟨S8x8192x8192, .f32⟩
  | 9 => ⟨S_, .f32⟩
  | 10 => ⟨S8x8192x8192, .f32⟩
  | 11 => ⟨S8x8192x8192, .f32⟩
  | 12 => ⟨S8192, .i32⟩
  | 13 => ⟨S1x8192, .i32⟩
  | 14 => ⟨S8192x1, .i32⟩
  | 15 => ⟨S8192x8192, .i32⟩
  | 16 => ⟨S8192x8192, .i32⟩
  | 17 => ⟨S8192x8192, .i1⟩
  | 18 => ⟨S8x8192x8192, .f32⟩
  | 19 => ⟨S8x8192x8192, .f32⟩
  | 20 => ⟨S_, .f32⟩
  | 21 => ⟨S8x8192x8192, .f32⟩
  | 22 => ⟨S8x8192x8192, .f32⟩
  | 23 => ⟨S8x8192x8192, .f32⟩
  | 24 => ⟨S8x8192x8192, .f32⟩
  | 25 => ⟨S8x8192x8192, .i1⟩
  | 26 => ⟨S8x8192x8192, .f32⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S_, .f32⟩
  | 35 => ⟨S8x8192x8192, .f32⟩
  | 36 => ⟨S8x8192x8192, .i1⟩
  | 37 => ⟨S_, .f32⟩
  | 38 => ⟨S8x8192x8192, .f32⟩
  | 39 => ⟨S8x8192x8192, .f32⟩
  | 40 => ⟨S_, .f32⟩
  | 41 => ⟨S8x8192x8192, .f32⟩
  | 42 => ⟨S8x8192x8192, .i1⟩
  | 43 => ⟨S_, .f32⟩
  | 44 => ⟨S8x8192x8192, .f32⟩
  | 45 => ⟨S8x8192x8192, .f32⟩
  | 46 => ⟨S8x8192x8192, .f32⟩
  | 47 => ⟨S8x8192x8192, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S8x8192x8192, .f32⟩
  | 56 => ⟨S8x8192x8192, .i1⟩
  | 57 => ⟨S_, .f32⟩
  | 58 => ⟨S8x8192x8192, .f32⟩
  | 59 => ⟨S8x8192x8192, .f32⟩
  | 60 => ⟨S8x8192x8192, .f32⟩
  | 61 => ⟨S8x8192x8192, .f32⟩
  | 62 => ⟨S8x8192x8192, .f32⟩
  | 63 => ⟨S_, .f32⟩
  | 64 => ⟨S8x8192x8192, .f32⟩
  | 65 => ⟨S8x8192x8192, .f32⟩
  | 66 => ⟨S8x8192x8192, .f32⟩
  | 67 => ⟨S_, .f32⟩
  | 68 => ⟨S_, .f32⟩
  | 69 => ⟨S8x8192x8192, .i1⟩
  | 70 => ⟨S8x8192x8192, .f32⟩
  | 71 => ⟨S8x8192x8192, .f32⟩
  | 72 => ⟨S_, .f32⟩
  | 73 => ⟨S8x8192x8192, .f32⟩
  | 74 => ⟨S_, .f32⟩
  | 75 => ⟨S_, .f32⟩
  | 76 => ⟨S8x8192x8192, .f32⟩
  | 77 => ⟨S8x8192x8192, .f32⟩
  | 78 => ⟨S8x8192x8192, .f32⟩
  | 79 => ⟨S_, .f32⟩
  | 80 => ⟨S8x8192x8192, .f32⟩
  | 81 => ⟨S8x8192x8192, .f32⟩
  | 82 => ⟨S8x8192x8192, .f32⟩
  | 83 => ⟨S8x8192x8192, .f32⟩
  | 84 => ⟨S8x8192x8192, .i1⟩
  | 85 => ⟨S8x8192x8192, .f32⟩
  | 86 => ⟨S8x8192x8192, .f32⟩
  | 87 => ⟨S8x8192x8192, .f32⟩
  | 88 => ⟨S8x8192x8192, .f32⟩
  | 89 => ⟨S8x8192x8192, .f32⟩
  | 90 => ⟨S8x8192x8192, .f32⟩
  | 91 => ⟨S8x8192x8192, .f32⟩
  | 92 => ⟨S8x8192x8192, .f32⟩
  | 93 => ⟨S_, .f32⟩
  | 94 => ⟨S8x8192x8192, .f32⟩
  | 95 => ⟨S8x8192x8192, .i1⟩
  | 96 => ⟨S_, .f32⟩
  | 97 => ⟨S8x8192x8192, .f32⟩
  | 98 => ⟨S8x8192x8192, .f32⟩
  | 99 => ⟨S_, .f32⟩
  | 100 => ⟨S8x8192x8192, .f32⟩
  | 101 => ⟨S8x8192x8192, .i1⟩
  | 102 => ⟨S_, .f32⟩
  | 103 => ⟨S8x8192x8192, .f32⟩
  | 104 => ⟨S8x8192x8192, .f32⟩
  | 105 => ⟨S8x8192x8192, .f32⟩
  | 106 => ⟨S8x8192x8192, .f32⟩
  | 107 => ⟨S_, .f32⟩
  | 108 => ⟨S_, .f32⟩
  | 109 => ⟨S_, .i1⟩
  | 110 => ⟨S_, .f32⟩
  | 111 => ⟨S_, .f32⟩
  | 112 => ⟨S_, .f32⟩
  | 113 => ⟨S_, .f32⟩
  | 114 => ⟨S8x8192x8192, .f32⟩
  | 115 => ⟨S8x8192x8192, .i1⟩
  | 116 => ⟨S_, .f32⟩
  | 117 => ⟨S8x8192x8192, .f32⟩
  | 118 => ⟨S8x8192x8192, .f32⟩
  | 119 => ⟨S8x8192x8192, .f32⟩
  | 120 => ⟨S8x8192x8192, .f32⟩
  | 121 => ⟨S8x8192x8192, .f32⟩
  | 122 => ⟨S_, .f32⟩
  | 123 => ⟨S8x8192x8192, .f32⟩
  | 124 => ⟨S8x8192x8192, .f32⟩
  | 125 => ⟨S8x8192x8192, .f32⟩
  | 126 => ⟨S8x8192x8192, .f32⟩
  | 127 => ⟨S8x8192x8192, .f32⟩
  | _ => ⟨S8192x4608, .f32⟩

abbrev hbmTy0_1 (i : Nat) : BufTy := match i % 128 with
  | 0 => ⟨S_, .f32⟩
  | 1 => ⟨S_, .f32⟩
  | 2 => ⟨S8x8192x8192, .i1⟩
  | 3 => ⟨S8x8192x8192, .f32⟩
  | 4 => ⟨S8x8192x8192, .f32⟩
  | 5 => ⟨S_, .f32⟩
  | 6 => ⟨S8x8192x8192, .f32⟩
  | 7 => ⟨S8x128x8192, .f32⟩
  | 8 => ⟨S8192x8x128, .f32⟩
  | 9 => ⟨S8192x1024, .f32⟩
  | 10 => ⟨S8192x1024, .bf16⟩
  | 11 => ⟨S8192x1024, .f32⟩
  | 12 => ⟨S8192x8x128, .f32⟩
  | 13 => ⟨S8x128x8192, .f32⟩
  | 14 => ⟨S8x8192x8192, .f32⟩
  | 15 => ⟨S8x128x8192, .f32⟩
  | 16 => ⟨S8192x8x128, .f32⟩
  | 17 => ⟨S_, .f32⟩
  | 18 => ⟨S8x8192x8192, .f32⟩
  | 19 => ⟨S8x8192x8192, .f32⟩
  | 20 => ⟨S8x8192x8192, .f32⟩
  | 21 => ⟨S8x8192x8192, .f32⟩
  | 22 => ⟨S8x8192x8192, .f32⟩
  | 23 => ⟨S8x8192x8192, .f32⟩
  | 24 => ⟨S8x8192x8192, .f32⟩
  | 25 => ⟨S_, .f32⟩
  | 26 => ⟨S_, .f32⟩
  | 27 => ⟨S8x8192x8192, .f32⟩
  | 28 => ⟨S8x8192x8192, .f32⟩
  | 29 => ⟨S_, .f32⟩
  | 30 => ⟨S8x8192x8192, .f32⟩
  | 31 => ⟨S8x8192x8192, .f32⟩
  | 32 => ⟨S8x8192x8192, .f32⟩
  | 33 => ⟨S8x8192x8192, .f32⟩
  | 34 => ⟨S8x8192x8192, .f32⟩
  | 35 => ⟨S8x8192x8192, .f32⟩
  | 36 => ⟨S8x8192x8192, .f32⟩
  | 37 => ⟨S_, .f32⟩
  | 38 => ⟨S8x8192x8192, .f32⟩
  | 39 => ⟨S8x8192x8192, .f32⟩
  | 40 => ⟨S8x8192x128, .f32⟩
  | 41 => ⟨S8192x8x128, .f32⟩
  | 42 => ⟨S8x8192x128, .f32⟩
  | 43 => ⟨S8192x8x128, .f32⟩
  | 44 => ⟨S8192x1024, .f32⟩
  | 45 => ⟨S8192x1024, .f32⟩
  | 46 => ⟨S8192x1024, .f32⟩
  | _ => ⟨S8192x4608, .f32⟩

abbrev hbmTy (i : Nat) : BufTy := match i / 128 with
  | 0 => hbmTy0_0 i
  | 1 => hbmTy0_1 i
  | _ => ⟨S8192x4608, .f32⟩

abbrev bufTy : (tb : Table) → Fin (tcTables nBuf tb) → BufTy
  | .hbm, ⟨i, _⟩ => hbmTy i
  | _, _ => ⟨S8192x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v16_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v16_2 : Ref sig .tc := ⟨.hbm, 65, rfl⟩
abbrev main_v16_0 : Ref sig .tc := ⟨.hbm, 66, rfl⟩
abbrev main_cst_0 : Ref sig .tc := ⟨.hbm, 67, rfl⟩
abbrev main_call1_v0 : Ref sig .tc := ⟨.hbm, 68, rfl⟩
abbrev main_v17_1 : Ref sig .tc := ⟨.hbm, 69, rfl⟩
abbrev main_call1_v2 : Ref sig .tc := ⟨.hbm, 70, rfl⟩
abbrev main_v17_0 : Ref sig .tc := ⟨.hbm, 71, rfl⟩
abbrev main_call1_cst : Ref sig .tc := ⟨.hbm, 72, rfl⟩
abbrev main_v17_2 : Ref sig .tc := ⟨.hbm, 73, rfl⟩
abbrev main_call2_cst : Ref sig .tc := ⟨.hbm, 74, rfl⟩
abbrev main_call2_v0 : Ref sig .tc := ⟨.hbm, 75, rfl⟩
abbrev main_v18 : Ref sig .tc := ⟨.hbm, 76, rfl⟩
abbrev main_v19 : Ref sig .tc := ⟨.hbm, 77, rfl⟩
abbrev main_call3_v0 : Ref sig .tc := ⟨.hbm, 78, rfl⟩
abbrev main_call3_call0_cst : Ref sig .tc := ⟨.hbm, 79, rfl⟩
abbrev main_call3_call0_v0 : Ref sig .tc := ⟨.hbm, 80, rfl⟩
abbrev main_call3_call0_v1 : Ref sig .tc := ⟨.hbm, 81, rfl⟩
abbrev main_call3_call0_v2 : Ref sig .tc := ⟨.hbm, 82, rfl⟩
abbrev main_call3_call0_v3 : Ref sig .tc := ⟨.hbm, 83, rfl⟩
abbrev main_call3_call0_v4 : Ref sig .tc := ⟨.hbm, 84, rfl⟩
abbrev main_call3_call0_v5 : Ref sig .tc := ⟨.hbm, 85, rfl⟩
abbrev main_call3_call0_v6 : Ref sig .tc := ⟨.hbm, 86, rfl⟩
abbrev main_call3_call0_v7 : Ref sig .tc := ⟨.hbm, 87, rfl⟩
abbrev main_call3_call0_v8 : Ref sig .tc := ⟨.hbm, 88, rfl⟩
abbrev main_call3_call0_v9 : Ref sig .tc := ⟨.hbm, 89, rfl⟩
abbrev main_call3_call0_v10 : Ref sig .tc := ⟨.hbm, 90, rfl⟩
abbrev main_call3_call0_v11 : Ref sig .tc := ⟨.hbm, 91, rfl⟩
abbrev main_call3_v1_0 : Ref sig .tc := ⟨.hbm, 92, rfl⟩
abbrev main_call3_call0_cst_0 : Ref sig .tc := ⟨.hbm, 93, rfl⟩
abbrev main_call3_call0_v13 : Ref sig .tc := ⟨.hbm, 94, rfl⟩
abbrev main_call3_call0_v14 : Ref sig .tc := ⟨.hbm, 95, rfl⟩
abbrev main_call3_call0_cst_1 : Ref sig .tc := ⟨.hbm, 96, rfl⟩
abbrev main_call3_call0_v15 : Ref sig .tc := ⟨.hbm, 97, rfl⟩
abbrev main_call3_call0_v16 : Ref sig .tc := ⟨.hbm, 98, rfl⟩
abbrev main_call3_call0_cst_2 : Ref sig .tc := ⟨.hbm, 99, rfl⟩
abbrev main_call3_call0_v17 : Ref sig .tc := ⟨.hbm, 100, rfl⟩
abbrev main_call3_call0_v18 : Ref sig .tc := ⟨.hbm, 101, rfl⟩
abbrev main_call3_call0_cst_3 : Ref sig .tc := ⟨.hbm, 102, rfl⟩
abbrev main_call3_call0_v19 : Ref sig .tc := ⟨.hbm, 103, rfl⟩
abbrev main_call3_call0_v20 : Ref sig .tc := ⟨.hbm, 104, rfl⟩
abbrev main_call3_call0_v21 : Ref sig .tc := ⟨.hbm, 105, rfl⟩
abbrev main_v20_1 : Ref sig .tc := ⟨.hbm, 106, rfl⟩
abbrev main_call3_call0_cst_4 : Ref sig .tc := ⟨.hbm, 107, rfl⟩
abbrev main_call3_call0_cst_5 : Ref sig .tc := ⟨.hbm, 108, rfl⟩
abbrev main_call3_call0_v23 : Ref sig .tc := ⟨.hbm, 109, rfl⟩
abbrev main_call3_call0_cst_6 : Ref sig .tc := ⟨.hbm, 110, rfl⟩
abbrev main_call3_call0_cst_7 : Ref sig .tc := ⟨.hbm, 111, rfl⟩
abbrev main_call3_call0_v24 : Ref sig .tc := ⟨.hbm, 112, rfl⟩
abbrev main_call3_call0_cst_8 : Ref sig .tc := ⟨.hbm, 113, rfl⟩
abbrev main_call3_call0_v25 : Ref sig .tc := ⟨.hbm, 114, rfl⟩
abbrev main_call3_call0_v26 : Ref sig .tc := ⟨.hbm, 115, rfl⟩
abbrev main_call3_call0_cst_9 : Ref sig .tc := ⟨.hbm, 116, rfl⟩
abbrev main_call3_call0_v27 : Ref sig .tc := ⟨.hbm, 117, rfl⟩
abbrev main_call3_call0_v28 : Ref sig .tc := ⟨.hbm, 118, rfl⟩
abbrev main_call3_call0_v29 : Ref sig .tc := ⟨.hbm, 119, rfl⟩
abbrev main_call3_call0_v30 : Ref sig .tc := ⟨.hbm, 120, rfl⟩
abbrev main_call3_call0_v31 : Ref sig .tc := ⟨.hbm, 121, rfl⟩
abbrev main_call3_call0_cst_10 : Ref sig .tc := ⟨.hbm, 122, rfl⟩
abbrev main_call3_call0_v32 : Ref sig .tc := ⟨.hbm, 123, rfl⟩
abbrev main_v20_2 : Ref sig .tc := ⟨.hbm, 124, rfl⟩
abbrev main_v20_0 : Ref sig .tc := ⟨.hbm, 125, rfl⟩
abbrev main_v21 : Ref sig .tc := ⟨.hbm, 126, rfl⟩
abbrev main_v22 : Ref sig .tc := ⟨.hbm, 127, rfl⟩
abbrev main_cst_1 : Ref sig .tc := ⟨.hbm, 128, rfl⟩
abbrev main_call4_v0 : Ref sig .tc := ⟨.hbm, 129, rfl⟩
abbrev main_v23_1 : Ref sig .tc := ⟨.hbm, 130, rfl⟩
abbrev main_call4_v2 : Ref sig .tc := ⟨.hbm, 131, rfl⟩
abbrev main_v23_0 : Ref sig .tc := ⟨.hbm, 132, rfl⟩
abbrev main_call4_cst : Ref sig .tc := ⟨.hbm, 133, rfl⟩
abbrev main_v23_2 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_call5_cst : Ref sig .tc := ⟨.hbm, 145, rfl⟩
abbrev main_call5_v0 : Ref sig .tc := ⟨.hbm, 146, rfl⟩
abbrev main_v34 : Ref sig .tc := ⟨.hbm, 147, rfl⟩
abbrev main_v35 : Ref sig .tc := ⟨.hbm, 148, rfl⟩
abbrev main_call6_v0 : Ref sig .tc := ⟨.hbm, 149, rfl⟩
abbrev main_call6_v1 : Ref sig .tc := ⟨.hbm, 150, rfl⟩
abbrev main_v36 : Ref sig .tc := ⟨.hbm, 151, rfl⟩
abbrev main_v37 : Ref sig .tc := ⟨.hbm, 152, rfl⟩
abbrev main_call7_cst : Ref sig .tc := ⟨.hbm, 153, rfl⟩
abbrev main_call7_v0 : Ref sig .tc := ⟨.hbm, 154, rfl⟩
abbrev main_v38 : Ref sig .tc := ⟨.hbm, 155, rfl⟩
abbrev main_v39 : Ref sig .tc := ⟨.hbm, 156, rfl⟩
abbrev main_call8_cst : Ref sig .tc := ⟨.hbm, 157, rfl⟩
abbrev main_call8_v0 : Ref sig .tc := ⟨.hbm, 158, rfl⟩
abbrev main_v40 : Ref sig .tc := ⟨.hbm, 159, rfl⟩
abbrev main_call9_v0 : Ref sig .tc := ⟨.hbm, 160, rfl⟩
abbrev main_call9_v1 : Ref sig .tc := ⟨.hbm, 161, rfl⟩
abbrev main_v41 : Ref sig .tc := ⟨.hbm, 162, rfl⟩
abbrev main_v42 : Ref sig .tc := ⟨.hbm, 163, rfl⟩
abbrev main_v43 : Ref sig .tc := ⟨.hbm, 164, rfl⟩
abbrev main_cst_2 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩

abbrev nD : Nat := 1
abbrev τ : Topo := Topo.v7x

variable {F : FTy → Type} [FloatOps F]
-- ==== PoolKernel.lean ====
abbrev S8192x4608 : Shape := ⟨2, ![8192, 4608]⟩
abbrev S8192x2048 : Shape := ⟨2, ![8192, 2048]⟩
abbrev S4x128x128 : Shape := ⟨3, ![4, 128, 128]⟩
abbrev S512 : Shape := ⟨1, ![512]⟩
abbrev S1x512 : Shape := ⟨2, ![1, 512]⟩
abbrev S8192x512 : Shape := ⟨2, ![8192, 512]⟩
abbrev S512x512 : Shape := ⟨2, ![512, 512]⟩
abbrev S16x512 : Shape := ⟨2, ![16, 512]⟩
abbrev S528x512 : Shape := ⟨2, ![528, 512]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩

abbrev nBuf : Space → Nat
  | .hbm => 8
  | .vmem => 14
  | .smem => 0
  | _ => 0

abbrev bufTy : (tb : Table) → Fin (tcTables nBuf tb) → BufTy
  | .hbm, ⟨0, _⟩ => ⟨S8192x4608, .f32⟩
  | .hbm, ⟨1, _⟩ => ⟨S8192x2048, .f32⟩
  | .hbm, ⟨2, _⟩ => ⟨S4x128x128, .f32⟩
  | .hbm, ⟨3, _⟩ => ⟨S512, .f32⟩
  | .hbm, ⟨4, _⟩ => ⟨S1x512, .f32⟩
  | .hbm, ⟨5, _⟩ => ⟨S8192x512, .bf16⟩
  | .hbm, ⟨6, _⟩ => ⟨S4x128x128, .f32⟩
  | .hbm, ⟨7, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S512x512, .f32⟩
  | .local _ .vmem, ⟨5, _⟩ => ⟨S512x512, .f32⟩
  | .local _ .vmem, ⟨6, _⟩ => ⟨S4x128x128, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S4x128x128, .f32⟩
  | .local _ .vmem, ⟨11, _⟩ => ⟨S1x512, .f32⟩
  | .local _ .vmem, ⟨12, _⟩ => ⟨S528x512, .f32⟩
  | .local _ .vmem, ⟨13, _⟩ => ⟨S528x512, .f32⟩
  | _, _ => ⟨S8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c8_i32 : BitVec 32 := 8#32
  let c0_i32 : BitVec 32 := 0#32
  ![v0.toNat, c8_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c8_i32 : BitVec 32 := 8#32
  let c0_i32_0 : BitVec 32 := 0#32
  ![v3.toNat, c8_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PoolReferenceIdeal.lean ====
abbrev S8192x4608 : Shape := ⟨2, ![8192, 4608]⟩
abbrev S8192x2048 : Shape := ⟨2, ![8192, 2048]⟩
abbrev S4x128x128 : Shape := ⟨3, ![4, 128, 128]⟩
abbrev S512 : Shape := ⟨1, ![512]⟩
abbrev S8192x512 : Shape := ⟨2, ![8192, 512]⟩
abbrev S8192x4x128 : Shape := ⟨3, ![8192, 4, 128]⟩
abbrev S_ : Shape := ⟨0, ![]⟩
abbrev S8192 : Shape := ⟨1, ![8192]⟩
abbrev S8192x1x128 : Shape := ⟨3, ![8192, 1, 128]⟩
abbrev S8192x128 : Shape := ⟨2, ![8192, 128]⟩
abbrev S2x128 : Shape := ⟨2, ![2, 128]⟩
abbrev S8190x128 : Shape := ⟨2, ![8190, 128]⟩
abbrev S8192x1 : Shape := ⟨2, ![8192, 1]⟩
abbrev S4x128 : Shape := ⟨2, ![4, 128]⟩
abbrev S8188x128 : Shape := ⟨2, ![8188, 128]⟩
abbrev S8x128 : Shape := ⟨2, ![8, 128]⟩
abbrev S8184x128 : Shape := ⟨2, ![8184, 128]⟩
abbrev S16x128 : Shape := ⟨2, ![16, 128]⟩
abbrev S8176x128 : Shape := ⟨2, ![8176, 128]⟩
abbrev S4x128x8192 : Shape := ⟨3, ![4, 128, 8192]⟩
abbrev S1x512 : Shape := ⟨2, ![1, 512]⟩
abbrev S4x8192x128 : Shape := ⟨3, ![4, 8192, 128]⟩

abbrev nBuf : Space → Nat
  | .hbm => 205
  | .vmem => 0
  | .smem => 0
  | _ => 0

abbrev hbmTy0_0 (i : Nat) : BufTy := match i % 128 with
  | 0 => ⟨S8192x4608, .f32⟩
  | 1 => ⟨S8192x2048, .f32⟩
  | 2 => ⟨S4x128x128, .f32⟩
  | 3 => ⟨S512, .f32⟩
  | 4 => ⟨S8192x512, .f32⟩
  | 5 => ⟨S8192x4x128, .f32⟩
  | 6 => ⟨S_, .f32⟩
  | 7 => ⟨S_, .f32⟩
  | 8 => ⟨S8192x4x128, .f32⟩
  | 9 => ⟨S8192, .i32⟩
  | 10 => ⟨S8192x1x128, .f32⟩
  | 11 => ⟨S8192x128, .f32⟩
  | 12 => ⟨S_, .f32⟩
  | 13 => ⟨S2x128, .f32⟩
  | 14 => ⟨S8190x128, .f32⟩
  | 15 => ⟨S8192x128, .f32⟩
  | 16 => ⟨S_, .f32⟩
  | 17 => ⟨S2x128, .f32⟩
  | 18 => ⟨S_, .i32⟩
  | 19 => ⟨S8192, .i32⟩
  | 20 => ⟨S8192, .i32⟩
  | 21 => ⟨S_, .i32⟩
  | 22 => ⟨S8192, .i32⟩
  | 23 => ⟨S8192, .i32⟩
  | 24 => ⟨S8192, .f32⟩
  | 25 => ⟨S8192x1, .f32⟩
  | 26 => ⟨S8192x128, .f32⟩
  | 27 => ⟨S8192x128, .f32⟩
  | 28 => ⟨S8192x128, .f32⟩
  | 29 => ⟨S8192x1x128, .f32⟩
  | 30 => ⟨S8192x128, .f32⟩
  | 31 => ⟨S8192x128, .f32⟩
  | 32 => ⟨S8192x1x128, .f32⟩
  | 33 => ⟨S8192x128, .f32⟩
  | 34 => ⟨S_, .f32⟩
  | 35 => ⟨S4x128, .f32⟩
  | 36 => ⟨S8188x128, .f32⟩
  | 37 => ⟨S8192x128, .f32⟩
  | 38 => ⟨S_, .f32⟩
  | 39 => ⟨S4x128, .f32⟩
  | 40 => ⟨S_, .i32⟩
  | 41 => ⟨S8192, .i32⟩
  | 42 => ⟨S8192, .i32⟩
  | 43 => ⟨S_, .i32⟩
  | 44 => ⟨S8192, .i32⟩
  | 45 => ⟨S8192, .i32⟩
  | 46 => ⟨S8192, .f32⟩
  | 47 => ⟨S8192x1, .f32⟩
  | 48 => ⟨S8192x128, .f32⟩
  | 49 => ⟨S8192x128, .f32⟩
  | 50 => ⟨S8192x128, .f32⟩
  | 51 => ⟨S8192x1x128, .f32⟩
  | 52 => ⟨S8192x128, .f32⟩
  | 53 => ⟨S8192x128, .f32⟩
  | 54 => ⟨S8192x1x128, .f32⟩
  | 55 => ⟨S8192x128, .f32⟩
  | 56 => ⟨S_, .f32⟩
  | 57 => ⟨S8x128, .f32⟩
  | 58 => ⟨S8184x128, .f32⟩
  | 59 => ⟨S8192x128, .f32⟩
  | 60 => ⟨S_, .f32⟩
  | 61 => ⟨S8x128, .f32⟩
  | 62 => ⟨S_, .i32⟩
  | 63 => ⟨S8192, .i32⟩
  | 64 => ⟨S8192, .i32⟩
  | 65 => ⟨S_, .i32⟩
  | 66 => ⟨S8192, .i32⟩
  | 67 => ⟨S8192, .i32⟩
  | 68 => ⟨S8192, .f32⟩
  | 69 => ⟨S8192x1, .f32⟩
  | 70 => ⟨S8192x128, .f32⟩
  | 71 => ⟨S8192x128, .f32⟩
  | 72 => ⟨S8192x128, .f32⟩
  | 73 => ⟨S8192x1x128, .f32⟩
  | 74 => ⟨S8192x128, .f32⟩
  | 75 => ⟨S8192x128, .f32⟩
  | 76 => ⟨S8192x1x128, .f32⟩
  | 77 => ⟨S8192x128, .f32⟩
  | 78 => ⟨S_, .f32⟩
  | 79 => ⟨S16x128, .f32⟩
  | 80 => ⟨S8176x128, .f32⟩
  | 81 => ⟨S8192x128, .f32⟩
  | 82 => ⟨S_, .f32⟩
  | 83 => ⟨S16x128, .f32⟩
  | 84 => ⟨S_, .i32⟩
  | 85 => ⟨S8192, .i32⟩
  | 86 => ⟨S8192, .i32⟩
  | 87 => ⟨S_, .i32⟩
  | 88 => ⟨S8192, .i32⟩
  | 89 => ⟨S8192, .i32⟩
  | 90 => ⟨S8192, .f32⟩
  | 91 => ⟨S8192x1, .f32⟩
  | 92 => ⟨S8192x128, .f32⟩
  | 93 => ⟨S8192x128, .f32⟩
  | 94 => ⟨S8192x128, .f32⟩
  | 95 => ⟨S8192x1x128, .f32⟩
  | 96 => ⟨S8192x128, .f32⟩
  | 97 => ⟨S8192x128, .f32⟩
  | 98 => ⟨S8192x1x128, .f32⟩
  | 99 => ⟨S8192x1x128, .f32⟩
  | 100 => ⟨S8192x1x128, .f32⟩
  | 101 => ⟨S8192x1x128, .f32⟩
  | 102 => ⟨S8192x4x128, .f32⟩
  | 103 => ⟨S4x128x8192, .f32⟩
  | 104 => ⟨S8192x4x128, .f32⟩
  | 105 => ⟨S8192x512, .f32⟩
  | 106 => ⟨S1x512, .f32⟩
  | 107 => ⟨S8192x512, .f32⟩
  | 108 => ⟨S8192x512, .f32⟩
  | 109 => ⟨S8192x512, .f32⟩
  | 110 => ⟨S8192x512, .f32⟩
  | 111 => ⟨S_, .f32⟩
  | 112 => ⟨S512, .f32⟩
  | 113 => ⟨S1x512, .f32⟩
  | 114 => ⟨S8192x512, .f32⟩
  | 115 => ⟨S8192x512, .f32⟩
  | 116 => ⟨S_, .f32⟩
  | 117 => ⟨S512, .f32⟩
  | 118 => ⟨S8192x4x128, .f32⟩
  | 119 => ⟨S4x128x8192, .f32⟩
  | 120 => ⟨S4x8192x128, .f32⟩
  | 121 => ⟨S8192x4x128, .f32⟩
  | 122 => ⟨S4x128x128, .f32⟩
  | 123 => ⟨S4x128x128, .f32⟩
  | 124 => ⟨S8192x1x128, .f32⟩
  | 125 => ⟨S8192x128, .f32⟩
  | 126 => ⟨S8192x1x128, .f32⟩
  | 127 => ⟨S8192x128, .f32⟩
  | _ => ⟨S8192x4608, .f32⟩

abbrev hbmTy0_1 (i : Nat) : BufTy := match i % 128 with
  | 0 => ⟨S8192x1x128, .f32⟩
  | 1 => ⟨S8192x128, .f32⟩
  | 2 => ⟨S8192x1x128, .f32⟩
  | 3 => ⟨S8192x128, .f32⟩
  | 4 => ⟨S8192x128, .f32⟩
  | 5 => ⟨S8192x1x128, .f32⟩
  | 6 => ⟨S_, .f32⟩
  | 7 => ⟨S8192x4x128, .f32⟩
  | 8 => ⟨S8192x128, .f32⟩
  | 9 => ⟨S8192x128, .f32⟩
  | 10 => ⟨S8192x128, .f32⟩
  | 11 => ⟨S16x128, .f32⟩
  | 12 => ⟨S8176x128, .f32⟩
  | 13 => ⟨S_, .f32⟩
  | 14 => ⟨S8192x128, .f32⟩
  | 15 => ⟨S8192x128, .f32⟩
  | 16 => ⟨S8192x1x128, .f32⟩
  | 17 => ⟨S_, .f32⟩
  | 18 => ⟨S8192x4x128, .f32⟩
  | 19 => ⟨S8192x128, .f32⟩
  | 20 => ⟨S8192x1x128, .f32⟩
  | 21 => ⟨S_, .f32⟩
  | 22 => ⟨S8192x4x128, .f32⟩
  | 23 => ⟨S8192x4x128, .f32⟩
  | 24 => ⟨S8192x128, .f32⟩
  | 25 => ⟨S8192x128, .f32⟩
  | 26 => ⟨S8192x128, .f32⟩
  | 27 => ⟨S8x128, .f32⟩
  | 28 => ⟨S8184x128, .f32⟩
  | 29 => ⟨S_, .f32⟩
  | 30 => ⟨S8192x128, .f32⟩
  | 31 => ⟨S8192x128, .f32⟩
  | 32 => ⟨S8192x1x128, .f32⟩
  | 33 => ⟨S_, .f32⟩
  | 34 => ⟨S8192x4x128, .f32⟩
  | 35 => ⟨S8192x4x128, .f32⟩
  | 36 => ⟨S8192x128, .f32⟩
  | 37 => ⟨S8192x1x128, .f32⟩
  | 38 => ⟨S_, .f32⟩
  | 39 => ⟨S8192x4x128, .f32⟩
  | 40 => ⟨S8192x4x128, .f32⟩
  | 41 => ⟨S8192x128, .f32⟩
  | 42 => ⟨S8192x128, .f32⟩
  | 43 => ⟨S8192x128, .f32⟩
  | 44 => ⟨S4x128, .f32⟩
  | 45 => ⟨S8188x128, .f32⟩
  | 46 => ⟨S_, .f32⟩
  | 47 => ⟨S8192x128, .f32⟩
  | 48 => ⟨S8192x128, .f32⟩
  | 49 => ⟨S8192x1x128, .f32⟩
  | 50 => ⟨S_, .f32⟩
  | 51 => ⟨S8192x4x128, .f32⟩
  | 52 => ⟨S8192x4x128, .f32⟩
  | 53 => ⟨S8192x128, .f32⟩
  | 54 => ⟨S8192x1x128, .f32⟩
  | 55 => ⟨S_, .f32⟩
  | 56 => ⟨S8192x4x128, .f32⟩
  | 57 => ⟨S8192x4x128, .f32⟩
  | 58 => ⟨S8192x128, .f32⟩
  | 59 => ⟨S8192x128, .f32⟩
  | 60 => ⟨S8192x128, .f32⟩
  | 61 => ⟨S2x128, .f32⟩
  | 62 => ⟨S8190x128, .f32⟩
  | 63 => ⟨S_, .f32⟩
  | 64 => ⟨S8192x128, .f32⟩
  | 65 => ⟨S8192x128, .f32⟩
  | 66 => ⟨S8192x1x128, .f32⟩
  | 67 => ⟨S_, .f32⟩
  | 68 => ⟨S8192x4x128, .f32⟩
  | 69 => ⟨S8192x4x128, .f32⟩
  | 70 => ⟨S_, .f32⟩
  | 71 => ⟨S_, .f32⟩
  | 72 => ⟨S8192x4x128, .f32⟩
  | 73 => ⟨S8192x4x128, .f32⟩
  | 74 => ⟨S8192x512, .f32⟩
  | 75 => ⟨S8192x512, .bf16⟩
  | 76 => ⟨S1x512, .f32⟩
  | _ => ⟨S8192x4608, .f32⟩

abbrev hbmTy (i : Nat) : BufTy := match i / 128 with
  | 0 => hbmTy0_0 i
  | 1 => hbmTy0_1 i
  | _ => ⟨S8192x4608, .f32⟩

abbrev bufTy : (tb : Table) → Fin (tcTables nBuf tb) → BufTy
  | .hbm, ⟨i, _⟩ => hbmTy i
  | _, _ => ⟨S8192x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_call0_cst : Ref sig .tc := ⟨.hbm, 6, rfl⟩
abbrev main_call0_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_11 : Ref sig .tc := ⟨.hbm, 82, rfl⟩
abbrev main_v63 : Ref sig .tc := ⟨.hbm, 83, rfl⟩
abbrev main_c_12 : Ref sig .tc := ⟨.hbm, 84, rfl⟩
abbrev main_v64 : Ref sig .tc := ⟨.hbm, 85, rfl⟩
abbrev main_v65 : Ref sig .tc := ⟨.hbm, 86, rfl⟩
abbrev main_c_13 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_14 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_15 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_cst_16 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_cst_17 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_cst_18 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_cst_19 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_cst_20 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_cst_21 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_cst_22 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_cst_23 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_cst_24 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_cst_25 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_cst_26 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_cst_27 : Ref sig .tc := ⟨.hbm, 195, rfl⟩
abbrev main_v160 : Ref sig .tc := ⟨.hbm, 196, rfl⟩
abbrev main_v161 : Ref sig .tc := ⟨.hbm, 197, rfl⟩
abbrev main_call1_call0_cst : Ref sig .tc := ⟨.hbm, 198, rfl⟩
abbrev main_call1_call0_v0 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩

abbrev nD : Nat := 1
abbrev τ : Topo := Topo.v7x

variable {F : FTy → Type} [FloatOps F]
-- ==== LossKernel.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S_ : Shape := ⟨0, ![]⟩

abbrev nBuf : Space → Nat
  | .hbm => 13
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S1x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 72
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== MixKernel.lean ====
abbrev S8192x2048 : Shape := ⟨2, ![8192, 2048]⟩
abbrev S2048 : Shape := ⟨1, ![2048]⟩
abbrev S8192x4608 : Shape := ⟨2, ![8192, 4608]⟩
abbrev S2x2048x4608 : Shape := ⟨3, ![2, 2048, 4608]⟩
abbrev S1x2048 : Shape := ⟨2, ![1, 2048]⟩
abbrev S2x2048x4x1152 : Shape := ⟨4, ![2, 2048, 4, 1152]⟩
abbrev S4x2x2048x1152 : Shape := ⟨4, ![4, 2, 2048, 1152]⟩
abbrev S256x2048 : Shape := ⟨2, ![256, 2048]⟩
abbrev S256x4608 : Shape := ⟨2, ![256, 4608]⟩
abbrev S4x1x2048x1152 : Shape := ⟨4, ![4, 1, 2048, 1152]⟩
abbrev S256x1152 : Shape := ⟨2, ![256, 1152]⟩
abbrev S1x1x512x1152 : Shape := ⟨4, ![1, 1, 512, 1152]⟩
abbrev S512x1152 : Shape := ⟨2, ![512, 1152]⟩
abbrev S256x512 : Shape := ⟨2, ![256, 512]⟩
abbrev S128x2048 : Shape := ⟨2, ![128, 2048]⟩
abbrev S128 : Shape := ⟨1, ![128]⟩
abbrev S128x1 : Shape := ⟨2, ![128, 1]⟩

abbrev nBuf : Space → Nat
  | .hbm => 12
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x4608, .f32⟩
  | .hbm, ⟨3, _⟩ => ⟨S2x2048x4608, .f32⟩
  | .hbm, ⟨4, _⟩ => ⟨S8192x2048, .f32⟩
  | .hbm, ⟨5, _⟩ => ⟨S1x2048, .f32⟩
  | .hbm, ⟨6, _⟩ => ⟨S8192x4608, .bf16⟩
  | .hbm, ⟨7, _⟩ => ⟨S2x2048x4x1152, .f32⟩
  | .hbm, ⟨8, _⟩ => ⟨S4x2x2048x1152, .f32⟩
  | .hbm, ⟨9, _⟩ => ⟨S4x2x2048x1152, .bf16⟩
  | .hbm, ⟨10, _⟩ => ⟨S8192x2048, .f32⟩
  | .hbm, ⟨11, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x4608, .bf16⟩
  | .local _ .vmem, ⟨6, _⟩ => ⟨S256x4608, .bf16⟩
  | .local _ .vmem, ⟨7, _⟩ => ⟨S4x1x2048x1152, .bf16⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4608 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1x2048x1152 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MixReferenceIdeal.lean ====
abbrev S8192x2048 : Shape := ⟨2, ![8192, 2048]⟩
abbrev S2048 : Shape := ⟨1, ![2048]⟩
abbrev S8192x4608 : Shape := ⟨2, ![8192, 4608]⟩
abbrev S2x2048x4608 : Shape := ⟨3, ![2, 2048, 4608]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x4608 : Shape := ⟨3, ![1, 2048, 4608]⟩
abbrev S2048x4608 : Shape := ⟨2, ![2048, 4608]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x4608, .f32⟩
  | .hbm, ⟨3, _⟩ => ⟨S2x2048x4608, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S1x2048x4608, .f32⟩
  | .hbm, ⟨26, _⟩ => ⟨S2048x4608, .f32⟩
  | .hbm, ⟨27, _⟩ => ⟨S8192x4608, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S2048, .f32⟩
  | .hbm, ⟨37, _⟩ => ⟨S8192x2048, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== NormKernel.lean ====
abbrev S8192x2048 : Shape := ⟨2, ![8192, 2048]⟩
abbrev S2048 : Shape := ⟨1, ![2048]⟩
abbrev S8192x5632 : Shape := ⟨2, ![8192, 5632]⟩
abbrev S2x2048x5632 : Shape := ⟨3, ![2, 2048, 5632]⟩
abbrev S1x2048 : Shape := ⟨2, ![1, 2048]⟩
abbrev S8192x4x1408 : Shape := ⟨3, ![8192, 4, 1408]⟩
abbrev S4x8192x1408 : Shape := ⟨3, ![4, 8192, 1408]⟩
abbrev S2x2048x4x1408 : Shape := ⟨4, ![2, 2048, 4, 1408]⟩
abbrev S4x2x2048x1408 : Shape := ⟨4, ![4, 2, 2048, 1408]⟩
abbrev S4x512x1408 : Shape := ⟨3, ![4, 512, 1408]⟩
abbrev S4x1x2048x1408 : Shape := ⟨4, ![4, 1, 2048, 1408]⟩
abbrev S512x2048 : Shape := ⟨2, ![512, 2048]⟩
abbrev S1x512x1408 : Shape := ⟨3, ![1, 512, 1408]⟩
abbrev S512x1408 : Shape := ⟨2, ![512, 1408]⟩
abbrev S1x1x512x1408 : Shape := ⟨4, ![1, 1, 512, 1408]⟩
abbrev S512x512 : Shape := ⟨2, ![512, 512]⟩
abbrev S256x2048 : Shape := ⟨2, ![256, 2048]⟩
abbrev S4x256x1408 : Shape := ⟨3, ![4, 256, 1408]⟩
abbrev S1x256x1408 : Shape := ⟨3, ![1, 256, 1408]⟩
abbrev S256x1408 : Shape := ⟨2, ![256, 1408]⟩
abbrev S256x512 : Shape := ⟨2, ![256, 512]⟩
abbrev S128x2048 : Shape := ⟨2, ![128, 2048]⟩
abbrev S128 : Shape := ⟨1, ![128]⟩
abbrev S128x1 : Shape := ⟨2, ![128, 1]⟩

abbrev nBuf : Space → Nat
  | .hbm => 23
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x5632, .f32⟩
  | .hbm, ⟨3, _⟩ => ⟨S8192x5632, .f32⟩
  | .hbm, ⟨4, _⟩ => ⟨S2x2048x5632, .f32⟩
  | .hbm, ⟨5, _⟩ => ⟨S2x2048x5632, .f32⟩
  | .hbm, ⟨6, _⟩ => ⟨S8192x2048, .f32⟩
  | .hbm, ⟨7, _⟩ => ⟨S1x2048, .f32⟩
  | .hbm, ⟨8, _⟩ => ⟨S8192x4x1408, .f32⟩
  | .hbm, ⟨9, _⟩ => ⟨S4x8192x1408, .f32⟩
  | .hbm, ⟨10, _⟩ => ⟨S4x8192x1408, .bf16⟩
  | .hbm, ⟨11, _⟩ => ⟨S2x2048x4x1408, .f32⟩
  | .hbm, ⟨12, _⟩ => ⟨S4x2x2048x1408, .f32⟩
  | .hbm, ⟨13, _⟩ => ⟨S4x2x2048x1408, .bf16⟩
  | .hbm, ⟨14, _⟩ => ⟨S8192x4x1408, .f32⟩
  | .hbm, ⟨15, _⟩ => ⟨S4x8192x1408, .f32⟩
  | .hbm, ⟨16, _⟩ => ⟨S4x8192x1408, .bf16⟩
  | .hbm, ⟨17, _⟩ => ⟨S2x2048x4x1408, .f32⟩
  | .hbm, ⟨18, _⟩ => ⟨S4x2x2048x1408, .f32⟩
  | .hbm, ⟨19, _⟩ => ⟨S4x2x2048x1408, .bf16⟩
  | .hbm, ⟨20, _⟩ => ⟨S8192x2048, .f32⟩
  | .hbm, ⟨21, _⟩ => ⟨S8192x2048, .f32⟩
  | .hbm, ⟨22, _⟩ => ⟨S1x2048, .f32⟩
  | .local _ .vmem, ⟨0, _⟩ => ⟨S4x512x1408, .bf16⟩
  | .local _ .vmem, ⟨1, _⟩ => ⟨S4x512x1408, .bf16⟩
  | .local _ .vmem, ⟨2, _⟩ => ⟨S4x1x2048x1408, .bf16⟩
  | .local _ .vmem, ⟨3, _⟩ => ⟨S512x2048, .f32⟩
  | .local _ .vmem, ⟨4, _⟩ => ⟨S512x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S4x256x1408, .bf16⟩
  | .local _ .vmem, ⟨11, _⟩ => ⟨S4x256x1408, .bf16⟩
  | .local _ .vmem, ⟨12, _⟩ => ⟨S4x1x2048x1408, .bf16⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x2048x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x256x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4x1x2048x1408 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== NormReferenceIdeal.lean ====
abbrev S8192x2048 : Shape := ⟨2, ![8192, 2048]⟩
abbrev S2048 : Shape := ⟨1, ![2048]⟩
abbrev S8192x5632 : Shape := ⟨2, ![8192, 5632]⟩
abbrev S2x2048x5632 : Shape := ⟨3, ![2, 2048, 5632]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x5632 : Shape := ⟨3, ![1, 2048, 5632]⟩
abbrev S2048x5632 : Shape := ⟨2, ![2048, 5632]⟩

abbrev nBuf : Space → Nat
  | .hbm => 63
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x5632, .f32⟩
  | .hbm, ⟨3, _⟩ => ⟨S8192x5632, .f32⟩
  | .hbm, ⟨4, _⟩ => ⟨S2x2048x5632, .f32⟩
  | .hbm, ⟨5, _⟩ => ⟨S2x2048x5632, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S1x2048x5632, .f32⟩
  | .hbm, ⟨28, _⟩ => ⟨S2048x5632, .f32⟩
  | .hbm, ⟨29, _⟩ => ⟨S8192x5632, .f32⟩
  | .hbm, ⟨30, _⟩ => ⟨S1x2048x5632, .f32⟩
  | .hbm, ⟨31, _⟩ => ⟨S2048x5632, .f32⟩
  | .hbm, ⟨32, _⟩ => ⟨S8192x5632, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S2048, .f32⟩
  | .hbm, ⟨44, _⟩ => ⟨S8192x2048, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== RmsKernel.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== PlfKernel.lean ====
abbrev S8192x4608 : Shape := ⟨2, ![8192, 4608]⟩
abbrev S4x128x128 : Shape := ⟨3, ![4, 128, 128]⟩
abbrev S512 : Shape := ⟨1, ![512]⟩
abbrev S1x512 : Shape := ⟨2, ![1, 512]⟩
abbrev S8192x512 : Shape := ⟨2, ![8192, 512]⟩
abbrev S512x512 : Shape := ⟨2, ![512, 512]⟩
abbrev S16x512 : Shape := ⟨2, ![16, 512]⟩
abbrev S528x512 : Shape := ⟨2, ![528, 512]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩

abbrev nBuf : Space → Nat
  | .hbm => 5
  | .vmem => 9
  | .smem => 0
  | _ => 0

abbrev bufTy : (tb : Table) → Fin (tcTables nBuf tb) → BufTy
  | .hbm, ⟨0, _⟩ => ⟨S8192x4608, .f32⟩
  | .hbm, ⟨1, _⟩ => ⟨S4x128x128, .f32⟩
  | .hbm, ⟨2, _⟩ => ⟨S512, .f32⟩
  | .hbm, ⟨3, _⟩ => ⟨S1x512, .f32⟩
  | .hbm, ⟨4, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S4x128x128, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S528x512, .f32⟩
  | _, _ => ⟨S8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PlfReferenceIdeal.lean ====
abbrev S8192x4608 : Shape := ⟨2, ![8192, 4608]⟩
abbrev S4x128x128 : Shape := ⟨3, ![4, 128, 128]⟩
abbrev S512 : Shape := ⟨1, ![512]⟩
abbrev S8192x512 : Shape := ⟨2, ![8192, 512]⟩
abbrev S8192x4x128 : Shape := ⟨3, ![8192, 4, 128]⟩
abbrev S_ : Shape := ⟨0, ![]⟩
abbrev S8192 : Shape := ⟨1, ![8192]⟩
abbrev S8192x1x128 : Shape := ⟨3, ![8192, 1, 128]⟩
abbrev S8192x128 : Shape := ⟨2, ![8192, 128]⟩
abbrev S2x128 : Shape := ⟨2, ![2, 128]⟩
abbrev S8190x128 : Shape := ⟨2, ![8190, 128]⟩
abbrev S8192x1 : Shape := ⟨2, ![8192, 1]⟩
abbrev S4x128 : Shape := ⟨2, ![4, 128]⟩
abbrev S8188x128 : Shape := ⟨2, ![8188, 128]⟩
abbrev S8x128 : Shape := ⟨2, ![8, 128]⟩
abbrev S8184x128 : Shape := ⟨2, ![8184, 128]⟩
abbrev S16x128 : Shape := ⟨2, ![16, 128]⟩
abbrev S8176x128 : Shape := ⟨2, ![8176, 128]⟩
abbrev S4x128x8192 : Shape := ⟨3, ![4, 128, 8192]⟩
abbrev S1x512 : Shape := ⟨2, ![1, 512]⟩

abbrev nBuf : Space → Nat
  | .hbm => 101
  | .vmem => 0
  | .smem => 0
  | _ => 0

abbrev bufTy : (tb : Table) → Fin (tcTables nBuf tb) → BufTy
  | .hbm, ⟨0, _⟩ => ⟨S8192x4608, .f32⟩
  | .hbm, ⟨1, _⟩ => ⟨S4x128x128, .f32⟩
  | .hbm, ⟨2, _⟩ => ⟨S512, .f32⟩
  | .hbm, ⟨3, _⟩ => ⟨S8192x512, .f32⟩
  | .hbm, ⟨4, _⟩ => ⟨S8192x4x128, .f32⟩
  | .hbm, ⟨5, _⟩ => ⟨S_, .f32⟩
  | .hbm, ⟨6, _⟩ => ⟨S_, .f32⟩
  | .hbm, ⟨7, _⟩ => ⟨S8192x4x128, .f32⟩
  | .hbm, ⟨8, _⟩ => ⟨S8192, .i32⟩
  | .hbm, ⟨9, _⟩ => ⟨S8192x1x128, .f32⟩
  | .hbm, ⟨10, _⟩ => ⟨S8192x128, .f32⟩
  | .hbm, ⟨11, _⟩ => ⟨S_, .f32⟩
  | .hbm, ⟨12, _⟩ => ⟨S2x128, .f32⟩
  | .hbm, ⟨13, _⟩ => ⟨S8190x128, .f32⟩
  | .hbm, ⟨14, _⟩ => ⟨S8192x128, .f32⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .f32⟩
  | .hbm, ⟨22, _⟩ => ⟨S8192x1, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x1x128, .f32⟩
  | .hbm, ⟨27, _⟩ => ⟨S8192x128, .f32⟩
  | .hbm, ⟨28, _⟩ => ⟨S8192x128, .f32⟩
  | .hbm, ⟨29, _⟩ => ⟨S8192x1x128, .f32⟩
  | .hbm, ⟨30, _⟩ => ⟨S8192x128, .f32⟩
  | .hbm, ⟨31, _⟩ => ⟨S_, .f32⟩
  | .hbm, ⟨32, _⟩ => ⟨S4x128, .f32⟩
  | .hbm, ⟨33, _⟩ => ⟨S8188x128, .f32⟩
  | .hbm, ⟨34, _⟩ => ⟨S8192x128, .f32⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .f32⟩
  | .hbm, ⟨42, _⟩ => ⟨S8192x1, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S8192x1x128, .f32⟩
  | .hbm, ⟨47, _⟩ => ⟨S8192x128, .f32⟩
  | .hbm, ⟨48, _⟩ => ⟨S8192x128, .f32⟩
  | .hbm, ⟨49, _⟩ => ⟨S8192x1x128, .f32⟩
  | .hbm, ⟨50, _⟩ => ⟨S8192x128, .f32⟩
  | .hbm, ⟨51, _⟩ => ⟨S_, .f32⟩
  | .hbm, ⟨52, _⟩ => ⟨S8x128, .f32⟩
  | .hbm, ⟨53, _⟩ => ⟨S8184x128, .f32⟩
  | .hbm, ⟨54, _⟩ => ⟨S8192x128, .f32⟩
  | .hbm, ⟨55, _⟩ => ⟨S_, .i32⟩
  | .hbm, ⟨56, _⟩ => ⟨S8192, .i32⟩
  | .hbm, ⟨57, _⟩ => ⟨S8192, .i32⟩
  | .hbm, ⟨58, _⟩ => ⟨S_, .i32⟩
  | .hbm, ⟨59, _⟩ => ⟨S8192, .i32⟩
  | .hbm, ⟨60, _⟩ => ⟨S8192, .i32⟩
  | .hbm, ⟨61, _⟩ => ⟨S8192, .f32⟩
  | .hbm, ⟨62, _⟩ => ⟨S8192x1, .f32⟩
  | .hbm, ⟨63, _⟩ => ⟨S8192x128, .f32⟩
  | .hbm, ⟨64, _⟩ => ⟨S8192x128, .f32⟩
  | .hbm, ⟨65, _⟩ => ⟨S8192x128, .f32⟩
  | .hbm, ⟨66, _⟩ => ⟨S8192x1x128, .f32⟩
  | .hbm, ⟨67, _⟩ => ⟨S8192x128, .f32⟩
  | .hbm, ⟨68, _⟩ => ⟨S8192x128, .f32⟩
  | .hbm, ⟨69, _⟩ => ⟨S8192x1x128, .f32⟩
  | .hbm, ⟨70, _⟩ => ⟨S8192x128, .f32⟩
  | .hbm, ⟨71, _⟩ => ⟨S_, .f32⟩
  | .hbm, ⟨72, _⟩ => ⟨S16x128, .f32⟩
  | .hbm, ⟨73, _⟩ => ⟨S8176x128, .f32⟩
  | .hbm, ⟨74, _⟩ => ⟨S8192x128, .f32⟩
  | .hbm, ⟨75, _⟩ => ⟨S_, .i32⟩
  | .hbm, ⟨76, _⟩ => ⟨S8192, .i32⟩
  | .hbm, ⟨77, _⟩ => ⟨S8192, .i32⟩
  | .hbm, ⟨78, _⟩ => ⟨S_, .i32⟩
  | .hbm, ⟨79, _⟩ => ⟨S8192, .i32⟩
  | .hbm, ⟨80, _⟩ => ⟨S8192, .i32⟩
  | .hbm, ⟨81, _⟩ => ⟨S8192, .f32⟩
  | .hbm, ⟨82, _⟩ => ⟨S8192x1, .f32⟩
  | .hbm, ⟨83, _⟩ => ⟨S8192x128, .f32⟩
  | .hbm, ⟨84, _⟩ => ⟨S8192x128, .f32⟩
  | .hbm, ⟨85, _⟩ => ⟨S8192x128, .f32⟩
  | .hbm, ⟨86, _⟩ => ⟨S8192x1x128, .f32⟩
  | .hbm, ⟨87, _⟩ => ⟨S8192x128, .f32⟩
  | .hbm, ⟨88, _⟩ => ⟨S8192x128, .f32⟩
  | .hbm, ⟨89, _⟩ => ⟨S8192x1x128, .f32⟩
  | .hbm, ⟨90, _⟩ => ⟨S8192x1x128, .f32⟩
  | .hbm, ⟨91, _⟩ => ⟨S8192x1x128, .f32⟩
  | .hbm, ⟨92, _⟩ => ⟨S8192x1x128, .f32⟩
  | .hbm, ⟨93, _⟩ => ⟨S8192x4x128, .f32⟩
  | .hbm, ⟨94, _⟩ => ⟨S4x128x8192, .f32⟩
  | .hbm, ⟨95, _⟩ => ⟨S8192x4x128, .f32⟩
  | .hbm, ⟨96, _⟩ => ⟨S8192x512, .f32⟩
  | .hbm, ⟨97, _⟩ => ⟨S1x512, .f32⟩
  | .hbm, ⟨98, _⟩ => ⟨S8192x512, .f32⟩
  | .hbm, ⟨99, _⟩ => ⟨S8192x512, .f32⟩
  | .hbm, ⟨100, _⟩ => ⟨S8192x512, .bf16⟩
  | _, _ => ⟨S8192x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_call0_cst : Ref sig .tc := ⟨.hbm, 5, rfl⟩
abbrev main_call0_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_5 : Ref sig .tc := ⟨.hbm, 55, rfl⟩
abbrev main_v43 : Ref sig .tc := ⟨.hbm, 56, rfl⟩
abbrev main_v44 : Ref sig .tc := ⟨.hbm, 57, rfl⟩
abbrev main_c_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_7 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_c_8 : Ref sig .tc := ⟨.hbm, 75, rfl⟩
abbrev main_v60 : Ref sig .tc := ⟨.hbm, 76, rfl⟩
abbrev main_v61 : Ref sig .tc := ⟨.hbm, 77, rfl⟩
abbrev main_c_9 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩

abbrev nD : Nat := 1
abbrev τ : Topo := Topo.v7x

variable {F : FTy → Type} [FloatOps F]
-- ==== InpKernel.lean ====
abbrev S8192x2048 : Shape := ⟨2, ![8192, 2048]⟩
abbrev S2x2048x4608 : Shape := ⟨3, ![2, 2048, 4608]⟩
abbrev S2x2048x4x1152 : Shape := ⟨4, ![2, 2048, 4, 1152]⟩
abbrev S4x2x2048x1152 : Shape := ⟨4, ![4, 2, 2048, 1152]⟩
abbrev S8192x4608 : Shape := ⟨2, ![8192, 4608]⟩
abbrev S512x2048 : Shape := ⟨2, ![512, 2048]⟩
abbrev S1x1x2048x1152 : Shape := ⟨4, ![1, 1, 2048, 1152]⟩
abbrev S512x1152 : Shape := ⟨2, ![512, 1152]⟩
abbrev S2048x1152 : Shape := ⟨2, ![2048, 1152]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2x2048x4608, .f32⟩
  | .hbm, ⟨2, _⟩ => ⟨S8192x2048, .bf16⟩
  | .hbm, ⟨3, _⟩ => ⟨S2x2048x4x1152, .f32⟩
  | .hbm, ⟨4, _⟩ => ⟨S4x2x2048x1152, .f32⟩
  | .hbm, ⟨5, _⟩ => ⟨S4x2x2048x1152, .bf16⟩
  | .hbm, ⟨6, _⟩ => ⟨S8192x4608, .f32⟩
  | .hbm, ⟨7, _⟩ => ⟨S8192x4608, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x1152, .bf16⟩
  | .local _ .vmem, ⟨3, _⟩ => ⟨S1x1x2048x1152, .bf16⟩
  | .local _ .vmem, ⟨4, _⟩ => ⟨S512x1152, .f32⟩
  | .local _ .vmem, ⟨5, _⟩ => ⟨S512x1152, .f32⟩
  | .local _ .vmem, ⟨6, _⟩ => ⟨S512x1152, .bf16⟩
  | .local _ .vmem, ⟨7, _⟩ => ⟨S512x1152, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InpReferenceIdeal.lean ====
abbrev S8192x2048 : Shape := ⟨2, ![8192, 2048]⟩
abbrev S2x2048x4608 : Shape := ⟨3, ![2, 2048, 4608]⟩
abbrev S1x2048x4608 : Shape := ⟨3, ![1, 2048, 4608]⟩
abbrev S2048x4608 : Shape := ⟨2, ![2048, 4608]⟩
abbrev S8192x4608 : Shape := ⟨2, ![8192, 4608]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048x4608, .f32⟩
  | .hbm, ⟨2, _⟩ => ⟨S1x2048x4608, .f32⟩
  | .hbm, ⟨3, _⟩ => ⟨S2048x4608, .f32⟩
  | .hbm, ⟨4, _⟩ => ⟨S8192x4608, .f32⟩
  | .hbm, ⟨5, _⟩ => ⟨S8192x4608, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MobKernel.lean ====
abbrev S8192x2048 : Shape := ⟨2, ![8192, 2048]⟩
abbrev S2x2048x2048 : Shape := ⟨3, ![2, 2048, 2048]⟩
abbrev S2x4x512x2048 : Shape := ⟨4, ![2, 4, 512, 2048]⟩
abbrev S4x2x512x2048 : Shape := ⟨4, ![4, 2, 512, 2048]⟩
abbrev S512x2048 : Shape := ⟨2, ![512, 2048]⟩
abbrev S1x1x512x2048 : Shape := ⟨4, ![1, 1, 512, 2048]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2x2048x2048, .f32⟩
  | .hbm, ⟨2, _⟩ => ⟨S2x4x512x2048, .f32⟩
  | .hbm, ⟨3, _⟩ => ⟨S4x2x512x2048, .f32⟩
  | .hbm, ⟨4, _⟩ => ⟨S4x2x512x2048, .bf16⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x1x512x2048, .bf16⟩
  | .local _ .vmem, ⟨3, _⟩ => ⟨S1x1x512x2048, .bf16⟩
  | .local _ .vmem, ⟨4, _⟩ => ⟨S512x512, .f32⟩
  | .local _ .vmem, ⟨5, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MobReferenceIdeal.lean ====
abbrev S8192x2048 : Shape := ⟨2, ![8192, 2048]⟩
abbrev S2x2048x2048 : Shape := ⟨3, ![2, 2048, 2048]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048x2048, .f32⟩
  | .hbm, ⟨2, _⟩ => ⟨S_, .f32⟩
  | .hbm, ⟨3, _⟩ => ⟨S8192x2048, .f32⟩
  | .hbm, ⟨4, _⟩ => ⟨S1x2048x2048, .f32⟩
  | .hbm, ⟨5, _⟩ => ⟨S2048x2048, .f32⟩
  | .hbm, ⟨6, _⟩ => ⟨S8192x2048, .f32⟩
  | .hbm, ⟨7, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WgrKernel.lean ====
abbrev S8192x2048 : Shape := ⟨2, ![8192, 2048]⟩
abbrev S8192x5632 : Shape := ⟨2, ![8192, 5632]⟩
abbrev S8192x4x1408 : Shape := ⟨3, ![8192, 4, 1408]⟩
abbrev S4x8192x1408 : Shape := ⟨3, ![4, 8192, 1408]⟩
abbrev S4x2048x1408 : Shape := ⟨3, ![4, 2048, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S8192x4x1408, .f32⟩
  | .hbm, ⟨3, _⟩ => ⟨S4x8192x1408, .f32⟩
  | .hbm, ⟨4, _⟩ => ⟨S4x8192x1408, .bf16⟩
  | .hbm, ⟨5, _⟩ => ⟨S8192x2048, .bf16⟩
  | .hbm, ⟨6, _⟩ => ⟨S4x2048x1408, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .f32⟩
  | .local _ .vmem, ⟨5, _⟩ => ⟨S1x1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 1, 8], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== WgrReferenceIdeal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S_, .f32⟩
  | .hbm, ⟨3, _⟩ => ⟨S2048x5632, .f32⟩
  | .hbm, ⟨4, _⟩ => ⟨S8192x5632, .f32⟩
  | .hbm, ⟨5, _⟩ => ⟨S5632x2048, .f32⟩
  | .hbm, ⟨6, _⟩ => ⟨S2048x5632, .f32⟩
  | .hbm, ⟨7, _⟩ => ⟨S2048x4x1408, .f32⟩
  | .hbm, ⟨8, _⟩ => ⟨S4x2048x1408, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ResKernel.lean ====
abbrev S8192x2048 : Shape := ⟨2, ![8192, 2048]⟩
abbrev S8192x5632 : Shape := ⟨2, ![8192, 5632]⟩
abbrev S2x5632x2048 : Shape := ⟨3, ![2, 5632, 2048]⟩
abbrev S2x4x1408x2048 : Shape := ⟨4, ![2, 4, 1408, 2048]⟩
abbrev S4x2x1408x2048 : Shape := ⟨4, ![4, 2, 1408, 2048]⟩
abbrev S8192x4x1408 : Shape := ⟨3, ![8192, 4, 1408]⟩
abbrev S4x8192x1408 : Shape := ⟨3, ![4, 8192, 1408]⟩
abbrev S512x2048 : Shape := ⟨2, ![512, 2048]⟩
abbrev S4x512x1408 : Shape := ⟨3, ![4, 512, 1408]⟩
abbrev S4x1x1408x2048 : Shape := ⟨4, ![4, 1, 1408, 2048]⟩
abbrev S1x512x1408 : Shape := ⟨3, ![1, 512, 1408]⟩
abbrev S512x1408 : Shape := ⟨2, ![512, 1408]⟩
abbrev S1x1x1408x512 : Shape := ⟨4, ![1, 1, 1408, 512]⟩
abbrev S1408x512 : Shape := ⟨2, ![1408, 512]⟩
abbrev S512x512 : Shape := ⟨2, ![512, 512]⟩

abbrev nBuf : Space → Nat
  | .hbm => 10
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S2x5632x2048, .f32⟩
  | .hbm, ⟨3, _⟩ => ⟨S2x4x1408x2048, .f32⟩
  | .hbm, ⟨4, _⟩ => ⟨S4x2x1408x2048, .f32⟩
  | .hbm, ⟨5, _⟩ => ⟨S4x2x1408x2048, .bf16⟩
  | .hbm, ⟨6, _⟩ => ⟨S8192x4x1408, .f32⟩
  | .hbm, ⟨7, _⟩ => ⟨S4x8192x1408, .f32⟩
  | .hbm, ⟨8, _⟩ => ⟨S4x8192x1408, .bf16⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S4x512x1408, .bf16⟩
  | .local _ .vmem, ⟨3, _⟩ => ⟨S4x512x1408, .bf16⟩
  | .local _ .vmem, ⟨4, _⟩ => ⟨S4x1x1408x2048, .bf16⟩
  | .local _ .vmem, ⟨5, _⟩ => ⟨S512x2048, .f32⟩
  | .local _ .vmem, ⟨6, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x1408x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResReferenceIdeal.lean ====
abbrev S8192x2048 : Shape := ⟨2, ![8192, 2048]⟩
abbrev S8192x5632 : Shape := ⟨2, ![8192, 5632]⟩
abbrev S2x5632x2048 : Shape := ⟨3, ![2, 5632, 2048]⟩
abbrev S1x5632x2048 : Shape := ⟨3, ![1, 5632, 2048]⟩
abbrev S5632x2048 : Shape := ⟨2, ![5632, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S2x5632x2048, .f32⟩
  | .hbm, ⟨3, _⟩ => ⟨S1x5632x2048, .f32⟩
  | .hbm, ⟨4, _⟩ => ⟨S5632x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== AdwKernel.lean ====
abbrev S4096x1408 : Shape := ⟨2, ![4096, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdwReferenceIdeal.lean ====
abbrev S4096x1408 : Shape := ⟨2, ![4096, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S_, .f32⟩
  | .hbm, ⟨5, _⟩ => ⟨S4096x1408, .f32⟩
  | .hbm, ⟨6, _⟩ => ⟨S4096x1408, .f32⟩
  | .hbm, ⟨7, _⟩ => ⟨S_, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S_, .f32⟩
  | .hbm, ⟨23, _⟩ => ⟨S4096x1408, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ChsKernel.lean ====
abbrev S4x2048x1408 : Shape := ⟨3, ![4, 2048, 1408]⟩
abbrev S4x1024x1408 : Shape := ⟨3, ![4, 1024, 1408]⟩
abbrev S_ : Shape := ⟨0, ![]⟩
abbrev S1 : Shape := ⟨1, ![1]⟩
abbrev S1x256x1408 : Shape := ⟨3, ![1, 256, 1408]⟩
abbrev S256x1408 : Shape := ⟨2, ![256, 1408]⟩

abbrev nBuf : Space → Nat
  | .hbm => 4
  | .vmem => 6
  | .smem => 1
  | _ => 0

abbrev bufTy : (tb : Table) → Fin (tcTables nBuf tb) → BufTy
  | .hbm, ⟨0, _⟩ => ⟨S4x2048x1408, .f32⟩
  | .hbm, ⟨1, _⟩ => ⟨S4x1024x1408, .f32⟩
  | .hbm, ⟨2, _⟩ => ⟨S_, .i32⟩
  | .hbm, ⟨3, _⟩ => ⟨S4x1024x1408, .bf16⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .bf16⟩
  | .local _ .vmem, ⟨5, _⟩ => ⟨S1x256x1408, .bf16⟩
  | .local _ .smem, ⟨0, _⟩ => ⟨S1, .i32⟩
  | _, _ => ⟨S4x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ChsReferenceIdeal.lean ====
abbrev S4x2048x1408 : Shape := ⟨3, ![4, 2048, 1408]⟩
abbrev S4x1024x1408 : Shape := ⟨3, ![4, 1024, 1408]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4x1024x1408, .bf16⟩
  | _, _ => ⟨S4x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OwnKernel.lean ====
abbrev S2x2048x1408 : Shape := ⟨3, ![2, 2048, 1408]⟩
abbrev S_ : Shape := ⟨0, ![]⟩
abbrev S1 : Shape := ⟨1, ![1]⟩
abbrev S4x2x2048x1408 : Shape := ⟨4, ![4, 2, 2048, 1408]⟩
abbrev S1x512x1408 : Shape := ⟨3, ![1, 512, 1408]⟩
abbrev S1x1x512x1408 : Shape := ⟨4, ![1, 1, 512, 1408]⟩
abbrev S512x1408 : Shape := ⟨2, ![512, 1408]⟩
abbrev S1x2x2048x1408 : Shape := ⟨4, ![1, 2, 2048, 1408]⟩

abbrev nBuf : Space → Nat
  | .hbm => 5
  | .vmem => 4
  | .smem => 1
  | _ => 0

abbrev bufTy : (tb : Table) → Fin (tcTables nBuf tb) → BufTy
  | .hbm, ⟨0, _⟩ => ⟨S2x2048x1408, .f32⟩
  | .hbm, ⟨1, _⟩ => ⟨S_, .i32⟩
  | .hbm, ⟨2, _⟩ => ⟨S4x2x2048x1408, .bf16⟩
  | .hbm, ⟨3, _⟩ => ⟨S1x2x2048x1408, .bf16⟩
  | .hbm, ⟨4, _⟩ => ⟨S2x2048x1408, .bf16⟩
  | .local _ .vmem, ⟨0, _⟩ => ⟨S1x512x1408, .f32⟩
  | .local _ .vmem, ⟨1, _⟩ => ⟨S1x512x1408, .f32⟩
  | .local _ .vmem, ⟨2, _⟩ => ⟨S1x1x512x1408, .bf16⟩
  | .local _ .vmem, ⟨3, _⟩ => ⟨S1x1x512x1408, .bf16⟩
  | .local _ .smem, ⟨0, _⟩ => ⟨S1, .i32⟩
  | _, _ => ⟨S2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, arg1.toNat, c0_i32.toNat]

abbrev stage0_0 : Fin 2 → Memref sig .tc .vmem S1x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== OwnReferenceIdeal.lean ====
abbrev S2x2048x1408 : Shape := ⟨3, ![2, 2048, 1408]⟩

abbrev nBuf : Space → Nat
  | .hbm => 2
  | .vmem => 0
  | .smem => 0
  | _ => 0

abbrev bufTy : (tb : Table) → Fin (tcTables nBuf tb) → BufTy
  | .hbm, ⟨0, _⟩ => ⟨S2x2048x1408, .f32⟩
  | .hbm, ⟨1, _⟩ => ⟨S2x2048x1408, .bf16⟩
  | _, _ => ⟨S2x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== TotKernel.lean ====
abbrev S4x1024x1408 : Shape := ⟨3, ![4, 1024, 1408]⟩
abbrev S3x1024x1408 : Shape := ⟨3, ![3, 1024, 1408]⟩
abbrev S_ : Shape := ⟨0, ![]⟩
abbrev S1 : Shape := ⟨1, ![1]⟩
abbrev S2x2048x1408 : Shape := ⟨3, ![2, 2048, 1408]⟩
abbrev S1x256x1408 : Shape := ⟨3, ![1, 256, 1408]⟩
abbrev S3x256x1408 : Shape := ⟨3, ![3, 256, 1408]⟩
abbrev S256x1408 : Shape := ⟨2, ![256, 1408]⟩
abbrev S1x1024x1408 : Shape := ⟨3, ![1, 1024, 1408]⟩
abbrev S1024x1408 : Shape := ⟨2, ![1024, 1408]⟩

abbrev nBuf : Space → Nat
  | .hbm => 8
  | .vmem => 6
  | .smem => 2
  | _ => 0

abbrev bufTy : (tb : Table) → Fin (tcTables nBuf tb) → BufTy
  | .hbm, ⟨0, _⟩ => ⟨S4x1024x1408, .f32⟩
  | .hbm, ⟨1, _⟩ => ⟨S3x1024x1408, .f32⟩
  | .hbm, ⟨2, _⟩ => ⟨S4x1024x1408, .bf16⟩
  | .hbm, ⟨3, _⟩ => ⟨S3x1024x1408, .bf16⟩
  | .hbm, ⟨4, _⟩ => ⟨S_, .i32⟩
  | .hbm, ⟨5, _⟩ => ⟨S2x2048x1408, .f32⟩
  | .hbm, ⟨6, _⟩ => ⟨S1x1024x1408, .f32⟩
  | .hbm, ⟨7, _⟩ => ⟨S1024x1408, .f32⟩
  | .local _ .vmem, ⟨0, _⟩ => ⟨S1x256x1408, .bf16⟩
  | .local _ .vmem, ⟨1, _⟩ => ⟨S1x256x1408, .bf16⟩
  | .local _ .vmem, ⟨2, _⟩ => ⟨S3x256x1408, .bf16⟩
  | .local _ .vmem, ⟨3, _⟩ => ⟨S3x256x1408, .bf16⟩
  | .local _ .vmem, ⟨4, _⟩ => ⟨S1x256x1408, .f32⟩
  | .local _ .vmem, ⟨5, _⟩ => ⟨S1x256x1408, .f32⟩
  | .local _ .smem, ⟨0, _⟩ => ⟨S1, .i32⟩
  | .local _ .smem, ⟨1, _⟩ => ⟨S1, .i32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v2 : Ref sig .tc := ⟨.smem, 0, rfl⟩
abbrev main_v3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨2, ![main_v2.idx, main_v3.idx], fun | 0 => main_v2.names | 1 => main_v3.names | ⟨_ + 2, h⟩ => absurd h (Nat.not_lt.2 (Nat.le_add_left _ _)), fun | 0 => rfl | 1 => rfl | ⟨_ + 2, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  let c0_i32_1 : BitVec 32 := 0#32
  ![c0_i32.toNat, v2.toNat, c0_i32_0.toNat]

abbrev stage0_0 : Fin 2 → Memref sig .tc .vmem S1x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== TotReferenceIdeal.lean ====
abbrev S4x1024x1408 : Shape := ⟨3, ![4, 1024, 1408]⟩
abbrev S3x1024x1408 : Shape := ⟨3, ![3, 1024, 1408]⟩
abbrev S1x1024x1408 : Shape := ⟨3, ![1, 1024, 1408]⟩
abbrev S1024x1408 : Shape := ⟨2, ![1024, 1408]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S3x1024x1408, .f32⟩
  | .hbm, ⟨2, _⟩ => ⟨S1x1024x1408, .f32⟩
  | .hbm, ⟨3, _⟩ => ⟨S1024x1408, .f32⟩
  | .hbm, ⟨4, _⟩ => ⟨S1024x1408, .bf16⟩
  | .hbm, ⟨5, _⟩ => ⟨S1024x1408, .f32⟩
  | .hbm, ⟨6, _⟩ => ⟨S3x1024x1408, .bf16⟩
  | .hbm, ⟨7, _⟩ => ⟨S3x1024x1408, .f32⟩
  | .hbm, ⟨8, _⟩ => ⟨S_, .f32⟩
  | .hbm, ⟨9, _⟩ => ⟨S1024x1408, .f32⟩
  | .hbm, ⟨10, _⟩ => ⟨S1024x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Reals.lean ====
/- Extended reals that are real: how the ideal operations act on them, and how a precondition of finiteness
   yields an array of reals. -/
module

public import Idealize.ShloMosaic.PureOps.Ideal.Laws
public import Idealize.ShloMosaic.Lib.ValueIdx
public import Idealize.ShloMosaic.Lib.Pipeline.ValueKit

@[expose] public section

set_option maxRecDepth 16384

noncomputable section

namespace Cert.Reals

open Idealize.ShloMosaic

/-- A finite sum of reals is the same sum taken in the reals. -/
theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A quotient of reals with a denominator that is not zero. -/
theorem div_real (x y : ℝ) (h : y ≠ 0) : Ideal.div (x : EReal) (y : EReal) = ((x / y : ℝ) : EReal) := by
  rw [Ideal.div_coe h, ← EReal.coe_mul, mul_one_div]

theorem zero_f32 : Ideal.ofBits .f32 0x00000000#32 = ((0 : ℝ) : EReal) := by simp
theorem one_f32 : Ideal.ofBits .f32 0x3F800000#32 = ((1 : ℝ) : EReal) := by
  simp [Ideal.ofBits, Ideal.ieee, -EReal.coe_mul]; norm_num
theorem half_f32 : Ideal.ofBits .f32 0x3F000000#32 = ((1 / 2 : ℝ) : EReal) := by
  simp [Ideal.ofBits, Ideal.ieee, -EReal.coe_mul]; norm_num
theorem inf_f32 : Ideal.ofBits .f32 0x7F800000#32 = (⊤ : EReal) := by
  simp [Ideal.ofBits, Ideal.ieee]

/-- An element whose absolute value is below infinity is a real. -/
theorem real_of_abs_lt (x : EReal) (h : max x (-x) < ⊤) : ∃ r : ℝ, x = r := by
  induction x using EReal.rec with
  | bot => simp at h
  | coe r => exact ⟨r, rfl⟩
  | top => simp at h

/-- An array that passes the test `|x| < ∞` everywhere is an array of reals. -/
theorem reals_of_finite {s : Shape} (x y : FVec Ideal s .f32) (hy : ∀ i, y i = Ideal.ofBits .f32 0x7F800000#32)
    (h : cmpf .olt (Host.absf x) y = fun _ => 1#1) : ∃ r : s.Idx → ℝ, x = fun i => (r i : EReal) := by
  have key : ∀ i, ∃ r : ℝ, x i = (r : EReal) := by
    intro i
    refine real_of_abs_lt _ ?_
    have h1 := congrFun h i
    have h2 : Ideal.cmp .olt (max (x i) (-(x i))) (y i) = 1#1 := h1
    rw [hy i, inf_f32] at h2
    by_contra hc
    simp [Ideal.cmp, hc] at h2
  exact ⟨fun i => (key i).choose, funext fun i => (key i).choose_spec⟩

/-- The logistic function of a real. -/
def sigm (x : ℝ) : ℝ := 1 / (1 + Real.exp (-x))

theorem one_add_exp_ne (x : ℝ) : 1 + Real.exp x ≠ 0 := by positivity

/-- The quotient `1 / (1 + exp (-x))` is the logistic function. -/
theorem div_sigm (x : ℝ) : Ideal.div 1 (1 + Ideal.exp (-(x : EReal))) = ((sigm x : ℝ) : EReal) := by
  rw [← EReal.coe_neg, Ideal.exp_coe, ← EReal.coe_one, ← EReal.coe_add, div_real _ _ (one_add_exp_ne _)]
  rfl

end Cert.Reals

end
-- ==== Proof.AttnMath.lean ====
/- Stick-breaking attention of one head over the reals: its weights, its gradient, and how both are put together from
   blocks of 256 keys. -/
module

public import proofs.«01_k».proof.Proof.Reals

@[expose] public section

set_option maxRecDepth 16384

noncomputable section

namespace Cert.Attn

open Idealize.ShloMosaic Cert.Reals

/-- The scale of the scores, the real that the kernel's and the reference's literal is. -/
def sc : ℝ := (Ideal.ofBits .f32 0x3DB504F3#32).toReal

theorem sc_f32 : Ideal.ofBits .f32 0x3DB504F3#32 = (sc : EReal) := by
  refine (EReal.coe_toReal ?_ ?_).symm <;> simp [Ideal.ofBits, Ideal.ieee, -EReal.coe_mul] <;> exact fun h => by cases h

/-- The logarithm of a key's chance of being passed over, at score `z`. -/
def lneg (z : ℝ) : ℝ := -Real.log (1 + Real.exp z)

/-- One head: its queries, keys, values and the cotangent of its output, each a table of rows and columns. -/
structure Head where
  q : ℕ → ℕ → ℝ
  k : ℕ → ℕ → ℝ
  v : ℕ → ℕ → ℝ
  g : ℕ → ℕ → ℝ

namespace Head
variable (H : Head)

/-- The score of key `s` at query `t`. -/
def Z (t s : ℕ) : ℝ := (∑ d : Fin 128, H.q t d.val * H.k s d.val) * sc
/-- The logarithm of passing key `s` over; zero from the query on. -/
def L (t s : ℕ) : ℝ := if s < t then lneg (H.Z t s) else 0
/-- The sum of `L` over the first `n` keys. -/
def P (t n : ℕ) : ℝ := ∑ j ∈ Finset.range n, H.L t j
/-- The whole row's sum of `L`. -/
def tot (t : ℕ) : ℝ := H.P t t
/-- The logistic function of the score. -/
def S (t s : ℕ) : ℝ := Real.exp (H.Z t s + lneg (H.Z t s))
/-- The attention's weight. -/
def W (t s : ℕ) : ℝ := if s < t then Real.exp (H.Z t s + H.L t s + (H.tot t - H.P t (s + 1))) else 0
/-- The cotangent of the logarithm of the weight. -/
def G (t s : ℕ) : ℝ := H.W t s * ∑ d : Fin 128, H.g t d.val * H.v s d.val
/-- The sum of `G` over the first `n` keys. -/
def PG (t n : ℕ) : ℝ := ∑ j ∈ Finset.range n, H.G t j
/-- The cotangent of the score. -/
def D (t s : ℕ) : ℝ := if s < t then H.G t s - H.S t s * (H.G t s + H.PG t s) else 0

theorem L_of_lt {t s : ℕ} (h : s < t) : H.L t s = lneg (H.Z t s) := if_pos h
theorem L_of_le {t s : ℕ} (h : t ≤ s) : H.L t s = 0 := if_neg (by omega)
theorem W_of_le {t s : ℕ} (h : t ≤ s) : H.W t s = 0 := if_neg (by omega)
theorem G_of_le {t s : ℕ} (h : t ≤ s) : H.G t s = 0 := by rw [G, H.W_of_le h, zero_mul]
theorem D_of_le {t s : ℕ} (h : t ≤ s) : H.D t s = 0 := if_neg (by omega)

/-- Past the query the sum of `L` no longer grows. -/
theorem P_of_le {t n : ℕ} (h : t ≤ n) : H.P t n = H.tot t := by
  unfold P tot P
  refine (Finset.sum_subset (Finset.range_mono h) fun j _ hj => H.L_of_le ?_).symm
  simpa using hj

/-- Past the query the sum of `G` no longer grows. -/
theorem PG_of_le {t n : ℕ} (h : t ≤ n) : H.PG t n = H.PG t t := by
  unfold PG
  refine (Finset.sum_subset (Finset.range_mono h) fun j _ hj => H.G_of_le ?_).symm
  simpa using hj

/-- Past the query the gradient of the query no longer grows. -/
theorem DQ_of_le {t n : ℕ} (d : ℕ) (h : t ≤ n) : ∑ j ∈ Finset.range n, H.D t j * H.k j d = ∑ j ∈ Finset.range t, H.D t j * H.k j d := by
  refine (Finset.sum_subset (Finset.range_mono h) fun j _ hj => ?_).symm
  rw [H.D_of_le (by simpa using hj), zero_mul]

end Head

/-- A sum over the first `a + n` numbers, taken as the first `a` and `n` more. -/
theorem range_add (f : ℕ → ℝ) (a n : ℕ) : ∑ j ∈ Finset.range a, f j + ∑ x : Fin n, f (a + x.val) = ∑ j ∈ Finset.range (a + n), f j := by
  rw [Finset.sum_range_add, Finset.sum_range (fun x => f (a + x))]

/-- The part of a block before place `y`. -/
theorem before_sum (f : ℕ → ℝ) (a n y : ℕ) (h : y ≤ n) :
    ∑ x : Fin n, f (a + x.val) * (if x.val < y then (1 : ℝ) else 0) = ∑ j ∈ Finset.range (a + y), f j - ∑ j ∈ Finset.range a, f j := by
  rw [← range_add f a y, add_sub_cancel_left]
  simp only [mul_ite, mul_one, mul_zero]
  rw [← Finset.sum_range (fun x => if x < y then f (a + x) else 0), ← Finset.sum_range (fun x => f (a + x)), ← Finset.sum_filter]
  refine Finset.sum_congr (Finset.ext fun x => ?_) fun _ _ => rfl
  simp only [Finset.mem_filter, Finset.mem_range]
  omega

/-- The part of a block after place `y`. -/
theorem after_sum (f : ℕ → ℝ) (a n y : ℕ) (h : y < n) :
    ∑ x : Fin n, f (a + x.val) * (if y < x.val then (1 : ℝ) else 0) = ∑ j ∈ Finset.range (a + n), f j - ∑ j ∈ Finset.range (a + y + 1), f j := by
  have e := before_sum f a n (y + 1) h
  have w := range_add f a n
  have : ∑ x : Fin n, f (a + x.val) * (if y < x.val then (1 : ℝ) else 0) + ∑ x : Fin n, f (a + x.val) * (if x.val < y + 1 then (1 : ℝ) else 0)
      = ∑ x : Fin n, f (a + x.val) := by
    rw [← Finset.sum_add_distrib]
    refine Finset.sum_congr rfl fun x _ => ?_
    by_cases hx : y < x.val
    · rw [if_pos hx, if_neg (by omega)]; ring
    · rw [if_neg hx, if_pos (by omega)]; ring
  rw [show a + (y + 1) = a + y + 1 from by omega] at e
  linarith

/-- The kernel's way to write `lneg`: it never takes the exponential of a positive number. -/
theorem lneg_abs (z : ℝ) : -(max z 0 + Real.log (1 + Real.exp (-|z|))) = lneg z := by
  unfold lneg
  rcases le_total 0 z with h | h
  · rw [max_eq_left h, abs_of_nonneg h, show 1 + Real.exp z = Real.exp z * (1 + Real.exp (-z)) from by
      rw [mul_add, ← Real.exp_add, add_neg_cancel, Real.exp_zero]; ring, Real.log_mul (Real.exp_ne_zero _) (by positivity), Real.log_exp]
  · rw [max_eq_right h, abs_of_nonpos h, neg_neg, zero_add]

theorem max_coe (x y : ℝ) : max (x : EReal) (y : EReal) = ((max x y : ℝ) : EReal) := (EReal.coe_strictMono.monotone.map_max).symm

theorem log_coe (x : ℝ) (h : 0 < x) : Ideal.log (x : EReal) = ((Real.log x : ℝ) : EReal) :=
  show (if x ≤ 0 then (⊥ : EReal) else (Real.log x : EReal)) = _ from if_neg (not_le.2 h)

/-- The same equation between extended reals. -/
theorem lneg_coe (z : ℝ) : 0 - (max (z : EReal) 0 + Ideal.log (1 + Ideal.exp (0 - (FloatOps.absf (F := Ideal) (φ := .f32) (z : EReal) : EReal)))) = (lneg z : EReal) := by
  rw [← lneg_abs]
  have h0 : (0 : EReal) - (FloatOps.absf (F := Ideal) (φ := .f32) (z : EReal) : EReal) = ((-|z| : ℝ) : EReal) := by
    show (0 : EReal) - max (z : EReal) (-(z : EReal)) = _
    rw [← EReal.coe_neg, max_coe, ← EReal.coe_zero, ← EReal.coe_sub]
    congr 1
    rw [zero_sub]; rfl
  rw [h0]
  rw [show Ideal.exp ((-|z| : ℝ) : EReal) = ((Real.exp (-|z|) : ℝ) : EReal) from rfl, ← EReal.coe_one, ← EReal.coe_add,
    log_coe _ (by positivity),
    ← EReal.coe_zero, max_coe, ← EReal.coe_add, ← EReal.coe_sub, zero_sub]

/-- The logistic function as one over one plus an exponential. -/
theorem exp_lneg (z : ℝ) : Real.exp (z + lneg z) = sigm z := by
  unfold lneg
  rw [Real.exp_add, Real.exp_neg, Real.exp_log (by positivity)]
  unfold sigm
  rw [Real.exp_neg]
  have := Real.exp_pos z
  field_simp
  ring

/-- A sum over `r + n` rows of which the first `r` are zero. -/
theorem rows_sum (f : ℕ → ℝ) (r n : ℕ) (h : ∀ x < r, f x = 0) : ∑ x : Fin n, f (r + x.val) = ∑ x : Fin (r + n), f x.val := by
  rw [← Finset.sum_range (fun x => f x), ← range_add f r n, Finset.sum_eq_zero (fun x hx => h x (Finset.mem_range.1 hx)), zero_add]

/-- A table of reals as an array. -/
def up2 {a b : ℕ} (f : ℕ → ℕ → ℝ) : (⟨2, ![a, b]⟩ : Shape).Idx → EReal := fun i => (f (i 0).val (i 1).val : EReal)

@[simp] theorem up2_ix {a b : ℕ} (f : ℕ → ℕ → ℝ) (x : Fin a) (y : Fin b) : (up2 f : (⟨2, ![a, b]⟩ : Shape).Idx → EReal) (ix2 x y) = (f x.val y.val : EReal) := rfl

theorem up2_at {a b : ℕ} (f : ℕ → ℕ → ℝ) (i : (⟨2, ![a, b]⟩ : Shape).Idx) : up2 f i = (f (i 0).val (i 1).val : EReal) := rfl

/-- Two arrays of rank two with the same elements are equal. -/
theorem ext2 {α : Type} {a b : ℕ} {f g : (⟨2, ![a, b]⟩ : Shape).Idx → α} (h : ∀ (x : Fin a) (y : Fin b), f (ix2 x y) = g (ix2 x y)) : f = g := by
  funext i
  have e : i = ix2 (i 0) (i 1) := by
    funext j; refine Fin.cases rfl (fun j => Fin.cases rfl (fun j => j.elim0) j) j
  rw [e]; exact h _ _

/-- Head `h` of the projections `Z` (queries, then keys, then values, 128 columns a head) with the output's cotangent `C`. -/
def hd (Z C : ℕ → ℕ → ℝ) (h : ℕ) : Head where
  q t d := Z t (128 * h + d)
  k s d := Z s (1024 + 128 * h + d)
  v s d := Z s (2048 + 128 * h + d)
  g t d := C t (128 * h + d)

/-- The attention's output, by position and column. -/
def out (Z C : ℕ → ℕ → ℝ) (s e : ℕ) : ℝ := ∑ j ∈ Finset.range s, (hd Z C (e / 128)).W s j * (hd Z C (e / 128)).v j (e % 128)
/-- The queries' gradient, over all heads. -/
def dQ (Z C : ℕ → ℕ → ℝ) (s e : ℕ) : ℝ := sc * ∑ j ∈ Finset.range s, (hd Z C (e / 128)).D s j * (hd Z C (e / 128)).k j (e % 128)
/-- The keys' gradient. -/
def dK (Z C : ℕ → ℕ → ℝ) (s e : ℕ) : ℝ := sc * ∑ t ∈ Finset.range 8192, (hd Z C (e / 128)).D t s * (hd Z C (e / 128)).q t (e % 128)
/-- The values' gradient. -/
def dV (Z C : ℕ → ℕ → ℝ) (s e : ℕ) : ℝ := ∑ t ∈ Finset.range 8192, (hd Z C (e / 128)).W t s * (hd Z C (e / 128)).g t (e % 128)

end Cert.Attn
end
-- ==== Proof.AttnArrays.lean ====
/- Arrays of reals of rank three, and sums over a window along their last axis. -/
module
public import proofs.«01_k».proof.Proof.AttnMath
@[expose] public section
set_option maxRecDepth 16384
noncomputable section
namespace Cert.Attn
open Idealize.ShloMosaic Idealize.ShloMosaic.TcCoe Cert.Reals
def up3 {a b d : ℕ} (f : ℕ → ℕ → ℕ → ℝ) : (⟨3, ![a, b, d]⟩ : Shape).Idx → EReal := fun i => (f (i 0).val (i 1).val (i 2).val : EReal)
@[simp] theorem up3_ix {a b d : ℕ} (f : ℕ → ℕ → ℕ → ℝ) (x : Fin a) (y : Fin b) (z : Fin d) : (up3 f : (⟨3, ![a, b, d]⟩ : Shape).Idx → EReal) (ix3 x y z) = (f x.val y.val z.val : EReal) := rfl
theorem up3_at {a b d : ℕ} (f : ℕ → ℕ → ℕ → ℝ) (i : (⟨3, ![a, b, d]⟩ : Shape).Idx) : up3 f i = (f (i 0).val (i 1).val (i 2).val : EReal) := rfl
theorem ext3 {α : Type} {a b d : ℕ} {f g : (⟨3, ![a, b, d]⟩ : Shape).Idx → α} (h : ∀ (x : Fin a) (y : Fin b) (z : Fin d), f (ix3 x y z) = g (ix3 x y z)) : f = g := by
  funext i
  have e : i = ix3 (i 0) (i 1) (i 2) := by
    funext j; refine Fin.cases rfl (fun j => Fin.cases rfl (fun j => Fin.cases rfl (fun j => j.elim0) j) j) j
  rw [e]; exact h _ _ _

/-- A fold of additions of reals over a list. -/
theorem foldl_coe {ι : Type*} (l : List ι) (g : ι → ℝ) (v : ℝ) : l.foldl (fun (r : EReal) n => r + (g n : EReal)) (v : EReal) = ((v + (l.map g).sum : ℝ) : EReal) := by
  induction l generalizing v with
  | nil => simp
  | cons a l ih => rw [List.foldl_cons, ← EReal.coe_add, ih, List.map_cons, List.sum_cons, add_assoc]

/-- The places of a `1 × 1 × n` window. -/
def line (n : ℕ) : (⟨3, ![1, 1, n]⟩ : Shape).Idx ≃ Fin n where
  toFun i := i 2
  invFun k := ix3 0 0 k
  left_inv i := by
    funext j; refine Fin.cases (Subsingleton.elim (α := Fin 1) _ _) (fun j => Fin.cases (Subsingleton.elim (α := Fin 1) _ _) (fun j => Fin.cases rfl (fun j => j.elim0) j) j) j
  right_inv k := rfl

theorem dite_coe {c d : Prop} {_ : Decidable c} {_ : Decidable d} (h : c ↔ d) (v : c → EReal) (r : ℝ) (hv : ∀ q, v q = (r : EReal)) :
    dite c v (fun _ => ((0 : ℝ) : EReal)) = ((if d then r else 0 : ℝ) : EReal) := by
  by_cases q : c
  · rw [dif_pos q, if_pos (h.1 q), hv]
  · rw [dif_neg q, if_neg (fun w => q (h.2 w))]

/-- A sum over a window along the last of three axes, padded to either side with zeros. -/
theorem window_sum {a b n l r : ℕ} {u : Shape} (f : ℕ → ℕ → ℕ → ℝ) (init : u.Idx → EReal)
    (h : (⟨3, ![a, b, n]⟩ : Shape).ReduceWindows ![1, 1, n] ![1, 1, 1] ![0, 0, l] ![0, 0, r] ⟨3, ![a, b, n]⟩) (hu : 0 < u.numel)
    (hi : init (Shape.Idx.first hu) = ((0 : ℝ) : EReal)) (x : Fin a) (y : Fin b) (z : Fin n) :
    Host.reduceWindowAdd (F := Ideal) (φ := .f32) (s := ⟨3, ![a, b, n]⟩) ![1, 1, n] ![1, 1, 1] ![0, 0, l] ![0, 0, r] (up3 f) init h hu (ix3 x y z)
      = ((∑ k : Fin n, (if l ≤ z.val + k.val ∧ z.val + k.val - l < n then f x.val y.val (z.val + k.val - l) else 0) : ℝ) : EReal) := by
  unfold Host.reduceWindowAdd
  show Ideal.hostReduceWindowAdd _ _ _ _ _ _ _ _ = _
  unfold Ideal.hostReduceWindowAdd
  rw [hi]
  refine (List.foldl_ext _ (fun (r : EReal) m => r + (((fun k : Fin n => if l ≤ z.val + k.val ∧ z.val + k.val - l < n then f x.val y.val (z.val + k.val - l) else 0) (line n ((⟨3, ![1, 1, n]⟩ : Shape).rowMajor.symm m)) : ℝ) : EReal)) _ fun r m _ => congrArg (r + ·) ?_).trans ?_
  · have i0 := Nat.lt_one_iff.1 ((⟨3, ![1, 1, n]⟩ : Shape).rowMajor.symm m 0).isLt
    have i1 := Nat.lt_one_iff.1 ((⟨3, ![1, 1, n]⟩ : Shape).rowMajor.symm m 1).isLt
    have hx := x.isLt
    have hy := y.isLt
    refine dite_coe ⟨fun hin => ?_, fun c j => ?_⟩ _ _ fun hin => ?_
    · have q : l ≤ z.val * 1 + ((⟨3, ![1, 1, n]⟩ : Shape).rowMajor.symm m 2).val ∧ z.val * 1 + ((⟨3, ![1, 1, n]⟩ : Shape).rowMajor.symm m 2).val - l < n := hin 2
      rwa [mul_one] at q
    · refine Fin.cases ?_ (fun j => Fin.cases ?_ (fun j => Fin.cases ?_ (fun j => j.elim0) j) j) j
      · show 0 ≤ x.val * 1 + ((⟨3, ![1, 1, n]⟩ : Shape).rowMajor.symm m 0).val ∧ x.val * 1 + ((⟨3, ![1, 1, n]⟩ : Shape).rowMajor.symm m 0).val - 0 < a; omega
      · show 0 ≤ y.val * 1 + ((⟨3, ![1, 1, n]⟩ : Shape).rowMajor.symm m 1).val ∧ y.val * 1 + ((⟨3, ![1, 1, n]⟩ : Shape).rowMajor.symm m 1).val - 0 < b; omega
      · show l ≤ z.val * 1 + ((⟨3, ![1, 1, n]⟩ : Shape).rowMajor.symm m 2).val ∧ z.val * 1 + ((⟨3, ![1, 1, n]⟩ : Shape).rowMajor.symm m 2).val - l < n; rw [mul_one]; exact c
    · show ((f (x.val * 1 + ((⟨3, ![1, 1, n]⟩ : Shape).rowMajor.symm m 0).val - 0) (y.val * 1 + ((⟨3, ![1, 1, n]⟩ : Shape).rowMajor.symm m 1).val - 0) (z.val * 1 + ((⟨3, ![1, 1, n]⟩ : Shape).rowMajor.symm m 2).val - l) : ℝ) : EReal) = _
      rw [i0, i1]
      simp only [mul_one, add_zero, Nat.sub_zero]
      rfl
  · rw [foldl_coe, zero_add, ← Fin.sum_univ_def]
    exact congrArg _ (Equiv.sum_comp ((⟨3, ![1, 1, n]⟩ : Shape).rowMajor.symm.trans (line n))
      (fun k : Fin n => if l ≤ z.val + k.val ∧ z.val + k.val - l < n then f x.val y.val (z.val + k.val - l) else 0))

/-- Padded on the right it is the sum from a place on. -/
theorem window_from {n : ℕ} (f : ℕ → ℝ) (z : ℕ) (hz : z ≤ n) :
    ∑ k : Fin n, (if 0 ≤ z + k.val ∧ z + k.val - 0 < n then f (z + k.val - 0) else 0) = ∑ j ∈ Finset.range n, f j - ∑ j ∈ Finset.range z, f j := by
  have e := range_add f z (n - z)
  rw [show z + (n - z) = n by omega] at e
  rw [← e, add_sub_cancel_left, ← Finset.sum_range (fun k => f (z + k)), ← Finset.sum_range (fun k => if 0 ≤ z + k ∧ z + k - 0 < n then f (z + k - 0) else 0), ← Finset.sum_filter]
  refine Finset.sum_congr (Finset.ext fun x => ?_) fun _ _ => by rw [Nat.sub_zero]
  simp only [Finset.mem_filter, Finset.mem_range]
  omega

/-- Padded on the left it is the sum up to a place. -/
theorem window_upto {n : ℕ} (f : ℕ → ℝ) (z : ℕ) (hz : z < n) :
    ∑ k : Fin n, (if n - 1 ≤ z + k.val ∧ z + k.val - (n - 1) < n then f (z + k.val - (n - 1)) else 0) = ∑ j ∈ Finset.range (z + 1), f j := by
  have e := range_add (fun k => if n - 1 ≤ z + k then f (z + k - (n - 1)) else 0) (n - 1 - z) (z + 1)
  rw [show n - 1 - z + (z + 1) = n by omega, Finset.sum_eq_zero (fun k hk => if_neg (by have := Finset.mem_range.1 hk; omega)), zero_add] at e
  rw [Finset.sum_range (fun j => f j), ← Finset.sum_range (fun k => if n - 1 ≤ z + k ∧ z + k - (n - 1) < n then f (z + k - (n - 1)) else 0)]
  refine (Finset.sum_congr rfl fun k hk => ?_).trans (e.symm.trans (Finset.sum_congr rfl fun k _ => ?_))
  · have := Finset.mem_range.1 hk
    by_cases c : n - 1 ≤ z + k
    · rw [if_pos c, if_pos ⟨c, by omega⟩]
    · rw [if_neg c, if_neg (fun q => c q.1)]
  · rw [if_pos (by omega)]
    congr 1
    omega
/-- An array of reals of rank two is the table of its elements. -/
theorem exists_up2 {a b : ℕ} (r : (⟨2, ![a, b]⟩ : Shape).Idx → ℝ) : ∃ f : ℕ → ℕ → ℝ, (fun i => (r i : EReal)) = (up2 f : (⟨2, ![a, b]⟩ : Shape).Idx → EReal) := by
  refine ⟨fun x y => if h : x < a ∧ y < b then r (ix2 ⟨x, h.1⟩ ⟨y, h.2⟩) else 0, ext2 fun x y => ?_⟩
  rw [up2_ix, dif_pos ⟨x.isLt, y.isLt⟩]

end Cert.Attn
end
-- ==== Proof.FfnKernelValue.lean ====
/- The gated hidden layer and its gradient, as the two kernels `ffn_up` and `ffn_bwd_hidden` compute their blocks, over real arguments. -/
module

public import proofs.«01_k».proof.Proof.Gen.FfnKernelIdeal.Frame
public import proofs.«01_k».proof.Proof.AttnArrays

@[expose] public section

set_option maxRecDepth 16384

noncomputable section

namespace Cert.FfnKernelIdeal.RefValue

open Cert.FfnKernelIdeal Cert.FfnKernelIdeal.Gen Idealize.ShloMosaic Idealize.ShloMosaic.TcCoe Idealize.SL.Sem
open Idealize.ShloMosaic.Pipeline (Dat)
open Cert.Reals Cert.Attn

section
variable (H D : ℕ → ℕ → ℝ) (U W L : ℕ → ℕ → ℕ → ℝ)

/-- The product of the hidden state and a layer's weight. -/
def prod (t f : ℕ) : ℝ := ∑ k : Fin 2048, H t k * U 0 k f
/-- The gated hidden layer. -/
def gated (t f : ℕ) : ℝ := prod H U t f * sigm (prod H U t f) * prod H W t f
/-- The cotangent of the gated hidden layer: half the product of the output's cotangent and the down weight. -/
def dy (t f : ℕ) : ℝ := 1 / 2 * ∑ k : Fin 2048, D t k * L 0 f k
/-- The cotangent of the gate's product. -/
def dA (t f : ℕ) : ℝ := dy D L t f * prod H W t f * (sigm (prod H U t f) * (1 + prod H U t f * (1 - sigm (prod H U t f))))
/-- The cotangent of the other product. -/
def dB (t f : ℕ) : ℝ := dy D L t f * (prod H U t f * sigm (prod H U t f))
end

/-- An array with its columns by the four chips. -/
abbrev chips (A : ℕ → ℕ → ℝ) : FVec Ideal S4x8192x1408 .bf16 := fun i => (A (i 1).val (1408 * (i 0).val + (i 2).val) : EReal)
/-- A block of one. -/
abbrev cB (A : ℕ → ℕ → ℝ) (T j : ℕ) : FVec Ideal S1x512x1408 .bf16 := fun i => (A (T + (i 1).val) (1408 * j + (i 2).val) : EReal)
abbrev hB (H : ℕ → ℕ → ℝ) (T : ℕ) : FVec Ideal S512x2048 .bf16 := up2 fun x k => H (T + x) k
abbrev dBk (D : ℕ → ℕ → ℝ) (T : ℕ) : FVec Ideal S512x2048 .f32 := up2 fun x k => D (T + x) k
abbrev wB (W : ℕ → ℕ → ℕ → ℝ) (j : ℕ) : FVec Ideal S1x1x2048x1408 .bf16 := fun i => (W 0 (i 2).val (1408 * j + (i 3).val) : EReal)
abbrev lB (L : ℕ → ℕ → ℕ → ℝ) (j : ℕ) : FVec Ideal S1x1x1408x2048 .bf16 := fun i => (L 0 (1408 * j + (i 2).val) (i 3).val : EReal)

variable (H D : ℕ → ℕ → ℝ) (U W L : ℕ → ℕ → ℕ → ℝ) (T j : ℕ)

theorem c_ix (A : ℕ → ℕ → ℝ) (a : Fin 1) (y : Fin 512) (z : Fin 1408) : cB A T j (ix3 a y z) = (A (T + y.val) (1408 * j + z.val) : EReal) := rfl
theorem w_ix (a b : Fin 1) (y : Fin 2048) (z : Fin 1408) : wB W j (ix4 a b y z) = (W 0 y.val (1408 * j + z.val) : EReal) := rfl
theorem l_ix (a b : Fin 1) (y : Fin 1408) (z : Fin 2048) : lB L j (ix4 a b y z) = (L 0 (1408 * j + y.val) z.val : EReal) := rfl

theorem up_a : k0_pay4 (F := Ideal) (hB H T) (wB U j) = cB (prod H U) T j := by
  refine ext3 fun x y z => ?_
  pointwise [k0_pay4, k0_pay3, k0_pay2, k0_pay1]
  simp only [c_ix, w_ix, up2_ix, ← EReal.coe_mul, sum_coe]
  rfl
theorem up_b : k0_pay5 (F := Ideal) (hB H T) (wB W j) = cB (prod H W) T j := by
  refine ext3 fun x y z => ?_
  pointwise [k0_pay5, k0_pay3, k0_pay2, k0_pay1]
  simp only [c_ix, w_ix, up2_ix, ← EReal.coe_mul, sum_coe]
  rfl
theorem up_y : k0_pay6 (F := Ideal) (hB H T) (wB U j) (wB W j) = cB (gated H U W) T j := by
  refine ext3 fun x y z => ?_
  pointwise [k0_pay6, k0_pay3, k0_pay2, k0_pay1]
  simp only [c_ix, w_ix, up2_ix, ← EReal.coe_mul, sum_coe, zero_sub, div_sigm]
  rfl
theorem down_a : k1_pay5 (F := Ideal) (dBk D T) (lB L j) (cB (prod H U) T j) (cB (prod H W) T j) = cB (dA H D U W L) T j := by
  refine ext3 fun x y z => ?_
  pointwise [k1_pay5, k1_pay4, k1_pay3, k1_pay2]
  simp only [c_ix, l_ix, up2_ix, ← EReal.coe_mul, sum_coe, half_f32, zero_sub, div_sigm]
  rw [← EReal.coe_one]
  simp only [← EReal.coe_mul, ← EReal.coe_sub, ← EReal.coe_add]
  rfl
theorem down_b : k1_pay1 (F := Ideal) (k1_pay6 (dBk D T) (lB L j) (cB (prod H U) T j)) = cB (dB H D U L) T j := by
  refine ext3 fun x y z => ?_
  pointwise [k1_pay1, k1_pay6, k1_pay4, k1_pay3, k1_pay2]
  simp only [c_ix, l_ix, up2_ix, ← EReal.coe_mul, sum_coe, half_f32, zero_sub, div_sigm]
  rfl

end Cert.FfnKernelIdeal.RefValue
end
-- ==== Proof.FfnRun.lean ====
/- The run of the gated hidden layer and its gradient: two regions, the forward's two products feeding the gradient's region. -/
module

public import proofs.«01_k».proof.Proof.FfnKernelValue
import all proofs.«01_k».proof.Proof.Gen.FfnKernelIdeal.Launch
import all proofs.«01_k».proof.Proof.Gen.FfnKernelIdeal.Frame

@[expose] public section

set_option maxRecDepth 16384

noncomputable section

namespace Cert.FfnKernelIdeal.Run

open Cert.FfnKernelIdeal Cert.FfnKernelIdeal.Gen Idealize.ShloMosaic Idealize.ShloMosaic.TcCoe Idealize.SL.Sem Idealize.SL
open Idealize.ShloMosaic.Pipeline (Dat)
open Cert.Reals Cert.Attn Cert.FfnKernelIdeal.RefValue

section
open Idealize.SL.RA Idealize.SL.BI
open scoped Idealize.SL.BI
open Idealize.SL.BI.BIBase Idealize.SL.BI.Laws Idealize.SL.ProofMode
open Idealize.ShloMosaic.Rounds
open Idealize.ShloMosaic.Pipeline (cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every final state holds each array at the contents that follow from the two regions. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)
end

variable (m : (ℓ : Loc nD τ sig) → Buf (Elt Ideal) ℓ) (ρ : Dev nD → PrngReg) (c : Dev nD) (H D : ℕ → ℕ → ℝ) (U W L : ℕ → ℕ → ℕ → ℝ)
  (hh : m ((c : Thread nD τ).loc main_arg0) = (up2 H : FVec Ideal S8192x2048 .f32)) (hu : m ((c : Thread nD τ).loc main_arg1) = (up3 U : FVec Ideal S2x2048x5632 .f32))
  (hw : m ((c : Thread nD τ).loc main_arg2) = (up3 W : FVec Ideal S2x2048x5632 .f32)) (hl : m ((c : Thread nD τ).loc main_arg3) = (up3 L : FVec Ideal S2x5632x2048 .f32))
  (hd : m ((c : Thread nD τ).loc main_arg4) = (up2 D : FVec Ideal S8192x2048 .f32))

theorem at2 (f : ℕ → ℕ → ℝ) {a b a' b' : ℕ} (ha : a = a') (hb : b = b') : (f a b : EReal) = (f a' b' : EReal) := by rw [ha, hb]
theorem at3 (f : ℕ → ℕ → ℕ → ℝ) {a b d a' b' d' : ℕ} (ha : a = a') (hb : b = b') (hd : d = d') : (f a b d : EReal) = (f a' b' d' : EReal) := by rw [ha, hb, hd]

/-- A weight of the hidden layer with its columns by the four chips. -/
abbrev packed (U : ℕ → ℕ → ℕ → ℝ) : FVec Ideal S4x2x2048x1408 .bf16 := fun i => (U (i 1).val (i 2).val (1408 * (i 0).val + (i 3).val) : EReal)
/-- The down weight with its rows by the four chips. -/
abbrev packedL (L : ℕ → ℕ → ℕ → ℝ) : FVec Ideal S4x2x1408x2048 .bf16 := fun i => (L (i 1).val (1408 * (i 0).val + (i 2).val) (i 3).val : EReal)

include hh in
theorem entry_h : V1 m ρ c main_v3 = (up2 H : FVec Ideal S8192x2048 .bf16) := by
  show StableHlo.after hostOps0 (W0 m ρ c) (Proc.devRef .tc main_v3) = _
  unfold hostOps0
  after_results_simp
  rw [show W0 m ρ c (Proc.devRef .tc main_arg0) = _ from hh]
  funext i
  pointwise []
include hu in
theorem entry_u : V1 m ρ c main_v6 = packed U := by
  show StableHlo.after hostOps0 (W0 m ρ c) (Proc.devRef .tc main_v6) = _
  unfold hostOps0
  after_results_simp
  rw [show W0 m ρ c (Proc.devRef .tc main_arg1) = _ from hu]
  funext i
  pointwise []
  exact at3 U rfl rfl (congrArg (· + (i 3).val) (Nat.mul_comm (i 0).val 1408))
include hw in
theorem entry_w : V1 m ρ c main_v9 = packed W := by
  show StableHlo.after hostOps0 (W0 m ρ c) (Proc.devRef .tc main_v9) = _
  unfold hostOps0
  after_results_simp
  rw [show W0 m ρ c (Proc.devRef .tc main_arg2) = _ from hw]
  funext i
  pointwise []
  exact at3 W rfl rfl (congrArg (· + (i 3).val) (Nat.mul_comm (i 0).val 1408))
include hl in
theorem entry_l : V1 m ρ c main_v2 = packedL L := by
  show StableHlo.after hostOps0 (W0 m ρ c) (Proc.devRef .tc main_v2) = _
  unfold hostOps0
  after_results_simp
  rw [show W0 m ρ c (Proc.devRef .tc main_arg3) = _ from hl]
  funext i
  pointwise []
  exact at3 L rfl (congrArg (· + (i 2).val) (Nat.mul_comm (i 0).val 1408)) rfl

theorem idx0 : ∀ t : Fin cfg0.N, win0_0.index t = ![t.val % 16, 0] ∧ win0_1.index t = ![t.val / 16, 0, 0, 0] ∧ win0_2.index t = ![t.val / 16, 0, 0, 0]
    ∧ win0_3.index t = ![t.val / 16, t.val % 16, 0] ∧ win0_4.index t = ![t.val / 16, t.val % 16, 0] ∧ win0_5.index t = ![t.val / 16, t.val % 16, 0] :=
  (by decide +kernel : ∀ t : Fin grid0.N, _)
theorem idx1 : ∀ t : Fin cfg1.N, win1_0.index t = ![t.val % 16, 0] ∧ win1_1.index t = ![t.val / 16, 0, 0, 0] ∧ win1_2.index t = ![t.val / 16, t.val % 16, 0]
    ∧ win1_3.index t = ![t.val / 16, t.val % 16, 0] ∧ win1_4.index t = ![t.val / 16, t.val % 16, 0] ∧ win1_5.index t = ![t.val / 16, t.val % 16, 0] :=
  (by decide +kernel : ∀ t : Fin grid1.N, _)

include hh in
theorem blk0_h (t : Fin cfg0.N) : iblk0 (V1 m ρ) c 0 t = hB H (512 * (t.val % 16)) := by
  refine ext2 fun x y => ?_
  blk_simp [iblk0, idx0 t]
  rw [entry_h m ρ c H hh, up2_at]
  refine Eq.trans ?_ (up2_ix _ x y).symm
  refine at2 H ?_ ?_ <;> (blk_simp [idx0 t]; try omega)
include hu in
theorem blk0_u (t : Fin cfg0.N) : iblk0 (V1 m ρ) c 1 t = wB U (t.val / 16) := by
  funext i
  have h1 := Nat.lt_one_iff.1 (i 0).isLt
  have h2 := Nat.lt_one_iff.1 (i 1).isLt
  blk_simp [iblk0, idx0 t]
  rw [entry_u m ρ c U hu]
  refine at3 U ?_ ?_ ?_ <;> (blk_simp [idx0 t]; try omega)
include hw in
theorem blk0_w (t : Fin cfg0.N) : iblk0 (V1 m ρ) c 2 t = wB W (t.val / 16) := by
  funext i
  have h1 := Nat.lt_one_iff.1 (i 0).isLt
  have h2 := Nat.lt_one_iff.1 (i 1).isLt
  blk_simp [iblk0, idx0 t]
  rw [entry_w m ρ c W hw]
  refine at3 W ?_ ?_ ?_ <;> (blk_simp [idx0 t]; try omega)
include hh hu in
/-- The first region leaves the gate's product, -/
theorem final_a : (dat0 (V1 m ρ) c).arrAt 3 cfg0.N = chips (prod H U) := by
  refine (dat0 (V1 m ρ) c).arrAt_eq_of_covers 3 _ (by decide +kernel) fun t hf y => ?_
  have h1 := Nat.lt_one_iff.1 (y 0).isLt
  blk_simp
  rw [after0_3]; frame_out
  rw [blk0_h m ρ c H hh t, blk0_u m ρ c U hu t, up_a]
  refine at2 (prod H U) ?_ ?_ <;> (blk_simp [idx0 t]; try omega)
include hh hw in
/-- the other product, -/
theorem final_b : (dat0 (V1 m ρ) c).arrAt 4 cfg0.N = chips (prod H W) := by
  refine (dat0 (V1 m ρ) c).arrAt_eq_of_covers 4 _ (by decide +kernel) fun t hf y => ?_
  have h1 := Nat.lt_one_iff.1 (y 0).isLt
  blk_simp
  rw [after0_4]; frame_out
  rw [blk0_h m ρ c H hh t, blk0_w m ρ c W hw t, up_b]
  refine at2 (prod H W) ?_ ?_ <;> (blk_simp [idx0 t]; try omega)
include hh hu hw in
/-- and the gated hidden layer. -/
theorem final_y : (dat0 (V1 m ρ) c).arrAt 5 cfg0.N = chips (gated H U W) := by
  refine (dat0 (V1 m ρ) c).arrAt_eq_of_covers 5 _ (by decide +kernel) fun t hf y => ?_
  have h1 := Nat.lt_one_iff.1 (y 0).isLt
  blk_simp
  rw [after0_5]; frame_out
  rw [blk0_h m ρ c H hh t, blk0_u m ρ c U hu t, blk0_w m ρ c W hw t, up_y]
  refine at2 (gated H U W) ?_ ?_ <;> (blk_simp [idx0 t]; try omega)

include hh hu in
theorem entry1_a : V2 m ρ c main_v10_0 = chips (prod H U) := (W2_arr m ρ c 3).trans (final_a m ρ c H U hh hu)
include hh hw in
theorem entry1_b : V2 m ρ c main_v10_1 = chips (prod H W) := (W2_arr m ρ c 4).trans (final_b m ρ c H W hh hw)
include hl in
theorem entry1_l : V2 m ρ c main_v2 = packedL L := (W2_of m ρ c main_v2 (by decide)).trans (entry_l m ρ c L hl)
include hd in
theorem entry1_d : V2 m ρ c main_arg4 = (up2 D : FVec Ideal S8192x2048 .f32) := (W2_args m ρ c main_arg4 (by decide)).trans hd

include hd in
theorem blk1_d (t : Fin cfg1.N) : iblk1 (V2 m ρ) c 0 t = dBk D (512 * (t.val % 16)) := by
  refine ext2 fun x y => ?_
  blk_simp [iblk1, idx1 t]
  rw [entry1_d m ρ c D hd, up2_at]
  refine Eq.trans ?_ (up2_ix _ x y).symm
  refine at2 D ?_ ?_ <;> (blk_simp [idx1 t]; try omega)
include hl in
theorem blk1_l (t : Fin cfg1.N) : iblk1 (V2 m ρ) c 1 t = lB L (t.val / 16) := by
  funext i
  have h1 := Nat.lt_one_iff.1 (i 0).isLt
  have h2 := Nat.lt_one_iff.1 (i 1).isLt
  blk_simp [iblk1, idx1 t]
  rw [entry1_l m ρ c L hl]
  refine at3 L ?_ ?_ ?_ <;> (blk_simp [idx1 t]; try omega)
include hh hu in
theorem blk1_a (t : Fin cfg1.N) : iblk1 (V2 m ρ) c 2 t = cB (prod H U) (512 * (t.val % 16)) (t.val / 16) := by
  funext i
  have h1 := Nat.lt_one_iff.1 (i 0).isLt
  blk_simp [iblk1, idx1 t]
  rw [entry1_a m ρ c H U hh hu]
  refine at2 (prod H U) ?_ ?_ <;> (blk_simp [idx1 t]; try omega)
include hh hw in
theorem blk1_b (t : Fin cfg1.N) : iblk1 (V2 m ρ) c 3 t = cB (prod H W) (512 * (t.val % 16)) (t.val / 16) := by
  funext i
  have h1 := Nat.lt_one_iff.1 (i 0).isLt
  blk_simp [iblk1, idx1 t]
  rw [entry1_b m ρ c H W hh hw]
  refine at2 (prod H W) ?_ ?_ <;> (blk_simp [idx1 t]; try omega)
include hh hu hw hl hd in
/-- The second region leaves the gradient of the gate's product -/
theorem final_da : (dat1 (V2 m ρ) c).arrAt 4 cfg1.N = chips (dA H D U W L) := by
  refine (dat1 (V2 m ρ) c).arrAt_eq_of_covers 4 _ (by decide +kernel) fun t hf y => ?_
  have h1 := Nat.lt_one_iff.1 (y 0).isLt
  blk_simp
  rw [after1_4]; frame_out
  rw [blk1_d m ρ c D hd t, blk1_l m ρ c L hl t, blk1_a m ρ c H U hh hu t, blk1_b m ρ c H W hh hw t, down_a]
  refine at2 (dA H D U W L) ?_ ?_ <;> (blk_simp [idx1 t]; try omega)
include hh hu hl hd in
/-- and that of the other product. -/
theorem final_db : (dat1 (V2 m ρ) c).arrAt 5 cfg1.N = chips (dB H D U L) := by
  refine (dat1 (V2 m ρ) c).arrAt_eq_of_covers 5 _ (by decide +kernel) fun t hf y => ?_
  have h1 := Nat.lt_one_iff.1 (y 0).isLt
  blk_simp
  rw [after1_5]; frame_out
  rw [blk1_d m ρ c D hd t, blk1_l m ρ c L hl t, blk1_a m ρ c H U hh hu t, down_b]
  refine at2 (dB H D U L) ?_ ?_ <;> (blk_simp [idx1 t]; try omega)

include hh hu in
theorem result_a : W3 m ρ c (Proc.devRef .tc main_v10_0) = chips (prod H U) :=
  (W3_of m ρ c main_v10_0 (by decide)).trans ((W2_arr m ρ c 3).trans (final_a m ρ c H U hh hu))
include hh hw in
theorem result_b : W3 m ρ c (Proc.devRef .tc main_v10_1) = chips (prod H W) :=
  (W3_of m ρ c main_v10_1 (by decide)).trans ((W2_arr m ρ c 4).trans (final_b m ρ c H W hh hw))
include hh hu hw in
theorem result_y : W3 m ρ c (Proc.devRef .tc main_v10_2) = chips (gated H U W) :=
  (W3_of m ρ c main_v10_2 (by decide)).trans ((W2_arr m ρ c 5).trans (final_y m ρ c H U W hh hu hw))
include hh hu hw hl hd in
theorem result_da : W3 m ρ c (Proc.devRef .tc main_v11_0) = chips (dA H D U W L) :=
  (W3_arr m ρ c 4).trans (final_da m ρ c H D U W L hh hu hw hl hd)
include hh hu hl hd in
theorem result_db : W3 m ρ c (Proc.devRef .tc main_v11_1) = chips (dB H D U L) :=
  (W3_arr m ρ c 5).trans (final_db m ρ c H D U L hh hu hl hd)

/-- The run at the arrays the claim names. -/
theorem run_results : θ_run defs (onTc (τ := τ) (main (F := Ideal))) ⟨m, fun _ => 0, ρ⟩ (fun r => ∀ c : Dev nD,
      r.2.mem ((c : Thread nD τ).loc main_v10_0) = W3 m ρ c (Proc.devRef .tc main_v10_0)
      ∧ r.2.mem ((c : Thread nD τ).loc main_v10_1) = W3 m ρ c (Proc.devRef .tc main_v10_1)
      ∧ r.2.mem ((c : Thread nD τ).loc main_v10_2) = W3 m ρ c (Proc.devRef .tc main_v10_2)
      ∧ r.2.mem ((c : Thread nD τ).loc main_v11_0) = W3 m ρ c (Proc.devRef .tc main_v11_0)
      ∧ r.2.mem ((c : Thread nD τ).loc main_v11_1) = W3 m ρ c (Proc.devRef .tc main_v11_1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨h c _ (mem_uc main_v10_0 (by decide)), h c _ (mem_uc main_v10_1 (by decide)), h c _ (mem_uc main_v10_2 (by decide)), h c _ (mem_uc main_v11_0 (by decide)), h c _ (mem_uc main_v11_1 (by decide)),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c)⟩) (run m ρ)

end Cert.FfnKernelIdeal.Run
end
-- ==== Proof.FfnReferenceValue.lean ====
/- The gated hidden layer and its derivative as the reference computes them, over real arguments. -/
module

public import proofs.«01_k».proof.Proof.Gen.FfnReferenceIdeal.Read
public import proofs.«01_k».proof.Proof.FfnKernelValue

@[expose] public section

set_option maxRecDepth 16384

noncomputable section

namespace Cert.FfnReferenceIdeal.RefValue

open Cert.FfnReferenceIdeal Cert.FfnReferenceIdeal.Gen Idealize.ShloMosaic Idealize.ShloMosaic.TcCoe Idealize.SL.Sem
open Cert.FfnReferenceIdeal.Read Cert.Reals Cert.Attn
open Cert.FfnKernelIdeal.RefValue (prod gated dy dA dB chips)

variable (H D : ℕ → ℕ → ℝ) (U W L : ℕ → ℕ → ℕ → ℝ)

theorem v2 : val_main_v2 (F := Ideal) (up2 H) (up3 U) = (up2 (prod H U) : FVec Ideal S8192x5632 .f32) := by
  refine ext2 fun x y => ?_
  pointwise [val_main_v2, val_main_v1, val_main_v0]
  simp only [up2_ix, up3_ix, ← EReal.coe_mul, sum_coe]
  rfl

theorem v5 : val_main_v5 (F := Ideal) (up2 H) (up3 W) = (up2 (prod H W) : FVec Ideal S8192x5632 .f32) := by
  refine ext2 fun x y => ?_
  pointwise [val_main_v5, val_main_v4, val_main_v3]
  simp only [up2_ix, up3_ix, ← EReal.coe_mul, sum_coe]
  rfl

theorem v6_2 : val_main_v6_2 (F := Ideal) (up2 H) (up3 U) = (up2 (fun t f => sigm (prod H U t f)) : FVec Ideal S8192x5632 .f32) := by
  refine ext2 fun x y => ?_
  pointwise [val_main_v6_2, val_main_call0_v4, val_main_call0_cst_0, val_main_call0_v3, val_main_call0_v2, val_main_call0_cst, val_main_call0_v1, val_main_call0_v0]
  simp only [v2, up2_ix, one_f32, EReal.coe_one, div_sigm]

theorem v6_1 : val_main_v6_1 (F := Ideal) (up2 H) (up3 U) = (up2 (fun t f => sigm (prod H U t f) * (1 - sigm (prod H U t f))) : FVec Ideal S8192x5632 .f32) := by
  refine ext2 fun x y => ?_
  pointwise [val_main_v6_1, val_main_call0_v7, val_main_call0_v6, val_main_call0_cst_1]
  simp only [v6_2, up2_ix, one_f32]
  rw [← EReal.coe_one, ← EReal.coe_sub, ← EReal.coe_mul]

theorem v6_0 : val_main_v6_0 (F := Ideal) (up2 H) (up3 U) = (up2 (fun t f => prod H U t f * sigm (prod H U t f)) : FVec Ideal S8192x5632 .f32) := by
  refine ext2 fun x y => ?_
  pointwise [val_main_v6_0]
  simp only [v2, v6_2, up2_ix, ← EReal.coe_mul]

theorem v15 : val_main_v15 (F := Ideal) (up3 L) (up2 D) = (up2 (dy D L) : FVec Ideal S8192x5632 .f32) := by
  refine ext2 fun x y => ?_
  pointwise [val_main_v15, val_main_v14, val_main_v13, val_main_cst_0, val_main_v9, val_main_v8]
  simp only [up2_ix, up3_ix, half_f32, ← EReal.coe_mul, sum_coe]
  refine congrArg _ ?_
  simp only [dy, Finset.mul_sum, Fin.val_zero]
  exact Finset.sum_congr rfl fun _ _ => by ring

theorem v21 : val_main_v21 (F := Ideal) (up2 H) (up3 U) = chips (prod H U) := by
  refine ext3 fun x y z => ?_
  pointwise [val_main_v21, val_main_v20, val_main_v19]
  simp only [v2, up2_ix, ← EReal.coe_mul, ← EReal.coe_sub, ← EReal.coe_add, sum_coe]
  rw [Nat.mul_comm x.val 1408]
  rfl

theorem v24 : val_main_v24 (F := Ideal) (up2 H) (up3 W) = chips (prod H W) := by
  refine ext3 fun x y z => ?_
  pointwise [val_main_v24, val_main_v23, val_main_v22]
  simp only [v5, up2_ix, ← EReal.coe_mul, ← EReal.coe_sub, ← EReal.coe_add, sum_coe]
  rw [Nat.mul_comm x.val 1408]
  rfl

theorem v29 : val_main_v29 (F := Ideal) (up2 H) (up3 U) (up3 W) = chips (gated H U W) := by
  refine ext3 fun x y z => ?_
  pointwise [val_main_v29, val_main_v28, val_main_v27, val_main_v26, val_main_v25, val_main_call2_v5, val_main_call2_v4, val_main_call2_cst_0, val_main_call2_v3, val_main_call2_v2, val_main_call2_cst, val_main_call2_v1, val_main_call2_v0]
  simp only [v2, v5, one_f32, EReal.coe_one, div_sigm, up2_ix, ← EReal.coe_mul, ← EReal.coe_sub, ← EReal.coe_add, sum_coe]
  rw [Nat.mul_comm x.val 1408]
  rfl

theorem v32 : val_main_v32 (F := Ideal) (up2 H) (up3 U) (up3 W) (up3 L) (up2 D) = chips (dA H D U W L) := by
  refine ext3 fun x y z => ?_
  pointwise [val_main_v32, val_main_v31, val_main_v30, val_main_v18, val_main_call1_v1, val_main_v17, val_main_call1_v2, val_main_call1_v0]
  simp only [v2, v5, v6_2, v6_1, v15, up2_ix, ← EReal.coe_mul, ← EReal.coe_sub, ← EReal.coe_add, sum_coe]
  rw [Nat.mul_comm x.val 1408]
  show _ = ((dA H D U W L y.val (1408 * x.val + z.val) : ℝ) : EReal)
  refine congrArg _ ?_
  simp only [dA]
  ring

theorem v35 : val_main_v35 (F := Ideal) (up2 H) (up3 U) (up3 L) (up2 D) = chips (dB H D U L) := by
  refine ext3 fun x y z => ?_
  pointwise [val_main_v35, val_main_v34, val_main_v33, val_main_v16]
  simp only [v6_0, v15, up2_ix, ← EReal.coe_mul, ← EReal.coe_sub, ← EReal.coe_add, sum_coe]
  rw [Nat.mul_comm x.val 1408]
  show _ = ((dB H D U L y.val (1408 * x.val + z.val) : ℝ) : EReal)
  refine congrArg _ ?_
  simp only [dB]
  ring

end Cert.FfnReferenceIdeal.RefValue
end
-- ==== Proof.PoolMath.lean ====
/- The mixer by running means, over the reals: four parts of 128 columns, part `g` averaging the last `2 ^ (g + 1)` rows. -/
module

public import proofs.«01_k».proof.Proof.AttnArrays

@[expose] public section

set_option maxRecDepth 16384

noncomputable section

namespace Cert.Pool
open Idealize.ShloMosaic Cert.Reals Cert.Attn

/-- The rows mixed, the output's cotangent, the columns' scales, and the four matrices. -/
structure Pool where
  x : ℕ → ℕ → ℝ
  dy : ℕ → ℕ → ℝ
  ps : ℕ → ℝ
  w : ℕ → ℕ → ℕ → ℝ

/-- The mixer's part of the projections and of the cotangent. -/
def pl (Z C : ℕ → ℕ → ℝ) (W : ℕ → ℕ → ℕ → ℝ) (S : ℕ → ℝ) : Pool := ⟨fun t e => Z t (4096 + e), fun t e => C t (1536 + e), S, W⟩

/-- How many rows part `g` averages. -/
def win (g : ℕ) : ℕ := 2 ^ (g + 1)
/-- How many of them there are at row `t`. -/
def cnt (g t : ℕ) : ℝ := ((min (t + 1) (win g) : ℕ) : ℝ)

theorem cnt_ne (g t : ℕ) : cnt g t ≠ 0 := by
  have : 0 < win g := Nat.pos_of_ne_zero (by simp [win])
  exact Nat.cast_ne_zero.2 (by omega)

variable (H : Pool)

/-- The rows with sixteen rows of zeros before them. -/
def Pool.xe (n e : ℕ) : ℝ := if n < 16 then 0 else H.x (n - 16) e
/-- The running mean less the row. -/
def Pool.D (g t i : ℕ) : ℝ := (∑ k ∈ Finset.range (win g), H.xe (t + 16 - k) (128 * g + i)) / cnt g t - H.x t (128 * g + i)
/-- The scaled cotangent. -/
def Pool.P (g t j : ℕ) : ℝ := H.dy t (128 * g + j) * H.ps (128 * g + j)
/-- The product with the part's matrix. -/
def Pool.Y (g t j : ℕ) : ℝ := ∑ i : Fin 128, H.D g t i.val * H.w g i.val j
/-- The gradient of `D`. -/
def Pool.DD (g t i : ℕ) : ℝ := ∑ j : Fin 128, H.P g t j.val * H.w g i j.val
/-- The gradient of the rows' sum. -/
def Pool.E (g t i : ℕ) : ℝ := H.DD g t i / cnt g t
/-- The same with zeros past the last row. -/
def Pool.EE (g n i : ℕ) : ℝ := if n < 8192 then H.E g n i else 0
/-- The gradient of the rows. -/
def Pool.DX (g t i : ℕ) : ℝ := ∑ k ∈ Finset.range (win g), H.EE g (t + k) i - H.DD g t i
/-- The gradient of the matrices, of the rows before `n`. -/
def Pool.DW (n g i j : ℕ) : ℝ := ∑ t ∈ Finset.range n, H.D g t i * H.P g t j
/-- The gradient of the scales, of the rows before `n`. -/
def Pool.DS (n g j : ℕ) : ℝ := ∑ t ∈ Finset.range n, H.dy t (128 * g + j) * H.Y g t j

/-- Four blocks of 128 columns side by side. -/
theorem four {α : Type*} (f : ℕ → ℕ → α) (y : ℕ) (h : y < 512) :
    (if _h : y < 128 then f 0 y else if _h : y - 128 < 128 then f 1 (y - 128) else if _h : y - 128 - 128 < 128 then f 2 (y - 128 - 128) else f 3 (y - 128 - 128 - 128)) = f (y / 128) (y % 128) := by
  split_ifs <;> (congr 1 <;> omega)

/-- A block's share of a sum over rows. -/
theorem block_sum (f : ℕ → ℝ) (n T : ℕ) (hT : n = T + 512) : ∑ t ∈ Finset.range T, f t + ∑ x : Fin 512, f (T + x.val) = ∑ t ∈ Finset.range n, f t := by
  subst hT
  exact range_add f T 512

end Cert.Pool
end
-- ==== Proof.PoolWord.lean ====
/- How many rows the mixer's backward kernel averages at a row of a block. -/
module

public import proofs.«01_k».proof.Proof.PoolMath
public import proofs.«01_k».proof.Proof.Gen.PoolKernelIdeal.Value

@[expose] public section

set_option maxRecDepth 16384

noncomputable section

namespace Cert.PoolKernelIdeal.RefValue

open Cert.PoolKernelIdeal Cert.PoolKernelIdeal.Gen Idealize.ShloMosaic Idealize.ShloMosaic.TcCoe Idealize.SL.Sem
open Cert.Reals Cert.Attn Cert.Pool

variable (i : grid0.Coords) (T : ℕ) (hT : T = 512 * (15 - (i 0).val))

/-- The word that counts the rows averaged. -/
def word (i : grid0.Coords) (x n : ℕ) : BitVec 32 :=
  IntOp.minsi (IntOp.addi (IntOp.addi (Scalar.muli (Scalar.subi 15#32 (BitVec.ofNat 32 (i 0).val)) 512#32) (BitVec.ofNat 32 x)) 1#32) (BitVec.ofNat 32 n)

theorem word_int : ∀ (g : Fin 4) (a : Fin 16) (x : Fin 512),
    (IntOp.minsi (IntOp.addi (IntOp.addi (Scalar.muli (Scalar.subi 15#32 (BitVec.ofNat 32 a.val)) 512#32) (BitVec.ofNat 32 x.val)) 1#32) (BitVec.ofNat 32 (2 ^ (g.val + 1)))).toInt
      = ((min (512 * (15 - a.val) + x.val + 1) (2 ^ (g.val + 1)) : ℕ) : ℤ) := by decide +kernel

include hT in
theorem cnt_word (g : Fin 4) (x : Fin 512) : (FloatOps.sitofp (F := Ideal) FTy.f32 (word i x.val (2 ^ (g.val + 1))) : EReal) = (cnt g.val (T + x.val) : EReal) := by
  have e := word_int g (i 0) x
  rw [← hT] at e
  show (((word i x.val (2 ^ (g.val + 1))).toInt : ℝ) : EReal) = _
  rw [show (word i x.val (2 ^ (g.val + 1))).toInt = _ from e]
  rfl

end Cert.PoolKernelIdeal.RefValue
end
-- ==== Proof.PoolTile.lean ====
/- What the mixer's backward kernel computes from the blocks it loads, for real blocks. -/
module

public import proofs.«01_k».proof.Proof.PoolWord

@[expose] public section

set_option maxRecDepth 16384

noncomputable section

namespace Cert.PoolKernelIdeal.RefValue

open Cert.PoolKernelIdeal Cert.PoolKernelIdeal.Gen Idealize.ShloMosaic Idealize.ShloMosaic.TcCoe Idealize.SL.Sem
open Cert.Reals Cert.Attn Cert.Pool

variable (H : Pool) (i : grid0.Coords) (T : ℕ) (hT : T = 512 * (15 - (i 0).val))
  (v11 v111 : FVec Ideal S512x512 .f32) (h11 : v11 = up2 fun x e => H.x (T + x) e)

/-- A block of the padded rows: from row `o`, from column `q`. -/
def xt (o q : ℕ) : FVec Ideal S512x128 .f32 := up2 fun x d => H.xe (T + o + x) (q + d)
def Dt (g : ℕ) : FVec Ideal S512x128 .f32 := up2 fun x d => H.D g (T + x) d

theorem D_close (g x y : ℕ) (S : ℝ) (u : EReal) (hu : u = (cnt g (T + x) : EReal)) (hS : S = ∑ k ∈ Finset.range (win g), H.xe (T + x + 16 - k) (128 * g + y)) :
    Ideal.div (S : EReal) u - (H.x (T + x) (128 * g + y) : EReal) = (H.D g (T + x) y : EReal) := by
  rw [hu, hS, div_real _ _ (cnt_ne _ _), ← EReal.coe_sub]
  rfl

variable (v0 v1 v2 v3 v4 v5 v6 v7 v8 v9 v10 v12 v13 v14 v15 : FVec Ideal S512x128 .f32)

include hT h11 in
theorem D_all :
    k0_pay10 i v11 (xt H T 16 0) (xt H T 15 0) = Dt H T 0
    ∧ k0_pay12 v11 (k0_pay8 i) (xt H T 16 128) (xt H T 15 128) (xt H T 14 128) (xt H T 13 128) = Dt H T 1
    ∧ k0_pay16 v11 (k0_pay13 (xt H T 16 256) (xt H T 15 256) (xt H T 14 256) (xt H T 13 256) (xt H T 12 256) (xt H T 11 256) (xt H T 10 256) (xt H T 9 256)) (k0_pay15 (k0_pay8 i)) = Dt H T 2
    ∧ k0_pay19 v11 (k0_pay8 i) (k0_pay17 (xt H T 16 384) (xt H T 15 384) (xt H T 14 384) (xt H T 13 384) (xt H T 12 384) (xt H T 11 384) (xt H T 10 384) (xt H T 9 384)
        (xt H T 8 384) (xt H T 7 384) (xt H T 6 384) (xt H T 5 384) (xt H T 4 384) (xt H T 3 384)) (xt H T 2 384) (xt H T 1 384) = Dt H T 3 := by
  subst h11
  unfold xt Dt
  refine ⟨ext2 fun x y => ?_, ext2 fun x y => ?_, ext2 fun x y => ?_, ext2 fun x y => ?_⟩
  all_goals
    have hx : ∀ o, T + o + x.val = T + x.val + o := fun o => by omega
    pointwise [k0_pay10, k0_pay9, k0_pay8, k0_pay12, k0_pay11, k0_pay16, k0_pay13, k0_pay15, k0_pay14, k0_pay19, k0_pay17, k0_pay18]
    simp only [up2_ix, ← EReal.coe_add, hx]
  · refine (congrArg₂ (· - ·) rfl (congrArg (fun n => (H.x (T + x.val) n : EReal)) (by omega))).trans (D_close H T 0 x.val y.val _ _ (cnt_word i T hT 0 x) ?_); simp [win, Finset.sum_range_succ]
  · refine (congrArg₂ (· - ·) rfl (congrArg (fun n => (H.x (T + x.val) n : EReal)) (by omega))).trans (D_close H T 1 x.val y.val _ _ (cnt_word i T hT 1 x) ?_); simp [win, Finset.sum_range_succ]
  · refine (congrArg₂ (· - ·) rfl (congrArg (fun n => (H.x (T + x.val) n : EReal)) (by omega))).trans (D_close H T 2 x.val y.val _ _ (cnt_word i T hT 2 x) ?_); simp [win, Finset.sum_range_succ]
  · refine (congrArg₂ (· - ·) rfl (congrArg (fun n => (H.x (T + x.val) n : EReal)) (by omega))).trans (D_close H T 3 x.val y.val _ _ (cnt_word i T hT 3 x) ?_); simp [win, Finset.sum_range_succ]

/-- The scaled cotangent. -/
def Pt : FVec Ideal S512x512 .f32 := up2 fun x e => H.dy (T + x) e * H.ps e
/-- A part's matrix as the kernel loads it. -/
def wt (g : ℕ) : FVec Ideal S1x128x128 .f32 := up3 fun _ i j => H.w g i j
def Yt (g : ℕ) : FVec Ideal S512x128 .f32 := up2 fun x d => H.Y g (T + x) d
def DDt (g : ℕ) : FVec Ideal S512x128 .f32 := up2 fun x d => H.DD g (T + x) d
def Et (g : ℕ) : FVec Ideal S512x128 .f32 := up2 fun x d => H.E g (T + x) d

variable (h111 : v111 = up2 fun x e => H.dy (T + x) e) (v112 : FVec Ideal S1x512 .f32) (h112 : v112 = up2 fun _ e => H.ps e)

include h111 h112 in
theorem P_all : k0_pay20 v111 v112 = Pt H T := by
  subst h111 h112
  unfold Pt
  refine ext2 fun x y => ?_
  pointwise [k0_pay20]
  simp only [up2_ix, ← EReal.coe_mul]

theorem Y_all : k0_pay24 (Dt H T 0) (wt H 0) = Yt H T 0 ∧ k0_pay31 (k0_pay28 (Dt H T 1)) (wt H 1) = Yt H T 1 ∧ k0_pay38 (Dt H T 2) (wt H 2) = Yt H T 2 := by
  unfold Dt wt Yt
  refine ⟨ext2 fun x y => ?_, ext2 fun x y => ?_, ext2 fun x y => ?_⟩
  all_goals
    pointwise [k0_pay24, k0_pay21, k0_pay22, k0_pay31, k0_pay28, k0_pay29, k0_pay38, k0_pay35, k0_pay36]
    simp only [up2_ix, up3_ix, ← EReal.coe_mul, sum_coe]
    rfl

include h111 h112 in
theorem DD_all : k0_pay25 v111 v112 (wt H 0) = DDt H T 0 ∧ k0_pay32 (Pt H T) (wt H 1) = DDt H T 1 ∧ k0_pay39 (Pt H T) (wt H 2) = DDt H T 2 ∧ k0_pay45 (Pt H T) (wt H 3) = DDt H T 3 := by
  subst h111 h112
  unfold Pt wt DDt
  refine ⟨ext2 fun x y => ?_, ext2 fun x y => ?_, ext2 fun x y => ?_, ext2 fun x y => ?_⟩
  all_goals
    pointwise [k0_pay25, k0_pay23, k0_pay22, k0_pay20, k0_pay32, k0_pay30, k0_pay29, k0_pay39, k0_pay37, k0_pay36, k0_pay45, k0_pay44, k0_pay43]
    simp only [up2_ix, up3_ix, ← EReal.coe_mul, sum_coe]
    rfl

theorem E_close (g x y : ℕ) (u : EReal) (hu : u = (cnt g (T + x) : EReal)) : Ideal.div (H.DD g (T + x) y : EReal) u = (H.E g (T + x) y : EReal) := by
  rw [hu, div_real _ _ (cnt_ne _ _)]
  rfl

include hT h111 h112 in
theorem E_all : k0_pay27 (k0_pay9 i) v111 v112 (wt H 0) = Et H T 0 ∧ k0_pay34 (k0_pay11 (k0_pay8 i)) (Pt H T) (wt H 1) = Et H T 1
    ∧ k0_pay41 (k0_pay14 (k0_pay8 i)) (Pt H T) (wt H 2) = Et H T 2 ∧ k0_pay47 (k0_pay18 (k0_pay8 i)) (Pt H T) (wt H 3) = Et H T 3 := by
  obtain ⟨d0, d1, d2, d3⟩ := DD_all H T v111 h111 v112 h112
  unfold k0_pay27 k0_pay34 k0_pay41 k0_pay47
  rw [d0, d1, d2, d3]
  unfold DDt Et
  refine ⟨ext2 fun x y => ?_, ext2 fun x y => ?_, ext2 fun x y => ?_, ext2 fun x y => ?_⟩
  all_goals
    pointwise [k0_pay9, k0_pay8, k0_pay11, k0_pay14, k0_pay18]
    simp only [up2_ix]
  · exact E_close H T 0 _ _ _ (cnt_word i T hT 0 x)
  · exact E_close H T 1 _ _ _ (cnt_word i T hT 1 x)
  · exact E_close H T 2 _ _ _ (cnt_word i T hT 2 x)
  · exact E_close H T 3 _ _ _ (cnt_word i T hT 3 x)

include hT in
/-- The four parts' gradients side by side. -/
theorem Eb : k0_pay49 (k0_pay18 (k0_pay8 i)) (Pt H T) (Et H T 0) (Et H T 1) (Et H T 2) (wt H 3) = up2 fun x e => H.E (e / 128) (T + x) (e % 128) := by
  have e3 : k0_pay47 (k0_pay18 (k0_pay8 i)) (Pt H T) (wt H 3) = Et H T 3 := (E_all H i T hT _ rfl _ rfl).2.2.2
  unfold k0_pay49
  rw [e3]
  unfold Et
  refine ext2 fun x y => ?_
  pointwise []
  simp only [up2_ix]
  exact four (fun g d => (H.E g (T + x.val) d : EReal)) y.val y.isLt

/-- A matrix's gradient before a block and after it. -/
def At (n g : ℕ) : FVec Ideal S1x128x128 .f32 := up3 fun _ i j => H.DW n g i j

variable (a b c d : ℕ → ℕ → ℝ)
include h111 h112 in
theorem DW_all : k0_pay26 (Dt H T 0) v111 v112 (up3 fun _ i j => a i j) = (up3 fun _ i j => a i j + ∑ x : Fin 512, H.D 0 (T + x.val) i * H.P 0 (T + x.val) j : FVec Ideal S1x128x128 .f32)
    ∧ k0_pay33 (Pt H T) (k0_pay28 (Dt H T 1)) (up3 fun _ i j => b i j) = (up3 fun _ i j => b i j + ∑ x : Fin 512, H.D 1 (T + x.val) i * H.P 1 (T + x.val) j : FVec Ideal S1x128x128 .f32)
    ∧ k0_pay40 (Dt H T 2) (Pt H T) (up3 fun _ i j => c i j) = (up3 fun _ i j => c i j + ∑ x : Fin 512, H.D 2 (T + x.val) i * H.P 2 (T + x.val) j : FVec Ideal S1x128x128 .f32)
    ∧ k0_pay46 (Pt H T) (k0_pay42 (Dt H T 3)) (up3 fun _ i j => d i j) = (up3 fun _ i j => d i j + ∑ x : Fin 512, H.D 3 (T + x.val) i * H.P 3 (T + x.val) j : FVec Ideal S1x128x128 .f32) := by
  subst h111 h112
  unfold Pt Dt
  refine ⟨ext3 fun z x y => ?_, ext3 fun z x y => ?_, ext3 fun z x y => ?_, ext3 fun z x y => ?_⟩
  all_goals
    pointwise [k0_pay26, k0_pay21, k0_pay23, k0_pay20, k0_pay33, k0_pay28, k0_pay30, k0_pay40, k0_pay35, k0_pay37, k0_pay46, k0_pay42, k0_pay44]
    simp only [up2_ix, up3_ix, ← EReal.coe_mul, sum_coe, ← EReal.coe_add]
    simp only [Pool.P, Nat.reduceMul, Nat.zero_add]

include h111 in
theorem DS_all (a : ℕ → ℝ) : k0_pay48 v111 (Yt H T 0) (Yt H T 1) (Yt H T 2) (k0_pay42 (Dt H T 3)) (wt H 3) (up2 fun _ e => a e)
    = up2 fun _ e => a e + ∑ x : Fin 512, H.dy (T + x.val) e * H.Y (e / 128) (T + x.val) (e % 128) := by
  subst h111
  unfold Yt Dt wt
  refine ext2 fun z e => ?_
  pointwise [k0_pay48, k0_pay43, k0_pay42]
  simp only [up2_ix, up3_ix, ← EReal.coe_mul, sum_coe, ← EReal.coe_add]
  have f4 := fun t : ℕ => four (fun g d => (H.Y g t d : EReal)) e.val e.isLt
  simp only [Pool.Y] at f4 ⊢
  simp only [f4, ← EReal.coe_mul, sum_coe, ← EReal.coe_add]

/-- A block of the gradients of the rows' sums: from row `o`, part `g`. -/
def et (o g : ℕ) : FVec Ideal S512x128 .f32 := up2 fun x d => H.EE g (T + o + x) d

theorem DX_all (hT' : T + 512 ≤ 8192) : k0_pay1 (DDt H T 3) (k0_pay51 (DDt H T 0) (Et H T 0) (et H T 1 0)) (k0_pay53 (DDt H T 1) (k0_pay52 (Et H T 1) (et H T 1 1) (et H T 2 1)) (et H T 3 1))
    (k0_pay54 (DDt H T 2) (Et H T 2) (et H T 1 2) (et H T 2 2) (et H T 3 2) (et H T 4 2) (et H T 5 2) (et H T 6 2) (et H T 7 2))
    (k0_pay55 (Et H T 3) (et H T 1 3) (et H T 2 3) (et H T 3 3) (et H T 4 3) (et H T 5 3) (et H T 6 3)) (et H T 7 3) (et H T 8 3) (et H T 9 3) (et H T 10 3) (et H T 11 3) (et H T 12 3) (et H T 13 3) (et H T 14 3) (et H T 15 3)
    = up2 fun x e => H.DX (e / 128) (T + x) (e % 128) := by
  unfold DDt Et et
  refine ext2 fun x y => ?_
  have hx : ∀ o, T + o + x.val = T + x.val + o := fun o => by omega
  have hE : ∀ g d, H.E g (T + x.val) d = H.EE g (T + x.val) d := fun g d => (if_pos (by have := x.isLt; omega)).symm
  pointwise [k0_pay1, k0_pay51, k0_pay53, k0_pay52, k0_pay54, k0_pay55]
  simp only [up2_ix, ← EReal.coe_add, ← EReal.coe_sub, hx, hE]
  refine Eq.trans ?_ (four (fun g d => (H.DX g (T + x.val) d : EReal)) y.val y.isLt)
  simp [Pool.DX, win, Finset.sum_range_succ]

end Cert.PoolKernelIdeal.RefValue
end
-- ==== Proof.PoolBody.lean ====
/- What one grid point of the mixer's backward kernel leaves in its three outputs and in the rows it carries to the next. -/
module

public import proofs.«01_k».proof.Proof.PoolTile
public import Idealize.ShloMosaic.Lib.VecWindow
import all proofs.«01_k».proof.Proof.Gen.PoolKernelIdeal.Frame
import all proofs.«01_k».proof.Proof.Gen.PoolKernelIdeal.Frame.RunA
import all proofs.«01_k».proof.Proof.Gen.PoolKernelIdeal.Frame.RunB

@[expose] public section

set_option maxRecDepth 16384

noncomputable section

namespace Cert.PoolKernelIdeal.RefValue

open Cert.PoolKernelIdeal Cert.PoolKernelIdeal.Gen Idealize.ShloMosaic Idealize.ShloMosaic.TcCoe Idealize.SL.Sem
open Cert.Reals Cert.Attn Cert.Pool

section
variable {σ : RefSig} {κ : Kind} {sp : Space}

/-- A load of 512 rows and 128 columns of a buffer of 528 rows. -/
theorem tile_read (v : View σ κ sp S528x512 .f32) (f : v.ty.Contents (Elt Ideal)) (A : ℕ → ℕ → ℝ) (hA : v.read (Elt Ideal) f = fun i => (A (i 0).val (i 1).val : EReal)) (o q : ℕ)
    (inb : ∀ j, (![o, q] : Fin 2 → ℕ) j + S512x128.size j ≤ S528x512.size j) :
    v.readAt (Elt Ideal) (Rect.unit (s := S528x512) ![o, q] S512x128.size inb).toLoadRect f = (up2 fun x d => A (o + x) (q + d) : FVec Ideal S512x128 .f32) := by
  funext x
  show v.read (Elt Ideal) f _ = _
  rw [hA]
  show (A (o + 1 * (x 0).val) (q + 1 * (x 1).val) : EReal) = A (o + (x 0).val) (q + (x 1).val)
  rw [one_mul, one_mul]

variable (v : View σ κ sp S4x128x128 .f32) (f : v.ty.Contents (Elt Ideal)) (A : ℕ → ℕ → ℕ → ℝ)

/-- A load of one part's matrix. -/
theorem slab_read (hA : v.read (Elt Ideal) f = (up3 A : FVec Ideal S4x128x128 .f32)) (g : ℕ) (inb : ∀ j, (![g, 0, 0] : Fin 3 → ℕ) j + S1x128x128.size j ≤ S4x128x128.size j) :
    v.readAt (Elt Ideal) (Rect.unit (s := S4x128x128) ![g, 0, 0] S1x128x128.size inb).toLoadRect f = (up3 fun _ i j => A g i j : FVec Ideal S1x128x128 .f32) := by
  refine ext3 fun x i j => ?_
  show v.read (Elt Ideal) f _ = _
  rw [hA, up3_ix]
  show (A (g + 1 * x.val) (0 + 1 * i.val) (0 + 1 * j.val) : EReal) = A g i j
  rw [one_mul, one_mul, one_mul, zero_add, zero_add, show x.val = 0 by omega, add_zero]

/-- A store of one part's matrix over earlier stores. -/
theorem slab_write (L : List (View.Piece (Elt Ideal) S4x128x128 .f32)) (hA : v.read (Elt Ideal) (v.writes (Elt Ideal) f L) = (up3 A : FVec Ideal S4x128x128 .f32)) (g : ℕ) (B : ℕ → ℕ → ℝ)
    (inb : ∀ j, (![g, 0, 0] : Fin 3 → ℕ) j + S1x128x128.size j ≤ S4x128x128.size j) (w : FVec Ideal S1x128x128 .f32) (hw : w = up3 fun _ i j => B i j) :
    v.read (Elt Ideal) (v.writes (Elt Ideal) f ((⟨Rect.unit (s := S4x128x128) ![g, 0, 0] S1x128x128.size inb, w⟩ : View.Piece (Elt Ideal) S4x128x128 .f32) :: L))
      = (up3 fun h i j => if h = g then B i j else A h i j : FVec Ideal S4x128x128 .f32) := by
  subst hw
  refine ext3 fun x i j => ?_
  rw [up3_ix]
  by_cases h : x.val = g
  · rw [if_pos h]
    refine (View.read_writes_cons_unit_of_mem v f inb _ L _ (ix3 (0 : Fin 1) i j : S1x128x128.Idx) rfl ?_).trans (by rw [up3_ix])
    intro a
    fin_cases a
    · exact h
    · exact (Nat.zero_add _).symm
    · exact (Nat.zero_add _).symm
  · rw [if_neg h]
    refine (View.read_writes_cons_unit_of_not_mem v f inb _ L _ rfl (0 : Fin 3) ?_).trans (by rw [hA, up3_ix])
    show x.val < g ∨ g + 1 ≤ x.val
    omega
end

variable (H : Pool) (i : grid0.Coords) (T : ℕ) (hT : T = 512 * (15 - (i 0).val))

theorem first_word : ∀ i : grid0.Coords, Scalar.cmpi .eq (Scalar.subi 15#32 (BitVec.ofNat 32 (i 0).val)) 0#32 = if (i 0).val = 15 then 1#1 else 0#1 := by decide +kernel

include hT in
/-- The sixteen rows before the block; zeros before the first. -/
theorem halo (x1 : FVec Ideal S16x512 .f32) (h1 : T ≠ 0 → x1 = up2 fun r e => H.xe (T + r) e) : k0_pay6 (F := Ideal) i x1 = (up2 fun r e => H.xe (T + r) e : FVec Ideal S16x512 .f32) := by
  have hi : (i 0).val < 16 := (i 0).isLt
  refine ext2 fun x y => ?_
  pointwise [k0_pay6]
  rw [first_word, up2_ix]
  by_cases h : (i 0).val = 15
  · rw [if_pos h]
    have : T = 0 := by omega
    simp only [Pool.xe, this, zero_add, if_pos x.isLt, EReal.coe_zero]
    pointwise []
  · rw [if_neg h, h1 (by omega), up2_ix]
    rfl

theorem pay7_eq (x : FVec Ideal S512x512 .f32) : k0_pay7 x = x := by
  refine ext2 fun _ _ => ?_
  pointwise [k0_pay7]
theorem pay50_eq (a : FVec Ideal S512x1 .f32) (b : FVec Ideal S512x512 .f32) (c d e : FVec Ideal S512x128 .f32) (w : FVec Ideal S1x128x128 .f32) : k0_pay50 a b c d e w = k0_pay49 a b c d e w := by
  unfold k0_pay50
  generalize k0_pay49 a b c d e w = u
  refine ext2 fun _ _ => ?_
  pointwise []

/-- A gradient of a row's sum, of all four parts side by side. -/
def EEc (n e : ℕ) : ℝ := H.EE (e / 128) n (e % 128)

theorem pay2_eq (f : ℕ → ℕ → ℝ) : k0_pay2 (F := Ideal) (up2 f : FVec Ideal S512x512 .f32) = (up2 f : FVec Ideal S16x512 .f32) := by
  refine ext2 fun x y => ?_
  pointwise [k0_pay2]
  exact ((up2_ix f x y).trans rfl).symm

section
variable {σ : RefSig} {κ : Kind} {sp : Space} (v : View σ κ sp S528x512 .f32) (f : v.ty.Contents (Elt Ideal))

/-- The buffer of rows: the sixteen before the block, then the block. -/
theorem rows_all (w1 : FVec Ideal S512x512 .f32) (w0 : FVec Ideal S16x512 .f32) (h1 : w1 = up2 fun x e => H.x (T + x) e) (h0 : w0 = up2 fun r e => H.xe (T + r) e)
    (b1 : ∀ j, (![16, 0] : Fin 2 → ℕ) j + S512x512.size j ≤ S528x512.size j) (b0 : ∀ j, (![0, 0] : Fin 2 → ℕ) j + S16x512.size j ≤ S528x512.size j) :
    v.read (Elt Ideal) (v.writes (Elt Ideal) f [(⟨Rect.unit (s := S528x512) ![16, 0] S512x512.size b1, w1⟩ : View.Piece (Elt Ideal) S528x512 .f32), ⟨Rect.unit (s := S528x512) ![0, 0] S16x512.size b0, w0⟩])
      = fun i => (H.xe (T + (i 0).val) (i 1).val : EReal) := by
  subst h1 h0
  refine ext2 fun x y => ?_
  by_cases h : x.val < 16
  · refine (View.read_writes_cons_rows_of_not_mem (d := ![528, 512]) v f b1 _ _ _ rfl (W := 512) rfl (Or.inl h)).trans ?_
    refine (View.read_writes_cons_rows_of_mem (d := ![528, 512]) v f b0 _ _ _ (ix2 ⟨x.val, h⟩ y : S16x512.Idx) rfl (Nat.zero_add _).symm rfl).trans ?_
    rw [up2_ix]
    rfl
  · have hx := x.isLt
    refine (View.read_writes_cons_rows_of_mem (d := ![528, 512]) v f b1 _ _ _ (ix2 ⟨x.val - 16, by omega⟩ y : S512x512.Idx) rfl (show x.val = 16 + (x.val - 16) by omega) rfl).trans ?_
    rw [up2_ix]
    show (H.x (T + (x.val - 16)) y.val : EReal) = (H.xe (T + x.val) y.val : EReal)
    rw [Pool.xe, if_neg (by omega), show T + x.val - 16 = T + (x.val - 16) by omega]

/-- The buffer of the sums' gradients: the block's, then the sixteen rows carried from the block after it. -/
theorem sums_all (hT' : T + 512 ≤ 8192) (w1 : FVec Ideal S512x512 .f32) (L : List (View.Piece (Elt Ideal) S528x512 .f32)) (h1 : w1 = up2 fun x e => H.E (e / 128) (T + x) (e % 128))
    (h0 : ∀ y : S528x512.Idx, 512 ≤ (y 0).val → v.read (Elt Ideal) (v.writes (Elt Ideal) f L) y = (EEc H (T + (y 0).val) (y 1).val : EReal))
    (b1 : ∀ j, (![0, 0] : Fin 2 → ℕ) j + S512x512.size j ≤ S528x512.size j) :
    v.read (Elt Ideal) (v.writes (Elt Ideal) f ((⟨Rect.unit (s := S528x512) ![0, 0] S512x512.size b1, w1⟩ : View.Piece (Elt Ideal) S528x512 .f32) :: L))
      = fun i => (EEc H (T + (i 0).val) (i 1).val : EReal) := by
  subst h1
  refine ext2 fun x y => ?_
  by_cases h : x.val < 512
  · refine (View.read_writes_cons_rows_of_mem (d := ![528, 512]) v f b1 _ _ _ (ix2 ⟨x.val, h⟩ y : S512x512.Idx) rfl (Nat.zero_add _).symm rfl).trans ?_
    rw [up2_ix]
    show (H.E (y.val / 128) (T + x.val) (y.val % 128) : EReal) = (H.EE (y.val / 128) (T + x.val) (y.val % 128) : EReal)
    rw [Pool.EE, if_pos (by omega)]
  · exact (View.read_writes_cons_rows_of_not_mem (d := ![528, 512]) v f b1 _ _ _ rfl (W := 512) rfl (Or.inr (show 0 + 512 ≤ x.val by omega))).trans (h0 _ (show 512 ≤ x.val by omega))

/-- The sixteen rows kept for the next block. -/
theorem keep (hT' : T + 512 ≤ 8192) (w : FVec Ideal S16x512 .f32) (hw : w = up2 fun x e => H.E (e / 128) (T + x) (e % 128)) (L : List (View.Piece (Elt Ideal) S528x512 .f32))
    (b : ∀ j, (![512, 0] : Fin 2 → ℕ) j + (![16, 512] : Fin 2 → ℕ) j ≤ S528x512.size j) (y : S528x512.Idx) (hy : 512 ≤ (y 0).val) :
    v.read (Elt Ideal) (v.writes (Elt Ideal) f ((⟨Rect.unit (s := S528x512) ![512, 0] ![16, 512] b, w⟩ : View.Piece (Elt Ideal) S528x512 .f32) :: L)) y
      = (EEc H (T + ((y 0).val - 512)) (y 1).val : EReal) := by
  subst hw
  have hx : (y 0).val < 528 := (y 0).isLt
  refine (View.read_writes_cons_rows_of_mem (d := ![528, 512]) v f b _ _ _ (ix2 ⟨(y 0).val - 512, by omega⟩ (⟨(y 1).val, (y 1).isLt⟩ : Fin 512) : S16x512.Idx) rfl (show (y 0).val = 512 + ((y 0).val - 512) by omega) rfl).trans ?_
  rw [up2_ix]
  show (H.E ((y 1).val / 128) (T + ((y 0).val - 512)) ((y 1).val % 128) : EReal) = (H.EE ((y 1).val / 128) (T + ((y 0).val - 512)) ((y 1).val % 128) : EReal)
  rw [Pool.EE, if_pos (by omega)]

theorem xt_read (hA : v.read (Elt Ideal) f = fun i => (H.xe (T + (i 0).val) (i 1).val : EReal)) (o q : ℕ) (inb : ∀ j, (![o, q] : Fin 2 → ℕ) j + S512x128.size j ≤ S528x512.size j) :
    v.readAt (Elt Ideal) (Rect.unit (s := S528x512) ![o, q] S512x128.size inb).toLoadRect f = xt H T o q := by
  rw [tile_read v f (fun n e => H.xe (T + n) e) hA]
  refine ext2 fun x y => ?_
  simp only [xt, up2_ix, Nat.add_assoc]

theorem et_read (hA : v.read (Elt Ideal) f = fun i => (EEc H (T + (i 0).val) (i 1).val : EReal)) (o q : ℕ) (hq : q % 128 = 0) (inb : ∀ j, (![o, q] : Fin 2 → ℕ) j + S512x128.size j ≤ S528x512.size j) :
    v.readAt (Elt Ideal) (Rect.unit (s := S528x512) ![o, q] S512x128.size inb).toLoadRect f = et H T o (q / 128) := by
  rw [tile_read v f (fun n e => EEc H (T + n) e) hA]
  refine ext2 fun x y => ?_
  have hy := y.isLt
  simp only [et, up2_ix, EEc, Nat.add_assoc]
  rw [show (q + y.val) / 128 = q / 128 by omega, show (q + y.val) % 128 = y.val by omega]
end

/-- What a block adds to the matrices' gradient. -/
def dws (g i j : ℕ) : ℝ := ∑ x : Fin 512, H.D g (T + x.val) i * H.P g (T + x.val) j
/-- What it adds to the scales'. -/
def dss (e : ℕ) : ℝ := ∑ x : Fin 512, H.dy (T + x.val) e * H.Y (e / 128) (T + x.val) (e % 128)

/-- The four parts' matrices, each replaced once. -/
theorem slabs (A B : ℕ → ℕ → ℕ → ℝ) : (up3 fun h i j => if h = 3 then B 3 i j else if h = 2 then B 2 i j else if h = 1 then B 1 i j else if h = 0 then B 0 i j else A h i j : FVec Ideal S4x128x128 .f32) = up3 B := by
  refine ext3 fun x i j => ?_
  have hx := x.isLt
  rw [up3_ix, up3_ix]
  split_ifs with h3 h2 h1 h0
  · rw [h3]
  · rw [h2]
  · rw [h1]
  · rw [h0]
  · omega

section
variable (c : Dev nD) (arg1 : Memref sig .tc .vmem S512x512 .f32) (harg1 : arg1.IsWhole) (arg2 : Memref sig .tc .vmem S16x512 .f32) (harg2 : arg2.IsWhole) (arg3 : Memref sig .tc .vmem S512x512 .f32) (harg3 : arg3.IsWhole) (arg4 : Memref sig .tc .vmem S4x128x128 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S4x128x128 .f32) (harg7 : arg7.IsWhole) (arg8 : Memref sig .tc .vmem S1x512 .f32) (harg8 : arg8.IsWhole) (arg9 : Memref sig .tc .vmem S528x512 .f32) (harg9 : arg9.IsWhole) (arg10 : Memref sig .tc .vmem S528x512 .f32) (harg10 : arg10.IsWhole)
  (x0 : FVec Ideal S512x512 .f32) (x1 : FVec Ideal S16x512 .f32) (x2 : FVec Ideal S512x512 .f32) (x3 : FVec Ideal S4x128x128 .f32) (x4 : FVec Ideal S1x512 .f32)
  (xo6 : FVec Ideal S4x128x128 .f32) (xo7 : FVec Ideal S1x512 .f32) (xs1 : FVec Ideal S528x512 .f32) (A6 : ℕ → ℕ → ℕ → ℝ) (A7 : ℕ → ℝ)
  (h0 : x0 = up2 fun x e => H.x (T + x) e) (h1 : T ≠ 0 → x1 = up2 fun r e => H.xe (T + r) e) (h2 : x2 = up2 fun x e => H.dy (T + x) e) (h3 : x3 = up3 H.w) (h4 : x4 = up2 fun _ e => H.ps e)
  (h6 : xo6 = up3 A6) (h7 : xo7 = up2 fun _ e => A7 e) (hs : ∀ y : S528x512.Idx, 512 ≤ (y 0).val → xs1 y = (EEc H (T + (y 0).val) (y 1).val : EReal))
  (hT' : T + 512 ≤ 8192)

include h0 h1 h2 h3 h4 hT hT' h6 h7 hs in
/-- What a later grid point leaves. -/
theorem body_B (hc0) : out0_B_5 (F := Ideal) c i arg1 harg1 arg2 harg2 arg3 harg3 arg4 harg4 arg5 harg5 arg6 harg6 arg7 harg7 arg8 harg8 arg9 harg9 arg10 harg10 hc0 x0 x1 x2 x3 x4 xo6 xo7 xs1 = (up2 fun x e => H.DX (e / 128) (T + x) (e % 128) : FVec Ideal S512x512 .bf16)
    ∧ out0_B_6 (F := Ideal) c i arg1 harg1 arg2 harg2 arg3 harg3 arg4 harg4 arg5 harg5 arg6 harg6 arg7 harg7 arg8 harg8 arg9 harg9 arg10 harg10 hc0 x0 x1 x2 x3 x4 xo6 xo7 xs1 = (up3 fun g i j => (fun g i j => A6 g i j) g i j + dws H T g i j : FVec Ideal S4x128x128 .f32)
    ∧ out0_B_7 (F := Ideal) c i arg1 harg1 arg2 harg2 arg3 harg3 arg4 harg4 arg5 harg5 arg6 harg6 arg7 harg7 arg8 harg8 arg9 harg9 arg10 harg10 hc0 x0 x1 x2 x3 x4 xo6 xo7 xs1 = (up2 fun _ e => A7 e + dss H T e : FVec Ideal S1x512 .f32)
    ∧ ∀ y : S528x512.Idx, 512 ≤ (y 0).val → sout0_B_1 (F := Ideal) c i arg1 harg1 arg2 harg2 arg3 harg3 arg4 harg4 arg5 harg5 arg6 harg6 arg7 harg7 arg8 harg8 arg9 harg9 arg10 harg10 hc0 x0 x1 x2 x3 x4 xo6 xo7 xs1 y = (EEc H (T + ((y 0).val - 512)) (y 1).val : EReal) := by
  have l0 : arg1.view.readAt (Elt Ideal) (Rect.unit (s := S512x512) ![0, 0] S512x512.size inb_S512x512_S512x512_0_0).toLoadRect (harg1.unread x0) = (up2 fun x e => H.x (T + x) e : FVec Ideal S512x512 .f32) := by rw [View.readAt_full, harg1.read_unread, h0]
  have l1 : k0_pay6 i (arg2.view.readAt (Elt Ideal) (Rect.unit (s := S16x512) ![0, 0] S16x512.size inb_S16x512_S16x512_0_0).toLoadRect (harg2.unread x1)) = (up2 fun r e => H.xe (T + r) e : FVec Ideal S16x512 .f32) := by rw [View.readAt_full, harg2.read_unread]; exact halo H i T hT x1 h1
  have l2 : arg3.view.readAt (Elt Ideal) (Rect.unit (s := S512x512) ![0, 0] S512x512.size inb_S512x512_S512x512_0_0).toLoadRect (harg3.unread x2) = (up2 fun x e => H.dy (T + x) e : FVec Ideal S512x512 .f32) := by rw [View.readAt_full, harg3.read_unread, h2]
  have l3 : ∀ (g : ℕ) (b : ∀ j, (![g, 0, 0] : Fin 3 → ℕ) j + S1x128x128.size j ≤ S4x128x128.size j), arg4.view.readAt (Elt Ideal) (Rect.unit (s := S4x128x128) ![g, 0, 0] S1x128x128.size b).toLoadRect (harg4.unread x3) = wt H g :=
    fun g b => slab_read arg4.view _ H.w ((harg4.read_unread x3).trans h3) g b
  have l4 : arg5.view.readAt (Elt Ideal) (Rect.unit (s := S1x512) ![0, 0] S1x512.size inb_S1x512_S1x512_0_0).toLoadRect (harg5.unread x4) = (up2 fun _ e => H.ps e : FVec Ideal S1x512 .f32) := by rw [View.readAt_full, harg5.read_unread, h4]
  obtain ⟨d0, d1, d2, d3⟩ := D_all H i T hT _ rfl
  have p := P_all H T (up2 fun x e => H.dy (T + x) e) rfl (up2 fun _ e => H.ps e) rfl
  obtain ⟨y0, y1, y2⟩ := Y_all H T
  obtain ⟨dd0, dd1, dd2, dd3⟩ := DD_all H T (up2 fun x e => H.dy (T + x) e) rfl (up2 fun _ e => H.ps e) rfl
  obtain ⟨e0, e1, e2, e3⟩ := E_all H i T hT (up2 fun x e => H.dy (T + x) e) rfl (up2 fun _ e => H.ps e) rfl
  have eb := Eb H i T hT
  have b9 : arg9.view.read (Elt Ideal) (arg9.view.writes (Elt Ideal) arg9.view.junk (kernelRun0_B.sl.HS0_2 (F := Ideal) c i arg1 harg1 arg2 harg2 x0 x1)) = fun i => (H.xe (T + (i 0).val) (i 1).val : EReal) := by
    unfold kernelRun0_B.sl.HS0_2
    exact rows_all H T arg9.view _ _ _ ((pay7_eq _).trans l0) l1 _ _
  have t9 := xt_read H T arg9.view _ b9
  have n12 : kernelRun0_B.sl.r_12 (F := Ideal) c arg3 harg3 arg5 harg5 x2 x4 = Pt H T := by simp only [kernelRun0_B.sl.r_12, l2, l4, p]
  have n15 : kernelRun0_B.sl.r_15 (F := Ideal) c i arg3 harg3 arg4 harg4 arg5 harg5 x2 x3 x4 = Et H T 0 := by simp only [kernelRun0_B.sl.r_15, l2, l3, l4, e0]
  have n19 : kernelRun0_B.sl.r_19 (F := Ideal) c i arg3 harg3 arg4 harg4 arg5 harg5 x2 x3 x4 = Et H T 1 := by simp only [kernelRun0_B.sl.r_19, kernelRun0_B.sl.r_2, n12, l3, e1]
  have n22 : kernelRun0_B.sl.r_22 (F := Ideal) c i arg3 harg3 arg4 harg4 arg5 harg5 x2 x3 x4 = Et H T 2 := by simp only [kernelRun0_B.sl.r_22, kernelRun0_B.sl.r_5, n12, l3, e2]
  have b10 : arg10.view.read (Elt Ideal) (arg10.view.writes (Elt Ideal) (harg10.unread xs1) (kernelRun0_B.sl.HS1_1 (F := Ideal) c i arg3 harg3 arg4 harg4 arg5 harg5 x2 x3 x4)) = fun i => (EEc H (T + (i 0).val) (i 1).val : EReal) := by
    unfold kernelRun0_B.sl.HS1_1
    refine sums_all H T arg10.view _ hT' _ _ ?_ (fun y hy => by have e := congrFun (harg10.read_unread (Val := Elt Ideal) xs1) y; exact e.trans (hs y hy)) _
    rw [pay50_eq, n12, n15, n19, n22, l3, kernelRun0_B.sl.r_9, eb]
  have t10 := et_read H T arg10.view _ b10
  have t10' : ∀ (o q : ℕ) (hq : q % 128 = 0) (inb : ∀ j, (![o, q] : Fin 2 → ℕ) j + (![512, 128] : Fin 2 → ℕ) j ≤ S528x512.size j),
      arg10.view.readAt (Elt Ideal) (Rect.unit (s := S528x512) ![o, q] ![512, 128] inb).toLoadRect (arg10.view.writes (Elt Ideal) (harg10.unread xs1) (kernelRun0_B.sl.HS1_1 (F := Ideal) c i arg3 harg3 arg4 harg4 arg5 harg5 x2 x3 x4)) = et H T o (q / 128) := t10
  have n1 : kernelRun0_B.sl.r_1 (F := Ideal) c i arg1 harg1 arg2 harg2 arg9 x0 x1 = Dt H T 0 := by simp only [kernelRun0_B.sl.r_1, kernelRun0_B.sl.v19, kernelRun0_B.sl.v20, View.readCov, l0, t9, d0]
  have n3 : kernelRun0_B.sl.r_3 (F := Ideal) c i arg1 harg1 arg2 harg2 arg9 x0 x1 = Dt H T 1 := by simp only [kernelRun0_B.sl.r_3, kernelRun0_B.sl.r, kernelRun0_B.sl.v31, kernelRun0_B.sl.v32, kernelRun0_B.sl.v34, kernelRun0_B.sl.v36, View.readCov, l0, t9, d1]
  have n7 : kernelRun0_B.sl.r_7 (F := Ideal) c i arg1 harg1 arg2 harg2 arg9 x0 x1 = Dt H T 2 := by simp only [kernelRun0_B.sl.r_7, kernelRun0_B.sl.r, kernelRun0_B.sl.r_4, kernelRun0_B.sl.r_6, kernelRun0_B.sl.v47, kernelRun0_B.sl.v48, kernelRun0_B.sl.v50, kernelRun0_B.sl.v52, kernelRun0_B.sl.v54, kernelRun0_B.sl.v56, kernelRun0_B.sl.v58, kernelRun0_B.sl.v60, View.readCov, l0, t9, d2]
  have n10 : kernelRun0_B.sl.r_10 (F := Ideal) c i arg1 harg1 arg2 harg2 arg9 x0 x1 = Dt H T 3 := by simp only [kernelRun0_B.sl.r_10, kernelRun0_B.sl.r, kernelRun0_B.sl.r_8, kernelRun0_B.sl.v71, kernelRun0_B.sl.v72, kernelRun0_B.sl.v74, kernelRun0_B.sl.v76, kernelRun0_B.sl.v78, kernelRun0_B.sl.v80, kernelRun0_B.sl.v82, kernelRun0_B.sl.v84, kernelRun0_B.sl.v86, kernelRun0_B.sl.v88, kernelRun0_B.sl.v90, kernelRun0_B.sl.v92, kernelRun0_B.sl.v94, kernelRun0_B.sl.v96, kernelRun0_B.sl.v98, kernelRun0_B.sl.v100, View.readCov, l0, t9, d3]
  unfold out0_B_5 out0_B_6 out0_B_7 sout0_B_1
  rw [View.read_writes_of_cover VO0_6 VO0_6.junk arg7.view (harg7.unread xo6) _ (cover0_B_6 (F := Ideal) c i arg1 harg1 arg2 harg2 arg3 harg3 arg4 harg4 arg5 harg5 arg6 harg6 arg7 harg7 arg8 harg8 arg9 harg9 arg10 harg10 hc0 x0 x1 x2 x3 x4 xo6 xo7 xs1)]
  unfold kernelRun0_B
  dsimp only
  refine ⟨(View.read_writes_full _ _ _ _ _).trans ?_, ?_, (View.read_writes_full _ _ _ _ _).trans ?_, fun y hy => keep H T _ _ hT' _ ?_ _ _ y hy⟩
  · simp only [kernelRun0_B.sl.r_14, kernelRun0_B.sl.r_18, kernelRun0_B.sl.r_21, kernelRun0_B.sl.r_24, kernelRun0_B.sl.r_25, kernelRun0_B.sl.r_27, kernelRun0_B.sl.r_28, kernelRun0_B.sl.r_29, kernelRun0_B.sl.r_30, kernelRun0_B.sl.r_31, kernelRun0_B.sl.r_9, n12, n15, n19, n22, l2, l3, l4, dd0, dd1, dd2, dd3, e3, kernelRun0_B.sl.v233, kernelRun0_B.sl.v235, kernelRun0_B.sl.v237, kernelRun0_B.sl.v239, kernelRun0_B.sl.v241, kernelRun0_B.sl.v243, kernelRun0_B.sl.v245, kernelRun0_B.sl.v247, kernelRun0_B.sl.v249, View.readCov, t10, t10', Nat.reduceMod, Nat.reduceDiv]
    exact DX_all H T hT'
  · have z : arg7.view.read (Elt Ideal) (harg7.unread xo6) = (up3 A6 : FVec Ideal S4x128x128 .f32) := by rw [harg7.read_unread]; exact h6
    obtain ⟨w0, w1, w2, w3⟩ := DW_all H T (up2 fun x e => H.dy (T + x) e) rfl (up2 fun _ e => H.ps e) rfl (A6 0) (A6 1) (A6 2) (A6 3)
    have s0 := slab_write arg7.view (harg7.unread xo6) A6 [] z 0 (fun i j => A6 0 i j + dws H T 0 i j) inb_S4x128x128_S1x128x128_0_0_0 _ w0
    have s1 := slab_write arg7.view _ _ _ s0 1 (fun i j => A6 1 i j + dws H T 1 i j) inb_S4x128x128_S1x128x128_1_0_0 _ w1
    have s2 := slab_write arg7.view _ _ _ s1 2 (fun i j => A6 2 i j + dws H T 2 i j) inb_S4x128x128_S1x128x128_2_0_0 _ w2
    have s3 := slab_write arg7.view _ _ _ s2 3 (fun i j => A6 3 i j + dws H T 3 i j) inb_S4x128x128_S1x128x128_3_0_0 _ w3
    have q := fun (g : ℕ) b => slab_read arg7.view (harg7.unread xo6) A6 z g b
    simp only [n1, n3, n7, n10, n12, l2, l4, kernelRun0_B.sl.r_16, kernelRun0_B.sl.r_23, kernelRun0_B.sl.v141, kernelRun0_B.sl.v158, kernelRun0_B.sl.v175, q]
    exact s3.trans (slabs A6 (fun g i j => A6 g i j + dws H T g i j))
  · have l7 : arg8.view.readAt (Elt Ideal) (Rect.unit (s := S1x512) ![0, 0] S1x512.size inb_S1x512_S1x512_0_0).toLoadRect (harg8.unread xo7) = (up2 fun _ e => A7 e : FVec Ideal S1x512 .f32) := by rw [View.readAt_full, harg8.read_unread, h7]
    simp only [kernelRun0_B.sl.r_11, kernelRun0_B.sl.r_13, kernelRun0_B.sl.r_17, kernelRun0_B.sl.r_20, kernelRun0_B.sl.r_23, kernelRun0_B.sl.r_16, n1, n3, n7, n10, l2, l3, y0, y1, y2, l7]
    exact DS_all H T _ rfl A7
  · simp only [kernelRun0_B.sl.r_26, kernelRun0_B.sl.r_9, n12, n15, n19, n22, l3, eb]
    exact pay2_eq fun x e => H.E (e / 128) (T + x) (e % 128)

include h0 h1 h2 h3 h4 hT hT' in
/-- What the first grid point leaves. -/
theorem body_A (hl : T + 512 = 8192) (hc0) : out0_A_5 (F := Ideal) c i arg1 harg1 arg2 harg2 arg3 harg3 arg4 harg4 arg5 harg5 arg6 harg6 arg7 harg7 arg8 harg8 arg9 harg9 arg10 harg10 hc0 x0 x1 x2 x3 x4 = (up2 fun x e => H.DX (e / 128) (T + x) (e % 128) : FVec Ideal S512x512 .bf16)
    ∧ out0_A_6 (F := Ideal) c i arg1 harg1 arg2 harg2 arg3 harg3 arg4 harg4 arg5 harg5 arg6 harg6 arg7 harg7 arg8 harg8 arg9 harg9 arg10 harg10 hc0 x0 x1 x2 x3 x4 = (up3 fun g i j => (fun _ _ _ => 0) g i j + dws H T g i j : FVec Ideal S4x128x128 .f32)
    ∧ out0_A_7 (F := Ideal) c i arg1 harg1 arg2 harg2 arg3 harg3 arg4 harg4 arg5 harg5 arg6 harg6 arg7 harg7 arg8 harg8 arg9 harg9 arg10 harg10 hc0 x0 x1 x2 x3 x4 = (up2 fun _ e => (fun _ => 0) e + dss H T e : FVec Ideal S1x512 .f32)
    ∧ ∀ y : S528x512.Idx, 512 ≤ (y 0).val → sout0_A_1 (F := Ideal) c i arg1 harg1 arg2 harg2 arg3 harg3 arg4 harg4 arg5 harg5 arg6 harg6 arg7 harg7 arg8 harg8 arg9 harg9 arg10 harg10 hc0 x0 x1 x2 x3 x4 y = (EEc H (T + ((y 0).val - 512)) (y 1).val : EReal) := by
  have l0 : arg1.view.readAt (Elt Ideal) (Rect.unit (s := S512x512) ![0, 0] S512x512.size inb_S512x512_S512x512_0_0).toLoadRect (harg1.unread x0) = (up2 fun x e => H.x (T + x) e : FVec Ideal S512x512 .f32) := by rw [View.readAt_full, harg1.read_unread, h0]
  have l1 : k0_pay6 i (arg2.view.readAt (Elt Ideal) (Rect.unit (s := S16x512) ![0, 0] S16x512.size inb_S16x512_S16x512_0_0).toLoadRect (harg2.unread x1)) = (up2 fun r e => H.xe (T + r) e : FVec Ideal S16x512 .f32) := by rw [View.readAt_full, harg2.read_unread]; exact halo H i T hT x1 h1
  have l2 : arg3.view.readAt (Elt Ideal) (Rect.unit (s := S512x512) ![0, 0] S512x512.size inb_S512x512_S512x512_0_0).toLoadRect (harg3.unread x2) = (up2 fun x e => H.dy (T + x) e : FVec Ideal S512x512 .f32) := by rw [View.readAt_full, harg3.read_unread, h2]
  have l3 : ∀ (g : ℕ) (b : ∀ j, (![g, 0, 0] : Fin 3 → ℕ) j + S1x128x128.size j ≤ S4x128x128.size j), arg4.view.readAt (Elt Ideal) (Rect.unit (s := S4x128x128) ![g, 0, 0] S1x128x128.size b).toLoadRect (harg4.unread x3) = wt H g :=
    fun g b => slab_read arg4.view _ H.w ((harg4.read_unread x3).trans h3) g b
  have l4 : arg5.view.readAt (Elt Ideal) (Rect.unit (s := S1x512) ![0, 0] S1x512.size inb_S1x512_S1x512_0_0).toLoadRect (harg5.unread x4) = (up2 fun _ e => H.ps e : FVec Ideal S1x512 .f32) := by rw [View.readAt_full, harg5.read_unread, h4]
  obtain ⟨d0, d1, d2, d3⟩ := D_all H i T hT _ rfl
  have p := P_all H T (up2 fun x e => H.dy (T + x) e) rfl (up2 fun _ e => H.ps e) rfl
  obtain ⟨y0, y1, y2⟩ := Y_all H T
  obtain ⟨dd0, dd1, dd2, dd3⟩ := DD_all H T (up2 fun x e => H.dy (T + x) e) rfl (up2 fun _ e => H.ps e) rfl
  obtain ⟨e0, e1, e2, e3⟩ := E_all H i T hT (up2 fun x e => H.dy (T + x) e) rfl (up2 fun _ e => H.ps e) rfl
  have eb := Eb H i T hT
  have b9 : arg9.view.read (Elt Ideal) (arg9.view.writes (Elt Ideal) arg9.view.junk (kernelRun0_A.sl.HS0_2 (F := Ideal) c i arg1 harg1 arg2 harg2 x0 x1)) = fun i => (H.xe (T + (i 0).val) (i 1).val : EReal) := by
    unfold kernelRun0_A.sl.HS0_2
    exact rows_all H T arg9.view _ _ _ ((pay7_eq _).trans l0) l1 _ _
  have t9 := xt_read H T arg9.view _ b9
  have n12 : kernelRun0_A.sl.r_12 (F := Ideal) c arg3 harg3 arg5 harg5 x2 x4 = Pt H T := by simp only [kernelRun0_A.sl.r_12, l2, l4, p]
  have n15 : kernelRun0_A.sl.r_15 (F := Ideal) c i arg3 harg3 arg4 harg4 arg5 harg5 x2 x3 x4 = Et H T 0 := by simp only [kernelRun0_A.sl.r_15, l2, l3, l4, e0]
  have n19 : kernelRun0_A.sl.r_19 (F := Ideal) c i arg3 harg3 arg4 harg4 arg5 harg5 x2 x3 x4 = Et H T 1 := by simp only [kernelRun0_A.sl.r_19, kernelRun0_A.sl.r_2, n12, l3, e1]
  have n22 : kernelRun0_A.sl.r_22 (F := Ideal) c i arg3 harg3 arg4 harg4 arg5 harg5 x2 x3 x4 = Et H T 2 := by simp only [kernelRun0_A.sl.r_22, kernelRun0_A.sl.r_5, n12, l3, e2]
  have b10 : arg10.view.read (Elt Ideal) (arg10.view.writes (Elt Ideal) arg10.view.junk (kernelRun0_A.sl.HS1_2 (F := Ideal) c i arg3 harg3 arg4 harg4 arg5 harg5 x2 x3 x4)) = fun i => (EEc H (T + (i 0).val) (i 1).val : EReal) := by
    unfold kernelRun0_A.sl.HS1_2
    refine sums_all H T arg10.view _ hT' _ _ ?_ (fun y hy => ?_) _
    · rw [pay50_eq, n12, n15, n19, n22, l3, kernelRun0_A.sl.r_9, eb]
    have hx : (y 0).val < 528 := (y 0).isLt
    refine (View.read_writes_cons_rows_of_mem (d := ![528, 512]) arg10.view _ _ _ _ _ (ix2 ⟨(y 0).val - 512, by omega⟩ (⟨(y 1).val, (y 1).isLt⟩ : Fin 512) : S16x512.Idx) rfl (show (y 0).val = 512 + ((y 0).val - 512) by omega) rfl).trans ?_
    pointwise [k0_pay3]
    rw [EEc, Pool.EE, if_neg (by omega), EReal.coe_zero]
  have t10 := et_read H T arg10.view _ b10
  have t10' : ∀ (o q : ℕ) (hq : q % 128 = 0) (inb : ∀ j, (![o, q] : Fin 2 → ℕ) j + (![512, 128] : Fin 2 → ℕ) j ≤ S528x512.size j),
      arg10.view.readAt (Elt Ideal) (Rect.unit (s := S528x512) ![o, q] ![512, 128] inb).toLoadRect (arg10.view.writes (Elt Ideal) arg10.view.junk (kernelRun0_A.sl.HS1_2 (F := Ideal) c i arg3 harg3 arg4 harg4 arg5 harg5 x2 x3 x4)) = et H T o (q / 128) := t10
  have n1 : kernelRun0_A.sl.r_1 (F := Ideal) c i arg1 harg1 arg2 harg2 arg9 x0 x1 = Dt H T 0 := by simp only [kernelRun0_A.sl.r_1, kernelRun0_A.sl.v19, kernelRun0_A.sl.v20, View.readCov, l0, t9, d0]
  have n3 : kernelRun0_A.sl.r_3 (F := Ideal) c i arg1 harg1 arg2 harg2 arg9 x0 x1 = Dt H T 1 := by simp only [kernelRun0_A.sl.r_3, kernelRun0_A.sl.r, kernelRun0_A.sl.v31, kernelRun0_A.sl.v32, kernelRun0_A.sl.v34, kernelRun0_A.sl.v36, View.readCov, l0, t9, d1]
  have n7 : kernelRun0_A.sl.r_7 (F := Ideal) c i arg1 harg1 arg2 harg2 arg9 x0 x1 = Dt H T 2 := by simp only [kernelRun0_A.sl.r_7, kernelRun0_A.sl.r, kernelRun0_A.sl.r_4, kernelRun0_A.sl.r_6, kernelRun0_A.sl.v47, kernelRun0_A.sl.v48, kernelRun0_A.sl.v50, kernelRun0_A.sl.v52, kernelRun0_A.sl.v54, kernelRun0_A.sl.v56, kernelRun0_A.sl.v58, kernelRun0_A.sl.v60, View.readCov, l0, t9, d2]
  have n10 : kernelRun0_A.sl.r_10 (F := Ideal) c i arg1 harg1 arg2 harg2 arg9 x0 x1 = Dt H T 3 := by simp only [kernelRun0_A.sl.r_10, kernelRun0_A.sl.r, kernelRun0_A.sl.r_8, kernelRun0_A.sl.v71, kernelRun0_A.sl.v72, kernelRun0_A.sl.v74, kernelRun0_A.sl.v76, kernelRun0_A.sl.v78, kernelRun0_A.sl.v80, kernelRun0_A.sl.v82, kernelRun0_A.sl.v84, kernelRun0_A.sl.v86, kernelRun0_A.sl.v88, kernelRun0_A.sl.v90, kernelRun0_A.sl.v92, kernelRun0_A.sl.v94, kernelRun0_A.sl.v96, kernelRun0_A.sl.v98, kernelRun0_A.sl.v100, View.readCov, l0, t9, d3]
  unfold out0_A_5 out0_A_6 out0_A_7 sout0_A_1
  rw [View.read_writes_of_cover VO0_6 VO0_6.junk arg7.view arg7.view.junk _ (cover0_A_6 (F := Ideal) c i arg1 harg1 arg2 harg2 arg3 harg3 arg4 harg4 arg5 harg5 arg6 harg6 arg7 harg7 arg8 harg8 arg9 harg9 arg10 harg10 hc0 x0 x1 x2 x3 x4)]
  unfold kernelRun0_A
  dsimp only
  refine ⟨(View.read_writes_full _ _ _ _ _).trans ?_, ?_, (View.read_writes_full _ _ _ _ _).trans ?_, fun y hy => keep H T _ _ hT' _ ?_ _ _ y hy⟩
  · simp only [kernelRun0_A.sl.r_14, kernelRun0_A.sl.r_18, kernelRun0_A.sl.r_21, kernelRun0_A.sl.r_24, kernelRun0_A.sl.r_25, kernelRun0_A.sl.r_27, kernelRun0_A.sl.r_28, kernelRun0_A.sl.r_29, kernelRun0_A.sl.r_30, kernelRun0_A.sl.r_31, kernelRun0_A.sl.r_9, n12, n15, n19, n22, l2, l3, l4, dd0, dd1, dd2, dd3, e3, kernelRun0_A.sl.v196, kernelRun0_A.sl.v199, kernelRun0_A.sl.v201, kernelRun0_A.sl.v203, kernelRun0_A.sl.v206, kernelRun0_A.sl.v208, kernelRun0_A.sl.v210, kernelRun0_A.sl.v212, kernelRun0_A.sl.v214, kernelRun0_A.sl.v216, kernelRun0_A.sl.v218, kernelRun0_A.sl.v221, kernelRun0_A.sl.v223, kernelRun0_A.sl.v225, kernelRun0_A.sl.v227, kernelRun0_A.sl.v229, kernelRun0_A.sl.v231, kernelRun0_A.sl.v233, kernelRun0_A.sl.v235, kernelRun0_A.sl.v237, kernelRun0_A.sl.v239, kernelRun0_A.sl.v241, kernelRun0_A.sl.v243, kernelRun0_A.sl.v245, kernelRun0_A.sl.v247, kernelRun0_A.sl.v249, View.readCov, t10, t10', Nat.reduceMod, Nat.reduceDiv]
    exact DX_all H T hT'
  · have z : arg7.view.read (Elt Ideal) (arg7.view.writes (Elt Ideal) arg7.view.junk (kernelRun0_A.sl.H6_1 (F := Ideal))) = (up3 fun _ _ _ => 0 : FVec Ideal S4x128x128 .f32) := by
      unfold kernelRun0_A.sl.H6_1
      refine (View.read_writes_full _ _ _ _ _).trans (ext3 fun x y w => ?_)
      pointwise [k0_pay4]
      rw [up3_ix, EReal.coe_zero]
    obtain ⟨w0, w1, w2, w3⟩ := DW_all H T (up2 fun x e => H.dy (T + x) e) rfl (up2 fun _ e => H.ps e) rfl (fun _ _ => 0) (fun _ _ => 0) (fun _ _ => 0) (fun _ _ => 0)
    have m0 : kernelRun0_A.sl.v124 (F := Ideal) c arg7 = (up3 fun _ _ _ => 0 : FVec Ideal S1x128x128 .f32) := by
      unfold kernelRun0_A.sl.v124
      exact slab_read arg7.view _ _ z 0 _
    have s0 : arg7.view.read (Elt Ideal) (arg7.view.writes (Elt Ideal) arg7.view.junk (kernelRun0_A.sl.H6_2 (F := Ideal) c i arg1 harg1 arg2 harg2 arg3 harg3 arg5 harg5 arg7 arg9 x0 x1 x2 x4)) = (up3 fun h i j => if h = 0 then 0 + dws H T 0 i j else 0 : FVec Ideal S4x128x128 .f32) := by
      unfold kernelRun0_A.sl.H6_2
      rw [n1, l2, l4, m0]
      exact slab_write arg7.view _ _ _ z 0 (fun i j => 0 + dws H T 0 i j) _ _ w0
    have m1 : kernelRun0_A.sl.v141 (F := Ideal) c i arg1 harg1 arg2 harg2 arg3 harg3 arg5 harg5 arg7 arg9 x0 x1 x2 x4 = (up3 fun _ _ _ => 0 : FVec Ideal S1x128x128 .f32) := by
      unfold kernelRun0_A.sl.v141
      exact (slab_read arg7.view _ _ s0 1 _).trans rfl
    have s1 : arg7.view.read (Elt Ideal) (arg7.view.writes (Elt Ideal) arg7.view.junk (kernelRun0_A.sl.H6_3 (F := Ideal) c i arg1 harg1 arg2 harg2 arg3 harg3 arg5 harg5 arg7 arg9 x0 x1 x2 x4)) = (up3 fun h i j => if h = 1 then 0 + dws H T 1 i j else if h = 0 then 0 + dws H T 0 i j else 0 : FVec Ideal S4x128x128 .f32) := by
      unfold kernelRun0_A.sl.H6_3 kernelRun0_A.sl.r_16
      rw [n3, n12, m1]
      exact slab_write arg7.view _ _ _ s0 1 (fun i j => 0 + dws H T 1 i j) _ _ w1
    have m2 : kernelRun0_A.sl.v158 (F := Ideal) c i arg1 harg1 arg2 harg2 arg3 harg3 arg5 harg5 arg7 arg9 x0 x1 x2 x4 = (up3 fun _ _ _ => 0 : FVec Ideal S1x128x128 .f32) := by
      unfold kernelRun0_A.sl.v158
      exact (slab_read arg7.view _ _ s1 2 _).trans rfl
    have s2 : arg7.view.read (Elt Ideal) (arg7.view.writes (Elt Ideal) arg7.view.junk (kernelRun0_A.sl.H6_4 (F := Ideal) c i arg1 harg1 arg2 harg2 arg3 harg3 arg5 harg5 arg7 arg9 x0 x1 x2 x4)) = (up3 fun h i j => if h = 2 then 0 + dws H T 2 i j else if h = 1 then 0 + dws H T 1 i j else if h = 0 then 0 + dws H T 0 i j else 0 : FVec Ideal S4x128x128 .f32) := by
      unfold kernelRun0_A.sl.H6_4
      rw [n7, n12, m2]
      exact slab_write arg7.view _ _ _ s1 2 (fun i j => 0 + dws H T 2 i j) _ _ w2
    have m3 : kernelRun0_A.sl.v175 (F := Ideal) c i arg1 harg1 arg2 harg2 arg3 harg3 arg5 harg5 arg7 arg9 x0 x1 x2 x4 = (up3 fun _ _ _ => 0 : FVec Ideal S1x128x128 .f32) := by
      unfold kernelRun0_A.sl.v175
      exact (slab_read arg7.view _ _ s2 3 _).trans rfl
    unfold kernelRun0_A.sl.r_23
    rw [n10, n12, m3]
    exact (slab_write arg7.view _ _ _ s2 3 (fun i j => 0 + dws H T 3 i j) _ _ w3).trans (slabs (fun _ _ _ => 0) (fun g i j => 0 + dws H T g i j))
  · have z : kernelRun0_A.sl.v184 (F := Ideal) c arg8 = (up2 fun _ _ => 0 : FVec Ideal S1x512 .f32) := by
      unfold kernelRun0_A.sl.v184 kernelRun0_A.sl.H7_1
      rw [View.readCov_full]
      refine ext2 fun x y => ?_
      pointwise [k0_pay5]
      rw [up2_ix, EReal.coe_zero]
    simp only [kernelRun0_A.sl.r_11, kernelRun0_A.sl.r_13, kernelRun0_A.sl.r_17, kernelRun0_A.sl.r_20, kernelRun0_A.sl.r_23, kernelRun0_A.sl.r_16, n1, n3, n7, n10, l2, l3, y0, y1, y2, z]
    exact DS_all H T _ rfl (fun _ => 0)
  · simp only [kernelRun0_A.sl.r_26, kernelRun0_A.sl.r_9, n12, n15, n19, n22, l3, eb]
    exact pay2_eq fun x e => H.E (e / 128) (T + x) (e % 128)

end

end Cert.PoolKernelIdeal.RefValue
end
-- ==== Proof.PoolBwdValue.lean ====
/- The mixer's backward kernel over its whole grid: the arrays it leaves, for real projections, a real cotangent and real parameters. -/
module

public import proofs.«01_k».proof.Proof.PoolBody
public import proofs.«01_k».proof.Proof.Gen.PoolKernelIdeal.Value

@[expose] public section

set_option maxRecDepth 16384

noncomputable section

namespace Cert.PoolKernelIdeal.RefValue

open Cert.PoolKernelIdeal Cert.PoolKernelIdeal.Gen Idealize.ShloMosaic Idealize.ShloMosaic.TcCoe Idealize.SL.Sem
open Idealize.ShloMosaic.Pipeline (Dat)
open Cert.Reals Cert.Attn Cert.Pool

theorem idx0 : ∀ t : Fin cfg0.N, win0_0.index t = ![15 - t.val, 8] ∧ win0_1.index t = ![32 * (15 - t.val) - 1, 8]
    ∧ win0_2.index t = ![15 - t.val, 3] ∧ win0_3.index t = ![0, 0, 0] ∧ win0_4.index t = ![0, 0]
    ∧ win0_5.index t = ![15 - t.val, 0] ∧ win0_6.index t = ![0, 0, 0] ∧ win0_7.index t = ![0, 0] ∧ (grid0.coords t 0).val = t.val :=
  (by decide +kernel : ∀ t : Fin grid0.N, _)

variable (m : (ℓ : Loc nD τ sig) → Buf (Elt Ideal) ℓ) (c : Dev nD) (Z C : ℕ → ℕ → ℝ) (W : ℕ → ℕ → ℕ → ℝ) (S : ℕ → ℝ)
  (hz : m ((c : Thread nD τ).loc main_arg0) = (up2 Z : FVec Ideal S8192x4608 .f32)) (hc : m ((c : Thread nD τ).loc main_arg1) = (up2 C : FVec Ideal S8192x2048 .f32))
  (hw : m ((c : Thread nD τ).loc main_arg2) = (up3 W : FVec Ideal S4x128x128 .f32)) (hs : m ((c : Thread nD τ).loc main_arg3) = fun i : S512.Idx => (S (i 0).val : EReal))

theorem at1 (f : ℕ → ℝ) {a a' : ℕ} (ha : a = a') : (f a : EReal) = (f a' : EReal) := by rw [ha]
theorem at2 (f : ℕ → ℕ → ℝ) {a b a' b' : ℕ} (ha : a = a') (hb : b = b') : (f a b : EReal) = (f a' b' : EReal) := by rw [ha, hb]
theorem at3 (f : ℕ → ℕ → ℕ → ℝ) {a b d a' b' d' : ℕ} (ha : a = a') (hb : b = b') (hd : d = d') : (f a b d : EReal) = (f a' b' d' : EReal) := by rw [ha, hb, hd]

include hz in
theorem V0 : V m c main_arg0 = (up2 Z : FVec Ideal S8192x4608 .f32) := by unfold V hostOps0; after_results_simp; exact hz
include hc in
theorem V1 : V m c main_arg1 = (up2 C : FVec Ideal S8192x2048 .f32) := by unfold V hostOps0; after_results_simp; exact hc
include hw in
theorem V2 : V m c main_arg2 = (up3 W : FVec Ideal S4x128x128 .f32) := by unfold V hostOps0; after_results_simp; exact hw
include hs in
theorem V3 : V m c main_v0 = (up2 fun _ e => S e : FVec Ideal S1x512 .f32) := by
  unfold V hostOps0
  after_results_simp
  rw [hs]
  refine ext2 fun x y => ?_
  pointwise []
  rw [up2_ix]

include hz in
theorem blk0 (t : Fin cfg0.N) : iblk m c 0 t = (up2 fun x e => (pl Z C W S).x (512 * (15 - t.val) + x) e : FVec Ideal S512x512 .f32) := by
  refine ext2 fun x y => ?_
  blk_simp [iblk, idx0 t]
  rw [V0 m c Z hz, up2_at, up2_ix]
  refine at2 Z ?_ ?_ <;> (blk_simp [idx0 t]; try omega)

include hz in
theorem blk1 (t : Fin cfg0.N) (h : 512 * (15 - t.val) ≠ 0) : iblk m c 1 t = (up2 fun r e => (pl Z C W S).xe (512 * (15 - t.val) + r) e : FVec Ideal S16x512 .f32) := by
  refine ext2 fun x y => ?_
  blk_simp [iblk, idx0 t]
  rw [V0 m c Z hz, up2_at, up2_ix, Pool.xe, if_neg (by omega)]
  refine at2 Z ?_ ?_ <;> (blk_simp [idx0 t]; try omega)

include hc in
theorem blk2 (t : Fin cfg0.N) : iblk m c 2 t = (up2 fun x e => (pl Z C W S).dy (512 * (15 - t.val) + x) e : FVec Ideal S512x512 .f32) := by
  refine ext2 fun x y => ?_
  blk_simp [iblk, idx0 t]
  rw [V1 m c C hc, up2_at, up2_ix]
  refine at2 C ?_ ?_ <;> (blk_simp [idx0 t]; try omega)

include hw in
theorem blk3 (t : Fin cfg0.N) : iblk m c 3 t = (up3 (pl Z C W S).w : FVec Ideal S4x128x128 .f32) := by
  refine ext3 fun x y z => ?_
  blk_simp [iblk, idx0 t]
  rw [V2 m c W hw, up3_at, up3_ix]
  refine at3 W ?_ ?_ ?_ <;> (blk_simp [idx0 t]; try omega)

include hs in
theorem blk4 (t : Fin cfg0.N) : iblk m c 4 t = (up2 fun _ e => (pl Z C W S).ps e : FVec Ideal S1x512 .f32) := by
  refine ext2 fun x y => ?_
  blk_simp [iblk, idx0 t]
  rw [V3 m c S hs, up2_at, up2_ix]
  refine at1 S ?_ <;> (blk_simp [idx0 t]; try omega)

/-- The matrices' gradient after the first `n` blocks, from the last rows on. -/
def RW (H : Pool) (n g i j : ℕ) : ℝ := ∑ k ∈ Finset.range n, dws H (512 * (15 - k)) g i j
/-- The scales' gradient after the first `n` blocks. -/
def RS (H : Pool) (n e : ℕ) : ℝ := ∑ k ∈ Finset.range n, dss H (512 * (15 - k)) e

/-- What the outputs and the carried rows hold after grid point `n`. -/
def After (n : ℕ) (o : FVec Ideal S512x512 .bf16 × FVec Ideal S4x128x128 .f32 × FVec Ideal S1x512 .f32 × FVec Ideal S528x512 .f32) : Prop :=
  o.1 = (up2 fun x e => (pl Z C W S).DX (e / 128) (512 * (15 - n) + x) (e % 128))
  ∧ o.2.1 = up3 (RW (pl Z C W S) (n + 1))
  ∧ o.2.2.1 = (up2 fun _ e => RS (pl Z C W S) (n + 1) e)
  ∧ ∀ y : S528x512.Idx, 512 ≤ (y 0).val → o.2.2.2 y = (EEc (pl Z C W S) (512 * (15 - n) + ((y 0).val - 512)) (y 1).val : EReal)

theorem After.of {n : ℕ} {o5 : FVec Ideal S512x512 .bf16} {o6 : FVec Ideal S4x128x128 .f32} {o7 : FVec Ideal S1x512 .f32} {o8 : FVec Ideal S528x512 .f32}
    (h5 : o5 = (up2 fun x e => (pl Z C W S).DX (e / 128) (512 * (15 - n) + x) (e % 128))) (h6 : o6 = up3 (RW (pl Z C W S) (n + 1))) (h7 : o7 = (up2 fun _ e => RS (pl Z C W S) (n + 1) e))
    (h8 : ∀ y : S528x512.Idx, 512 ≤ (y 0).val → o8 y = (EEc (pl Z C W S) (512 * (15 - n) + ((y 0).val - 512)) (y 1).val : EReal)) : After Z C W S n (o5, o6, o7, o8) :=
  ⟨h5, h6, h7, h8⟩

include hz hc hw hs in
theorem step_A (t : Fin cfg0.N) (h0 : t.val % 16 = 0) : After Z C W S t.val (outsAt0 m c t.val t.isLt) := by
  have ht : t.val < 16 := Nat.lt_of_lt_of_eq t.isLt N_0
  have hT : 512 * (15 - t.val) = 512 * (15 - (grid0.coords t 0).val) := by rw [(idx0 t).2.2.2.2.2.2.2.2]
  obtain ⟨b5, b6, b7, b8⟩ := body_A (pl Z C W S) (grid0.coords t) (512 * (15 - t.val)) hT c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t)
    (blk0 m c Z C W S hz t) (blk1 m c Z C W S hz t) (blk2 m c Z C W S hc t) (blk3 m c Z C W S hw t) (blk4 m c Z C W S hs t) (by omega) (by omega) ((hcond0_0 t).mpr h0)
  rw [outsAt0_A m c t h0]
  refine After.of Z C W S b5 (b6.trans (congrArg up3 ?_)) (b7.trans (congrArg up2 ?_)) b8
  · funext g i j
    rw [RW, show t.val = 0 by omega, zero_add, Finset.sum_range_one]
  · funext _ e
    rw [RS, show t.val = 0 by omega, zero_add, Finset.sum_range_one]

include hz hc hw hs in
theorem step_B (t : Fin cfg0.N) (h0 : ¬t.val % 16 = 0) (ih : After Z C W S (t.val - 1) (outsAt0 m c (t.val - 1) (Nat.lt_of_le_of_lt (Nat.sub_le _ _) t.isLt))) :
    After Z C W S t.val (outsAt0 m c t.val t.isLt) := by
  have ht : t.val < 16 := Nat.lt_of_lt_of_eq t.isLt N_0
  have hT : 512 * (15 - t.val) = 512 * (15 - (grid0.coords t 0).val) := by rw [(idx0 t).2.2.2.2.2.2.2.2]
  obtain ⟨-, i6, i7, i8⟩ := ih
  obtain ⟨b5, b6, b7, b8⟩ := body_B (pl Z C W S) (grid0.coords t) (512 * (15 - t.val)) hT c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) _ _ _ _ _
    (blk0 m c Z C W S hz t) (blk1 m c Z C W S hz t) (blk2 m c Z C W S hc t) (blk3 m c Z C W S hw t) (blk4 m c Z C W S hs t) i6 i7 (fun y hy => (i8 y hy).trans (at2 (EEc (pl Z C W S)) (by omega) rfl)) (by omega) (fun h => h0 ((hcond0_0 t).mp h))
  rw [outsAt0_B m c t h0]
  refine After.of Z C W S b5 (b6.trans (congrArg up3 ?_)) (b7.trans (congrArg up2 ?_)) b8
  · funext g i j
    simp only [RW, show t.val - 1 + 1 = t.val by omega, Finset.sum_range_succ]
  · funext _ e
    simp only [RS, show t.val - 1 + 1 = t.val by omega, Finset.sum_range_succ]

include hz hc hw hs in
theorem outs (n : ℕ) : ∀ hn : n < cfg0.N, After Z C W S n (outsAt0 m c n hn) := by
  induction n with
  | zero => exact fun hn => step_A m c Z C W S hz hc hw hs ⟨0, hn⟩ rfl
  | succ n ih =>
    intro hn
    have hn' : n + 1 < 16 := Nat.lt_of_lt_of_eq hn N_0
    exact step_B m c Z C W S hz hc hw hs ⟨n + 1, hn⟩ (show ¬(n + 1) % 16 = 0 by omega) (ih (by omega))

theorem blocks_sum (f : ℕ → ℝ) : ∑ k ∈ Finset.range 16, ∑ x : Fin 512, f (512 * (15 - k) + x.val) = ∑ t ∈ Finset.range 8192, f t := by
  have h : ∀ n, ∑ j ∈ Finset.range n, ∑ x : Fin 512, f (512 * j + x.val) = ∑ t ∈ Finset.range (512 * n), f t := by
    intro n
    induction n with
    | zero => rfl
    | succ n ih => rw [Finset.sum_range_succ, ih]; exact block_sum f _ _ (Nat.mul_succ 512 n)
  exact (Finset.sum_range_reflect (fun j => ∑ x : Fin 512, f (512 * j + x.val)) 16).trans (h 16)

theorem RW_all (H : Pool) (g i j : ℕ) : RW H 16 g i j = H.DW 8192 g i j := blocks_sum fun t => H.D g t i * H.P g t j
theorem RS_all (H : Pool) (e : ℕ) : RS H 16 e = ∑ t ∈ Finset.range 8192, H.dy t e * H.Y (e / 128) t (e % 128) := blocks_sum fun t => H.dy t e * H.Y (e / 128) t (e % 128)

include hz hc hw hs in
/-- The rows' gradient. -/
theorem final_dx : (dats m 0 c).arrAt 5 cfg0.N = (up2 fun t e => (pl Z C W S).DX (e / 128) t (e % 128) : FVec Ideal S8192x512 .bf16) := by
  refine (dats m 0 c).arrAt_eq_of_covers 5 _ (by decide +kernel) fun t hf y => ?_
  have h1 : (y 1).val < 512 := (y 1).isLt
  blk_simp
  rw [after0_5, (outs m c Z C W S hz hc hw hs t.val t.isLt).1, up2_at, up2_at]
  refine at3 (fun a b d => (pl Z C W S).DX a b d) ?_ ?_ ?_ <;> (blk_simp [idx0 t]; try omega)

include hz hc hw hs in
/-- The matrices' gradient. -/
theorem final_dw : (dats m 0 c).arrAt 6 cfg0.N = (up3 ((pl Z C W S).DW 8192) : FVec Ideal S4x128x128 .f32) := by
  refine (dats m 0 c).arrAt_eq_of_covers 6 _ (by decide +kernel) fun t hf y => ?_
  have ht : t.val < 16 := Nat.lt_of_lt_of_eq t.isLt N_0
  have hl := (flush0_6 t).mp hf
  blk_simp
  rw [after0_6, (outs m c Z C W S hz hc hw hs t.val t.isLt).2.1, show t.val + 1 = 16 by omega, up3_at, up3_at, RW_all]
  refine at3 ((pl Z C W S).DW 8192) ?_ ?_ ?_ <;> (blk_simp [idx0 t]; try omega)

include hz hc hw hs in
/-- The scales' gradient. -/
theorem final_ds : (dats m 0 c).arrAt 7 cfg0.N = (up2 fun _ e => ∑ t ∈ Finset.range 8192, (pl Z C W S).dy t e * (pl Z C W S).Y (e / 128) t (e % 128) : FVec Ideal S1x512 .f32) := by
  refine (dats m 0 c).arrAt_eq_of_covers 7 _ (by decide +kernel) fun t hf y => ?_
  have ht : t.val < 16 := Nat.lt_of_lt_of_eq t.isLt N_0
  have hl := (flush0_7 t).mp hf
  blk_simp
  rw [after0_7, (outs m c Z C W S hz hc hw hs t.val t.isLt).2.2.1, show t.val + 1 = 16 by omega, up2_at, up2_at, RS_all]
  refine at1 (fun e => ∑ t ∈ Finset.range 8192, (pl Z C W S).dy t e * (pl Z C W S).Y (e / 128) t (e % 128)) ?_ <;> (blk_simp [idx0 t]; try omega)

end Cert.PoolKernelIdeal.RefValue
end
-- ==== Proof.PoolReferenceValue.lean ====
/- The mixer by running means and its derivative as the reference computes them, over real arguments. -/
module

public import proofs.«01_k».proof.Proof.Gen.PoolReferenceIdeal.Read
public import proofs.«01_k».proof.Proof.PoolMath

@[expose] public section

set_option maxRecDepth 16384

noncomputable section

namespace Cert.PoolReferenceIdeal.RefValue

open Cert.PoolReferenceIdeal Cert.PoolReferenceIdeal.Gen Idealize.ShloMosaic Idealize.ShloMosaic.TcCoe Idealize.SL.Sem
open Cert.PoolReferenceIdeal.Read Cert.Reals Cert.Attn Cert.Pool

/-- The places of an `n × 1 × 1` window. -/
def column (n : ℕ) : (⟨3, ![n, 1, 1]⟩ : Shape).Idx ≃ Fin n where
  toFun i := i 0
  invFun k := ix3 k 0 0
  left_inv i := by
    funext j; refine Fin.cases rfl (fun j => Fin.cases (Subsingleton.elim (α := Fin 1) _ _) (fun j => Fin.cases (Subsingleton.elim (α := Fin 1) _ _) (fun j => j.elim0) j) j) j
  right_inv k := rfl

/-- A sum over a window along the first of three axes, padded to either side with zeros. -/
theorem rows_sum {a b n l r : ℕ} {u : Shape} (f : ℕ → ℕ → ℕ → ℝ) (init : u.Idx → EReal)
    (h : (⟨3, ![n, a, b]⟩ : Shape).ReduceWindows ![n, 1, 1] ![1, 1, 1] ![l, 0, 0] ![r, 0, 0] ⟨3, ![n, a, b]⟩) (hu : 0 < u.numel)
    (hi : init (Shape.Idx.first hu) = ((0 : ℝ) : EReal)) (z : Fin n) (x : Fin a) (y : Fin b) :
    Host.reduceWindowAdd (F := Ideal) (φ := .f32) (s := ⟨3, ![n, a, b]⟩) ![n, 1, 1] ![1, 1, 1] ![l, 0, 0] ![r, 0, 0] (up3 f) init h hu (ix3 z x y)
      = ((∑ k : Fin n, (if l ≤ z.val + k.val ∧ z.val + k.val - l < n then f (z.val + k.val - l) x.val y.val else 0) : ℝ) : EReal) := by
  unfold Host.reduceWindowAdd
  show Ideal.hostReduceWindowAdd _ _ _ _ _ _ _ _ = _
  unfold Ideal.hostReduceWindowAdd
  rw [hi]
  let w := fun k : Fin n => if l ≤ z.val + k.val ∧ z.val + k.val - l < n then f (z.val + k.val - l) x.val y.val else 0
  let p := (⟨3, ![n, 1, 1]⟩ : Shape).rowMajor.symm
  refine (List.foldl_ext _ (fun (r : EReal) m => r + ((w (column n (p m)) : ℝ) : EReal)) _ fun r m _ => congrArg (r + ·) ?_).trans ?_
  · have i1 := Nat.lt_one_iff.1 (p m 1).isLt
    have i2 := Nat.lt_one_iff.1 (p m 2).isLt
    have hx := x.isLt
    have hy := y.isLt
    refine dite_coe (d := l ≤ z.val + (p m 0).val ∧ z.val + (p m 0).val - l < n) ⟨fun hin => ?_, fun c j => ?_⟩ _ _ fun hin => ?_
    · have q : l ≤ z.val * 1 + (p m 0).val ∧ z.val * 1 + (p m 0).val - l < n := hin 0
      rwa [mul_one] at q
    · refine Fin.cases ?_ (fun j => Fin.cases ?_ (fun j => Fin.cases ?_ (fun j => j.elim0) j) j) j
      · show l ≤ z.val * 1 + (p m 0).val ∧ z.val * 1 + (p m 0).val - l < n; rw [mul_one]; exact c
      · show 0 ≤ x.val * 1 + (p m 1).val ∧ x.val * 1 + (p m 1).val - 0 < a; omega
      · show 0 ≤ y.val * 1 + (p m 2).val ∧ y.val * 1 + (p m 2).val - 0 < b; omega
    · show ((f (z.val * 1 + (p m 0).val - l) (x.val * 1 + (p m 1).val - 0) (y.val * 1 + (p m 2).val - 0) : ℝ) : EReal) = _
      rw [i1, i2]
      simp only [mul_one, add_zero, Nat.sub_zero]
      rfl
  · rw [foldl_coe, zero_add, ← Fin.sum_univ_def]
    exact congrArg _ (Equiv.sum_comp (p.trans (column n)) w)

theorem at3' (f : ℕ → ℕ → ℕ → ℝ) {a b d a' b' d' : ℕ} (ha : a = a') (hb : b = b') (hd : d = d') : (f a b d : EReal) = (f a' b' d' : EReal) := by rw [ha, hb, hd]
theorem at2' (f : ℕ → ℕ → ℝ) {a b a' b' : ℕ} (ha : a = a') (hb : b = b') : (f a b : EReal) = (f a' b' : EReal) := by rw [ha, hb]

/-- A difference of running sums is the sum of the last rows. -/
theorem mean (H : Pool) (g t e : ℕ) (hg : g < 4) :
    ∑ s ∈ Finset.range (t + 1), H.x s e - (if t < win g then 0 else ∑ s ∈ Finset.range (t - win g + 1), H.x s e) = ∑ k ∈ Finset.range (win g), H.xe (t + 16 - k) e := by
  have hw : win g ≤ 16 := by interval_cases g <;> decide
  have hx (k : ℕ) (hk : k < 16) : H.xe (t + 16 - k) e = if k ≤ t then H.x (t - k) e else 0 := by
    unfold Pool.xe
    by_cases c : k ≤ t
    · rw [if_neg (by omega), if_pos c, show t + 16 - k - 16 = t - k by omega]
    · rw [if_pos (by omega), if_neg c]
  rw [Finset.sum_congr rfl fun k hk => hx k (by have := Finset.mem_range.1 hk; omega), ← Finset.sum_range_reflect (fun s => H.x s e) (t + 1), Nat.add_sub_cancel]
  by_cases c : t < win g
  · rw [if_pos c, sub_zero]
    have a := range_add (fun k => if k ≤ t then H.x (t - k) e else 0) (t + 1) (win g - (t + 1))
    rw [show t + 1 + (win g - (t + 1)) = win g by omega] at a
    rw [← a, Finset.sum_eq_zero (s := Finset.univ) (fun k _ => if_neg (by omega)), add_zero]
    exact Finset.sum_congr rfl fun k hk => by rw [if_pos (by have := Finset.mem_range.1 hk; omega)]
  · have a := range_add (fun k => H.x (t - k) e) (win g) (t - win g + 1)
    rw [show win g + (t - win g + 1) = t + 1 by omega] at a
    rw [if_neg c, ← a, ← Finset.sum_range_reflect (fun s => H.x s e) (t - win g + 1), ← Finset.sum_range (fun k => H.x (t - (win g + k)) e)]
    rw [Finset.sum_congr rfl fun k hk => show H.x (t - win g + 1 - 1 - k) e = H.x (t - (win g + k)) e by congr 1; omega, add_sub_cancel_right]
    exact Finset.sum_congr rfl fun k hk => by rw [if_pos (by have := Finset.mem_range.1 hk; omega)]

/-- A running sum from the end of differences telescopes to the sum of the next rows. -/
theorem mean_back (f : ℕ → ℝ) (N n t : ℕ) (ht : t ≤ N) (hf : ∀ k, N ≤ k → f k = 0) :
    ∑ s ∈ Finset.range N, (f s - f (s + n)) - ∑ s ∈ Finset.range t, (f s - f (s + n)) = ∑ k ∈ Finset.range n, f (t + k) := by
  induction ht using Nat.decreasingInduction with
  | self => rw [sub_self, Finset.sum_eq_zero fun k _ => hf _ (by omega)]
  | of_succ t ht ih =>
    rw [Finset.sum_range_succ] at ih
    have a : ∑ k ∈ Finset.range (n + 1), f (t + k) = f t + ∑ k ∈ Finset.range n, f (t + 1 + k) := by
      rw [Finset.sum_range_succ', add_comm, add_zero]; congr 1; exact Finset.sum_congr rfl fun k _ => by congr 1; omega
    rw [Finset.sum_range_succ] at a
    linarith

theorem word_int : ∀ (g : Fin 4) (t : Fin 8192),
    (IntOp.minsi (IntOp.addi (BitVec.ofNat 32 t.val) 1#32) (BitVec.ofNat 32 (2 ^ (g.val + 1)))).toInt = ((min (t.val + 1) (2 ^ (g.val + 1)) : ℕ) : ℤ) := by decide +kernel

theorem cnt_word (g : Fin 4) (t : Fin 8192) :
    (FloatOps.sitofp (F := Ideal) FTy.f32 (IntOp.minsi (IntOp.addi (BitVec.ofNat 32 t.val) 1#32) (BitVec.ofNat 32 (2 ^ (g.val + 1)))) : EReal) = (cnt g.val t.val : EReal) := by
  show (((IntOp.minsi (IntOp.addi (BitVec.ofNat 32 t.val) 1#32) (BitVec.ofNat 32 (2 ^ (g.val + 1)))).toInt : ℝ) : EReal) = _
  rw [word_int g t]
  rfl

variable (Z C : ℕ → ℕ → ℝ) (W : ℕ → ℕ → ℕ → ℝ) (S : ℕ → ℝ)

abbrev zA : FVec Ideal S8192x4608 .f32 := up2 Z
abbrev cA : FVec Ideal S8192x2048 .f32 := up2 C
abbrev wA : FVec Ideal S4x128x128 .f32 := up3 W
abbrev sA : FVec Ideal S512 .f32 := fun i => (S (i 0).val : EReal)

theorem v1 : val_main_v1 (F := Ideal) (zA Z) = up3 fun t g i => (pl Z C W S).x t (128 * g + i) := by
  refine ext3 fun x y z => ?_
  pointwise [val_main_v1, val_main_v0]
  exact at2' Z rfl (show 4096 + (y.val * 128 + z.val) = 4096 + (128 * y.val + z.val) by omega)

theorem v2 : val_main_v2 (F := Ideal) (zA Z) = up3 fun t g i => ∑ s ∈ Finset.range (t + 1), (pl Z C W S).x s (128 * g + i) := by
  refine ext3 fun x y z => ?_
  unfold val_main_v2
  rw [v1 Z C W S]
  refine (rows_sum (n := 8192) (l := 8191) _ _ _ _ ?_ x y z).trans ?_
  · pointwise [val_main_call0_call0_v0, val_main_call0_call0_cst]
    exact EReal.coe_zero.symm
  · rw [up3_ix]
    exact congrArg _ (window_upto (fun s => (pl Z C W S).x s (128 * y.val + z.val)) x.val x.isLt)

/-- A part's running mean less the row. -/
theorem part (H : Pool) (g : Fin 4) (x : Fin 8192) (y : ℕ) :
    Ideal.div (((∑ s ∈ Finset.range (x.val + 1), H.x s (128 * g.val + y) : ℝ) : EReal)
        - (if h : x.val < win g.val then (0 : EReal) else ((∑ s ∈ Finset.range (x.val - win g.val + 1), H.x s (128 * g.val + y) : ℝ) : EReal)))
        (FloatOps.sitofp (F := Ideal) FTy.f32 (IntOp.minsi (IntOp.addi (BitVec.ofNat 32 x.val) 1#32) (BitVec.ofNat 32 (2 ^ (g.val + 1)))) : EReal)
      - (H.x x.val (128 * g.val + y) : EReal) = (H.D g.val x.val y : EReal) := by
  rw [cnt_word, show (if h : x.val < win g.val then (0 : EReal) else ((∑ s ∈ Finset.range (x.val - win g.val + 1), H.x s (128 * g.val + y) : ℝ) : EReal))
      = ((if x.val < win g.val then 0 else ∑ s ∈ Finset.range (x.val - win g.val + 1), H.x s (128 * g.val + y) : ℝ) : EReal) by split_ifs <;> rfl,
    ← EReal.coe_sub, mean H g.val x.val _ g.isLt, div_real _ _ (cnt_ne _ _), ← EReal.coe_sub]
  rfl

theorem v21 : val_main_v21 (F := Ideal) (zA Z) = up2 fun t i => (pl Z C W S).D 0 t i := by
  refine ext2 fun x y => ?_
  pointwise [val_main_v21, val_main_v20, val_main_v19, val_main_v18, val_main_v17, val_main_v16, val_main_v15, val_main_v14, val_main_v13, val_main_v12, val_main_v11, val_main_v10, val_main_v8, val_main_v7, val_main_v6, val_main_v5, val_main_v4, val_main_v3, val_main_c, val_main_c_1, val_main_cst]
  simp only [v1 Z C W S, v2 Z C W S, up3_ix]
  exact part _ 0 x y.val

theorem v39 : val_main_v39 (F := Ideal) (zA Z) = up2 fun t i => (pl Z C W S).D 1 t i := by
  refine ext2 fun x y => ?_
  pointwise [val_main_v39, val_main_v38, val_main_v37, val_main_v36, val_main_v35, val_main_v34, val_main_v33, val_main_v32, val_main_v31, val_main_v30, val_main_v29, val_main_v28, val_main_v26, val_main_v25, val_main_v24, val_main_v23, val_main_v22, val_main_v3, val_main_c_4, val_main_c_5, val_main_cst_2]
  simp only [v1 Z C W S, v2 Z C W S, up3_ix]
  exact part _ 1 x y.val

theorem v57 : val_main_v57 (F := Ideal) (zA Z) = up2 fun t i => (pl Z C W S).D 2 t i := by
  refine ext2 fun x y => ?_
  pointwise [val_main_v57, val_main_v56, val_main_v55, val_main_v54, val_main_v53, val_main_v52, val_main_v51, val_main_v50, val_main_v49, val_main_v48, val_main_v47, val_main_v46, val_main_v44, val_main_v43, val_main_v42, val_main_v41, val_main_v40, val_main_v3, val_main_c_8, val_main_c_9, val_main_cst_6]
  simp only [v1 Z C W S, v2 Z C W S, up3_ix]
  exact part _ 2 x y.val

theorem v75 : val_main_v75 (F := Ideal) (zA Z) = up2 fun t i => (pl Z C W S).D 3 t i := by
  refine ext2 fun x y => ?_
  pointwise [val_main_v75, val_main_v74, val_main_v73, val_main_v72, val_main_v71, val_main_v70, val_main_v69, val_main_v68, val_main_v67, val_main_v66, val_main_v65, val_main_v64, val_main_v62, val_main_v61, val_main_v60, val_main_v59, val_main_v58, val_main_v3, val_main_c_12, val_main_c_13, val_main_cst_10]
  simp only [v1 Z C W S, v2 Z C W S, up3_ix]
  exact part _ 3 x y.val

/-- The four parts side by side. -/
theorem sides (f : ℕ → ℝ) (y : ℕ) (h : y < 4) :
    (if _h : y < 1 then (f 0 : EReal) else if _h : y - 1 < 1 then (f 1 : EReal) else if _h : y - 1 - 1 < 1 then (f 2 : EReal) else (f 3 : EReal)) = (f y : EReal) := by
  interval_cases y <;> rfl

theorem v80 : val_main_v80 (F := Ideal) (zA Z) = up3 fun t g i => (pl Z C W S).D g t i := by
  refine ext3 fun x y z => ?_
  pointwise [val_main_v80, val_main_v79, val_main_v78, val_main_v77, val_main_v76]
  simp only [v21 Z C W S, v39 Z C W S, v57 Z C W S, v75 Z C W S, up2_ix]
  exact sides (fun g => (pl Z C W S).D g x.val z.val) y.val y.isLt

theorem v83 : val_main_v83 (F := Ideal) (zA Z) (wA W) = up2 fun t e => (pl Z C W S).Y (e / 128) t (e % 128) := by
  refine ext2 fun x y => ?_
  pointwise [val_main_v83, val_main_v82, val_main_v81]
  simp only [v80 Z C W S, up3_ix, ← EReal.coe_mul, sum_coe]
  exact congrArg _ (Finset.sum_congr rfl fun i _ => mul_comm _ _)

/-- The gradient of the scales. -/
def gs (H : Pool) (e : ℕ) : ℝ := ∑ t ∈ Finset.range 8192, H.dy t e * H.Y (e / 128) t (e % 128)

theorem v89 : val_main_v89 (F := Ideal) (zA Z) (cA C) (wA W) = fun i : S512.Idx => (gs (pl Z C W S) (i 0).val : EReal) := by
  funext i
  obtain ⟨y, rfl⟩ : ∃ y : Fin 512, i = ix1 y := ⟨i 0, by funext j; refine Fin.cases rfl (fun j => j.elim0) j⟩
  pointwise [val_main_v89, val_main_v88, val_main_v87, val_main_cst_14]
  simp only [v83 Z C W S, up2_ix, ← EReal.coe_mul, sum_coe]
  exact congrArg _ ((Finset.sum_congr rfl fun t _ => mul_comm _ _).trans (Finset.sum_range (fun t => (pl Z C W S).dy t y.val * (pl Z C W S).Y (y.val / 128) t (y.val % 128))).symm)

theorem v166 : val_main_v166 (F := Ideal) (zA Z) (cA C) (wA W) = up2 fun _ e => gs (pl Z C W S) e := by
  refine ext2 fun x y => ?_
  pointwise [val_main_v166, val_main_v93, val_main_v90, val_main_cst_15]
  simp only [v89 Z C W S]
  exact Fin.sum_univ_one _

theorem v95 : val_main_v95 (F := Ideal) (cA C) (sA S) = up3 fun g j t => (pl Z C W S).P g t j := by
  refine ext3 fun x y z => ?_
  pointwise [val_main_v95, val_main_v94, val_main_v92, val_main_v91, val_main_v87, val_main_v85, val_main_v84]
  show (C z.val (1536 + (x.val * 128 + y.val)) : EReal) * (S (x.val * 128 + y.val) : EReal) = ((C z.val (1536 + (128 * x.val + y.val)) * S (128 * x.val + y.val) : ℝ) : EReal)
  rw [← EReal.coe_mul, mul_comm x.val]

theorem v97 : val_main_v97 (F := Ideal) (cA C) (wA W) (sA S) = up3 fun t g i => (pl Z C W S).DD g t i := by
  refine ext3 fun x y z => ?_
  pointwise [val_main_v97, val_main_v96]
  simp only [v95 Z C W S, up3_ix, ← EReal.coe_mul, sum_coe]
  rfl

theorem v99 : val_main_v99 (F := Ideal) (zA Z) (cA C) (sA S) = up3 ((pl Z C W S).DW 8192) := by
  refine ext3 fun x y z => ?_
  pointwise [val_main_v99, val_main_v98]
  simp only [v95 Z C W S, v80 Z C W S, up3_ix, ← EReal.coe_mul, sum_coe]
  exact congrArg _ ((Finset.sum_congr rfl fun t _ => mul_comm _ _).trans (Finset.sum_range (fun t => (pl Z C W S).D x.val t y.val * (pl Z C W S).P x.val t z.val)).symm)

/-- The four parts, each in its place among zeros. -/
theorem placed {a b c d : EReal} (f : ℕ → ℝ) (hd : d = f 3) (hc : c = f 2) (hb : b = f 1) (ha : a = f 0) (y : ℕ) (h : y < 4) :
    (((if _h : 3 ≤ y ∧ y - 3 < 1 then d else 0) + (if _h : 2 ≤ y ∧ y - 2 < 1 then c else 0)) + (if _h : 1 ≤ y ∧ y - 1 < 1 then b else 0)) + (if _h : y < 1 then a else 0) = (f y : EReal) := by
  subst hd hc hb ha
  interval_cases y <;> simp

theorem v151 : val_main_v151 (F := Ideal) (cA C) (wA W) (sA S) = up3 fun t g i => -(pl Z C W S).DD g t i := by
  refine ext3 fun x y z => ?_
  pointwise [val_main_v151, val_main_v150, val_main_v149, val_main_v148, val_main_v137, val_main_v136, val_main_v135, val_main_v134, val_main_v123, val_main_v122, val_main_v121, val_main_v120, val_main_v110, val_main_v109, val_main_v108, val_main_v107, val_main_v106, val_main_v105, val_main_v104, val_main_v103, val_main_v102, val_main_v101, val_main_v100, val_main_cst_16, val_main_cst_19, val_main_cst_22, val_main_cst_25]
  simp only [v97 Z C W S, up3_ix]
  exact placed (fun g => -(pl Z C W S).DD g x.val z.val) rfl rfl rfl rfl y.val y.isLt

/-- A part's gradient of the rows' sums, less the same of the row that leaves the mean. -/
theorem shifted (H : Pool) (g : Fin 4) (n : ℕ) (hn : n + win g.val = 8192) (x : Fin 8192) (z : ℕ) :
    Ideal.div (H.DD g.val x.val z : EReal) (FloatOps.sitofp (F := Ideal) FTy.f32 (IntOp.minsi (IntOp.addi (BitVec.ofNat 32 x.val) 1#32) (BitVec.ofNat 32 (2 ^ (g.val + 1)))) : EReal)
      + (if _h : x.val < n then -Ideal.div (H.DD g.val (win g.val + x.val) z : EReal) (FloatOps.sitofp (F := Ideal) FTy.f32 (IntOp.minsi (IntOp.addi (BitVec.ofNat 32 (win g.val + x.val)) 1#32) (BitVec.ofNat 32 (2 ^ (g.val + 1)))) : EReal) else (0 : EReal))
      = ((H.E g.val x.val z - H.EE g.val (x.val + win g.val) z : ℝ) : EReal) := by
  rw [cnt_word, div_real _ _ (cnt_ne _ _)]
  by_cases c : x.val < n
  · have e := cnt_word g ⟨win g.val + x.val, by omega⟩
    rw [dif_pos c]
    show _ + -Ideal.div _ _ = _
    rw [e, div_real _ _ (cnt_ne _ _), Pool.EE, if_pos (by omega), ← EReal.coe_neg, ← EReal.coe_add, ← sub_eq_add_neg, add_comm x.val]
    rfl
  · rw [dif_neg c, Pool.EE, if_neg (by omega), sub_zero, add_zero]
    rfl

theorem v161 : val_main_v161 (F := Ideal) (cA C) (wA W) (sA S) = up3 fun t g i => (pl Z C W S).E g t i - (pl Z C W S).EE g (t + win g) i := by
  refine ext3 fun x y z => ?_
  pointwise [val_main_v161, val_main_v160, val_main_v159, val_main_v158, val_main_v157, val_main_v156, val_main_v155, val_main_v154, val_main_v153, val_main_v152, val_main_v147, val_main_v146, val_main_v145, val_main_v144, val_main_v143, val_main_v142, val_main_v141, val_main_v140, val_main_v139, val_main_v138, val_main_v133, val_main_v132, val_main_v131, val_main_v130, val_main_v129, val_main_v128, val_main_v127, val_main_v126, val_main_v125, val_main_v124, val_main_v119, val_main_v118, val_main_v117, val_main_v116, val_main_v115, val_main_v113, val_main_v112, val_main_v111, val_main_v107, val_main_v106, val_main_v105, val_main_v104, val_main_v103, val_main_v102, val_main_v101, val_main_v100, val_main_v69, val_main_v68, val_main_v67, val_main_v66, val_main_v65, val_main_v64, val_main_v51, val_main_v50, val_main_v49, val_main_v48, val_main_v47, val_main_v46, val_main_v33, val_main_v32, val_main_v31, val_main_v30, val_main_v29, val_main_v28, val_main_v15, val_main_v14, val_main_v13, val_main_v12, val_main_v11, val_main_v10, val_main_v3, val_main_cst_17, val_main_cst_18, val_main_cst_20, val_main_cst_21, val_main_cst_23, val_main_cst_24, val_main_cst_26, val_main_cst_27, val_main_c, val_main_c_1, val_main_c_4, val_main_c_5, val_main_c_8, val_main_c_9, val_main_c_12, val_main_c_13]
  simp only [v97 Z C W S, up3_ix]
  exact placed (fun g => (pl Z C W S).E g x.val z.val - (pl Z C W S).EE g (x.val + win g) z.val) (shifted _ 3 8176 rfl x z.val) (shifted _ 2 8184 rfl x z.val) (shifted _ 1 8188 rfl x z.val) (shifted _ 0 8190 rfl x z.val) y.val y.isLt

theorem v162 : val_main_v162 (F := Ideal) (cA C) (wA W) (sA S) = up3 fun t g i => ∑ k ∈ Finset.range (win g), (pl Z C W S).EE g (t + k) i := by
  refine ext3 fun x y z => ?_
  unfold val_main_v162
  rw [v161 Z C W S]
  refine (rows_sum (n := 8192) (l := 0) _ _ _ _ ?_ x y z).trans ?_
  · pointwise [val_main_call1_call0_v0, val_main_call1_call0_cst]
    exact EReal.coe_zero.symm
  · have e : ∀ s ∈ Finset.range 8192, (pl Z C W S).E y.val s z.val = (pl Z C W S).EE y.val s z.val := fun s hs => by rw [Pool.EE, if_pos (Finset.mem_range.1 hs)]
    have hx := x.isLt
    rw [up3_ix, ← mean_back (fun s => (pl Z C W S).EE y.val s z.val) 8192 (win y.val) x.val (by omega) (fun k hk => if_neg (by omega))]
    rw [window_from (fun s => (pl Z C W S).E y.val s z.val - (pl Z C W S).EE y.val (s + win y.val) z.val) x.val (by omega)]
    rw [Finset.sum_congr rfl fun s hs => by rw [e s hs], Finset.sum_congr (s₁ := Finset.range x.val) rfl fun s hs => by rw [e s (Finset.mem_range.2 (by have := Finset.mem_range.1 hs; omega))]]

theorem v165 : val_main_v165 (F := Ideal) (cA C) (wA W) (sA S) = up2 fun t e => (pl Z C W S).DX (e / 128) t (e % 128) := by
  refine ext2 fun x y => ?_
  pointwise [val_main_v165, val_main_v164, val_main_v163]
  simp only [v151 Z C W S, v162 Z C W S, up3_ix, ← EReal.coe_add]
  refine congrArg _ ?_
  rw [add_comm, ← sub_eq_add_neg]
  rfl

end Cert.PoolReferenceIdeal.RefValue
end
-- ==== Proof.PoolClaim.lean ====
/- The claim about the gradient of the mixer by running means: kernel and reference leave the same arrays. -/
module

public import proofs.«01_k».proof.Defs
public import proofs.«01_k».proof.Proof.Gen.Pre_pool_finite
public import proofs.«01_k».proof.Proof.PoolBwdValue
public import proofs.«01_k».proof.Proof.PoolReferenceValue

@[expose] public section

set_option maxRecDepth 16384

noncomputable section

namespace Cert.PoolClaim

open Idealize.ShloMosaic Idealize.ShloMosaic.TcCoe Idealize.SL.Sem
open Cert.Reals Cert.Attn Cert.Pool

/-- The reference ends with its arguments unchanged; it declares no semaphore. -/
theorem frame_reference : Cert.quiescent_PoolReferenceIdeal := fun m g _ =>
  (θ_run Cert.PoolReferenceIdeal.defs _ _).mono
    (fun _ h => ⟨fun c => (h c).2.2.2, sem_eq_zero_of_no_sems rfl _⟩) (Cert.PoolReferenceIdeal.Value.run m g)

/-- An array of reals of rank three is the table of its elements. -/
theorem exists_up3 {a b d : ℕ} (r : (⟨3, ![a, b, d]⟩ : Shape).Idx → ℝ) : ∃ f : ℕ → ℕ → ℕ → ℝ, (fun i => (r i : EReal)) = (up3 f : (⟨3, ![a, b, d]⟩ : Shape).Idx → EReal) := by
  refine ⟨fun x y z => if h : x < a ∧ y < b ∧ z < d then r (ix3 ⟨x, h.1⟩ ⟨y, h.2.1⟩ ⟨z, h.2.2⟩) else 0, ext3 fun x y z => ?_⟩
  rw [up3_ix, dif_pos ⟨x.isLt, y.isLt, z.isLt⟩]

/-- An array of reals of rank one is the list of its elements. -/
theorem exists_up1 {n : ℕ} (r : (⟨1, ![n]⟩ : Shape).Idx → ℝ) : ∃ f : ℕ → ℝ, (fun i => (r i : EReal)) = (fun i : (⟨1, ![n]⟩ : Shape).Idx => (f (i 0).val : EReal)) := by
  refine ⟨fun x => if h : x < n then r (ix1 ⟨x, h⟩) else 0, funext fun i => ?_⟩
  obtain ⟨y, rfl⟩ : ∃ y : Fin n, i = ix1 y := ⟨i 0, by funext j; refine Fin.cases rfl (fun j => j.elim0) j⟩
  show (r (ix1 y) : EReal) = ((if h : y.val < n then r (ix1 ⟨y.val, h⟩) else 0 : ℝ) : EReal)
  rw [dif_pos y.isLt]

open Cert.PoolKernelIdeal in
/-- A finite precondition makes every argument a table of reals. -/
theorem reals_of_pre {m : (ℓ : Loc nD τ sig) → Buf (Elt Ideal) ℓ} (h : Cert.Pre_PoolKernelIdeal_pool_finite m) (c : Dev nD) :
    ∃ (Z C : ℕ → ℕ → ℝ) (W : ℕ → ℕ → ℕ → ℝ) (S : ℕ → ℝ),
      m ((c : Thread nD τ).loc main_arg0) = (up2 Z : FVec Ideal S8192x4608 .f32) ∧ m ((c : Thread nD τ).loc main_arg1) = (up2 C : FVec Ideal S8192x2048 .f32)
      ∧ m ((c : Thread nD τ).loc main_arg2) = (up3 W : FVec Ideal S4x128x128 .f32) ∧ m ((c : Thread nD τ).loc main_arg3) = fun i : S512.Idx => (S (i 0).val : EReal) := by
  obtain ⟨h0, h1, h2, h3⟩ := h c
  obtain ⟨z, hz⟩ := reals_of_finite _ _ (fun _ => rfl) h0
  obtain ⟨d, hd⟩ := reals_of_finite _ _ (fun _ => rfl) h1
  obtain ⟨w, hw⟩ := reals_of_finite _ _ (fun _ => rfl) h2
  obtain ⟨s, hs⟩ := reals_of_finite _ _ (fun _ => rfl) h3
  obtain ⟨Z, hZ⟩ := exists_up2 z
  obtain ⟨C, hC⟩ := exists_up2 d
  obtain ⟨W, hW⟩ := exists_up3 w
  obtain ⟨S, hS⟩ := exists_up1 s
  exact ⟨Z, C, W, S, hz.trans hZ, hd.trans hC, hw.trans hW, hs.trans hS⟩

theorem algebraic : Cert.algebraic_PoolKernelIdeal_PoolReferenceIdeal_pre_pool_finite := by
  pair_intro
  · run_from Cert.PoolKernelIdeal.Value.run_blocks m g
  · run_from Cert.PoolReferenceIdeal.Value.run m' g'
    all_goals
      obtain ⟨Z, C, W, S, hz, hc, hw, hs⟩ := reals_of_pre hpre c
      have e0 : StableHlo.launchContents m' c (Proc.devRef .tc Cert.PoolReferenceIdeal.main_arg0) = _ := (hagree c).1.trans hz
      have e1 : StableHlo.launchContents m' c (Proc.devRef .tc Cert.PoolReferenceIdeal.main_arg1) = _ := (hagree c).2.1.trans hc
      have e2 : StableHlo.launchContents m' c (Proc.devRef .tc Cert.PoolReferenceIdeal.main_arg2) = _ := (hagree c).2.2.1.trans hw
      have e3 : StableHlo.launchContents m' c (Proc.devRef .tc Cert.PoolReferenceIdeal.main_arg3) = _ := (hagree c).2.2.2.trans hs
    · rw [Cert.PoolKernelIdeal.RefValue.final_dx m c Z C W S hz hc hw hs, Cert.PoolReferenceIdeal.Read.val_main_v165_eq, e1, e2, e3]
      exact Cert.PoolReferenceIdeal.RefValue.v165 Z C W S
    · rw [Cert.PoolKernelIdeal.RefValue.final_dw m c Z C W S hz hc hw hs, Cert.PoolReferenceIdeal.Read.val_main_v99_eq, e0, e1, e3]
      exact Cert.PoolReferenceIdeal.RefValue.v99 Z C W S
    · rw [Cert.PoolKernelIdeal.RefValue.final_ds m c Z C W S hz hc hw hs, Cert.PoolReferenceIdeal.Read.val_main_v166_eq, e0, e1, e2]
      exact Cert.PoolReferenceIdeal.RefValue.v166 Z C W S

end Cert.PoolClaim
end
-- ==== Proof.FfnClaim.lean ====
/- The claim about the gated hidden layer and its gradient: kernel and reference leave the same arrays. -/
module

public import proofs.«01_k».proof.Defs
public import proofs.«01_k».proof.Proof.Gen.Pre_ffn_finite
public import proofs.«01_k».proof.Proof.FfnRun
public import proofs.«01_k».proof.Proof.FfnReferenceValue
public import proofs.«01_k».proof.Proof.PoolClaim

@[expose] public section

set_option maxRecDepth 16384

noncomputable section

namespace Cert.FfnClaim

open Idealize.ShloMosaic Idealize.ShloMosaic.TcCoe Idealize.SL.Sem
open Cert.Reals Cert.Attn Cert.PoolClaim

/-- The reference ends with its arguments unchanged; it declares no semaphore. -/
theorem frame_reference : Cert.quiescent_FfnReferenceIdeal := fun m g _ =>
  (θ_run Cert.FfnReferenceIdeal.defs _ _).mono
    (fun _ h => ⟨fun c => (h c).2.2.2.2.2, sem_eq_zero_of_no_sems rfl _⟩) (Cert.FfnReferenceIdeal.Value.run m g)

open Cert.FfnKernelIdeal in
/-- A finite precondition makes every argument a table of reals. -/
theorem reals_of_pre {m : (ℓ : Loc nD τ sig) → Buf (Elt Ideal) ℓ} (h : Cert.Pre_FfnKernelIdeal_ffn_finite m) (c : Dev nD) :
    ∃ (H D : ℕ → ℕ → ℝ) (U W L : ℕ → ℕ → ℕ → ℝ),
      m ((c : Thread nD τ).loc main_arg0) = (up2 H : FVec Ideal S8192x2048 .f32) ∧ m ((c : Thread nD τ).loc main_arg1) = (up3 U : FVec Ideal S2x2048x5632 .f32)
      ∧ m ((c : Thread nD τ).loc main_arg2) = (up3 W : FVec Ideal S2x2048x5632 .f32) ∧ m ((c : Thread nD τ).loc main_arg3) = (up3 L : FVec Ideal S2x5632x2048 .f32)
      ∧ m ((c : Thread nD τ).loc main_arg4) = (up2 D : FVec Ideal S8192x2048 .f32) := by
  obtain ⟨h0, h1, h2, h3, h4⟩ := h c
  obtain ⟨x, hx⟩ := reals_of_finite _ _ (fun _ => rfl) h0
  obtain ⟨u, hu⟩ := reals_of_finite _ _ (fun _ => rfl) h1
  obtain ⟨w, hw⟩ := reals_of_finite _ _ (fun _ => rfl) h2
  obtain ⟨l, hl⟩ := reals_of_finite _ _ (fun _ => rfl) h3
  obtain ⟨d, hd⟩ := reals_of_finite _ _ (fun _ => rfl) h4
  obtain ⟨H, hH⟩ := exists_up2 x
  obtain ⟨U, hU⟩ := exists_up3 u
  obtain ⟨W, hW⟩ := exists_up3 w
  obtain ⟨L, hL⟩ := exists_up3 l
  obtain ⟨D, hD⟩ := exists_up2 d
  exact ⟨H, D, U, W, L, hx.trans hH, hu.trans hU, hw.trans hW, hl.trans hL, hd.trans hD⟩

theorem algebraic : Cert.algebraic_FfnKernelIdeal_FfnReferenceIdeal_pre_ffn_finite := by
  pair_intro
  · run_from Cert.FfnKernelIdeal.Run.run_results m g
  · run_from Cert.FfnReferenceIdeal.Value.run m' g'
    all_goals
      obtain ⟨H, D, U, W, L, hh, hu, hw, hl, hd⟩ := reals_of_pre hpre c
    · rw [Cert.FfnKernelIdeal.Run.result_a m g c H U hh hu, Cert.FfnReferenceIdeal.Read.val_main_v21_eq, hh, hu]
      exact Cert.FfnReferenceIdeal.RefValue.v21 H U
    · rw [Cert.FfnKernelIdeal.Run.result_b m g c H W hh hw, Cert.FfnReferenceIdeal.Read.val_main_v24_eq, hh, hw]
      exact Cert.FfnReferenceIdeal.RefValue.v24 H W
    · rw [Cert.FfnKernelIdeal.Run.result_y m g c H U W hh hu hw, Cert.FfnReferenceIdeal.Read.val_main_v29_eq, hh, hu, hw]
      exact Cert.FfnReferenceIdeal.RefValue.v29 H U W
    · rw [Cert.FfnKernelIdeal.Run.result_da m g c H D U W L hh hu hw hl hd, Cert.FfnReferenceIdeal.Read.val_main_v32_eq, hh, hu, hw, hl, hd]
      exact Cert.FfnReferenceIdeal.RefValue.v32 H D U W L
    · rw [Cert.FfnKernelIdeal.Run.result_db m g c H D U L hh hu hl hd, Cert.FfnReferenceIdeal.Read.val_main_v35_eq, hh, hu, hl, hd]
      exact Cert.FfnReferenceIdeal.RefValue.v35 H D U L

end Cert.FfnClaim
end
-- ==== Proof.AttnTile.lean ====
/- One block of keys wholly before a block of queries, as the attention's backward kernel handles it. -/
module

public import proofs.«01_k».proof.Proof.Gen.AttnKernelIdeal.Frame
public import proofs.«01_k».proof.Proof.AttnMath

@[expose] public section

set_option maxRecDepth 16384

noncomputable section

namespace Cert.AttnKernelIdeal.RefValue

open Cert.AttnKernelIdeal Cert.AttnKernelIdeal.Gen Idealize.ShloMosaic Idealize.ShloMosaic.TcCoe Idealize.SL.Sem
open Cert.Reals Cert.Attn

/-- The table `f` from row `r` and column `c` on. -/
def tl (f : ℕ → ℕ → ℝ) (r c : ℕ) (x y : ℕ) : ℝ := f (r + x) (c + y)

/-- The triangle of places before a key. -/
theorem pay21 : k1_pay21 (F := Ideal) = up2 fun x y => if x < y then 1 else 0 := by
  refine ext2 fun x y => ?_
  pointwise [k1_pay21]
  have h0 : x.val < 256 := x.isLt
  have h1 : y.val < 256 := y.isLt
  rw [WordCmp.cmpi_slt_ofNat (by omega) (by omega), WordCmp.select_decide, up2_ix]
  split <;> simp

/-- The triangle of places after a key. -/
theorem pay22 : k1_pay22 (F := Ideal) = up2 fun x y => if y < x then 1 else 0 := by
  refine ext2 fun x y => ?_
  pointwise [k1_pay22]
  have h0 : x.val < 256 := x.isLt
  have h1 : y.val < 256 := y.isLt
  rw [WordCmp.cmpi_sgt_ofNat (by omega) (by omega), WordCmp.select_decide, up2_ix]
  split <;> simp

theorem pay23 : k1_pay23 (F := Ideal) = up2 fun _ _ => 0 := by
  refine ext2 fun x y => ?_; pointwise [k1_pay23]; simp [up2]
theorem pay24 : k1_pay24 (F := Ideal) = up2 fun _ _ => 0 := by
  refine ext2 fun x y => ?_; pointwise [k1_pay24]; simp [up2]

variable (H : Head) (T s0 : ℕ) (hs : s0 + 256 ≤ T)

theorem pay3 : k1_pay3 (F := Ideal) (up2 (tl H.q T 0)) (up2 (tl H.k s0 0)) = up2 (tl H.Z T s0) := by
  refine ext2 fun x y => ?_
  pointwise [k1_pay3, k1_pay2]
  simp only [up2_ix, sc_f32, ← EReal.coe_mul, sum_coe, tl, Head.Z, zero_add]

include hs in
theorem pay4 : k1_pay4 (F := Ideal) (up2 (tl H.q T 0)) (up2 (tl H.k s0 0)) = up2 (tl H.L T s0) := by
  refine ext2 fun x y => ?_
  have h1 : y.val < 256 := y.isLt
  pointwise [k1_pay4]
  rw [pay3, up2_ix, up2_ix, lneg_coe, tl, tl, H.L_of_lt (by omega)]

include hs in
theorem pay5 : k1_pay5 (F := Ideal) (up2 (tl H.q T 0)) (up2 fun x _ => H.P (T + x) s0) (up2 (tl H.k s0 0)) = up2 fun x _ => H.P (T + x) (s0 + 256) := by
  refine ext2 fun x y => ?_
  pointwise [k1_pay5]
  simp only [pay4 H T s0 hs, up2_ix, sum_coe, ← EReal.coe_add, tl, Head.P, range_add]

/-- The exponent of the weight, put together from its block. -/
theorem expo (t s0 y : ℕ) (hy : y < 256) :
    H.Z t (s0 + y) + H.L t (s0 + y) + ∑ x : Fin 256, H.L t (s0 + x.val) * (if y < x.val then (1 : ℝ) else 0) + (H.tot t - H.P t (s0 + 256))
      = H.Z t (s0 + y) + H.L t (s0 + y) + (H.tot t - H.P t (s0 + y + 1)) := by
  have e := after_sum (H.L t) s0 256 y hy
  rw [e]; simp only [Head.P]; ring

include hs in
theorem pay6 : k1_pay6 (F := Ideal) (up2 (tl H.q T 0)) (up2 fun x _ => H.tot (T + x)) k1_pay22 (up2 fun x _ => H.P (T + x) s0) (up2 (tl H.k s0 0)) = up2 (tl H.W T s0) := by
  refine ext2 fun x y => ?_
  have h1 : y.val < 256 := y.isLt
  pointwise [k1_pay6]
  simp only [pay4 H T s0 hs, pay3, pay5 H T s0 hs, pay22, up2_ix, sum_coe, ← EReal.coe_add, ← EReal.coe_sub, ← EReal.coe_mul, tl, Ideal.exp_coe]
  rw [expo H _ _ _ h1, Head.W, if_pos (by omega)]

include hs in
theorem pay7 : k1_pay7 (F := Ideal) (up2 (tl H.q T 0)) (up2 (tl H.g T 0)) (up2 fun x _ => H.tot (T + x)) k1_pay22 (up2 fun x _ => H.P (T + x) s0) (up2 (tl H.k s0 0)) (up2 (tl H.v s0 0)) = up2 (tl H.G T s0) := by
  refine ext2 fun x y => ?_
  pointwise [k1_pay7]
  simp only [pay6 H T s0 hs, up2_ix, sum_coe, ← EReal.coe_mul, tl, Head.G, zero_add]

include hs in
theorem pay8 : k1_pay8 (F := Ideal) (up2 (tl H.q T 0)) (up2 (tl H.g T 0)) (up2 fun x _ => H.tot (T + x)) k1_pay21 k1_pay22 (up2 fun x _ => H.P (T + x) s0) (up2 fun x _ => H.PG (T + x) s0) (up2 (tl H.k s0 0)) (up2 (tl H.v s0 0)) = up2 (tl H.D T s0) := by
  refine ext2 fun x y => ?_
  have h1 : y.val < 256 := y.isLt
  pointwise [k1_pay8]
  simp only [pay7 H T s0 hs, pay4 H T s0 hs, pay3, pay21, up2_ix, sum_coe, ← EReal.coe_add, ← EReal.coe_sub, ← EReal.coe_mul, tl, Ideal.exp_coe]
  have e := before_sum (H.G (T + x.val)) s0 256 y.val h1.le
  rw [e, Head.D, if_pos (by omega), Head.S, ← H.L_of_lt (by omega), Head.PG, Head.PG, sub_add_cancel]

theorem pay18 (f : ℕ → ℕ → ℝ) : k1_pay18 (F := Ideal) (up2 f) = up2 f := by refine ext2 fun x y => ?_; pointwise [k1_pay18]
theorem pay19 (f : ℕ → ℕ → ℝ) : k1_pay19 (F := Ideal) (up2 f) = up2 f := by refine ext2 fun x y => ?_; pointwise [k1_pay19]

theorem pay25 (w g X : ℕ → ℕ → ℝ) : k1_pay25 (F := Ideal) (up2 g) (up2 w) (up2 X) = up2 fun y d => X y d + ∑ x : Fin 1024, w x.val y * g x.val d := by
  refine ext2 fun x y => ?_
  pointwise [k1_pay25]
  simp only [pay19, up2_ix, sum_coe, ← EReal.coe_add, ← EReal.coe_mul]

theorem pay26 (w g X : ℕ → ℕ → ℝ) : k1_pay26 (F := Ideal) (up2 g) (up2 w) (up2 X) = up2 fun y d => X y d + sc * ∑ x : Fin 1024, w x.val y * g x.val d := by
  refine ext2 fun x y => ?_
  pointwise [k1_pay26]
  simp only [pay18, up2_ix, sum_coe, sc_f32, ← EReal.coe_add, ← EReal.coe_mul]

theorem pay27 : k1_pay27 (F := Ideal) (up2 fun x d => sc * ∑ j ∈ Finset.range s0, H.D (T + x) j * H.k j d) (up2 (tl H.k s0 0)) (up2 (tl H.D T s0)) = up2 fun x d => sc * ∑ j ∈ Finset.range (s0 + 256), H.D (T + x) j * H.k j d := by
  refine ext2 fun x y => ?_
  pointwise [k1_pay27]
  simp only [up2_ix, sum_coe, sc_f32, ← EReal.coe_add, ← EReal.coe_mul, tl, zero_add]
  rw [← mul_add, range_add (fun j => H.D (T + x.val) j * H.k j y.val)]

theorem pay28 : k1_pay28 (F := Ideal) (up2 fun x _ => H.PG (T + x) s0) (up2 (tl H.G T s0)) = up2 fun x _ => H.PG (T + x) (s0 + 256) := by
  refine ext2 fun x y => ?_
  pointwise [k1_pay28]
  simp only [up2_ix, sum_coe, ← EReal.coe_add, tl, Head.PG, range_add]

end Cert.AttnKernelIdeal.RefValue
end
-- ==== Proof.AttnLoop.lean ====
/- The attention's backward kernel over the blocks of keys wholly before a block of queries: its loop's state, trip by trip. -/
module

public import proofs.«01_k».proof.Proof.Gen.AttnKernelIdeal.Frame
import all proofs.«01_k».proof.Proof.Gen.AttnKernelIdeal.Loops
public import proofs.«01_k».proof.Proof.AttnTile
public import Idealize.ShloMosaic.Lib.WritesUnit

@[expose] public section

set_option maxRecDepth 16384

noncomputable section

namespace Cert.AttnKernelIdeal.RefValue

open Cert.AttnKernelIdeal Cert.AttnKernelIdeal.Gen Idealize.ShloMosaic Idealize.ShloMosaic.TcCoe Idealize.SL.Sem
open Cert.Reals Cert.Attn

theorem trips1 : ∀ i : grid1.Coords, (k1_t1_loop i).trips = 4 * (i 1).val := by decide +kernel
theorem trips2 : ∀ i : grid1.Coords, (k1_t2_loop i).trips = 0 := by decide +kernel
theorem off1 : ∀ (i : grid1.Coords) (k : Fin (k1_t1_loop i).trips), k1_off1 i k = ![256 * k.val, 0] := by decide +kernel
theorem off3_0 : ∀ i : grid1.Coords, k1_off3 i 0#32 = ![1024 * (i 1).val, 0] := by decide +kernel
theorem off3_1 : ∀ i : grid1.Coords, k1_off3 i 1#32 = ![1024 * (i 1).val + 256, 0] := by decide +kernel

section
variable {σ : RefSig} {κ : Kind} {sp : Space} {e : EltTy} {Val : EltTy → Type} (v : View σ κ sp S8192x128 e) (f : v.ty.Contents Val)

/-- A load of 256 whole rows. -/
theorem rows_read {A : ℕ → ℕ → Val e} (hA : v.read Val f = fun i => A (i 0).val (i 1).val)
    {off : Fin 2 → ℕ} {o : ℕ} (ho : off = ![o, 0]) (inb : ∀ j, off j + S256x128.size j ≤ S8192x128.size j) :
    v.readAt Val (Rect.unit (s := S8192x128) off S256x128.size inb).toLoadRect f = fun x : S256x128.Idx => A (o + (x 0).val) (x 1).val := by
  subst ho
  funext x
  show v.read Val f _ = _
  rw [hA]
  show A (o + 1 * (x 0).val) (0 + 1 * (x 1).val) = _
  rw [one_mul, one_mul, zero_add]

/-- A store of 256 whole rows over earlier stores. -/
theorem rows_write {A : ℕ → ℕ → Val e} (L : List (View.Piece Val S8192x128 e)) (hA : v.read Val (v.writes Val f L) = fun i => A (i 0).val (i 1).val)
    {off : Fin 2 → ℕ} {o : ℕ} (ho : off = ![o, 0]) (inb : ∀ j, off j + S256x128.size j ≤ S8192x128.size j) (B : ℕ → ℕ → Val e) (w : S256x128.Idx → Val e)
    (hw : w = fun x => B (o + (x 0).val) (x 1).val) :
    v.read Val (v.writes Val f ((⟨Rect.unit (s := S8192x128) off S256x128.size inb, w⟩ : View.Piece Val S8192x128 e) :: L))
      = fun i => if o ≤ (i 0).val ∧ (i 0).val < o + 256 then B (i 0).val (i 1).val else A (i 0).val (i 1).val := by
  funext y
  by_cases h : o ≤ (y 0).val ∧ (y 0).val < o + 256
  · rw [if_pos h]
    have hb : (y 1).val < 128 := (y 1).isLt
    refine (View.read_writes_cons_rows_of_mem (d := ![8192, 128]) v f inb w L y (ix2 ⟨(y 0).val - o, by omega⟩ ⟨(y 1).val, hb⟩ : S256x128.Idx) ho (by show (y 0).val = o + ((y 0).val - o); omega) rfl).trans ?_
    rw [hw]
    show B (o + ((y 0).val - o)) (y 1).val = _
    rw [show o + ((y 0).val - o) = (y 0).val from by omega]
  · rw [if_neg h, View.read_writes_cons_rows_of_not_mem (d := ![8192, 128]) v f inb w L y ho (W := 256) rfl (by omega), hA]

end

/-- A table `X` of which the first `n` rows have had `C` added. -/
def accd (X C : ℕ → ℕ → ℝ) (n s d : ℕ) : ℝ := X s d + if s < n then C s d else 0

theorem accd_zero (X C : ℕ → ℕ → ℝ) : accd X C 0 = X := by
  funext s d; unfold accd; rw [if_neg (Nat.not_lt_zero _), add_zero]

/-- Adding `C` to the next 256 rows. -/
theorem accd_write {σ : RefSig} {κ : Kind} {sp : Space} (v : View σ κ sp S8192x128 .f32) (f : v.ty.Contents (Elt Ideal)) (X C : ℕ → ℕ → ℝ) (L : List (View.Piece (Elt Ideal) S8192x128 .f32)) (n : ℕ)
    (h : v.read (Elt Ideal) (v.writes (Elt Ideal) f L) = up2 (accd X C n))
    {off : Fin 2 → ℕ} (ho : off = ![n, 0]) (inb : ∀ j, off j + S256x128.size j ≤ S8192x128.size j) (w : FVec Ideal S256x128 .f32)
    (hw : w = up2 fun y d => X (n + y) d + C (n + y) d) :
    v.read (Elt Ideal) (v.writes (Elt Ideal) f ((⟨Rect.unit (s := S8192x128) off S256x128.size inb, w⟩ : View.Piece (Elt Ideal) S8192x128 .f32) :: L)) = up2 (accd X C (n + 256)) := by
  refine (rows_write v f L (A := fun s d => (accd X C n s d : EReal)) h ho inb (fun s d => ((X s d + C s d : ℝ) : EReal)) w hw).trans ?_
  funext y
  rw [up2_at]
  unfold accd
  by_cases h1 : (y 0).val < n
  · rw [if_neg (by omega), if_pos h1, if_pos (by omega)]
  · by_cases h2 : (y 0).val < n + 256
    · rw [if_pos (by omega), if_pos h2]
    · rw [if_neg (by omega), if_neg h1, if_neg h2]

/-- Reading the next 256 rows. -/
theorem accd_read {σ : RefSig} {κ : Kind} {sp : Space} (v : View σ κ sp S8192x128 .f32) (f : v.ty.Contents (Elt Ideal)) (X C : ℕ → ℕ → ℝ) (n : ℕ)
    (h : v.read (Elt Ideal) f = up2 (accd X C n))
    {off : Fin 2 → ℕ} (ho : off = ![n, 0]) (inb : ∀ j, off j + S256x128.size j ≤ S8192x128.size j) :
    v.readAt (Elt Ideal) (Rect.unit (s := S8192x128) off S256x128.size inb).toLoadRect f = (up2 (tl X n 0) : FVec Ideal S256x128 .f32) := by
  refine (rows_read v f (A := fun s d => (accd X C n s d : EReal)) h ho inb).trans ?_
  funext y
  show ((accd X C n (n + (y 0).val) (y 1).val : ℝ) : EReal) = ((X (n + (y 0).val) (0 + (y 1).val) : ℝ) : EReal)
  unfold accd
  rw [if_neg (by omega), add_zero, zero_add]

variable (H : Head) (T : ℕ)

/-- What a block of 1024 queries adds to the gradient of key `s`. -/
def CK (s d : ℕ) : ℝ := sc * ∑ x : Fin 1024, H.D (T + x.val) s * H.q (T + x.val) d
/-- What a block of 1024 queries adds to the gradient of value `s`. -/
def CV (s d : ℕ) : ℝ := ∑ x : Fin 1024, H.W (T + x.val) s * H.g (T + x.val) d

/-- The three carried values once the first `n` keys are done. -/
def carry (n : ℕ) : FVec Ideal S1024x1 .f32 × FVec Ideal S1024x1 .f32 × FVec Ideal S1024x128 .f32 :=
  (up2 fun x _ => H.P (T + x) n, up2 fun x _ => H.PG (T + x) n, up2 fun x d => sc * ∑ j ∈ Finset.range n, H.D (T + x) j * H.k j d)

section
variable (c : Dev nD) (i : grid1.Coords) (arg2 : Memref sig .tc .vmem S1024x128 .bf16) (harg2 : arg2.IsWhole) (arg3 : Memref sig .tc .vmem S8192x128 .bf16) (harg3 : arg3.IsWhole)
  (arg4 : Memref sig .tc .vmem S8192x128 .bf16) (harg4 : arg4.IsWhole) (arg5 : Memref sig .tc .vmem S1x1024x1 .f32) (harg5 : arg5.IsWhole) (arg6 : Memref sig .tc .vmem S1024x128 .f32) (harg6 : arg6.IsWhole)
  (arg7 : Memref sig .tc .vmem S1024x128 .f32) (harg7 : arg7.IsWhole) (arg8 : Memref sig .tc .vmem S8192x128 .f32) (harg8 : arg8.IsWhole) (arg9 : Memref sig .tc .vmem S8192x128 .f32) (harg9 : arg9.IsWhole)
  (v3 : Vec Ideal S1024x128 .bf16) (v5 : Vec Ideal S1024x128 .f32) (v7 : Vec Ideal S1x1024x1 .f32)
  (X3 : arg3.view.ty.Contents (Elt Ideal)) (X4 : arg4.view.ty.Contents (Elt Ideal))
  (G8 : arg8.view.ty.Contents (Elt Ideal)) (G9 : arg9.view.ty.Contents (Elt Ideal)) (A8 A9 : ℕ → ℕ → ℝ)
  (h3 : v3 = up2 (tl H.q T 0)) (h5 : v5 = up2 (tl H.g T 0)) (h7 : k1_pay20 v7 = up2 fun x _ => H.tot (T + x))
  (hX3 : arg3.view.read (Elt Ideal) X3 = up2 H.k) (hX4 : arg4.view.read (Elt Ideal) X4 = up2 H.v)
  (hT : T = 1024 * (i 1).val)

include hX3 in
theorem ld_k (k : Fin (k1_t1_loop i).trips) : arg3.view.readAt (Elt Ideal) (Rect.unit (s := S8192x128) (k1_off1 i k) S256x128.size (k1_off1_inb i k)).toLoadRect X3 = up2 (tl H.k (256 * k.val) 0) :=
  (rows_read arg3.view X3 (A := fun s d => (H.k s d : EReal)) hX3 (off1 i k) _).trans (funext fun y => by
    show _ = ((H.k (256 * k.val + (y 0).val) (0 + (y 1).val) : ℝ) : EReal)
    rw [zero_add])
include hX4 in
theorem ld_v (k : Fin (k1_t1_loop i).trips) : arg4.view.readAt (Elt Ideal) (Rect.unit (s := S8192x128) (k1_off1 i k) S256x128.size (k1_off1_inb i k)).toLoadRect X4 = up2 (tl H.v (256 * k.val) 0) :=
  (rows_read arg4.view X4 (A := fun s d => (H.v s d : EReal)) hX4 (off1 i k) _).trans (funext fun y => by
    show _ = ((H.v (256 * k.val + (y 0).val) (0 + (y 1).val) : ℝ) : EReal)
    rw [zero_add])

include h3 h5 h7 hX3 hX4 hT

theorem trip (k : Fin (k1_t1_loop i).trips) (acc : FVec Ideal S1024x1 .f32 × FVec Ideal S1024x1 .f32 × FVec Ideal S1024x128 .f32) (hacc : acc = carry H T (256 * k.val))
    (f8 : arg8.view.ty.Contents (Elt Ideal)) (f9 : arg9.view.ty.Contents (Elt Ideal)) :
    tripR_k1_t1 (F := Ideal) Variants.none c none i arg2 harg2 arg3 harg3 arg4 harg4 arg5 harg5 arg6 harg6 arg7 harg7 arg8 harg8 arg9 harg9 v3 v5 v7 X3 X4 k acc f8 f9
      = carry H T (256 * k.val + 256) := by
  subst hacc
  have hk : 256 * k.val + 256 ≤ T := by have := k.isLt; have := trips1 i; omega
  unfold tripR_k1_t1 trip_k1_t1
  dsimp only
  unfold trip_k1_t1.sl.r_1 trip_k1_t1.sl.r_3 trip_k1_t1.sl.r_4 trip_k1_t1.sl.r
  simp only [ld_k H i arg3 X3 hX3, ld_v H i arg4 X4 hX4, h3, h5, h7, pay18, pay19, carry]
  rw [pay5 H T _ hk, pay7 H T _ hk, pay8 H T _ hk, pay28]
  have e : k1_pay2 (F := Ideal) (up2 (tl H.k (256 * k.val) 0)) = up2 (tl H.k (256 * k.val) 0) := by refine ext2 fun x y => ?_; pointwise [k1_pay2]
  rw [e, pay27]

theorem trip8 (k : Fin (k1_t1_loop i).trips) (acc : FVec Ideal S1024x1 .f32 × FVec Ideal S1024x1 .f32 × FVec Ideal S1024x128 .f32) (hacc : acc = carry H T (256 * k.val))
    (f9 : arg9.view.ty.Contents (Elt Ideal)) (L : List (View.Piece (Elt Ideal) S8192x128 .f32))
    (h8 : arg8.view.read (Elt Ideal) (arg8.view.writes (Elt Ideal) G8 L) = up2 (accd A8 (CK H T) (256 * k.val))) :
    arg8.view.read (Elt Ideal) (arg8.view.writes (Elt Ideal) G8 ((tripL_k1_t1 (F := Ideal) Variants.none c none i arg2 harg2 arg3 harg3 arg4 harg4 arg5 harg5 arg6 harg6 arg7 harg7 arg8 harg8 arg9 harg9 v3 v5 v7 X3 X4 k acc (arg8.view.writes (Elt Ideal) G8 L) f9).1 ++ L))
      = up2 (accd A8 (CK H T) (256 * k.val + 256)) := by
  subst hacc
  have hk : 256 * k.val + 256 ≤ T := by have := k.isLt; have := trips1 i; omega
  unfold tripL_k1_t1 trip_k1_t1
  dsimp only
  refine accd_write arg8.view G8 A8 (CK H T) L _ h8 (off1 i k) _ _ ?_
  unfold trip_k1_t1.sl.r_4
  simp only [ld_k H i arg3 X3 hX3, ld_v H i arg4 X4 hX4, h3, h5, h7, pay18, pay19, carry]
  rw [pay8 H T _ hk, accd_read arg8.view _ A8 (CK H T) _ h8 (off1 i k), pay26]
  simp only [tl, zero_add, CK]

theorem trip9 (k : Fin (k1_t1_loop i).trips) (acc : FVec Ideal S1024x1 .f32 × FVec Ideal S1024x1 .f32 × FVec Ideal S1024x128 .f32) (hacc : acc = carry H T (256 * k.val))
    (f8 : arg8.view.ty.Contents (Elt Ideal)) (L : List (View.Piece (Elt Ideal) S8192x128 .f32))
    (h9 : arg9.view.read (Elt Ideal) (arg9.view.writes (Elt Ideal) G9 L) = up2 (accd A9 (CV H T) (256 * k.val))) :
    arg9.view.read (Elt Ideal) (arg9.view.writes (Elt Ideal) G9 ((tripL_k1_t1 (F := Ideal) Variants.none c none i arg2 harg2 arg3 harg3 arg4 harg4 arg5 harg5 arg6 harg6 arg7 harg7 arg8 harg8 arg9 harg9 v3 v5 v7 X3 X4 k acc f8 (arg9.view.writes (Elt Ideal) G9 L)).2 ++ L))
      = up2 (accd A9 (CV H T) (256 * k.val + 256)) := by
  subst hacc
  have hk : 256 * k.val + 256 ≤ T := by have := k.isLt; have := trips1 i; omega
  unfold tripL_k1_t1 trip_k1_t1
  dsimp only
  refine accd_write arg9.view G9 A9 (CV H T) L _ h9 (off1 i k) _ _ ?_
  unfold trip_k1_t1.sl.r_2
  simp only [ld_k H i arg3 X3 hX3, ld_v H i arg4 X4 hX4, h3, h5, h7, pay18, pay19, carry]
  rw [pay6 H T _ hk, accd_read arg9.view _ A9 (CV H T) _ h9 (off1 i k), pay25]
  simp only [tl, zero_add, CV]

/-- The loop's state after `n` trips. -/
theorem state (h8 : arg8.view.read (Elt Ideal) G8 = up2 A8) (h9 : arg9.view.read (Elt Ideal) G9 = up2 A9) (n : ℕ) (hn : n ≤ (k1_t1_loop i).trips) :
    let st := st_k1_t1 (F := Ideal) Variants.none c none i arg2 harg2 arg3 harg3 arg4 harg4 arg5 harg5 arg6 harg6 arg7 harg7 arg8 harg8 arg9 harg9 v3 v5 v7 X3 X4 G8 G9 (k1_pay23, k1_pay23, k1_pay24) n
    st.1 = carry H T (256 * n) ∧ arg8.view.read (Elt Ideal) (arg8.view.writes (Elt Ideal) G8 st.2.1) = up2 (accd A8 (CK H T) (256 * n))
      ∧ arg9.view.read (Elt Ideal) (arg9.view.writes (Elt Ideal) G9 st.2.2) = up2 (accd A9 (CV H T) (256 * n)) := by
  intro st
  induction n with
  | zero =>
    refine ⟨?_, ?_, ?_⟩
    · show (k1_pay23, k1_pay23, k1_pay24) = _
      simp only [pay23, pay24, carry, Head.P, Head.PG, Finset.range_zero, mul_zero, Finset.sum_empty]
    · show arg8.view.read (Elt Ideal) G8 = _
      rw [mul_zero, accd_zero]; exact h8
    · show arg9.view.read (Elt Ideal) G9 = _
      rw [mul_zero, accd_zero]; exact h9
  | succ n ih =>
    obtain ⟨e1, e8, e9⟩ := ih (by omega)
    have hs := st_k1_t1_succ (F := Ideal) Variants.none c none i arg2 harg2 arg3 harg3 arg4 harg4 arg5 harg5 arg6 harg6 arg7 harg7 arg8 harg8 arg9 harg9 v3 v5 v7 X3 X4 G8 G9 (k1_pay23, k1_pay23, k1_pay24) ⟨n, by omega⟩
    rw [show st = _ from hs]
    have hk : n < (k1_t1_loop i).trips := by omega
    exact ⟨trip H T c i arg2 harg2 arg3 harg3 arg4 harg4 arg5 harg5 arg6 harg6 arg7 harg7 arg8 harg8 arg9 harg9 v3 v5 v7 X3 X4 h3 h5 h7 hX3 hX4 hT ⟨n, hk⟩ _ e1 _ _,
      trip8 H T c i arg2 harg2 arg3 harg3 arg4 harg4 arg5 harg5 arg6 harg6 arg7 harg7 arg8 harg8 arg9 harg9 v3 v5 v7 X3 X4 G8 A8 h3 h5 h7 hX3 hX4 hT ⟨n, hk⟩ _ e1 _ _ e8,
      trip9 H T c i arg2 harg2 arg3 harg3 arg4 harg4 arg5 harg5 arg6 harg6 arg7 harg7 arg8 harg8 arg9 harg9 v3 v5 v7 X3 X4 G9 A9 h3 h5 h7 hX3 hX4 hT ⟨n, hk⟩ _ e1 _ _ e9⟩

end
end Cert.AttnKernelIdeal.RefValue
end
-- ==== Proof.AttnDiag.lean ====
/- The four blocks of keys that a block of queries only partly sees, as the attention's backward kernel handles them: the
   rows before the block are left as they are, the others see the keys before themselves. -/
module

public import proofs.«01_k».proof.Proof.AttnLoop

@[expose] public section

set_option maxRecDepth 16384

noncomputable section

namespace Cert.AttnKernelIdeal.RefValue

open Cert.AttnKernelIdeal Cert.AttnKernelIdeal.Gen Idealize.ShloMosaic Idealize.ShloMosaic.TcCoe Idealize.SL.Sem
open Cert.Reals Cert.Attn

/-- The comparison of a column with a row. -/
theorem select_lt {α : Type} (x y : ℕ) (hx : x < 2 ^ 31) (hy : y < 2 ^ 31) (a b : α) :
    Scalar.select (IntOp.cmpi CmpIPredicate.slt (BitVec.ofNat 32 y) (BitVec.ofNat 32 x)) a b = if y < x then a else b := by
  rw [WordCmp.cmpi_slt_ofNat (by omega) (by omega), WordCmp.select_decide]

variable (H : Head) (T : ℕ)

theorem sel_L (t s : ℕ) (p : Prop) [Decidable p] (h : p ↔ s < t) : (if p then (lneg (H.Z t s) : EReal) else 0) = (H.L t s : EReal) := by
  unfold Head.L
  by_cases hp : p
  · rw [if_pos hp, if_pos (h.1 hp)]
  · rw [if_neg hp, if_neg (fun q => hp (h.2 q)), EReal.coe_zero]

theorem sel_W (t s0 y : ℕ) (hy : y < 256) (p : Prop) [Decidable p] (h : p ↔ s0 + y < t) :
    (if p then (Real.exp (H.Z t (s0 + y) + H.L t (s0 + y) + ∑ x : Fin 256, H.L t (s0 + x.val) * (if y < x.val then (1 : ℝ) else 0) + (H.tot t - H.P t (s0 + 256))) : EReal) else 0)
      = (H.W t (s0 + y) : EReal) := by
  rw [expo H _ _ _ hy]
  unfold Head.W
  by_cases hp : p
  · rw [if_pos hp, if_pos (h.1 hp)]
  · rw [if_neg hp, if_neg (fun q => hp (h.2 q)), EReal.coe_zero]

theorem sel_D (t s0 y : ℕ) (hy : y < 256) (p : Prop) [Decidable p] (h : p ↔ s0 + y < t) :
    (if p then (H.G t (s0 + y) - Real.exp (H.Z t (s0 + y) + H.L t (s0 + y)) * (H.G t (s0 + y) + (∑ x : Fin 256, H.G t (s0 + x.val) * (if x.val < y then (1 : ℝ) else 0) + H.PG t s0) : ℝ) : EReal) else 0)
      = (H.D t (s0 + y) : EReal) := by
  have e := before_sum (H.G t) s0 256 y hy.le
  rw [e]
  unfold Head.D
  by_cases hp : p
  · rw [if_pos hp, if_pos (h.1 hp), Head.S, ← H.L_of_lt (h.1 hp), Head.PG, Head.PG, sub_add_cancel, ← EReal.coe_mul, ← EReal.coe_sub]
  · rw [if_neg hp, if_neg (fun q => hp (h.2 q)), EReal.coe_zero]

section tile0

theorem mask33 {α : Type} (x : Fin 1024) (y : Fin 256) (a b : α) : Scalar.select (k1_pay33 (ix2 x y)) a b = if y.val < x.val then a else b := by
  pointwise [k1_pay33]
  exact select_lt _ _ (by omega) (by omega) _ _

theorem pay34 (f : ℕ → ℕ → ℝ) : k1_pay34 (F := Ideal) (up2 f) = up2 f := by refine ext2 fun x y => ?_; pointwise [k1_pay34]

theorem pay35 : k1_pay35 (F := Ideal) (up2 (tl H.q T 0)) (up2 (tl H.k T 0)) = up2 (tl H.Z T T) := by
  refine ext2 fun x y => ?_
  pointwise [k1_pay35]
  simp only [pay34, up2_ix, sc_f32, ← EReal.coe_mul, sum_coe, tl, Head.Z, zero_add]

theorem pay36 : k1_pay36 (F := Ideal) (up2 (tl H.q T 0)) (up2 (tl H.k T 0)) = up2 (tl H.L T T) := by
  refine ext2 fun x y => ?_
  pointwise [k1_pay36]
  rw [mask33, pay35, up2_ix, up2_ix, lneg_coe, tl, tl, sel_L H _ _ _ (by omega)]

theorem pay37 : k1_pay37 (F := Ideal) (up2 (tl H.q T 0)) (up2 fun x _ => H.P (T + x) T) (up2 (tl H.k T 0)) = up2 fun x _ => H.P (T + x) (T + 256) := by
  refine ext2 fun x y => ?_
  pointwise [k1_pay37]
  simp only [pay36, up2_ix, sum_coe, ← EReal.coe_add, tl, Head.P, range_add]

theorem pay38 : k1_pay38 (F := Ideal) (up2 (tl H.q T 0)) (up2 fun x _ => H.tot (T + x)) k1_pay22 (up2 fun x _ => H.P (T + x) T) (up2 (tl H.k T 0)) = up2 (tl H.W T T) := by
  refine ext2 fun x y => ?_
  pointwise [k1_pay38]
  simp only [mask33, pay36, pay35, pay37, pay22, up2_ix, sum_coe, ← EReal.coe_add, ← EReal.coe_sub, ← EReal.coe_mul, tl, Ideal.exp_coe]
  rw [sel_W H _ _ _ y.isLt _ (by omega)]

theorem pay39 : k1_pay39 (F := Ideal) (up2 (tl H.q T 0)) (up2 (tl H.g T 0)) (up2 fun x _ => H.tot (T + x)) k1_pay22 (up2 fun x _ => H.P (T + x) T) (up2 (tl H.k T 0)) (up2 (tl H.v T 0)) = up2 (tl H.G T T) := by
  refine ext2 fun x y => ?_
  pointwise [k1_pay39]
  simp only [pay38, up2_ix, sum_coe, ← EReal.coe_mul, tl, Head.G, zero_add]

theorem pay40 : k1_pay40 (F := Ideal) (up2 (tl H.q T 0)) (up2 (tl H.g T 0)) (up2 fun x _ => H.tot (T + x)) k1_pay21 k1_pay22 (up2 fun x _ => H.P (T + x) T) (up2 (tl H.k T 0)) (up2 (tl H.v T 0))
    = up2 fun x y => ∑ j : Fin 256, H.G (T + x) (T + j.val) * (if j.val < y then (1 : ℝ) else 0) := by
  refine ext2 fun x y => ?_
  pointwise [k1_pay40]
  simp only [pay39, pay21, up2_ix, sum_coe, ← EReal.coe_mul, tl]

theorem pay41 : k1_pay41 (F := Ideal) (up2 fun x _ => H.PG (T + x) T) k1_pay33 (up2 (tl H.Z T T)) (up2 (tl H.L T T)) (up2 (tl H.G T T))
    (up2 fun x y => ∑ j : Fin 256, H.G (T + x) (T + j.val) * (if j.val < y then (1 : ℝ) else 0)) = up2 (tl H.D T T) := by
  refine ext2 fun x y => ?_
  pointwise [k1_pay41]
  simp only [mask33, up2_ix, ← EReal.coe_add, tl, Ideal.exp_coe]
  rw [sel_D H _ _ _ y.isLt _ (by omega)]

theorem pay42 (X : ℕ → ℕ → ℝ) : k1_pay42 (F := Ideal) (up2 (tl H.g T 0)) (up2 (tl H.W T T)) (up2 (tl X T 0)) = up2 fun y d => X (T + y) d + CV H T (T + y) d := by
  refine ext2 fun x y => ?_
  pointwise [k1_pay42]
  simp only [up2_ix, sum_coe, ← EReal.coe_add, ← EReal.coe_mul, tl, CV, zero_add]

theorem pay43 (X : ℕ → ℕ → ℝ) : k1_pay43 (F := Ideal) (up2 (tl H.q T 0)) (up2 fun x _ => H.PG (T + x) T) k1_pay33 (up2 (tl H.Z T T)) (up2 (tl H.L T T)) (up2 (tl H.G T T))
    (up2 fun x y => ∑ j : Fin 256, H.G (T + x) (T + j.val) * (if j.val < y then (1 : ℝ) else 0)) (up2 (tl X T 0)) = up2 fun y d => X (T + y) d + CK H T (T + y) d := by
  refine ext2 fun x y => ?_
  pointwise [k1_pay43]
  simp only [pay41, up2_ix, sum_coe, sc_f32, ← EReal.coe_add, ← EReal.coe_mul, tl, CK, zero_add]

theorem pay44 : k1_pay44 (F := Ideal) (up2 fun x _ => H.PG (T + x) T) (up2 fun x d => sc * ∑ j ∈ Finset.range T, H.D (T + x) j * H.k j d) k1_pay33 (up2 (tl H.k T 0)) (up2 (tl H.Z T T)) (up2 (tl H.L T T)) (up2 (tl H.G T T))
    (up2 fun x y => ∑ j : Fin 256, H.G (T + x) (T + j.val) * (if j.val < y then (1 : ℝ) else 0)) = up2 fun x d => sc * ∑ j ∈ Finset.range (T + 256), H.D (T + x) j * H.k j d := by
  refine ext2 fun x y => ?_
  pointwise [k1_pay44]
  simp only [pay41, up2_ix, sum_coe, sc_f32, ← EReal.coe_add, ← EReal.coe_mul, tl, zero_add]
  rw [← mul_add, range_add (fun j => H.D (T + x.val) j * H.k j y.val)]

theorem pay45 : k1_pay45 (F := Ideal) (up2 fun x _ => H.PG (T + x) T) (up2 (tl H.G T T)) = up2 fun x _ => H.PG (T + x) (T + 256) := by
  refine ext2 fun x y => ?_
  pointwise [k1_pay45]
  simp only [up2_ix, sum_coe, ← EReal.coe_add, tl, Head.PG, range_add]

theorem pay46 : k1_pay46 (F := Ideal) (up2 fun x _ => H.P (T + x) (T + 256)) = up2 fun x _ => H.P (T + (256 + x)) (T + 256) := by
  refine ext2 fun x y => ?_
  pointwise [k1_pay46]
  simp only [up2_ix]

theorem pay47 : k1_pay47 (F := Ideal) (up2 fun x _ => H.PG (T + x) T) (up2 (tl H.G T T)) = up2 fun x _ => H.PG (T + (256 + x)) (T + 256) := by
  refine ext2 fun x y => ?_
  pointwise [k1_pay47]
  simp only [pay45, up2_ix]

theorem pay48 : k1_pay48 (F := Ideal) (up2 fun x _ => H.PG (T + x) T) (up2 fun x d => sc * ∑ j ∈ Finset.range T, H.D (T + x) j * H.k j d) k1_pay33 (up2 (tl H.k T 0)) (up2 (tl H.Z T T)) (up2 (tl H.L T T)) (up2 (tl H.G T T))
    (up2 fun x y => ∑ j : Fin 256, H.G (T + x) (T + j.val) * (if j.val < y then (1 : ℝ) else 0)) = up2 fun x d => sc * ∑ j ∈ Finset.range (T + 256), H.D (T + (256 + x)) j * H.k j d := by
  refine ext2 fun x y => ?_
  pointwise [k1_pay48]
  simp only [pay44, up2_ix]

end tile0

/-- The same with the product inside. -/
theorem sel_D' (t s0 y : ℕ) (hy : y < 256) (p : Prop) [Decidable p] (h : p ↔ s0 + y < t) :
    (if p then ((H.G t (s0 + y) : ℝ) : EReal) - ((Real.exp (H.Z t (s0 + y) + H.L t (s0 + y)) * (H.G t (s0 + y) + (∑ x : Fin 256, H.G t (s0 + x.val) * (if x.val < y then (1 : ℝ) else 0) + H.PG t s0)) : ℝ) : EReal) else 0)
      = (H.D t (s0 + y) : EReal) := by
  rw [← sel_D H t s0 y hy p h, EReal.coe_mul]

/-- The table `f` from row `T + r` and column `s0` on. -/
def tr (T r : ℕ) (f : ℕ → ℕ → ℝ) (s0 x y : ℕ) : ℝ := f (T + (r + x)) (s0 + y)

/-- Rows before the block add nothing to what the block of queries adds to a value's gradient. -/
theorem CV_rows (r n : ℕ) (hr : r + n = 1024) (s d : ℕ) (hs : T + r ≤ s) : ∑ x : Fin n, H.W (T + (r + x.val)) s * H.g (T + (r + x.val)) d = CV H T s d := by
  subst_vars
  unfold CV
  rw [rows_sum (fun x => H.W (T + x) s * H.g (T + x) d) r n fun x hx => by rw [H.W_of_le (by omega), zero_mul]]
  exact (hr ▸ rfl)

/-- Nor to a key's. -/
theorem CK_rows (r n : ℕ) (hr : r + n = 1024) (s d : ℕ) (hs : T + r ≤ s) : sc * ∑ x : Fin n, H.D (T + (r + x.val)) s * H.q (T + (r + x.val)) d = CK H T s d := by
  unfold CK
  rw [rows_sum (fun x => H.D (T + x) s * H.q (T + x) d) r n fun x hx => by rw [H.D_of_le (by omega), zero_mul]]
  exact (hr ▸ rfl)

section tile1

theorem mask49 {α : Type} (x : Fin 768) (y : Fin 256) (a b : α) : Scalar.select (k1_pay49 (ix2 x y)) a b = if y.val < x.val then a else b := by
  pointwise [k1_pay49]
  exact select_lt _ _ (by omega) (by omega) _ _

theorem pay50 (f : ℕ → ℕ → ℝ) : k1_pay50 (F := Ideal) (up2 f) = up2 f := by refine ext2 fun x y => ?_; pointwise [k1_pay50]

theorem pay51 : k1_pay51 (F := Ideal) (up2 (tl H.q T 0)) (up2 (tl H.k (T + 256) 0)) = up2 (tr T 256 H.Z (T + 256)) := by
  refine ext2 fun x y => ?_
  pointwise [k1_pay51]
  simp only [pay50, up2_ix, sc_f32, ← EReal.coe_mul, sum_coe, tl, tr, Head.Z, zero_add]

theorem pay52 : k1_pay52 (F := Ideal) (up2 (tl H.q T 0)) k1_pay49 (up2 (tl H.k (T + 256) 0)) = up2 (tr T 256 H.L (T + 256)) := by
  refine ext2 fun x y => ?_
  pointwise [k1_pay52]
  rw [mask49, pay51, up2_ix, up2_ix, lneg_coe, tr, tr, sel_L H _ _ _ (by omega)]

theorem pay53 : k1_pay53 (F := Ideal) (up2 (tl H.q T 0)) (up2 fun x _ => H.P (T + (256 + x)) (T + 256)) k1_pay49 (up2 (tl H.k (T + 256) 0)) = up2 fun x _ => H.P (T + (256 + x)) (T + 256 + 256) := by
  refine ext2 fun x y => ?_
  pointwise [k1_pay53]
  simp only [pay52, up2_ix, sum_coe, ← EReal.coe_add, tr, Head.P, range_add]

theorem pay54 : k1_pay54 (F := Ideal) (up2 (tl H.q T 0)) (up2 fun x _ => H.tot (T + x)) k1_pay22 (up2 fun x _ => H.P (T + (256 + x)) (T + 256)) k1_pay49 (up2 (tl H.k (T + 256) 0)) = up2 (tr T 256 H.W (T + 256)) := by
  refine ext2 fun x y => ?_
  pointwise [k1_pay54]
  simp only [mask49, pay52, pay51, pay53, pay22, up2_ix, sum_coe, ← EReal.coe_add, ← EReal.coe_sub, ← EReal.coe_mul, tr, Ideal.exp_coe]
  rw [sel_W H _ _ _ y.isLt _ (by omega)]

theorem pay55 : k1_pay55 (F := Ideal) (up2 (tl H.q T 0)) (up2 (tl H.g T 0)) (up2 fun x _ => H.tot (T + x)) k1_pay22 (up2 fun x _ => H.P (T + (256 + x)) (T + 256)) k1_pay49 (up2 (tl H.k (T + 256) 0)) (up2 (tl H.v (T + 256) 0))
    = up2 (tr T 256 H.G (T + 256)) := by
  refine ext2 fun x y => ?_
  pointwise [k1_pay55]
  simp only [pay54, up2_ix, sum_coe, ← EReal.coe_mul, tl, tr, Head.G, zero_add]

theorem pay56 : k1_pay56 (F := Ideal) (up2 (tl H.q T 0)) (up2 (tl H.g T 0)) (up2 fun x _ => H.tot (T + x)) k1_pay21 k1_pay22 (up2 fun x _ => H.P (T + (256 + x)) (T + 256)) (up2 fun x _ => H.PG (T + (256 + x)) (T + 256)) k1_pay49
    (up2 (tl H.k (T + 256) 0)) (up2 (tl H.v (T + 256) 0))
    = up2 fun x y => ∑ j : Fin 256, H.G (T + (256 + x)) (T + 256 + j.val) * (if j.val < y then (1 : ℝ) else 0) + H.PG (T + (256 + x)) (T + 256) := by
  refine ext2 fun x y => ?_
  pointwise [k1_pay56]
  simp only [pay55, pay21, up2_ix, sum_coe, ← EReal.coe_mul, ← EReal.coe_add, tr]

theorem pay57 : k1_pay57 (F := Ideal) (up2 (tl H.q T 0)) k1_pay49 (up2 (tl H.k (T + 256) 0)) = up2 fun x y => H.Z (T + (256 + x)) (T + 256 + y) + H.L (T + (256 + x)) (T + 256 + y) := by
  refine ext2 fun x y => ?_
  pointwise [k1_pay57]
  simp only [pay51, pay52, up2_ix, ← EReal.coe_add, tr]

/-- The sum of `G` before a key, as this block's payload hands it on. -/
abbrev bef1 : FVec Ideal S768x256 .f32 := up2 fun x y => ∑ j : Fin 256, H.G (T + (256 + x)) (T + 256 + j.val) * (if j.val < y then (1 : ℝ) else 0) + H.PG (T + (256 + x)) (T + 256)
/-- The logarithm of the logistic function of the score. -/
abbrev lsg1 : FVec Ideal S768x256 .f32 := up2 fun x y => H.Z (T + (256 + x)) (T + 256 + y) + H.L (T + (256 + x)) (T + 256 + y)

theorem pay58 : k1_pay58 (F := Ideal) k1_pay49 (up2 (tr T 256 H.G (T + 256))) (bef1 H T) (lsg1 H T) = up2 (tr T 256 H.D (T + 256)) := by
  refine ext2 fun x y => ?_
  pointwise [k1_pay58]
  simp only [mask49, up2_ix, ← EReal.coe_add, tr, Ideal.exp_coe]
  rw [sel_D H _ _ _ y.isLt _ (by omega)]

theorem pay59 (X : ℕ → ℕ → ℝ) : k1_pay59 (F := Ideal) (up2 (tl H.g T 0)) (up2 (tr T 256 H.W (T + 256))) (up2 (tl X (T + 256) 0)) = up2 fun y d => X (T + 256 + y) d + CV H T (T + 256 + y) d := by
  refine ext2 fun x y => ?_
  pointwise [k1_pay59]
  simp only [up2_ix, sum_coe, ← EReal.coe_add, ← EReal.coe_mul, tl, tr, zero_add]
  rw [CV_rows H T 256 768 rfl _ _ (by omega)]

theorem pay60 (X : ℕ → ℕ → ℝ) : k1_pay60 (F := Ideal) (up2 (tl H.q T 0)) k1_pay49 (up2 (tr T 256 H.G (T + 256))) (bef1 H T) (lsg1 H T) (up2 (tl X (T + 256) 0)) = up2 fun y d => X (T + 256 + y) d + CK H T (T + 256 + y) d := by
  refine ext2 fun x y => ?_
  pointwise [k1_pay60]
  simp only [pay58, up2_ix, sum_coe, sc_f32, ← EReal.coe_add, ← EReal.coe_mul, tl, tr, zero_add]
  rw [CK_rows H T 256 768 rfl _ _ (by omega)]

theorem pay61 : k1_pay61 (F := Ideal) (up2 fun x _ => H.P (T + x) (T + 256)) (up2 fun x _ => H.P (T + (256 + x)) (T + 256 + 256)) = up2 fun x _ => H.P (T + x) (T + 256 + 256) := by
  refine ext2 fun x y => ?_
  pointwise [k1_pay61]
  by_cases h : x.val < 256
  · rw [dif_pos h, up2_ix, up2_ix, H.P_of_le (by omega), H.P_of_le (by omega)]
  · rw [dif_neg h, up2_ix, up2_ix]
    simp only [show 256 + (x.val - 256) = x.val from by omega]

theorem pay62 : k1_pay62 (F := Ideal) (up2 fun x _ => H.PG (T + x) (T + 256)) (up2 fun x _ => H.PG (T + (256 + x)) (T + 256)) (up2 (tr T 256 H.G (T + 256))) = up2 fun x _ => H.PG (T + x) (T + 256 + 256) := by
  refine ext2 fun x y => ?_
  pointwise [k1_pay62]
  by_cases h : x.val < 256
  · rw [dif_pos h, up2_ix, up2_ix, H.PG_of_le (n := T + 256) (by omega), H.PG_of_le (n := T + 256 + 256) (by omega)]
  · rw [dif_neg h]
    simp only [up2_ix, sum_coe, ← EReal.coe_add, tr, Head.PG, range_add, show 256 + (x.val - 256) = x.val from by omega]

theorem pay63 : k1_pay63 (F := Ideal) (up2 fun x d => sc * ∑ j ∈ Finset.range (T + 256), H.D (T + x) j * H.k j d) (up2 fun x d => sc * ∑ j ∈ Finset.range (T + 256), H.D (T + (256 + x)) j * H.k j d) k1_pay49
    (up2 (tl H.k (T + 256) 0)) (up2 (tr T 256 H.G (T + 256))) (bef1 H T) (lsg1 H T) = up2 fun x d => sc * ∑ j ∈ Finset.range (T + 256 + 256), H.D (T + x) j * H.k j d := by
  refine ext2 fun x y => ?_
  pointwise [k1_pay63]
  by_cases h : x.val < 256
  · rw [dif_pos h, up2_ix, up2_ix, H.DQ_of_le (n := T + 256) _ (by omega), H.DQ_of_le (n := T + 256 + 256) _ (by omega)]
  · rw [dif_neg h]
    simp only [pay58, up2_ix, sum_coe, sc_f32, ← EReal.coe_add, ← EReal.coe_mul, tl, tr, zero_add, show 256 + (x.val - 256) = x.val from by omega]
    rw [← mul_add, range_add (fun j => H.D (T + x.val) j * H.k j y.val)]

theorem pay64 : k1_pay64 (F := Ideal) (up2 fun x _ => H.P (T + x) (T + 256)) (up2 fun x _ => H.P (T + (256 + x)) (T + 256 + 256)) = up2 fun x _ => H.P (T + (512 + x)) (T + 256 + 256) := by
  refine ext2 fun x y => ?_
  pointwise [k1_pay64]
  simp only [pay61, up2_ix]

theorem pay65 : k1_pay65 (F := Ideal) (up2 fun x _ => H.PG (T + x) (T + 256)) (up2 fun x _ => H.PG (T + (256 + x)) (T + 256)) (up2 (tr T 256 H.G (T + 256))) = up2 fun x _ => H.PG (T + (512 + x)) (T + 256 + 256) := by
  refine ext2 fun x y => ?_
  pointwise [k1_pay65]
  simp only [pay62, up2_ix]

theorem pay66 : k1_pay66 (F := Ideal) (up2 fun x d => sc * ∑ j ∈ Finset.range (T + 256), H.D (T + x) j * H.k j d) (up2 fun x d => sc * ∑ j ∈ Finset.range (T + 256), H.D (T + (256 + x)) j * H.k j d) k1_pay49
    (up2 (tl H.k (T + 256) 0)) (up2 (tr T 256 H.G (T + 256))) (bef1 H T) (lsg1 H T) = up2 fun x d => sc * ∑ j ∈ Finset.range (T + 256 + 256), H.D (T + (512 + x)) j * H.k j d := by
  refine ext2 fun x y => ?_
  pointwise [k1_pay66]
  simp only [pay63, up2_ix]

end tile1

section tile2

/-- The numbers of the columns of the third tile. -/
def cols2 : IVec S512x256 32 := iota .tc S512x256 32 [1] iota_S512x256_d1_w32

theorem mask67 {α : Type} (x : Fin 512) (y : Fin 256) (a b : α) : Scalar.select (k1_pay67 cols2 (ix2 x y)) a b = if y.val < x.val then a else b := by
  pointwise [k1_pay67, cols2]
  exact select_lt _ _ (by omega) (by omega) _ _

theorem pay68 (f : ℕ → ℕ → ℝ) : k1_pay68 (F := Ideal) (up2 f) = up2 f := by refine ext2 fun x y => ?_; pointwise [k1_pay68]

theorem pay69 : k1_pay69 (F := Ideal) (up2 (tl H.q T 0)) (up2 (tl H.k (T + 256 + 256) 0)) = up2 (tr T 512 H.Z (T + 256 + 256)) := by
  refine ext2 fun x y => ?_
  pointwise [k1_pay69]
  simp only [pay68, up2_ix, sc_f32, ← EReal.coe_mul, sum_coe, tl, tr, Head.Z, zero_add]

theorem pay70 : k1_pay70 (F := Ideal) (up2 (tl H.q T 0)) cols2 (up2 (tl H.k (T + 256 + 256) 0)) = up2 (tr T 512 H.L (T + 256 + 256)) := by
  refine ext2 fun x y => ?_
  pointwise [k1_pay70]
  rw [mask67, pay69, up2_ix, up2_ix, lneg_coe, tr, tr, sel_L H _ _ _ (by omega)]

theorem pay71 : k1_pay71 (F := Ideal) (up2 (tl H.q T 0)) (up2 fun x _ => H.P (T + (512 + x)) (T + 256 + 256)) cols2 (up2 (tl H.k (T + 256 + 256) 0)) = up2 fun x _ => H.P (T + (512 + x)) (T + 256 + 256 + 256) := by
  refine ext2 fun x y => ?_
  pointwise [k1_pay71]
  simp only [pay70, up2_ix, sum_coe, ← EReal.coe_add, tr, Head.P, range_add]

theorem pay72 : k1_pay72 (F := Ideal) (up2 (tl H.q T 0)) (up2 fun x _ => H.tot (T + x)) k1_pay22 (up2 fun x _ => H.P (T + (512 + x)) (T + 256 + 256)) cols2 (up2 (tl H.k (T + 256 + 256) 0)) = up2 (tr T 512 H.W (T + 256 + 256)) := by
  refine ext2 fun x y => ?_
  pointwise [k1_pay72]
  simp only [mask67, pay69, pay70, pay71, pay22, up2_ix, sum_coe, ← EReal.coe_add, ← EReal.coe_sub, ← EReal.coe_mul, tr, Ideal.exp_coe]
  rw [sel_W H _ _ _ y.isLt _ (by omega)]

theorem pay73 : k1_pay73 (F := Ideal) (up2 (tl H.q T 0)) (up2 (tl H.g T 0)) (up2 fun x _ => H.tot (T + x)) k1_pay22 (up2 fun x _ => H.P (T + (512 + x)) (T + 256 + 256)) cols2 (up2 (tl H.k (T + 256 + 256) 0)) (up2 (tl H.v (T + 256 + 256) 0))
    = up2 (tr T 512 H.G (T + 256 + 256)) := by
  refine ext2 fun x y => ?_
  pointwise [k1_pay73]
  simp only [pay72, up2_ix, sum_coe, ← EReal.coe_mul, tl, tr, Head.G, zero_add]

theorem pay74 : k1_pay74 (F := Ideal) (up2 (tl H.q T 0)) (up2 (tl H.g T 0)) (up2 fun x _ => H.tot (T + x)) k1_pay22 (up2 fun x _ => H.P (T + (512 + x)) (T + 256 + 256)) cols2 (up2 (tl H.k (T + 256 + 256) 0)) (up2 (tl H.v (T + 256 + 256) 0))
    = up2 (tr T 512 H.G (T + 256 + 256)) := by
  refine ext2 fun x y => ?_
  pointwise [k1_pay74]
  simp only [pay73]

theorem pay75 : k1_pay75 (F := Ideal) k1_pay21 (up2 fun x _ => H.PG (T + (512 + x)) (T + 256 + 256)) (k1_pay67 cols2) (up2 (tr T 512 H.Z (T + 256 + 256))) (up2 (tr T 512 H.L (T + 256 + 256))) (up2 (tr T 512 H.G (T + 256 + 256))) (up2 (tr T 512 H.G (T + 256 + 256)))
    = up2 (tr T 512 H.D (T + 256 + 256)) := by
  refine ext2 fun x y => ?_
  pointwise [k1_pay75]
  simp only [mask67, pay21, up2_ix, sum_coe, ← EReal.coe_add, ← EReal.coe_mul, tr, Ideal.exp_coe]
  rw [sel_D' H _ _ _ y.isLt _ (by omega)]

theorem pay76 (X : ℕ → ℕ → ℝ) : k1_pay76 (F := Ideal) (up2 (tl H.g T 0)) (up2 (tr T 512 H.W (T + 256 + 256))) (up2 (tl X (T + 256 + 256) 0)) = up2 fun y d => X (T + 256 + 256 + y) d + CV H T (T + 256 + 256 + y) d := by
  refine ext2 fun x y => ?_
  pointwise [k1_pay76]
  simp only [up2_ix, sum_coe, ← EReal.coe_add, ← EReal.coe_mul, tl, tr, zero_add]
  rw [CV_rows H T 512 512 rfl _ _ (by omega)]

theorem pay77 (X : ℕ → ℕ → ℝ) : k1_pay77 (F := Ideal) (up2 (tl H.q T 0)) k1_pay21 (up2 fun x _ => H.PG (T + (512 + x)) (T + 256 + 256)) (k1_pay67 cols2) (up2 (tr T 512 H.Z (T + 256 + 256))) (up2 (tr T 512 H.L (T + 256 + 256))) (up2 (tr T 512 H.G (T + 256 + 256))) (up2 (tr T 512 H.G (T + 256 + 256)))
    (up2 (tl X (T + 256 + 256) 0)) = up2 fun y d => X (T + 256 + 256 + y) d + CK H T (T + 256 + 256 + y) d := by
  refine ext2 fun x y => ?_
  pointwise [k1_pay77]
  simp only [pay75, up2_ix, sum_coe, sc_f32, ← EReal.coe_add, ← EReal.coe_mul, tl, tr, zero_add]
  rw [CK_rows H T 512 512 rfl _ _ (by omega)]

theorem pay78 : k1_pay78 (F := Ideal) (up2 fun x _ => H.P (T + x) (T + 256 + 256)) (up2 fun x _ => H.P (T + (512 + x)) (T + 256 + 256 + 256)) = up2 fun x _ => H.P (T + x) (T + 256 + 256 + 256) := by
  refine ext2 fun x y => ?_
  pointwise [k1_pay78]
  by_cases h : x.val < 512
  · rw [dif_pos h, up2_ix, up2_ix, H.P_of_le (by omega), H.P_of_le (by omega)]
  · rw [dif_neg h, up2_ix, up2_ix]
    simp only [show 512 + (x.val - 512) = x.val from by omega]

theorem pay79 : k1_pay79 (F := Ideal) (up2 fun x _ => H.PG (T + x) (T + 256 + 256)) (up2 fun x _ => H.PG (T + (512 + x)) (T + 256 + 256)) (up2 (tr T 512 H.G (T + 256 + 256))) = up2 fun x _ => H.PG (T + x) (T + 256 + 256 + 256) := by
  refine ext2 fun x y => ?_
  pointwise [k1_pay79]
  by_cases h : x.val < 512
  · rw [dif_pos h, up2_ix, up2_ix, H.PG_of_le (n := T + 256 + 256) (by omega), H.PG_of_le (n := T + 256 + 256 + 256) (by omega)]
  · rw [dif_neg h]
    simp only [up2_ix, sum_coe, ← EReal.coe_add, tr, Head.PG, range_add, show 512 + (x.val - 512) = x.val from by omega]

theorem pay80 : k1_pay80 (F := Ideal) k1_pay21 (up2 fun x d => sc * ∑ j ∈ Finset.range (T + 256 + 256), H.D (T + x) j * H.k j d) (up2 fun x _ => H.PG (T + (512 + x)) (T + 256 + 256))
    (up2 fun x d => sc * ∑ j ∈ Finset.range (T + 256 + 256), H.D (T + (512 + x)) j * H.k j d) (k1_pay67 cols2) (up2 (tl H.k (T + 256 + 256) 0)) (up2 (tr T 512 H.Z (T + 256 + 256))) (up2 (tr T 512 H.L (T + 256 + 256))) (up2 (tr T 512 H.G (T + 256 + 256))) (up2 (tr T 512 H.G (T + 256 + 256)))
    = up2 fun x d => sc * ∑ j ∈ Finset.range (T + 256 + 256 + 256), H.D (T + x) j * H.k j d := by
  refine ext2 fun x y => ?_
  pointwise [k1_pay80]
  by_cases h : x.val < 512
  · rw [dif_pos h, up2_ix, up2_ix, H.DQ_of_le (n := T + 256 + 256) _ (by omega), H.DQ_of_le (n := T + 256 + 256 + 256) _ (by omega)]
  · rw [dif_neg h]
    simp only [pay75, up2_ix, sum_coe, sc_f32, ← EReal.coe_add, ← EReal.coe_mul, tl, tr, zero_add, show 512 + (x.val - 512) = x.val from by omega]
    rw [← mul_add, range_add (fun j => H.D (T + x.val) j * H.k j y.val)]

theorem pay81 : k1_pay81 (F := Ideal) (up2 fun x _ => H.PG (T + x) (T + 256 + 256 + 256)) = up2 fun x _ => H.PG (T + (768 + x)) (T + 256 + 256 + 256) := by
  refine ext2 fun x y => ?_
  pointwise [k1_pay81]
  simp only [up2_ix]

theorem pay82 : k1_pay82 (F := Ideal) (up2 fun x d => sc * ∑ j ∈ Finset.range (T + 256 + 256 + 256), H.D (T + x) j * H.k j d) = up2 fun x d => sc * ∑ j ∈ Finset.range (T + 256 + 256 + 256), H.D (T + (768 + x)) j * H.k j d := by
  refine ext2 fun x y => ?_
  pointwise [k1_pay82]
  simp only [up2_ix]

end tile2

section tile3

theorem mask83 {α : Type} (x y : Fin 256) (a b : α) : Scalar.select (k1_pay83 (ix2 x y)) a b = if y.val < x.val then a else b := by
  pointwise [k1_pay83]
  exact select_lt _ _ (by omega) (by omega) _ _

theorem pay84 (f : ℕ → ℕ → ℝ) : k1_pay84 (F := Ideal) (up2 f) = up2 f := by refine ext2 fun x y => ?_; pointwise [k1_pay84]

theorem pay85 (f : ℕ → ℕ → ℝ) : k1_pay85 (F := Ideal) (up2 f) = up2 f := by refine ext2 fun x y => ?_; pointwise [k1_pay85]

theorem pay86 : k1_pay86 (F := Ideal) (up2 (tl H.q T 0)) (up2 (tl H.k (T + 256 + 256 + 256) 0)) = up2 (tr T 768 H.Z (T + 256 + 256 + 256)) := by
  refine ext2 fun x y => ?_
  pointwise [k1_pay86]
  simp only [pay84, up2_ix, sc_f32, ← EReal.coe_mul, sum_coe, tl, tr, Head.Z, zero_add]

theorem pay87 : k1_pay87 (F := Ideal) (up2 (tl H.q T 0)) (up2 (tl H.k (T + 256 + 256 + 256) 0)) = up2 (tr T 768 H.L (T + 256 + 256 + 256)) := by
  refine ext2 fun x y => ?_
  pointwise [k1_pay87]
  rw [mask83, pay86, up2_ix, up2_ix, lneg_coe, tr, tr, sel_L H _ _ _ (by omega)]

theorem pay88 : k1_pay88 (F := Ideal) (up2 (tl H.q T 0)) (up2 fun x _ => H.tot (T + x)) k1_pay22 (up2 fun x _ => H.P (T + x) (T + 256 + 256 + 256)) (up2 (tl H.k (T + 256 + 256 + 256) 0)) = up2 (tr T 768 H.W (T + 256 + 256 + 256)) := by
  refine ext2 fun x y => ?_
  pointwise [k1_pay88]
  simp only [mask83, pay86, pay87, pay22, up2_ix, sum_coe, ← EReal.coe_add, ← EReal.coe_sub, ← EReal.coe_mul, tr, Ideal.exp_coe, Head.P, range_add]
  have h := sel_W H (T + (768 + x.val)) (T + 256 + 256 + 256) y.val y.isLt (y.val < x.val) (by omega)
  simp only [Head.P, range_add] at h
  exact h

theorem pay89 : k1_pay89 (F := Ideal) (up2 (tl H.g T 0)) k1_pay21 (up2 fun x _ => H.PG (T + (768 + x)) (T + 256 + 256 + 256)) k1_pay83 (up2 (tl H.v (T + 256 + 256 + 256) 0)) (up2 (tr T 768 H.Z (T + 256 + 256 + 256))) (up2 (tr T 768 H.L (T + 256 + 256 + 256))) (up2 (tr T 768 H.W (T + 256 + 256 + 256)))
    = up2 (tr T 768 H.D (T + 256 + 256 + 256)) := by
  refine ext2 fun x y => ?_
  pointwise [k1_pay89]
  simp only [mask83, pay21, up2_ix, sum_coe, ← EReal.coe_add, ← EReal.coe_mul, tr, tl, Ideal.exp_coe, zero_add]
  have h := sel_D' H (T + (768 + x.val)) (T + 256 + 256 + 256) y.val y.isLt (y.val < x.val) (by omega)
  simp only [Head.G] at h
  exact h

theorem pay90 (X : ℕ → ℕ → ℝ) : k1_pay90 (F := Ideal) (up2 (tl H.g T 0)) (up2 (tr T 768 H.W (T + 256 + 256 + 256))) (up2 (tl X (T + 256 + 256 + 256) 0)) = up2 fun y d => X (T + 256 + 256 + 256 + y) d + CV H T (T + 256 + 256 + 256 + y) d := by
  refine ext2 fun x y => ?_
  pointwise [k1_pay90]
  simp only [up2_ix, sum_coe, ← EReal.coe_add, ← EReal.coe_mul, tl, tr, zero_add]
  rw [CV_rows H T 768 256 rfl _ _ (by omega)]

theorem pay91 (X : ℕ → ℕ → ℝ) : k1_pay91 (F := Ideal) (up2 (tl H.q T 0)) (up2 (tl H.g T 0)) k1_pay21 (up2 fun x _ => H.PG (T + (768 + x)) (T + 256 + 256 + 256)) k1_pay83 (up2 (tl H.v (T + 256 + 256 + 256) 0)) (up2 (tr T 768 H.Z (T + 256 + 256 + 256))) (up2 (tr T 768 H.L (T + 256 + 256 + 256)))
    (up2 (tr T 768 H.W (T + 256 + 256 + 256))) (up2 (tl X (T + 256 + 256 + 256) 0)) = up2 fun y d => X (T + 256 + 256 + 256 + y) d + CK H T (T + 256 + 256 + 256 + y) d := by
  refine ext2 fun x y => ?_
  pointwise [k1_pay91]
  simp only [pay89, up2_ix, sum_coe, sc_f32, ← EReal.coe_add, ← EReal.coe_mul, tl, tr, zero_add]
  rw [CK_rows H T 768 256 rfl _ _ (by omega)]

theorem pay92 : k1_pay92 (F := Ideal) (up2 (tl H.g T 0)) k1_pay21 (up2 fun x _ => H.PG (T + (768 + x)) (T + 256 + 256 + 256)) (up2 fun x d => sc * ∑ j ∈ Finset.range (T + 256 + 256 + 256), H.D (T + (768 + x)) j * H.k j d) k1_pay83 (up2 (tl H.k (T + 256 + 256 + 256) 0))
    (up2 (tl H.v (T + 256 + 256 + 256) 0)) (up2 (tr T 768 H.Z (T + 256 + 256 + 256))) (up2 (tr T 768 H.L (T + 256 + 256 + 256))) (up2 (tr T 768 H.W (T + 256 + 256 + 256)))
    = up2 fun x d => sc * ∑ j ∈ Finset.range (T + 256 + 256 + 256 + 256), H.D (T + (768 + x)) j * H.k j d := by
  refine ext2 fun x y => ?_
  pointwise [k1_pay92]
  simp only [pay89, up2_ix, sum_coe, sc_f32, ← EReal.coe_add, ← EReal.coe_mul, tl, tr, zero_add]
  rw [← mul_add, range_add (fun j => H.D (T + (768 + x.val)) j * H.k j y.val)]

theorem pay1 : k1_pay1 (F := Ideal) (up2 fun x d => sc * ∑ j ∈ Finset.range (T + 256 + 256 + 256), H.D (T + x) j * H.k j d) (up2 fun x d => sc * ∑ j ∈ Finset.range (T + 256 + 256 + 256 + 256), H.D (T + (768 + x)) j * H.k j d)
    = up2 fun x d => sc * ∑ j ∈ Finset.range (T + x), H.D (T + x) j * H.k j d := by
  refine ext2 fun x y => ?_
  pointwise [k1_pay1]
  by_cases h : x.val < 768
  · rw [dif_pos h, up2_ix, up2_ix, H.DQ_of_le (n := T + 256 + 256 + 256) _ (by omega)]
  · rw [dif_neg h, up2_ix, up2_ix]
    simp only [show 768 + (x.val - 768) = x.val from by omega]
    rw [H.DQ_of_le (n := T + 256 + 256 + 256 + 256) _ (by omega)]

end tile3
end Cert.AttnKernelIdeal.RefValue
end
-- ==== Proof.AttnFwdTile.lean ====
/- The blocks of keys as the attention's forward kernel handles them, from the last that a block of 2048 queries sees to the
   first: the row's sum of logarithms and its output grow from the end. -/
module

public import proofs.«01_k».proof.Proof.AttnDiag

@[expose] public section

set_option maxRecDepth 16384

noncomputable section

namespace Cert.Attn
open Idealize.ShloMosaic Cert.Reals

/-- The sum of `L` from key `n` on. -/
def Head.car (H : Head) (t n : ℕ) : ℝ := H.tot t - H.P t n
/-- The output, column `d`, from key `n` on. -/
def Head.O (H : Head) (t n d : ℕ) : ℝ := ∑ j ∈ Finset.range t, H.W t j * H.v j d - ∑ j ∈ Finset.range n, H.W t j * H.v j d

variable (H : Head)

theorem Head.car_of_le {t n : ℕ} (h : t ≤ n) : H.car t n = 0 := by rw [Head.car, H.P_of_le h, sub_self]

theorem Head.O_of_le {t n : ℕ} (d : ℕ) (h : t ≤ n) : H.O t n d = 0 := by
  rw [Head.O, sub_eq_zero]
  refine Finset.sum_subset (Finset.range_mono h) fun j _ hj => ?_
  rw [H.W_of_le (by simpa using hj), zero_mul]

theorem car_step (t s0 n : ℕ) (hn : n = s0 + 256) : H.car t n + ∑ x : Fin 256, H.L t (s0 + x.val) = H.car t s0 := by
  subst hn
  rw [Head.car, Head.car, Head.P, Head.P, ← range_add (H.L t) s0 256]
  ring

theorem O_step (t s0 n d : ℕ) (hn : n = s0 + 256) : H.O t n d + ∑ x : Fin 256, H.W t (s0 + x.val) * H.v (s0 + x.val) d = H.O t s0 d := by
  subst hn
  rw [Head.O, Head.O, ← range_add (fun j => H.W t j * H.v j d) s0 256]
  ring

/-- The weights of a block times the values, under the mask. -/
theorem wv (t n s0 d : ℕ) (p : Fin 256 → Prop) [DecidablePred p] (hn : n = s0 + 256) (hp : ∀ y : Fin 256, p y ↔ s0 + y.val < t) :
    ∑ y : Fin 256, (if p y then ((Real.exp (H.Z t (s0 + y.val) + H.L t (s0 + y.val) + ∑ x : Fin 256, H.L t (s0 + x.val) * (if y.val < x.val then (1 : ℝ) else 0) + H.car t n) * H.v (s0 + y.val) d : ℝ) : EReal) else 0)
      = ((∑ y : Fin 256, H.W t (s0 + y.val) * H.v (s0 + y.val) d : ℝ) : EReal) := by
  subst hn
  rw [← sum_coe]
  refine Finset.sum_congr rfl fun y _ => ?_
  rw [Head.car, Cert.AttnKernelIdeal.RefValue.expo H _ _ _ y.isLt]
  by_cases h : p y
  · rw [if_pos h, Head.W, if_pos ((hp y).1 h)]
  · rw [if_neg h, Head.W, if_neg fun q => h ((hp y).2 q), zero_mul, EReal.coe_zero]

/-- A block's new sum: the rows before it have none, the others add the block's `L`. -/
theorem car_rows (T R x s0 n : ℕ) (hx : x < 2048) (hs : s0 = T + R) (hn : n = s0 + 256) :
    (if h : x < R then ((H.car (T + x) n : ℝ) : EReal) else ((H.car (T + (R + (x - R))) n : ℝ) : EReal) + ((∑ y : Fin 256, H.L (T + (R + (x - R))) (s0 + y.val) : ℝ) : EReal)) = ((H.car (T + x) s0 : ℝ) : EReal) := by
  by_cases h : x < R
  · rw [dif_pos h, H.car_of_le (by omega), H.car_of_le (by omega)]
  · rw [dif_neg h, show R + (x - R) = x by omega, ← EReal.coe_add, car_step H _ _ _ hn]

/-- And its new output. -/
theorem O_rows (T R x s0 n d : ℕ) (hx : x < 2048) (hs : s0 = T + R) (hn : n = s0 + 256) :
    (if h : x < R then ((H.O (T + x) n d : ℝ) : EReal) else ((H.O (T + (R + (x - R))) n d : ℝ) : EReal)
      + ((∑ y : Fin 256, H.W (T + (R + (x - R))) (s0 + y.val) * H.v (s0 + y.val) d : ℝ) : EReal)) = ((H.O (T + x) s0 d : ℝ) : EReal) := by
  by_cases h : x < R
  · rw [dif_pos h, H.O_of_le _ (by omega), H.O_of_le _ (by omega)]
  · rw [dif_neg h, show R + (x - R) = x by omega, ← EReal.coe_add, O_step H _ _ _ _ hn]

/-- The same with the block's weights still to be put together. -/
theorem O_rows' (T R x s0 n d : ℕ) (hx : x < 2048) (hs : s0 = T + R) (hn : n = s0 + 256) :
    (if h : x < R then ((H.O (T + x) n d : ℝ) : EReal) else ((H.O (T + (R + (x - R))) n d : ℝ) : EReal)
      + ∑ y : Fin 256, (if y.val < x - R then ((Real.exp (H.Z (T + (R + (x - R))) (s0 + y.val) + H.L (T + (R + (x - R))) (s0 + y.val) + ∑ x' : Fin 256, H.L (T + (R + (x - R))) (s0 + x'.val) * (if y.val < x'.val then (1 : ℝ) else 0)
        + H.car (T + (R + (x - R))) n) * H.v (s0 + y.val) d : ℝ) : EReal) else 0)) = ((H.O (T + x) s0 d : ℝ) : EReal) := by
  by_cases h : x < R
  · rw [dif_pos h, H.O_of_le _ (by omega), H.O_of_le _ (by omega)]
  · rw [dif_neg h, wv H _ _ _ _ _ hn (by omega), show R + (x - R) = x by omega, ← EReal.coe_add, O_step H _ _ _ _ hn]

end Cert.Attn

namespace Cert.AttnKernelIdeal.Fwd

open Cert.AttnKernelIdeal Cert.AttnKernelIdeal.Gen Idealize.ShloMosaic Idealize.ShloMosaic.TcCoe Idealize.SL.Sem
open Cert.Reals Cert.Attn
open Cert.AttnKernelIdeal.RefValue (tl tr select_lt sel_L expo)

variable (H : Head) (T : ℕ)

/-- The sums of `L` from key `T + n` on, for the queries from `T + r`. -/
abbrev cr {a b : ℕ} (r n : ℕ) : (⟨2, ![a, b]⟩ : Shape).Idx → EReal := up2 fun x _ => H.car (T + (r + x)) (T + n)
/-- The outputs from key `T + n` on. -/
abbrev ot {a b : ℕ} (r n : ℕ) : (⟨2, ![a, b]⟩ : Shape).Idx → EReal := up2 fun x d => H.O (T + (r + x)) (T + n) d
/-- The same for all 2048 queries. -/
abbrev cr0 {a b : ℕ} (n : ℕ) : (⟨2, ![a, b]⟩ : Shape).Idx → EReal := up2 fun x _ => H.car (T + x) (T + n)
abbrev ot0 {a b : ℕ} (n : ℕ) : (⟨2, ![a, b]⟩ : Shape).Idx → EReal := up2 fun x d => H.O (T + x) (T + n) d
abbrev Q : FVec Ideal S2048x128 .bf16 := up2 (tl H.q T 0)
abbrev K (r : ℕ) : FVec Ideal S256x128 .bf16 := up2 (tl H.k (T + r) 0)
abbrev V (r : ℕ) : FVec Ideal S256x128 .bf16 := up2 (tl H.v (T + r) 0)

theorem pay13 (f : ℕ → ℕ → ℝ) : k0_pay13 (F := Ideal) (up2 f) = up2 f := by refine ext2 fun x y => ?_; pointwise [k0_pay13]
theorem pay14 : k0_pay14 (F := Ideal) = up2 fun x y => if y < x then 1 else 0 := by
  refine ext2 fun x y => ?_
  pointwise [k0_pay14]
  have h0 : x.val < 256 := x.isLt
  have h1 : y.val < 256 := y.isLt
  rw [WordCmp.cmpi_sgt_ofNat (by omega) (by omega), WordCmp.select_decide, up2_ix]
  split <;> simp
theorem pay15 : k0_pay15 (F := Ideal) = cr0 H T 2048 := by
  refine ext2 fun x y => ?_; pointwise [k0_pay15]; simp only [up2_ix]; rw [H.car_of_le (by omega), EReal.coe_zero]
theorem pay16 : k0_pay16 (F := Ideal) = ot0 H T 2048 := by
  refine ext2 fun x y => ?_; pointwise [k0_pay16]; simp only [up2_ix]; rw [H.O_of_le _ (by omega), EReal.coe_zero]

section tile7
theorem pay17 (f : ℕ → ℕ → ℝ) : k0_pay17 (F := Ideal) (up2 f) = up2 f := by refine ext2 fun x y => ?_; pointwise [k0_pay17]
theorem pay18 : k0_pay18 (F := Ideal) = cr H T 1792 2048 := by
  refine ext2 fun x y => ?_; pointwise [k0_pay18]; simp only [pay15 H T, up2_ix]
theorem pay19 : k0_pay19 (F := Ideal) = ot H T 1792 2048 := by
  refine ext2 fun x y => ?_; pointwise [k0_pay19]; simp only [pay16 H T, up2_ix]
theorem mask20 {α : Type} (x y : Fin 256) (a b : α) : Scalar.select (k0_pay20 (ix2 x y)) a b = if y.val < x.val then a else b := by
  pointwise [k0_pay20]
  exact select_lt _ _ (by omega) (by omega) _ _
theorem pay21 : k0_pay21 (F := Ideal) (Q H T) (K H T 1792) = up2 (tr T 1792 H.Z (T + 1792)) := by
  refine ext2 fun x y => ?_
  pointwise [k0_pay21]
  simp only [pay13, up2_ix, sc_f32, ← EReal.coe_mul, sum_coe, tl, tr, Head.Z, zero_add]
theorem pay24 : k0_pay24 (F := Ideal) k0_pay20 (k0_pay22 (Q H T) (K H T 1792)) k0_pay23 = up2 (tr T 1792 H.L (T + 1792)) := by
  refine ext2 fun x y => ?_
  pointwise [k0_pay24, k0_pay22, k0_pay23]
  rw [mask20, pay21, up2_ix, up2_ix, lneg_coe, tr, tr, sel_L H _ _ _ (by omega)]
theorem pay25 : k0_pay25 (F := Ideal) (cr0 H T 2048) (cr H T 1792 2048) k0_pay20 (k0_pay22 (Q H T) (K H T 1792)) k0_pay23 = cr0 H T 1792 := by
  refine ext2 fun x y => ?_
  pointwise [k0_pay25]
  simp only [pay24, up2_ix, sum_coe, tr]
  exact car_rows H T 1792 _ _ _ (by omega) rfl (by omega)
theorem pay26 : k0_pay26 (F := Ideal) k0_pay14 (ot0 H T 2048) (V H T 1792) (cr H T 1792 2048) (ot H T 1792 2048) k0_pay20 (up2 (tr T 1792 H.Z (T + 1792))) (k0_pay22 (Q H T) (K H T 1792)) k0_pay23 = ot0 H T 1792 := by
  refine ext2 fun x y => ?_
  generalize e8 : k0_pay14 (F := Ideal) = v8
  generalize em : k0_pay20 = m
  generalize e22 : k0_pay22 (F := Ideal) (Q H T) (K H T 1792) = v22
  generalize e23 : k0_pay23 (F := Ideal) = v23
  pointwise [k0_pay26]
  subst e8 em e22 e23
  simp only [pay24, pay14, mask20, up2_ix, sum_coe, ← EReal.coe_add, ← EReal.coe_mul, tl, tr, Ideal.exp_coe, zero_add]
  exact O_rows' H T 1792 _ _ _ _ (by omega) rfl (by omega)
end tile7

section tile6
theorem pay27 (f : ℕ → ℕ → ℝ) : k0_pay27 (F := Ideal) (up2 f) = up2 f := by refine ext2 fun x y => ?_; pointwise [k0_pay27]
theorem pay28 : k0_pay28 (F := Ideal) (cr0 H T 2048) (cr H T 1792 2048) k0_pay20 (k0_pay22 (Q H T) (K H T 1792)) k0_pay23 = cr H T 1536 1792 := by
  refine ext2 fun x y => ?_
  pointwise [k0_pay28]
  simp only [pay25, up2_ix]
theorem pay29 : k0_pay29 (F := Ideal) k0_pay14 (ot0 H T 2048) (V H T 1792) (cr H T 1792 2048) (ot H T 1792 2048) k0_pay20 (up2 (tr T 1792 H.Z (T + 1792))) (k0_pay22 (Q H T) (K H T 1792)) k0_pay23 = ot H T 1536 1792 := by
  refine ext2 fun x y => ?_
  pointwise [k0_pay29]
  simp only [pay26, up2_ix]
theorem mask30 {α : Type} (x : Fin 512) (y : Fin 256) (a b : α) : Scalar.select (k0_pay30 (ix2 x y)) a b = if y.val < x.val then a else b := by
  pointwise [k0_pay30]
  exact select_lt _ _ (by omega) (by omega) _ _
theorem pay31 : k0_pay31 (F := Ideal) (Q H T) (K H T 1536) = up2 (tr T 1536 H.Z (T + 1536)) := by
  refine ext2 fun x y => ?_
  pointwise [k0_pay31]
  simp only [up2_ix, sc_f32, ← EReal.coe_mul, sum_coe, tl, tr, Head.Z, zero_add]
theorem pay34 : k0_pay34 (F := Ideal) k0_pay30 (k0_pay32 (Q H T) (K H T 1536)) (k0_pay33 (Q H T) (K H T 1536)) = up2 (tr T 1536 H.L (T + 1536)) := by
  refine ext2 fun x y => ?_
  pointwise [k0_pay34, k0_pay32, k0_pay33]
  rw [mask30, pay31, up2_ix, up2_ix, lneg_coe, tr, tr, sel_L H _ _ _ (by omega)]
theorem pay35 : k0_pay35 (F := Ideal) (cr0 H T 1792) (cr H T 1536 1792) k0_pay30 (k0_pay32 (Q H T) (K H T 1536)) (k0_pay33 (Q H T) (K H T 1536)) = cr0 H T 1536 := by
  refine ext2 fun x y => ?_
  pointwise [k0_pay35]
  simp only [pay34, up2_ix, sum_coe, tr]
  exact car_rows H T 1536 _ _ _ (by omega) rfl (by omega)
theorem pay36 : k0_pay36 (F := Ideal) k0_pay14 (ot0 H T 1792) (V H T 1536) (cr H T 1536 1792) (ot H T 1536 1792) k0_pay30 (up2 (tr T 1536 H.Z (T + 1536))) (k0_pay32 (Q H T) (K H T 1536)) (k0_pay33 (Q H T) (K H T 1536)) = ot0 H T 1536 := by
  refine ext2 fun x y => ?_
  generalize e8 : k0_pay14 (F := Ideal) = v8
  generalize em : k0_pay30 = m
  generalize e32 : k0_pay32 (F := Ideal) (Q H T) (K H T 1536) = v32
  generalize e33 : k0_pay33 (F := Ideal) (Q H T) (K H T 1536) = v33
  pointwise [k0_pay36]
  subst e8 em e32 e33
  simp only [pay34, pay14, mask30, up2_ix, sum_coe, ← EReal.coe_add, ← EReal.coe_mul, tl, tr, Ideal.exp_coe, zero_add]
  exact O_rows' H T 1536 _ _ _ _ (by omega) rfl (by omega)
end tile6

section tile5
theorem pay37 (f : ℕ → ℕ → ℝ) : k0_pay37 (F := Ideal) (up2 f) = up2 f := by refine ext2 fun x y => ?_; pointwise [k0_pay37]
theorem pay38 : k0_pay38 (F := Ideal) (cr0 H T 1792) (cr H T 1536 1792) k0_pay30 (k0_pay32 (Q H T) (K H T 1536)) (k0_pay33 (Q H T) (K H T 1536)) = cr H T 1280 1536 := by
  refine ext2 fun x y => ?_
  pointwise [k0_pay38]
  simp only [pay35, up2_ix]
theorem pay39 : k0_pay39 (F := Ideal) k0_pay14 (ot0 H T 1792) (V H T 1536) (cr H T 1536 1792) (ot H T 1536 1792) k0_pay30 (up2 (tr T 1536 H.Z (T + 1536))) (k0_pay32 (Q H T) (K H T 1536)) (k0_pay33 (Q H T) (K H T 1536)) = ot H T 1280 1536 := by
  refine ext2 fun x y => ?_
  pointwise [k0_pay39]
  simp only [pay36, up2_ix]
theorem mask40 {α : Type} (x : Fin 768) (y : Fin 256) (a b : α) : Scalar.select (k0_pay40 (ix2 x y)) a b = if y.val < x.val then a else b := by
  pointwise [k0_pay40]
  exact select_lt _ _ (by omega) (by omega) _ _
theorem pay43 : k0_pay43 (F := Ideal) (k0_pay41 (Q H T) (K H T 1280)) k0_pay42 = up2 (tr T 1280 H.Z (T + 1280)) := by
  refine ext2 fun x y => ?_
  pointwise [k0_pay43, k0_pay41, k0_pay42]
  simp only [up2_ix, sc_f32, ← EReal.coe_mul, sum_coe, tl, tr, Head.Z, zero_add]
theorem pay44 : k0_pay44 (F := Ideal) k0_pay40 (k0_pay41 (Q H T) (K H T 1280)) k0_pay42 = up2 (tr T 1280 H.L (T + 1280)) := by
  refine ext2 fun x y => ?_
  pointwise [k0_pay44]
  rw [mask40, pay43, up2_ix, up2_ix, lneg_coe, tr, tr, sel_L H _ _ _ (by omega)]
theorem pay45 : k0_pay45 (F := Ideal) (cr0 H T 1536) (cr H T 1280 1536) k0_pay40 (k0_pay41 (Q H T) (K H T 1280)) k0_pay42 = cr0 H T 1280 := by
  refine ext2 fun x y => ?_
  pointwise [k0_pay45]
  simp only [pay44, up2_ix, sum_coe, tr]
  exact car_rows H T 1280 _ _ _ (by omega) rfl (by omega)
theorem pay46 : k0_pay46 (F := Ideal) k0_pay14 (ot0 H T 1536) (V H T 1280) (cr H T 1280 1536) (ot H T 1280 1536) k0_pay40 (k0_pay41 (Q H T) (K H T 1280)) k0_pay42 = ot0 H T 1280 := by
  refine ext2 fun x y => ?_
  generalize e8 : k0_pay14 (F := Ideal) = v8
  generalize em : k0_pay40 = m
  generalize e41 : k0_pay41 (F := Ideal) (Q H T) (K H T 1280) = v41
  generalize e42 : k0_pay42 (F := Ideal) = v42
  pointwise [k0_pay46]
  subst e8 em e41 e42
  simp only [pay44, pay43, pay14, mask40, up2_ix, sum_coe, ← EReal.coe_add, ← EReal.coe_mul, tl, tr, Ideal.exp_coe, zero_add]
  exact O_rows' H T 1280 _ _ _ _ (by omega) rfl (by omega)
end tile5

section tile4
theorem pay47 (f : ℕ → ℕ → ℝ) : k0_pay47 (F := Ideal) (up2 f) = up2 f := by refine ext2 fun x y => ?_; pointwise [k0_pay47]
theorem pay48 (f : ℕ → ℕ → ℝ) : k0_pay48 (F := Ideal) (up2 f) = up2 f := by refine ext2 fun x y => ?_; pointwise [k0_pay48]
theorem pay49 : k0_pay49 (F := Ideal) (Q H T) = up2 (tl H.q (T + 1024) 0) := by
  refine ext2 fun x y => ?_
  pointwise [k0_pay49]
  simp only [up2_ix, tl, Nat.add_assoc]
theorem pay50 : k0_pay50 (F := Ideal) (cr0 H T 1536) (cr H T 1280 1536) k0_pay40 (k0_pay41 (Q H T) (K H T 1280)) k0_pay42 = cr H T 1024 1280 := by
  refine ext2 fun x y => ?_
  pointwise [k0_pay50]
  simp only [pay45, up2_ix]
theorem mask51 {α : Type} (x : Fin 1024) (y : Fin 256) (a b : α) : Scalar.select (k0_pay51 (ix2 x y)) a b = if y.val < x.val then a else b := by
  pointwise [k0_pay51]
  exact select_lt _ _ (by omega) (by omega) _ _
theorem pay52 : k0_pay52 (F := Ideal) (K H T 1024) (up2 (tl H.q (T + 1024) 0)) = up2 (tr T 1024 H.Z (T + 1024)) := by
  refine ext2 fun x y => ?_
  pointwise [k0_pay52]
  simp only [Nat.add_assoc, up2_ix, sc_f32, ← EReal.coe_mul, sum_coe, tl, tr, Head.Z, zero_add]
theorem pay53 : k0_pay53 (F := Ideal) (K H T 1024) (up2 (tl H.q (T + 1024) 0)) = up2 (tr T 1024 H.L (T + 1024)) := by
  refine ext2 fun x y => ?_
  pointwise [k0_pay53]
  rw [mask51, pay52, up2_ix, up2_ix, lneg_coe, tr, tr, sel_L H _ _ _ (by omega)]
theorem pay54 : k0_pay54 (F := Ideal) (cr0 H T 1280) (K H T 1024) (up2 (tl H.q (T + 1024) 0)) (cr H T 1024 1280) = cr0 H T 1024 := by
  refine ext2 fun x y => ?_
  pointwise [k0_pay54]
  simp only [pay53, up2_ix, sum_coe, tr]
  exact car_rows H T 1024 _ _ _ (by omega) rfl (by omega)
theorem pay55 : k0_pay55 (F := Ideal) k0_pay14 (ot0 H T 1280) (K H T 1024) (V H T 1024) (up2 (tl H.q (T + 1024) 0)) (cr H T 1024 1280) = ot0 H T 1024 := by
  refine ext2 fun x y => ?_
  generalize e8 : k0_pay14 (F := Ideal) = v8
  pointwise [k0_pay55]
  subst e8
  simp only [pay52, pay53, pay14, mask51, up2_ix, sum_coe, ← EReal.coe_add, ← EReal.coe_mul, tl, tr, Ideal.exp_coe, zero_add]
  exact O_rows' H T 1024 _ _ _ _ (by omega) rfl (by omega)
end tile4

section tile3
theorem pay56 : k0_pay56 (F := Ideal) (cr0 H T 1024) = cr H T 768 1024 := by
  refine ext2 fun x y => ?_
  pointwise [k0_pay56]
  simp only [up2_ix]
theorem mask57 {α : Type} (x : Fin 1280) (y : Fin 256) (a b : α) : Scalar.select (k0_pay57 (ix2 x y)) a b = if y.val < x.val then a else b := by
  pointwise [k0_pay57]
  exact select_lt _ _ (by omega) (by omega) _ _
theorem pay58 : k0_pay58 (F := Ideal) (Q H T) (K H T 768) = up2 (tr T 768 H.Z (T + 768)) := by
  refine ext2 fun x y => ?_
  pointwise [k0_pay58]
  simp only [up2_ix, sc_f32, ← EReal.coe_mul, sum_coe, tl, tr, Head.Z, zero_add]
theorem pay59 : k0_pay59 (F := Ideal) (Q H T) (K H T 768) = up2 (tr T 768 H.L (T + 768)) := by
  refine ext2 fun x y => ?_
  pointwise [k0_pay59]
  rw [mask57, pay58, up2_ix, up2_ix, lneg_coe, tr, tr, sel_L H _ _ _ (by omega)]
theorem pay60 : k0_pay60 (F := Ideal) (Q H T) (cr0 H T 1024) (K H T 768) = cr0 H T 768 := by
  refine ext2 fun x y => ?_
  pointwise [k0_pay60]
  simp only [pay59, pay56, up2_ix, sum_coe, tr]
  exact car_rows H T 768 _ _ _ (by omega) rfl (by omega)
theorem pay61 : k0_pay61 (F := Ideal) (Q H T) k0_pay14 (cr0 H T 1024) (ot0 H T 1024) (K H T 768) (V H T 768) = ot0 H T 768 := by
  refine ext2 fun x y => ?_
  generalize e8 : k0_pay14 (F := Ideal) = v8
  pointwise [k0_pay61]
  subst e8
  simp only [pay58, pay59, pay56, pay14, mask57, up2_ix, sum_coe, ← EReal.coe_add, ← EReal.coe_mul, tl, tr, Ideal.exp_coe, zero_add]
  exact O_rows' H T 768 _ _ _ _ (by omega) rfl (by omega)
end tile3

section tile2
theorem pay62 : k0_pay62 (F := Ideal) (cr0 H T 768) = cr H T 512 768 := by
  refine ext2 fun x y => ?_
  pointwise [k0_pay62]
  simp only [up2_ix]
theorem mask63 {α : Type} (x : Fin 1536) (y : Fin 256) (a b : α) : Scalar.select (k0_pay63 (ix2 x y)) a b = if y.val < x.val then a else b := by
  pointwise [k0_pay63]
  exact select_lt _ _ (by omega) (by omega) _ _
theorem pay64 : k0_pay64 (F := Ideal) (Q H T) (K H T 512) = up2 (tr T 512 H.Z (T + 512)) := by
  refine ext2 fun x y => ?_
  pointwise [k0_pay64]
  simp only [up2_ix, sc_f32, ← EReal.coe_mul, sum_coe, tl, tr, Head.Z, zero_add]
theorem pay65 : k0_pay65 (F := Ideal) (Q H T) (K H T 512) = up2 (tr T 512 H.L (T + 512)) := by
  refine ext2 fun x y => ?_
  pointwise [k0_pay65]
  rw [mask63, pay64, up2_ix, up2_ix, lneg_coe, tr, tr, sel_L H _ _ _ (by omega)]
theorem pay66 : k0_pay66 (F := Ideal) (Q H T) k0_pay14 (cr0 H T 768) (ot0 H T 768) (K H T 512) (V H T 512) = ot H T 512 512 := by
  refine ext2 fun x y => ?_
  generalize e8 : k0_pay14 (F := Ideal) = v8
  pointwise [k0_pay66]
  subst e8
  simp only [pay64, pay65, pay62, pay14, mask63, up2_ix, sum_coe, ← EReal.coe_add, ← EReal.coe_mul, tl, tr, Ideal.exp_coe, zero_add]
  rw [wv H _ _ _ _ _ (by omega) (by omega), ← EReal.coe_add, O_step H _ _ _ _ (by omega)]
theorem pay67 : k0_pay67 (F := Ideal) (cr0 H T 768) (cr H T 512 768) (up2 (tr T 512 H.L (T + 512))) = cr0 H T 512 := by
  refine ext2 fun x y => ?_
  pointwise [k0_pay67]
  simp only [up2_ix, sum_coe, tr]
  exact car_rows H T 512 _ _ _ (by omega) rfl (by omega)
theorem pay68 : k0_pay68 (F := Ideal) (ot0 H T 768) (ot H T 512 512) = ot0 H T 512 := by
  refine ext2 fun x y => ?_
  pointwise [k0_pay68]
  by_cases h : x.val < 512
  · simp only [dif_pos h, up2_ix]
    rw [H.O_of_le _ (by omega), H.O_of_le _ (by omega)]
  · simp only [dif_neg h, up2_ix, show 512 + (x.val - 512) = x.val by omega]
end tile2

section tile1
theorem pay69 (f : ℕ → ℕ → ℝ) : k0_pay69 (F := Ideal) (up2 f) = up2 f := by refine ext2 fun x y => ?_; pointwise [k0_pay69]
theorem pay70 : k0_pay70 (F := Ideal) (cr0 H T 768) (cr H T 512 768) (up2 (tr T 512 H.L (T + 512))) = cr H T 256 512 := by
  refine ext2 fun x y => ?_
  pointwise [k0_pay70]
  simp only [pay67, up2_ix]
theorem pay71 : k0_pay71 (F := Ideal) (ot0 H T 768) (ot H T 512 512) = ot H T 256 512 := by
  refine ext2 fun x y => ?_
  pointwise [k0_pay71]
  simp only [pay68, up2_ix]
theorem mask72 {α : Type} (x : Fin 1792) (y : Fin 256) (a b : α) : Scalar.select (k0_pay72 (ix2 x y)) a b = if y.val < x.val then a else b := by
  pointwise [k0_pay72]
  exact select_lt _ _ (by omega) (by omega) _ _
theorem pay73 : k0_pay73 (F := Ideal) (Q H T) (K H T 256) = up2 (tr T 256 H.Z (T + 256)) := by
  refine ext2 fun x y => ?_
  pointwise [k0_pay73]
  simp only [up2_ix, sc_f32, ← EReal.coe_mul, sum_coe, tl, tr, Head.Z, zero_add]
theorem pay74 : k0_pay74 (F := Ideal) (Q H T) (K H T 256) = up2 (tr T 256 H.L (T + 256)) := by
  refine ext2 fun x y => ?_
  pointwise [k0_pay74]
  rw [mask72, pay73, up2_ix, up2_ix, lneg_coe, tr, tr, sel_L H _ _ _ (by omega)]
theorem pay76 : k0_pay76 (F := Ideal) (cr0 H T 512) (cr H T 256 512) (up2 (tr T 256 H.L (T + 256))) = cr0 H T 256 := by
  refine ext2 fun x y => ?_
  pointwise [k0_pay76]
  simp only [up2_ix, sum_coe, tr]
  exact car_rows H T 256 _ _ _ (by omega) rfl (by omega)
theorem pay77 : k0_pay77 (F := Ideal) (ot0 H T 512) (V H T 256) (ot H T 256 512) k0_pay72 (k0_pay75 (Q H T) k0_pay14 (cr0 H T 768) (cr H T 512 768) (up2 (tr T 512 H.L (T + 512))) (K H T 256)) = ot0 H T 256 := by
  refine ext2 fun x y => ?_
  generalize em : k0_pay72 = m
  generalize e7 : k0_pay75 (F := Ideal) (Q H T) k0_pay14 (cr0 H T 768) (cr H T 512 768) (up2 (tr T 512 H.L (T + 512))) (K H T 256) = v75
  pointwise [k0_pay77]
  subst em e7
  have e75 : k0_pay75 (F := Ideal) (Q H T) k0_pay14 (cr0 H T 768) (cr H T 512 768) (up2 (tr T 512 H.L (T + 512))) (K H T 256) = up2 fun x y => Real.exp (H.Z (T + (256 + x)) (T + 256 + y) + H.L (T + (256 + x)) (T + 256 + y) + ∑ i : Fin 256, H.L (T + (256 + x)) (T + 256 + i.val) * (if y < i.val then 1 else 0) + H.car (T + (256 + x)) (T + 512)) := by
    refine ext2 fun x y => ?_
    pointwise [k0_pay75]
    simp only [pay73, pay74, pay70, pay14, up2_ix, sum_coe, ← EReal.coe_add, ← EReal.coe_mul, tl, tr, Ideal.exp_coe, zero_add]
  simp only [e75, mask72, up2_ix, sum_coe, ← EReal.coe_add, ← EReal.coe_mul, tl, tr, Ideal.exp_coe, zero_add]
  exact O_rows' H T 256 _ _ _ _ (by omega) rfl (by omega)
end tile1

section tile0
theorem pay78 (f : ℕ → ℕ → ℝ) : k0_pay78 (F := Ideal) (up2 f) = up2 f := by refine ext2 fun x y => ?_; pointwise [k0_pay78]
theorem mask79 {α : Type} (x : Fin 2048) (y : Fin 256) (a b : α) : Scalar.select (k0_pay79 (ix2 x y)) a b = if y.val < x.val then a else b := by
  pointwise [k0_pay79]
  exact select_lt _ _ (by omega) (by omega) _ _
theorem pay80 : k0_pay80 (F := Ideal) (Q H T) (K H T 0) = up2 (tr T 0 H.Z (T + 0)) := by
  refine ext2 fun x y => ?_
  pointwise [k0_pay80]
  simp only [add_zero, up2_ix, sc_f32, ← EReal.coe_mul, sum_coe, tl, tr, Head.Z, zero_add]
theorem pay81 : k0_pay81 (F := Ideal) (Q H T) (K H T 0) = up2 (tr T 0 H.L (T + 0)) := by
  refine ext2 fun x y => ?_
  pointwise [k0_pay81]
  rw [mask79, pay80, up2_ix, up2_ix, lneg_coe, tr, tr, sel_L H _ _ _ (by omega)]
  simp only [add_zero]
theorem pay82 : k0_pay82 (F := Ideal) (Q H T) k0_pay14 (K H T 0) = up2 fun x y => ∑ i : Fin 256, H.L (T + (0 + x)) (T + 0 + i.val) * (if y < i.val then 1 else 0) := by
  refine ext2 fun x y => ?_
  pointwise [k0_pay82]
  simp only [pay81, pay14, up2_ix, sum_coe, ← EReal.coe_mul, tr, add_zero, zero_add]
theorem pay1 : k0_pay1 (F := Ideal) (cr0 H T 256) (ot0 H T 256) (V H T 0) k0_pay79 (up2 (tr T 0 H.Z (T + 0))) (up2 (tr T 0 H.L (T + 0)))
    (up2 fun x y => ∑ i : Fin 256, H.L (T + (0 + x)) (T + 0 + i.val) * (if y < i.val then 1 else 0)) = ot0 H T 0 := by
  refine ext2 fun x y => ?_
  generalize em : k0_pay79 = m
  pointwise [k0_pay1]
  subst em
  simp only [mask79, add_zero, up2_ix, sum_coe, ← EReal.coe_add, ← EReal.coe_mul, tl, tr, Ideal.exp_coe, zero_add]
  rw [wv H _ _ _ _ _ (by omega) (by omega), ← EReal.coe_add, O_step H _ _ _ _ (by omega)]
theorem pay2 : k0_pay2 (F := Ideal) (cr0 H T 256) (up2 (tr T 0 H.L (T + 0))) = cr0 H T 0 := by
  refine ext2 fun x y => ?_
  pointwise [k0_pay2]
  simp only [up2_ix, sum_coe, tr, zero_add, add_zero]
  rw [← EReal.coe_add, car_step H _ _ _ (by omega)]
end tile0

section loop
variable (s0 : ℕ) (hs : s0 + 256 ≤ T)
theorem pay3 : k0_pay3 (F := Ideal) (Q H T) (up2 (tl H.k s0 0)) = up2 (tl H.Z T s0) := by
  refine ext2 fun x y => ?_
  pointwise [k0_pay3]
  simp only [up2_ix, sc_f32, ← EReal.coe_mul, sum_coe, tl, Head.Z, zero_add]
include hs in
theorem pay4 : k0_pay4 (F := Ideal) (Q H T) (up2 (tl H.k s0 0)) = up2 (tl H.L T s0) := by
  refine ext2 fun x y => ?_
  have h1 : y.val < 256 := y.isLt
  pointwise [k0_pay4]
  rw [pay3, up2_ix, up2_ix, lneg_coe, tl, tl, H.L_of_lt (by omega)]
include hs in
theorem pay6 : k0_pay6 (F := Ideal) (Q H T) (up2 fun x _ => H.car (T + x) (s0 + 256)) (up2 (tl H.k s0 0)) = up2 fun x _ => H.car (T + x) s0 := by
  refine ext2 fun x y => ?_
  pointwise [k0_pay6]
  simp only [pay4 H T s0 hs, up2_ix, sum_coe, tl]
  rw [← EReal.coe_add, car_step H _ _ _ rfl]
include hs in
theorem pay5 : k0_pay5 (F := Ideal) (Q H T) k0_pay14 (up2 fun x _ => H.car (T + x) (s0 + 256)) (up2 fun x d => H.O (T + x) (s0 + 256) d) (up2 (tl H.k s0 0)) (up2 (tl H.v s0 0)) = up2 fun x d => H.O (T + x) s0 d := by
  refine ext2 fun x y => ?_
  generalize e8 : k0_pay14 (F := Ideal) = v8
  pointwise [k0_pay5]
  subst e8
  simp only [pay3, pay4 H T s0 hs, pay14, up2_ix, sum_coe, ← EReal.coe_add, ← EReal.coe_mul, tl, tr, Ideal.exp_coe, zero_add]
  rw [← O_step H (T + x.val) s0 _ y.val rfl]
  congr 2
  refine Finset.sum_congr rfl fun j _ => ?_
  rw [Head.car, expo H _ _ _ j.isLt, Head.W, if_pos (by omega)]
end loop

theorem pay11 (f : ℕ → ℕ → ℝ) : k0_pay11 (F := Ideal) (up2 f) = up2 f := by refine ext2 fun x y => ?_; pointwise [k0_pay11]

end Cert.AttnKernelIdeal.Fwd
end
-- ==== Proof.AttnBody.lean ====
/- What one grid point of the attention's backward kernel leaves in its three outputs. -/
module

public import proofs.«01_k».proof.Proof.AttnDiag
public import proofs.«01_k».proof.Proof.AttnLoop
public import Idealize.ShloMosaic.Lib.VecWindow
import all proofs.«01_k».proof.Proof.Gen.AttnKernelIdeal.Loops
import all proofs.«01_k».proof.Proof.Gen.AttnKernelIdeal.Frame

@[expose] public section

set_option maxRecDepth 16384

noncomputable section

namespace Cert.AttnKernelIdeal.RefValue

open Cert.AttnKernelIdeal Cert.AttnKernelIdeal.Gen Idealize.ShloMosaic Idealize.ShloMosaic.TcCoe Idealize.SL.Sem
open Cert.Reals Cert.Attn

theorem off3_2 : ∀ i : grid1.Coords, k1_off3 i 2#32 = ![1024 * (i 1).val + 512, 0] := by decide +kernel
theorem off3_3 : ∀ i : grid1.Coords, k1_off3 i 3#32 = ![1024 * (i 1).val + 768, 0] := by decide +kernel

/-- Four stores of 256 rows each, every one adding `C` to rows it has just read. -/
theorem accd_writes4 {σ : RefSig} {κ : Kind} {sp : Space} (v : View σ κ sp S8192x128 .f32) (f : v.ty.Contents (Elt Ideal)) (X C : ℕ → ℕ → ℝ) (L : List (View.Piece (Elt Ideal) S8192x128 .f32)) (n : ℕ)
    (h : v.read (Elt Ideal) (v.writes (Elt Ideal) f L) = up2 (accd X C n))
    {o0 o1 o2 o3 : Fin 2 → ℕ} (ho0 : o0 = ![n, 0]) (ho1 : o1 = ![n + 256, 0]) (ho2 : o2 = ![n + 256 + 256, 0]) (ho3 : o3 = ![n + 256 + 256 + 256, 0])
    (b0 : ∀ j, o0 j + S256x128.size j ≤ S8192x128.size j) (b1 : ∀ j, o1 j + S256x128.size j ≤ S8192x128.size j) (b2 : ∀ j, o2 j + S256x128.size j ≤ S8192x128.size j) (b3 : ∀ j, o3 j + S256x128.size j ≤ S8192x128.size j)
    (w0 w1 w2 w3 : FVec Ideal S256x128 .f32)
    (h0 : v.readAt (Elt Ideal) (Rect.unit (s := S8192x128) o0 S256x128.size b0).toLoadRect (v.writes (Elt Ideal) f L) = (up2 (tl X n 0) : FVec Ideal S256x128 .f32) → w0 = up2 fun y d => X (n + y) d + C (n + y) d)
    (h1 : v.readAt (Elt Ideal) (Rect.unit (s := S8192x128) o1 S256x128.size b1).toLoadRect (v.writes (Elt Ideal) f ((⟨Rect.unit (s := S8192x128) o0 S256x128.size b0, w0⟩ : View.Piece (Elt Ideal) S8192x128 .f32) :: L)) = (up2 (tl X (n + 256) 0) : FVec Ideal S256x128 .f32)
      → w1 = up2 fun y d => X (n + 256 + y) d + C (n + 256 + y) d)
    (h2 : v.readAt (Elt Ideal) (Rect.unit (s := S8192x128) o2 S256x128.size b2).toLoadRect (v.writes (Elt Ideal) f ((⟨Rect.unit (s := S8192x128) o1 S256x128.size b1, w1⟩ : View.Piece (Elt Ideal) S8192x128 .f32) :: ⟨Rect.unit (s := S8192x128) o0 S256x128.size b0, w0⟩ :: L)) = (up2 (tl X (n + 256 + 256) 0) : FVec Ideal S256x128 .f32)
      → w2 = up2 fun y d => X (n + 256 + 256 + y) d + C (n + 256 + 256 + y) d)
    (h3 : v.readAt (Elt Ideal) (Rect.unit (s := S8192x128) o3 S256x128.size b3).toLoadRect (v.writes (Elt Ideal) f ((⟨Rect.unit (s := S8192x128) o2 S256x128.size b2, w2⟩ : View.Piece (Elt Ideal) S8192x128 .f32) :: ⟨Rect.unit (s := S8192x128) o1 S256x128.size b1, w1⟩ :: ⟨Rect.unit (s := S8192x128) o0 S256x128.size b0, w0⟩ :: L)) = (up2 (tl X (n + 256 + 256 + 256) 0) : FVec Ideal S256x128 .f32)
      → w3 = up2 fun y d => X (n + 256 + 256 + 256 + y) d + C (n + 256 + 256 + 256 + y) d) :
    v.read (Elt Ideal) (v.writes (Elt Ideal) f ((⟨Rect.unit (s := S8192x128) o3 S256x128.size b3, w3⟩ : View.Piece (Elt Ideal) S8192x128 .f32) :: ⟨Rect.unit (s := S8192x128) o2 S256x128.size b2, w2⟩ :: ⟨Rect.unit (s := S8192x128) o1 S256x128.size b1, w1⟩ :: ⟨Rect.unit (s := S8192x128) o0 S256x128.size b0, w0⟩ :: L))
      = up2 (accd X C (n + 1024)) := by
  have e0 := accd_write v f X C L n h ho0 b0 w0 (h0 (accd_read v _ X C n h ho0 b0))
  have e1 := accd_write v f X C _ _ e0 ho1 b1 w1 (h1 (accd_read v _ X C _ e0 ho1 b1))
  have e2 := accd_write v f X C _ _ e1 ho2 b2 w2 (h2 (accd_read v _ X C _ e1 ho2 b2))
  exact accd_write v f X C _ _ e2 ho3 b3 w3 (h3 (accd_read v _ X C _ e2 ho3 b3))

variable (H : Head) (T : ℕ)

section
variable (c : Dev nD) (i : grid1.Coords) (arg2 : Memref sig .tc .vmem S1024x128 .bf16) (harg2 : arg2.IsWhole) (arg3 : Memref sig .tc .vmem S8192x128 .bf16) (harg3 : arg3.IsWhole)
  (arg4 : Memref sig .tc .vmem S8192x128 .bf16) (harg4 : arg4.IsWhole) (arg5 : Memref sig .tc .vmem S1x1024x1 .f32) (harg5 : arg5.IsWhole) (arg6 : Memref sig .tc .vmem S1024x128 .f32) (harg6 : arg6.IsWhole)
  (arg7 : Memref sig .tc .vmem S1024x128 .f32) (harg7 : arg7.IsWhole) (arg8 : Memref sig .tc .vmem S8192x128 .f32) (harg8 : arg8.IsWhole) (arg9 : Memref sig .tc .vmem S8192x128 .f32) (harg9 : arg9.IsWhole)
  (x0 : Vec Ideal S1024x128 .bf16) (x1 x2 : Vec Ideal S8192x128 .bf16) (x3 : Vec Ideal S1x1024x1 .f32) (x4 : Vec Ideal S1024x128 .f32) (xo6 xo7 : Vec Ideal S8192x128 .f32) (A8 A9 : ℕ → ℕ → ℝ)
  (h0 : x0 = up2 (tl H.q T 0)) (h1 : x1 = up2 H.k) (h2 : x2 = up2 H.v) (h3 : k1_pay20 x3 = up2 fun x _ => H.tot (T + x)) (h4 : x4 = up2 (tl H.g T 0))
  (h6 : xo6 = up2 A8) (h7 : xo7 = up2 A9)
  (hT : T = 1024 * (i 1).val)

/-- The second loop makes no trips. -/
theorem st2 (v3 : Vec Ideal S1024x128 .bf16) (v5 : Vec Ideal S1024x128 .f32) (v7 : Vec Ideal S1x1024x1 .f32) (v30 : BitVec 32)
    (X3 : arg3.view.ty.Contents (Elt Ideal)) (X4 : arg4.view.ty.Contents (Elt Ideal)) (G8 : arg8.view.ty.Contents (Elt Ideal)) (G9 : arg9.view.ty.Contents (Elt Ideal)) (init : FVec Ideal S1024x1 .f32 × FVec Ideal S1024x1 .f32 × FVec Ideal S1024x128 .f32) :
    st_k1_t2 (F := Ideal) Variants.none c none i arg2 harg2 arg3 harg3 arg4 harg4 arg5 harg5 arg6 harg6 arg7 harg7 arg8 harg8 arg9 harg9 v3 v5 v7 v30 X3 X4 G8 G9 init
      (Scf.trips (k1_t2_loop i).lb (k1_t2_loop i).ub (k1_t2_loop i).st) = (init, [], []) := by
  rw [show Scf.trips (k1_t2_loop i).lb (k1_t2_loop i).ub (k1_t2_loop i).st = 0 from trips2 i]
  rfl

include h0 in
theorem lq (inb : ∀ a, (![0, 0] : Fin 2 → ℕ) a + S1024x128.size a ≤ S1024x128.size a) :
    arg2.view.readAt (Elt Ideal) (Rect.unit (s := S1024x128) ![0, 0] S1024x128.size inb).toLoadRect (harg2.unread x0) = up2 (tl H.q T 0) := by
  rw [View.readAt_full, harg2.read_unread, h0]

include h4 in
theorem lg (inb : ∀ a, (![0, 0] : Fin 2 → ℕ) a + S1024x128.size a ≤ S1024x128.size a) :
    arg6.view.readAt (Elt Ideal) (Rect.unit (s := S1024x128) ![0, 0] S1024x128.size inb).toLoadRect (harg6.unread x4) = up2 (tl H.g T 0) := by
  rw [View.readAt_full, harg6.read_unread, h4]

include h3 in
theorem ll (inb : ∀ a, (![0, 0, 0] : Fin 3 → ℕ) a + S1x1024x1.size a ≤ S1x1024x1.size a) :
    k1_pay20 (arg5.view.readAt (Elt Ideal) (Rect.unit (s := S1x1024x1) ![0, 0, 0] S1x1024x1.size inb).toLoadRect (harg5.unread x3)) = up2 fun x _ => H.tot (T + x) := by
  rw [View.readAt_full, harg5.read_unread, h3]

/-- A load of the rows of keys or values under a block's diagonal. -/
theorem lkv {m : Memref sig .tc .vmem S8192x128 .bf16} (hm : m.IsWhole) (f : ℕ → ℕ → ℝ) (x : Vec Ideal S8192x128 .bf16) (hx : x = up2 f) {o : Fin 2 → ℕ} {n : ℕ} (ho : o = ![n, 0])
    (inb : ∀ a, o a + S256x128.size a ≤ S8192x128.size a) :
    m.view.readAt (Elt Ideal) (Rect.unit (s := S8192x128) o S256x128.size inb).toLoadRect (hm.unread x) = (up2 (tl f n 0) : FVec Ideal S256x128 .bf16) :=
  (rows_read m.view _ (A := fun s d => (f s d : EReal)) ((hm.read_unread x).trans hx) ho _).trans (funext fun y => by
    show _ = ((f (n + (y 0).val) (0 + (y 1).val) : ℝ) : EReal)
    rw [zero_add])

include h0 h1 h2 h3 h4 h6 h7 hT

/-- What a later grid point leaves: the block's part of the gradient of the queries, and its share added to those of keys and values. -/
theorem body_B (hc0) : out1_B_5 c i arg2 harg2 arg3 harg3 arg4 harg4 arg5 harg5 arg6 harg6 arg7 harg7 arg8 harg8 arg9 harg9 hc0 x0 x1 x2 x3 x4 xo6 xo7 = (up2 fun x d => sc * ∑ j ∈ Finset.range (T + x), H.D (T + x) j * H.k j d)
    ∧ out1_B_6 c i arg2 harg2 arg3 harg3 arg4 harg4 arg5 harg5 arg6 harg6 arg7 harg7 arg8 harg8 arg9 harg9 hc0 x0 x1 x2 x3 x4 xo6 xo7 = up2 (accd A8 (CK H T) (T + 1024))
    ∧ out1_B_7 c i arg2 harg2 arg3 harg3 arg4 harg4 arg5 harg5 arg6 harg6 arg7 harg7 arg8 harg8 arg9 harg9 hc0 x0 x1 x2 x3 x4 xo6 xo7 = up2 (accd A9 (CV H T) (T + 1024)) := by
  have kn : 256 * Scf.trips (k1_t1_loop i).lb (k1_t1_loop i).ub (k1_t1_loop i).st = T := by
    rw [show Scf.trips (k1_t1_loop i).lb (k1_t1_loop i).ub (k1_t1_loop i).st = 4 * (i 1).val from trips1 i]; omega
  have r := lq H T arg2 harg2 x0 h0 inb_S1024x128_S1024x128_0_0
  have r1 := lg H T arg6 harg6 x4 h4 inb_S1024x128_S1024x128_0_0
  have r2 := ll H T arg5 harg5 x3 h3 inb_S1x1024x1_S1x1024x1_0_0_0
  obtain ⟨e1, e8, e9⟩ := state H T c i arg2 harg2 arg3 harg3 arg4 harg4 arg5 harg5 arg6 harg6 arg7 harg7 arg8 harg8 arg9 harg9 _ _ _ (harg3.unread x1) (harg4.unread x2) (harg8.unread xo6) (harg9.unread xo7) A8 A9
    r r1 r2 ((harg3.read_unread x1).trans h1) ((harg4.read_unread x2).trans h2) hT ((harg8.read_unread xo6).trans h6) ((harg9.read_unread xo7).trans h7) (Scf.trips (k1_t1_loop i).lb (k1_t1_loop i).ub (k1_t1_loop i).st) le_rfl
  rw [kn] at e1 e8 e9
  have o0 : k1_off3 i 0#32 = ![T, 0] := (off3_0 i).trans (by rw [hT])
  have o1 : k1_off3 i 1#32 = ![T + 256, 0] := (off3_1 i).trans (by rw [hT])
  have o2 : k1_off3 i 2#32 = ![T + 256 + 256, 0] := (off3_2 i).trans (by rw [hT])
  have o3 : k1_off3 i 3#32 = ![T + 256 + 256 + 256, 0] := (off3_3 i).trans (by rw [hT])
  have k0 := fun b => lkv harg3 H.k x1 h1 o0 b
  have k1 := fun b => lkv harg3 H.k x1 h1 o1 b
  have k2 := fun b => lkv harg3 H.k x1 h1 o2 b
  have k3 := fun b => lkv harg3 H.k x1 h1 o3 b
  have v0 := fun b => lkv harg4 H.v x2 h2 o0 b
  have v1 := fun b => lkv harg4 H.v x2 h2 o1 b
  have v2 := fun b => lkv harg4 H.v x2 h2 o2 b
  have v3 := fun b => lkv harg4 H.v x2 h2 o3 b
  have n3 : kernelRun1_B.sl.r_3 c i arg2 harg2 arg3 harg3 arg4 harg4 arg5 harg5 arg6 harg6 arg7 harg7 arg8 harg8 arg9 harg9 x0 x1 x2 x3 x4 xo6 xo7 = (carry H T T).1 := by unfold kernelRun1_B.sl.r_3; rw [st2]; exact congrArg (fun p => p.1) e1
  have n4 : kernelRun1_B.sl.r_4 c i arg2 harg2 arg3 harg3 arg4 harg4 arg5 harg5 arg6 harg6 arg7 harg7 arg8 harg8 arg9 harg9 x0 x1 x2 x3 x4 xo6 xo7 = (carry H T T).2.1 := by unfold kernelRun1_B.sl.r_4; rw [st2]; exact congrArg (fun p => p.2.1) e1
  have n5 : kernelRun1_B.sl.r_5 c i arg2 harg2 arg3 harg3 arg4 harg4 arg5 harg5 arg6 harg6 arg7 harg7 arg8 harg8 arg9 harg9 x0 x1 x2 x3 x4 xo6 xo7 = (carry H T T).2.2 := by unfold kernelRun1_B.sl.r_5; rw [st2]; exact congrArg (fun p => p.2.2) e1
  have vc : kernelRun1_B.sl.v214 = cols2 := rfl
  unfold out1_B_5 out1_B_6 out1_B_7 kernelRun1_B
  dsimp only
  unfold kernelRun1_B.sl.H6_3 kernelRun1_B.sl.H6_2 kernelRun1_B.sl.H6_1 kernelRun1_B.sl.H7_3 kernelRun1_B.sl.H7_2 kernelRun1_B.sl.H7_1
  refine ⟨(View.read_writes_full _ _ _ _ _).trans ?_, accd_writes4 arg8.view _ A8 (CK H T) _ T ?_ o0 o1 o2 o3 _ _ _ _ _ _ _ _ ?_ ?_ ?_ ?_, accd_writes4 arg9.view _ A9 (CV H T) _ T ?_ o0 o1 o2 o3 _ _ _ _ _ _ _ _ ?_ ?_ ?_ ?_⟩
  case refine_2 => rw [st2, List.nil_append]; exact e8
  case refine_7 => rw [st2, List.nil_append]; exact e9
  all_goals
    clear e1 e8 e9
    first | intro e | have e : T = T := rfl
    first | rw [e] | (unfold kernelRun1_B.sl.v99; rw [e]) | (unfold kernelRun1_B.sl.v91; rw [e]) | skip
    simp only [kernelRun1_B.sl.r, kernelRun1_B.sl.r_1, kernelRun1_B.sl.r_2, n3, n4, n5, carry, kernelRun1_B.sl.r_6, kernelRun1_B.sl.r_7, kernelRun1_B.sl.r_8, kernelRun1_B.sl.r_9, kernelRun1_B.sl.r_10, kernelRun1_B.sl.r_11, kernelRun1_B.sl.r_12, kernelRun1_B.sl.r_13, kernelRun1_B.sl.r_14, kernelRun1_B.sl.r_15, kernelRun1_B.sl.r_16, kernelRun1_B.sl.r_17, kernelRun1_B.sl.r_18, kernelRun1_B.sl.r_19, kernelRun1_B.sl.r_20, kernelRun1_B.sl.r_21, kernelRun1_B.sl.r_22, kernelRun1_B.sl.r_23, kernelRun1_B.sl.r_24, kernelRun1_B.sl.r_25, kernelRun1_B.sl.r_26, kernelRun1_B.sl.r_27, kernelRun1_B.sl.r_28, kernelRun1_B.sl.r_29, kernelRun1_B.sl.r_30, kernelRun1_B.sl.r_31, kernelRun1_B.sl.r_32, kernelRun1_B.sl.r_33, kernelRun1_B.sl.r_34, kernelRun1_B.sl.r_35, kernelRun1_B.sl.r_36, kernelRun1_B.sl.r_37, kernelRun1_B.sl.r_38, kernelRun1_B.sl.r_39, kernelRun1_B.sl.r_40, kernelRun1_B.sl.r_41, kernelRun1_B.sl.r_42, kernelRun1_B.sl.r_43, kernelRun1_B.sl.r_44, kernelRun1_B.sl.r_45, kernelRun1_B.sl.r_46, kernelRun1_B.sl.r_47, vc, k0, k1, k2, k3, v0, v1, v2, v3, r, r1, r2, pay18, pay19, pay34, pay35, pay36, pay37, pay38, pay39, pay40, pay41, pay42, pay43, pay44, pay45, pay46, pay47, pay48, pay50, pay51, pay52, pay53, pay54, pay55, pay56, pay57, pay58, pay59, pay60, pay61, pay62, pay63, pay64, pay65, pay66, pay68, pay69, pay70, pay71, pay72, pay73, pay74, pay75, pay76, pay77, pay78, pay79, pay80, pay81, pay82, pay84, pay85, pay86, pay87, pay88, pay89, pay90, pay91, pay92, pay1]

omit h6 h7 in
/-- What the first grid point of a head leaves: the same over zeros. -/
theorem body_A (hc0) : out1_A_5 c i arg2 harg2 arg3 harg3 arg4 harg4 arg5 harg5 arg6 harg6 arg7 harg7 arg8 harg8 arg9 harg9 hc0 x0 x1 x2 x3 x4 = (up2 fun x d => sc * ∑ j ∈ Finset.range (T + x), H.D (T + x) j * H.k j d)
    ∧ out1_A_6 c i arg2 harg2 arg3 harg3 arg4 harg4 arg5 harg5 arg6 harg6 arg7 harg7 arg8 harg8 arg9 harg9 hc0 x0 x1 x2 x3 x4 = up2 (accd (fun _ _ => 0) (CK H T) (T + 1024))
    ∧ out1_A_7 c i arg2 harg2 arg3 harg3 arg4 harg4 arg5 harg5 arg6 harg6 arg7 harg7 arg8 harg8 arg9 harg9 hc0 x0 x1 x2 x3 x4 = up2 (accd (fun _ _ => 0) (CV H T) (T + 1024)) := by
  have kn : 256 * Scf.trips (k1_t1_loop i).lb (k1_t1_loop i).ub (k1_t1_loop i).st = T := by
    rw [show Scf.trips (k1_t1_loop i).lb (k1_t1_loop i).ub (k1_t1_loop i).st = 4 * (i 1).val from trips1 i]; omega
  have r := lq H T arg2 harg2 x0 h0 inb_S1024x128_S1024x128_0_0
  have r1 := lg H T arg6 harg6 x4 h4 inb_S1024x128_S1024x128_0_0
  have r2 := ll H T arg5 harg5 x3 h3 inb_S1x1024x1_S1x1024x1_0_0_0
  have z8 : arg8.view.read (Elt Ideal) (arg8.view.writes (Elt Ideal) arg8.view.junk (kernelRun1_A.sl.H6_1 (F := Ideal))) = up2 fun _ _ => 0 := by
    unfold kernelRun1_A.sl.H6_1; rw [View.read_writes_full]; refine ext2 fun x y => ?_; pointwise [k1_pay16]; rw [up2_ix, EReal.coe_zero]
  have z9 : arg9.view.read (Elt Ideal) (arg9.view.writes (Elt Ideal) arg9.view.junk (kernelRun1_A.sl.H7_1 (F := Ideal))) = up2 fun _ _ => 0 := by
    unfold kernelRun1_A.sl.H7_1; rw [View.read_writes_full]; refine ext2 fun x y => ?_; pointwise [k1_pay17]; rw [up2_ix, EReal.coe_zero]
  obtain ⟨e1, e8, e9⟩ := state H T c i arg2 harg2 arg3 harg3 arg4 harg4 arg5 harg5 arg6 harg6 arg7 harg7 arg8 harg8 arg9 harg9 _ _ _ (harg3.unread x1) (harg4.unread x2) (arg8.view.writes (Elt Ideal) arg8.view.junk kernelRun1_A.sl.H6_1) (arg9.view.writes (Elt Ideal) arg9.view.junk kernelRun1_A.sl.H7_1) (fun _ _ => 0) (fun _ _ => 0)
    r r1 r2 ((harg3.read_unread x1).trans h1) ((harg4.read_unread x2).trans h2) hT z8 z9 (Scf.trips (k1_t1_loop i).lb (k1_t1_loop i).ub (k1_t1_loop i).st) le_rfl
  rw [kn] at e1 e8 e9
  have o0 : k1_off3 i 0#32 = ![T, 0] := (off3_0 i).trans (by rw [hT])
  have o1 : k1_off3 i 1#32 = ![T + 256, 0] := (off3_1 i).trans (by rw [hT])
  have o2 : k1_off3 i 2#32 = ![T + 256 + 256, 0] := (off3_2 i).trans (by rw [hT])
  have o3 : k1_off3 i 3#32 = ![T + 256 + 256 + 256, 0] := (off3_3 i).trans (by rw [hT])
  have k0 := fun b => lkv harg3 H.k x1 h1 o0 b
  have k1 := fun b => lkv harg3 H.k x1 h1 o1 b
  have k2 := fun b => lkv harg3 H.k x1 h1 o2 b
  have k3 := fun b => lkv harg3 H.k x1 h1 o3 b
  have v0 := fun b => lkv harg4 H.v x2 h2 o0 b
  have v1 := fun b => lkv harg4 H.v x2 h2 o1 b
  have v2 := fun b => lkv harg4 H.v x2 h2 o2 b
  have v3 := fun b => lkv harg4 H.v x2 h2 o3 b
  have n3 : kernelRun1_A.sl.r_3 c i arg2 harg2 arg3 harg3 arg4 harg4 arg5 harg5 arg6 harg6 arg7 harg7 arg8 harg8 arg9 harg9 x0 x1 x2 x3 x4 = (carry H T T).1 := by unfold kernelRun1_A.sl.r_3; rw [st2]; exact congrArg (fun p => p.1) e1
  have n4 : kernelRun1_A.sl.r_4 c i arg2 harg2 arg3 harg3 arg4 harg4 arg5 harg5 arg6 harg6 arg7 harg7 arg8 harg8 arg9 harg9 x0 x1 x2 x3 x4 = (carry H T T).2.1 := by unfold kernelRun1_A.sl.r_4; rw [st2]; exact congrArg (fun p => p.2.1) e1
  have n5 : kernelRun1_A.sl.r_5 c i arg2 harg2 arg3 harg3 arg4 harg4 arg5 harg5 arg6 harg6 arg7 harg7 arg8 harg8 arg9 harg9 x0 x1 x2 x3 x4 = (carry H T T).2.2 := by unfold kernelRun1_A.sl.r_5; rw [st2]; exact congrArg (fun p => p.2.2) e1
  have vc : kernelRun1_A.sl.v214 = cols2 := rfl
  unfold out1_A_5 out1_A_6 out1_A_7
  rw [View.read_writes_of_cover VO1_6 VO1_6.junk arg8.view arg8.view.junk _ (cover1_A_6 c i arg2 harg2 arg3 harg3 arg4 harg4 arg5 harg5 arg6 harg6 arg7 harg7 arg8 harg8 arg9 harg9 hc0 x0 x1 x2 x3 x4),
    View.read_writes_of_cover VO1_7 VO1_7.junk arg9.view arg9.view.junk _ (cover1_A_7 c i arg2 harg2 arg3 harg3 arg4 harg4 arg5 harg5 arg6 harg6 arg7 harg7 arg8 harg8 arg9 harg9 hc0 x0 x1 x2 x3 x4)]
  unfold kernelRun1_A
  dsimp only
  unfold kernelRun1_A.sl.H6_3 kernelRun1_A.sl.H6_2 kernelRun1_A.sl.H6_1_1 kernelRun1_A.sl.H7_3 kernelRun1_A.sl.H7_2 kernelRun1_A.sl.H7_1_1
  refine ⟨(View.read_writes_full _ _ _ _ _).trans ?_, accd_writes4 arg8.view _ (fun _ _ => 0) (CK H T) _ T ?_ o0 o1 o2 o3 _ _ _ _ _ _ _ _ ?_ ?_ ?_ ?_, accd_writes4 arg9.view _ (fun _ _ => 0) (CV H T) _ T ?_ o0 o1 o2 o3 _ _ _ _ _ _ _ _ ?_ ?_ ?_ ?_⟩
  case refine_2 => rw [st2, List.nil_append, View.writes_append]; exact e8
  case refine_7 => rw [st2, List.nil_append, View.writes_append]; exact e9
  all_goals
    clear e1 e8 e9
    first | intro e | have e : T = T := rfl
    first | rw [e] | (unfold kernelRun1_A.sl.v99; rw [e]) | (unfold kernelRun1_A.sl.v91; rw [e]) | skip
    simp only [kernelRun1_A.sl.r, kernelRun1_A.sl.r_1, kernelRun1_A.sl.r_2, n3, n4, n5, carry, kernelRun1_A.sl.r_6, kernelRun1_A.sl.r_7, kernelRun1_A.sl.r_8, kernelRun1_A.sl.r_9, kernelRun1_A.sl.r_10, kernelRun1_A.sl.r_11, kernelRun1_A.sl.r_12, kernelRun1_A.sl.r_13, kernelRun1_A.sl.r_14, kernelRun1_A.sl.r_15, kernelRun1_A.sl.r_16, kernelRun1_A.sl.r_17, kernelRun1_A.sl.r_18, kernelRun1_A.sl.r_19, kernelRun1_A.sl.r_20, kernelRun1_A.sl.r_21, kernelRun1_A.sl.r_22, kernelRun1_A.sl.r_23, kernelRun1_A.sl.r_24, kernelRun1_A.sl.r_25, kernelRun1_A.sl.r_26, kernelRun1_A.sl.r_27, kernelRun1_A.sl.r_28, kernelRun1_A.sl.r_29, kernelRun1_A.sl.r_30, kernelRun1_A.sl.r_31, kernelRun1_A.sl.r_32, kernelRun1_A.sl.r_33, kernelRun1_A.sl.r_34, kernelRun1_A.sl.r_35, kernelRun1_A.sl.r_36, kernelRun1_A.sl.r_37, kernelRun1_A.sl.r_38, kernelRun1_A.sl.r_39, kernelRun1_A.sl.r_40, kernelRun1_A.sl.r_41, kernelRun1_A.sl.r_42, kernelRun1_A.sl.r_43, kernelRun1_A.sl.r_44, kernelRun1_A.sl.r_45, kernelRun1_A.sl.r_46, kernelRun1_A.sl.r_47, vc, k0, k1, k2, k3, v0, v1, v2, v3, r, r1, r2, pay18, pay19, pay34, pay35, pay36, pay37, pay38, pay39, pay40, pay41, pay42, pay43, pay44, pay45, pay46, pay47, pay48, pay50, pay51, pay52, pay53, pay54, pay55, pay56, pay57, pay58, pay59, pay60, pay61, pay62, pay63, pay64, pay65, pay66, pay68, pay69, pay70, pay71, pay72, pay73, pay74, pay75, pay76, pay77, pay78, pay79, pay80, pay81, pay82, pay84, pay85, pay86, pay87, pay88, pay89, pay90, pay91, pay92, pay1]
end
end Cert.AttnKernelIdeal.RefValue
end
-- ==== Proof.AttnFwdBody.lean ====
/- What one grid point of the attention's forward kernel leaves: the rows' outputs and their sums of logarithms. -/
module

public import proofs.«01_k».proof.Proof.AttnFwdTile
public import proofs.«01_k».proof.Proof.AttnBody
import all proofs.«01_k».proof.Proof.Gen.AttnKernelIdeal.Loops
import all proofs.«01_k».proof.Proof.Gen.AttnKernelIdeal.Frame

@[expose] public section

set_option maxRecDepth 16384

noncomputable section

namespace Cert.AttnKernelIdeal.Fwd

open Cert.AttnKernelIdeal Cert.AttnKernelIdeal.Gen Idealize.ShloMosaic Idealize.ShloMosaic.TcCoe Idealize.SL.Sem
open Cert.Reals Cert.Attn
open Cert.AttnKernelIdeal.RefValue (tl tr rows_read lkv)

theorem trips1 : ∀ i : grid0.Coords, (k0_t1_loop i).trips = 8 * (i 1).val := by decide +kernel
theorem trips2 : ∀ i : grid0.Coords, (k0_t2_loop i).trips = 0 := by decide +kernel
theorem off1 : ∀ (i : grid0.Coords) (r : Fin 8), k0_off1 i (BitVec.ofNat 32 r.val) = ![2048 * (i 1).val + 256 * r.val, 0] := by decide +kernel
theorem off2 : ∀ (i : grid0.Coords) (k : Fin (k0_t1_loop i).trips), k0_off2 i k = ![2048 * (i 1).val - 256 * (k.val + 1), 0] := by decide +kernel

variable (H : Head) (T : ℕ)

/-- The two carried values when the keys from `n` on are done. -/
def carry (n : ℕ) : FVec Ideal S2048x1 .f32 × FVec Ideal S2048x128 .f32 :=
  (up2 fun x _ => H.car (T + x) n, up2 fun x d => H.O (T + x) n d)

section
variable (c : Dev nD) (i : grid0.Coords) (arg2 : Memref sig .tc .vmem S2048x128 .bf16) (harg2 : arg2.IsWhole) (arg3 : Memref sig .tc .vmem S8192x128 .bf16) (harg3 : arg3.IsWhole)
  (arg4 : Memref sig .tc .vmem S8192x128 .bf16) (harg4 : arg4.IsWhole) (arg5 : Memref sig .tc .vmem S2048x128 .bf16) (harg5 : arg5.IsWhole) (arg6 : Memref sig .tc .vmem S1x2048x1 .f32) (harg6 : arg6.IsWhole)
  (x0 : Vec Ideal S2048x128 .bf16) (x1 x2 : Vec Ideal S8192x128 .bf16)
  (h0 : x0 = up2 (tl H.q T 0)) (h1 : x1 = up2 H.k) (h2 : x2 = up2 H.v) (hT : T = 2048 * (i 1).val)

include h1 h2 hT in
theorem trip (k : Fin (k0_t1_loop i).trips) :
    tripR_k0_t1 (F := Ideal) Variants.none c none i arg2 harg2 arg3 harg3 arg4 harg4 arg5 harg5 arg6 harg6 (Q H T) k0_pay14 (harg3.unread x1) (harg4.unread x2) k (carry H T (T - 256 * k.val))
      = carry H T (T - 256 * (k.val + 1)) := by
  have hk : 256 * (k.val + 1) ≤ T := by have := k.isLt; have := trips1 i; omega
  have ho : k0_off2 i k = ![T - 256 * (k.val + 1), 0] := (off2 i k).trans (by rw [hT])
  have k0 := fun b => lkv harg3 H.k x1 h1 ho b
  have v0 := fun b => lkv harg4 H.v x2 h2 ho b
  unfold tripR_k0_t1 trip_k0_t1
  dsimp only
  rw [k0, v0, carry, show T - 256 * k.val = T - 256 * (k.val + 1) + 256 by omega, pay6 H T _ (by omega), pay5 H T _ (by omega), carry]

include h1 h2 hT in
theorem state (n : ℕ) (hn : n ≤ (k0_t1_loop i).trips) :
    st_k0_t1 (F := Ideal) Variants.none c none i arg2 harg2 arg3 harg3 arg4 harg4 arg5 harg5 arg6 harg6 (Q H T) k0_pay14 (harg3.unread x1) (harg4.unread x2) (carry H T T) n = carry H T (T - 256 * n) := by
  induction n with
  | zero => rfl
  | succ n ih =>
    have hs := st_k0_t1_succ (F := Ideal) Variants.none c none i arg2 harg2 arg3 harg3 arg4 harg4 arg5 harg5 arg6 harg6 (Q H T) k0_pay14 (harg3.unread x1) (harg4.unread x2) (carry H T T) ⟨n, by omega⟩
    rw [hs, ih (by omega)]
    exact trip H T c i arg2 harg2 arg3 harg3 arg4 harg4 arg5 harg5 arg6 harg6 x1 x2 h1 h2 hT ⟨n, by omega⟩

include h0 h1 h2 hT in
/-- The two outputs' blocks. -/
theorem body : out0_A_3 c i arg2 harg2 arg3 harg3 arg4 harg4 arg5 harg5 arg6 harg6 x0 x1 x2 = (up2 fun x d => H.O (T + x) 0 d)
    ∧ out0_A_4 c i arg2 harg2 arg3 harg3 arg4 harg4 arg5 harg5 arg6 harg6 x0 x1 x2 = fun j => ((H.car (T + (j 1).val) 0 : ℝ) : EReal) := by
  have q0 : arg2.view.readAt (Elt Ideal) (Rect.unit (s := S2048x128) ![0, 0] S2048x128.size inb_S2048x128_S2048x128_0_0).toLoadRect (harg2.unread x0) = up2 (tl H.q T 0) := by
    rw [View.readAt_full, harg2.read_unread, h0]
  have o (r : Fin 8) : k0_off1 i (BitVec.ofNat 32 r.val) = ![T + 256 * r.val, 0] := (off1 i r).trans (by rw [hT])
  have o0 : k0_off1 i 0#32 = ![T + 0, 0] := o 0
  have o1 : k0_off1 i 1#32 = ![T + 256, 0] := o 1
  have o2 : k0_off1 i 2#32 = ![T + 512, 0] := o 2
  have o3 : k0_off1 i 3#32 = ![T + 768, 0] := o 3
  have o4 : k0_off1 i 4#32 = ![T + 1024, 0] := o 4
  have o5 : k0_off1 i 5#32 = ![T + 1280, 0] := o 5
  have o6 : k0_off1 i 6#32 = ![T + 1536, 0] := o 6
  have o7 : k0_off1 i 7#32 = ![T + 1792, 0] := o 7
  have k0 := fun b => lkv harg3 H.k x1 h1 o0 b
  have k1 := fun b => lkv harg3 H.k x1 h1 o1 b
  have k2 := fun b => lkv harg3 H.k x1 h1 o2 b
  have k3 := fun b => lkv harg3 H.k x1 h1 o3 b
  have k4 := fun b => lkv harg3 H.k x1 h1 o4 b
  have k5 := fun b => lkv harg3 H.k x1 h1 o5 b
  have k6 := fun b => lkv harg3 H.k x1 h1 o6 b
  have k7 := fun b => lkv harg3 H.k x1 h1 o7 b
  have v0 := fun b => lkv harg4 H.v x2 h2 o0 b
  have v1 := fun b => lkv harg4 H.v x2 h2 o1 b
  have v2 := fun b => lkv harg4 H.v x2 h2 o2 b
  have v3 := fun b => lkv harg4 H.v x2 h2 o3 b
  have v4 := fun b => lkv harg4 H.v x2 h2 o4 b
  have v5 := fun b => lkv harg4 H.v x2 h2 o5 b
  have v6 := fun b => lkv harg4 H.v x2 h2 o6 b
  have v7 := fun b => lkv harg4 H.v x2 h2 o7 b
  have r0 : kernelRun0_A.sl.r c arg2 harg2 x0 = Q H T := by unfold kernelRun0_A.sl.r; rw [q0, pay13]
  have ini : (k0_pay2 (kernelRun0_A.sl.r_38 c i arg2 harg2 arg3 harg3 x0 x1) (kernelRun0_A.sl.r_42 c i arg2 harg2 arg3 harg3 x0 x1),
      k0_pay1 (kernelRun0_A.sl.r_38 c i arg2 harg2 arg3 harg3 x0 x1) (kernelRun0_A.sl.r_39 c i arg2 harg2 arg3 harg3 arg4 harg4 x0 x1 x2) (kernelRun0_A.sl.r_40 c i arg4 harg4 x2) k0_pay79
        (kernelRun0_A.sl.r_41 c i arg2 harg2 arg3 harg3 x0 x1) (kernelRun0_A.sl.r_42 c i arg2 harg2 arg3 harg3 x0 x1) (kernelRun0_A.sl.r_43 c i arg2 harg2 arg3 harg3 x0 x1)) = carry H T T := by
    have c0 := pay15 H T
    have a0 := pay16 H T
    simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, r0, q0, k0, k1, k2, k3, k4, k5, k6, k7, v0, v1, v2, v3, v4, v5, v6, v7, c0, a0, pay17, pay18 H T, pay19 H T, pay21, pay24, pay25, pay26, pay27, pay28, pay29, pay31, pay34, pay35, pay36, pay37, pay38, pay39, pay43, pay44, pay45, pay46, pay47, pay48, pay49, pay50, pay52, pay53, pay54, pay55, pay56, pay58, pay59, pay60, pay61, pay62, pay64, pay65, pay66, pay67, pay68, pay69, pay70, pay71, pay73, pay74, pay76, pay77, pay78, pay80, pay81, pay82, pay1, pay2]
    rfl
  have fin : st_k0_t1 (F := Ideal) Variants.none c none i arg2 harg2 arg3 harg3 arg4 harg4 arg5 harg5 arg6 harg6 (Q H T) k0_pay14 (harg3.unread x1) (harg4.unread x2) (carry H T T) (Scf.trips (k0_t1_loop i).lb (k0_t1_loop i).ub (k0_t1_loop i).st) = carry H T 0 := by
    rw [show Scf.trips (k0_t1_loop i).lb (k0_t1_loop i).ub (k0_t1_loop i).st = (k0_t1_loop i).trips from rfl, state H T c i arg2 harg2 arg3 harg3 arg4 harg4 arg5 harg5 arg6 harg6 x1 x2 h1 h2 hT _ le_rfl, trips1 i]
    congr 1; omega
  have z (v1 : FVec Ideal S2048x128 .bf16) (v8 : FVec Ideal S256x256 .bf16) (init : FVec Ideal S2048x1 .f32 × FVec Ideal S2048x128 .f32) :
      st_k0_t2 (F := Ideal) Variants.none c none i arg2 harg2 arg3 harg3 arg4 harg4 arg5 harg5 arg6 harg6 v1 v8 (harg3.unread x1) (harg4.unread x2) init (Scf.trips (k0_t2_loop i).lb (k0_t2_loop i).ub (k0_t2_loop i).st) = init := by
    rw [show Scf.trips (k0_t2_loop i).lb (k0_t2_loop i).ub (k0_t2_loop i).st = 0 from trips2 i]
    rfl
  have all : st_k0_t2 (F := Ideal) Variants.none c none i arg2 harg2 arg3 harg3 arg4 harg4 arg5 harg5 arg6 harg6 (kernelRun0_A.sl.r c arg2 harg2 x0) k0_pay14 (harg3.unread x1) (harg4.unread x2)
      (st_k0_t1 (F := Ideal) Variants.none c none i arg2 harg2 arg3 harg3 arg4 harg4 arg5 harg5 arg6 harg6 (kernelRun0_A.sl.r c arg2 harg2 x0) k0_pay14 (harg3.unread x1) (harg4.unread x2)
        (k0_pay2 (kernelRun0_A.sl.r_38 c i arg2 harg2 arg3 harg3 x0 x1) (kernelRun0_A.sl.r_42 c i arg2 harg2 arg3 harg3 x0 x1),
          k0_pay1 (kernelRun0_A.sl.r_38 c i arg2 harg2 arg3 harg3 x0 x1) (kernelRun0_A.sl.r_39 c i arg2 harg2 arg3 harg3 arg4 harg4 x0 x1 x2) (kernelRun0_A.sl.r_40 c i arg4 harg4 x2) k0_pay79
            (kernelRun0_A.sl.r_41 c i arg2 harg2 arg3 harg3 x0 x1) (kernelRun0_A.sl.r_42 c i arg2 harg2 arg3 harg3 x0 x1) (kernelRun0_A.sl.r_43 c i arg2 harg2 arg3 harg3 x0 x1))
        (Scf.trips (k0_t1_loop i).lb (k0_t1_loop i).ub (k0_t1_loop i).st)) (Scf.trips (k0_t2_loop i).lb (k0_t2_loop i).ub (k0_t2_loop i).st) = carry H T 0 := by
    rw [z, ini, r0, fin]
  refine ⟨(View.read_writes_full _ _ _ _ _).trans ?_, (View.read_writes_full _ _ _ _ _).trans ?_⟩
  · refine (congrArg (fun p => k0_pay11 p.2) all).trans ?_
    exact pay11 fun x d => H.O (T + x) 0 d
  · refine (congrArg (fun p => k0_pay12 p.1) all).trans ?_
    funext j
    pointwise [k0_pay12]
    rfl
end
end Cert.AttnKernelIdeal.Fwd
end
-- ==== Proof.AttnBwdValue.lean ====
/- The attention's backward kernel over its whole grid: the arrays its region leaves, for real projections, a real cotangent and the rows' log-sums. -/
module

public import proofs.«01_k».proof.Proof.AttnBody

@[expose] public section

set_option maxRecDepth 16384

noncomputable section

namespace Cert.AttnKernelIdeal.RefValue

open Cert.AttnKernelIdeal Cert.AttnKernelIdeal.Gen Idealize.ShloMosaic Idealize.ShloMosaic.TcCoe Idealize.SL.Sem
open Idealize.ShloMosaic.Pipeline (Dat)
open Cert.Reals Cert.Attn

theorem idx1 : ∀ t : Fin cfg1.N, win1_0.index t = ![t.val % 8, t.val / 8] ∧ win1_1.index t = ![0, 8 + t.val / 8]
    ∧ win1_2.index t = ![0, 16 + t.val / 8] ∧ win1_3.index t = ![t.val / 8, t.val % 8, 0]
    ∧ win1_4.index t = ![t.val % 8, t.val / 8] ∧ win1_5.index t = ![t.val % 8, t.val / 8]
    ∧ win1_6.index t = ![0, t.val / 8] ∧ win1_7.index t = ![0, t.val / 8] ∧ (grid1.coords t 1).val = t.val % 8 :=
  (by decide +kernel : ∀ t : Fin grid1.N, _)

variable (V : (c : Dev nD) → (b : Ref sig .tc) → Buf (Elt Ideal) ((c : Thread nD τ).loc b)) (c : Dev nD) (Z C : ℕ → ℕ → ℝ)
  (hz : V c main_v0 = (up2 Z : FVec Ideal S8192x4608 .bf16)) (hc : V c main_arg1 = (up2 C : FVec Ideal S8192x2048 .f32))
  (hl : V c main_v1_1 = fun i : S8x8192x1.Idx => (((hd Z C (i 0).val).tot (i 1).val : ℝ) : EReal))

theorem at2 (f : ℕ → ℕ → ℝ) {a b a' b' : ℕ} (ha : a = a') (hb : b = b') : (f a b : EReal) = (f a' b' : EReal) := by rw [ha, hb]

include hz in
theorem blk0 (t : Fin cfg1.N) : iblk1 V c 0 t = (up2 (tl (hd Z C (t.val / 8)).q (1024 * (t.val % 8)) 0) : FVec Ideal S1024x128 .bf16) := by
  refine ext2 fun x y => ?_
  blk_simp [iblk1, idx1 t]
  rw [hz, up2_at, up2_ix]
  refine at2 Z ?_ ?_ <;> (blk_simp [idx1 t]; omega)

include hz in
theorem blk1 (t : Fin cfg1.N) : iblk1 V c 1 t = (up2 (hd Z C (t.val / 8)).k : FVec Ideal S8192x128 .bf16) := by
  refine ext2 fun x y => ?_
  blk_simp [iblk1, idx1 t]
  rw [hz, up2_at, up2_ix]
  refine at2 Z ?_ ?_ <;> (blk_simp [idx1 t]; try omega)

include hz in
theorem blk2 (t : Fin cfg1.N) : iblk1 V c 2 t = (up2 (hd Z C (t.val / 8)).v : FVec Ideal S8192x128 .bf16) := by
  refine ext2 fun x y => ?_
  blk_simp [iblk1, idx1 t]
  rw [hz, up2_at, up2_ix]
  refine at2 Z ?_ ?_ <;> (blk_simp [idx1 t]; try omega)

include hl in
theorem blk3 (t : Fin cfg1.N) : k1_pay20 (iblk1 V c 3 t) = up2 fun x _ => (hd Z C (t.val / 8)).tot (1024 * (t.val % 8) + x) := by
  refine ext2 fun x y => ?_
  pointwise [k1_pay20]
  blk_simp [iblk1, idx1 t]
  rw [hl, up2_ix]
  refine at2 (fun h => (hd Z C h).tot) ?_ ?_ <;> (blk_simp [idx1 t]; try omega)

include hc in
theorem blk4 (t : Fin cfg1.N) : iblk1 V c 4 t = (up2 (tl (hd Z C (t.val / 8)).g (1024 * (t.val % 8)) 0) : FVec Ideal S1024x128 .f32) := by
  refine ext2 fun x y => ?_
  blk_simp [iblk1, idx1 t]
  rw [hc, up2_at, up2_ix]
  refine at2 C ?_ ?_ <;> (blk_simp [idx1 t]; omega)

/-- A key past the block of queries gets nothing from it, so the sum over the rows done is the whole. -/
theorem accd_CK (H : Head) (T : ℕ) (X : ℕ → ℕ → ℝ) : accd X (CK H T) (T + 1024) = fun s d => X s d + CK H T s d := by
  funext s d
  unfold accd
  by_cases h : s < T + 1024
  · rw [if_pos h]
  · rw [if_neg h, CK, Finset.sum_eq_zero fun x _ => by rw [H.D_of_le (by have := x.isLt; omega), zero_mul], mul_zero]
theorem accd_CV (H : Head) (T : ℕ) (X : ℕ → ℕ → ℝ) : accd X (CV H T) (T + 1024) = fun s d => X s d + CV H T s d := by
  funext s d
  unfold accd
  by_cases h : s < T + 1024
  · rw [if_pos h]
  · rw [if_neg h, CV, Finset.sum_eq_zero fun x _ => by rw [H.W_of_le (by have := x.isLt; omega), zero_mul]]

/-- The queries' gradient of the 1024 queries from `T`. -/
def DQ (H : Head) (T : ℕ) : FVec Ideal S1024x128 .f32 := up2 fun x d => sc * ∑ j ∈ Finset.range (T + x), H.D (T + x) j * H.k j d
/-- What the first `n` blocks of queries add to the keys' gradient. -/
def AK (H : Head) (n s d : ℕ) : ℝ := ∑ j ∈ Finset.range n, CK H (1024 * j) s d
/-- And to the values'. -/
def AV (H : Head) (n s d : ℕ) : ℝ := ∑ j ∈ Finset.range n, CV H (1024 * j) s d

include hz hc hl in
/-- At the first block of queries of a head. -/
theorem step_A (t : Fin cfg1.N) (h0 : t.val % 8 = 0) : outsAt1 V c t.val t.isLt =
    (DQ (hd Z C (t.val / 8)) (1024 * (t.val % 8)), (up2 (AK (hd Z C (t.val / 8)) 1) : FVec Ideal S8192x128 .f32),
      (up2 (AV (hd Z C (t.val / 8)) 1) : FVec Ideal S8192x128 .f32)) := by
  obtain ⟨b5, b6, b7⟩ := body_A (hd Z C (t.val / 8)) (1024 * (t.val % 8)) c (grid1.coords t) _ (hs1_0 t) _ (hs1_1 t) _ (hs1_2 t) _ (hs1_3 t) _ (hs1_4 t) _ (hs1_5 t) _ (hs1_6 t) _ (hs1_7 t)
    _ _ _ _ _ (blk0 V c Z C hz t) (blk1 V c Z C hz t) (blk2 V c Z C hz t) (blk3 V c Z C hl t) (blk4 V c Z C hc t) (by rw [(idx1 t).2.2.2.2.2.2.2.2]) ((hcond1_0 t).mpr h0)
  rw [accd_CK] at b6
  rw [accd_CV] at b7
  rw [outsAt1_A V c t h0, b5, b6, b7]
  refine congrArg₂ Prod.mk rfl (congrArg₂ Prod.mk (congrArg up2 (funext fun s => funext fun d => ?_)) (congrArg up2 (funext fun s => funext fun d => ?_)))
  · simp only [AK, Finset.sum_range_one, h0, zero_add]
  · simp only [AV, Finset.sum_range_one, h0, zero_add]

include hz hc hl in
/-- At a later block. -/
theorem step_B (t : Fin cfg1.N) (h0 : t.val % 8 ≠ 0) (x5 : FVec Ideal S1024x128 .f32)
    (ih : outsAt1 V c (t.val - 1) (by have := t.isLt; omega) = (x5, (up2 (AK (hd Z C (t.val / 8)) (t.val % 8)) : FVec Ideal S8192x128 .f32),
      (up2 (AV (hd Z C (t.val / 8)) (t.val % 8)) : FVec Ideal S8192x128 .f32))) : outsAt1 V c t.val t.isLt =
    (DQ (hd Z C (t.val / 8)) (1024 * (t.val % 8)), (up2 (AK (hd Z C (t.val / 8)) (t.val % 8 + 1)) : FVec Ideal S8192x128 .f32),
      (up2 (AV (hd Z C (t.val / 8)) (t.val % 8 + 1)) : FVec Ideal S8192x128 .f32)) := by
  obtain ⟨b5, b6, b7⟩ := body_B (hd Z C (t.val / 8)) (1024 * (t.val % 8)) c (grid1.coords t) _ (hs1_0 t) _ (hs1_1 t) _ (hs1_2 t) _ (hs1_3 t) _ (hs1_4 t) _ (hs1_5 t) _ (hs1_6 t) _ (hs1_7 t)
    _ _ _ _ _ _ _ _ _ (blk0 V c Z C hz t) (blk1 V c Z C hz t) (blk2 V c Z C hz t) (blk3 V c Z C hl t) (blk4 V c Z C hc t)
    (congrArg (fun p => p.2.1) ih) (congrArg (fun p => p.2.2) ih) (by rw [(idx1 t).2.2.2.2.2.2.2.2]) (fun h => h0 ((hcond1_0 t).mp h))
  rw [accd_CK] at b6
  rw [accd_CV] at b7
  rw [outsAt1_B V c t h0, b5, b6, b7]
  refine congrArg₂ Prod.mk rfl (congrArg₂ Prod.mk (congrArg up2 (funext fun s => funext fun d => ?_)) (congrArg up2 (funext fun s => funext fun d => ?_)))
  · simp only [AK, Finset.sum_range_succ]
  · simp only [AV, Finset.sum_range_succ]

include hz hc hl in
/-- The three outputs' blocks after each grid point. -/
theorem outs (n : ℕ) : ∀ hn : n < cfg1.N, outsAt1 V c n hn =
    (DQ (hd Z C (n / 8)) (1024 * (n % 8)), (up2 (AK (hd Z C (n / 8)) (n % 8 + 1)) : FVec Ideal S8192x128 .f32),
      (up2 (AV (hd Z C (n / 8)) (n % 8 + 1)) : FVec Ideal S8192x128 .f32)) := by
  induction n with
  | zero => exact fun hn => step_A V c Z C hz hc hl ⟨0, hn⟩ rfl
  | succ n ih =>
    intro hn
    by_cases h : (n + 1) % 8 = 0
    · have e := step_A V c Z C hz hc hl ⟨n + 1, hn⟩ h
      simp only [h] at e ⊢
      exact e
    · have e := ih (by omega)
      rw [show n / 8 = (n + 1) / 8 by omega, show n % 8 + 1 = (n + 1) % 8 by omega] at e
      exact step_B V c Z C hz hc hl ⟨n + 1, hn⟩ h _ e

theorem blocks_sum (f : ℕ → ℝ) (n : ℕ) : ∑ j ∈ Finset.range n, ∑ x : Fin 1024, f (1024 * j + x.val) = ∑ t ∈ Finset.range (1024 * n), f t := by
  induction n with
  | zero => rfl
  | succ n ih => rw [Finset.sum_range_succ, ih, range_add, Nat.mul_succ]

theorem AK_all (H : Head) (s d : ℕ) : AK H 8 s d = sc * ∑ t ∈ Finset.range 8192, H.D t s * H.q t d := by
  unfold AK CK
  rw [← Finset.mul_sum, blocks_sum (fun t => H.D t s * H.q t d)]
theorem AV_all (H : Head) (s d : ℕ) : AV H 8 s d = ∑ t ∈ Finset.range 8192, H.W t s * H.g t d := by
  unfold AV CV
  rw [blocks_sum (fun t => H.W t s * H.g t d)]

theorem at3 (f : ℕ → ℕ → ℕ → ℝ) {a b d a' b' d' : ℕ} (ha : a = a') (hb : b = b') (hd : d = d') : (f a b d : EReal) = (f a' b' d' : EReal) := by rw [ha, hb, hd]

include hz hc hl in
/-- The queries' gradient. -/
theorem final_dq : (dat1 V c).arrAt 5 cfg1.N = (up2 (dQ Z C) : FVec Ideal S8192x1024 .f32) := by
  refine (dat1 V c).arrAt_eq_of_covers 5 _ (by decide +kernel) fun t hf y => ?_
  have h1 : (y 1).val < 128 := (y 1).isLt
  blk_simp
  rw [after1_5, outs V c Z C hz hc hl t.val t.isLt]
  dsimp only [DQ]
  rw [up2_at, up2_at]
  refine at3 (fun a b d => sc * ∑ j ∈ Finset.range a, (hd Z C b).D a j * (hd Z C b).k j d) ?_ ?_ ?_ <;> (blk_simp [idx1 t]; try omega)

include hz hc hl in
/-- The keys' gradient. -/
theorem final_dk : (dat1 V c).arrAt 6 cfg1.N = (up2 (dK Z C) : FVec Ideal S8192x1024 .f32) := by
  refine (dat1 V c).arrAt_eq_of_covers 6 _ (by decide +kernel) fun t hf y => ?_
  have h1 : (y 1).val < 128 := (y 1).isLt
  blk_simp
  rw [after1_6, outs V c Z C hz hc hl t.val t.isLt, (flush1_6 t).mp hf]
  dsimp only
  rw [up2_at, up2_at, AK_all]
  refine at3 (fun a b d => sc * ∑ j ∈ Finset.range 8192, (hd Z C b).D j a * (hd Z C b).q j d) ?_ ?_ ?_ <;> (blk_simp [idx1 t]; try omega)

include hz hc hl in
/-- The values' gradient. -/
theorem final_dv : (dat1 V c).arrAt 7 cfg1.N = (up2 (dV Z C) : FVec Ideal S8192x1024 .f32) := by
  refine (dat1 V c).arrAt_eq_of_covers 7 _ (by decide +kernel) fun t hf y => ?_
  have h1 : (y 1).val < 128 := (y 1).isLt
  blk_simp
  rw [after1_7, outs V c Z C hz hc hl t.val t.isLt, (flush1_7 t).mp hf]
  dsimp only
  rw [up2_at, up2_at, AV_all]
  refine at3 (fun a b d => ∑ j ∈ Finset.range 8192, (hd Z C b).W j a * (hd Z C b).g j d) ?_ ?_ ?_ <;> (blk_simp [idx1 t]; try omega)

end Cert.AttnKernelIdeal.RefValue
end
-- ==== Proof.AttnFwdValue.lean ====
/- The attention's forward kernel over its whole grid: the output and the rows' log-sums its region leaves, for real projections. -/
module

public import proofs.«01_k».proof.Proof.AttnFwdBody
public import proofs.«01_k».proof.Proof.AttnBwdValue

@[expose] public section

set_option maxRecDepth 16384

noncomputable section

namespace Cert.AttnKernelIdeal.Fwd

open Cert.AttnKernelIdeal Cert.AttnKernelIdeal.Gen Idealize.ShloMosaic Idealize.ShloMosaic.TcCoe Idealize.SL.Sem
open Idealize.ShloMosaic.Pipeline (Dat)
open Cert.Reals Cert.Attn Cert.AttnKernelIdeal.RefValue

theorem idx0 : ∀ t : Fin cfg0.N, win0_0.index t = ![t.val % 4, t.val / 4] ∧ win0_1.index t = ![0, 8 + t.val / 4]
    ∧ win0_2.index t = ![0, 16 + t.val / 4] ∧ win0_3.index t = ![t.val % 4, t.val / 4]
    ∧ win0_4.index t = ![t.val / 4, t.val % 4, 0] ∧ (grid0.coords t 1).val = t.val % 4 :=
  (by decide +kernel : ∀ t : Fin grid0.N, _)

variable (V : (c : Dev nD) → (b : Ref sig .tc) → Buf (Elt Ideal) ((c : Thread nD τ).loc b)) (c : Dev nD) (Z C : ℕ → ℕ → ℝ)
  (hz : V c main_v0 = (up2 Z : FVec Ideal S8192x4608 .bf16))

include hz in
theorem blk0 (t : Fin cfg0.N) : iblk0 V c 0 t = (up2 (tl (hd Z C (t.val / 4)).q (2048 * (t.val % 4)) 0) : FVec Ideal S2048x128 .bf16) := by
  refine ext2 fun x y => ?_
  blk_simp [iblk0, idx0 t]
  rw [hz, up2_at, up2_ix]
  refine at2 Z ?_ ?_ <;> (blk_simp [idx0 t]; omega)

include hz in
theorem blk1 (t : Fin cfg0.N) : iblk0 V c 1 t = (up2 (hd Z C (t.val / 4)).k : FVec Ideal S8192x128 .bf16) := by
  refine ext2 fun x y => ?_
  blk_simp [iblk0, idx0 t]
  rw [hz, up2_at, up2_ix]
  refine at2 Z ?_ ?_ <;> (blk_simp [idx0 t]; try omega)

include hz in
theorem blk2 (t : Fin cfg0.N) : iblk0 V c 2 t = (up2 (hd Z C (t.val / 4)).v : FVec Ideal S8192x128 .bf16) := by
  refine ext2 fun x y => ?_
  blk_simp [iblk0, idx0 t]
  rw [hz, up2_at, up2_ix]
  refine at2 Z ?_ ?_ <;> (blk_simp [idx0 t]; try omega)

include hz in
/-- The two outputs' blocks at a grid point. -/
theorem outs (t : Fin cfg0.N) : outsAt0 V c t = ((up2 fun x d => (hd Z C (t.val / 4)).O (2048 * (t.val % 4) + x) 0 d),
    fun j => (((hd Z C (t.val / 4)).car (2048 * (t.val % 4) + (j 1).val) 0 : ℝ) : EReal)) := by
  obtain ⟨b3, b4⟩ := body (hd Z C (t.val / 4)) (2048 * (t.val % 4)) c (grid0.coords t) _ (hs0_0 t) _ (hs0_1 t) _ (hs0_2 t) _ (hs0_3 t) _ (hs0_4 t)
    _ _ _ (blk0 V c Z C hz t) (blk1 V c Z C hz t) (blk2 V c Z C hz t) (by rw [(idx0 t).2.2.2.2.2])
  rw [outsAt0, b3, b4]

theorem car_zero (H : Head) (t : ℕ) : H.car t 0 = H.tot t := by
  simp [Head.car, Head.P]
theorem O_zero (H : Head) (t d : ℕ) : H.O t 0 d = ∑ j ∈ Finset.range t, H.W t j * H.v j d := by
  simp [Head.O]

include hz in
theorem final_o : (dat0 V c).arrAt 3 cfg0.N = (up2 (out Z C) : FVec Ideal S8192x1024 .bf16) := by
  refine (dat0 V c).arrAt_eq_of_covers 3 _ (by decide +kernel) fun t hf y => ?_
  have h1 : (y 1).val < 128 := (y 1).isLt
  blk_simp
  rw [after0_3, outs V c Z C hz t]
  dsimp only
  rw [up2_at, up2_at, O_zero]
  refine at3 (fun a b d => ∑ j ∈ Finset.range a, (hd Z C b).W a j * (hd Z C b).v j d) ?_ ?_ ?_ <;> (blk_simp [idx0 t]; try omega)

include hz in
theorem final_l : (dat0 V c).arrAt 4 cfg0.N = (fun i : S8x8192x1.Idx => (((hd Z C (i 0).val).tot (i 1).val : ℝ) : EReal)) := by
  refine (dat0 V c).arrAt_eq_of_covers 4 _ (by decide +kernel) fun t hf y => ?_
  have h0 : (y 0).val < 1 := (y 0).isLt
  blk_simp
  rw [after0_4, outs V c Z C hz t]
  dsimp only
  rw [car_zero]
  refine at2 (fun h => (hd Z C h).tot) ?_ ?_ <;> (blk_simp [idx0 t]; try omega)

end Cert.AttnKernelIdeal.Fwd
end
-- ==== Proof.AttnRun.lean ====
/- The whole attention program's run: what every final state's arrays hold, the forward region's outputs feeding the backward region. -/
module

public import proofs.«01_k».proof.Proof.AttnFwdValue
import all proofs.«01_k».proof.Proof.Gen.AttnKernelIdeal.Launch
import all proofs.«01_k».proof.Proof.Gen.AttnKernelIdeal.Frame

@[expose] public section

set_option maxRecDepth 16384

noncomputable section

namespace Cert.AttnKernelIdeal.Run

open Cert.AttnKernelIdeal Cert.AttnKernelIdeal.Gen Idealize.ShloMosaic Idealize.ShloMosaic.TcCoe Idealize.SL.Sem Idealize.SL
open Idealize.ShloMosaic.Pipeline (Dat)
open Cert.Reals Cert.Attn Cert.AttnKernelIdeal.RefValue

section
open Idealize.SL.RA Idealize.SL.BI
open scoped Idealize.SL.BI
open Idealize.SL.BI.BIBase Idealize.SL.BI.Laws Idealize.SL.ProofMode
open Idealize.ShloMosaic.Rounds
open Idealize.ShloMosaic.Pipeline (cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every final state holds each array at the contents that follow from the two regions. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)
end

variable (m : (ℓ : Loc nD τ sig) → Buf (Elt Ideal) ℓ) (ρ : Dev nD → PrngReg) (c : Dev nD) (Z C : ℕ → ℕ → ℝ)
  (hz : m ((c : Thread nD τ).loc main_arg0) = (up2 Z : FVec Ideal S8192x4608 .f32)) (hc : m ((c : Thread nD τ).loc main_arg1) = (up2 C : FVec Ideal S8192x2048 .f32))

include hz in
/-- The rounded projections the forward region reads. -/
theorem entry0 : V1 m ρ c main_v0 = (up2 Z : FVec Ideal S8192x4608 .bf16) := by
  show StableHlo.after hostOps0 (W0 m ρ c) (Proc.devRef .tc main_v0) = _
  unfold hostOps0
  after_results_simp
  exact hz

include hz in
theorem entry1 : V2 m ρ c main_v0 = (up2 Z : FVec Ideal S8192x4608 .bf16) :=
  (W2_of m ρ c main_v0 (by decide)).trans (entry0 m ρ c Z hz)

include hc in
theorem entry1_arg1 : V2 m ρ c main_arg1 = (up2 C : FVec Ideal S8192x2048 .f32) :=
  (W2_args m ρ c main_arg1 (by decide)).trans hc

include hz in
theorem entry1_l : V2 m ρ c main_v1_1 = fun i : S8x8192x1.Idx => (((hd Z C (i 0).val).tot (i 1).val : ℝ) : EReal) :=
  (W2_arr m ρ c 4).trans (Fwd.final_l (V1 m ρ) c Z C (entry0 m ρ c Z hz))

include hz in
theorem result_o : W3 m ρ c (Proc.devRef .tc main_v1_0) = (up2 (out Z C) : FVec Ideal S8192x1024 .bf16) :=
  (W3_of m ρ c main_v1_0 (by decide)).trans ((W2_arr m ρ c 3).trans (Fwd.final_o (V1 m ρ) c Z C (entry0 m ρ c Z hz)))

include hz hc in
theorem result_dq : W3 m ρ c (Proc.devRef .tc main_v2_0) = (up2 (dQ Z C) : FVec Ideal S8192x1024 .f32) :=
  (W3_arr m ρ c 5).trans (final_dq (V2 m ρ) c Z C (entry1 m ρ c Z hz) (entry1_arg1 m ρ c C hc) (entry1_l m ρ c Z C hz))
include hz hc in
theorem result_dk : W3 m ρ c (Proc.devRef .tc main_v2_1) = (up2 (dK Z C) : FVec Ideal S8192x1024 .f32) :=
  (W3_arr m ρ c 6).trans (final_dk (V2 m ρ) c Z C (entry1 m ρ c Z hz) (entry1_arg1 m ρ c C hc) (entry1_l m ρ c Z C hz))
include hz hc in
theorem result_dv : W3 m ρ c (Proc.devRef .tc main_v2_2) = (up2 (dV Z C) : FVec Ideal S8192x1024 .f32) :=
  (W3_arr m ρ c 7).trans (final_dv (V2 m ρ) c Z C (entry1 m ρ c Z hz) (entry1_arg1 m ρ c C hc) (entry1_l m ρ c Z C hz))

/-- The run at the arrays the claim names. -/
theorem run_results : θ_run defs (onTc (τ := τ) (main (F := Ideal))) ⟨m, fun _ => 0, ρ⟩ (fun r => ∀ c : Dev nD,
      r.2.mem ((c : Thread nD τ).loc main_v1_0) = W3 m ρ c (Proc.devRef .tc main_v1_0)
      ∧ r.2.mem ((c : Thread nD τ).loc main_v2_0) = W3 m ρ c (Proc.devRef .tc main_v2_0)
      ∧ r.2.mem ((c : Thread nD τ).loc main_v2_1) = W3 m ρ c (Proc.devRef .tc main_v2_1)
      ∧ r.2.mem ((c : Thread nD τ).loc main_v2_2) = W3 m ρ c (Proc.devRef .tc main_v2_2)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨h c _ (mem_uc main_v1_0 (by decide)), h c _ (mem_uc main_v2_0 (by decide)), h c _ (mem_uc main_v2_1 (by decide)),
    h c _ (mem_uc main_v2_2 (by decide)), (h c _ (mem_uc main_arg0 (by decide))).trans (W3_main_arg0 m ρ c),
    (h c _ (mem_uc main_arg1 (by decide))).trans (W3_main_arg1 m ρ c)⟩) (run m ρ)

end Cert.AttnKernelIdeal.Run
end
-- ==== Proof.AttnReferenceValue.lean ====
/- The attention and its derivative as the reference computes them, over real arguments. -/
module

public import proofs.«01_k».proof.Proof.Gen.AttnReferenceIdeal.Read
public import proofs.«01_k».proof.Proof.AttnArrays
public import Idealize.ShloMosaic.Lib.WordCmp

@[expose] public section

set_option maxRecDepth 16384

noncomputable section

namespace Cert.AttnReferenceIdeal.RefValue

open Cert.AttnReferenceIdeal Cert.AttnReferenceIdeal.Gen Idealize.ShloMosaic Idealize.ShloMosaic.TcCoe Idealize.SL.Sem
open Cert.AttnReferenceIdeal.Read Cert.Reals Cert.Attn

variable (Z C : ℕ → ℕ → ℝ)

abbrev zA : FVec Ideal S8192x4608 .f32 := up2 Z
abbrev cA : FVec Ideal S8192x2048 .f32 := up2 C

theorem at2' (f : ℕ → ℕ → ℝ) {a b a' b' : ℕ} (ha : a = a') (hb : b = b') : (f a b : EReal) = (f a' b' : EReal) := by rw [ha, hb]

theorem v3 : val_main_v3 (F := Ideal) (zA Z) = up3 fun t h d => (hd Z C h).q t d := by
  refine ext3 fun x y z => ?_
  pointwise [val_main_v3, val_main_v0]
  exact at2' Z rfl (show y.val * 128 + z.val = 128 * y.val + z.val by omega)
theorem v4 : val_main_v4 (F := Ideal) (zA Z) = up3 fun t h d => (hd Z C h).k t d := by
  refine ext3 fun x y z => ?_
  pointwise [val_main_v4, val_main_v1]
  exact at2' Z rfl (show 1024 + (y.val * 128 + z.val) = 1024 + 128 * y.val + z.val by omega)
theorem v5 : val_main_v5 (F := Ideal) (zA Z) = up3 fun t h d => (hd Z C h).v t d := by
  refine ext3 fun x y z => ?_
  pointwise [val_main_v5, val_main_v2]
  exact at2' Z rfl (show 2048 + (y.val * 128 + z.val) = 2048 + 128 * y.val + z.val by omega)
theorem v30 : val_main_v30 (F := Ideal) (cA C) = up3 fun h d t => (hd Z C h).g t d := by
  refine ext3 fun x y z => ?_
  pointwise [val_main_v30, val_main_v29, val_main_v28]
  exact at2' C rfl (show x.val * 128 + y.val = 128 * x.val + y.val by omega)

theorem v8 : val_main_v8 (F := Ideal) (zA Z) = up3 fun h t s => (hd Z C h).Z t s := by
  refine ext3 fun x y z => ?_
  pointwise [val_main_v8, val_main_v6, val_main_v7, val_main_cst]
  simp only [v3 Z C, v4 Z C, up3_ix, sc_f32, sum_coe, ← EReal.coe_mul]
  rfl

theorem not_une (x : EReal) {α : Type} (a b : α) : (if x ≠ x then a else b) = b := if_neg (fun h => h rfl)

/-- `log (1 + exp z)` as the reference writes it. -/
theorem soft_coe (z : ℝ) : max (z : EReal) 0 + Ideal.log1p (Ideal.exp (-(FloatOps.absf (F := Ideal) (φ := .f32) (z : EReal) : EReal))) = ((-lneg z : ℝ) : EReal) := by
  have e := lneg_coe z
  unfold Ideal.log1p
  rw [zero_sub, zero_sub] at e
  rw [EReal.coe_neg, ← e, neg_neg]

theorem lneg_neg (z : ℝ) : lneg (-z) = z + lneg z := by
  unfold lneg
  have : 1 + Real.exp z = Real.exp z * (1 + Real.exp (-z)) := by
    rw [mul_add, ← Real.exp_add, add_neg_cancel, Real.exp_zero]; ring
  rw [this, Real.log_mul (Real.exp_ne_zero _) (by positivity), Real.log_exp]
  ring

theorem sp0 : val_main_call0_v1_0 (F := Ideal) (zA Z) = up3 fun h t s => -lneg ((hd Z C h).Z t s) := by
  refine ext3 fun x y z => ?_
  pointwise [val_main_call0_v1_0, val_main_call0_call0_v4, val_main_call0_call0_v6, val_main_call0_call0_v11, val_main_call0_call0_v1, val_main_call0_call0_v10, val_main_call0_call0_v9, val_main_call0_call0_v8, val_main_call0_call0_v7, val_main_call0_call0_v3, val_main_call0_call0_v2, val_main_call0_call0_v5, val_main_call0_call0_v0, val_main_call0_call0_cst, val_main_call0_v0, val_main_v15]
  rw [v8 Z C]
  simp only [up3_ix, not_une, neg_neg, soft_coe]
theorem sp3 : val_main_call3_v1_0 (F := Ideal) (zA Z) = up3 fun h t s => -lneg (-(hd Z C h).Z t s) := by
  refine ext3 fun x y z => ?_
  pointwise [val_main_call3_v1_0, val_main_call3_call0_v4, val_main_call3_call0_v6, val_main_call3_call0_v11, val_main_call3_call0_v1, val_main_call3_call0_v10, val_main_call3_call0_v9, val_main_call3_call0_v8, val_main_call3_call0_v7, val_main_call3_call0_v3, val_main_call3_call0_v2, val_main_call3_call0_v5, val_main_call3_call0_v0, val_main_call3_call0_cst, val_main_call3_v0]
  rw [v8 Z C]
  simp only [up3_ix, not_une, ← EReal.coe_neg, soft_coe]

theorem ne_inf (x : ℝ) {α : Type} (a b : α) : (if (x : EReal) = Ideal.ofBits .f32 0x7F800000#32 then a else b) = b :=
  if_neg (by rw [inf_f32]; exact EReal.coe_ne_top x)

/-- The chance of a key, kept for the derivative. -/
theorem v16_1 : val_main_v16_1 (F := Ideal) (zA Z) = up3 fun h t s => (hd Z C h).S t s := by
  refine ext3 fun x y z => ?_
  pointwise [val_main_v16_1, val_main_call0_call0_v21, val_main_call0_call0_v20, val_main_call0_call0_v19, val_main_call0_call0_v18, val_main_call0_call0_v17, val_main_call0_call0_v16, val_main_call0_call0_v15, val_main_call0_call0_v14, val_main_call0_call0_v13, val_main_call0_call0_cst_0, val_main_call0_call0_cst_1, val_main_call0_call0_cst_2, val_main_call0_call0_cst_3, val_main_call0_v0, val_main_v15]
  simp only [v8 Z C, sp0 Z C, up3_ix, ← EReal.coe_neg, neg_neg, ne_inf, ← EReal.coe_sub, sub_neg_eq_add, Ideal.exp_coe]
  rfl
/-- And of its being passed over. -/
theorem v20_1 : val_main_v20_1 (F := Ideal) (zA Z) = up3 fun h t s => 1 - (hd Z C h).S t s := by
  refine ext3 fun x y z => ?_
  pointwise [val_main_v20_1, val_main_call3_call0_v21, val_main_call3_call0_v20, val_main_call3_call0_v19, val_main_call3_call0_v18, val_main_call3_call0_v17, val_main_call3_call0_v16, val_main_call3_call0_v15, val_main_call3_call0_v14, val_main_call3_call0_v13, val_main_call3_call0_cst_0, val_main_call3_call0_cst_1, val_main_call3_call0_cst_2, val_main_call3_call0_cst_3, val_main_call3_v0]
  simp only [v8 Z C, sp3 Z C, up3_ix, ← EReal.coe_neg, ne_inf, ← EReal.coe_sub, sub_neg_eq_add, Ideal.exp_coe]
  refine congrArg _ ?_
  unfold Head.S
  rw [exp_lneg, exp_lneg]
  unfold sigm
  have := Real.exp_pos ((hd Z C x.val).Z y.val z.val)
  rw [neg_neg, Real.exp_neg]
  field_simp
  ring

theorem causal (y z : Fin 8192) {α : Type} (a b : α) :
    Scalar.select (IntOp.cmpi CmpIPredicate.slt (BitVec.ofNat 32 z.val) (BitVec.ofNat 32 y.val)) a b = if z.val < y.val then a else b := by
  have := y.isLt; have := z.isLt
  rw [WordCmp.cmpi_slt_ofNat (by omega) (by omega), WordCmp.select_decide]

theorem v17_0 : val_main_v17_0 (F := Ideal) (zA Z) = up3 fun h t s => (hd Z C h).L t s := by
  refine ext3 fun x y z => ?_
  pointwise [val_main_v17_0, val_main_v17_1, val_main_call1_v2, val_main_call1_v0, val_main_cst_0, val_main_v14, val_main_v12, val_main_v13, val_main_v10, val_main_v11, val_main_v9, val_main_v16_0]
  simp only [sp0 Z C, up3_ix, ← EReal.coe_neg, neg_neg, causal]
  unfold Head.L
  split
  · rfl
  · exact zero_f32

theorem v18 : val_main_v18 (F := Ideal) (zA Z) = up3 fun h t s => (hd Z C h).tot t - (hd Z C h).P t s := by
  refine ext3 fun x y z => ?_
  unfold val_main_v18
  rw [v17_0 Z C]
  refine (window_sum _ _ _ _ zero_f32 x y z).trans ?_
  rw [window_from _ _ z.isLt.le, up3_ix, ← (hd Z C x.val).P_of_le y.isLt.le]
  rfl

theorem v22 : val_main_v22 (F := Ideal) (zA Z) = up3 fun h t s => Real.exp ((hd Z C h).Z t s + lneg ((hd Z C h).Z t s) + ((hd Z C h).tot t - (hd Z C h).P t (s + 1))) := by
  refine ext3 fun x y z => ?_
  pointwise [val_main_v22, val_main_v21, val_main_v20_0, val_main_v19]
  simp only [sp3 Z C, v18 Z C, v17_0 Z C, up3_ix, ← EReal.coe_neg, neg_neg, ← EReal.coe_sub, ← EReal.coe_add, Ideal.exp_coe, lneg_neg]
  refine congrArg _ (congrArg Real.exp ?_)
  have : (hd Z C x.val).P y.val (z.val + 1) = (hd Z C x.val).P y.val z.val + (hd Z C x.val).L y.val z.val := Finset.sum_range_succ _ _
  rw [this]
  ring

theorem W_eq (H : Head) (t s : ℕ) : H.W t s = if s < t then Real.exp (H.Z t s + lneg (H.Z t s) + (H.tot t - H.P t (s + 1))) else 0 := by
  unfold Head.W
  by_cases h : s < t
  · rw [if_pos h, if_pos h, H.L_of_lt h]
  · rw [if_neg h, if_neg h]

theorem v23_0 : val_main_v23_0 (F := Ideal) (zA Z) = up3 fun h t s => (hd Z C h).W t s := by
  refine ext3 fun x y z => ?_
  pointwise [val_main_v23_0, val_main_v23_1, val_main_call4_v2, val_main_call4_v0, val_main_cst_1, val_main_v14, val_main_v12, val_main_v13, val_main_v10, val_main_v11, val_main_v9]
  simp only [v22 Z C, up3_ix, causal, W_eq]
  split
  · rfl
  · exact zero_f32

theorem v35 : val_main_v35 (F := Ideal) (zA Z) (cA C) = up3 fun h t s => (hd Z C h).G t s := by
  refine ext3 fun x y z => ?_
  pointwise [val_main_v35, val_main_v34, val_main_v31, val_main_v23_1, val_main_call5_v0, val_main_call5_cst, val_main_v14, val_main_v12, val_main_v13, val_main_v10, val_main_v11, val_main_v9]
  simp only [v22 Z C, v30 Z C, v5 Z C, up3_ix, causal, sum_coe, ← EReal.coe_mul]
  unfold Head.G
  rw [W_eq]
  split
  · rw [mul_comm]
  · rw [zero_mul, EReal.coe_zero]

theorem v38 : val_main_v38 (F := Ideal) (zA Z) (cA C) = up3 fun h t s => (hd Z C h).PG t (s + 1) := by
  refine ext3 fun x y z => ?_
  unfold val_main_v38
  rw [v35 Z C]
  refine (window_sum _ _ _ _ zero_f32 x y z).trans ?_
  exact congrArg _ (window_upto _ _ z.isLt)

theorem v45 : val_main_v45 (F := Ideal) (zA Z) (cA C) = up3 fun h t s => (hd Z C h).D t s * sc := by
  refine ext3 fun x y z => ?_
  pointwise [val_main_v45, val_main_v44, val_main_cst_2, val_main_v43, val_main_v42, val_main_v41, val_main_call9_v1, val_main_call9_v0, val_main_v40, val_main_call8_v0, val_main_call8_cst, val_main_v39, val_main_v37, val_main_v36, val_main_call6_v1, val_main_call6_v0, val_main_v17_1, val_main_v14, val_main_v12, val_main_v13, val_main_v10, val_main_v11, val_main_v9]
  simp only [v38 Z C, v35 Z C, v16_1 Z C, v20_1 Z C, up3_ix, causal, sc_f32, zero_f32]
  have e : (hd Z C x.val).PG y.val (z.val + 1) = (hd Z C x.val).PG y.val z.val + (hd Z C x.val).G y.val z.val := Finset.sum_range_succ _ _
  rw [e]
  unfold Head.D
  by_cases h : z.val < y.val
  · simp only [if_pos h, ← EReal.coe_neg, ← EReal.coe_mul, ← EReal.coe_add]
    refine congrArg _ ?_
    ring
  · simp only [if_neg h, (hd Z C x.val).G_of_le (not_lt.1 h), ← EReal.coe_zero, ← EReal.coe_neg, ← EReal.coe_mul, ← EReal.coe_add]
    refine congrArg _ ?_
    ring

/-- The first result: the attention's output. -/
theorem value_o : val_main_v27 (F := Ideal) (zA Z) = (up2 (out Z C) : FVec Ideal S8192x1024 .bf16) := by
  refine ext2 fun x y => ?_
  pointwise [val_main_v27, val_main_v26, val_main_v25, val_main_v24]
  simp only [v5 Z C, v23_0 Z C, up3_ix, up2_ix, up3_at, sum_coe, ← EReal.coe_mul]
  refine congrArg _ ?_
  refine (Finset.sum_range (fun j => (hd Z C (y.val / 128)).v j (y.val % 128) * (hd Z C (y.val / 128)).W x.val j)).symm.trans ?_
  unfold out
  refine (Finset.sum_subset (Finset.range_mono x.isLt.le) fun j _ hj => ?_).symm.trans (Finset.sum_congr rfl fun j _ => mul_comm _ _)
  rw [(hd Z C (y.val / 128)).W_of_le (by simpa using hj), mul_zero]
/-- The queries' gradient. -/
theorem value_dq : val_main_v52 (F := Ideal) (zA Z) (cA C) = (up2 (dQ Z C) : FVec Ideal S8192x1024 .f32) := by
  refine ext2 fun x y => ?_
  pointwise [val_main_v52, val_main_v49, val_main_v48]
  simp only [v45 Z C, v4 Z C, up3_ix, up2_ix, up3_at, sum_coe, ← EReal.coe_mul]
  refine congrArg _ ?_
  refine (Finset.sum_range (fun j => (hd Z C (y.val / 128)).D x.val j * sc * (hd Z C (y.val / 128)).k j (y.val % 128))).symm.trans ?_
  unfold dQ
  rw [← (hd Z C (y.val / 128)).DQ_of_le _ x.isLt.le, Finset.mul_sum]
  exact Finset.sum_congr rfl fun j _ => by ring
/-- The keys'. -/
theorem value_dk : val_main_v51 (F := Ideal) (zA Z) (cA C) = (up2 (dK Z C) : FVec Ideal S8192x1024 .f32) := by
  refine ext2 fun x y => ?_
  pointwise [val_main_v51, val_main_v47, val_main_v46]
  simp only [v45 Z C, v3 Z C, up3_ix, up2_ix, up3_at, sum_coe, ← EReal.coe_mul]
  refine congrArg _ ?_
  refine (Finset.sum_range (fun j => (hd Z C (y.val / 128)).D j x.val * sc * (hd Z C (y.val / 128)).q j (y.val % 128))).symm.trans ?_
  unfold dK
  rw [Finset.mul_sum]
  exact Finset.sum_congr rfl fun j _ => by ring
/-- The values'. -/
theorem value_dv : val_main_v50 (F := Ideal) (zA Z) (cA C) = (up2 (dV Z C) : FVec Ideal S8192x1024 .f32) := by
  refine ext2 fun x y => ?_
  pointwise [val_main_v50, val_main_v33, val_main_v32]
  simp only [v23_0 Z C, v30 Z C, up3_ix, up2_ix, up3_at, sum_coe, ← EReal.coe_mul]
  refine congrArg _ ?_
  refine (Finset.sum_range (fun j => (hd Z C (y.val / 128)).g j (y.val % 128) * (hd Z C (y.val / 128)).W j x.val)).symm.trans ?_
  unfold dV
  exact Finset.sum_congr rfl fun j _ => mul_comm _ _
end Cert.AttnReferenceIdeal.RefValue
end
-- ==== Proof.AttnClaim.lean ====
/- The claim about the attention and its gradient: kernel and reference leave the same arrays. -/
module

public import proofs.«01_k».proof.Defs
public import proofs.«01_k».proof.Proof.Gen.Pre_attn_finite
public import proofs.«01_k».proof.Proof.AttnRun
public import proofs.«01_k».proof.Proof.AttnReferenceValue

@[expose] public section

set_option maxRecDepth 16384

noncomputable section

namespace Cert.AttnClaim

open Idealize.ShloMosaic Idealize.ShloMosaic.TcCoe Idealize.SL.Sem
open Cert.Reals Cert.Attn

/-- The reference ends with its arguments unchanged; it declares no semaphore. -/
theorem frame_reference : Cert.quiescent_AttnReferenceIdeal := fun m g _ =>
  (θ_run Cert.AttnReferenceIdeal.defs _ _).mono
    (fun _ h => ⟨fun c => (h c).2.2.2.2, sem_eq_zero_of_no_sems rfl _⟩) (Cert.AttnReferenceIdeal.Value.run m g)

open Cert.AttnKernelIdeal in
/-- A finite precondition makes both arguments tables of reals. -/
theorem reals_of_pre {m : (ℓ : Loc nD τ sig) → Buf (Elt Ideal) ℓ} (h : Cert.Pre_AttnKernelIdeal_attn_finite m) (c : Dev nD) :
    (∃ Z : ℕ → ℕ → ℝ, m ((c : Thread nD τ).loc main_arg0) = (up2 Z : FVec Ideal S8192x4608 .f32))
    ∧ (∃ C : ℕ → ℕ → ℝ, m ((c : Thread nD τ).loc main_arg1) = (up2 C : FVec Ideal S8192x2048 .f32)) := by
  obtain ⟨h0, h1⟩ := h c
  obtain ⟨z, hz⟩ := reals_of_finite _ _ (fun _ => rfl) h0
  obtain ⟨d, hd⟩ := reals_of_finite _ _ (fun _ => rfl) h1
  obtain ⟨Z, eZ⟩ := exists_up2 z
  obtain ⟨C, eC⟩ := exists_up2 d
  exact ⟨⟨Z, hz.trans eZ⟩, ⟨C, hd.trans eC⟩⟩

theorem algebraic : Cert.algebraic_AttnKernelIdeal_AttnReferenceIdeal_pre_attn_finite := by
  pair_intro
  · run_from Cert.AttnKernelIdeal.Run.run_results m g
  · run_from Cert.AttnReferenceIdeal.Value.run m' g'
    · obtain ⟨⟨Z, hz⟩, ⟨C, hc⟩⟩ := reals_of_pre hpre c
      rw [Cert.AttnKernelIdeal.Run.result_o m g c Z C hz, Cert.AttnReferenceIdeal.Read.val_main_v27_eq, (hagree c).1, hz]
      exact Cert.AttnReferenceIdeal.RefValue.value_o Z C
    · obtain ⟨⟨Z, hz⟩, ⟨C, hc⟩⟩ := reals_of_pre hpre c
      rw [Cert.AttnKernelIdeal.Run.result_dq m g c Z C hz hc, Cert.AttnReferenceIdeal.Read.val_main_v52_eq, (hagree c).1, hz, (hagree c).2, hc]
      exact Cert.AttnReferenceIdeal.RefValue.value_dq Z C
    · obtain ⟨⟨Z, hz⟩, ⟨C, hc⟩⟩ := reals_of_pre hpre c
      rw [Cert.AttnKernelIdeal.Run.result_dk m g c Z C hz hc, Cert.AttnReferenceIdeal.Read.val_main_v51_eq, (hagree c).1, hz, (hagree c).2, hc]
      exact Cert.AttnReferenceIdeal.RefValue.value_dk Z C
    · obtain ⟨⟨Z, hz⟩, ⟨C, hc⟩⟩ := reals_of_pre hpre c
      rw [Cert.AttnKernelIdeal.Run.result_dv m g c Z C hz hc, Cert.AttnReferenceIdeal.Read.val_main_v50_eq, (hagree c).1, hz, (hagree c).2, hc]
      exact Cert.AttnReferenceIdeal.RefValue.value_dv Z C

end Cert.AttnClaim
end
-- ==== Proof.NormMath.lean ====
/- The root-mean-square norm of a row of 2048 and its gradient, over the reals. -/
module

public import proofs.«01_k».proof.Proof.AttnArrays

@[expose] public section

set_option maxRecDepth 16384

noncomputable section

namespace Cert.Norm
open Idealize.ShloMosaic Cert.Reals Cert.Attn

/-- What the norm adds to the mean square, the real that the literal is. -/
def eps : ℝ := (Ideal.ofBits .f32 0x358637BD#32).toReal

theorem eps_f32 : Ideal.ofBits .f32 0x358637BD#32 = (eps : EReal) := by
  refine (EReal.coe_toReal ?_ ?_).symm <;> simp [Ideal.ofBits, Ideal.ieee, -EReal.coe_mul] <;> exact fun h => by cases h
theorem eps_pos : 0 < eps := by
  unfold eps
  simp [Ideal.ofBits, Ideal.ieee, -EReal.coe_mul]
theorem width_f32 : Ideal.ofBits .f32 0x45000000#32 = ((2048 : ℝ) : EReal) := by
  simp [Ideal.ofBits, Ideal.ieee, -EReal.coe_mul]; norm_num
theorem recip_f32 : Ideal.ofBits .f32 0x3A000000#32 = ((1 / 2048 : ℝ) : EReal) := by
  simp [Ideal.ofBits, Ideal.ieee, -EReal.coe_mul]; norm_num
theorem two_f32 : Ideal.ofBits .f32 0x40000000#32 = ((2 : ℝ) : EReal) := by
  simp [Ideal.ofBits, Ideal.ieee, -EReal.coe_mul]; norm_num
theorem neghalf_f32 : Ideal.ofBits .f32 0xBF000000#32 = ((-(1 / 2) : ℝ) : EReal) := by
  simp [Ideal.ofBits, Ideal.ieee, -EReal.coe_mul]; norm_num

variable (x : ℕ → ℝ)

/-- A row's mean square, with `eps`. -/
def var : ℝ := (∑ e : Fin 2048, x e.val * x e.val) / 2048 + eps
theorem var_pos : 0 < var x := add_pos_of_nonneg_of_pos (div_nonneg (Finset.sum_nonneg fun e _ => mul_self_nonneg _) (by norm_num)) eps_pos
/-- The reciprocal of its root. -/
def rs : ℝ := (Real.sqrt (var x))⁻¹
/-- The row divided by it. -/
def hat (e : ℕ) : ℝ := x e * rs x
/-- The mean of a cotangent along the normed row. -/
def along (d : ℕ → ℝ) : ℝ := (∑ e : Fin 2048, d e.val * hat x e.val) / 2048
/-- The gradient of the row from the cotangent of the normed row. -/
def back (d : ℕ → ℝ) (e : ℕ) : ℝ := rs x * (d e - hat x e * along x d)

theorem rs_var : rs x / var x = rs x * rs x * rs x := by
  have h := Real.mul_self_sqrt (var_pos x).le
  have h0 := (Real.sqrt_pos.2 (var_pos x)).ne'
  unfold rs
  rw [div_eq_iff (var_pos x).ne', mul_assoc, mul_assoc]
  nth_rw 5 [← h]
  field_simp

theorem var_coe : Ideal.div ((∑ e : Fin 2048, x e.val * x e.val : ℝ) : EReal) ((2048 : ℝ) : EReal) + (eps : EReal) = (var x : EReal) := by
  rw [div_real _ _ (by norm_num), ← EReal.coe_add]; rfl

theorem rs_coe : Ideal.rsqrt (var x : EReal) = (rs x : EReal) := by
  rw [Ideal.rsqrt_coe, if_neg (not_lt.2 (var_pos x).le), if_neg (var_pos x).ne']; rfl

/-- The gradient as the derivative of the formula is written: the factor's part, and twice the square's. -/
theorem back_eq (d : ℕ → ℝ) (e : ℕ) (s : ℝ) (hs : s = (∑ e : Fin 2048, x e.val * d e.val) * (-(1 / 2) * (rs x / var x)) / 2048) :
    d e * rs x + x e * s + s * x e = back x d e := by
  have h : ∑ e : Fin 2048, d e.val * hat x e.val = (∑ e : Fin 2048, x e.val * d e.val) * rs x := by
    rw [Finset.sum_mul]; exact Finset.sum_congr rfl fun e _ => by unfold hat; ring
  rw [hs, rs_var, back, along, h, hat]
  ring

end Cert.Norm
end
-- ==== Proof.LossMath.lean ====
/- The loss of the final norm against a target, and the cotangents its derivative starts from, over the reals. -/
module

public import proofs.«01_k».proof.Proof.NormMath

@[expose] public section

noncomputable section

namespace Cert.Loss

open Cert.Norm

variable (X Y : ℕ → ℕ → ℝ) (G : ℕ → ℝ)

/-- The error of row `t` at column `e`. -/
def er (t e : ℕ) : ℝ := hat (X t) e * G e - Y t e
/-- The cotangent of the norm's output. -/
def dy (t e : ℕ) : ℝ := er X Y G t e * (1 / 2048)
/-- The cotangent of the normed row. -/
def gd (t e : ℕ) : ℝ := dy X Y G t e * G e
/-- A column's sum of squared errors. -/
def sq (e : ℕ) : ℝ := ∑ t ∈ Finset.range 8192, er X Y G t e * er X Y G t e
/-- A column's gradient of the norm's scale. -/
def dg (e : ℕ) : ℝ := ∑ t ∈ Finset.range 8192, dy X Y G t e * hat (X t) e
/-- The loss: half the rows' mean squared errors. -/
def loss : ℝ := 1 / 2 * (∑ e : Fin 2048, sq X Y G e.val) / 2048

end Cert.Loss
end
-- ==== Proof.LossTile.lean ====
/- What the loss kernel's body computes on a block of 256 rows. -/
module

public import proofs.«01_k».proof.Proof.LossMath
public import proofs.«01_k».proof.Proof.Gen.LossKernelIdeal.Frame

@[expose] public section

set_option maxRecDepth 16384

noncomputable section

namespace Cert.LossKernelIdeal.RefValue

open Cert.LossKernelIdeal Cert.LossKernelIdeal.Gen Idealize.ShloMosaic Idealize.ShloMosaic.TcCoe Idealize.SL.Sem
open Cert.Reals Cert.Attn Cert.Norm Cert.Loss

variable (X Y : ℕ → ℕ → ℝ) (G : ℕ → ℝ) (T : ℕ)

abbrev xB : FVec Ideal S256x2048 .f32 := up2 fun x e => X (T + x) e
abbrev yB : FVec Ideal S256x2048 .f32 := up2 fun x e => Y (T + x) e
abbrev gB : FVec Ideal S1x2048 .f32 := up2 fun _ e => G e

theorem pay5 : k0_pay5 (F := Ideal) (xB X T) = (up2 fun x _ => rs (X (T + x)) : FVec Ideal S256x1 .f32) := by
  refine ext2 fun x y => ?_
  pointwise [k0_pay5]
  simp only [up2_ix, ← EReal.coe_mul, sum_coe, eps_f32, width_f32, var_coe, rs_coe]
theorem pay6 : k0_pay6 (F := Ideal) (xB X T) = (up2 fun x e => hat (X (T + x)) e : FVec Ideal S256x2048 .f32) := by
  refine ext2 fun x y => ?_
  pointwise [k0_pay6]
  simp only [pay5, up2_ix, ← EReal.coe_mul]
  rfl
theorem pay7 : k0_pay7 (F := Ideal) (xB X T) (gB G) (yB Y T) = (up2 fun x e => er X Y G (T + x) e : FVec Ideal S256x2048 .f32) := by
  refine ext2 fun x y => ?_
  pointwise [k0_pay7]
  simp only [pay6, up2_ix, ← EReal.coe_mul, ← EReal.coe_sub]
  rfl
theorem pay9 : k0_pay9 (F := Ideal) (xB X T) (gB G) (yB Y T) = (up2 fun x e => dy X Y G (T + x) e : FVec Ideal S256x2048 .f32) := by
  refine ext2 fun x y => ?_
  pointwise [k0_pay9]
  simp only [pay7, up2_ix, ← EReal.coe_mul, recip_f32]
  rfl
theorem pay10 : k0_pay10 (F := Ideal) (xB X T) (gB G) (yB Y T) (gB G) = (up2 fun x e => gd X Y G (T + x) e : FVec Ideal S256x2048 .f32) := by
  refine ext2 fun x y => ?_
  pointwise [k0_pay10]
  simp only [pay9, up2_ix, ← EReal.coe_mul]
  rfl
theorem pay11 : k0_pay11 (F := Ideal) (xB X T) (gB G) (yB Y T) (gB G) = (up2 fun x _ => ∑ e : Fin 2048, gd X Y G (T + x) e.val * hat (X (T + x)) e.val : FVec Ideal S256x1 .f32) := by
  refine ext2 fun x y => ?_
  pointwise [k0_pay11]
  simp only [pay10, pay6, up2_ix, ← EReal.coe_mul, sum_coe]
theorem pay8 (A : ℕ → ℝ) : k0_pay8 (F := Ideal) (xB X T) (gB G) (yB Y T) (up2 fun _ e => A e : FVec Ideal S1x2048 .f32)
    = (up2 fun _ e => A e + ∑ x : Fin 256, er X Y G (T + x.val) e * er X Y G (T + x.val) e : FVec Ideal S1x2048 .f32) := by
  refine ext2 fun x y => ?_
  pointwise [k0_pay8]
  simp only [pay7, up2_ix, ← EReal.coe_mul, sum_coe, ← EReal.coe_add]
theorem pay1 : k0_pay1 (F := Ideal) (k0_pay5 (xB X T)) (k0_pay6 (xB X T)) (k0_pay10 (xB X T) (gB G) (yB Y T) (gB G)) (k0_pay11 (xB X T) (gB G) (yB Y T) (gB G)) (Scalar.ofBits .f32 0x45000000#32)
    = (up2 fun x e => back (X (T + x)) (gd X Y G (T + x)) e : FVec Ideal S256x2048 .f32) := by
  refine ext2 fun x y => ?_
  rw [pay5, pay6, pay10, pay11]
  pointwise [k0_pay1]
  simp only [up2_ix]
  show (rs _ : EReal) * (_ - _ * Ideal.div _ (Ideal.ofBits .f32 0x45000000#32)) = _
  rw [width_f32, div_real _ _ (by norm_num), ← EReal.coe_mul, ← EReal.coe_sub, ← EReal.coe_mul]
  rfl
theorem pay2 (A : ℕ → ℝ) : k0_pay2 (F := Ideal) (k0_pay6 (xB X T)) (k0_pay9 (xB X T) (gB G) (yB Y T)) (up2 fun _ e => A e : FVec Ideal S1x2048 .f32)
    = (up2 fun _ e => A e + ∑ x : Fin 256, dy X Y G (T + x.val) e * hat (X (T + x.val)) e : FVec Ideal S1x2048 .f32) := by
  refine ext2 fun x y => ?_
  rw [pay6, pay9]
  pointwise [k0_pay2]
  simp only [up2_ix, ← EReal.coe_mul, sum_coe, ← EReal.coe_add]

end Cert.LossKernelIdeal.RefValue
end
-- ==== Proof.LossBody.lean ====
/- What one grid point of the loss kernel leaves in its three outputs. -/
module

public import proofs.«01_k».proof.Proof.LossTile
public import Idealize.ShloMosaic.Lib.VecWindow
import all proofs.«01_k».proof.Proof.Gen.LossKernelIdeal.Frame
import all proofs.«01_k».proof.Proof.Gen.LossKernelIdeal.Frame.RunA
import all proofs.«01_k».proof.Proof.Gen.LossKernelIdeal.Frame.RunB

@[expose] public section

set_option maxRecDepth 16384

noncomputable section

namespace Cert.LossKernelIdeal.RefValue

open Cert.LossKernelIdeal Cert.LossKernelIdeal.Gen Idealize.ShloMosaic Idealize.ShloMosaic.TcCoe Idealize.SL.Sem
open Cert.Reals Cert.Attn Cert.Norm Cert.Loss

variable (X Y : ℕ → ℕ → ℝ) (G : ℕ → ℝ) (T : ℕ)

variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S1x2048 .f32) (harg6 : arg6.IsWhole)
  (x0 : FVec Ideal S256x2048 .f32) (x1 : FVec Ideal S1x2048 .f32) (x2 : FVec Ideal S256x2048 .f32) (h0 : x0 = xB X T) (h1 : x1 = gB G) (h2 : x2 = yB Y T)

theorem pay3 : k0_pay3 (F := Ideal) = (up2 fun _ _ => 0 : FVec Ideal S1x2048 .f32) := by
  refine ext2 fun x y => ?_
  pointwise [k0_pay3]
  rw [up2_ix, EReal.coe_zero]
theorem pay4 : k0_pay4 (F := Ideal) = (up2 fun _ _ => 0 : FVec Ideal S1x2048 .f32) := by
  refine ext2 fun x y => ?_
  pointwise [k0_pay4]
  rw [up2_ix, EReal.coe_zero]

include h0 h1 h2 in
/-- The first grid point starts both accumulators from zero. -/
theorem body_A (hc0) : out0_A_3 (F := Ideal) c i arg1 harg1 arg2 harg2 arg3 harg3 arg4 harg4 arg5 harg5 arg6 harg6 hc0 x0 x1 x2 = (up2 fun _ e => 0 + ∑ x : Fin 256, er X Y G (T + x.val) e * er X Y G (T + x.val) e : FVec Ideal S1x2048 .f32)
    ∧ out0_A_4 (F := Ideal) c i arg1 harg1 arg2 harg2 arg3 harg3 arg4 harg4 arg5 harg5 arg6 harg6 hc0 x0 x1 x2 = (up2 fun x e => back (X (T + x)) (gd X Y G (T + x)) e : FVec Ideal S256x2048 .f32)
    ∧ out0_A_5 (F := Ideal) c i arg1 harg1 arg2 harg2 arg3 harg3 arg4 harg4 arg5 harg5 arg6 harg6 hc0 x0 x1 x2 = (up2 fun _ e => 0 + ∑ x : Fin 256, dy X Y G (T + x.val) e * hat (X (T + x.val)) e : FVec Ideal S1x2048 .f32) := by
  have l0 : arg1.view.readAt (Elt Ideal) (Rect.unit (s := S256x2048) ![0, 0] S256x2048.size inb_S256x2048_S256x2048_0_0).toLoadRect (harg1.unread x0) = xB X T := by rw [View.readAt_full, harg1.read_unread, h0]
  have l1 : arg2.view.readAt (Elt Ideal) (Rect.unit (s := S1x2048) ![0, 0] S1x2048.size inb_S1x2048_S1x2048_0_0).toLoadRect (harg2.unread x1) = gB G := by rw [View.readAt_full, harg2.read_unread, h1]
  have l2 : arg3.view.readAt (Elt Ideal) (Rect.unit (s := S256x2048) ![0, 0] S256x2048.size inb_S256x2048_S256x2048_0_0).toLoadRect (harg3.unread x2) = yB Y T := by rw [View.readAt_full, harg3.read_unread, h2]
  have z3 : kernelRun0_A.sl.v20 (F := Ideal) c arg4 = (up2 fun _ _ => 0 : FVec Ideal S1x2048 .f32) := by
    unfold kernelRun0_A.sl.v20 kernelRun0_A.sl.H3_1
    rw [View.readCov_full]
    exact pay3
  have z5 : kernelRun0_A.sl.v44 (F := Ideal) c arg6 = (up2 fun _ _ => 0 : FVec Ideal S1x2048 .f32) := by
    unfold kernelRun0_A.sl.v44 kernelRun0_A.sl.H5_1
    rw [View.readCov_full]
    exact pay4
  unfold out0_A_3 out0_A_4 out0_A_5
  unfold kernelRun0_A
  dsimp only
  refine ⟨(View.read_writes_full _ _ _ _ _).trans ?_, (View.read_writes_full _ _ _ _ _).trans ?_, (View.read_writes_full _ _ _ _ _).trans ?_⟩
  · rw [l0, l1, l2, z3]
    exact pay8 X Y G T _
  · simp only [kernelRun0_A.sl.r, kernelRun0_A.sl.r_1, kernelRun0_A.sl.r_3, kernelRun0_A.sl.r_4, kernelRun0_A.sl.cst_17, l0, l1, l2]
    exact pay1 X Y G T
  · simp only [kernelRun0_A.sl.r_1, kernelRun0_A.sl.r_2, l0, l1, l2, z5]
    exact pay2 X Y G T _

variable (xo3 xo5 : FVec Ideal S1x2048 .f32) (A3 A5 : ℕ → ℝ) (h3 : xo3 = (up2 fun _ e => A3 e : FVec Ideal S1x2048 .f32)) (h5 : xo5 = (up2 fun _ e => A5 e : FVec Ideal S1x2048 .f32))

include h0 h1 h2 h3 h5 in
/-- A later grid point adds to both. -/
theorem body_B (hc0) : out0_B_3 (F := Ideal) c i arg1 harg1 arg2 harg2 arg3 harg3 arg4 harg4 arg5 harg5 arg6 harg6 hc0 x0 x1 x2 xo3 xo5 = (up2 fun _ e => A3 e + ∑ x : Fin 256, er X Y G (T + x.val) e * er X Y G (T + x.val) e : FVec Ideal S1x2048 .f32)
    ∧ out0_B_4 (F := Ideal) c i arg1 harg1 arg2 harg2 arg3 harg3 arg4 harg4 arg5 harg5 arg6 harg6 hc0 x0 x1 x2 xo3 xo5 = (up2 fun x e => back (X (T + x)) (gd X Y G (T + x)) e : FVec Ideal S256x2048 .f32)
    ∧ out0_B_5 (F := Ideal) c i arg1 harg1 arg2 harg2 arg3 harg3 arg4 harg4 arg5 harg5 arg6 harg6 hc0 x0 x1 x2 xo3 xo5 = (up2 fun _ e => A5 e + ∑ x : Fin 256, dy X Y G (T + x.val) e * hat (X (T + x.val)) e : FVec Ideal S1x2048 .f32) := by
  have l0 : arg1.view.readAt (Elt Ideal) (Rect.unit (s := S256x2048) ![0, 0] S256x2048.size inb_S256x2048_S256x2048_0_0).toLoadRect (harg1.unread x0) = xB X T := by rw [View.readAt_full, harg1.read_unread, h0]
  have l1 : arg2.view.readAt (Elt Ideal) (Rect.unit (s := S1x2048) ![0, 0] S1x2048.size inb_S1x2048_S1x2048_0_0).toLoadRect (harg2.unread x1) = gB G := by rw [View.readAt_full, harg2.read_unread, h1]
  have l2 : arg3.view.readAt (Elt Ideal) (Rect.unit (s := S256x2048) ![0, 0] S256x2048.size inb_S256x2048_S256x2048_0_0).toLoadRect (harg3.unread x2) = yB Y T := by rw [View.readAt_full, harg3.read_unread, h2]
  have z3 : arg4.view.readAt (Elt Ideal) (Rect.unit (s := S1x2048) ![0, 0] S1x2048.size inb_S1x2048_S1x2048_0_0).toLoadRect (harg4.unread xo3) = (up2 fun _ e => A3 e : FVec Ideal S1x2048 .f32) := by rw [View.readAt_full, harg4.read_unread, h3]
  have z5 : arg6.view.readAt (Elt Ideal) (Rect.unit (s := S1x2048) ![0, 0] S1x2048.size inb_S1x2048_S1x2048_0_0).toLoadRect (harg6.unread xo5) = (up2 fun _ e => A5 e : FVec Ideal S1x2048 .f32) := by rw [View.readAt_full, harg6.read_unread, h5]
  unfold out0_B_3 out0_B_4 out0_B_5
  unfold kernelRun0_B
  dsimp only
  refine ⟨(View.read_writes_full _ _ _ _ _).trans ?_, (View.read_writes_full _ _ _ _ _).trans ?_, (View.read_writes_full _ _ _ _ _).trans ?_⟩
  · rw [l0, l1, l2, z3]
    exact pay8 X Y G T _
  · simp only [kernelRun0_B.sl.r, kernelRun0_B.sl.r_1, kernelRun0_B.sl.r_3, kernelRun0_B.sl.r_4, kernelRun0_B.sl.cst_17, l0, l1, l2]
    exact pay1 X Y G T
  · simp only [kernelRun0_B.sl.r_1, kernelRun0_B.sl.r_2, l0, l1, l2, z5]
    exact pay2 X Y G T _

end Cert.LossKernelIdeal.RefValue
end
-- ==== Proof.LossBwdValue.lean ====
/- The loss kernel over its whole grid: the arrays it leaves, for a real input, scale and target. -/
module

public import proofs.«01_k».proof.Proof.LossBody

@[expose] public section

set_option maxRecDepth 16384

noncomputable section

namespace Cert.LossKernelIdeal.RefValue

open Cert.LossKernelIdeal Cert.LossKernelIdeal.Gen Idealize.ShloMosaic Idealize.ShloMosaic.TcCoe Idealize.SL.Sem
open Idealize.ShloMosaic.Pipeline (Dat)
open Cert.Reals Cert.Attn Cert.Norm Cert.Loss

theorem idx0 : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

variable (m : (ℓ : Loc nD τ sig) → Buf (Elt Ideal) ℓ) (c : Dev nD) (X Y : ℕ → ℕ → ℝ) (G : ℕ → ℝ)
  (hx : m ((c : Thread nD τ).loc main_arg0) = (up2 X : FVec Ideal S8192x2048 .f32)) (hg : m ((c : Thread nD τ).loc main_arg1) = fun i : S2048.Idx => (G (i 0).val : EReal))
  (hy : m ((c : Thread nD τ).loc main_arg2) = (up2 Y : FVec Ideal S8192x2048 .f32))

theorem at1 (f : ℕ → ℝ) {a a' : ℕ} (ha : a = a') : (f a : EReal) = (f a' : EReal) := by rw [ha]
theorem at2 (f : ℕ → ℕ → ℝ) {a b a' b' : ℕ} (ha : a = a') (hb : b = b') : (f a b : EReal) = (f a' b' : EReal) := by rw [ha, hb]

include hx in
theorem V0_x : V m c main_arg0 = (up2 X : FVec Ideal S8192x2048 .f32) := by unfold V V0 hostOps0; simp only [List.flatten_cons, List.flatten_nil, List.append_nil]; after_results_simp; exact hx
include hy in
theorem V0_y : V m c main_arg2 = (up2 Y : FVec Ideal S8192x2048 .f32) := by unfold V V0 hostOps0; simp only [List.flatten_cons, List.flatten_nil, List.append_nil]; after_results_simp; exact hy
include hg in
theorem V0_g : V m c main_v0 = (up2 fun _ e => G e : FVec Ideal S1x2048 .f32) := by
  unfold V V0 hostOps0
  simp only [List.flatten_cons, List.flatten_nil, List.append_nil]
  after_results_simp
  rw [hg]
  refine ext2 fun x y => ?_
  pointwise []
  rw [up2_ix]

include hx in
theorem blk0 (t : Fin cfg0.N) : iblk m c 0 t = xB X (256 * t.val) := by
  refine ext2 fun x y => ?_
  blk_simp [iblk, idx0 t]
  rw [V0_x m c X hx, up2_at]
  refine Eq.trans ?_ (up2_ix _ x y).symm
  refine at2 X ?_ ?_ <;> (blk_simp [idx0 t]; try omega)
include hg in
theorem blk1 (t : Fin cfg0.N) : iblk m c 1 t = gB G := by
  refine ext2 fun x y => ?_
  blk_simp [iblk, idx0 t]
  rw [V0_g m c G hg, up2_at]
  refine Eq.trans ?_ (up2_ix _ x y).symm
  refine at1 G ?_ <;> (blk_simp [idx0 t]; try omega)
include hy in
theorem blk2 (t : Fin cfg0.N) : iblk m c 2 t = yB Y (256 * t.val) := by
  refine ext2 fun x y => ?_
  blk_simp [iblk, idx0 t]
  rw [V0_y m c Y hy, up2_at]
  refine Eq.trans ?_ (up2_ix _ x y).symm
  refine at2 Y ?_ ?_ <;> (blk_simp [idx0 t]; try omega)

/-- What the outputs hold after grid point `n`. -/
def After (n : ℕ) (o : FVec Ideal S1x2048 .f32 × FVec Ideal S256x2048 .f32 × FVec Ideal S1x2048 .f32) : Prop :=
  o.1 = (up2 fun _ e => ∑ t ∈ Finset.range (256 * (n + 1)), er X Y G t e * er X Y G t e)
  ∧ o.2.1 = (up2 fun x e => back (X (256 * n + x)) (gd X Y G (256 * n + x)) e)
  ∧ o.2.2 = (up2 fun _ e => ∑ t ∈ Finset.range (256 * (n + 1)), dy X Y G t e * hat (X t) e)

theorem After.of {n : ℕ} {o3 : FVec Ideal S1x2048 .f32} {o4 : FVec Ideal S256x2048 .f32} {o5 : FVec Ideal S1x2048 .f32}
    (h3 : o3 = (up2 fun _ e => ∑ t ∈ Finset.range (256 * (n + 1)), er X Y G t e * er X Y G t e))
    (h4 : o4 = (up2 fun x e => back (X (256 * n + x)) (gd X Y G (256 * n + x)) e))
    (h5 : o5 = (up2 fun _ e => ∑ t ∈ Finset.range (256 * (n + 1)), dy X Y G t e * hat (X t) e)) : After X Y G n (o3, o4, o5) := ⟨h3, h4, h5⟩

/-- A block's rows added to the rows before it. -/
theorem rows_add (f : ℕ → ℝ) (n : ℕ) : ∑ t ∈ Finset.range (256 * n), f t + ∑ x : Fin 256, f (256 * n + x.val) = ∑ t ∈ Finset.range (256 * (n + 1)), f t :=
  range_add f (256 * n) 256
theorem rows_zero (f : ℕ → ℝ) (n : ℕ) (h : n = 0) : 0 + ∑ x : Fin 256, f (256 * n + x.val) = ∑ t ∈ Finset.range (256 * (n + 1)), f t := by
  rw [← rows_add f n, h, Nat.mul_zero, Finset.range_zero, Finset.sum_empty]

include hx hg hy in
theorem step_A (t : Fin cfg0.N) (h0 : t.val % 32 = 0) : After X Y G t.val (outsAt0 m c t.val t.isLt) := by
  have ht : t.val < 32 := Nat.lt_of_lt_of_eq t.isLt N_0
  obtain ⟨b3, b4, b5⟩ := body_A X Y G (256 * t.val) c (grid0.coords t) (ms0_0 t) (hs0_0 t) (ms0_1 t) (hs0_1 t) (ms0_2 t) (hs0_2 t) (ms0_3 t) (hs0_3 t) (ms0_4 t) (hs0_4 t) (ms0_5 t) (hs0_5 t) _ _ _
    (blk0 m c X hx t) (blk1 m c G hg t) (blk2 m c Y hy t) ((hcond0_0 t).mpr h0)
  rw [outsAt0_A m c t h0]
  refine After.of X Y G (b3.trans (congrArg up2 ?_)) b4 (b5.trans (congrArg up2 ?_))
  · funext _ e
    exact rows_zero (fun t => er X Y G t e * er X Y G t e) t.val (by omega)
  · funext _ e
    exact rows_zero (fun t => dy X Y G t e * hat (X t) e) t.val (by omega)

include hx hg hy in
theorem step_B (t : Fin cfg0.N) (h0 : ¬t.val % 32 = 0) (ih : After X Y G (t.val - 1) (outsAt0 m c (t.val - 1) (Nat.lt_of_le_of_lt (Nat.sub_le _ _) t.isLt))) :
    After X Y G t.val (outsAt0 m c t.val t.isLt) := by
  have ht : t.val < 32 := Nat.lt_of_lt_of_eq t.isLt N_0
  obtain ⟨i3, -, i5⟩ := ih
  rw [show t.val - 1 + 1 = t.val by omega] at i3 i5
  obtain ⟨b3, b4, b5⟩ := body_B X Y G (256 * t.val) c (grid0.coords t) (ms0_0 t) (hs0_0 t) (ms0_1 t) (hs0_1 t) (ms0_2 t) (hs0_2 t) (ms0_3 t) (hs0_3 t) (ms0_4 t) (hs0_4 t) (ms0_5 t) (hs0_5 t) _ _ _
    (blk0 m c X hx t) (blk1 m c G hg t) (blk2 m c Y hy t) _ _ (fun e => ∑ t ∈ Finset.range (256 * t.val), er X Y G t e * er X Y G t e) (fun e => ∑ t ∈ Finset.range (256 * t.val), dy X Y G t e * hat (X t) e) i3 i5 (fun h => h0 ((hcond0_0 t).mp h))
  rw [outsAt0_B m c t h0]
  refine After.of X Y G (b3.trans (congrArg up2 ?_)) b4 (b5.trans (congrArg up2 ?_))
  · funext _ e
    exact rows_add (fun t => er X Y G t e * er X Y G t e) t.val
  · funext _ e
    exact rows_add (fun t => dy X Y G t e * hat (X t) e) t.val

include hx hg hy in
theorem outs (n : ℕ) : ∀ hn : n < cfg0.N, After X Y G n (outsAt0 m c n hn) := by
  induction n with
  | zero => exact fun hn => step_A m c X Y G hx hg hy ⟨0, hn⟩ rfl
  | succ n ih =>
    intro hn
    have hn' : n + 1 < 32 := Nat.lt_of_lt_of_eq hn N_0
    exact step_B m c X Y G hx hg hy ⟨n + 1, hn⟩ (show ¬(n + 1) % 32 = 0 by omega) (ih (by omega))

include hx hg hy in
/-- The columns' squared errors. -/
theorem final_sq : (dats m 0 c).arrAt 3 cfg0.N = (up2 fun _ e => sq X Y G e : FVec Ideal S1x2048 .f32) := by
  refine (dats m 0 c).arrAt_eq_of_covers 3 _ (by decide +kernel) fun t hf y => ?_
  have ht : t.val < 32 := Nat.lt_of_lt_of_eq t.isLt N_0
  have hl := (flush0_3 t).mp hf
  blk_simp
  rw [after0_3, (outs m c X Y G hx hg hy t.val t.isLt).1, show 256 * (t.val + 1) = 8192 by omega, up2_at, up2_at]
  refine at1 (sq X Y G) ?_ <;> (blk_simp [idx0 t]; try omega)

include hx hg hy in
/-- The input's gradient. -/
theorem final_dx : (dats m 0 c).arrAt 4 cfg0.N = (up2 fun t e => back (X t) (gd X Y G t) e : FVec Ideal S8192x2048 .f32) := by
  refine (dats m 0 c).arrAt_eq_of_covers 4 _ (by decide +kernel) fun t hf y => ?_
  blk_simp
  rw [after0_4, (outs m c X Y G hx hg hy t.val t.isLt).2.1, up2_at, up2_at]
  refine at2 (fun t e => back (X t) (gd X Y G t) e) ?_ ?_ <;> (blk_simp [idx0 t]; try omega)

include hx hg hy in
/-- The scale's gradient. -/
theorem final_dg : (dats m 0 c).arrAt 5 cfg0.N = (up2 fun _ e => dg X Y G e : FVec Ideal S1x2048 .f32) := by
  refine (dats m 0 c).arrAt_eq_of_covers 5 _ (by decide +kernel) fun t hf y => ?_
  have ht : t.val < 32 := Nat.lt_of_lt_of_eq t.isLt N_0
  have hl := (flush0_5 t).mp hf
  blk_simp
  rw [after0_5, (outs m c X Y G hx hg hy t.val t.isLt).2.2, show 256 * (t.val + 1) = 8192 by omega, up2_at, up2_at]
  refine at1 (dg X Y G) ?_ <;> (blk_simp [idx0 t]; try omega)

/-- The loss the lines after the region compute. -/
def total : S_.Idx → EReal := fun _ => (loss X Y G : EReal)

include hx hg hy in
theorem tail_loss : Pipeline.afterTail₀ cfgs (dats m) 0 (V0 m) [hostOps1] c main_v4 = total X Y G := by
  unfold Pipeline.afterTail₀ hostOps1
  have e : Pipeline.withArrays (cfgs 0).spec c (V0 m c) (fun w => (dats m 0 c).arrAt w (cfgs 0).N) (Proc.devRef .tc main_v1_0) = (up2 fun _ e => sq X Y G e : FVec Ideal S1x2048 .f32) :=
    (Pipeline.withArrays_arr (cfgs 0).spec (by decide) c (V0 m c) _ 3).trans (final_sq m c X Y G hx hg hy)
  simp only [List.flatten_cons, List.flatten_nil, List.append_nil]
  after_results_simp
  rw [e]
  funext i
  pointwise []
  show _ = (loss X Y G : EReal)
  simp only [up2_ix, sum_coe, Fin.sum_univ_one, half_f32, width_f32, ← EReal.coe_mul]
  exact div_real _ _ (by norm_num)

/-- The run at the arrays the claim names. -/
theorem run_results (ρ : Dev nD → PrngReg) : θ_run defs (onTc (τ := τ) (main (F := Ideal))) ⟨m, fun _ => 0, ρ⟩ (fun r => ∀ c : Dev nD,
      r.2.mem ((c : Thread nD τ).loc main_v4) = Pipeline.afterTail₀ cfgs (dats m) 0 (V0 m) [hostOps1] c main_v4
      ∧ r.2.mem ((c : Thread nD τ).loc main_v1_1) = (dats m 0 c).arrAt 4 cfg0.N
      ∧ r.2.mem ((c : Thread nD τ).loc main_v1_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨(h.1 c).2 main_v4 (Pipeline.mem_restRefs_of main_v4 (by decide) (by decide)), (h.1 c).1 4, (h.1 c).1 5, h.2 c⟩)
    (θ_run_and (run_main m ρ) (unchanged m ρ))

end Cert.LossKernelIdeal.RefValue
end
-- ==== Proof.LossReferenceValue.lean ====
/- The loss and its derivative as the reference computes them, over real arguments. -/
module

public import proofs.«01_k».proof.Proof.Gen.LossReferenceIdeal.Read
public import proofs.«01_k».proof.Proof.LossMath

@[expose] public section

set_option maxRecDepth 16384

noncomputable section

namespace Cert.LossReferenceIdeal.RefValue

open Cert.LossReferenceIdeal Cert.LossReferenceIdeal.Gen Idealize.ShloMosaic Idealize.ShloMosaic.TcCoe Idealize.SL.Sem
open Cert.LossReferenceIdeal.Read Cert.Reals Cert.Attn Cert.Norm Cert.Loss

variable (X Y : ℕ → ℕ → ℝ) (G : ℕ → ℝ)

/-- A list of reals as an array. -/
abbrev vec {n : ℕ} (G : ℕ → ℝ) : (⟨1, ![n]⟩ : Shape).Idx → EReal := fun i => (G (i 0).val : EReal)
theorem up1_ix {n : ℕ} (G : ℕ → ℝ) (y : Fin n) : vec G (ix1 y) = (G y.val : EReal) := rfl
theorem ext1 {n : ℕ} {f g : (⟨1, ![n]⟩ : Shape).Idx → EReal} (h : ∀ y : Fin n, f (ix1 y) = g (ix1 y)) : f = g := by
  funext i
  obtain ⟨y, rfl⟩ : ∃ y : Fin n, i = ix1 y := ⟨i 0, by funext j; refine Fin.cases rfl (fun j => j.elim0) j⟩
  exact h y

theorem v6 : val_main_v6 (F := Ideal) (up2 X) = (up2 (fun t _ => var (X t)) : FVec Ideal S8192x1 .f32) := by
  refine ext2 fun x y => ?_
  pointwise [val_main_v6, val_main_v4, val_main_v2, val_main_v1, val_main_v0, val_main_cst, val_main_v3, val_main_cst_0, val_main_v5, val_main_cst_1]
  simp only [up2_ix, ← EReal.coe_mul, sum_coe, width_f32, eps_f32, zero_add, var_coe]

theorem v7 : val_main_v7 (F := Ideal) (up2 X) = (up2 (fun t _ => rs (X t)) : FVec Ideal S8192x1 .f32) := by
  refine ext2 fun x y => ?_
  pointwise [val_main_v7]
  simp only [v6, up2_ix]
  exact rs_coe _

theorem v10 : val_main_v10 (F := Ideal) (up2 X) = (up2 (fun t _ => -(1 / 2) * (rs (X t) / var (X t))) : FVec Ideal S8192x1 .f32) := by
  refine ext2 fun x y => ?_
  pointwise [val_main_v10, val_main_v9, val_main_cst_2, val_main_v8]
  simp only [v6, v7, up2_ix, neghalf_f32]
  rw [div_real _ _ (var_pos _).ne', ← EReal.coe_mul]

theorem v12 : val_main_v12 (F := Ideal) (up2 X) = (up2 (fun t e => hat (X t) e) : FVec Ideal S8192x2048 .f32) := by
  refine ext2 fun x y => ?_
  pointwise [val_main_v12, val_main_v11]
  simp only [v7, up2_ix, ← EReal.coe_mul]
  rfl

theorem v16 : val_main_v16 (F := Ideal) (up2 X) (vec G) (up2 Y) = (up2 (er X Y G) : FVec Ideal S8192x2048 .f32) := by
  refine ext2 fun x y => ?_
  pointwise [val_main_v16, val_main_v15, val_main_v14, val_main_v13]
  simp only [v12, up2_ix, up1_ix, ← EReal.coe_mul, ← EReal.coe_sub]
  rfl

theorem v22 : val_main_v22 (F := Ideal) (up2 X) (vec G) (up2 Y) = (vec (fun t => (∑ e : Fin 2048, er X Y G t e.val * er X Y G t e.val) / 2048) : FVec Ideal S8192 .f32) := by
  refine ext1 fun x => ?_
  pointwise [val_main_v22, val_main_v20, val_main_v17, val_main_cst_4, val_main_v21, val_main_cst_5]
  simp only [v16, up2_ix, up1_ix, ← EReal.coe_mul, sum_coe, width_f32, zero_add]
  exact div_real _ _ (by norm_num)

theorem v24 : val_main_v24 (F := Ideal) (up2 X) (vec G) (up2 Y) = fun _ : S_.Idx => (loss X Y G : EReal) := by
  funext i
  pointwise [val_main_v24, val_main_cst_7, val_main_v23, val_main_cst_6]
  simp only [v22, up1_ix, sum_coe, half_f32, zero_add, ← EReal.coe_mul]
  refine congrArg _ ?_
  unfold loss Loss.sq
  have h : ∑ e : Fin 2048, ∑ t ∈ Finset.range 8192, er X Y G t e.val * er X Y G t e.val = ∑ t : Fin 8192, ∑ e : Fin 2048, er X Y G t.val e.val * er X Y G t.val e.val := by
    rw [Finset.sum_comm, Finset.sum_range]
  rw [h, ← Finset.sum_div, mul_div_assoc]

theorem v30 : val_main_v30 (F := Ideal) (up2 X) (vec G) (up2 Y) = (up2 (dy X Y G) : FVec Ideal S8192x2048 .f32) := by
  refine ext2 fun x y => ?_
  pointwise [val_main_v30, val_main_v29, val_main_v28, val_main_v26, val_main_v25, val_main_cst_8, val_main_cst_9, val_main_v27, val_main_cst_10, val_main_v19, val_main_v18, val_main_cst_3]
  simp only [v16, up2_ix, half_f32, one_f32, two_f32, width_f32, ← EReal.coe_mul]
  rw [div_real _ _ (by norm_num), ← EReal.coe_mul]
  refine congrArg _ ?_
  unfold dy
  ring

theorem v32 : val_main_v32 (F := Ideal) (up2 X) (vec G) (up2 Y) = (vec (dg X Y G) : FVec Ideal S2048 .f32) := by
  refine ext1 fun x => ?_
  pointwise [val_main_v32, val_main_v31, val_main_cst_11]
  simp only [v12, v30, up2_ix, up1_ix, ← EReal.coe_mul, sum_coe, zero_add]
  refine congrArg _ ?_
  unfold dg
  rw [Finset.sum_range]
  exact Finset.sum_congr rfl fun _ _ => mul_comm _ _

theorem v51 : val_main_v51 (F := Ideal) (up2 X) (vec G) (up2 Y) = (up2 (fun _ e => dg X Y G e) : FVec Ideal S1x2048 .f32) := by
  refine ext2 fun x y => ?_
  pointwise [val_main_v51, val_main_v36, val_main_v33, val_main_cst_12]
  simp only [v32, up2_ix, up1_ix, zero_add]
  simp only [Fin.sum_univ_one, up1_ix]

theorem v35 : val_main_v35 (F := Ideal) (up2 X) (vec G) (up2 Y) = (up2 (gd X Y G) : FVec Ideal S8192x2048 .f32) := by
  refine ext2 fun x y => ?_
  pointwise [val_main_v35, val_main_v34, val_main_v13]
  simp only [v30, up2_ix, up1_ix, ← EReal.coe_mul]
  rfl

theorem v44 : val_main_v44 (F := Ideal) (up2 X) (vec G) (up2 Y) = (up2 (fun t _ => (∑ e : Fin 2048, X t e * gd X Y G t e) * (-(1 / 2) * (rs (X t) / var (X t))) / 2048) : FVec Ideal S8192x1 .f32) := by
  refine ext2 fun x y => ?_
  pointwise [val_main_v44, val_main_v42, val_main_v39, val_main_v38, val_main_v37, val_main_cst_13, val_main_v43, val_main_cst_14]
  simp only [v10, v35, up2_ix, ← EReal.coe_mul, sum_coe, zero_add, width_f32]
  exact div_real _ _ (by norm_num)

theorem v50 : val_main_v50 (F := Ideal) (up2 X) (vec G) (up2 Y) = (up2 (fun t e => back (X t) (gd X Y G t) e) : FVec Ideal S8192x2048 .f32) := by
  refine ext2 fun x y => ?_
  pointwise [val_main_v50, val_main_v48, val_main_v41, val_main_v40, val_main_v47, val_main_v46, val_main_v45, val_main_cst_15, val_main_v49]
  simp only [v7, v35, v44, up2_ix, ← EReal.coe_mul, ← EReal.coe_add, sum_coe, Fin.sum_univ_one, zero_add]
  exact congrArg _ (back_eq (X x) (gd X Y G x) y _ rfl)

end Cert.LossReferenceIdeal.RefValue
end
-- ==== Proof.LossClaim.lean ====
/- The claim about the loss and the final norm's gradient: kernel and reference leave the same arrays. -/
module

public import proofs.«01_k».proof.Defs
public import proofs.«01_k».proof.Proof.Gen.Pre_loss_finite
public import proofs.«01_k».proof.Proof.LossBwdValue
public import proofs.«01_k».proof.Proof.LossReferenceValue
public import proofs.«01_k».proof.Proof.PoolClaim

@[expose] public section

set_option maxRecDepth 16384

noncomputable section

namespace Cert.LossClaim

open Idealize.ShloMosaic Idealize.ShloMosaic.TcCoe Idealize.SL.Sem
open Cert.Reals Cert.Attn Cert.PoolClaim

/-- The reference ends with its arguments unchanged; it declares no semaphore. -/
theorem frame_reference : Cert.quiescent_LossReferenceIdeal := fun m g _ =>
  (θ_run Cert.LossReferenceIdeal.defs _ _).mono
    (fun _ h => ⟨fun c => (h c).2.2.2, sem_eq_zero_of_no_sems rfl _⟩) (Cert.LossReferenceIdeal.Value.run m g)

open Cert.LossKernelIdeal in
/-- A finite precondition makes every argument a table of reals. -/
theorem reals_of_pre {m : (ℓ : Loc nD τ sig) → Buf (Elt Ideal) ℓ} (h : Cert.Pre_LossKernelIdeal_loss_finite m) (c : Dev nD) :
    ∃ (X Y : ℕ → ℕ → ℝ) (G : ℕ → ℝ),
      m ((c : Thread nD τ).loc main_arg0) = (up2 X : FVec Ideal S8192x2048 .f32) ∧ (m ((c : Thread nD τ).loc main_arg1) = fun i : S2048.Idx => (G (i 0).val : EReal))
      ∧ m ((c : Thread nD τ).loc main_arg2) = (up2 Y : FVec Ideal S8192x2048 .f32) := by
  obtain ⟨h0, h1, h2⟩ := h c
  obtain ⟨x, hx⟩ := reals_of_finite _ _ (fun _ => rfl) h0
  obtain ⟨g, hg⟩ := reals_of_finite _ _ (fun _ => rfl) h1
  obtain ⟨y, hy⟩ := reals_of_finite _ _ (fun _ => rfl) h2
  obtain ⟨X, hX⟩ := exists_up2 x
  obtain ⟨G, hG⟩ := exists_up1 g
  obtain ⟨Y, hY⟩ := exists_up2 y
  exact ⟨X, Y, G, hx.trans hX, hg.trans hG, hy.trans hY⟩

theorem algebraic : Cert.algebraic_LossKernelIdeal_LossReferenceIdeal_pre_loss_finite := by
  pair_intro
  · run_from Cert.LossKernelIdeal.RefValue.run_results m g
  · run_from Cert.LossReferenceIdeal.Value.run m' g'
    all_goals obtain ⟨X, Y, G, hx, hg, hy⟩ := reals_of_pre hpre c
    · rw [Cert.LossKernelIdeal.RefValue.tail_loss m c X Y G hx hg hy, Cert.LossReferenceIdeal.Read.val_main_v24_eq, hx, hg, hy]
      exact Cert.LossReferenceIdeal.RefValue.v24 X Y G
    · rw [Cert.LossKernelIdeal.RefValue.final_dx m c X Y G hx hg hy, Cert.LossReferenceIdeal.Read.val_main_v50_eq, (hagree c).1, hx, (hagree c).2.1, hg, (hagree c).2.2, hy]
      exact Cert.LossReferenceIdeal.RefValue.v50 X Y G
    · rw [Cert.LossKernelIdeal.RefValue.final_dg m c X Y G hx hg hy, Cert.LossReferenceIdeal.Read.val_main_v51_eq, hx, hg, hy]
      exact Cert.LossReferenceIdeal.RefValue.v51 X Y G

end Cert.LossClaim
end
-- ==== Proof.NormBlock.lean ====
/- Loads and stores of parts of a two-axis buffer whose contents are a table of reals, and the mathematics that both uses of the norm's gradient share. -/
module

public import proofs.«01_k».proof.Proof.NormMath
public import Idealize.ShloMosaic.Lib.VecWindow

@[expose] public section

noncomputable section

namespace Cert.Norm

open Idealize.ShloMosaic Idealize.ShloMosaic.TcCoe Idealize.SL.Sem
open Cert.Reals Cert.Attn

section
variable {σ : RefSig} {κ : Kind} {sp : Space} {R C r k : ℕ}
variable (v : View σ κ sp ⟨2, ![R, C]⟩ .f32) (f : v.ty.Contents (Elt Ideal)) (A : ℕ → ℕ → ℝ)

/-- A load of a part of the buffer. -/
theorem tile_load (hA : v.read (Elt Ideal) f = (up2 A : (⟨2, ![R, C]⟩ : Shape).Idx → EReal)) (o q : ℕ) (inb : ∀ a, (![o, q] : Fin 2 → ℕ) a + (![r, k] : Fin 2 → ℕ) a ≤ (![R, C] : Fin 2 → ℕ) a) :
    v.readAt (Elt Ideal) (Rect.unit (s := ⟨2, ![R, C]⟩) ![o, q] ![r, k] inb).toLoadRect f = (up2 fun x e => A (o + x) (q + e) : (⟨2, ![r, k]⟩ : Shape).Idx → EReal) := by
  refine ext2 fun x y => ?_
  show v.read (Elt Ideal) f _ = _
  rw [hA, up2_ix]
  show (A (o + 1 * x.val) (q + 1 * y.val) : EReal) = A (o + x.val) (q + y.val)
  rw [one_mul, one_mul]

/-- A load of whole rows. -/
theorem rows_load (hA : v.read (Elt Ideal) f = (up2 A : (⟨2, ![R, C]⟩ : Shape).Idx → EReal)) (o : ℕ) (inb : ∀ a, (![o, 0] : Fin 2 → ℕ) a + (![r, C] : Fin 2 → ℕ) a ≤ (![R, C] : Fin 2 → ℕ) a) :
    v.readAt (Elt Ideal) (Rect.unit (s := ⟨2, ![R, C]⟩) ![o, 0] ![r, C] inb).toLoadRect f = (up2 fun x e => A (o + x) e : (⟨2, ![r, C]⟩ : Shape).Idx → EReal) :=
  (tile_load v f A hA o 0 inb).trans (by simp only [zero_add])

/-- A load of whole columns. -/
theorem cols_load (hA : v.read (Elt Ideal) f = (up2 A : (⟨2, ![R, C]⟩ : Shape).Idx → EReal)) (q : ℕ) (inb : ∀ a, (![0, q] : Fin 2 → ℕ) a + (![R, k] : Fin 2 → ℕ) a ≤ (![R, C] : Fin 2 → ℕ) a) :
    v.readAt (Elt Ideal) (Rect.unit (s := ⟨2, ![R, C]⟩) ![0, q] ![R, k] inb).toLoadRect f = (up2 fun x e => A x (q + e) : (⟨2, ![R, k]⟩ : Shape).Idx → EReal) :=
  (tile_load v f A hA 0 q inb).trans (by simp only [zero_add])

/-- The same of rounded contents. -/
theorem cols_load_bf16 (v : View σ κ sp ⟨2, ![R, C]⟩ .bf16) (f : v.ty.Contents (Elt Ideal)) (hA : v.read (Elt Ideal) f = (up2 A : (⟨2, ![R, C]⟩ : Shape).Idx → EReal)) (q : ℕ)
    (inb : ∀ a, (![0, q] : Fin 2 → ℕ) a + (![R, k] : Fin 2 → ℕ) a ≤ (![R, C] : Fin 2 → ℕ) a) :
    v.readAt (Elt Ideal) (Rect.unit (s := ⟨2, ![R, C]⟩) ![0, q] ![R, k] inb).toLoadRect f = (up2 fun x e => A x (q + e) : (⟨2, ![R, k]⟩ : Shape).Idx → EReal) := by
  refine ext2 fun x y => ?_
  show v.read (Elt Ideal) f _ = _
  rw [hA, up2_ix]
  show (A (0 + 1 * x.val) (q + 1 * y.val) : EReal) = A x.val (q + y.val)
  rw [one_mul, one_mul, zero_add]

/-- A store of whole columns next to the columns already written. -/
theorem cols_write (L : List (View.Piece (Elt Ideal) ⟨2, ![R, C]⟩ .f32)) (q q' : ℕ) (hq : q' = q + k)
    (hA : ∀ y : (⟨2, ![R, C]⟩ : Shape).Idx, (y 1).val < q → v.read (Elt Ideal) (v.writes (Elt Ideal) f L) y = (A (y 0).val (y 1).val : EReal))
    (inb : ∀ a, (![0, q] : Fin 2 → ℕ) a + (![R, k] : Fin 2 → ℕ) a ≤ (![R, C] : Fin 2 → ℕ) a) (w : (⟨2, ![R, k]⟩ : Shape).Idx → EReal) (hw : w = up2 fun x e => A x (q + e)) :
    ∀ y : (⟨2, ![R, C]⟩ : Shape).Idx, (y 1).val < q' →
      v.read (Elt Ideal) (v.writes (Elt Ideal) f ((⟨Rect.unit (s := ⟨2, ![R, C]⟩) ![0, q] ![R, k] inb, w⟩ : View.Piece (Elt Ideal) ⟨2, ![R, C]⟩ .f32) :: L)) y = (A (y 0).val (y 1).val : EReal) := by
  subst hw
  intro y hy
  by_cases h : (y 1).val < q
  · exact (View.read_writes_cons_unit_of_not_mem v f inb _ L _ rfl (1 : Fin 2) (Or.inl h)).trans (hA y h)
  · have h0 : (y 0).val < R := (y 0).isLt
    refine (View.read_writes_cons_unit_of_mem v f inb _ L y (ix2 (⟨(y 0).val, h0⟩ : Fin R) (⟨(y 1).val - q, by omega⟩ : Fin k)) rfl ?_).trans ?_
    · intro a
      fin_cases a
      · exact (Nat.zero_add _).symm
      · show (y 1).val = q + ((y 1).val - q); omega
    · show (A (y 0).val (q + ((y 1).val - q)) : EReal) = _
      rw [show q + ((y 1).val - q) = (y 1).val by omega]

/-- A store of whole rows over earlier stores. -/
theorem rows_write (L : List (View.Piece (Elt Ideal) ⟨2, ![R, C]⟩ .f32)) (hA : v.read (Elt Ideal) (v.writes (Elt Ideal) f L) = (up2 A : (⟨2, ![R, C]⟩ : Shape).Idx → EReal)) (o : ℕ) (B : ℕ → ℕ → ℝ)
    (inb : ∀ a, (![o, 0] : Fin 2 → ℕ) a + (![r, C] : Fin 2 → ℕ) a ≤ (![R, C] : Fin 2 → ℕ) a) (w : (⟨2, ![r, C]⟩ : Shape).Idx → EReal) (hw : w = up2 fun x e => B (o + x) e) :
    v.read (Elt Ideal) (v.writes (Elt Ideal) f ((⟨Rect.unit (s := ⟨2, ![R, C]⟩) ![o, 0] ![r, C] inb, w⟩ : View.Piece (Elt Ideal) ⟨2, ![R, C]⟩ .f32) :: L))
      = (up2 fun x e => if o ≤ x ∧ x < o + r then B x e else A x e : (⟨2, ![R, C]⟩ : Shape).Idx → EReal) := by
  subst hw
  refine ext2 fun x y => ?_
  rw [up2_ix]
  by_cases h : o ≤ x.val ∧ x.val < o + r
  · rw [if_pos h]
    refine (View.read_writes_cons_unit_of_mem v f inb _ L _ (ix2 (⟨x.val - o, by omega⟩ : Fin r) y) rfl ?_).trans ?_
    · intro a
      fin_cases a
      · show x.val = o + (x.val - o); omega
      · exact (Nat.zero_add _).symm
    · show (B (o + (x.val - o)) y.val : EReal) = _
      rw [show o + (x.val - o) = x.val by omega]
  · rw [if_neg h]
    refine (View.read_writes_cons_unit_of_not_mem v f inb _ L _ rfl (0 : Fin 2) ?_).trans (by rw [hA, up2_ix])
    show x.val < o ∨ o + r ≤ x.val
    omega
end

/-- One chip's part of a row's product with a row of the weight. -/
def ch (n : ℕ) (z w : ℕ → ℝ) (j : ℕ) : ℝ := ∑ f : Fin n, z (n * j + f.val) * w (n * j + f.val)
/-- The four parts added up. -/
def pr (n : ℕ) (z w : ℕ → ℝ) : ℝ := ch n z w 0 + ch n z w 1 + ch n z w 2 + ch n z w 3

/-- The four parts are the whole product. -/
theorem pr_eq (n : ℕ) (z w : ℕ → ℝ) : pr n z w = ∑ f ∈ Finset.range (n * 4), z f * w f := by
  unfold pr ch
  have h := fun j => range_add (fun f => z f * w f) (n * j) n
  rw [show n * 4 = n * 3 + n by ring, ← h 3, show n * 3 = n * 2 + n by ring, ← h 2, show n * 2 = n * 1 + n by ring, ← h 1, show n * 1 = n * 0 + n by ring, ← h 0]
  simp only [Nat.mul_zero, Finset.range_zero, Finset.sum_empty, zero_add, Nat.mul_one, Nat.add_zero]

variable (X D H : ℕ → ℕ → ℝ) (G : ℕ → ℝ)

/-- The gradient of the norm's input, with the cotangent `D` that passes by the norm and the cotangent `H` of its output. -/
def gx (t e : ℕ) : ℝ := D t e + back (X t) (fun e => H t e * G e) e
/-- The gradient of the norm's scale over `n` rows. -/
def gg (n e : ℕ) : ℝ := ∑ t ∈ Finset.range n, H t e * hat (X t) e

theorem gg_step (T n e : ℕ) (h : n = T + 256) : gg X H T e + (0 + ∑ x : Fin 128, H (T + x.val) e * hat (X (T + x.val)) e + ∑ x : Fin 128, H (T + (128 + x.val)) e * hat (X (T + (128 + x.val))) e) = gg X H n e := by
  subst h
  unfold gg
  rw [show T + 256 = T + 128 + 128 by ring, ← range_add _ (T + 128) 128, ← range_add _ T 128, zero_add, add_assoc]
  simp only [Nat.add_assoc]

end Cert.Norm
end
-- ==== Proof.MixTile.lean ====
/- What the body of the norm's gradient after the mixer computes on a block of 256 rows. -/
module

public import proofs.«01_k».proof.Proof.NormBlock
public import proofs.«01_k».proof.Proof.Gen.MixKernelIdeal.Frame

@[expose] public section

set_option maxRecDepth 16384

noncomputable section

namespace Cert.MixKernelIdeal.RefValue

open Cert.MixKernelIdeal Cert.MixKernelIdeal.Gen Idealize.ShloMosaic Idealize.ShloMosaic.TcCoe Idealize.SL.Sem
open Cert.Reals Cert.Attn Cert.Norm

variable (X D Z W : ℕ → ℕ → ℝ) (G : ℕ → ℝ) (T o : ℕ)

/-- The cotangent of the norm's output. -/
def dh (t e : ℕ) : ℝ := pr 1152 (Z t) (W e)

abbrev zB (j : ℕ) : FVec Ideal S256x1152 .bf16 := up2 fun x f => Z (T + x) (1152 * j + f)
abbrev wB (j c : ℕ) : FVec Ideal S1x1x512x1152 .bf16 := fun i => (W (c + (i 2).val) (1152 * j + (i 3).val) : EReal)
abbrev gB : FVec Ideal S1x2048 .f32 := up2 fun _ e => G e
abbrev rB (X : ℕ → ℕ → ℝ) : FVec Ideal S128x2048 .f32 := up2 fun x e => X (T + (o + x)) e

theorem w_ix (j c : ℕ) (a b : Fin 1) (y : Fin 512) (z : Fin 1152) : wB W j c (ix4 a b y z) = (W (c + y.val) (1152 * j + z.val) : EReal) := rfl

theorem pay7 (v : FVec Ideal S256x1152 .bf16) : k0_pay7 v = v := by funext i; pointwise [k0_pay7]
theorem pay8 (v : FVec Ideal S256x1152 .bf16) : k0_pay8 v = v := by funext i; pointwise [k0_pay8]
theorem pay9 (v : FVec Ideal S256x1152 .bf16) : k0_pay9 v = v := by funext i; pointwise [k0_pay9]
theorem pay10 (v : FVec Ideal S256x1152 .bf16) : k0_pay10 v = v := by funext i; pointwise [k0_pay10]

theorem pay11 : k0_pay11 (F := Ideal) (zB Z T 0) (zB Z T 1) (zB Z T 2) (zB Z T 3) (wB W 0 0) (wB W 1 0) (wB W 2 0) (wB W 3 0) = (up2 fun x e => dh Z W (T + x) (0 + e) : FVec Ideal S256x512 .f32) := by
  refine ext2 fun x y => ?_
  pointwise [k0_pay11]
  simp only [pay7, pay8, pay9, pay10, up2_ix, w_ix, ← EReal.coe_mul, sum_coe, ← EReal.coe_add]
  rw [Nat.zero_add]
  rfl
theorem pay12 : k0_pay12 (F := Ideal) (zB Z T 0) (zB Z T 1) (zB Z T 2) (zB Z T 3) (wB W 0 512) (wB W 1 512) (wB W 2 512) (wB W 3 512) = (up2 fun x e => dh Z W (T + x) (512 + e) : FVec Ideal S256x512 .f32) := by
  refine ext2 fun x y => ?_
  pointwise [k0_pay12]
  simp only [up2_ix, w_ix, ← EReal.coe_mul, sum_coe, ← EReal.coe_add]
  rfl
theorem pay14 : k0_pay14 (F := Ideal) (zB Z T 2) (zB Z T 3) (k0_pay13 (zB Z T 0) (zB Z T 1) (wB W 0 1024) (wB W 1 1024)) (wB W 2 1024) (wB W 3 1024) = (up2 fun x e => dh Z W (T + x) (1024 + e) : FVec Ideal S256x512 .f32) := by
  refine ext2 fun x y => ?_
  pointwise [k0_pay14, k0_pay13]
  simp only [up2_ix, w_ix, ← EReal.coe_mul, sum_coe, ← EReal.coe_add]
  rfl
theorem pay15 : k0_pay15 (F := Ideal) (zB Z T 0) (zB Z T 1) (zB Z T 2) (zB Z T 3) (wB W 0 1536) (wB W 1 1536) (wB W 2 1536) (wB W 3 1536) = (up2 fun x e => dh Z W (T + x) (1536 + e) : FVec Ideal S256x512 .f32) := by
  refine ext2 fun x y => ?_
  pointwise [k0_pay15]
  simp only [up2_ix, w_ix, ← EReal.coe_mul, sum_coe, ← EReal.coe_add]
  rfl

variable (H : ℕ → ℕ → ℝ)

theorem pay16 : k0_pay16 (F := Ideal) (rB T o X) = (up2 fun x _ => rs (X (T + (o + x))) : FVec Ideal S128x1 .f32) := by
  refine ext2 fun x y => ?_
  pointwise [k0_pay16]
  simp only [up2_ix, ← EReal.coe_mul, sum_coe, eps_f32, width_f32, var_coe, rs_coe]
theorem pay17 : k0_pay17 (F := Ideal) (rB T o X) = (up2 fun x e => hat (X (T + (o + x))) e : FVec Ideal S128x2048 .f32) := by
  refine ext2 fun x y => ?_
  pointwise [k0_pay17]
  simp only [pay16, up2_ix, ← EReal.coe_mul]
  rfl
theorem pay18 (v : FVec Ideal S128x2048 .f32) : k0_pay18 v = v := by funext i; pointwise [k0_pay18]
theorem pay3 (v : FVec Ideal S128x2048 .f32) : k0_pay3 v = v := by funext i; pointwise [k0_pay3]
theorem pay19 : k0_pay19 (F := Ideal) (rB T o X) (rB T o H) (gB G) (rB T o D) = (up2 fun x e => gx X D H G (T + (o + x)) e : FVec Ideal S128x2048 .f32) := by
  refine ext2 fun x y => ?_
  pointwise [k0_pay19]
  simp only [pay16, pay17, pay18, up2_ix, ← EReal.coe_mul, sum_coe, width_f32]
  rw [div_real _ _ (by norm_num), ← EReal.coe_mul, ← EReal.coe_sub, ← EReal.coe_mul, ← EReal.coe_add]
  rfl
theorem pay20 : k0_pay20 (F := Ideal) (Ideal.ofBits .f32 0x00000000#32) (rB T o X) (rB T o H) = (up2 fun _ e => 0 + ∑ x : Fin 128, H (T + (o + x.val)) e * hat (X (T + (o + x.val))) e : FVec Ideal S1x2048 .f32) := by
  refine ext2 fun x y => ?_
  pointwise [k0_pay20]
  simp only [pay17, pay18, up2_ix, ← EReal.coe_mul, sum_coe]
theorem pay1 : k0_pay1 (F := Ideal) (k0_pay21 (rB T o X)) (Ideal.ofBits .f32 0x45000000#32) = (up2 fun x _ => rs (X (T + (o + x))) : FVec Ideal S128x1 .f32) := by
  refine ext2 fun x y => ?_
  pointwise [k0_pay1, k0_pay21]
  simp only [up2_ix, ← EReal.coe_mul, sum_coe]
  rw [eps_f32, width_f32, var_coe, rs_coe]
theorem pay2 : k0_pay2 (F := Ideal) (rB T o X) (k0_pay21 (rB T o X)) (Ideal.ofBits .f32 0x45000000#32) = (up2 fun x e => hat (X (T + (o + x))) e : FVec Ideal S128x2048 .f32) := by
  refine ext2 fun x y => ?_
  pointwise [k0_pay2]
  simp only [pay1, up2_ix, ← EReal.coe_mul]
  rfl
theorem pay4 : k0_pay4 (F := Ideal) (rB T o X) (k0_pay21 (rB T o X)) (Ideal.ofBits .f32 0x45000000#32) (rB T o H) (gB G) (rB T o D) = (up2 fun x e => gx X D H G (T + (o + x)) e : FVec Ideal S128x2048 .f32) := by
  refine ext2 fun x y => ?_
  pointwise [k0_pay4]
  simp only [pay1, pay2, pay3, up2_ix, ← EReal.coe_mul, sum_coe]
  rw [width_f32, div_real _ _ (by norm_num), ← EReal.coe_mul, ← EReal.coe_sub, ← EReal.coe_mul, ← EReal.coe_add]
  rfl
theorem pay5 (B A : ℕ → ℝ) : k0_pay5 (F := Ideal) (up2 fun _ e => B e : FVec Ideal S1x2048 .f32) (rB T o X) (k0_pay21 (rB T o X)) (Ideal.ofBits .f32 0x45000000#32) (rB T o H) (up2 fun _ e => A e : FVec Ideal S1x2048 .f32)
    = (up2 fun _ e => A e + (B e + ∑ x : Fin 128, H (T + (o + x.val)) e * hat (X (T + (o + x.val))) e) : FVec Ideal S1x2048 .f32) := by
  refine ext2 fun x y => ?_
  pointwise [k0_pay5]
  simp only [pay2, pay3, up2_ix, ← EReal.coe_mul, sum_coe, ← EReal.coe_add]
theorem pay6 : k0_pay6 (F := Ideal) = (up2 fun _ _ => 0 : FVec Ideal S1x2048 .f32) := by
  refine ext2 fun x y => ?_
  pointwise [k0_pay6]
  rw [up2_ix, EReal.coe_zero]

end Cert.MixKernelIdeal.RefValue
end
-- ==== Proof.MixBody.lean ====
/- What one grid point of the norm's gradient after the mixer leaves in its two outputs. -/
module

public import proofs.«01_k».proof.Proof.MixTile
import all proofs.«01_k».proof.Proof.Gen.MixKernelIdeal.Frame
import all proofs.«01_k».proof.Proof.Gen.MixKernelIdeal.Frame.RunA
import all proofs.«01_k».proof.Proof.Gen.MixKernelIdeal.Frame.RunB

@[expose] public section

set_option maxRecDepth 16384

noncomputable section

namespace Cert.MixKernelIdeal.RefValue

open Cert.MixKernelIdeal Cert.MixKernelIdeal.Gen Idealize.ShloMosaic Idealize.ShloMosaic.TcCoe Idealize.SL.Sem
open Cert.Reals Cert.Attn Cert.Norm

/-- A load of one chip's columns of 512 of the weight's rows. -/
theorem weight_load {σ : RefSig} {κ : Kind} {sp : Space} (W : ℕ → ℕ → ℝ) (v : View σ κ sp S4x1x2048x1152 .bf16) (f : v.ty.Contents (Elt Ideal))
    (hA : v.read (Elt Ideal) f = fun i : S4x1x2048x1152.Idx => (W (i 2).val (1152 * (i 0).val + (i 3).val) : EReal)) (j q : ℕ) (inb : ∀ a, (![j, 0, q, 0] : Fin 4 → ℕ) a + S1x1x512x1152.size a ≤ S4x1x2048x1152.size a) :
    v.readAt (Elt Ideal) (Rect.unit (s := S4x1x2048x1152) ![j, 0, q, 0] S1x1x512x1152.size inb).toLoadRect f = wB W j q := by
  funext y
  have h0 := Nat.lt_one_iff.1 (y 0).isLt
  show v.read (Elt Ideal) f _ = _
  rw [hA]
  show (W (q + 1 * (y 2).val) (1152 * (j + 1 * (y 0).val) + (0 + 1 * (y 3).val)) : EReal) = W (q + (y 2).val) (1152 * j + (y 3).val)
  rw [h0, one_mul, one_mul, Nat.add_zero, Nat.zero_add, one_mul]

variable (X D Z W : ℕ → ℕ → ℝ) (G : ℕ → ℝ) (T : ℕ)

theorem pay11_of (a b d e : FVec Ideal S256x1152 .bf16) (ha : a = zB Z T 0) (hb : b = zB Z T 1) (hd : d = zB Z T 2) (he : e = zB Z T 3) :
    k0_pay11 (F := Ideal) a b d e (wB W 0 0) (wB W 1 0) (wB W 2 0) (wB W 3 0) = (up2 fun x e => dh Z W (T + x) (0 + e) : FVec Ideal S256x512 .f32) := by
  rw [ha, hb, hd, he]
  exact pay11 Z W T
theorem pay19_of (a b : FVec Ideal S128x2048 .f32) (ha : a = rB T 0 X) (hb : b = rB T 0 D) :
    k0_pay19 (F := Ideal) a (rB T 0 (dh Z W)) (gB G) b = (up2 fun x e => gx X D (dh Z W) G (T + (0 + x)) e : FVec Ideal S128x2048 .f32) := by
  rw [ha, hb]
  exact pay19 X D G T 0 (dh Z W)
theorem pay20_of (a : FVec Ideal S128x2048 .f32) (ha : a = rB T 0 X) :
    k0_pay20 (F := Ideal) (Ideal.ofBits .f32 0x00000000#32) a (rB T 0 (dh Z W)) = (up2 fun _ e => 0 + ∑ x : Fin 128, dh Z W (T + (0 + x.val)) e * hat (X (T + (0 + x.val))) e : FVec Ideal S1x2048 .f32) := by
  rw [ha]
  exact pay20 X T 0 (dh Z W)
theorem pay4_of (a : FVec Ideal S1x2048 .f32) (b : FVec Ideal S128x2048 .f32) (ha : a = gB G) (hb : b = rB T 128 D) :
    k0_pay4 (F := Ideal) (rB T 128 X) (k0_pay21 (rB T 128 X)) (Ideal.ofBits .f32 0x45000000#32) (rB T 128 (dh Z W)) a b
      = (up2 fun x e => gx X D (dh Z W) G (T + (128 + x)) e : FVec Ideal S128x2048 .f32) := by
  rw [ha, hb]
  exact pay4 X D G T 128 (dh Z W)

variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x4608 .bf16) (harg4 : arg4.IsWhole) (arg5 : Memref sig .tc .vmem S4x1x2048x1152 .bf16) (harg5 : arg5.IsWhole) (arg6 : Memref sig .tc .vmem S256x2048 .f32) (harg6 : arg6.IsWhole) (arg7 : Memref sig .tc .vmem S1x2048 .f32) (harg7 : arg7.IsWhole)
  (x0 : FVec Ideal S256x2048 .f32) (x1 : FVec Ideal S1x2048 .f32) (x2 : FVec Ideal S256x2048 .f32) (x3 : FVec Ideal S256x4608 .bf16) (x4 : FVec Ideal S4x1x2048x1152 .bf16)
  (h0 : x0 = up2 fun x e => X (T + x) e) (h1 : x1 = gB G) (h2 : x2 = up2 fun x e => D (T + x) e) (h3 : x3 = up2 fun x f => Z (T + x) f)
  (h4 : x4 = fun i : S4x1x2048x1152.Idx => (W (i 2).val (1152 * (i 0).val + (i 3).val) : EReal))

include h0 h1 h2 h3 h4 in
/-- The first grid point starts the scale's gradient from zero. -/
theorem body_A (hc0) : out0_A_5 (F := Ideal) c i arg1 harg1 arg2 harg2 arg3 harg3 arg4 harg4 arg5 harg5 arg6 harg6 arg7 harg7 hc0 x0 x1 x2 x3 x4 = (up2 fun x e => gx X D (dh Z W) G (T + x) e : FVec Ideal S256x2048 .f32)
    ∧ out0_A_6 (F := Ideal) c i arg1 harg1 arg2 harg2 arg3 harg3 arg4 harg4 arg5 harg5 arg6 harg6 arg7 harg7 hc0 x0 x1 x2 x3 x4 = (up2 fun _ e => 0 + (0 + ∑ x : Fin 128, dh Z W (T + (0 + x.val)) e * hat (X (T + (0 + x.val))) e + ∑ x : Fin 128, dh Z W (T + (128 + x.val)) e * hat (X (T + (128 + x.val))) e) : FVec Ideal S1x2048 .f32) := by
  have l0 := fun o inb => rows_load (r := 128) arg1.view (harg1.unread x0) (fun x e => X (T + x) e) (by rw [harg1.read_unread, h0]) o inb
  have l1 : arg2.view.readAt (Elt Ideal) (Rect.unit (s := S1x2048) ![0, 0] S1x2048.size inb_S1x2048_S1x2048_0_0).toLoadRect (harg2.unread x1) = gB G := by rw [View.readAt_full, harg2.read_unread, h1]
  have l2 := fun o inb => rows_load (r := 128) arg3.view (harg3.unread x2) (fun x e => D (T + x) e) (by rw [harg3.read_unread, h2]) o inb
  have l3 := fun q inb => cols_load_bf16 (k := 1152) (fun x f => Z (T + x) f) arg4.view (harg4.unread x3) (by rw [harg4.read_unread, h3]) q inb
  have l4 := fun j q inb => weight_load W arg5.view (harg5.unread x4) (by rw [harg5.read_unread, h4]) j q inb
  have c105 : kernelRun0_A.sl.cst_105 (F := Ideal) = Ideal.ofBits .f32 0x45000000#32 := rfl
  have c86 : kernelRun0_A.sl.cst_86 (F := Ideal) = Ideal.ofBits .f32 0x00000000#32 := rfl
  have n0 : kernelRun0_A.sl.r (F := Ideal) c arg4 harg4 x3 = zB Z T 0 := by unfold kernelRun0_A.sl.r; rw [pay7]; exact l3 0 _
  have n1 : kernelRun0_A.sl.r_1 (F := Ideal) c arg4 harg4 x3 = zB Z T 1 := by unfold kernelRun0_A.sl.r_1; rw [pay8]; exact l3 1152 _
  have n2 : kernelRun0_A.sl.r_2 (F := Ideal) c arg4 harg4 x3 = zB Z T 2 := by unfold kernelRun0_A.sl.r_2; rw [pay9]; exact l3 2304 _
  have n3 : kernelRun0_A.sl.r_3 (F := Ideal) c arg4 harg4 x3 = zB Z T 3 := by unfold kernelRun0_A.sl.r_3; rw [pay10]; exact l3 3456 _
  have p0 : kernelRun0_A.sl.r_4 (F := Ideal) c arg4 harg4 arg5 harg5 x3 x4 = (up2 fun x e => dh Z W (T + x) (0 + e) : FVec Ideal S256x512 .f32) := by
    unfold kernelRun0_A.sl.r_4
    rw [l4 0, l4 1, l4 2, l4 3]
    exact pay11_of Z W T _ _ _ _ (l3 0 _) (l3 1152 _) (l3 2304 _) (l3 3456 _)
  have b5 : arg6.view.read (Elt Ideal) (arg6.view.writes (Elt Ideal) arg6.view.junk (kernelRun0_A.sl.H5_4 (F := Ideal) c arg4 harg4 arg5 harg5 x3 x4)) = (up2 fun x e => dh Z W (T + x) e : FVec Ideal S256x2048 .f32) := by
    unfold kernelRun0_A.sl.H5_4 kernelRun0_A.sl.r_5
    rw [n0, n1, n2, n3, p0]
    simp only [l4]
    have s0 := cols_write (k := 512) arg6.view arg6.view.junk (fun x e => dh Z W (T + x) e) [] 0 512 rfl (fun y hy => absurd hy (Nat.not_lt_zero _)) inb_S256x2048_S256x512_0_0 _ rfl
    have s1 := cols_write (k := 512) arg6.view _ _ _ 512 1024 rfl s0 inb_S256x2048_S256x512_0_512 _ (pay12 Z W T)
    have s2 := cols_write (k := 512) arg6.view _ _ _ 1024 1536 rfl s1 inb_S256x2048_S256x512_0_1024 _ (pay14 Z W T)
    have s3 := cols_write (k := 512) arg6.view _ _ _ 1536 2048 rfl s2 inb_S256x2048_S256x512_0_1536 _ (pay15 Z W T)
    exact funext fun y => s3 y (y 1).isLt
  have m0 : kernelRun0_A.sl.v87 (F := Ideal) c arg4 harg4 arg5 harg5 arg6 x3 x4 = rB T 0 (dh Z W) := by
    unfold kernelRun0_A.sl.v87 View.readCov
    exact rows_load arg6.view _ _ b5 0 _
  have b6 : arg6.view.read (Elt Ideal) (arg6.view.writes (Elt Ideal) arg6.view.junk (kernelRun0_A.sl.H5_5 (F := Ideal) c arg1 harg1 arg2 harg2 arg3 harg3 arg4 harg4 arg5 harg5 arg6 x0 x1 x2 x3 x4)) = (up2 fun x e => if 0 ≤ x ∧ x < 0 + 128 then gx X D (dh Z W) G (T + x) e else dh Z W (T + x) e : FVec Ideal S256x2048 .f32) := by
    unfold kernelRun0_A.sl.H5_5
    rw [m0, l1]
    refine rows_write (r := 128) arg6.view arg6.view.junk (fun x e => dh Z W (T + x) e) _ b5 0 (fun x e => gx X D (dh Z W) G (T + x) e) _ _ ?_
    exact pay19_of X D Z W G T _ _ (l0 0 _) (l2 0 _)
  have m1 : kernelRun0_A.sl.v121 (F := Ideal) c arg1 harg1 arg2 harg2 arg3 harg3 arg4 harg4 arg5 harg5 arg6 x0 x1 x2 x3 x4 = rB T 128 (dh Z W) := by
    unfold kernelRun0_A.sl.v121 View.readCov
    refine (rows_load arg6.view _ _ b6 128 _).trans (ext2 fun x y => ?_)
    refine (up2_ix _ x y).trans (Eq.trans ?_ (up2_ix _ x y).symm)
    rw [if_neg (by omega)]
  have m6 : kernelRun0_A.sl.r_6 (F := Ideal) c arg1 harg1 arg4 harg4 arg5 harg5 arg6 x0 x3 x4 = (up2 fun _ e => 0 + ∑ x : Fin 128, dh Z W (T + (0 + x.val)) e * hat (X (T + (0 + x.val))) e : FVec Ideal S1x2048 .f32) := by
    unfold kernelRun0_A.sl.r_6
    rw [m0]
    rw [c86]
    exact pay20_of X Z W T _ (l0 0 _)
  have m7 : kernelRun0_A.sl.r_7 (F := Ideal) c arg1 harg1 x0 = rB T 128 X := by unfold kernelRun0_A.sl.r_7; exact l0 128 _
  have m8 : kernelRun0_A.sl.r_8 (F := Ideal) c arg1 harg1 x0 = k0_pay21 (rB T 128 X) := by unfold kernelRun0_A.sl.r_8; exact congrArg k0_pay21 (l0 128 _)
  have z6 : kernelRun0_A.sl.v144 (F := Ideal) c arg7 = (up2 fun _ _ => 0 : FVec Ideal S1x2048 .f32) := by
    unfold kernelRun0_A.sl.v144 kernelRun0_A.sl.H6_1
    rw [View.readCov_full]
    exact pay6
  unfold out0_A_5 out0_A_6
  rw [View.read_writes_of_cover VO0_5 VO0_5.junk arg6.view arg6.view.junk _ (cover0_A_5 (F := Ideal) c i arg1 harg1 arg2 harg2 arg3 harg3 arg4 harg4 arg5 harg5 arg6 harg6 arg7 harg7 hc0 x0 x1 x2 x3 x4)]
  unfold kernelRun0_A
  dsimp only
  refine ⟨?_, (View.read_writes_full _ _ _ _ _).trans ?_⟩
  · rw [m7, m8, m1, c105]
    refine (rows_write (r := 128) arg6.view arg6.view.junk _ _ b6 128 (fun x e => gx X D (dh Z W) G (T + x) e) _ _ ?_).trans (ext2 fun x y => ?_)
    · exact pay4_of X D Z W G T _ _ l1 (l2 128 _)
    · have hx := x.isLt
      rw [up2_ix, up2_ix]
      split_ifs <;> first | rfl | omega
  · rw [m6, m7, m8, m1, c105, z6]
    exact pay5 X T 128 (dh Z W) _ _

variable (xo6 : FVec Ideal S1x2048 .f32) (A : ℕ → ℝ) (h6 : xo6 = (up2 fun _ e => A e : FVec Ideal S1x2048 .f32))

include h0 h1 h2 h3 h4 h6 in
/-- A later grid point adds to it. -/
theorem body_B (hc0) : out0_B_5 (F := Ideal) c i arg1 harg1 arg2 harg2 arg3 harg3 arg4 harg4 arg5 harg5 arg6 harg6 arg7 harg7 hc0 x0 x1 x2 x3 x4 xo6 = (up2 fun x e => gx X D (dh Z W) G (T + x) e : FVec Ideal S256x2048 .f32)
    ∧ out0_B_6 (F := Ideal) c i arg1 harg1 arg2 harg2 arg3 harg3 arg4 harg4 arg5 harg5 arg6 harg6 arg7 harg7 hc0 x0 x1 x2 x3 x4 xo6 = (up2 fun _ e => A e + (0 + ∑ x : Fin 128, dh Z W (T + (0 + x.val)) e * hat (X (T + (0 + x.val))) e + ∑ x : Fin 128, dh Z W (T + (128 + x.val)) e * hat (X (T + (128 + x.val))) e) : FVec Ideal S1x2048 .f32) := by
  have l0 := fun o inb => rows_load (r := 128) arg1.view (harg1.unread x0) (fun x e => X (T + x) e) (by rw [harg1.read_unread, h0]) o inb
  have l1 : arg2.view.readAt (Elt Ideal) (Rect.unit (s := S1x2048) ![0, 0] S1x2048.size inb_S1x2048_S1x2048_0_0).toLoadRect (harg2.unread x1) = gB G := by rw [View.readAt_full, harg2.read_unread, h1]
  have l2 := fun o inb => rows_load (r := 128) arg3.view (harg3.unread x2) (fun x e => D (T + x) e) (by rw [harg3.read_unread, h2]) o inb
  have l3 := fun q inb => cols_load_bf16 (k := 1152) (fun x f => Z (T + x) f) arg4.view (harg4.unread x3) (by rw [harg4.read_unread, h3]) q inb
  have l4 := fun j q inb => weight_load W arg5.view (harg5.unread x4) (by rw [harg5.read_unread, h4]) j q inb
  have c105 : kernelRun0_B.sl.cst_105 (F := Ideal) = Ideal.ofBits .f32 0x45000000#32 := rfl
  have c86 : kernelRun0_B.sl.cst_86 (F := Ideal) = Ideal.ofBits .f32 0x00000000#32 := rfl
  have n0 : kernelRun0_B.sl.r (F := Ideal) c arg4 harg4 x3 = zB Z T 0 := by unfold kernelRun0_B.sl.r; rw [pay7]; exact l3 0 _
  have n1 : kernelRun0_B.sl.r_1 (F := Ideal) c arg4 harg4 x3 = zB Z T 1 := by unfold kernelRun0_B.sl.r_1; rw [pay8]; exact l3 1152 _
  have n2 : kernelRun0_B.sl.r_2 (F := Ideal) c arg4 harg4 x3 = zB Z T 2 := by unfold kernelRun0_B.sl.r_2; rw [pay9]; exact l3 2304 _
  have n3 : kernelRun0_B.sl.r_3 (F := Ideal) c arg4 harg4 x3 = zB Z T 3 := by unfold kernelRun0_B.sl.r_3; rw [pay10]; exact l3 3456 _
  have p0 : kernelRun0_B.sl.r_4 (F := Ideal) c arg4 harg4 arg5 harg5 x3 x4 = (up2 fun x e => dh Z W (T + x) (0 + e) : FVec Ideal S256x512 .f32) := by
    unfold kernelRun0_B.sl.r_4
    rw [l4 0, l4 1, l4 2, l4 3]
    exact pay11_of Z W T _ _ _ _ (l3 0 _) (l3 1152 _) (l3 2304 _) (l3 3456 _)
  have b5 : arg6.view.read (Elt Ideal) (arg6.view.writes (Elt Ideal) arg6.view.junk (kernelRun0_B.sl.H5_4 (F := Ideal) c arg4 harg4 arg5 harg5 x3 x4)) = (up2 fun x e => dh Z W (T + x) e : FVec Ideal S256x2048 .f32) := by
    unfold kernelRun0_B.sl.H5_4 kernelRun0_B.sl.r_5
    rw [n0, n1, n2, n3, p0]
    simp only [l4]
    have s0 := cols_write (k := 512) arg6.view arg6.view.junk (fun x e => dh Z W (T + x) e) [] 0 512 rfl (fun y hy => absurd hy (Nat.not_lt_zero _)) inb_S256x2048_S256x512_0_0 _ rfl
    have s1 := cols_write (k := 512) arg6.view _ _ _ 512 1024 rfl s0 inb_S256x2048_S256x512_0_512 _ (pay12 Z W T)
    have s2 := cols_write (k := 512) arg6.view _ _ _ 1024 1536 rfl s1 inb_S256x2048_S256x512_0_1024 _ (pay14 Z W T)
    have s3 := cols_write (k := 512) arg6.view _ _ _ 1536 2048 rfl s2 inb_S256x2048_S256x512_0_1536 _ (pay15 Z W T)
    exact funext fun y => s3 y (y 1).isLt
  have m0 : kernelRun0_B.sl.v87 (F := Ideal) c arg4 harg4 arg5 harg5 arg6 x3 x4 = rB T 0 (dh Z W) := by
    unfold kernelRun0_B.sl.v87 View.readCov
    exact rows_load arg6.view _ _ b5 0 _
  have b6 : arg6.view.read (Elt Ideal) (arg6.view.writes (Elt Ideal) arg6.view.junk (kernelRun0_B.sl.H5_5 (F := Ideal) c arg1 harg1 arg2 harg2 arg3 harg3 arg4 harg4 arg5 harg5 arg6 x0 x1 x2 x3 x4)) = (up2 fun x e => if 0 ≤ x ∧ x < 0 + 128 then gx X D (dh Z W) G (T + x) e else dh Z W (T + x) e : FVec Ideal S256x2048 .f32) := by
    unfold kernelRun0_B.sl.H5_5
    rw [m0, l1]
    refine rows_write (r := 128) arg6.view arg6.view.junk (fun x e => dh Z W (T + x) e) _ b5 0 (fun x e => gx X D (dh Z W) G (T + x) e) _ _ ?_
    exact pay19_of X D Z W G T _ _ (l0 0 _) (l2 0 _)
  have m1 : kernelRun0_B.sl.v121 (F := Ideal) c arg1 harg1 arg2 harg2 arg3 harg3 arg4 harg4 arg5 harg5 arg6 x0 x1 x2 x3 x4 = rB T 128 (dh Z W) := by
    unfold kernelRun0_B.sl.v121 View.readCov
    refine (rows_load arg6.view _ _ b6 128 _).trans (ext2 fun x y => ?_)
    refine (up2_ix _ x y).trans (Eq.trans ?_ (up2_ix _ x y).symm)
    rw [if_neg (by omega)]
  have m6 : kernelRun0_B.sl.r_6 (F := Ideal) c arg1 harg1 arg4 harg4 arg5 harg5 arg6 x0 x3 x4 = (up2 fun _ e => 0 + ∑ x : Fin 128, dh Z W (T + (0 + x.val)) e * hat (X (T + (0 + x.val))) e : FVec Ideal S1x2048 .f32) := by
    unfold kernelRun0_B.sl.r_6
    rw [m0]
    rw [c86]
    exact pay20_of X Z W T _ (l0 0 _)
  have m7 : kernelRun0_B.sl.r_7 (F := Ideal) c arg1 harg1 x0 = rB T 128 X := by unfold kernelRun0_B.sl.r_7; exact l0 128 _
  have m8 : kernelRun0_B.sl.r_8 (F := Ideal) c arg1 harg1 x0 = k0_pay21 (rB T 128 X) := by unfold kernelRun0_B.sl.r_8; exact congrArg k0_pay21 (l0 128 _)
  have z6 : arg7.view.readAt (Elt Ideal) (Rect.unit (s := S1x2048) ![0, 0] S1x2048.size inb_S1x2048_S1x2048_0_0).toLoadRect (harg7.unread xo6) = (up2 fun _ e => A e : FVec Ideal S1x2048 .f32) := by rw [View.readAt_full, harg7.read_unread, h6]
  unfold out0_B_5 out0_B_6
  rw [View.read_writes_of_cover VO0_5 VO0_5.junk arg6.view arg6.view.junk _ (cover0_B_5 (F := Ideal) c i arg1 harg1 arg2 harg2 arg3 harg3 arg4 harg4 arg5 harg5 arg6 harg6 arg7 harg7 hc0 x0 x1 x2 x3 x4 xo6)]
  unfold kernelRun0_B
  dsimp only
  refine ⟨?_, (View.read_writes_full _ _ _ _ _).trans ?_⟩
  · rw [m7, m8, m1, c105]
    refine (rows_write (r := 128) arg6.view arg6.view.junk _ _ b6 128 (fun x e => gx X D (dh Z W) G (T + x) e) _ _ ?_).trans (ext2 fun x y => ?_)
    · exact pay4_of X D Z W G T _ _ l1 (l2 128 _)
    · have hx := x.isLt
      rw [up2_ix, up2_ix]
      split_ifs <;> first | rfl | omega
  · rw [m6, m7, m8, m1, c105, z6]
    exact pay5 X T 128 (dh Z W) _ _

end Cert.MixKernelIdeal.RefValue
end
-- ==== Proof.MixBwdValue.lean ====
/- The norm's gradient after the mixer over the whole grid: the arrays it leaves, for real arguments. -/
module

public import proofs.«01_k».proof.Proof.MixBody
public import proofs.«01_k».proof.Proof.Gen.MixKernelIdeal.Value

@[expose] public section

set_option maxRecDepth 16384

noncomputable section

namespace Cert.MixKernelIdeal.RefValue

open Cert.MixKernelIdeal Cert.MixKernelIdeal.Gen Idealize.ShloMosaic Idealize.ShloMosaic.TcCoe Idealize.SL.Sem
open Idealize.ShloMosaic.Pipeline (Dat)
open Cert.Reals Cert.Attn Cert.Norm

theorem idx0 : ∀ t : Fin cfg0.N, win0_0.index t = ![t.val, 0] ∧ win0_1.index t = ![0, 0] ∧ win0_2.index t = ![t.val, 0]
    ∧ win0_3.index t = ![t.val, 0] ∧ win0_4.index t = ![0, 0, 0, 0] ∧ win0_5.index t = ![t.val, 0] ∧ win0_6.index t = ![0, 0] :=
  (by decide +kernel : ∀ t : Fin grid0.N, _)

variable (m : (ℓ : Loc nD τ sig) → Buf (Elt Ideal) ℓ) (c : Dev nD) (X D Z : ℕ → ℕ → ℝ) (W : ℕ → ℕ → ℕ → ℝ) (G : ℕ → ℝ)
  (hx : m ((c : Thread nD τ).loc main_arg0) = (up2 X : FVec Ideal S8192x2048 .f32)) (hg : m ((c : Thread nD τ).loc main_arg1) = fun i : S2048.Idx => (G (i 0).val : EReal))
  (hz : m ((c : Thread nD τ).loc main_arg2) = (up2 Z : FVec Ideal S8192x4608 .f32)) (hw : m ((c : Thread nD τ).loc main_arg3) = (up3 W : FVec Ideal S2x2048x4608 .f32))
  (hd : m ((c : Thread nD τ).loc main_arg4) = (up2 D : FVec Ideal S8192x2048 .f32))

theorem at1 (f : ℕ → ℝ) {a a' : ℕ} (ha : a = a') : (f a : EReal) = (f a' : EReal) := by rw [ha]
theorem at2 (f : ℕ → ℕ → ℝ) {a b a' b' : ℕ} (ha : a = a') (hb : b = b') : (f a b : EReal) = (f a' b' : EReal) := by rw [ha, hb]
theorem at3 (f : ℕ → ℕ → ℕ → ℝ) {a b d a' b' d' : ℕ} (ha : a = a') (hb : b = b') (hd : d = d') : (f a b d : EReal) = (f a' b' d' : EReal) := by rw [ha, hb, hd]

include hx in
theorem V_x : V m c main_arg0 = (up2 X : FVec Ideal S8192x2048 .f32) := by unfold V hostOps0; after_results_simp; exact hx
include hd in
theorem V_d : V m c main_arg4 = (up2 D : FVec Ideal S8192x2048 .f32) := by unfold V hostOps0; after_results_simp; exact hd
include hg in
theorem V_g : V m c main_v0 = (up2 fun _ e => G e : FVec Ideal S1x2048 .f32) := by
  unfold V hostOps0
  after_results_simp
  rw [hg]
  refine ext2 fun x y => ?_
  pointwise []
  rw [up2_ix]
include hz in
theorem V_z : V m c main_v1 = (up2 Z : FVec Ideal S8192x4608 .bf16) := by
  unfold V hostOps0
  after_results_simp
  rw [hz]
  refine ext2 fun x y => ?_
  pointwise []
include hw in
/-- The packed weight: its columns go by the four chips. -/
theorem V_w : V m c main_v4 = fun i : S4x2x2048x1152.Idx => (W (i 1).val (i 2).val (1152 * (i 0).val + (i 3).val) : EReal) := by
  unfold V hostOps0
  after_results_simp
  rw [hw]
  funext i
  pointwise []
  exact at3 W rfl rfl (congrArg (· + (i 3).val) (Nat.mul_comm (i 0).val 1152))

include hx in
theorem blk0 (t : Fin cfg0.N) : iblk m c 0 t = (up2 fun x e => X (256 * t.val + x) e : FVec Ideal S256x2048 .f32) := by
  refine ext2 fun x y => ?_
  blk_simp [iblk, idx0 t]
  rw [V_x m c X hx, up2_at, up2_ix]
  refine at2 X ?_ ?_ <;> (blk_simp [idx0 t]; try omega)
include hg in
theorem blk1 (t : Fin cfg0.N) : iblk m c 1 t = gB G := by
  refine ext2 fun x y => ?_
  blk_simp [iblk, idx0 t]
  rw [V_g m c G hg, up2_at]
  refine Eq.trans ?_ (up2_ix _ x y).symm
  refine at1 G ?_ <;> (blk_simp [idx0 t]; try omega)
include hd in
theorem blk2 (t : Fin cfg0.N) : iblk m c 2 t = (up2 fun x e => D (256 * t.val + x) e : FVec Ideal S256x2048 .f32) := by
  refine ext2 fun x y => ?_
  blk_simp [iblk, idx0 t]
  rw [V_d m c D hd, up2_at, up2_ix]
  refine at2 D ?_ ?_ <;> (blk_simp [idx0 t]; try omega)
include hz in
theorem blk3 (t : Fin cfg0.N) : iblk m c 3 t = (up2 fun x f => Z (256 * t.val + x) f : FVec Ideal S256x4608 .bf16) := by
  refine ext2 fun x y => ?_
  blk_simp [iblk, idx0 t]
  rw [V_z m c Z hz, up2_at, up2_ix]
  refine at2 Z ?_ ?_ <;> (blk_simp [idx0 t]; try omega)
include hw in
theorem blk4 (t : Fin cfg0.N) : iblk m c 4 t = fun i : S4x1x2048x1152.Idx => (W 0 (i 2).val (1152 * (i 0).val + (i 3).val) : EReal) := by
  funext i
  have h1 := Nat.lt_one_iff.1 (i 1).isLt
  blk_simp [iblk, idx0 t]
  rw [V_w m c W hw]
  refine at3 W ?_ ?_ ?_ <;> (blk_simp [idx0 t]; try omega)

/-- What the outputs hold after grid point `n`. -/
def After (n : ℕ) (o : FVec Ideal S256x2048 .f32 × FVec Ideal S1x2048 .f32) : Prop :=
  o.1 = (up2 fun x e => gx X D (dh Z (W 0)) G (256 * n + x) e) ∧ o.2 = (up2 fun _ e => gg X (dh Z (W 0)) (256 * (n + 1)) e)

theorem After.of {n : ℕ} {o5 : FVec Ideal S256x2048 .f32} {o6 : FVec Ideal S1x2048 .f32} (h5 : o5 = (up2 fun x e => gx X D (dh Z (W 0)) G (256 * n + x) e))
    (h6 : o6 = (up2 fun _ e => gg X (dh Z (W 0)) (256 * (n + 1)) e)) : After X D Z W G n (o5, o6) := ⟨h5, h6⟩

include hx hg hz hw hd in
theorem step_A (t : Fin cfg0.N) (h0 : t.val % 32 = 0) : After X D Z W G t.val (outsAt0 m c t.val t.isLt) := by
  have ht : t.val < 32 := Nat.lt_of_lt_of_eq t.isLt N_0
  obtain ⟨b5, b6⟩ := body_A X D Z (W 0) G (256 * t.val) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) _ _ _ _ _
    (blk0 m c X hx t) (blk1 m c G hg t) (blk2 m c D hd t) (blk3 m c Z hz t) (blk4 m c W hw t) ((hcond0_0 t).mpr h0)
  rw [outsAt0_A m c t h0]
  refine After.of X D Z W G b5 (b6.trans (congrArg up2 ?_))
  funext _ e
  have h := gg_step X (dh Z (W 0)) (256 * t.val) (256 * (t.val + 1)) e (Nat.mul_succ _ _)
  rw [show gg X (dh Z (W 0)) (256 * t.val) e = 0 by rw [show t.val = 0 by omega]; rfl] at h
  simp only [zero_add] at h ⊢
  exact h

include hx hg hz hw hd in
theorem step_B (t : Fin cfg0.N) (h0 : ¬t.val % 32 = 0) (ih : After X D Z W G (t.val - 1) (outsAt0 m c (t.val - 1) (Nat.lt_of_le_of_lt (Nat.sub_le _ _) t.isLt))) :
    After X D Z W G t.val (outsAt0 m c t.val t.isLt) := by
  have ht : t.val < 32 := Nat.lt_of_lt_of_eq t.isLt N_0
  obtain ⟨-, i6⟩ := ih
  rw [show t.val - 1 + 1 = t.val by omega] at i6
  obtain ⟨b5, b6⟩ := body_B X D Z (W 0) G (256 * t.val) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) _ _ _ _ _
    (blk0 m c X hx t) (blk1 m c G hg t) (blk2 m c D hd t) (blk3 m c Z hz t) (blk4 m c W hw t) _ (fun e => gg X (dh Z (W 0)) (256 * t.val) e) i6 (fun h => h0 ((hcond0_0 t).mp h))
  rw [outsAt0_B m c t h0]
  refine After.of X D Z W G b5 (b6.trans (congrArg up2 ?_))
  funext _ e
  have h := gg_step X (dh Z (W 0)) (256 * t.val) (256 * (t.val + 1)) e (Nat.mul_succ _ _)
  simp only [zero_add] at h ⊢
  exact h

include hx hg hz hw hd in
theorem outs (n : ℕ) : ∀ hn : n < cfg0.N, After X D Z W G n (outsAt0 m c n hn) := by
  induction n with
  | zero => exact fun hn => step_A m c X D Z W G hx hg hz hw hd ⟨0, hn⟩ rfl
  | succ n ih =>
    intro hn
    have hn' : n + 1 < 32 := Nat.lt_of_lt_of_eq hn N_0
    exact step_B m c X D Z W G hx hg hz hw hd ⟨n + 1, hn⟩ (show ¬(n + 1) % 32 = 0 by omega) (ih (by omega))

include hx hg hz hw hd in
/-- The input's gradient. -/
theorem final_dx : (dats m 0 c).arrAt 5 cfg0.N = (up2 fun t e => gx X D (dh Z (W 0)) G t e : FVec Ideal S8192x2048 .f32) := by
  refine (dats m 0 c).arrAt_eq_of_covers 5 _ (by decide +kernel) fun t hf y => ?_
  blk_simp
  rw [after0_5, (outs m c X D Z W G hx hg hz hw hd t.val t.isLt).1, up2_at, up2_at]
  refine at2 (fun t e => gx X D (dh Z (W 0)) G t e) ?_ ?_ <;> (blk_simp [idx0 t]; try omega)

include hx hg hz hw hd in
/-- The scale's gradient. -/
theorem final_dg : (dats m 0 c).arrAt 6 cfg0.N = (up2 fun _ e => gg X (dh Z (W 0)) 8192 e : FVec Ideal S1x2048 .f32) := by
  refine (dats m 0 c).arrAt_eq_of_covers 6 _ (by decide +kernel) fun t hf y => ?_
  have ht : t.val < 32 := Nat.lt_of_lt_of_eq t.isLt N_0
  have hl := (flush0_6 t).mp hf
  blk_simp
  rw [after0_6, (outs m c X D Z W G hx hg hz hw hd t.val t.isLt).2, show 256 * (t.val + 1) = 8192 by omega, up2_at, up2_at]
  refine at1 (gg X (dh Z (W 0)) 8192) ?_ <;> (blk_simp [idx0 t]; try omega)

end Cert.MixKernelIdeal.RefValue
end
-- ==== Proof.MixReferenceValue.lean ====
/- The norm's gradient after the mixer as the reference computes it, over real arguments. -/
module

public import proofs.«01_k».proof.Proof.Gen.MixReferenceIdeal.Read
public import proofs.«01_k».proof.Proof.NormBlock

@[expose] public section

set_option maxRecDepth 16384

noncomputable section

namespace Cert.MixReferenceIdeal.RefValue

open Cert.MixReferenceIdeal Cert.MixReferenceIdeal.Gen Idealize.ShloMosaic Idealize.ShloMosaic.TcCoe Idealize.SL.Sem
open Cert.MixReferenceIdeal.Read Cert.Reals Cert.Attn Cert.Norm

variable (X D Z : ℕ → ℕ → ℝ) (W : ℕ → ℕ → ℕ → ℝ) (G : ℕ → ℝ)

/-- The gradient of the norm's output. -/
def dh (Z : ℕ → ℕ → ℝ) (W : ℕ → ℕ → ℕ → ℝ) (t e : ℕ) : ℝ := ∑ f : Fin 4608, Z t f * W 0 e f

/-- A list of reals as an array. -/
abbrev vec {n : ℕ} (G : ℕ → ℝ) : (⟨1, ![n]⟩ : Shape).Idx → EReal := fun i => (G (i 0).val : EReal)
theorem up1_ix {n : ℕ} (G : ℕ → ℝ) (y : Fin n) : vec G (ix1 y) = (G y.val : EReal) := rfl
theorem ext1 {n : ℕ} {f g : (⟨1, ![n]⟩ : Shape).Idx → EReal} (h : ∀ y : Fin n, f (ix1 y) = g (ix1 y)) : f = g := by
  funext i
  obtain ⟨y, rfl⟩ : ∃ y : Fin n, i = ix1 y := ⟨i 0, by funext j; refine Fin.cases rfl (fun j => j.elim0) j⟩
  exact h y

theorem v6 : val_main_v6 (F := Ideal) (up2 X) = (up2 (fun t _ => var (X t)) : FVec Ideal S8192x1 .f32) := by
  refine ext2 fun x y => ?_
  pointwise [val_main_v6, val_main_v4, val_main_v2, val_main_v1, val_main_v0, val_main_cst, val_main_v3, val_main_cst_0, val_main_v5, val_main_cst_1]
  simp only [up2_ix, ← EReal.coe_mul, sum_coe, width_f32, eps_f32, zero_add, var_coe]

theorem v7 : val_main_v7 (F := Ideal) (up2 X) = (up2 (fun t _ => rs (X t)) : FVec Ideal S8192x1 .f32) := by
  refine ext2 fun x y => ?_
  pointwise [val_main_v7]
  simp only [v6, up2_ix]
  exact rs_coe _

theorem v10 : val_main_v10 (F := Ideal) (up2 X) = (up2 (fun t _ => -(1 / 2) * (rs (X t) / var (X t))) : FVec Ideal S8192x1 .f32) := by
  refine ext2 fun x y => ?_
  pointwise [val_main_v10, val_main_v9, val_main_cst_2, val_main_v8]
  simp only [v6, v7, up2_ix, neghalf_f32]
  rw [div_real _ _ (var_pos _).ne', ← EReal.coe_mul]

theorem v12 : val_main_v12 (F := Ideal) (up2 X) = (up2 (fun t e => hat (X t) e) : FVec Ideal S8192x2048 .f32) := by
  refine ext2 fun x y => ?_
  pointwise [val_main_v12, val_main_v11]
  simp only [v7, up2_ix, ← EReal.coe_mul]
  rfl

theorem v19 : val_main_v19 (F := Ideal) (up2 Z) (up3 W) = (up2 (dh Z W) : FVec Ideal S8192x2048 .f32) := by
  refine ext2 fun x y => ?_
  pointwise [val_main_v19, val_main_v17, val_main_v16]
  simp only [up2_ix, up3_ix, ← EReal.coe_mul, sum_coe]
  rfl

theorem v21 : val_main_v21 (F := Ideal) (up2 X) (up2 Z) (up3 W) = (vec (gg X (dh Z W) 8192) : FVec Ideal S2048 .f32) := by
  refine ext1 fun x => ?_
  pointwise [val_main_v21, val_main_v20, val_main_cst_3]
  simp only [v12, v19, up2_ix, up1_ix, ← EReal.coe_mul, sum_coe, zero_add]
  refine congrArg _ ?_
  unfold gg
  rw [Finset.sum_range]
  exact Finset.sum_congr rfl fun _ _ => mul_comm _ _

theorem v41 : val_main_v41 (F := Ideal) (up2 X) (up2 Z) (up3 W) = (up2 (fun _ e => gg X (dh Z W) 8192 e) : FVec Ideal S1x2048 .f32) := by
  refine ext2 fun x y => ?_
  pointwise [val_main_v41, val_main_v25, val_main_v22, val_main_cst_4]
  simp only [v21, up2_ix, up1_ix, zero_add]
  simp only [Fin.sum_univ_one, up1_ix]

theorem v24 : val_main_v24 (F := Ideal) (vec G) (up2 Z) (up3 W) = (up2 (fun t e => dh Z W t e * G e) : FVec Ideal S8192x2048 .f32) := by
  refine ext2 fun x y => ?_
  pointwise [val_main_v24, val_main_v23, val_main_v13]
  simp only [v19, up2_ix, up1_ix, ← EReal.coe_mul]

theorem v34 : val_main_v34 (F := Ideal) (up2 X) (vec G) (up2 Z) (up3 W) = (up2 (fun t _ => (∑ e : Fin 2048, X t e * (dh Z W t e * G e)) * (-(1 / 2) * (rs (X t) / var (X t))) / 2048) : FVec Ideal S8192x1 .f32) := by
  refine ext2 fun x y => ?_
  pointwise [val_main_v34, val_main_v32, val_main_v28, val_main_v27, val_main_v26, val_main_cst_5, val_main_v33, val_main_cst_6]
  simp only [v10, v24, up2_ix, ← EReal.coe_mul, sum_coe, zero_add, width_f32]
  exact div_real _ _ (by norm_num)

theorem v40 : val_main_v40 (F := Ideal) (up2 X) (vec G) (up2 Z) (up3 W) (up2 D) = (up2 (fun t e => gx X D (dh Z W) G t e) : FVec Ideal S8192x2048 .f32) := by
  refine ext2 fun x y => ?_
  pointwise [val_main_v40, val_main_v38, val_main_v31, val_main_v30, val_main_v29, val_main_v37, val_main_v36, val_main_v35, val_main_cst_7, val_main_v39]
  simp only [v7, v24, v34, up2_ix, ← EReal.coe_mul, ← EReal.coe_add, sum_coe, Fin.sum_univ_one, zero_add]
  refine congrArg _ ?_
  unfold gx
  rw [← back_eq (X x) (fun e => dh Z W x e * G e) y _ rfl]
  ring

end Cert.MixReferenceIdeal.RefValue
end
-- ==== Proof.MixClaim.lean ====
/- The claim about the norm after the mixer: kernel and reference leave the same arrays. -/
module

public import proofs.«01_k».proof.Defs
public import proofs.«01_k».proof.Proof.Gen.Pre_mix_finite
public import proofs.«01_k».proof.Proof.MixBwdValue
public import proofs.«01_k».proof.Proof.MixReferenceValue
public import proofs.«01_k».proof.Proof.PoolClaim

@[expose] public section

set_option maxRecDepth 16384

noncomputable section

namespace Cert.MixClaim

open Idealize.ShloMosaic Idealize.ShloMosaic.TcCoe Idealize.SL.Sem
open Cert.Reals Cert.Attn Cert.PoolClaim

/-- The reference ends with its arguments unchanged; it declares no semaphore. -/
theorem frame_reference : Cert.quiescent_MixReferenceIdeal := fun m g _ =>
  (θ_run Cert.MixReferenceIdeal.defs _ _).mono
    (fun _ h => ⟨fun c => (h c).2.2, sem_eq_zero_of_no_sems rfl _⟩) (Cert.MixReferenceIdeal.Value.run m g)

open Cert.MixKernelIdeal in
/-- A finite precondition makes every argument a table of reals. -/
theorem reals_of_pre {m : (ℓ : Loc nD τ sig) → Buf (Elt Ideal) ℓ} (h : Cert.Pre_MixKernelIdeal_mix_finite m) (c : Dev nD) :
    ∃ (X D Z : ℕ → ℕ → ℝ) (W : ℕ → ℕ → ℕ → ℝ) (G : ℕ → ℝ),
      m ((c : Thread nD τ).loc main_arg0) = (up2 X : FVec Ideal S8192x2048 .f32) ∧ (m ((c : Thread nD τ).loc main_arg1) = fun i : S2048.Idx => (G (i 0).val : EReal))
      ∧ m ((c : Thread nD τ).loc main_arg2) = (up2 Z : FVec Ideal S8192x4608 .f32) ∧ m ((c : Thread nD τ).loc main_arg3) = (up3 W : FVec Ideal S2x2048x4608 .f32)
      ∧ m ((c : Thread nD τ).loc main_arg4) = (up2 D : FVec Ideal S8192x2048 .f32) := by
  obtain ⟨h0, h1, h2, h3, h4⟩ := h c
  obtain ⟨x, hx⟩ := reals_of_finite _ _ (fun _ => rfl) h0
  obtain ⟨g, hg⟩ := reals_of_finite _ _ (fun _ => rfl) h1
  obtain ⟨z, hz⟩ := reals_of_finite _ _ (fun _ => rfl) h2
  obtain ⟨w, hw⟩ := reals_of_finite _ _ (fun _ => rfl) h3
  obtain ⟨d, hd⟩ := reals_of_finite _ _ (fun _ => rfl) h4
  obtain ⟨X, hX⟩ := exists_up2 x
  obtain ⟨G, hG⟩ := exists_up1 g
  obtain ⟨Z, hZ⟩ := exists_up2 z
  obtain ⟨W, hW⟩ := exists_up3 w
  obtain ⟨D, hD⟩ := exists_up2 d
  exact ⟨X, D, Z, W, G, hx.trans hX, hg.trans hG, hz.trans hZ, hw.trans hW, hd.trans hD⟩

/-- The sum over the columns, chip by chip, is the sum over all of them. -/
theorem dh_eq (Z : ℕ → ℕ → ℝ) (W : ℕ → ℕ → ℕ → ℝ) : Cert.MixKernelIdeal.RefValue.dh Z (W 0) = Cert.MixReferenceIdeal.RefValue.dh Z W := by
  funext t e
  unfold Cert.MixKernelIdeal.RefValue.dh Cert.MixReferenceIdeal.RefValue.dh
  rw [Cert.Norm.pr_eq, Finset.sum_range]

theorem algebraic : Cert.algebraic_MixKernelIdeal_MixReferenceIdeal_pre_mix_finite := by
  pair_intro
  · run_from Cert.MixKernelIdeal.Value.run_blocks m g
  · run_from Cert.MixReferenceIdeal.Value.run m' g'
    all_goals
      obtain ⟨X, D, Z, W, G, hx, hg, hz, hw, hd⟩ := reals_of_pre hpre c
      have e0 : StableHlo.launchContents m' c (Proc.devRef .tc Cert.MixReferenceIdeal.main_arg0) = _ := (hagree c).1.trans hx
      have e1 : StableHlo.launchContents m' c (Proc.devRef .tc Cert.MixReferenceIdeal.main_arg1) = _ := (hagree c).2.1.trans hg
      have e2 : StableHlo.launchContents m' c (Proc.devRef .tc Cert.MixReferenceIdeal.main_arg2) = _ := (hagree c).2.2.1.trans hz
      have e3 : StableHlo.launchContents m' c (Proc.devRef .tc Cert.MixReferenceIdeal.main_arg3) = _ := (hagree c).2.2.2.1.trans hw
      have e4 : StableHlo.launchContents m' c (Proc.devRef .tc Cert.MixReferenceIdeal.main_arg4) = _ := (hagree c).2.2.2.2.trans hd
    · rw [Cert.MixKernelIdeal.RefValue.final_dx m c X D Z W G hx hg hz hw hd, dh_eq, Cert.MixReferenceIdeal.Read.val_main_v40_eq, (hagree c).1, hx, (hagree c).2.1, hg, (hagree c).2.2.1, hz, (hagree c).2.2.2.1, hw, (hagree c).2.2.2.2, hd]
      exact Cert.MixReferenceIdeal.RefValue.v40 X D Z W G
    · rw [Cert.MixKernelIdeal.RefValue.final_dg m c X D Z W G hx hg hz hw hd, dh_eq, Cert.MixReferenceIdeal.Read.val_main_v41_eq, hx, hz, hw]
      exact Cert.MixReferenceIdeal.RefValue.v41 X Z W

end Cert.MixClaim
end
-- ==== Proof.NormFirst.lean ====
/- What the first product before the norm's gradient leaves on a block of 512 rows. -/
module

public import proofs.«01_k».proof.Proof.NormBlock
public import proofs.«01_k».proof.Proof.Gen.NormKernelIdeal.Frame

@[expose] public section

set_option maxRecDepth 16384

noncomputable section

namespace Cert.NormKernelIdeal.First

open Cert.NormKernelIdeal Cert.NormKernelIdeal.Gen Idealize.ShloMosaic Idealize.ShloMosaic.TcCoe Idealize.SL.Sem
open Cert.Reals Cert.Attn Cert.Norm

variable (Z W : ℕ → ℕ → ℝ) (T : ℕ)

abbrev zB (j : ℕ) : FVec Ideal S1x512x1408 .bf16 := fun i => (Z (T + (i 1).val) (1408 * j + (i 2).val) : EReal)
abbrev zC (j : ℕ) : FVec Ideal S512x1408 .bf16 := up2 fun x f => Z (T + x) (1408 * j + f)
abbrev wB (j c : ℕ) : FVec Ideal S1x1x512x1408 .bf16 := fun i => (W (c + (i 2).val) (1408 * j + (i 3).val) : EReal)

theorem z_ix (j : ℕ) (a : Fin 1) (y : Fin 512) (z : Fin 1408) : zB Z T j (ix3 a y z) = (Z (T + y.val) (1408 * j + z.val) : EReal) := rfl
theorem w_ix (j c : ℕ) (a b : Fin 1) (y : Fin 512) (z : Fin 1408) : wB W j c (ix4 a b y z) = (W (c + y.val) (1408 * j + z.val) : EReal) := rfl

theorem pay3 : k0_pay3 (F := Ideal) (zB Z T 0) = zC Z T 0 := by
  refine ext2 fun x y => ?_
  pointwise [k0_pay3]
  simp only [z_ix, up2_ix]
theorem pay4 : k0_pay4 (F := Ideal) (zB Z T 1) = zC Z T 1 := by
  refine ext2 fun x y => ?_
  pointwise [k0_pay4]
  simp only [z_ix, up2_ix]
theorem pay5 : k0_pay5 (F := Ideal) (zB Z T 2) = zC Z T 2 := by
  refine ext2 fun x y => ?_
  pointwise [k0_pay5]
  simp only [z_ix, up2_ix]
theorem pay6 : k0_pay6 (F := Ideal) (zB Z T 3) = zC Z T 3 := by
  refine ext2 fun x y => ?_
  pointwise [k0_pay6]
  simp only [z_ix, up2_ix]
theorem col0 : k0_pay7 (F := Ideal) (zB Z T 0) (zB Z T 1) (zB Z T 2) (zB Z T 3) (wB W 0 0) (wB W 1 0) (wB W 2 0) (wB W 3 0) = (up2 fun x e => pr 1408 (Z (T + x)) (W (0 + e)) : FVec Ideal S512x512 .f32) := by
  refine ext2 fun x y => ?_
  pointwise [k0_pay7]
  simp only [pay3, pay4, pay5, pay6, zero_add, up2_ix, z_ix, w_ix, ← EReal.coe_mul, sum_coe, ← EReal.coe_add]
  rfl
theorem col1 : k0_pay8 (F := Ideal) (zC Z T 0) (zC Z T 1) (zC Z T 2) (zC Z T 3) (wB W 0 512) (wB W 1 512) (wB W 2 512) (wB W 3 512) = (up2 fun x e => pr 1408 (Z (T + x)) (W (512 + e)) : FVec Ideal S512x512 .f32) := by
  refine ext2 fun x y => ?_
  pointwise [k0_pay8]
  simp only [pay3, pay4, pay5, pay6, zero_add, up2_ix, z_ix, w_ix, ← EReal.coe_mul, sum_coe, ← EReal.coe_add]
  rfl
theorem col2 : k0_pay1 (F := Ideal) (zC Z T 2) (zC Z T 3) (k0_pay9 (zC Z T 0) (zC Z T 1) (wB W 0 1024) (wB W 1 1024)) (wB W 2 1024) (wB W 3 1024) = (up2 fun x e => pr 1408 (Z (T + x)) (W (1024 + e)) : FVec Ideal S512x512 .f32) := by
  refine ext2 fun x y => ?_
  pointwise [k0_pay1, k0_pay9]
  simp only [pay3, pay4, pay5, pay6, zero_add, up2_ix, z_ix, w_ix, ← EReal.coe_mul, sum_coe, ← EReal.coe_add]
  rfl
theorem col3 : k0_pay2 (F := Ideal) (zC Z T 0) (zC Z T 1) (zC Z T 2) (zC Z T 3) (wB W 0 1536) (wB W 1 1536) (wB W 2 1536) (wB W 3 1536) = (up2 fun x e => pr 1408 (Z (T + x)) (W (1536 + e)) : FVec Ideal S512x512 .f32) := by
  refine ext2 fun x y => ?_
  pointwise [k0_pay2]
  simp only [pay3, pay4, pay5, pay6, zero_add, up2_ix, z_ix, w_ix, ← EReal.coe_mul, sum_coe, ← EReal.coe_add]
  rfl

variable (x0 : FVec Ideal S4x512x1408 .bf16) (x1 : FVec Ideal S4x1x2048x1408 .bf16)
  (h0 : x0 = fun i : S4x512x1408.Idx => (Z (T + (i 1).val) (1408 * (i 0).val + (i 2).val) : EReal)) (h1 : x1 = fun i : S4x1x2048x1408.Idx => (W (i 2).val (1408 * (i 0).val + (i 3).val) : EReal))

include h0 in
/-- A load of one chip's columns. -/
theorem ld_z (j : ℕ) (inb) : View.ld (Val := Elt Ideal) (e' := .bf16) x0 (Rect.unit (s := S4x512x1408) ![j, 0, 0] S1x512x1408.size inb) = zB Z T j := by
  funext y
  have hy := Nat.lt_one_iff.1 (y 0).isLt
  subst h0
  show (Z (T + (0 + 1 * (y 1).val)) (1408 * (j + 1 * (y 0).val) + (0 + 1 * (y 2).val)) : EReal) = Z (T + (y 1).val) (1408 * j + (y 2).val)
  rw [hy, one_mul, Nat.add_zero, Nat.zero_add, Nat.zero_add, one_mul]
include h1 in
/-- A load of 512 of the weight's rows. -/
theorem ld_w (j q : ℕ) (inb) : View.ld (Val := Elt Ideal) (e' := .bf16) x1 (Rect.unit (s := S4x1x2048x1408) ![j, 0, q, 0] S1x1x512x1408.size inb) = wB W j q := by
  funext y
  have hy := Nat.lt_one_iff.1 (y 0).isLt
  subst h1
  show (W (q + 1 * (y 2).val) (1408 * (j + 1 * (y 0).val) + (0 + 1 * (y 3).val)) : EReal) = W (q + (y 2).val) (1408 * j + (y 3).val)
  rw [hy, one_mul, Nat.add_zero, Nat.zero_add, one_mul]

include h0 h1 in
theorem body {σ : RefSig} {κ : Kind} {sp : Space} (v : View σ κ sp S512x2048 .f32) : out0_2 (F := Ideal) x0 x1 = (up2 fun x e => pr 1408 (Z (T + x)) (W e) : FVec Ideal S512x2048 .f32) := by
  have lz := fun j inb => ld_z Z T x0 h0 j inb
  have lw := fun j q inb => ld_w W x1 h1 j q inb
  unfold out0_2 k0_pay10 k0_pay11 k0_pay12 k0_pay13
  simp only [lz, lw, pay3, pay4, pay5, pay6]
  rw [col0, col1, col2, col3]
  refine (View.read_writes_eq_canon v v.junk _ (cover0_2 _ _ _ _)).symm.trans ?_
  have s0 := cols_write (k := 512) v v.junk (fun x e => pr 1408 (Z (T + x)) (W e)) [] 0 512 rfl (fun y hy => absurd hy (Nat.not_lt_zero _)) inb_S512x2048_S512x512_0_0 _ rfl
  have s1 := cols_write (k := 512) v v.junk (fun x e => pr 1408 (Z (T + x)) (W e)) _ 512 1024 rfl s0 inb_S512x2048_S512x512_0_512 _ rfl
  have s2 := cols_write (k := 512) v v.junk (fun x e => pr 1408 (Z (T + x)) (W e)) _ 1024 1536 rfl s1 inb_S512x2048_S512x512_0_1024 _ rfl
  have s3 := cols_write (k := 512) v v.junk (fun x e => pr 1408 (Z (T + x)) (W e)) _ 1536 2048 rfl s2 inb_S512x2048_S512x512_0_1536 _ rfl
  exact funext fun y => s3 y (y 1).isLt

end Cert.NormKernelIdeal.First
end
-- ==== Proof.NormTile.lean ====
/- What the body of the norm's gradient after the feed-forward computes on a block of 256 rows. -/
module

public import proofs.«01_k».proof.Proof.NormBlock
public import proofs.«01_k».proof.Proof.Gen.NormKernelIdeal.Frame

@[expose] public section

set_option maxRecDepth 16384

noncomputable section

namespace Cert.NormKernelIdeal.RefValue

open Cert.NormKernelIdeal Cert.NormKernelIdeal.Gen Idealize.ShloMosaic Idealize.ShloMosaic.TcCoe Idealize.SL.Sem
open Cert.Reals Cert.Attn Cert.Norm

variable (X D Z W P : ℕ → ℕ → ℝ) (G : ℕ → ℝ) (T o : ℕ)

/-- The cotangent of the norm's output: a product and what the first product left. -/
def dh (t e : ℕ) : ℝ := pr 1408 (Z t) (W e) + P t e

abbrev zB (j : ℕ) : FVec Ideal S1x256x1408 .bf16 := fun i => (Z (T + (i 1).val) (1408 * j + (i 2).val) : EReal)
abbrev zC (j : ℕ) : FVec Ideal S256x1408 .bf16 := up2 fun x f => Z (T + x) (1408 * j + f)
abbrev wB (j c : ℕ) : FVec Ideal S1x1x512x1408 .bf16 := fun i => (W (c + (i 2).val) (1408 * j + (i 3).val) : EReal)
abbrev pB (c : ℕ) : FVec Ideal S256x512 .f32 := up2 fun x e => P (T + x) (c + e)
abbrev gB : FVec Ideal S1x2048 .f32 := up2 fun _ e => G e
abbrev rB (X : ℕ → ℕ → ℝ) : FVec Ideal S128x2048 .f32 := up2 fun x e => X (T + (o + x)) e

theorem z_ix (j : ℕ) (a : Fin 1) (y : Fin 256) (z : Fin 1408) : zB Z T j (ix3 a y z) = (Z (T + y.val) (1408 * j + z.val) : EReal) := rfl
theorem w_ix (j c : ℕ) (a b : Fin 1) (y : Fin 512) (z : Fin 1408) : wB W j c (ix4 a b y z) = (W (c + y.val) (1408 * j + z.val) : EReal) := rfl

theorem pay3 : k1_pay3 (F := Ideal) (zB Z T 0) = zC Z T 0 := by
  refine ext2 fun x y => ?_
  pointwise [k1_pay3]
  simp only [z_ix, up2_ix]
theorem pay4 : k1_pay4 (F := Ideal) (zB Z T 1) = zC Z T 1 := by
  refine ext2 fun x y => ?_
  pointwise [k1_pay4]
  simp only [z_ix, up2_ix]
theorem pay5 : k1_pay5 (F := Ideal) (zB Z T 2) = zC Z T 2 := by
  refine ext2 fun x y => ?_
  pointwise [k1_pay5]
  simp only [z_ix, up2_ix]
theorem pay6 : k1_pay6 (F := Ideal) (zB Z T 3) = zC Z T 3 := by
  refine ext2 fun x y => ?_
  pointwise [k1_pay6]
  simp only [z_ix, up2_ix]
theorem col0 : k1_pay9 (F := Ideal) (zC Z T 3) (k1_pay7 (zB Z T 0) (zB Z T 1) (zB Z T 2) (wB W 0 0) (wB W 1 0) (wB W 2 0)) (k1_pay8 (wB W 3 0)) (constant S256x512 .f32 0x00000000#32) (pB P T 0) = (up2 fun x e => dh Z W P (T + x) (0 + e) : FVec Ideal S256x512 .f32) := by
  refine ext2 fun x y => ?_
  pointwise [k1_pay9, k1_pay7, k1_pay8]
  simp only [pay3, pay4, pay5, pay6, zero_add, up2_ix, z_ix, w_ix, ← EReal.coe_mul, sum_coe, ← EReal.coe_add]
  rfl
theorem col1 : k1_pay10 (F := Ideal) (zC Z T 0) (zC Z T 1) (zC Z T 2) (zC Z T 3) (wB W 0 512) (wB W 1 512) (wB W 2 512) (wB W 3 512) (pB P T 512) = (up2 fun x e => dh Z W P (T + x) (512 + e) : FVec Ideal S256x512 .f32) := by
  refine ext2 fun x y => ?_
  pointwise [k1_pay10]
  simp only [pay3, pay4, pay5, pay6, zero_add, up2_ix, z_ix, w_ix, ← EReal.coe_mul, sum_coe, ← EReal.coe_add]
  rfl
theorem col2 : k1_pay11 (F := Ideal) (zC Z T 0) (zC Z T 1) (zC Z T 2) (zC Z T 3) (wB W 0 1024) (wB W 1 1024) (wB W 2 1024) (wB W 3 1024) (pB P T 1024) = (up2 fun x e => dh Z W P (T + x) (1024 + e) : FVec Ideal S256x512 .f32) := by
  refine ext2 fun x y => ?_
  pointwise [k1_pay11]
  simp only [pay3, pay4, pay5, pay6, zero_add, up2_ix, z_ix, w_ix, ← EReal.coe_mul, sum_coe, ← EReal.coe_add]
  rfl
theorem col3 : k1_pay13 (F := Ideal) (zC Z T 2) (zC Z T 3) (k1_pay12 (zC Z T 0) (zC Z T 1) (wB W 0 1536) (wB W 1 1536)) (wB W 2 1536) (wB W 3 1536) (pB P T 1536) = (up2 fun x e => dh Z W P (T + x) (1536 + e) : FVec Ideal S256x512 .f32) := by
  refine ext2 fun x y => ?_
  pointwise [k1_pay13, k1_pay12]
  simp only [pay3, pay4, pay5, pay6, zero_add, up2_ix, z_ix, w_ix, ← EReal.coe_mul, sum_coe, ← EReal.coe_add]
  rfl

variable (H : ℕ → ℕ → ℝ)

theorem pay15 : k1_pay15 (F := Ideal) (rB T o X) = (up2 fun x _ => rs (X (T + (o + x))) : FVec Ideal S128x1 .f32) := by
  refine ext2 fun x y => ?_
  pointwise [k1_pay15]
  simp only [up2_ix, ← EReal.coe_mul, sum_coe, eps_f32, width_f32, var_coe, rs_coe]
theorem pay23 : k1_pay23 (F := Ideal) (rB T o X) = (up2 fun x _ => rs (X (T + (o + x))) : FVec Ideal S128x1 .f32) := by
  refine ext2 fun x y => ?_
  pointwise [k1_pay23]
  simp only [up2_ix, ← EReal.coe_mul, sum_coe, eps_f32, width_f32, var_coe, rs_coe]
theorem pay16 : k1_pay16 (F := Ideal) (rB T o X) = (up2 fun x e => hat (X (T + (o + x))) e : FVec Ideal S128x2048 .f32) := by
  refine ext2 fun x y => ?_
  pointwise [k1_pay16]
  simp only [pay15, up2_ix, ← EReal.coe_mul]
  rfl
theorem pay24 : k1_pay24 (F := Ideal) (rB T o X) = (up2 fun x e => hat (X (T + (o + x))) e : FVec Ideal S128x2048 .f32) := by
  refine ext2 fun x y => ?_
  pointwise [k1_pay24]
  simp only [pay23, up2_ix, ← EReal.coe_mul]
  rfl
theorem pay17 (v : FVec Ideal S128x2048 .f32) : k1_pay17 v = v := by funext i; pointwise [k1_pay17]
theorem pay25 (v : FVec Ideal S128x2048 .f32) : k1_pay25 v = v := by funext i; pointwise [k1_pay25]
theorem dx0 : k1_pay21 (F := Ideal) (k1_pay15 (rB T o X)) (k1_pay16 (rB T o X)) (k1_pay18 (rB T o H) (gB G)) (rB T o D) (k1_pay19 (rB T o X) (rB T o H) (gB G)) k1_pay20
    = (up2 fun x e => gx X D H G (T + (o + x)) e : FVec Ideal S128x2048 .f32) := by
  refine ext2 fun x y => ?_
  pointwise [k1_pay21, k1_pay18, k1_pay19, k1_pay20]
  simp only [pay15, pay16, pay17, up2_ix, ← EReal.coe_mul, sum_coe, width_f32]
  rw [div_real _ _ (by norm_num), ← EReal.coe_mul, ← EReal.coe_sub, ← EReal.coe_mul, ← EReal.coe_add]
  rfl
theorem dx1 : k1_pay26 (F := Ideal) (rB T o X) (rB T o H) (gB G) (rB T o D) = (up2 fun x e => gx X D H G (T + (o + x)) e : FVec Ideal S128x2048 .f32) := by
  refine ext2 fun x y => ?_
  pointwise [k1_pay26]
  simp only [pay23, pay24, pay25, up2_ix, ← EReal.coe_mul, sum_coe, width_f32]
  rw [div_real _ _ (by norm_num), ← EReal.coe_mul, ← EReal.coe_sub, ← EReal.coe_mul, ← EReal.coe_add]
  rfl
theorem dg0 : k1_pay22 (F := Ideal) k1_pay14 (up2 fun x e => hat (X (T + (o + x))) e : FVec Ideal S128x2048 .f32) (rB T o H)
    = (up2 fun _ e => 0 + ∑ x : Fin 128, H (T + (o + x.val)) e * hat (X (T + (o + x.val))) e : FVec Ideal S1x2048 .f32) := by
  refine ext2 fun x y => ?_
  pointwise [k1_pay22, k1_pay14]
  simp only [up2_ix, ← EReal.coe_mul, sum_coe, zero_add]
theorem dg1 (B A : ℕ → ℝ) : k1_pay1 (F := Ideal) (up2 fun _ e => B e : FVec Ideal S1x2048 .f32) (up2 fun x e => hat (X (T + (o + x))) e : FVec Ideal S128x2048 .f32) (rB T o H) (up2 fun _ e => A e : FVec Ideal S1x2048 .f32)
    = (up2 fun _ e => A e + (B e + ∑ x : Fin 128, H (T + (o + x.val)) e * hat (X (T + (o + x.val))) e) : FVec Ideal S1x2048 .f32) := by
  refine ext2 fun x y => ?_
  pointwise [k1_pay1]
  simp only [up2_ix, ← EReal.coe_mul, sum_coe, ← EReal.coe_add]
theorem pay2 : k1_pay2 (F := Ideal) = (up2 fun _ _ => 0 : FVec Ideal S1x2048 .f32) := by
  refine ext2 fun x y => ?_
  pointwise [k1_pay2]
  rw [up2_ix, EReal.coe_zero]

end Cert.NormKernelIdeal.RefValue
end
-- ==== Proof.NormBody.lean ====
/- What one grid point of the norm's gradient after the feed-forward leaves in its two outputs. -/
module

public import proofs.«01_k».proof.Proof.NormTile
import all proofs.«01_k».proof.Proof.Gen.NormKernelIdeal.Frame

@[expose] public section

set_option maxRecDepth 16384

noncomputable section

namespace Cert.NormKernelIdeal.RefValue

open Cert.NormKernelIdeal Cert.NormKernelIdeal.Gen Idealize.ShloMosaic Idealize.ShloMosaic.TcCoe Idealize.SL.Sem
open Cert.Reals Cert.Attn Cert.Norm

/-- A load of one chip's columns of 512 of the weight's rows. -/
theorem weight_load {σ : RefSig} {κ : Kind} {sp : Space} (W : ℕ → ℕ → ℝ) (v : View σ κ sp S4x1x2048x1408 .bf16) (f : v.ty.Contents (Elt Ideal))
    (hA : v.read (Elt Ideal) f = fun i : S4x1x2048x1408.Idx => (W (i 2).val (1408 * (i 0).val + (i 3).val) : EReal)) (j q : ℕ) (inb : ∀ a, (![j, 0, q, 0] : Fin 4 → ℕ) a + S1x1x512x1408.size a ≤ S4x1x2048x1408.size a) :
    v.readAt (Elt Ideal) (Rect.unit (s := S4x1x2048x1408) ![j, 0, q, 0] S1x1x512x1408.size inb).toLoadRect f = wB W j q := by
  funext y
  have h0 := Nat.lt_one_iff.1 (y 0).isLt
  show v.read (Elt Ideal) f _ = _
  rw [hA]
  show (W (q + 1 * (y 2).val) (1408 * (j + 1 * (y 0).val) + (0 + 1 * (y 3).val)) : EReal) = W (q + (y 2).val) (1408 * j + (y 3).val)
  rw [h0, one_mul, one_mul, Nat.add_zero, Nat.zero_add, one_mul]

/-- A load of one chip's columns. -/
theorem rows3_load {σ : RefSig} {κ : Kind} {sp : Space} (Z : ℕ → ℕ → ℝ) (T : ℕ) (v : View σ κ sp S4x256x1408 .bf16) (f : v.ty.Contents (Elt Ideal))
    (hA : v.read (Elt Ideal) f = fun i : S4x256x1408.Idx => (Z (T + (i 1).val) (1408 * (i 0).val + (i 2).val) : EReal)) (j : ℕ) (inb : ∀ a, (![j, 0, 0] : Fin 3 → ℕ) a + S1x256x1408.size a ≤ S4x256x1408.size a) :
    v.readAt (Elt Ideal) (Rect.unit (s := S4x256x1408) ![j, 0, 0] S1x256x1408.size inb).toLoadRect f = zB Z T j := by
  funext y
  have h0 := Nat.lt_one_iff.1 (y 0).isLt
  show v.read (Elt Ideal) f _ = _
  rw [hA]
  show (Z (T + (0 + 1 * (y 1).val)) (1408 * (j + 1 * (y 0).val) + (0 + 1 * (y 2).val)) : EReal) = Z (T + (y 1).val) (1408 * j + (y 2).val)
  rw [h0, one_mul, Nat.add_zero, Nat.zero_add, Nat.zero_add, one_mul]

variable (X D Z W P : ℕ → ℕ → ℝ) (G : ℕ → ℝ) (T : ℕ)

variable (c : Dev nD) (i : grid1.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S4x256x1408 .bf16) (harg4 : arg4.IsWhole) (arg5 : Memref sig .tc .vmem S4x1x2048x1408 .bf16) (harg5 : arg5.IsWhole) (arg6 : Memref sig .tc .vmem S256x2048 .f32) (harg6 : arg6.IsWhole) (arg7 : Memref sig .tc .vmem S256x2048 .f32) (harg7 : arg7.IsWhole) (arg8 : Memref sig .tc .vmem S1x2048 .f32) (harg8 : arg8.IsWhole)
  (x0 : FVec Ideal S256x2048 .f32) (x1 : FVec Ideal S1x2048 .f32) (x2 : FVec Ideal S256x2048 .f32) (x3 : FVec Ideal S4x256x1408 .bf16) (x4 : FVec Ideal S4x1x2048x1408 .bf16) (x5 : FVec Ideal S256x2048 .f32)
  (h0 : x0 = up2 fun x e => X (T + x) e) (h1 : x1 = gB G) (h2 : x2 = up2 fun x e => D (T + x) e) (h3 : x3 = fun i : S4x256x1408.Idx => (Z (T + (i 1).val) (1408 * (i 0).val + (i 2).val) : EReal))
  (h4 : x4 = fun i : S4x1x2048x1408.Idx => (W (i 2).val (1408 * (i 0).val + (i 3).val) : EReal)) (h5 : x5 = up2 fun x e => P (T + x) e)

include h0 h1 h2 h3 h4 h5 in
/-- The first grid point starts the scale's gradient from zero. -/
theorem body_A (hc0) : out1_A_6 (F := Ideal) c i arg1 harg1 arg2 harg2 arg3 harg3 arg4 harg4 arg5 harg5 arg6 harg6 arg7 harg7 arg8 harg8 hc0 x0 x1 x2 x3 x4 x5 = (up2 fun x e => gx X D (dh Z W P) G (T + x) e : FVec Ideal S256x2048 .f32)
    ∧ out1_A_7 (F := Ideal) c i arg1 harg1 arg2 harg2 arg3 harg3 arg4 harg4 arg5 harg5 arg6 harg6 arg7 harg7 arg8 harg8 hc0 x0 x1 x2 x3 x4 x5 = (up2 fun _ e => 0 + (0 + ∑ x : Fin 128, dh Z W P (T + (0 + x.val)) e * hat (X (T + (0 + x.val))) e + ∑ x : Fin 128, dh Z W P (T + (128 + x.val)) e * hat (X (T + (128 + x.val))) e) : FVec Ideal S1x2048 .f32) := by
  have l0 := fun o inb => rows_load (r := 128) arg1.view (harg1.unread x0) (fun x e => X (T + x) e) (by rw [harg1.read_unread, h0]) o inb
  have l1 : arg2.view.readAt (Elt Ideal) (Rect.unit (s := S1x2048) ![0, 0] S1x2048.size inb_S1x2048_S1x2048_0_0).toLoadRect (harg2.unread x1) = gB G := by rw [View.readAt_full, harg2.read_unread, h1]
  have l2 := fun o inb => rows_load (r := 128) arg3.view (harg3.unread x2) (fun x e => D (T + x) e) (by rw [harg3.read_unread, h2]) o inb
  have l3 := fun j inb => rows3_load Z T arg4.view (harg4.unread x3) (by rw [harg4.read_unread, h3]) j inb
  have l4 := fun j q inb => weight_load W arg5.view (harg5.unread x4) (by rw [harg5.read_unread, h4]) j q inb
  have l5 := fun q inb => cols_load (k := 512) arg6.view (harg6.unread x5) (fun x e => P (T + x) e) (by rw [harg6.read_unread, h5]) q inb
  have n0 : kernelRun1_A.sl.r (F := Ideal) c arg4 harg4 x3 = zC Z T 0 := by unfold kernelRun1_A.sl.r; rw [l3 0]; exact pay3 Z T
  have n1 : kernelRun1_A.sl.r_1 (F := Ideal) c arg4 harg4 x3 = zC Z T 1 := by unfold kernelRun1_A.sl.r_1; rw [l3 1]; exact pay4 Z T
  have n2 : kernelRun1_A.sl.r_2 (F := Ideal) c arg4 harg4 x3 = zC Z T 2 := by unfold kernelRun1_A.sl.r_2; rw [l3 2]; exact pay5 Z T
  have n3 : kernelRun1_A.sl.r_3 (F := Ideal) c arg4 harg4 x3 = zC Z T 3 := by unfold kernelRun1_A.sl.r_3; rw [l3 3]; exact pay6 Z T
  have q4 : kernelRun1_A.sl.r_4 (F := Ideal) c arg4 harg4 arg5 harg5 x3 x4 = k1_pay7 (zB Z T 0) (zB Z T 1) (zB Z T 2) (wB W 0 0) (wB W 1 0) (wB W 2 0) := by
    unfold kernelRun1_A.sl.r_4
    rw [l3 0, l3 1, l3 2, l4 0, l4 1, l4 2]
  have q5 : kernelRun1_A.sl.r_5 (F := Ideal) c arg5 harg5 x4 = k1_pay8 (wB W 3 0) := by unfold kernelRun1_A.sl.r_5; rw [l4 3]
  have q7 : kernelRun1_A.sl.r_7 (F := Ideal) c arg4 harg4 arg5 harg5 x3 x4 = k1_pay12 (zC Z T 0) (zC Z T 1) (wB W 0 1536) (wB W 1 1536) := by
    unfold kernelRun1_A.sl.r_7
    rw [n0, n1, l4 0, l4 1]
  have b5 : arg7.view.read (Elt Ideal) (arg7.view.writes (Elt Ideal) arg7.view.junk (kernelRun1_A.sl.H6_4 (F := Ideal) c arg4 harg4 arg5 harg5 arg6 harg6 x3 x4 x5)) = (up2 fun x e => dh Z W P (T + x) e : FVec Ideal S256x2048 .f32) := by
    unfold kernelRun1_A.sl.H6_4 kernelRun1_A.sl.r_6
    rw [n0, n1, n2, n3, q4, q5, q7]
    simp only [l4, l5]
    have s0 := cols_write (k := 512) arg7.view arg7.view.junk (fun x e => dh Z W P (T + x) e) [] 0 512 rfl (fun y hy => absurd hy (Nat.not_lt_zero _)) inb_S256x2048_S256x512_0_0 _ (col0 Z W P T)
    have s1 := cols_write (k := 512) arg7.view _ _ _ 512 1024 rfl s0 inb_S256x2048_S256x512_0_512 _ (col1 Z W P T)
    have s2 := cols_write (k := 512) arg7.view _ _ _ 1024 1536 rfl s1 inb_S256x2048_S256x512_0_1024 _ (col2 Z W P T)
    have s3 := cols_write (k := 512) arg7.view _ _ _ 1536 2048 rfl s2 inb_S256x2048_S256x512_0_1536 _ (col3 Z W P T)
    exact funext fun y => s3 y (y 1).isLt
  have m0 : kernelRun1_A.sl.v99 (F := Ideal) c arg4 harg4 arg5 harg5 arg6 harg6 arg7 x3 x4 x5 = rB T 0 (dh Z W P) := by
    unfold kernelRun1_A.sl.v99 View.readCov
    exact rows_load arg7.view _ _ b5 0 _
  have m8 : kernelRun1_A.sl.r_8 (F := Ideal) c arg1 harg1 x0 = k1_pay15 (rB T 0 X) := by unfold kernelRun1_A.sl.r_8; rw [l0 0]
  have m9 : kernelRun1_A.sl.r_9 (F := Ideal) c arg1 harg1 x0 = k1_pay16 (rB T 0 X) := by unfold kernelRun1_A.sl.r_9; rw [l0 0]
  have m10 : kernelRun1_A.sl.r_10 (F := Ideal) c arg4 harg4 arg5 harg5 arg6 harg6 arg7 x3 x4 x5 = rB T 0 (dh Z W P) := by unfold kernelRun1_A.sl.r_10; rw [m0]; exact pay17 _
  have m11 : kernelRun1_A.sl.r_11 (F := Ideal) c arg2 harg2 arg4 harg4 arg5 harg5 arg6 harg6 arg7 x1 x3 x4 x5 = k1_pay18 (rB T 0 (dh Z W P)) (gB G) := by unfold kernelRun1_A.sl.r_11; rw [m0, l1]
  have m12 : kernelRun1_A.sl.r_12 (F := Ideal) c arg3 harg3 x2 = rB T 0 D := by unfold kernelRun1_A.sl.r_12; exact l2 0 _
  have m13 : kernelRun1_A.sl.r_13 (F := Ideal) c arg1 harg1 arg2 harg2 arg4 harg4 arg5 harg5 arg6 harg6 arg7 x0 x1 x3 x4 x5 = k1_pay19 (rB T 0 X) (rB T 0 (dh Z W P)) (gB G) := by unfold kernelRun1_A.sl.r_13; rw [m0, l1, l0 0]
  have b6 : arg7.view.read (Elt Ideal) (arg7.view.writes (Elt Ideal) arg7.view.junk (kernelRun1_A.sl.H6_5 (F := Ideal) c arg1 harg1 arg2 harg2 arg3 harg3 arg4 harg4 arg5 harg5 arg6 harg6 arg7 x0 x1 x2 x3 x4 x5)) = (up2 fun x e => if 0 ≤ x ∧ x < 0 + 128 then gx X D (dh Z W P) G (T + x) e else dh Z W P (T + x) e : FVec Ideal S256x2048 .f32) := by
    unfold kernelRun1_A.sl.H6_5
    rw [m8, m9, m11, m12, m13]
    exact rows_write (r := 128) arg7.view arg7.view.junk (fun x e => dh Z W P (T + x) e) _ b5 0 (fun x e => gx X D (dh Z W P) G (T + x) e) _ _ (dx0 X D G T 0 (dh Z W P))
  have m1 : kernelRun1_A.sl.v133 (F := Ideal) c arg1 harg1 arg2 harg2 arg3 harg3 arg4 harg4 arg5 harg5 arg6 harg6 arg7 x0 x1 x2 x3 x4 x5 = rB T 128 (dh Z W P) := by
    unfold kernelRun1_A.sl.v133 View.readCov
    refine (rows_load arg7.view _ _ b6 128 _).trans (ext2 fun x y => ?_)
    refine (up2_ix _ x y).trans (Eq.trans ?_ (up2_ix _ x y).symm)
    rw [if_neg (by omega)]
  have m14 : kernelRun1_A.sl.r_14 (F := Ideal) c arg1 harg1 arg4 harg4 arg5 harg5 arg6 harg6 arg7 x0 x3 x4 x5 = (up2 fun _ e => 0 + ∑ x : Fin 128, dh Z W P (T + (0 + x.val)) e * hat (X (T + (0 + x.val))) e : FVec Ideal S1x2048 .f32) := by
    unfold kernelRun1_A.sl.r_14
    rw [m9, m10, pay16]
    exact dg0 X T 0 (dh Z W P)
  have m15 : kernelRun1_A.sl.r_15 (F := Ideal) c arg1 harg1 x0 = (up2 fun x e => hat (X (T + (128 + x))) e : FVec Ideal S128x2048 .f32) := by unfold kernelRun1_A.sl.r_15; rw [l0 128]; exact pay24 X T 128
  have m16 : kernelRun1_A.sl.r_16 (F := Ideal) c arg1 harg1 arg2 harg2 arg3 harg3 arg4 harg4 arg5 harg5 arg6 harg6 arg7 x0 x1 x2 x3 x4 x5 = rB T 128 (dh Z W P) := by unfold kernelRun1_A.sl.r_16; rw [m1]; exact pay25 _
  have m17 : kernelRun1_A.sl.r_17 (F := Ideal) c arg1 harg1 arg2 harg2 arg3 harg3 arg4 harg4 arg5 harg5 arg6 harg6 arg7 x0 x1 x2 x3 x4 x5 = (up2 fun x e => gx X D (dh Z W P) G (T + (128 + x)) e : FVec Ideal S128x2048 .f32) := by
    unfold kernelRun1_A.sl.r_17
    rw [m1, l1, l0 128, l2 128]
    exact dx1 X D G T 128 (dh Z W P)
  have z6 : kernelRun1_A.sl.v156 (F := Ideal) c arg8 = (up2 fun _ _ => 0 : FVec Ideal S1x2048 .f32) := by
    unfold kernelRun1_A.sl.v156 kernelRun1_A.sl.H7_1
    rw [View.readCov_full]
    exact pay2
  unfold out1_A_6 out1_A_7
  rw [View.read_writes_of_cover VO1_6 VO1_6.junk arg7.view arg7.view.junk _ (cover1_A_6 (F := Ideal) c i arg1 harg1 arg2 harg2 arg3 harg3 arg4 harg4 arg5 harg5 arg6 harg6 arg7 harg7 arg8 harg8 hc0 x0 x1 x2 x3 x4 x5)]
  unfold kernelRun1_A
  dsimp only
  refine ⟨?_, (View.read_writes_full _ _ _ _ _).trans ?_⟩
  · rw [m17]
    refine (rows_write (r := 128) arg7.view arg7.view.junk _ _ b6 128 (fun x e => gx X D (dh Z W P) G (T + x) e) _ _ rfl).trans (ext2 fun x y => ?_)
    have hx := x.isLt
    rw [up2_ix, up2_ix]
    split_ifs <;> first | rfl | omega
  · rw [m14, m15, m16, z6]
    exact dg1 X T 128 (dh Z W P) _ _

variable (xo7 : FVec Ideal S1x2048 .f32) (A : ℕ → ℝ) (h7 : xo7 = (up2 fun _ e => A e : FVec Ideal S1x2048 .f32))

include h0 h1 h2 h3 h4 h5 h7 in
/-- A later grid point adds to it. -/
theorem body_B (hc0) : out1_B_6 (F := Ideal) c i arg1 harg1 arg2 harg2 arg3 harg3 arg4 harg4 arg5 harg5 arg6 harg6 arg7 harg7 arg8 harg8 hc0 x0 x1 x2 x3 x4 x5 xo7 = (up2 fun x e => gx X D (dh Z W P) G (T + x) e : FVec Ideal S256x2048 .f32)
    ∧ out1_B_7 (F := Ideal) c i arg1 harg1 arg2 harg2 arg3 harg3 arg4 harg4 arg5 harg5 arg6 harg6 arg7 harg7 arg8 harg8 hc0 x0 x1 x2 x3 x4 x5 xo7 = (up2 fun _ e => A e + (0 + ∑ x : Fin 128, dh Z W P (T + (0 + x.val)) e * hat (X (T + (0 + x.val))) e + ∑ x : Fin 128, dh Z W P (T + (128 + x.val)) e * hat (X (T + (128 + x.val))) e) : FVec Ideal S1x2048 .f32) := by
  have l0 := fun o inb => rows_load (r := 128) arg1.view (harg1.unread x0) (fun x e => X (T + x) e) (by rw [harg1.read_unread, h0]) o inb
  have l1 : arg2.view.readAt (Elt Ideal) (Rect.unit (s := S1x2048) ![0, 0] S1x2048.size inb_S1x2048_S1x2048_0_0).toLoadRect (harg2.unread x1) = gB G := by rw [View.readAt_full, harg2.read_unread, h1]
  have l2 := fun o inb => rows_load (r := 128) arg3.view (harg3.unread x2) (fun x e => D (T + x) e) (by rw [harg3.read_unread, h2]) o inb
  have l3 := fun j inb => rows3_load Z T arg4.view (harg4.unread x3) (by rw [harg4.read_unread, h3]) j inb
  have l4 := fun j q inb => weight_load W arg5.view (harg5.unread x4) (by rw [harg5.read_unread, h4]) j q inb
  have l5 := fun q inb => cols_load (k := 512) arg6.view (harg6.unread x5) (fun x e => P (T + x) e) (by rw [harg6.read_unread, h5]) q inb
  have n0 : kernelRun1_B.sl.r (F := Ideal) c arg4 harg4 x3 = zC Z T 0 := by unfold kernelRun1_B.sl.r; rw [l3 0]; exact pay3 Z T
  have n1 : kernelRun1_B.sl.r_1 (F := Ideal) c arg4 harg4 x3 = zC Z T 1 := by unfold kernelRun1_B.sl.r_1; rw [l3 1]; exact pay4 Z T
  have n2 : kernelRun1_B.sl.r_2 (F := Ideal) c arg4 harg4 x3 = zC Z T 2 := by unfold kernelRun1_B.sl.r_2; rw [l3 2]; exact pay5 Z T
  have n3 : kernelRun1_B.sl.r_3 (F := Ideal) c arg4 harg4 x3 = zC Z T 3 := by unfold kernelRun1_B.sl.r_3; rw [l3 3]; exact pay6 Z T
  have q4 : kernelRun1_B.sl.r_4 (F := Ideal) c arg4 harg4 arg5 harg5 x3 x4 = k1_pay7 (zB Z T 0) (zB Z T 1) (zB Z T 2) (wB W 0 0) (wB W 1 0) (wB W 2 0) := by
    unfold kernelRun1_B.sl.r_4
    rw [l3 0, l3 1, l3 2, l4 0, l4 1, l4 2]
  have q5 : kernelRun1_B.sl.r_5 (F := Ideal) c arg5 harg5 x4 = k1_pay8 (wB W 3 0) := by unfold kernelRun1_B.sl.r_5; rw [l4 3]
  have q7 : kernelRun1_B.sl.r_7 (F := Ideal) c arg4 harg4 arg5 harg5 x3 x4 = k1_pay12 (zC Z T 0) (zC Z T 1) (wB W 0 1536) (wB W 1 1536) := by
    unfold kernelRun1_B.sl.r_7
    rw [n0, n1, l4 0, l4 1]
  have b5 : arg7.view.read (Elt Ideal) (arg7.view.writes (Elt Ideal) arg7.view.junk (kernelRun1_B.sl.H6_4 (F := Ideal) c arg4 harg4 arg5 harg5 arg6 harg6 x3 x4 x5)) = (up2 fun x e => dh Z W P (T + x) e : FVec Ideal S256x2048 .f32) := by
    unfold kernelRun1_B.sl.H6_4 kernelRun1_B.sl.r_6
    rw [n0, n1, n2, n3, q4, q5, q7]
    simp only [l4, l5]
    have s0 := cols_write (k := 512) arg7.view arg7.view.junk (fun x e => dh Z W P (T + x) e) [] 0 512 rfl (fun y hy => absurd hy (Nat.not_lt_zero _)) inb_S256x2048_S256x512_0_0 _ (col0 Z W P T)
    have s1 := cols_write (k := 512) arg7.view _ _ _ 512 1024 rfl s0 inb_S256x2048_S256x512_0_512 _ (col1 Z W P T)
    have s2 := cols_write (k := 512) arg7.view _ _ _ 1024 1536 rfl s1 inb_S256x2048_S256x512_0_1024 _ (col2 Z W P T)
    have s3 := cols_write (k := 512) arg7.view _ _ _ 1536 2048 rfl s2 inb_S256x2048_S256x512_0_1536 _ (col3 Z W P T)
    exact funext fun y => s3 y (y 1).isLt
  have m0 : kernelRun1_B.sl.v99 (F := Ideal) c arg4 harg4 arg5 harg5 arg6 harg6 arg7 x3 x4 x5 = rB T 0 (dh Z W P) := by
    unfold kernelRun1_B.sl.v99 View.readCov
    exact rows_load arg7.view _ _ b5 0 _
  have m8 : kernelRun1_B.sl.r_8 (F := Ideal) c arg1 harg1 x0 = k1_pay15 (rB T 0 X) := by unfold kernelRun1_B.sl.r_8; rw [l0 0]
  have m9 : kernelRun1_B.sl.r_9 (F := Ideal) c arg1 harg1 x0 = k1_pay16 (rB T 0 X) := by unfold kernelRun1_B.sl.r_9; rw [l0 0]
  have m10 : kernelRun1_B.sl.r_10 (F := Ideal) c arg4 harg4 arg5 harg5 arg6 harg6 arg7 x3 x4 x5 = rB T 0 (dh Z W P) := by unfold kernelRun1_B.sl.r_10; rw [m0]; exact pay17 _
  have m11 : kernelRun1_B.sl.r_11 (F := Ideal) c arg2 harg2 arg4 harg4 arg5 harg5 arg6 harg6 arg7 x1 x3 x4 x5 = k1_pay18 (rB T 0 (dh Z W P)) (gB G) := by unfold kernelRun1_B.sl.r_11; rw [m0, l1]
  have m12 : kernelRun1_B.sl.r_12 (F := Ideal) c arg3 harg3 x2 = rB T 0 D := by unfold kernelRun1_B.sl.r_12; exact l2 0 _
  have m13 : kernelRun1_B.sl.r_13 (F := Ideal) c arg1 harg1 arg2 harg2 arg4 harg4 arg5 harg5 arg6 harg6 arg7 x0 x1 x3 x4 x5 = k1_pay19 (rB T 0 X) (rB T 0 (dh Z W P)) (gB G) := by unfold kernelRun1_B.sl.r_13; rw [m0, l1, l0 0]
  have b6 : arg7.view.read (Elt Ideal) (arg7.view.writes (Elt Ideal) arg7.view.junk (kernelRun1_B.sl.H6_5 (F := Ideal) c arg1 harg1 arg2 harg2 arg3 harg3 arg4 harg4 arg5 harg5 arg6 harg6 arg7 x0 x1 x2 x3 x4 x5)) = (up2 fun x e => if 0 ≤ x ∧ x < 0 + 128 then gx X D (dh Z W P) G (T + x) e else dh Z W P (T + x) e : FVec Ideal S256x2048 .f32) := by
    unfold kernelRun1_B.sl.H6_5
    rw [m8, m9, m11, m12, m13]
    exact rows_write (r := 128) arg7.view arg7.view.junk (fun x e => dh Z W P (T + x) e) _ b5 0 (fun x e => gx X D (dh Z W P) G (T + x) e) _ _ (dx0 X D G T 0 (dh Z W P))
  have m1 : kernelRun1_B.sl.v133 (F := Ideal) c arg1 harg1 arg2 harg2 arg3 harg3 arg4 harg4 arg5 harg5 arg6 harg6 arg7 x0 x1 x2 x3 x4 x5 = rB T 128 (dh Z W P) := by
    unfold kernelRun1_B.sl.v133 View.readCov
    refine (rows_load arg7.view _ _ b6 128 _).trans (ext2 fun x y => ?_)
    refine (up2_ix _ x y).trans (Eq.trans ?_ (up2_ix _ x y).symm)
    rw [if_neg (by omega)]
  have m14 : kernelRun1_B.sl.r_14 (F := Ideal) c arg1 harg1 arg4 harg4 arg5 harg5 arg6 harg6 arg7 x0 x3 x4 x5 = (up2 fun _ e => 0 + ∑ x : Fin 128, dh Z W P (T + (0 + x.val)) e * hat (X (T + (0 + x.val))) e : FVec Ideal S1x2048 .f32) := by
    unfold kernelRun1_B.sl.r_14
    rw [m9, m10, pay16]
    exact dg0 X T 0 (dh Z W P)
  have m15 : kernelRun1_B.sl.r_15 (F := Ideal) c arg1 harg1 x0 = (up2 fun x e => hat (X (T + (128 + x))) e : FVec Ideal S128x2048 .f32) := by unfold kernelRun1_B.sl.r_15; rw [l0 128]; exact pay24 X T 128
  have m16 : kernelRun1_B.sl.r_16 (F := Ideal) c arg1 harg1 arg2 harg2 arg3 harg3 arg4 harg4 arg5 harg5 arg6 harg6 arg7 x0 x1 x2 x3 x4 x5 = rB T 128 (dh Z W P) := by unfold kernelRun1_B.sl.r_16; rw [m1]; exact pay25 _
  have m17 : kernelRun1_B.sl.r_17 (F := Ideal) c arg1 harg1 arg2 harg2 arg3 harg3 arg4 harg4 arg5 harg5 arg6 harg6 arg7 x0 x1 x2 x3 x4 x5 = (up2 fun x e => gx X D (dh Z W P) G (T + (128 + x)) e : FVec Ideal S128x2048 .f32) := by
    unfold kernelRun1_B.sl.r_17
    rw [m1, l1, l0 128, l2 128]
    exact dx1 X D G T 128 (dh Z W P)
  have z6 : arg8.view.readAt (Elt Ideal) (Rect.unit (s := S1x2048) ![0, 0] S1x2048.size inb_S1x2048_S1x2048_0_0).toLoadRect (harg8.unread xo7) = (up2 fun _ e => A e : FVec Ideal S1x2048 .f32) := by rw [View.readAt_full, harg8.read_unread, h7]
  unfold out1_B_6 out1_B_7
  rw [View.read_writes_of_cover VO1_6 VO1_6.junk arg7.view arg7.view.junk _ (cover1_B_6 (F := Ideal) c i arg1 harg1 arg2 harg2 arg3 harg3 arg4 harg4 arg5 harg5 arg6 harg6 arg7 harg7 arg8 harg8 hc0 x0 x1 x2 x3 x4 x5 xo7)]
  unfold kernelRun1_B
  dsimp only
  refine ⟨?_, (View.read_writes_full _ _ _ _ _).trans ?_⟩
  · rw [m17]
    refine (rows_write (r := 128) arg7.view arg7.view.junk _ _ b6 128 (fun x e => gx X D (dh Z W P) G (T + x) e) _ _ rfl).trans (ext2 fun x y => ?_)
    have hx := x.isLt
    rw [up2_ix, up2_ix]
    split_ifs <;> first | rfl | omega
  · rw [m14, m15, m16, z6]
    exact dg1 X T 128 (dh Z W P) _ _

end Cert.NormKernelIdeal.RefValue
end
-- ==== Proof.NormBwdValue.lean ====
/- The norm's gradient after the feed-forward over the whole grid: the arrays it leaves, for real arguments. -/
module

public import proofs.«01_k».proof.Proof.NormBody

@[expose] public section

set_option maxRecDepth 16384

noncomputable section

namespace Cert.NormKernelIdeal.RefValue

open Cert.NormKernelIdeal Cert.NormKernelIdeal.Gen Idealize.ShloMosaic Idealize.ShloMosaic.TcCoe Idealize.SL.Sem
open Idealize.ShloMosaic.Pipeline (Dat)
open Cert.Reals Cert.Attn Cert.Norm

theorem idx1 : ∀ t : Fin cfg1.N, win1_0.index t = ![t.val, 0] ∧ win1_1.index t = ![0, 0] ∧ win1_2.index t = ![t.val, 0]
    ∧ win1_3.index t = ![0, t.val, 0] ∧ win1_4.index t = ![0, 0, 0, 0] ∧ win1_5.index t = ![t.val, 0] ∧ win1_6.index t = ![t.val, 0] ∧ win1_7.index t = ![0, 0] :=
  (by decide +kernel : ∀ t : Fin grid1.N, _)

variable (V : (c : Dev nD) → (b : Ref sig .tc) → Buf (Elt Ideal) ((c : Thread nD τ).loc b)) (c : Dev nD) (X D Z P : ℕ → ℕ → ℝ) (W : ℕ → ℕ → ℕ → ℝ) (G : ℕ → ℝ)
  (hx : V c main_arg0 = (up2 X : FVec Ideal S8192x2048 .f32)) (hg : V c main_v0 = gB G) (hd : V c main_arg6 = (up2 D : FVec Ideal S8192x2048 .f32))
  (hz : V c main_v9 = fun i : S4x8192x1408.Idx => (Z (i 1).val (1408 * (i 0).val + (i 2).val) : EReal))
  (hw : V c main_v12 = fun i : S4x2x2048x1408.Idx => (W (i 1).val (i 2).val (1408 * (i 0).val + (i 3).val) : EReal))
  (hp : V c main_v13 = (up2 P : FVec Ideal S8192x2048 .f32))

theorem at1 (f : ℕ → ℝ) {a a' : ℕ} (ha : a = a') : (f a : EReal) = (f a' : EReal) := by rw [ha]
theorem at2 (f : ℕ → ℕ → ℝ) {a b a' b' : ℕ} (ha : a = a') (hb : b = b') : (f a b : EReal) = (f a' b' : EReal) := by rw [ha, hb]
theorem at3 (f : ℕ → ℕ → ℕ → ℝ) {a b d a' b' d' : ℕ} (ha : a = a') (hb : b = b') (hd : d = d') : (f a b d : EReal) = (f a' b' d' : EReal) := by rw [ha, hb, hd]

include hx in
theorem blk0 (t : Fin cfg1.N) : iblk1 V c 0 t = (up2 fun x e => X (256 * t.val + x) e : FVec Ideal S256x2048 .f32) := by
  refine ext2 fun x y => ?_
  blk_simp [iblk1, idx1 t]
  rw [hx, up2_at, up2_ix]
  refine at2 X ?_ ?_ <;> (blk_simp [idx1 t]; try omega)
include hd in
theorem blk2 (t : Fin cfg1.N) : iblk1 V c 2 t = (up2 fun x e => D (256 * t.val + x) e : FVec Ideal S256x2048 .f32) := by
  refine ext2 fun x y => ?_
  blk_simp [iblk1, idx1 t]
  rw [hd, up2_at, up2_ix]
  refine at2 D ?_ ?_ <;> (blk_simp [idx1 t]; try omega)
include hp in
theorem blk5 (t : Fin cfg1.N) : iblk1 V c 5 t = (up2 fun x e => P (256 * t.val + x) e : FVec Ideal S256x2048 .f32) := by
  refine ext2 fun x y => ?_
  blk_simp [iblk1, idx1 t]
  rw [hp, up2_at, up2_ix]
  refine at2 P ?_ ?_ <;> (blk_simp [idx1 t]; try omega)
include hg in
theorem blk1 (t : Fin cfg1.N) : iblk1 V c 1 t = gB G := by
  refine ext2 fun x y => ?_
  blk_simp [iblk1, idx1 t]
  rw [hg]
  refine Eq.trans ?_ (up2_ix _ x y).symm
  refine at1 G ?_ <;> (blk_simp [idx1 t]; try omega)
include hz in
theorem blk3 (t : Fin cfg1.N) : iblk1 V c 3 t = fun i : S4x256x1408.Idx => (Z (256 * t.val + (i 1).val) (1408 * (i 0).val + (i 2).val) : EReal) := by
  funext i
  blk_simp [iblk1, idx1 t]
  rw [hz]
  refine at2 Z ?_ ?_ <;> (blk_simp [idx1 t]; try omega)
include hw in
theorem blk4 (t : Fin cfg1.N) : iblk1 V c 4 t = fun i : S4x1x2048x1408.Idx => (W 0 (i 2).val (1408 * (i 0).val + (i 3).val) : EReal) := by
  funext i
  have h1 := Nat.lt_one_iff.1 (i 1).isLt
  blk_simp [iblk1, idx1 t]
  rw [hw]
  refine at3 W ?_ ?_ ?_ <;> (blk_simp [idx1 t]; try omega)

/-- What the outputs hold after grid point `n`. -/
def After (n : ℕ) (o : FVec Ideal S256x2048 .f32 × FVec Ideal S1x2048 .f32) : Prop :=
  o.1 = (up2 fun x e => gx X D (dh Z (W 0) P) G (256 * n + x) e) ∧ o.2 = (up2 fun _ e => gg X (dh Z (W 0) P) (256 * (n + 1)) e)

theorem After.of {n : ℕ} {o5 : FVec Ideal S256x2048 .f32} {o6 : FVec Ideal S1x2048 .f32} (h5 : o5 = (up2 fun x e => gx X D (dh Z (W 0) P) G (256 * n + x) e))
    (h6 : o6 = (up2 fun _ e => gg X (dh Z (W 0) P) (256 * (n + 1)) e)) : After X D Z P W G n (o5, o6) := ⟨h5, h6⟩

include hx hg hz hw hd hp in
theorem step_A (t : Fin cfg1.N) (h0 : t.val % 32 = 0) : After X D Z P W G t.val (outsAt1 V c t.val t.isLt) := by
  have ht : t.val < 32 := Nat.lt_of_lt_of_eq t.isLt N_1
  obtain ⟨b5, b6⟩ := body_A X D Z (W 0) P G (256 * t.val) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) _ _ _ _ _ _
    (blk0 V c X hx t) (blk1 V c G hg t) (blk2 V c D hd t) (blk3 V c Z hz t) (blk4 V c W hw t) (blk5 V c P hp t) ((hcond1_0 t).mpr h0)
  rw [outsAt1_A V c t h0]
  refine After.of X D Z P W G b5 (b6.trans (congrArg up2 ?_))
  funext _ e
  have h := gg_step X (dh Z (W 0) P) (256 * t.val) (256 * (t.val + 1)) e (Nat.mul_succ _ _)
  rw [show gg X (dh Z (W 0) P) (256 * t.val) e = 0 by rw [show t.val = 0 by omega]; rfl] at h
  simp only [zero_add] at h ⊢
  exact h

include hx hg hz hw hd hp in
theorem step_B (t : Fin cfg1.N) (h0 : ¬t.val % 32 = 0) (ih : After X D Z P W G (t.val - 1) (outsAt1 V c (t.val - 1) (Nat.lt_of_le_of_lt (Nat.sub_le _ _) t.isLt))) :
    After X D Z P W G t.val (outsAt1 V c t.val t.isLt) := by
  have ht : t.val < 32 := Nat.lt_of_lt_of_eq t.isLt N_1
  obtain ⟨-, i6⟩ := ih
  rw [show t.val - 1 + 1 = t.val by omega] at i6
  obtain ⟨b5, b6⟩ := body_B X D Z (W 0) P G (256 * t.val) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) _ _ _ _ _ _
    (blk0 V c X hx t) (blk1 V c G hg t) (blk2 V c D hd t) (blk3 V c Z hz t) (blk4 V c W hw t) (blk5 V c P hp t) _ (fun e => gg X (dh Z (W 0) P) (256 * t.val) e) i6 (fun h => h0 ((hcond1_0 t).mp h))
  rw [outsAt1_B V c t h0]
  refine After.of X D Z P W G b5 (b6.trans (congrArg up2 ?_))
  funext _ e
  have h := gg_step X (dh Z (W 0) P) (256 * t.val) (256 * (t.val + 1)) e (Nat.mul_succ _ _)
  simp only [zero_add] at h ⊢
  exact h

include hx hg hz hw hd hp in
theorem outs (n : ℕ) : ∀ hn : n < cfg1.N, After X D Z P W G n (outsAt1 V c n hn) := by
  induction n with
  | zero => exact fun hn => step_A V c X D Z P W G hx hg hd hz hw hp ⟨0, hn⟩ rfl
  | succ n ih =>
    intro hn
    have hn' : n + 1 < 32 := Nat.lt_of_lt_of_eq hn N_1
    exact step_B V c X D Z P W G hx hg hd hz hw hp ⟨n + 1, hn⟩ (show ¬(n + 1) % 32 = 0 by omega) (ih (by omega))

include hx hg hz hw hd hp in
/-- The input's gradient. -/
theorem final_dx : (dat1 V c).arrAt 6 cfg1.N = (up2 fun t e => gx X D (dh Z (W 0) P) G t e : FVec Ideal S8192x2048 .f32) := by
  refine (dat1 V c).arrAt_eq_of_covers 6 _ (by decide +kernel) fun t hf y => ?_
  blk_simp
  rw [after1_6, (outs V c X D Z P W G hx hg hd hz hw hp t.val t.isLt).1, up2_at, up2_at]
  refine at2 (fun t e => gx X D (dh Z (W 0) P) G t e) ?_ ?_ <;> (blk_simp [idx1 t]; try omega)

include hx hg hz hw hd hp in
/-- The scale's gradient. -/
theorem final_dg : (dat1 V c).arrAt 7 cfg1.N = (up2 fun _ e => gg X (dh Z (W 0) P) 8192 e : FVec Ideal S1x2048 .f32) := by
  refine (dat1 V c).arrAt_eq_of_covers 7 _ (by decide +kernel) fun t hf y => ?_
  have ht : t.val < 32 := Nat.lt_of_lt_of_eq t.isLt N_1
  have hl := (flush1_7 t).mp hf
  blk_simp
  rw [after1_7, (outs V c X D Z P W G hx hg hd hz hw hp t.val t.isLt).2, show 256 * (t.val + 1) = 8192 by omega, up2_at, up2_at]
  refine at1 (gg X (dh Z (W 0) P) 8192) ?_ <;> (blk_simp [idx1 t]; try omega)

end Cert.NormKernelIdeal.RefValue
end
-- ==== Proof.NormRun.lean ====
/- The run of the norm's gradient after the feed-forward: its two regions, the first product's array feeding the second region. -/
module

public import proofs.«01_k».proof.Proof.NormFirst
public import proofs.«01_k».proof.Proof.NormBwdValue
import all proofs.«01_k».proof.Proof.Gen.NormKernelIdeal.Launch
import all proofs.«01_k».proof.Proof.Gen.NormKernelIdeal.Frame

@[expose] public section

set_option maxRecDepth 16384

noncomputable section

namespace Cert.NormKernelIdeal.Run

open Cert.NormKernelIdeal Cert.NormKernelIdeal.Gen Idealize.ShloMosaic Idealize.ShloMosaic.TcCoe Idealize.SL.Sem Idealize.SL
open Idealize.ShloMosaic.Pipeline (Dat)
open Cert.Reals Cert.Attn Cert.Norm Cert.NormKernelIdeal.RefValue

section
open Idealize.SL.RA Idealize.SL.BI
open scoped Idealize.SL.BI
open Idealize.SL.BI.BIBase Idealize.SL.BI.Laws Idealize.SL.ProofMode
open Idealize.ShloMosaic.Rounds
open Idealize.ShloMosaic.Pipeline (cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every final state holds each array at the contents that follow from the two regions. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)
end

variable (m : (ℓ : Loc nD τ sig) → Buf (Elt Ideal) ℓ) (ρ : Dev nD → PrngReg) (c : Dev nD) (X D A Z : ℕ → ℕ → ℝ) (U W : ℕ → ℕ → ℕ → ℝ) (G : ℕ → ℝ)
  (hx : m ((c : Thread nD τ).loc main_arg0) = (up2 X : FVec Ideal S8192x2048 .f32)) (hg : m ((c : Thread nD τ).loc main_arg1) = fun i : S2048.Idx => (G (i 0).val : EReal))
  (ha : m ((c : Thread nD τ).loc main_arg2) = (up2 A : FVec Ideal S8192x5632 .f32)) (hz : m ((c : Thread nD τ).loc main_arg3) = (up2 Z : FVec Ideal S8192x5632 .f32))
  (hu : m ((c : Thread nD τ).loc main_arg4) = (up3 U : FVec Ideal S2x2048x5632 .f32)) (hw : m ((c : Thread nD τ).loc main_arg5) = (up3 W : FVec Ideal S2x2048x5632 .f32))
  (hd : m ((c : Thread nD τ).loc main_arg6) = (up2 D : FVec Ideal S8192x2048 .f32))

/-- A cotangent with its columns by the four chips. -/
abbrev chips (A : ℕ → ℕ → ℝ) : FVec Ideal S4x8192x1408 .bf16 := fun i => (A (i 1).val (1408 * (i 0).val + (i 2).val) : EReal)
/-- A weight with its columns by the four chips. -/
abbrev packed (U : ℕ → ℕ → ℕ → ℝ) : FVec Ideal S4x2x2048x1408 .bf16 := fun i => (U (i 1).val (i 2).val (1408 * (i 0).val + (i 3).val) : EReal)
/-- The first product. -/
abbrev first (A : ℕ → ℕ → ℝ) (U : ℕ → ℕ → ℕ → ℝ) (t e : ℕ) : ℝ := pr 1408 (A t) (U 0 e)

include hg in
theorem entry_g : V1 m ρ c main_v0 = gB G := by
  show StableHlo.after hostOps0 (W0 m ρ c) (Proc.devRef .tc main_v0) = _
  unfold hostOps0
  after_results_simp
  rw [show W0 m ρ c (Proc.devRef .tc main_arg1) = _ from hg]
  refine ext2 fun x y => ?_
  pointwise []
  exact (up2_ix (fun _ e => G e) x y).symm
include ha in
theorem entry_a : V1 m ρ c main_v3 = chips A := by
  show StableHlo.after hostOps0 (W0 m ρ c) (Proc.devRef .tc main_v3) = _
  unfold hostOps0
  after_results_simp
  rw [show W0 m ρ c (Proc.devRef .tc main_arg2) = _ from ha]
  funext i
  pointwise []
  exact at2 A rfl (congrArg (· + (i 2).val) (Nat.mul_comm (i 0).val 1408))
include hz in
theorem entry_z : V1 m ρ c main_v9 = chips Z := by
  show StableHlo.after hostOps0 (W0 m ρ c) (Proc.devRef .tc main_v9) = _
  unfold hostOps0
  after_results_simp
  rw [show W0 m ρ c (Proc.devRef .tc main_arg3) = _ from hz]
  funext i
  pointwise []
  exact at2 Z rfl (congrArg (· + (i 2).val) (Nat.mul_comm (i 0).val 1408))
include hu in
theorem entry_u : V1 m ρ c main_v6 = packed U := by
  show StableHlo.after hostOps0 (W0 m ρ c) (Proc.devRef .tc main_v6) = _
  unfold hostOps0
  after_results_simp
  rw [show W0 m ρ c (Proc.devRef .tc main_arg4) = _ from hu]
  funext i
  pointwise []
  exact at3 U rfl rfl (congrArg (· + (i 3).val) (Nat.mul_comm (i 0).val 1408))
include hw in
theorem entry_w : V1 m ρ c main_v12 = packed W := by
  show StableHlo.after hostOps0 (W0 m ρ c) (Proc.devRef .tc main_v12) = _
  unfold hostOps0
  after_results_simp
  rw [show W0 m ρ c (Proc.devRef .tc main_arg5) = _ from hw]
  funext i
  pointwise []
  exact at3 W rfl rfl (congrArg (· + (i 3).val) (Nat.mul_comm (i 0).val 1408))

theorem idx0 : ∀ t : Fin cfg0.N, win0_0.index t = ![0, t.val, 0] ∧ win0_1.index t = ![0, 0, 0, 0] ∧ win0_2.index t = ![t.val, 0] :=
  (by decide +kernel : ∀ t : Fin grid0.N, _)

include ha in
theorem blk0_a (t : Fin cfg0.N) : iblk0 (V1 m ρ) c 0 t = fun i : S4x512x1408.Idx => (A (512 * t.val + (i 1).val) (1408 * (i 0).val + (i 2).val) : EReal) := by
  funext i
  blk_simp [iblk0, idx0 t]
  rw [entry_a m ρ c A ha]
  refine at2 A ?_ ?_ <;> (blk_simp [idx0 t]; try omega)
include hu in
theorem blk0_u (t : Fin cfg0.N) : iblk0 (V1 m ρ) c 1 t = fun i : S4x1x2048x1408.Idx => (U 0 (i 2).val (1408 * (i 0).val + (i 3).val) : EReal) := by
  funext i
  have h1 := Nat.lt_one_iff.1 (i 1).isLt
  blk_simp [iblk0, idx0 t]
  rw [entry_u m ρ c U hu]
  refine at3 U ?_ ?_ ?_ <;> (blk_simp [idx0 t]; try omega)

include ha hu in
/-- The first region leaves the first product. -/
theorem final_first : (dat0 (V1 m ρ) c).arrAt 2 cfg0.N = (up2 (first A U) : FVec Ideal S8192x2048 .f32) := by
  refine (dat0 (V1 m ρ) c).arrAt_eq_of_covers 2 _ (by decide +kernel) fun t hf y => ?_
  blk_simp
  rw [after0_2, First.body A (U 0) (512 * t.val) _ _ (blk0_a m ρ c A ha t) (blk0_u m ρ c U hu t) (win0_2.blk t).view, up2_at, up2_at]
  refine at2 (first A U) ?_ ?_ <;> (blk_simp [idx0 t]; try omega)

include ha hu in
theorem entry1_p : V2 m ρ c main_v13 = (up2 (first A U) : FVec Ideal S8192x2048 .f32) :=
  (W2_arr m ρ c 2).trans (final_first m ρ c A U ha hu)
include hg in
theorem entry1_g : V2 m ρ c main_v0 = gB G := (W2_of m ρ c main_v0 (by decide)).trans (entry_g m ρ c G hg)
include hz in
theorem entry1_z : V2 m ρ c main_v9 = chips Z := (W2_of m ρ c main_v9 (by decide)).trans (entry_z m ρ c Z hz)
include hw in
theorem entry1_w : V2 m ρ c main_v12 = packed W := (W2_of m ρ c main_v12 (by decide)).trans (entry_w m ρ c W hw)

include hx hg ha hz hu hw hd in
theorem result_dx : W3 m ρ c (Proc.devRef .tc main_v14_0) = (up2 fun t e => gx X D (dh Z (W 0) (first A U)) G t e : FVec Ideal S8192x2048 .f32) :=
  (W3_arr m ρ c 6).trans (final_dx (V2 m ρ) c X D Z (first A U) W G ((W2_args m ρ c main_arg0 (by decide)).trans hx) (entry1_g m ρ c G hg)
    ((W2_args m ρ c main_arg6 (by decide)).trans hd) (entry1_z m ρ c Z hz) (entry1_w m ρ c W hw) (entry1_p m ρ c A U ha hu))
include hx hg ha hz hu hw hd in
theorem result_dg : W3 m ρ c (Proc.devRef .tc main_v14_1) = (up2 fun _ e => gg X (dh Z (W 0) (first A U)) 8192 e : FVec Ideal S1x2048 .f32) :=
  (W3_arr m ρ c 7).trans (final_dg (V2 m ρ) c X D Z (first A U) W G ((W2_args m ρ c main_arg0 (by decide)).trans hx) (entry1_g m ρ c G hg)
    ((W2_args m ρ c main_arg6 (by decide)).trans hd) (entry1_z m ρ c Z hz) (entry1_w m ρ c W hw) (entry1_p m ρ c A U ha hu))

/-- The run at the arrays the claim names. -/
theorem run_results : θ_run defs (onTc (τ := τ) (main (F := Ideal))) ⟨m, fun _ => 0, ρ⟩ (fun r => ∀ c : Dev nD,
      r.2.mem ((c : Thread nD τ).loc main_v14_0) = W3 m ρ c (Proc.devRef .tc main_v14_0)
      ∧ r.2.mem ((c : Thread nD τ).loc main_v14_1) = W3 m ρ c (Proc.devRef .tc main_v14_1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun _ h c => ⟨h c _ (mem_uc main_v14_0 (by decide)), h c _ (mem_uc main_v14_1 (by decide)),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c)⟩) (run m ρ)

end Cert.NormKernelIdeal.Run
end
-- ==== Proof.NormReferenceValue.lean ====
/- The norm's gradient after the feed-forward as the reference computes it, over real arguments. -/
module

public import proofs.«01_k».proof.Proof.Gen.NormReferenceIdeal.Read
public import proofs.«01_k».proof.Proof.NormBlock

@[expose] public section

set_option maxRecDepth 16384

noncomputable section

namespace Cert.NormReferenceIdeal.RefValue

open Cert.NormReferenceIdeal Cert.NormReferenceIdeal.Gen Idealize.ShloMosaic Idealize.ShloMosaic.TcCoe Idealize.SL.Sem
open Cert.NormReferenceIdeal.Read Cert.Reals Cert.Attn Cert.Norm

variable (X D A Z : ℕ → ℕ → ℝ) (U W : ℕ → ℕ → ℕ → ℝ) (G : ℕ → ℝ)

/-- The gradient of the norm's output. -/
def dh (A Z : ℕ → ℕ → ℝ) (U W : ℕ → ℕ → ℕ → ℝ) (t e : ℕ) : ℝ := ∑ f : Fin 5632, Z t f * W 0 e f + ∑ f : Fin 5632, A t f * U 0 e f

/-- A list of reals as an array. -/
abbrev vec {n : ℕ} (G : ℕ → ℝ) : (⟨1, ![n]⟩ : Shape).Idx → EReal := fun i => (G (i 0).val : EReal)
theorem up1_ix {n : ℕ} (G : ℕ → ℝ) (y : Fin n) : vec G (ix1 y) = (G y.val : EReal) := rfl
theorem ext1 {n : ℕ} {f g : (⟨1, ![n]⟩ : Shape).Idx → EReal} (h : ∀ y : Fin n, f (ix1 y) = g (ix1 y)) : f = g := by
  funext i
  obtain ⟨y, rfl⟩ : ∃ y : Fin n, i = ix1 y := ⟨i 0, by funext j; refine Fin.cases rfl (fun j => j.elim0) j⟩
  exact h y

theorem v6 : val_main_v6 (F := Ideal) (up2 X) = (up2 (fun t _ => var (X t)) : FVec Ideal S8192x1 .f32) := by
  refine ext2 fun x y => ?_
  pointwise [val_main_v6, val_main_v4, val_main_v2, val_main_v1, val_main_v0, val_main_cst, val_main_v3, val_main_cst_0, val_main_v5, val_main_cst_1]
  simp only [up2_ix, ← EReal.coe_mul, sum_coe, width_f32, eps_f32, zero_add, var_coe]

theorem v7 : val_main_v7 (F := Ideal) (up2 X) = (up2 (fun t _ => rs (X t)) : FVec Ideal S8192x1 .f32) := by
  refine ext2 fun x y => ?_
  pointwise [val_main_v7]
  simp only [v6, up2_ix]
  exact rs_coe _

theorem v10 : val_main_v10 (F := Ideal) (up2 X) = (up2 (fun t _ => -(1 / 2) * (rs (X t) / var (X t))) : FVec Ideal S8192x1 .f32) := by
  refine ext2 fun x y => ?_
  pointwise [val_main_v10, val_main_v9, val_main_cst_2, val_main_v8]
  simp only [v6, v7, up2_ix, neghalf_f32]
  rw [div_real _ _ (var_pos _).ne', ← EReal.coe_mul]

theorem v12 : val_main_v12 (F := Ideal) (up2 X) = (up2 (fun t e => hat (X t) e) : FVec Ideal S8192x2048 .f32) := by
  refine ext2 fun x y => ?_
  pointwise [val_main_v12, val_main_v11]
  simp only [v7, up2_ix, ← EReal.coe_mul]
  rfl

theorem v24 : val_main_v24 (F := Ideal) (up2 A) (up2 Z) (up3 U) (up3 W) = (up2 (dh A Z U W) : FVec Ideal S8192x2048 .f32) := by
  refine ext2 fun x y => ?_
  pointwise [val_main_v24, val_main_v22, val_main_v20, val_main_v19, val_main_v23, val_main_v17, val_main_v16]
  simp only [up2_ix, up3_ix, ← EReal.coe_mul, sum_coe]
  rfl

theorem v26 : val_main_v26 (F := Ideal) (up2 X) (up2 A) (up2 Z) (up3 U) (up3 W) = (vec (gg X (dh A Z U W) 8192) : FVec Ideal S2048 .f32) := by
  refine ext1 fun x => ?_
  pointwise [val_main_v26, val_main_v25, val_main_cst_3]
  simp only [v12, v24, up2_ix, up1_ix, ← EReal.coe_mul, sum_coe, zero_add]
  refine congrArg _ ?_
  unfold gg
  rw [Finset.sum_range]
  exact Finset.sum_congr rfl fun _ _ => mul_comm _ _

theorem v46 : val_main_v46 (F := Ideal) (up2 X) (up2 A) (up2 Z) (up3 U) (up3 W) = (up2 (fun _ e => gg X (dh A Z U W) 8192 e) : FVec Ideal S1x2048 .f32) := by
  refine ext2 fun x y => ?_
  pointwise [val_main_v46, val_main_v30, val_main_v27, val_main_cst_4]
  simp only [v26, up2_ix, up1_ix, zero_add]
  simp only [Fin.sum_univ_one, up1_ix]

theorem v29 : val_main_v29 (F := Ideal) (vec G) (up2 A) (up2 Z) (up3 U) (up3 W) = (up2 (fun t e => dh A Z U W t e * G e) : FVec Ideal S8192x2048 .f32) := by
  refine ext2 fun x y => ?_
  pointwise [val_main_v29, val_main_v28, val_main_v13]
  simp only [v24, up2_ix, up1_ix, ← EReal.coe_mul]

theorem v39 : val_main_v39 (F := Ideal) (up2 X) (vec G) (up2 A) (up2 Z) (up3 U) (up3 W) = (up2 (fun t _ => (∑ e : Fin 2048, X t e * (dh A Z U W t e * G e)) * (-(1 / 2) * (rs (X t) / var (X t))) / 2048) : FVec Ideal S8192x1 .f32) := by
  refine ext2 fun x y => ?_
  pointwise [val_main_v39, val_main_v37, val_main_v33, val_main_v32, val_main_v31, val_main_cst_5, val_main_v38, val_main_cst_6]
  simp only [v10, v29, up2_ix, ← EReal.coe_mul, sum_coe, zero_add, width_f32]
  exact div_real _ _ (by norm_num)

theorem v45 : val_main_v45 (F := Ideal) (up2 X) (vec G) (up2 A) (up2 Z) (up3 U) (up3 W) (up2 D) = (up2 (fun t e => gx X D (dh A Z U W) G t e) : FVec Ideal S8192x2048 .f32) := by
  refine ext2 fun x y => ?_
  pointwise [val_main_v45, val_main_v43, val_main_v36, val_main_v35, val_main_v34, val_main_v42, val_main_v41, val_main_v40, val_main_cst_7, val_main_v44]
  simp only [v7, v29, v39, up2_ix, ← EReal.coe_mul, ← EReal.coe_add, sum_coe, Fin.sum_univ_one, zero_add]
  refine congrArg _ ?_
  unfold gx
  rw [← back_eq (X x) (fun e => dh A Z U W x e * G e) y _ rfl]
  ring

end Cert.NormReferenceIdeal.RefValue
end
-- ==== Proof.NormClaim.lean ====
/- The claim about the norm's gradient after the feed-forward: kernel and reference leave the same arrays. -/
module

public import proofs.«01_k».proof.Defs
public import proofs.«01_k».proof.Proof.Gen.Pre_norm_finite
public import proofs.«01_k».proof.Proof.NormRun
public import proofs.«01_k».proof.Proof.NormReferenceValue
public import proofs.«01_k».proof.Proof.PoolClaim

@[expose] public section

set_option maxRecDepth 16384

noncomputable section

namespace Cert.NormClaim

open Idealize.ShloMosaic Idealize.ShloMosaic.TcCoe Idealize.SL.Sem
open Cert.Reals Cert.Attn Cert.PoolClaim

/-- The reference ends with its arguments unchanged; it declares no semaphore. -/
theorem frame_reference : Cert.quiescent_NormReferenceIdeal := fun m g _ =>
  (θ_run Cert.NormReferenceIdeal.defs _ _).mono
    (fun _ h => ⟨fun c => (h c).2.2, sem_eq_zero_of_no_sems rfl _⟩) (Cert.NormReferenceIdeal.Value.run m g)

open Cert.NormKernelIdeal in
/-- A finite precondition makes every argument a table of reals. -/
theorem reals_of_pre {m : (ℓ : Loc nD τ sig) → Buf (Elt Ideal) ℓ} (h : Cert.Pre_NormKernelIdeal_norm_finite m) (c : Dev nD) :
    ∃ (X D A Z : ℕ → ℕ → ℝ) (U W : ℕ → ℕ → ℕ → ℝ) (G : ℕ → ℝ),
      m ((c : Thread nD τ).loc main_arg0) = (up2 X : FVec Ideal S8192x2048 .f32) ∧ (m ((c : Thread nD τ).loc main_arg1) = fun i : S2048.Idx => (G (i 0).val : EReal))
      ∧ m ((c : Thread nD τ).loc main_arg2) = (up2 A : FVec Ideal S8192x5632 .f32) ∧ m ((c : Thread nD τ).loc main_arg3) = (up2 Z : FVec Ideal S8192x5632 .f32)
      ∧ m ((c : Thread nD τ).loc main_arg4) = (up3 U : FVec Ideal S2x2048x5632 .f32) ∧ m ((c : Thread nD τ).loc main_arg5) = (up3 W : FVec Ideal S2x2048x5632 .f32)
      ∧ m ((c : Thread nD τ).loc main_arg6) = (up2 D : FVec Ideal S8192x2048 .f32) := by
  obtain ⟨h0, h1, h2, h3, h4, h5, h6⟩ := h c
  obtain ⟨x, hx⟩ := reals_of_finite _ _ (fun _ => rfl) h0
  obtain ⟨g, hg⟩ := reals_of_finite _ _ (fun _ => rfl) h1
  obtain ⟨a, ha⟩ := reals_of_finite _ _ (fun _ => rfl) h2
  obtain ⟨z, hz⟩ := reals_of_finite _ _ (fun _ => rfl) h3
  obtain ⟨u, hu⟩ := reals_of_finite _ _ (fun _ => rfl) h4
  obtain ⟨w, hw⟩ := reals_of_finite _ _ (fun _ => rfl) h5
  obtain ⟨d, hd⟩ := reals_of_finite _ _ (fun _ => rfl) h6
  obtain ⟨X, hX⟩ := exists_up2 x
  obtain ⟨G, hG⟩ := exists_up1 g
  obtain ⟨A, hA⟩ := exists_up2 a
  obtain ⟨Z, hZ⟩ := exists_up2 z
  obtain ⟨U, hU⟩ := exists_up3 u
  obtain ⟨W, hW⟩ := exists_up3 w
  obtain ⟨D, hD⟩ := exists_up2 d
  exact ⟨X, D, A, Z, U, W, G, hx.trans hX, hg.trans hG, ha.trans hA, hz.trans hZ, hu.trans hU, hw.trans hW, hd.trans hD⟩

/-- The sums over the columns, chip by chip, are the sums over all of them. -/
theorem dh_eq (A Z : ℕ → ℕ → ℝ) (U W : ℕ → ℕ → ℕ → ℝ) :
    Cert.NormKernelIdeal.RefValue.dh Z (W 0) (Cert.NormKernelIdeal.Run.first A U) = Cert.NormReferenceIdeal.RefValue.dh A Z U W := by
  funext t e
  unfold Cert.NormKernelIdeal.RefValue.dh Cert.NormReferenceIdeal.RefValue.dh Cert.NormKernelIdeal.Run.first
  rw [Cert.Norm.pr_eq, Cert.Norm.pr_eq, Finset.sum_range, Finset.sum_range]

theorem algebraic : Cert.algebraic_NormKernelIdeal_NormReferenceIdeal_pre_norm_finite := by
  pair_intro
  · run_from Cert.NormKernelIdeal.Run.run_results m g
  · run_from Cert.NormReferenceIdeal.Value.run m' g'
    all_goals
      obtain ⟨X, D, A, Z, U, W, G, hx, hg, ha, hz, hu, hw, hd⟩ := reals_of_pre hpre c
    · rw [Cert.NormKernelIdeal.Run.result_dx m g c X D A Z U W G hx hg ha hz hu hw hd, dh_eq, Cert.NormReferenceIdeal.Read.val_main_v45_eq, (hagree c).1, hx, (hagree c).2.1, hg, (hagree c).2.2.1, ha,
        (hagree c).2.2.2.1, hz, (hagree c).2.2.2.2.1, hu, (hagree c).2.2.2.2.2.1, hw, (hagree c).2.2.2.2.2.2, hd]
      exact Cert.NormReferenceIdeal.RefValue.v45 X D A Z U W G
    · rw [Cert.NormKernelIdeal.Run.result_dg m g c X D A Z U W G hx hg ha hz hu hw hd, dh_eq, Cert.NormReferenceIdeal.Read.val_main_v46_eq, hx, ha, hz, hu, hw]
      exact Cert.NormReferenceIdeal.RefValue.v46 X A Z U W

end Cert.NormClaim
end
-- ==== Proof.RmsKernelValue.lean ====
/- The norm: what the kernel `rmsnorm_fwd` and the reference leave, at any input. -/
module

public import proofs.«01_k».proof.Proof.Gen.RmsKernelIdeal.Value
public import proofs.«01_k».proof.Proof.Gen.RmsReferenceIdeal.Read
public import proofs.«01_k».proof.Proof.AttnArrays

@[expose] public section

set_option maxRecDepth 16384

noncomputable section

namespace Cert.RmsValue

open Idealize.ShloMosaic Idealize.ShloMosaic.TcCoe Idealize.SL.Sem
open Idealize.ShloMosaic.Pipeline (Dat)
open Cert.Reals Cert.Attn

/-- Every row divided by the root of its mean square, times the scale: at every input, infinite ones too. -/
def scaled {n : ℕ} (X : (⟨2, ![n, 2048]⟩ : Shape).Idx → EReal) (G : Fin 2048 → EReal) (i : (⟨2, ![n, 2048]⟩ : Shape).Idx) : EReal :=
  X i * Ideal.rsqrt (Ideal.div (∑ k : Fin 2048, X (ix2 (i 0) k) * X (ix2 (i 0) k)) (Ideal.ofBits .f32 0x45000000#32) + Ideal.ofBits .f32 0x358637BD#32) * G (i 1)

/-- A row's value depends on that row alone. -/
theorem scaled_row {n n' : ℕ} (X : (⟨2, ![n, 2048]⟩ : Shape).Idx → EReal) (X' : (⟨2, ![n', 2048]⟩ : Shape).Idx → EReal) (G : Fin 2048 → EReal) (x : Fin n) (x' : Fin n') (y : Fin 2048)
    (h : ∀ k, X (ix2 x k) = X' (ix2 x' k)) : scaled X G (ix2 x y) = scaled X' G (ix2 x' y) := by
  show X (ix2 x y) * Ideal.rsqrt (Ideal.div (∑ k : Fin 2048, X (ix2 x k) * X (ix2 x k)) _ + _) * G y = X' (ix2 x' y) * Ideal.rsqrt (Ideal.div (∑ k : Fin 2048, X' (ix2 x' k) * X' (ix2 x' k)) _ + _) * G y
  rw [h y, Finset.sum_congr rfl fun k _ => by rw [h k]]

section
open Cert.RmsReferenceIdeal Cert.RmsReferenceIdeal.Gen Cert.RmsReferenceIdeal.Read

theorem reference (X : FVec Ideal S8192x2048 .f32) (G : FVec Ideal S2048 .f32) : val_main_v13 (F := Ideal) X G = scaled X fun y => G (ix1 y) := by
  refine ext2 fun x y => ?_
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl
end

section
open Cert.RmsKernelIdeal Cert.RmsKernelIdeal.Gen

theorem block (X : FVec Ideal S512x2048 .f32) (G : FVec Ideal S1x2048 .f32) : k0_pay1 (F := Ideal) X G = scaled X fun y => G (ix2 0 y) := by
  refine ext2 fun x y => ?_
  pointwise [k0_pay1]
  rfl

theorem idx0 : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

theorem scale (t : Fin cfg0.N) (y : Fin 2048) : iblk m c 1 t (ix2 0 y) = m ((c : Thread nD τ).loc main_arg1) (ix1 y) := by
  blk_simp [iblk, idx0 t]
  entry_read
  pointwise
  blk_ext! [idx0 t]

theorem rows (t : Fin cfg0.N) (x : Fin 512) (k : Fin 2048) (h : 512 * t.val + x.val < 8192) : iblk m c 0 t (ix2 x k) = m ((c : Thread nD τ).loc main_arg0) (ix2 ⟨512 * t.val + x.val, h⟩ k) := by
  blk_simp [iblk, idx0 t]
  entry_read
  blk_ext! [idx0 t]

/-- The kernel's array. -/
theorem kernel : (dats m 0 c).arrAt 2 cfg0.N = scaled (m ((c : Thread nD τ).loc main_arg0)) fun y => m ((c : Thread nD τ).loc main_arg1) (ix1 y) := by
  refine (dats m 0 c).arrAt_eq_of_covers 2 _ (by decide +kernel) fun t hf y => ?_
  have ht : t.val < 16 := t.isLt
  have h0 : (y 0).val < 512 := (y 0).isLt
  blk_simp
  rw [after0_2]; frame_out
  rw [block, funext (scale m c t)]
  obtain ⟨a, b, rfl⟩ : ∃ (a : Fin 512) (b : Fin 2048), y = ix2 a b := ⟨y 0, y 1, by funext j; refine Fin.cases rfl (fun j => Fin.cases rfl (fun j => j.elim0) j) j⟩
  rw [scaled_row _ _ _ a ⟨512 * t.val + a.val, by have := a.isLt; omega⟩ b fun k => rows m c t a k (by have := a.isLt; omega)]
  refine congrArg _ ?_
  blk_ext [idx0 t]
end

end Cert.RmsValue
end
-- ==== Proof.RmsClaim.lean ====
/- The claim about the norm: kernel and reference leave the same array, at every input. -/
module

public import proofs.«01_k».proof.Defs
public import proofs.«01_k».proof.Proof.Gen.RmsReferenceIdeal.Run
public import proofs.«01_k».proof.Proof.RmsKernelValue

@[expose] public section

set_option maxRecDepth 16384

noncomputable section

namespace Cert.RmsClaim

open Idealize.ShloMosaic Idealize.ShloMosaic.TcCoe Idealize.SL.Sem

/-- The reference ends with its arguments unchanged; it declares no semaphore. -/
theorem frame_reference : Cert.quiescent_RmsReferenceIdeal := fun m g _ =>
  (θ_run Cert.RmsReferenceIdeal.defs _ _).mono
    (fun _ h => ⟨fun c => (h c).2, sem_eq_zero_of_no_sems rfl _⟩) (Cert.RmsReferenceIdeal.Value.run m g)

theorem algebraic : Cert.algebraic_RmsKernelIdeal_RmsReferenceIdeal := by
  pair_intro
  · run_from Cert.RmsKernelIdeal.Value.run_blocks m g
  · run_from Cert.RmsReferenceIdeal.Value.run m' g'
    rw [Cert.RmsValue.kernel m c]
    exact (Cert.RmsReferenceIdeal.Read.val_main_v13_eq _ _).symm.trans (Cert.RmsValue.reference _ _)

end Cert.RmsClaim
end
-- ==== Proof.PlfTile.lean ====
/- The mixer by running means, as the kernel `pool_fwd` computes one block of it: the rows are real, the matrices and the scales are anything. -/
module

public import proofs.«01_k».proof.Proof.Gen.PlfKernelIdeal.Frame
public import proofs.«01_k».proof.Proof.PoolBody

@[expose] public section

set_option maxRecDepth 16384

noncomputable section

namespace Cert.PlfKernelIdeal.RefValue

open Cert.PlfKernelIdeal Cert.PlfKernelIdeal.Gen Idealize.ShloMosaic Idealize.ShloMosaic.TcCoe Idealize.SL.Sem
open Cert.Reals Cert.Attn Cert.Pool
open Cert.PoolKernelIdeal.RefValue (xt Dt D_close rows_all xt_read)

/-- The four parts of a row through their matrices, side by side. -/
def outs (H : Pool) (W : FVec Ideal S4x128x128 .f32) (S : Fin 512 → EReal) (t : ℕ) (e : Fin 512) : EReal :=
  (∑ d : Fin 128, (H.D (e.val / 128) t d.val : EReal) * W (ix3 (⟨e.val / 128, by omega⟩ : Fin 4) d (⟨e.val % 128, by omega⟩ : Fin 128))) * S e

theorem outs_at (H : Pool) (W : FVec Ideal S4x128x128 .f32) (S : Fin 512 → EReal) (t : ℕ) (y : Fin 512) (g : Fin 4) (z : Fin 128) (h : y.val = 128 * g.val + z.val) :
    (∑ d : Fin 128, (H.D g.val t d.val : EReal) * W (ix3 g d z)) * S y = outs H W S t y := by
  have hz := z.isLt
  have e : y.val / 128 = g.val := by omega
  have hg : (⟨y.val / 128, by omega⟩ : Fin 4) = g := Fin.ext e
  have hz : (⟨y.val % 128, by omega⟩ : Fin 128) = z := Fin.ext (by show y.val % 128 = z.val; omega)
  unfold outs
  rw [hg, hz, e]

variable (H : Pool) (i : grid0.Coords) (T : ℕ) (hT : T = 512 * (i 0).val)

/-- The word that counts the rows averaged. -/
def word (i : grid0.Coords) (x n : ℕ) : BitVec 32 :=
  IntOp.minsi (IntOp.addi (IntOp.addi (Scalar.muli (BitVec.ofNat 32 (i 0).val) 512#32) (BitVec.ofNat 32 x)) 1#32) (BitVec.ofNat 32 n)

theorem word_int : ∀ (g : Fin 4) (a : Fin 16) (x : Fin 512),
    (IntOp.minsi (IntOp.addi (IntOp.addi (Scalar.muli (BitVec.ofNat 32 a.val) 512#32) (BitVec.ofNat 32 x.val)) 1#32) (BitVec.ofNat 32 (2 ^ (g.val + 1)))).toInt
      = ((min (512 * a.val + x.val + 1) (2 ^ (g.val + 1)) : ℕ) : ℤ) := by decide +kernel

include hT in
theorem cnt_word (g : Fin 4) (x : Fin 512) : (FloatOps.sitofp (F := Ideal) FTy.f32 (word i x.val (2 ^ (g.val + 1))) : EReal) = (cnt g.val (T + x.val) : EReal) := by
  have e := word_int g (i 0) x
  rw [← hT] at e
  show (((word i x.val (2 ^ (g.val + 1))).toInt : ℝ) : EReal) = _
  rw [show (word i x.val (2 ^ (g.val + 1))).toInt = _ from e]
  rfl

section
variable {σ : RefSig} {κ : Kind} {sp : Space}
/-- A load of one part's matrix. -/
theorem slab (v : View σ κ sp S4x128x128 .f32) (f : v.ty.Contents (Elt Ideal)) (W : FVec Ideal S4x128x128 .f32) (hW : v.read (Elt Ideal) f = W) (g : Fin 4)
    (inb : ∀ j, (![g.val, 0, 0] : Fin 3 → ℕ) j + S1x128x128.size j ≤ S4x128x128.size j) :
    v.readAt (Elt Ideal) (Rect.unit (s := S4x128x128) ![g.val, 0, 0] S1x128x128.size inb).toLoadRect f = fun y : S1x128x128.Idx => W (ix3 g (y 1) (y 2)) := by
  refine ext3 fun x y z => ?_
  show v.read (Elt Ideal) f _ = _
  rw [hW]
  refine congrArg W ?_
  funext j
  refine Fin.cases (Fin.ext ?_) (fun j => Fin.cases (Fin.ext ?_) (fun j => Fin.cases (Fin.ext ?_) (fun j => j.elim0) j) j) j
  · show g.val + 1 * x.val = g.val; omega
  · show 0 + 1 * y.val = y.val; omega
  · show 0 + 1 * z.val = z.val; omega
end

theorem first_word : ∀ i : grid0.Coords, Scalar.cmpi .eq (BitVec.ofNat 32 (i 0).val) 0#32 = if (i 0).val = 0 then 1#1 else 0#1 := by decide +kernel

include hT in
/-- The sixteen rows before the block; zeros before the first. -/
theorem halo (x1 : FVec Ideal S16x512 .f32) (h1 : T ≠ 0 → x1 = up2 fun r e => H.xe (T + r) e) : k0_pay1 (F := Ideal) i x1 = (up2 fun r e => H.xe (T + r) e : FVec Ideal S16x512 .f32) := by
  refine ext2 fun x y => ?_
  pointwise [k0_pay1]
  rw [first_word, up2_ix]
  by_cases h : (i 0).val = 0
  · rw [if_pos h]
    have : T = 0 := by omega
    simp only [Pool.xe, this, zero_add, if_pos x.isLt, EReal.coe_zero]
    pointwise []
  · rw [if_neg h, h1 (by omega), up2_ix]
    rfl

theorem pay2_eq (x : FVec Ideal S512x512 .f32) : k0_pay2 x = x := by
  refine ext2 fun _ _ => ?_
  pointwise [k0_pay2]

variable (v7 : FVec Ideal S512x512 .f32) (h7 : v7 = up2 fun x e => H.x (T + x) e)

include hT h7 in
theorem D_all :
    k0_pay4 i v7 (xt H T 16 0) (xt H T 15 0) = Dt H T 0
    ∧ k0_pay6 v7 (k0_pay3 i) (k0_pay5 (xt H T 16 128) (xt H T 15 128) (xt H T 14 128)) (xt H T 13 128) = Dt H T 1
    ∧ k0_pay7 v7 (k0_pay3 i) (xt H T 16 256) (xt H T 15 256) (xt H T 14 256) (xt H T 13 256) (xt H T 12 256) (xt H T 11 256) (xt H T 10 256) (xt H T 9 256) = Dt H T 2 := by
  subst h7
  unfold xt Dt
  refine ⟨ext2 fun x y => ?_, ext2 fun x y => ?_, ext2 fun x y => ?_⟩
  all_goals
    have hx : ∀ o, T + o + x.val = T + x.val + o := fun o => by omega
    pointwise [k0_pay4, k0_pay3, k0_pay6, k0_pay5, k0_pay7]
    simp only [up2_ix, ← EReal.coe_add, hx]
  · refine (congrArg₂ (· - ·) rfl (congrArg (fun n => (H.x (T + x.val) n : EReal)) (by omega))).trans (D_close H T 0 x.val y.val _ _ (cnt_word i T hT 0 x) ?_); simp [win, Finset.sum_range_succ]
  · refine (congrArg₂ (· - ·) rfl (congrArg (fun n => (H.x (T + x.val) n : EReal)) (by omega))).trans (D_close H T 1 x.val y.val _ _ (cnt_word i T hT 1 x) ?_); simp [win, Finset.sum_range_succ]
  · refine (congrArg₂ (· - ·) rfl (congrArg (fun n => (H.x (T + x.val) n : EReal)) (by omega))).trans (D_close H T 2 x.val y.val _ _ (cnt_word i T hT 2 x) ?_); simp [win, Finset.sum_range_succ]

variable (W : FVec Ideal S4x128x128 .f32) (S : FVec Ideal S1x512 .f32)

/-- One part's matrix. -/
abbrev ws (W : FVec Ideal S4x128x128 .f32) (g : Fin 4) : FVec Ideal S1x128x128 .f32 := fun y => W (ix3 g (y 1) (y 2))

include hT h7 in
theorem Y_all : k0_pay10 v7 (k0_pay3 i) (Dt H T 0) (Dt H T 1) (Dt H T 2) (k0_pay8 (xt H T 16 384) (xt H T 15 384) (xt H T 14 384) (xt H T 13 384) (xt H T 12 384) (xt H T 11 384) (xt H T 10 384) (xt H T 9 384)
        (xt H T 8 384) (xt H T 7 384) (xt H T 6 384) (xt H T 5 384) (xt H T 4 384) (xt H T 3 384) (xt H T 2 384) (xt H T 1 384)) k0_pay9 (ws W 0) (ws W 1) (ws W 2) (ws W 3) S
      = fun y : S512x512.Idx => outs H W (fun e => S (ix2 0 e)) (T + (y 0).val) (y 1) := by
  subst h7
  unfold xt Dt
  refine ext2 fun x y => ?_
  have hx : ∀ o, T + o + x.val = T + x.val + o := fun o => by omega
  have e3 : ∀ d : Fin 128, Ideal.div ((∑ k ∈ Finset.range (win 3), H.xe (T + x.val + 16 - k) (128 * 3 + d.val) : ℝ) : EReal) (FloatOps.sitofp (F := Ideal) FTy.f32 (word i x.val (2 ^ (3 + 1))) : EReal) - (H.x (T + x.val) (128 * 3 + d.val) : EReal) = (H.D 3 (T + x.val) d.val : EReal) :=
    fun d => D_close H T 3 x.val d.val _ _ (cnt_word i T hT 3 x) rfl
  pointwise [k0_pay10, k0_pay3, k0_pay8, k0_pay9]
  simp only [up2_ix, ← EReal.coe_add, hx]
  have s3 : ∀ (d : Fin 128) (u : EReal), u = ((∑ k ∈ Finset.range (win 3), H.xe (T + x.val + 16 - k) (128 * 3 + d.val) : ℝ) : EReal) →
      Ideal.div u (FloatOps.sitofp (F := Ideal) FTy.f32 (word i x.val (2 ^ (3 + 1))) : EReal) - (H.x (T + x.val) (384 + d.val) : EReal) = (H.D 3 (T + x.val) d.val : EReal) :=
    fun d u hu => by rw [hu]; exact e3 d
  have hy := y.isLt
  by_cases h0 : y.val < 128
  · rw [dif_pos h0]; exact outs_at H W (fun e => S (ix2 0 e)) (T + x.val) y 0 ⟨y.val, h0⟩ (Nat.zero_add _).symm
  rw [dif_neg h0]
  by_cases h1 : y.val - 128 < 128
  · rw [dif_pos h1]; exact outs_at H W (fun e => S (ix2 0 e)) (T + x.val) y 1 ⟨y.val - 128, h1⟩ (show y.val = 128 * 1 + (y.val - 128) by omega)
  rw [dif_neg h1]
  by_cases h2 : y.val - 128 - 128 < 128
  · rw [dif_pos h2]; exact outs_at H W (fun e => S (ix2 0 e)) (T + x.val) y 2 ⟨y.val - 128 - 128, h2⟩ (show y.val = 128 * 2 + (y.val - 128 - 128) by omega)
  rw [dif_neg h2]
  refine Eq.trans ?_ (outs_at H W (fun e => S (ix2 0 e)) (T + x.val) y 3 ⟨y.val - 128 - 128 - 128, by omega⟩ (show y.val = 128 * 3 + (y.val - 128 - 128 - 128) by omega))
  refine congrArg (· * _) (Finset.sum_congr rfl fun d _ => congrArg (· * _) (s3 d _ ?_))
  simp [win, Finset.sum_range_succ]

end Cert.PlfKernelIdeal.RefValue
end
-- ==== Proof.PlfKernelValue.lean ====
/- The mixer by running means over the whole grid: the array `pool_fwd` leaves. -/
module

public import proofs.«01_k».proof.Proof.Gen.PlfKernelIdeal.Value
public import proofs.«01_k».proof.Proof.PlfTile

@[expose] public section

set_option maxRecDepth 16384

noncomputable section

namespace Cert.PlfKernelIdeal.RefValue

open Cert.PlfKernelIdeal Cert.PlfKernelIdeal.Gen Idealize.ShloMosaic Idealize.ShloMosaic.TcCoe Idealize.SL.Sem
open Idealize.ShloMosaic.Pipeline (Dat)
open Cert.Reals Cert.Attn Cert.Pool
open Cert.PoolKernelIdeal.RefValue (xt Dt rows_all xt_read)

section
variable (H : Pool) (i : grid0.Coords) (T : ℕ) (hT : T = 512 * (i 0).val)
variable (c : Dev nD) (arg1 : Memref sig .tc .vmem S512x512 .f32) (harg1 : arg1.IsWhole) (arg2 : Memref sig .tc .vmem S16x512 .f32) (harg2 : arg2.IsWhole) (arg3 : Memref sig .tc .vmem S4x128x128 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S528x512 .f32) (harg6 : arg6.IsWhole)
  (x0 : FVec Ideal S512x512 .f32) (x1 : FVec Ideal S16x512 .f32) (x2 : FVec Ideal S4x128x128 .f32) (x3 : FVec Ideal S1x512 .f32)
  (h0 : x0 = up2 fun x e => H.x (T + x) e) (h1 : T ≠ 0 → x1 = up2 fun r e => H.xe (T + r) e)

include h0 h1 hT in
/-- What a grid point leaves. -/
theorem body : out0_A_4 (F := Ideal) c i arg1 harg1 arg2 harg2 arg3 harg3 arg4 harg4 arg5 harg5 arg6 harg6 x0 x1 x2 x3
    = fun y : S512x512.Idx => outs H x2 (fun e => x3 (ix2 0 e)) (T + (y 0).val) (y 1) := by
  have l0 : arg1.view.readAt (Elt Ideal) (Rect.unit (s := S512x512) ![0, 0] S512x512.size inb_S512x512_S512x512_0_0).toLoadRect (harg1.unread x0) = (up2 fun x e => H.x (T + x) e : FVec Ideal S512x512 .f32) := by rw [View.readAt_full, harg1.read_unread, h0]
  have l1 : k0_pay1 i (arg2.view.readAt (Elt Ideal) (Rect.unit (s := S16x512) ![0, 0] S16x512.size inb_S16x512_S16x512_0_0).toLoadRect (harg2.unread x1)) = (up2 fun r e => H.xe (T + r) e : FVec Ideal S16x512 .f32) := by rw [View.readAt_full, harg2.read_unread]; exact halo H i T hT x1 h1
  have l2 : ∀ (g : Fin 4) (b : ∀ j, (![g.val, 0, 0] : Fin 3 → ℕ) j + S1x128x128.size j ≤ S4x128x128.size j), arg3.view.readAt (Elt Ideal) (Rect.unit (s := S4x128x128) ![g.val, 0, 0] S1x128x128.size b).toLoadRect (harg3.unread x2) = ws x2 g :=
    fun g b => slab arg3.view _ x2 (harg3.read_unread (Val := Elt Ideal) x2) g b
  have l3 : arg4.view.readAt (Elt Ideal) (Rect.unit (s := S1x512) ![0, 0] S1x512.size inb_S1x512_S1x512_0_0).toLoadRect (harg4.unread x3) = x3 := by rw [View.readAt_full, harg4.read_unread]
  obtain ⟨d0, d1, d2⟩ := D_all H i T hT _ rfl
  have y := Y_all H i T hT _ rfl x2 x3
  have b6 : arg6.view.read (Elt Ideal) (arg6.view.writes (Elt Ideal) arg6.view.junk (kernelRun0_A.sl.HS0_2 (F := Ideal) c i arg1 harg1 arg2 harg2 x0 x1)) = fun i => (H.xe (T + (i 0).val) (i 1).val : EReal) := by
    unfold kernelRun0_A.sl.HS0_2
    exact rows_all H T arg6.view _ _ _ ((pay2_eq _).trans l0) l1 _ _
  have t6 := xt_read H T arg6.view _ b6
  have n0 : kernelRun0_A.sl.r (F := Ideal) c arg1 harg1 x0 = (up2 fun x e => H.x (T + x) e : FVec Ideal S512x512 .f32) := l0
  have n1 : kernelRun0_A.sl.r_1 (F := Ideal) c i arg1 harg1 arg2 harg2 arg6 x0 x1 = Dt H T 0 := by simp only [kernelRun0_A.sl.r_1, kernelRun0_A.sl.v15, kernelRun0_A.sl.v16, View.readCov, n0, l0, t6, d0]
  have n3 : kernelRun0_A.sl.r_3 (F := Ideal) c i arg1 harg1 arg2 harg2 arg6 x0 x1 = Dt H T 1 := by simp only [kernelRun0_A.sl.r_3, kernelRun0_A.sl.r_2, kernelRun0_A.sl.v27, kernelRun0_A.sl.v28, kernelRun0_A.sl.v30, kernelRun0_A.sl.v32, View.readCov, n0, t6, d1]
  have n4 : kernelRun0_A.sl.r_4 (F := Ideal) c i arg1 harg1 arg2 harg2 arg6 x0 x1 = Dt H T 2 := by simp only [kernelRun0_A.sl.r_4, kernelRun0_A.sl.v43, kernelRun0_A.sl.v44, kernelRun0_A.sl.v46, kernelRun0_A.sl.v48, kernelRun0_A.sl.v50, kernelRun0_A.sl.v52, kernelRun0_A.sl.v54, kernelRun0_A.sl.v56, View.readCov, n0, t6, d2]
  have n5 := congrArg id (Eq.refl (kernelRun0_A.sl.r_5 (F := Ideal) c i arg1 harg1 arg2 harg2 arg6 x0 x1))
  conv at n5 => rhs; simp only [id, kernelRun0_A.sl.r_5, kernelRun0_A.sl.v67, kernelRun0_A.sl.v68, kernelRun0_A.sl.v70, kernelRun0_A.sl.v72, kernelRun0_A.sl.v74, kernelRun0_A.sl.v76, kernelRun0_A.sl.v78, kernelRun0_A.sl.v80, kernelRun0_A.sl.v82, kernelRun0_A.sl.v84, kernelRun0_A.sl.v86, kernelRun0_A.sl.v88, kernelRun0_A.sl.v90, kernelRun0_A.sl.v92, kernelRun0_A.sl.v94, kernelRun0_A.sl.v96, View.readCov, t6]
  unfold out0_A_4 kernelRun0_A
  dsimp only
  refine (View.read_writes_full _ _ _ _ _).trans ?_
  have m0 := l2 0 inb_S4x128x128_S1x128x128_0_0_0
  have m1 := l2 1 inb_S4x128x128_S1x128x128_1_0_0
  have m2 := l2 2 inb_S4x128x128_S1x128x128_2_0_0
  have m3 := l2 3 inb_S4x128x128_S1x128x128_3_0_0
  rw [n0, n1, n3, n4, show kernelRun0_A.sl.r_5 (F := Ideal) c i arg1 harg1 arg2 harg2 arg6 x0 x1 = _ from n5, l3]
  refine (congr (congr (congr (congrArg₂ (k0_pay10 _ _ _ _ _ _ _) m0 m1) m2) m3) rfl).trans y
end

theorem idx0 : ∀ t : Fin cfg0.N, win0_0.index t = ![t.val, 8] ∧ win0_1.index t = ![32 * t.val - 1, 8]
    ∧ win0_2.index t = ![0, 0, 0] ∧ win0_3.index t = ![0, 0] ∧ win0_4.index t = ![t.val, 0] ∧ (grid0.coords t 0).val = t.val :=
  (by decide +kernel : ∀ t : Fin grid0.N, _)

theorem at2 (f : ℕ → ℕ → ℝ) {a b a' b' : ℕ} (ha : a = a') (hb : b = b') : (f a b : EReal) = (f a' b' : EReal) := by rw [ha, hb]

variable (m : (ℓ : Loc nD τ sig) → Buf (Elt Ideal) ℓ) (c : Dev nD) (Z : ℕ → ℕ → ℝ)
  (hz : m ((c : Thread nD τ).loc main_arg0) = (up2 Z : FVec Ideal S8192x4608 .f32))

/-- The rows mixed; nothing is asked of the rest. -/
abbrev rows (Z : ℕ → ℕ → ℝ) : Pool := pl Z (fun _ _ => 0) (fun _ _ _ => 0) fun _ => 0

include hz in
theorem V0 : V m c main_arg0 = (up2 Z : FVec Ideal S8192x4608 .f32) := by unfold V hostOps0; after_results_simp; exact hz
theorem V1 : V m c main_arg1 = m ((c : Thread nD τ).loc main_arg1) := by unfold V hostOps0; after_results_simp
theorem V2 (e : Fin 512) : (V m c main_v0 : FVec Ideal S1x512 .f32) (ix2 0 e) = (m ((c : Thread nD τ).loc main_arg2) : FVec Ideal S512 .f32) (ix1 e) := by
  unfold V hostOps0
  after_results_simp
  pointwise []

include hz in
theorem blk0 (t : Fin cfg0.N) : iblk m c 0 t = (up2 fun x e => (rows Z).x (512 * t.val + x) e : FVec Ideal S512x512 .f32) := by
  refine ext2 fun x y => ?_
  blk_simp [iblk, idx0 t]
  rw [V0 m c Z hz, up2_at, up2_ix]
  refine at2 Z ?_ ?_ <;> (blk_simp [idx0 t]; try omega)

include hz in
theorem blk1 (t : Fin cfg0.N) (h : 512 * t.val ≠ 0) : iblk m c 1 t = (up2 fun r e => (rows Z).xe (512 * t.val + r) e : FVec Ideal S16x512 .f32) := by
  refine ext2 fun x y => ?_
  blk_simp [iblk, idx0 t]
  rw [V0 m c Z hz, up2_at, up2_ix, Pool.xe, if_neg (by omega)]
  refine at2 Z ?_ ?_ <;> (blk_simp [idx0 t]; try omega)

theorem blk2 (t : Fin cfg0.N) : iblk m c 2 t = m ((c : Thread nD τ).loc main_arg1) := by
  refine ext3 fun x y z => ?_
  blk_simp [iblk, idx0 t]
  rw [V1 m c]
  refine congrArg (m ((c : Thread nD τ).loc main_arg1)) ?_
  funext j
  refine Fin.cases ?_ (fun j => Fin.cases ?_ (fun j => Fin.cases ?_ (fun j => j.elim0) j) j) j <;> refine Fin.ext ?_ <;> (blk_simp [idx0 t]; try exact (congrArg (· + _) (Nat.zero_mul _)).trans (Nat.zero_add _))

theorem blk3 (t : Fin cfg0.N) (e : Fin 512) : (iblk m c 3 t : FVec Ideal S1x512 .f32) (ix2 0 e) = (m ((c : Thread nD τ).loc main_arg2) : FVec Ideal S512 .f32) (ix1 e) := by
  rw [← V2 m c e]
  blk_simp [iblk, idx0 t]
  refine congrArg (V m c main_v0) ?_
  funext j
  refine Fin.cases ?_ (fun j => Fin.cases ?_ (fun j => j.elim0) j) j <;> refine Fin.ext ?_ <;> (blk_simp [idx0 t]; try exact (congrArg (· + _) (Nat.zero_mul _)).trans (Nat.zero_add _))

include hz in
/-- The array left, for real rows and any matrices and scales. -/
theorem final : (dats m 0 c).arrAt 4 cfg0.N = (fun i : S8192x512.Idx => outs (rows Z) (m ((c : Thread nD τ).loc main_arg1)) (fun e => (m ((c : Thread nD τ).loc main_arg2) : FVec Ideal S512 .f32) (ix1 e)) (i 0).val (i 1)) := by
  refine (dats m 0 c).arrAt_eq_of_covers 4 _ (by decide +kernel) fun t hf y => ?_
  have hT : 512 * t.val = 512 * (grid0.coords t 0).val := by rw [(idx0 t).2.2.2.2.2]
  have b := body (rows Z) (grid0.coords t) (512 * t.val) hT c (ms0_0 t) (hs0_0 t) (ms0_1 t) (hs0_1 t) (ms0_2 t) (hs0_2 t) (ms0_3 t) (hs0_3 t) (ms0_4 t) (hs0_4 t) scM0_0 (Memref.isWhole_whole _)
    (iblk m c 0 t) (iblk m c 1 t) (iblk m c 2 t) (iblk m c 3 t) (blk0 m c Z hz t) (blk1 m c Z hz t)
  blk_simp
  rw [after0_4]
  unfold outsAt0
  refine (congrFun b y).trans ?_
  refine congr (congr (congrArg₂ (outs _) (blk2 m c t) (funext (blk3 m c t))) ?_) (Fin.ext ?_) <;> (blk_simp [idx0 t]; try omega)

end Cert.PlfKernelIdeal.RefValue
end
-- ==== Proof.PlfReferenceValue.lean ====
/- The mixer by running means as the reference computes it, for real rows and any matrices and scales. -/
module

public import proofs.«01_k».proof.Proof.Gen.PlfReferenceIdeal.Read
public import proofs.«01_k».proof.Proof.PoolReferenceValue
public import proofs.«01_k».proof.Proof.PlfKernelValue

@[expose] public section

set_option maxRecDepth 16384

noncomputable section

namespace Cert.PlfReferenceIdeal.RefValue

open Cert.PlfReferenceIdeal Cert.PlfReferenceIdeal.Gen Idealize.ShloMosaic Idealize.ShloMosaic.TcCoe Idealize.SL.Sem
open Cert.PlfReferenceIdeal.Read Cert.Reals Cert.Attn Cert.Pool
open Cert.PoolReferenceIdeal.RefValue (rows_sum part sides at2')
open Cert.PlfKernelIdeal.RefValue (outs rows)

variable (Z : ℕ → ℕ → ℝ) (W : FVec Ideal S4x128x128 .f32) (S : FVec Ideal S512 .f32)

theorem v1 : val_main_v1 (F := Ideal) (up2 Z) = up3 fun t g i => (rows Z).x t (128 * g + i) := by
  refine ext3 fun x y z => ?_
  pointwise [val_main_v1, val_main_v0]
  exact at2' Z rfl (show 4096 + (y.val * 128 + z.val) = 4096 + (128 * y.val + z.val) by omega)

theorem v2 : val_main_v2 (F := Ideal) (up2 Z) = up3 fun t g i => ∑ s ∈ Finset.range (t + 1), (rows Z).x s (128 * g + i) := by
  refine ext3 fun x y z => ?_
  unfold val_main_v2
  rw [v1 Z]
  refine (rows_sum (n := 8192) (l := 8191) _ _ _ _ ?_ x y z).trans ?_
  · pointwise [val_main_call0_call0_v0, val_main_call0_call0_cst]
    exact EReal.coe_zero.symm
  · rw [up3_ix]
    exact congrArg _ (window_upto (fun s => (rows Z).x s (128 * y.val + z.val)) x.val x.isLt)

theorem v20 : val_main_v20 (F := Ideal) (up2 Z) = up2 fun t i => (rows Z).D 0 t i := by
  refine ext2 fun x y => ?_
  pointwise [val_main_v20, val_main_v17, val_main_v15, val_main_v5, val_main_v4, val_main_v8, val_main_v6, val_main_cst, val_main_v7, val_main_v16, val_main_v14, val_main_v13, val_main_v12, val_main_v10, val_main_v3, val_main_v9, val_main_c, val_main_v11, val_main_c_0, val_main_v19, val_main_v18]
  simp only [v1 Z, v2 Z, up3_ix]
  exact part _ 0 x y.val

theorem v37 : val_main_v37 (F := Ideal) (up2 Z) = up2 fun t i => (rows Z).D 1 t i := by
  refine ext2 fun x y => ?_
  pointwise [val_main_v37, val_main_v34, val_main_v32, val_main_v22, val_main_v21, val_main_v25, val_main_v23, val_main_cst_1, val_main_v24, val_main_v33, val_main_v31, val_main_v30, val_main_v29, val_main_v27, val_main_v3, val_main_v26, val_main_c_2, val_main_v28, val_main_c_3, val_main_v36, val_main_v35]
  simp only [v1 Z, v2 Z, up3_ix]
  exact part _ 1 x y.val

theorem v54 : val_main_v54 (F := Ideal) (up2 Z) = up2 fun t i => (rows Z).D 2 t i := by
  refine ext2 fun x y => ?_
  pointwise [val_main_v54, val_main_v51, val_main_v49, val_main_v39, val_main_v38, val_main_v42, val_main_v40, val_main_cst_4, val_main_v41, val_main_v50, val_main_v48, val_main_v47, val_main_v46, val_main_v44, val_main_v3, val_main_v43, val_main_c_5, val_main_v45, val_main_c_6, val_main_v53, val_main_v52]
  simp only [v1 Z, v2 Z, up3_ix]
  exact part _ 2 x y.val

theorem v71 : val_main_v71 (F := Ideal) (up2 Z) = up2 fun t i => (rows Z).D 3 t i := by
  refine ext2 fun x y => ?_
  pointwise [val_main_v71, val_main_v68, val_main_v66, val_main_v56, val_main_v55, val_main_v59, val_main_v57, val_main_cst_7, val_main_v58, val_main_v67, val_main_v65, val_main_v64, val_main_v63, val_main_v61, val_main_v3, val_main_v60, val_main_c_8, val_main_v62, val_main_c_9, val_main_v70, val_main_v69]
  simp only [v1 Z, v2 Z, up3_ix]
  exact part _ 3 x y.val

theorem v76 : val_main_v76 (F := Ideal) (up2 Z) = up3 fun t g i => (rows Z).D g t i := by
  refine ext3 fun x y z => ?_
  pointwise [val_main_v76, val_main_v75, val_main_v74, val_main_v73, val_main_v72]
  simp only [v20 Z, v37 Z, v54 Z, v71 Z, up2_ix]
  exact sides (fun g => (rows Z).D g x.val z.val) y.val y.isLt

theorem v83 : val_main_v83 (F := Ideal) (up2 Z) W S = fun i : S8192x512.Idx => outs (rows Z) W (fun e => S (ix1 e)) (i 0).val (i 1) := by
  refine ext2 fun x y => ?_
  pointwise [val_main_v83, val_main_v82, val_main_v81, val_main_v80, val_main_v79, val_main_v78, val_main_v77]
  simp only [v76 Z, up3_ix]
  exact congrArg (· * S (ix1 y)) (Finset.sum_congr rfl fun i _ => mul_comm _ _)

end Cert.PlfReferenceIdeal.RefValue
end
-- ==== Proof.PlfClaim.lean ====
/- The claim about the mixer by running means: kernel and reference leave the same array, for real projections. -/
module

public import proofs.«01_k».proof.Defs
public import proofs.«01_k».proof.Proof.Gen.Pre_plf_finite
public import proofs.«01_k».proof.Proof.Gen.PlfReferenceIdeal.Run
public import proofs.«01_k».proof.Proof.PlfReferenceValue

@[expose] public section

set_option maxRecDepth 16384

noncomputable section

namespace Cert.PlfClaim

open Idealize.ShloMosaic Idealize.ShloMosaic.TcCoe Idealize.SL.Sem
open Cert.Reals Cert.Attn Cert.Pool

/-- The reference ends with its arguments unchanged; it declares no semaphore. -/
theorem frame_reference : Cert.quiescent_PlfReferenceIdeal := fun m g _ =>
  (θ_run Cert.PlfReferenceIdeal.defs _ _).mono
    (fun _ h => ⟨fun c => (h c).2, sem_eq_zero_of_no_sems rfl _⟩) (Cert.PlfReferenceIdeal.Value.run m g)

open Cert.PlfKernelIdeal in
/-- A finite precondition makes the projections a table of reals. -/
theorem reals_of_pre {m : (ℓ : Loc nD τ sig) → Buf (Elt Ideal) ℓ} (h : Cert.Pre_PlfKernelIdeal_plf_finite m) (c : Dev nD) :
    ∃ Z : ℕ → ℕ → ℝ, m ((c : Thread nD τ).loc main_arg0) = (up2 Z : FVec Ideal S8192x4608 .f32) := by
  obtain ⟨z, hz⟩ := reals_of_finite _ _ (fun _ => rfl) (h c)
  obtain ⟨Z, hZ⟩ := exists_up2 z
  exact ⟨Z, hz.trans hZ⟩

theorem algebraic : Cert.algebraic_PlfKernelIdeal_PlfReferenceIdeal_pre_plf_finite := by
  pair_intro
  · run_from Cert.PlfKernelIdeal.Value.run_blocks m g
  · run_from Cert.PlfReferenceIdeal.Value.run m' g'
    obtain ⟨Z, hz⟩ := reals_of_pre hpre c
    rw [Cert.PlfKernelIdeal.RefValue.final m c Z hz, Cert.PlfReferenceIdeal.Read.val_main_v83_eq]
    have e0 := (hagree c).1.trans hz
    refine Eq.trans ?_ (Cert.PlfReferenceIdeal.RefValue.v83 Z _ _)
    rw [e0, (hagree c).2.1, (hagree c).2.2]

end Cert.PlfClaim
end
-- ==== Proof.InpKernelValue.lean ====
/- The product before the mixers: what the kernel `mix_in` and the reference leave, at any input. -/
module

public import proofs.«01_k».proof.Proof.Gen.InpKernelIdeal.Value
public import proofs.«01_k».proof.Proof.Gen.InpReferenceIdeal.Read
public import proofs.«01_k».proof.Proof.AttnArrays

@[expose] public section

set_option maxRecDepth 16384

noncomputable section

namespace Cert.InpValue

open Idealize.ShloMosaic Idealize.ShloMosaic.TcCoe Idealize.SL.Sem
open Idealize.ShloMosaic.Pipeline (Dat)
open Cert.Reals Cert.Attn

/-- The rows times the first layer's matrix. -/
def prod (H : (⟨2, ![8192, 2048]⟩ : Shape).Idx → EReal) (W : (⟨3, ![2, 2048, 4608]⟩ : Shape).Idx → EReal) (i : (⟨2, ![8192, 4608]⟩ : Shape).Idx) : EReal :=
  ∑ k : Fin 2048, H (ix2 (i 0) k) * W (ix3 0 k (i 1))

section
open Cert.InpReferenceIdeal Cert.InpReferenceIdeal.Gen Cert.InpReferenceIdeal.Read

theorem reference (H : FVec Ideal S8192x2048 .f32) (W : FVec Ideal S2x2048x4608 .f32) : val_main_v2 (F := Ideal) H W = prod H W := by
  refine ext2 fun x y => ?_
  pointwise [val_main_v2, val_main_v1, val_main_v0]
  rfl

theorem reference' (H : FVec Ideal S8192x2048 .f32) (W : FVec Ideal S2x2048x4608 .f32) : val_main_v3 (F := Ideal) H W = prod H W := by
  refine ext2 fun x y => ?_
  pointwise [val_main_v3]
  rw [reference]
end

section
open Cert.InpKernelIdeal Cert.InpKernelIdeal.Gen

/-- A block of the product. -/
theorem block (H : FVec Ideal S512x2048 .bf16) (W : FVec Ideal S1x1x2048x1152 .bf16) (x : Fin 512) (y : Fin 1152) :
    k0_pay1 (F := Ideal) H W (ix2 x y) = ∑ k : Fin 2048, H (ix2 x k) * W (ix4 0 0 k y) := by
  pointwise [k0_pay1]

theorem block' (H : FVec Ideal S512x2048 .bf16) (W : FVec Ideal S1x1x2048x1152 .bf16) (x : Fin 512) (y : Fin 1152) :
    k0_pay2 (F := Ideal) H W (ix2 x y) = ∑ k : Fin 2048, H (ix2 x k) * W (ix4 0 0 k y) := by
  rw [← block]
  pointwise [k0_pay2]

theorem idx0 : ∀ t : Fin cfg0.N, win0_0.index t = ![t.val % 16, 0] ∧ win0_1.index t = ![t.val / 16, 0, 0, 0] ∧ win0_2.index t = ![t.val % 16, t.val / 16]
    ∧ win0_3.index t = ![t.val % 16, t.val / 16] :=
  (by decide +kernel : ∀ t : Fin grid0.N, _)

variable (m : (ℓ : Loc nD τ sig) → Buf (Elt Ideal) ℓ) (c : Dev nD)

theorem rows (t : Fin cfg0.N) (x : Fin 512) (k : Fin 2048) (h : 512 * (t.val % 16) + x.val < 8192) :
    iblk m c 0 t (ix2 x k) = m ((c : Thread nD τ).loc main_arg0) (ix2 ⟨512 * (t.val % 16) + x.val, h⟩ k) := by
  blk_simp [iblk, idx0 t]
  entry_read
  pointwise
  blk_ext! [idx0 t]

theorem cols (t : Fin cfg0.N) (k : Fin 2048) (y : Fin 1152) (h : 1152 * (t.val / 16) + y.val < 4608) :
    iblk m c 1 t (ix4 0 0 k y) = m ((c : Thread nD τ).loc main_arg1) (ix3 0 k ⟨1152 * (t.val / 16) + y.val, h⟩) := by
  blk_simp [iblk, idx0 t]
  entry_read
  pointwise
  blk_ext! [idx0 t]

/-- The kernel's first array. -/
theorem kernel : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have ht : t.val < 64 := t.isLt
  blk_simp
  rw [after0_2]; frame_out
  obtain ⟨a, b, rfl⟩ : ∃ (a : Fin 512) (b : Fin 1152), y = ix2 a b := ⟨y 0, y 1, by funext j; refine Fin.cases rfl (fun j => Fin.cases rfl (fun j => j.elim0) j) j⟩
  have ha := a.isLt
  have hb := b.isLt
  refine (block _ _ a b).trans ((Finset.sum_congr rfl fun k _ => congrArg₂ (fun a b : EReal => a * b) (rows m c t a k (by omega)) (cols m c t k b (by omega))).trans ?_)
  refine congrArg (prod (m ((c : Thread nD τ).loc main_arg0)) (m ((c : Thread nD τ).loc main_arg1))) (?_ : ix2 _ _ = _)
  blk_ext [idx0 t]

/-- The kernel's second array. -/
theorem kernel' : (dats m 0 c).arrAt 3 cfg0.N = prod (m ((c : Thread nD τ).loc main_arg0)) (m ((c : Thread nD τ).loc main_arg1)) := by
  refine (dats m 0 c).arrAt_eq_of_covers 3 _ (by decide +kernel) fun t hf y => ?_
  have ht : t.val < 64 := t.isLt
  blk_simp
  rw [after0_3]; frame_out
  obtain ⟨a, b, rfl⟩ : ∃ (a : Fin 512) (b : Fin 1152), y = ix2 a b := ⟨y 0, y 1, by funext j; refine Fin.cases rfl (fun j => Fin.cases rfl (fun j => j.elim0) j) j⟩
  have ha := a.isLt
  have hb := b.isLt
  refine (block' _ _ a b).trans ((Finset.sum_congr rfl fun k _ => congrArg₂ (fun a b : EReal => a * b) (rows m c t a k (by omega)) (cols m c t k b (by omega))).trans ?_)
  refine congrArg (prod (m ((c : Thread nD τ).loc main_arg0)) (m ((c : Thread nD τ).loc main_arg1))) (?_ : ix2 _ _ = _)
  blk_ext [idx0 t]
end

end Cert.InpValue
end
-- ==== Proof.InpClaim.lean ====
/- The claim about the mixers' input projection: kernel and reference leave the same arrays, at any input. -/
module

public import proofs.«01_k».proof.Defs
public import proofs.«01_k».proof.Proof.Gen.InpReferenceIdeal.Run
public import proofs.«01_k».proof.Proof.InpKernelValue

@[expose] public section

set_option maxRecDepth 16384

noncomputable section

namespace Cert.InpClaim

open Idealize.ShloMosaic Idealize.ShloMosaic.TcCoe Idealize.SL.Sem

/-- The reference ends with its arguments unchanged; it declares no semaphore. -/
theorem frame_reference : Cert.quiescent_InpReferenceIdeal := fun m g _ =>
  (θ_run Cert.InpReferenceIdeal.defs _ _).mono
    (fun _ h => ⟨fun c => (h c).2.2, sem_eq_zero_of_no_sems rfl _⟩) (Cert.InpReferenceIdeal.Value.run m g)

theorem algebraic : Cert.algebraic_InpKernelIdeal_InpReferenceIdeal := by
  pair_intro
  · run_from Cert.InpKernelIdeal.Value.run_blocks m g
  · run_from Cert.InpReferenceIdeal.Value.run m' g'
    · rw [Cert.InpValue.kernel m c]
      exact (Cert.InpReferenceIdeal.Read.val_main_v2_eq _ _).symm.trans (Cert.InpValue.reference _ _)
    · rw [Cert.InpValue.kernel' m c]
      exact (Cert.InpReferenceIdeal.Read.val_main_v3_eq _ _).symm.trans (Cert.InpValue.reference' _ _)

end Cert.InpClaim
end
-- ==== Proof.MobKernelValue.lean ====
/- The cotangent of the mixers' joint output: what the kernel `mix_out_bwd` and the reference leave, at any input. -/
module

public import proofs.«01_k».proof.Proof.Gen.MobKernelIdeal.Value
public import proofs.«01_k».proof.Proof.Gen.MobReferenceIdeal.Read
public import proofs.«01_k».proof.Proof.AttnArrays

@[expose] public section

set_option maxRecDepth 16384

noncomputable section

namespace Cert.MobValue

open Idealize.ShloMosaic Idealize.ShloMosaic.TcCoe Idealize.SL.Sem
open Idealize.ShloMosaic.Pipeline (Dat)
open Cert.Reals Cert.Attn

/-- The rows times the transpose of the first layer's matrix. -/
def prod (D : (⟨2, ![8192, 2048]⟩ : Shape).Idx → EReal) (W : (⟨3, ![2, 2048, 2048]⟩ : Shape).Idx → EReal) (i : (⟨2, ![8192, 2048]⟩ : Shape).Idx) : EReal :=
  ∑ k : Fin 2048, D (ix2 (i 0) k) * W (ix3 0 (i 1) k)

section
open Cert.MobReferenceIdeal Cert.MobReferenceIdeal.Gen Cert.MobReferenceIdeal.Read

theorem reference (D : FVec Ideal S8192x2048 .f32) (W : FVec Ideal S2x2048x2048 .f32) : val_main_v4 (F := Ideal) D W = prod D W := by
  refine ext2 fun x y => ?_
  pointwise [val_main_v4, val_main_v2, val_main_v1]
  rfl
end

section
open Cert.MobKernelIdeal Cert.MobKernelIdeal.Gen

/-- A block of the product. -/
theorem block (D : FVec Ideal S512x2048 .f32) (W : FVec Ideal S1x1x512x2048 .bf16) (x y : Fin 512) :
    k0_pay1 (F := Ideal) D W (ix2 x y) = ∑ k : Fin 2048, D (ix2 x k) * W (ix4 0 0 y k) := by
  pointwise [k0_pay1]

theorem idx0 : ∀ t : Fin cfg0.N, win0_0.index t = ![t.val % 16, 0] ∧ win0_1.index t = ![t.val / 16, 0, 0, 0] ∧ win0_2.index t = ![t.val % 16, t.val / 16] :=
  (by decide +kernel : ∀ t : Fin grid0.N, _)

variable (m : (ℓ : Loc nD τ sig) → Buf (Elt Ideal) ℓ) (c : Dev nD)

theorem rows (t : Fin cfg0.N) (x : Fin 512) (k : Fin 2048) (h : 512 * (t.val % 16) + x.val < 8192) :
    iblk m c 0 t (ix2 x k) = m ((c : Thread nD τ).loc main_arg0) (ix2 ⟨512 * (t.val % 16) + x.val, h⟩ k) := by
  blk_simp [iblk, idx0 t]
  entry_read
  blk_ext! [idx0 t]

theorem cols (t : Fin cfg0.N) (y : Fin 512) (k : Fin 2048) (h : 512 * (t.val / 16) + y.val < 2048) :
    iblk m c 1 t (ix4 0 0 y k) = m ((c : Thread nD τ).loc main_arg1) (ix3 0 ⟨512 * (t.val / 16) + y.val, h⟩ k) := by
  blk_simp [iblk, idx0 t]
  entry_read
  pointwise
  blk_ext! [idx0 t]

/-- The kernel's array. -/
theorem kernel : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have ht : t.val < 64 := t.isLt
  blk_simp
  rw [after0_2]; frame_out
  obtain ⟨a, b, rfl⟩ : ∃ (a b : Fin 512), y = ix2 a b := ⟨y 0, y 1, by funext j; refine Fin.cases rfl (fun j => Fin.cases rfl (fun j => j.elim0) j) j⟩
  have ha := a.isLt
  have hb := b.isLt
  refine (block _ _ a b).trans ((Finset.sum_congr rfl fun k _ => congrArg₂ (fun a b : EReal => a * b) (rows m c t a k (by omega)) (cols m c t b k (by omega))).trans ?_)
  refine congrArg (prod (m ((c : Thread nD τ).loc main_arg0)) (m ((c : Thread nD τ).loc main_arg1))) (?_ : ix2 _ _ = _)
  blk_ext [idx0 t]
end

end Cert.MobValue
end
-- ==== Proof.MobClaim.lean ====
/- The claim about the cotangent of the mixers' joint output: kernel and reference leave the same arrays, at any input. -/
module

public import proofs.«01_k».proof.Defs
public import proofs.«01_k».proof.Proof.Gen.MobReferenceIdeal.Run
public import proofs.«01_k».proof.Proof.MobKernelValue

@[expose] public section

set_option maxRecDepth 16384

noncomputable section

namespace Cert.MobClaim

open Idealize.ShloMosaic Idealize.ShloMosaic.TcCoe Idealize.SL.Sem

/-- The reference ends with its arguments unchanged; it declares no semaphore. -/
theorem frame_reference : Cert.quiescent_MobReferenceIdeal := fun m g _ =>
  (θ_run Cert.MobReferenceIdeal.defs _ _).mono
    (fun _ h => ⟨fun c => (h c).2, sem_eq_zero_of_no_sems rfl _⟩) (Cert.MobReferenceIdeal.Value.run m g)

theorem algebraic : Cert.algebraic_MobKernelIdeal_MobReferenceIdeal := by
  pair_intro
  · run_from Cert.MobKernelIdeal.Value.run_blocks m g
  · run_from Cert.MobReferenceIdeal.Value.run m' g'
    rw [Cert.MobValue.kernel m c]
    exact (Cert.MobReferenceIdeal.Read.val_main_v4_eq _ _).symm.trans (Cert.MobValue.reference _ _)

end Cert.MobClaim
end
-- ==== Proof.WgrKernelValue.lean ====
/- The gradient of a gate's weight: what the kernel `weight_grad` and the reference leave, at any input. -/
module

public import proofs.«01_k».proof.Proof.Gen.WgrKernelIdeal.Value
public import proofs.«01_k».proof.Proof.Gen.WgrReferenceIdeal.Read
public import proofs.«01_k».proof.Proof.AttnArrays

@[expose] public section

set_option maxRecDepth 16384

noncomputable section

namespace Cert.WgrValue

open Idealize.ShloMosaic Idealize.ShloMosaic.TcCoe Idealize.SL.Sem
open Idealize.ShloMosaic.Pipeline (Dat)
open Cert.Reals Cert.Attn

/-- What the row `k` of all 8192 adds to an element of the weight's gradient, its columns by the four chips. -/
def term (H : (⟨2, ![8192, 2048]⟩ : Shape).Idx → EReal) (A : (⟨2, ![8192, 5632]⟩ : Shape).Idx → EReal) (i : (⟨3, ![4, 2048, 1408]⟩ : Shape).Idx) (k : Fin 8192) : EReal :=
  H (ix2 k (i 1)) * A (ix2 k ⟨1408 * (i 0).val + (i 2).val, by have h0 : (i 0).val < 4 := (i 0).isLt; have h2 : (i 2).val < 1408 := (i 2).isLt; omega⟩)

/-- The transpose of the rows times the cotangent. -/
def prod (H : (⟨2, ![8192, 2048]⟩ : Shape).Idx → EReal) (A : (⟨2, ![8192, 5632]⟩ : Shape).Idx → EReal) (i : (⟨3, ![4, 2048, 1408]⟩ : Shape).Idx) : EReal :=
  ∑ k : Fin 8192, term H A i k

/-- What 1024 rows add. -/
def addend (H : (⟨2, ![1024, 1024]⟩ : Shape).Idx → EReal) (A : (⟨3, ![1, 1024, 1408]⟩ : Shape).Idx → EReal) (y : Fin 1024) (z : Fin 1408) : EReal :=
  ∑ k : Fin 1024, H (ix2 k y) * A (ix3 0 k z)

section
open Cert.WgrReferenceIdeal Cert.WgrReferenceIdeal.Gen Cert.WgrReferenceIdeal.Read

theorem reference (H : FVec Ideal S8192x2048 .f32) (A : FVec Ideal S8192x5632 .f32) : val_main_v5 (F := Ideal) H A = prod H A := by
  refine ext3 fun x y z => ?_
  pointwise [val_main_v5, val_main_v4, val_main_v3, val_main_v2]
  refine Finset.sum_congr rfl fun k _ => ?_
  rw [mul_comm]
  refine congrArg₂ (fun a b : EReal => a * b) rfl (congrArg A (congrArg (ix2 k) (Fin.ext ?_)))
  show x.val * 1408 + z.val = 1408 * x.val + z.val
  omega
end

section
open Cert.WgrKernelIdeal Cert.WgrKernelIdeal.Gen Cert.WgrKernelIdeal.Value

/-- A point adds the product over its rows to what the points before left. -/
theorem block (A : FVec Ideal S1x1024x1408 .bf16) (o : FVec Ideal S1x1024x1408 .f32) (H : FVec Ideal S1024x1024 .bf16) (x : Fin 1) (y : Fin 1024) (z : Fin 1408) :
    k0_pay2 (F := Ideal) A o H (ix3 x y z) = o (ix3 0 y z) + addend H A y z := by
  pointwise [k0_pay2]
  rfl

theorem first (x : Fin 1) (y : Fin 1024) (z : Fin 1408) : k0_pay1 (F := Ideal) (ix3 x y z) = 0 := by
  pointwise [k0_pay1]

theorem idx0 : ∀ t : Fin cfg0.N, win0_0.index t = ![t.val % 8, t.val / 8 % 2] ∧ win0_1.index t = ![t.val / 16, t.val % 8, 0] :=
  (by decide +kernel : ∀ t : Fin grid0.N, _)

variable (m : (ℓ : Loc nD τ sig) → Buf (Elt Ideal) ℓ) (c : Dev nD)

theorem rows (t : Fin cfg0.N) (k : Fin 1024) (y : Fin 1024) (h : 1024 * (t.val % 8) + k.val < 8192) (h' : 1024 * (t.val / 8 % 2) + y.val < 2048) :
    iblk m c 0 t (ix2 k y) = m ((c : Thread nD τ).loc main_arg0) (ix2 ⟨1024 * (t.val % 8) + k.val, h⟩ ⟨1024 * (t.val / 8 % 2) + y.val, h'⟩) := by
  blk_simp [iblk, idx0 t]
  entry_read
  pointwise
  blk_ext! [idx0 t]

theorem cols (t : Fin cfg0.N) (k : Fin 1024) (z : Fin 1408) (h : 1024 * (t.val % 8) + k.val < 8192) (h' : 1408 * (t.val / 16) + z.val < 5632) :
    iblk m c 1 t (ix3 0 k z) = m ((c : Thread nD τ).loc main_arg1) (ix2 ⟨1024 * (t.val % 8) + k.val, h⟩ ⟨1408 * (t.val / 16) + z.val, h'⟩) := by
  blk_simp [iblk, idx0 t]
  entry_read
  pointwise
  blk_ext! [idx0 t]

/-- What a point adds. -/
theorem part (i : S4x2048x1408.Idx) (j : ℕ) (hj : j < 8) (h : 8 * run2Of i + j < cfg0.N) :
    addend (iblk m c 0 ⟨8 * run2Of i + j, h⟩) (iblk m c 1 ⟨8 * run2Of i + j, h⟩) (loc2Of i 1) (loc2Of i 2)
      = ∑ k : Fin 1024, term (m ((c : Thread nD τ).loc main_arg0)) (m ((c : Thread nD τ).loc main_arg1)) i ⟨1024 * j + k.val, by omega⟩ := by
  have h0 : (i 0).val < 4 := (i 0).isLt
  have h1 : (i 1).val < 2048 := (i 1).isLt
  have h2 : (i 2).val < 1408 := (i 2).isLt
  have l1 : (loc2Of i 1).val = (i 1).val % 1024 := rfl
  have l2 : (loc2Of i 2).val = (i 2).val % 1408 := rfl
  have r : run2Of i = 2 * (i 0).val + (i 1).val / 1024 := by show 2 * ((i 0).val / 1 - 0) + 1 * ((i 1).val / 1024 - 0) + 1 * ((i 2).val / 1408 - 0) = _; omega
  refine Finset.sum_congr rfl fun k _ => congrArg₂ (fun a b : EReal => a * b) ((rows m c ⟨8 * run2Of i + j, h⟩ k (loc2Of i 1) (by show 1024 * ((8 * run2Of i + j) % 8) + k.val < 8192; omega) (by show 1024 * ((8 * run2Of i + j) / 8 % 2) + (loc2Of i 1).val < 2048; omega)).trans ?_)
    ((cols m c ⟨8 * run2Of i + j, h⟩ k (loc2Of i 2) (by show 1024 * ((8 * run2Of i + j) % 8) + k.val < 8192; omega) (by show 1408 * ((8 * run2Of i + j) / 16) + (loc2Of i 2).val < 5632; omega)).trans ?_)
  · refine congrArg (m ((c : Thread nD τ).loc main_arg0) : FVec Ideal S8192x2048 .f32) (congrArg₂ ix2 (Fin.ext ?_) (Fin.ext ?_))
    · show 1024 * ((8 * run2Of i + j) % 8) + k.val = 1024 * j + k.val; omega
    · show 1024 * ((8 * run2Of i + j) / 8 % 2) + (loc2Of i 1).val = (i 1).val; omega
  · refine congrArg (m ((c : Thread nD τ).loc main_arg1) : FVec Ideal S8192x5632 .f32) (congrArg₂ ix2 (Fin.ext ?_) (Fin.ext ?_))
    · show 1024 * ((8 * run2Of i + j) % 8) + k.val = 1024 * j + k.val; omega
    · show 1408 * ((8 * run2Of i + j) / 16) + (loc2Of i 2).val = 1408 * (i 0).val + (i 2).val; omega

/-- A run's fold: the sum over the rows of its points so far. -/
theorem fold (i : S4x2048x1408.Idx) (j : ℕ) (hj : j < 8) (h : 8 * run2Of i + j < cfg0.N) :
    Pipeline.accAt (reset2 m c) (step2 m c) (8 * run2Of i) j h (loc2Of i) = ∑ q : Fin (j + 1), ∑ k : Fin 1024, term (m ((c : Thread nD τ).loc main_arg0)) (m ((c : Thread nD τ).loc main_arg1)) i ⟨1024 * q.val + k.val, by omega⟩ := by
  have e : loc2Of i = ix3 0 (loc2Of i 1) (loc2Of i 2) := by
    funext a; refine Fin.cases (Subsingleton.elim (α := Fin 1) _ _) (fun a => Fin.cases rfl (fun a => Fin.cases rfl (fun a => a.elim0) a) a) a
  induction j with
  | zero =>
    rw [Pipeline.accAt_zero, Fin.sum_univ_one]
    unfold reset2
    refine (congrArg _ e).trans ((block _ _ _ 0 (loc2Of i 1) (loc2Of i 2)).trans ?_)
    exact (congrArg₂ (fun a b : EReal => a + b) (first 0 (loc2Of i 1) (loc2Of i 2)) (part m c i 0 hj h)).trans (zero_add _)
  | succ j ih =>
    rw [Pipeline.accAt_succ, Fin.sum_univ_castSucc]
    unfold step2
    refine (congrArg _ e).trans ((block _ _ _ 0 (loc2Of i 1) (loc2Of i 2)).trans ?_)
    exact congrArg₂ (fun a b : EReal => a + b) ((congrArg _ e.symm).trans (ih (by omega) (by omega))) (part m c i (j + 1) hj h)

/-- The kernel's array. -/
theorem kernel : G2 m c = prod (m ((c : Thread nD τ).loc main_arg0)) (m ((c : Thread nD τ).loc main_arg1)) := by
  funext i
  have h0 : (i 0).val < 4 := (i 0).isLt
  have h1 : (i 1).val < 2048 := (i 1).isLt
  have h2 : (i 2).val < 1408 := (i 2).isLt
  have hN : cfg0.N = 64 := N_0
  have r : run2Of i = 2 * (i 0).val + (i 1).val / 1024 := by show 2 * ((i 0).val / 1 - 0) + 1 * ((i 1).val / 1024 - 0) + 1 * ((i 2).val / 1408 - 0) = _; omega
  have h : 8 * run2Of i + 7 < cfg0.N := by omega
  unfold G2
  rw [dif_pos h, fold m c i 7 (by decide) h]
  show _ = ∑ k : Fin 8192, term (m ((c : Thread nD τ).loc main_arg0)) (m ((c : Thread nD τ).loc main_arg1)) i k
  rw [← Equiv.sum_comp (finProdFinEquiv (m := 8) (n := 1024)), Fintype.sum_prod_type]
  refine Finset.sum_congr rfl fun q _ => Finset.sum_congr rfl fun k _ => congrArg _ (Fin.ext ?_)
  show 1024 * q.val + k.val = k.val + 1024 * q.val
  omega
end

end Cert.WgrValue
end
-- ==== Proof.WgrClaim.lean ====
/- The claim about the gradient of a gate's weight: kernel and reference leave the same arrays, at any input. -/
module

public import proofs.«01_k».proof.Defs
public import proofs.«01_k».proof.Proof.Gen.WgrReferenceIdeal.Run
public import proofs.«01_k».proof.Proof.WgrKernelValue

@[expose] public section

set_option maxRecDepth 16384

noncomputable section

namespace Cert.WgrClaim

open Idealize.ShloMosaic Idealize.ShloMosaic.TcCoe Idealize.SL.Sem

/-- The reference ends with its arguments unchanged; it declares no semaphore. -/
theorem frame_reference : Cert.quiescent_WgrReferenceIdeal := fun m g _ =>
  (θ_run Cert.WgrReferenceIdeal.defs _ _).mono
    (fun _ h => ⟨fun c => (h c).2, sem_eq_zero_of_no_sems rfl _⟩) (Cert.WgrReferenceIdeal.Value.run m g)

theorem algebraic : Cert.algebraic_WgrKernelIdeal_WgrReferenceIdeal := by
  pair_intro
  · run_from Cert.WgrKernelIdeal.Value.run m g
  · run_from Cert.WgrReferenceIdeal.Value.run m' g'
    rw [Cert.WgrValue.kernel m c]
    exact (Cert.WgrReferenceIdeal.Read.val_main_v5_eq _ _).symm.trans (Cert.WgrValue.reference _ _)

end Cert.WgrClaim
end
-- ==== Proof.ResKernelValue.lean ====
/- The product by the feed-forward's down weight with the residual: what the kernel `residual_matmul` and the reference leave, at any input. -/
module

public import proofs.«01_k».proof.Proof.Gen.ResKernelIdeal.Value
public import proofs.«01_k».proof.Proof.Gen.ResReferenceIdeal.Read
public import proofs.«01_k».proof.Proof.AttnArrays
public import Idealize.ShloMosaic.Lib.VecWindow

@[expose] public section

set_option maxRecDepth 16384

noncomputable section

namespace Cert.ResValue

open Idealize.ShloMosaic Idealize.ShloMosaic.TcCoe Idealize.SL.Sem
open Idealize.ShloMosaic.Pipeline (Dat)
open Cert.Reals Cert.Attn

/-- The factor one half, as both programs write it. -/
abbrev half : EReal := (Scalar.ofBits .f32 0x3F000000#32 : Ideal .f32)

/-- What column `k` of the hidden layer adds to an element. -/
def term (Y : (⟨2, ![8192, 5632]⟩ : Shape).Idx → EReal) (W : (⟨3, ![2, 5632, 2048]⟩ : Shape).Idx → EReal) (i : (⟨2, ![8192, 2048]⟩ : Shape).Idx) (k : Fin 5632) : EReal :=
  Y (ix2 (i 0) k) * W (ix3 0 k (i 1))

/-- The residual and half the product. -/
def out (X : (⟨2, ![8192, 2048]⟩ : Shape).Idx → EReal) (Y : (⟨2, ![8192, 5632]⟩ : Shape).Idx → EReal) (W : (⟨3, ![2, 5632, 2048]⟩ : Shape).Idx → EReal)
    (i : (⟨2, ![8192, 2048]⟩ : Shape).Idx) : EReal :=
  X i + half * ∑ k : Fin 5632, term Y W i k

section
open Cert.ResReferenceIdeal Cert.ResReferenceIdeal.Gen Cert.ResReferenceIdeal.Read

theorem reference (X : FVec Ideal S8192x2048 .f32) (Y : FVec Ideal S8192x5632 .f32) (W : FVec Ideal S2x5632x2048 .f32) : val_main_v5 (F := Ideal) X Y W = out X Y W := by
  refine ext2 fun x y => ?_
  pointwise [val_main_v5, val_main_v4, val_main_v3, val_main_v2, val_main_v1, val_main_v0, val_main_cst]
  rfl
end

section
variable {σ : RefSig} {κ : Kind} {sp : Space} {R C k : ℕ}

/-- A store of whole columns next to the columns already written. -/
theorem next_cols (v : View σ κ sp ⟨2, ![R, C]⟩ .f32) (f : v.ty.Contents (Elt Ideal)) (A : (⟨2, ![R, C]⟩ : Shape).Idx → EReal) (L : List (View.Piece (Elt Ideal) ⟨2, ![R, C]⟩ .f32))
    (q q' : ℕ) (hq : q' = q + k) (hA : ∀ y : (⟨2, ![R, C]⟩ : Shape).Idx, (y 1).val < q → v.read (Elt Ideal) (v.writes (Elt Ideal) f L) y = A y)
    (inb : ∀ a, (![0, q] : Fin 2 → ℕ) a + (![R, k] : Fin 2 → ℕ) a ≤ (![R, C] : Fin 2 → ℕ) a) (w : (⟨2, ![R, k]⟩ : Shape).Idx → EReal)
    (hw : ∀ (x : Fin R) (y : Fin k) (h : q + y.val < C), w (ix2 x y) = A (ix2 x ⟨q + y.val, h⟩)) :
    ∀ y : (⟨2, ![R, C]⟩ : Shape).Idx, (y 1).val < q' →
      v.read (Elt Ideal) (v.writes (Elt Ideal) f ((⟨Rect.unit (s := ⟨2, ![R, C]⟩) ![0, q] ![R, k] inb, w⟩ : View.Piece (Elt Ideal) ⟨2, ![R, C]⟩ .f32) :: L)) y = A y := by
  intro y hy
  by_cases h : (y 1).val < q
  · exact (View.read_writes_cons_unit_of_not_mem v f inb _ L _ rfl (1 : Fin 2) (Or.inl h)).trans (hA y h)
  · have h0 : (y 0).val < R := (y 0).isLt
    have h1 : (y 1).val < C := (y 1).isLt
    refine (View.read_writes_cons_unit_of_mem v f inb _ L y (ix2 (⟨(y 0).val, h0⟩ : Fin R) (⟨(y 1).val - q, by omega⟩ : Fin k)) rfl ?_).trans ?_
    · intro a
      fin_cases a
      · exact (Nat.zero_add _).symm
      · show (y 1).val = q + ((y 1).val - q); omega
    · refine (hw _ _ (by show q + ((y 1).val - q) < C; omega)).trans (congrArg A (funext fun a => Fin.ext ?_))
      fin_cases a
      · rfl
      · show q + ((y 1).val - q) = (y 1).val; omega
end

section
open Cert.ResKernelIdeal Cert.ResKernelIdeal.Gen

/-- One chip's part of a block's product, from the chip's loads. -/
def pp (a : (⟨3, ![1, 512, 1408]⟩ : Shape).Idx → EReal) (w : (⟨4, ![1, 1, 1408, 512]⟩ : Shape).Idx → EReal) (x y : Fin 512) : EReal :=
  ∑ k : Fin 1408, a (ix3 0 x k) * w (ix4 0 0 k y)

section
variable (a0 a1 a2 a3 : FVec Ideal S1x512x1408 .bf16) (w0 w1 w2 w3 : FVec Ideal S1x1x1408x512 .bf16) (r : FVec Ideal S512x512 .f32) (x y : Fin 512)

theorem col0 : k0_pay7 (F := Ideal) (k0_pay6 a0 a1 a2 a3 w0 w1 w2 w3) r (Scalar.ofBits .f32 0x3F000000#32) (ix2 x y)
    = r (ix2 x y) + half * (pp a0 w0 x y + pp a1 w1 x y + pp a2 w2 x y + pp a3 w3 x y) := by
  pointwise [k0_pay7, k0_pay6, k0_pay2, k0_pay3, k0_pay4, k0_pay5]
  rfl
theorem col1 : k0_pay8 (F := Ideal) (k0_pay2 a0) (k0_pay3 a1) (k0_pay4 a2) (k0_pay5 a3) w0 w1 w2 w3 r (ix2 x y)
    = r (ix2 x y) + half * (pp a0 w0 x y + pp a1 w1 x y + pp a2 w2 x y + pp a3 w3 x y) := by
  pointwise [k0_pay8, k0_pay2, k0_pay3, k0_pay4, k0_pay5]
  rfl
theorem col2 : k0_pay10 (F := Ideal) (k0_pay2 a0) (k0_pay3 a1) (k0_pay4 a2) (k0_pay5 a3) (k0_pay9 w0) (constant S512x512 .f32 0x00000000#32) w1 w2 w3 r (ix2 x y)
    = r (ix2 x y) + half * (pp a0 w0 x y + pp a1 w1 x y + pp a2 w2 x y + pp a3 w3 x y) := by
  pointwise [k0_pay10, k0_pay9, k0_pay2, k0_pay3, k0_pay4, k0_pay5]
  rfl
theorem col3 : k0_pay1 (F := Ideal) (k0_pay4 a2) (k0_pay5 a3) (k0_pay11 (k0_pay2 a0) (k0_pay3 a1) w0 w1) w2 w3 r (ix2 x y)
    = r (ix2 x y) + half * (pp a0 w0 x y + pp a1 w1 x y + pp a2 w2 x y + pp a3 w3 x y) := by
  pointwise [k0_pay1, k0_pay11, k0_pay2, k0_pay3, k0_pay4, k0_pay5]
  rfl
end

section
variable (x0 : FVec Ideal S512x2048 .f32) (x1 : FVec Ideal S4x512x1408 .bf16) (x2 : FVec Ideal S4x1x1408x2048 .bf16)

/-- One chip's part of a block's product. -/
def cp (X1 : (⟨3, ![4, 512, 1408]⟩ : Shape).Idx → EReal) (X2 : (⟨4, ![4, 1, 1408, 2048]⟩ : Shape).Idx → EReal) (x : Fin 512) (e : Fin 2048) (j : Fin 4) : EReal :=
  ∑ k : Fin 1408, X1 (ix3 j x k) * X2 (ix4 j 0 k e)

/-- A block of the result. -/
def blk (X0 : (⟨2, ![512, 2048]⟩ : Shape).Idx → EReal) (X1 : (⟨3, ![4, 512, 1408]⟩ : Shape).Idx → EReal) (X2 : (⟨4, ![4, 1, 1408, 2048]⟩ : Shape).Idx → EReal) (i : (⟨2, ![512, 2048]⟩ : Shape).Idx) : EReal :=
  X0 i + half * (cp X1 X2 (i 0) (i 1) 0 + cp X1 X2 (i 0) (i 1) 1 + cp X1 X2 (i 0) (i 1) 2 + cp X1 X2 (i 0) (i 1) 3)

/-- A chip's loads hold its rows and 512 of its weight's columns. -/
theorem pp_ld (j q : ℕ) (hj : j < 4) (i1) (i2) (x y : Fin 512) (h : q + y.val < 2048) :
    pp (View.ld (Val := Elt Ideal) (e' := .bf16) x1 (Rect.unit (s := S4x512x1408) ![j, 0, 0] S1x512x1408.size i1))
      (View.ld (Val := Elt Ideal) (e' := .bf16) x2 (Rect.unit (s := S4x1x1408x2048) ![j, 0, 0, q] S1x1x1408x512.size i2)) x y = cp x1 x2 x ⟨q + y.val, h⟩ ⟨j, hj⟩ := by
  refine Finset.sum_congr rfl fun k _ => congrArg₂ (fun a b : EReal => a * b) (congrArg x1 (funext fun a => Fin.ext ?_)) (congrArg x2 (funext fun a => Fin.ext ?_))
  · fin_cases a
    · show j + 1 * 0 = j; omega
    · show 0 + 1 * x.val = x.val; omega
    · show 0 + 1 * k.val = k.val; omega
  · fin_cases a
    · show j + 1 * 0 = j; omega
    · show 0 + 1 * 0 = 0; omega
    · show 0 + 1 * k.val = k.val; omega
    · show q + 1 * y.val = q + y.val; omega

/-- A load of 512 of the residual's columns. -/
theorem r_ld (q : ℕ) (i0) (x y : Fin 512) (h : q + y.val < 2048) :
    View.ld (Val := Elt Ideal) (e' := .f32) x0 (Rect.unit (s := S512x2048) ![0, q] S512x512.size i0) (ix2 x y) = x0 (ix2 x ⟨q + y.val, h⟩) := by
  refine congrArg x0 (funext fun a => Fin.ext ?_)
  fin_cases a
  · show 0 + 1 * x.val = x.val; omega
  · show q + 1 * y.val = q + y.val; omega

/-- The residual's loads and the four chips' loads give a block's 512 columns. -/
theorem cols_eq (q : ℕ) (i0 a0 a1 a2 a3 b0 b1 b2 b3) (x y : Fin 512) (h : q + y.val < 2048) :
    (View.ld (Val := Elt Ideal) (e' := .f32) x0 (Rect.unit (s := S512x2048) ![0, q] S512x512.size i0) (ix2 x y) : EReal)
      + half * (pp (View.ld (Val := Elt Ideal) (e' := .bf16) x1 (Rect.unit (s := S4x512x1408) ![0, 0, 0] S1x512x1408.size a0)) (View.ld (Val := Elt Ideal) (e' := .bf16) x2 (Rect.unit (s := S4x1x1408x2048) ![0, 0, 0, q] S1x1x1408x512.size b0)) x y
        + pp (View.ld (Val := Elt Ideal) (e' := .bf16) x1 (Rect.unit (s := S4x512x1408) ![1, 0, 0] S1x512x1408.size a1)) (View.ld (Val := Elt Ideal) (e' := .bf16) x2 (Rect.unit (s := S4x1x1408x2048) ![1, 0, 0, q] S1x1x1408x512.size b1)) x y
        + pp (View.ld (Val := Elt Ideal) (e' := .bf16) x1 (Rect.unit (s := S4x512x1408) ![2, 0, 0] S1x512x1408.size a2)) (View.ld (Val := Elt Ideal) (e' := .bf16) x2 (Rect.unit (s := S4x1x1408x2048) ![2, 0, 0, q] S1x1x1408x512.size b2)) x y
        + pp (View.ld (Val := Elt Ideal) (e' := .bf16) x1 (Rect.unit (s := S4x512x1408) ![3, 0, 0] S1x512x1408.size a3)) (View.ld (Val := Elt Ideal) (e' := .bf16) x2 (Rect.unit (s := S4x1x1408x2048) ![3, 0, 0, q] S1x1x1408x512.size b3)) x y)
      = blk x0 x1 x2 (ix2 x ⟨q + y.val, h⟩) := by
  rw [r_ld x0 q i0 x y h, pp_ld x1 x2 0 q (by decide) a0 b0 x y h, pp_ld x1 x2 1 q (by decide) a1 b1 x y h, pp_ld x1 x2 2 q (by decide) a2 b2 x y h, pp_ld x1 x2 3 q (by decide) a3 b3 x y h]
  rfl

/-- A load of a part of a rounded array. -/
abbrev lb {s : Shape} (x : FVec Ideal s .bf16) (r : Rect s) := View.ld (Val := Elt Ideal) (e' := .bf16) x r
/-- A load of a part of an array. -/
abbrev lf {s : Shape} (x : FVec Ideal s .f32) (r : Rect s) := View.ld (Val := Elt Ideal) (e' := .f32) x r

/-- What a point leaves. -/
theorem body {σ : RefSig} {κ : Kind} {sp : Space} (v : View σ κ sp S512x2048 .f32) : out0_3 (F := Ideal) x0 x1 x2 = blk x0 x1 x2 := by
  unfold out0_3 k0_pay12 k0_pay13 k0_pay14 k0_pay15
  refine (View.read_writes_eq_canon v v.junk _ (cover0_3 _ _ _ _)).symm.trans ?_
  have s0 := next_cols (k := 512) v v.junk (blk x0 x1 x2) [] 0 512 rfl (fun y hy => absurd hy (Nat.not_lt_zero _)) inb_S512x2048_S512x512_0_0 (k0_pay7 (k0_pay6 (lb x1 r0_0) (lb x1 r0_1) (lb x1 r0_2) (lb x1 r0_3) (lb x2 r0_4) (lb x2 r0_5) (lb x2 r0_6) (lb x2 r0_7)) (lf x0 r0_8) (Scalar.ofBits .f32 0x3F000000#32))
    fun x y h => (col0 (lb x1 r0_0) (lb x1 r0_1) (lb x1 r0_2) (lb x1 r0_3) (lb x2 r0_4) (lb x2 r0_5) (lb x2 r0_6) (lb x2 r0_7) (lf x0 r0_8) x y).trans (cols_eq x0 x1 x2 0 _ _ _ _ _ _ _ _ _ x y h)
  have s1 := next_cols (k := 512) v v.junk (blk x0 x1 x2) _ 512 1024 rfl s0 inb_S512x2048_S512x512_0_512 (k0_pay8 (k0_pay2 (lb x1 r0_0)) (k0_pay3 (lb x1 r0_1)) (k0_pay4 (lb x1 r0_2)) (k0_pay5 (lb x1 r0_3)) (lb x2 r0_9) (lb x2 r0_10) (lb x2 r0_11) (lb x2 r0_12) (lf x0 r0_13))
    fun x y h => (col1 (lb x1 r0_0) (lb x1 r0_1) (lb x1 r0_2) (lb x1 r0_3) (lb x2 r0_9) (lb x2 r0_10) (lb x2 r0_11) (lb x2 r0_12) (lf x0 r0_13) x y).trans (cols_eq x0 x1 x2 512 _ _ _ _ _ _ _ _ _ x y h)
  have s2 := next_cols (k := 512) v v.junk (blk x0 x1 x2) _ 1024 1536 rfl s1 inb_S512x2048_S512x512_0_1024 (k0_pay10 (k0_pay2 (lb x1 r0_0)) (k0_pay3 (lb x1 r0_1)) (k0_pay4 (lb x1 r0_2)) (k0_pay5 (lb x1 r0_3)) (k0_pay9 (lb x2 r0_14)) (constant S512x512 .f32 0x00000000#32) (lb x2 r0_15) (lb x2 r0_16) (lb x2 r0_17) (lf x0 r0_18))
    fun x y h => (col2 (lb x1 r0_0) (lb x1 r0_1) (lb x1 r0_2) (lb x1 r0_3) (lb x2 r0_14) (lb x2 r0_15) (lb x2 r0_16) (lb x2 r0_17) (lf x0 r0_18) x y).trans (cols_eq x0 x1 x2 1024 _ _ _ _ _ _ _ _ _ x y h)
  have s3 := next_cols (k := 512) v v.junk (blk x0 x1 x2) _ 1536 2048 rfl s2 inb_S512x2048_S512x512_0_1536 (k0_pay1 (k0_pay4 (lb x1 r0_2)) (k0_pay5 (lb x1 r0_3)) (k0_pay11 (k0_pay2 (lb x1 r0_0)) (k0_pay3 (lb x1 r0_1)) (lb x2 r0_19) (lb x2 r0_20)) (lb x2 r0_21) (lb x2 r0_22) (lf x0 r0_23))
    fun x y h => (col3 (lb x1 r0_0) (lb x1 r0_1) (lb x1 r0_2) (lb x1 r0_3) (lb x2 r0_19) (lb x2 r0_20) (lb x2 r0_21) (lb x2 r0_22) (lf x0 r0_23) x y).trans (cols_eq x0 x1 x2 1536 _ _ _ _ _ _ _ _ _ x y h)
  exact funext fun y => s3 y (y 1).isLt
end

theorem idx0 : ∀ t : Fin cfg0.N, win0_0.index t = ![t.val, 0] ∧ win0_1.index t = ![0, t.val, 0] ∧ win0_2.index t = ![0, 0, 0, 0] ∧ win0_3.index t = ![t.val, 0] :=
  (by decide +kernel : ∀ t : Fin grid0.N, _)

variable (m : (ℓ : Loc nD τ sig) → Buf (Elt Ideal) ℓ) (c : Dev nD)

theorem res (t : Fin cfg0.N) (x : Fin 512) (e : Fin 2048) (h : 512 * t.val + x.val < 8192) :
    iblk m c 0 t (ix2 x e) = m ((c : Thread nD τ).loc main_arg0) (ix2 ⟨512 * t.val + x.val, h⟩ e) := by
  blk_simp [iblk, idx0 t]
  entry_read
  blk_ext! [idx0 t]

theorem rows (t : Fin cfg0.N) (j : Fin 4) (x : Fin 512) (k : Fin 1408) (h : 512 * t.val + x.val < 8192) (h' : 1408 * j.val + k.val < 5632) :
    iblk m c 1 t (ix3 j x k) = m ((c : Thread nD τ).loc main_arg1) (ix2 ⟨512 * t.val + x.val, h⟩ ⟨1408 * j.val + k.val, h'⟩) := by
  blk_simp [iblk, idx0 t]
  entry_read
  pointwise
  blk_ext! [idx0 t]

theorem cols (t : Fin cfg0.N) (j : Fin 4) (k : Fin 1408) (e : Fin 2048) (h' : 1408 * j.val + k.val < 5632) :
    iblk m c 2 t (ix4 j 0 k e) = m ((c : Thread nD τ).loc main_arg2) (ix3 0 ⟨1408 * j.val + k.val, h'⟩ e) := by
  blk_simp [iblk, idx0 t]
  entry_read
  pointwise
  blk_ext! [idx0 t]

/-- The four chips' parts are the whole product. -/
theorem sum_chips (f : Fin 5632 → EReal) : ∑ k : Fin 5632, f k = ∑ j : Fin 4, ∑ k : Fin 1408, f ⟨1408 * j.val + k.val, by omega⟩ := by
  rw [← Equiv.sum_comp (finProdFinEquiv (m := 4) (n := 1408)), Fintype.sum_prod_type]
  refine Finset.sum_congr rfl fun q _ => Finset.sum_congr rfl fun k _ => congrArg _ (Fin.ext ?_)
  show k.val + 1408 * q.val = 1408 * q.val + k.val
  omega

/-- A chip's part, from the argument arrays. -/
theorem chip (t : Fin cfg0.N) (x : Fin 512) (e : Fin 2048) (j : Fin 4) (h : 512 * t.val + x.val < 8192) :
    cp (iblk m c 1 t) (iblk m c 2 t) x e j
      = ∑ k : Fin 1408, term (m ((c : Thread nD τ).loc main_arg1)) (m ((c : Thread nD τ).loc main_arg2)) (ix2 ⟨512 * t.val + x.val, h⟩ e) ⟨1408 * j.val + k.val, by omega⟩ :=
  Finset.sum_congr rfl fun k _ => congrArg₂ (fun a b : EReal => a * b) (rows m c t j x k h (by omega)) (cols m c t j k e (by omega))

/-- The kernel's array. -/
theorem kernel : (dats m 0 c).arrAt 3 cfg0.N = out (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 16 := t.isLt
  blk_simp
  obtain ⟨a, b, rfl⟩ : ∃ (a : Fin 512) (b : Fin 2048), y = ix2 a b := ⟨y 0, y 1, by funext j; refine Fin.cases rfl (fun j => Fin.cases rfl (fun j => j.elim0) j) j⟩
  have ha := a.isLt
  have h : 512 * t.val + a.val < 8192 := by omega
  rw [after0_3, body _ _ _ (win0_3.blk t).view]
  have e : (win0_3.blk t).view.emb (ix2 a b) = ix2 (⟨512 * t.val + a.val, h⟩ : Fin 8192) b := by
    blk_ext [idx0 t]
  refine Eq.trans ?_ (congrArg (out (m ((c : Thread nD τ).loc main_arg0)) (m ((c : Thread nD τ).loc main_arg1)) (m ((c : Thread nD τ).loc main_arg2))) e.symm)
  refine congrArg₂ (fun a b : EReal => a + b) (res m c t a b h) (congrArg (fun a : EReal => half * a) ?_)
  rw [sum_chips, Fin.sum_univ_four]
  exact congrArg₂ (fun a b : EReal => a + b) (congrArg₂ (fun a b : EReal => a + b) (congrArg₂ (fun a b : EReal => a + b) (chip m c t a b 0 h) (chip m c t a b 1 h)) (chip m c t a b 2 h)) (chip m c t a b 3 h)
end

end Cert.ResValue
end
-- ==== Proof.ResClaim.lean ====
/- The claim about a gated block's output: kernel and reference leave the same arrays, at any input. -/
module

public import proofs.«01_k».proof.Defs
public import proofs.«01_k».proof.Proof.Gen.ResReferenceIdeal.Run
public import proofs.«01_k».proof.Proof.ResKernelValue

@[expose] public section

set_option maxRecDepth 16384

noncomputable section

namespace Cert.ResClaim

open Idealize.ShloMosaic Idealize.ShloMosaic.TcCoe Idealize.SL.Sem

/-- The reference ends with its arguments unchanged; it declares no semaphore. -/
theorem frame_reference : Cert.quiescent_ResReferenceIdeal := fun m g _ =>
  (θ_run Cert.ResReferenceIdeal.defs _ _).mono
    (fun _ h => ⟨fun c => (h c).2, sem_eq_zero_of_no_sems rfl _⟩) (Cert.ResReferenceIdeal.Value.run m g)

theorem algebraic : Cert.algebraic_ResKernelIdeal_ResReferenceIdeal := by
  pair_intro
  · run_from Cert.ResKernelIdeal.Value.run_blocks m g
  · run_from Cert.ResReferenceIdeal.Value.run m' g'
    rw [Cert.ResValue.kernel m c]
    exact (Cert.ResReferenceIdeal.Read.val_main_v5_eq _ _ _).symm.trans (Cert.ResValue.reference _ _ _)

end Cert.ResClaim
end
-- ==== Proof.AdwKernelValue.lean ====
/- One step of the optimiser: what the kernel `adamw` and the reference leave, at any input. -/
module

public import proofs.«01_k».proof.Proof.Gen.AdwKernelIdeal.Value
public import proofs.«01_k».proof.Proof.Gen.AdwReferenceIdeal.Read
public import proofs.«01_k».proof.Proof.AttnArrays

@[expose] public section

set_option maxRecDepth 16384

noncomputable section

namespace Cert.AdwValue

open Idealize.ShloMosaic Idealize.ShloMosaic.TcCoe Idealize.SL.Sem
open Idealize.ShloMosaic.Pipeline (Dat)
open Cert.Reals Cert.Attn

/-- The new first moment of an element. -/
def mom (g m : EReal) : EReal := Ideal.ofBits .f32 0x3F666666#32 * m + Ideal.ofBits .f32 0x3DCCCCCD#32 * g
/-- The new second moment of an element. -/
def sq (g v : EReal) : EReal := Ideal.ofBits .f32 0x3F7FBE77#32 * v + Ideal.ofBits .f32 0x3A83126F#32 * (g * g)
/-- The change of a weight. -/
def delta (w g m v : EReal) : EReal :=
  Ideal.ofBits .f32 0xBA83126F#32 * (Ideal.div (Ideal.div (mom g m) (Ideal.ofBits .f32 0x3F26BD02#32))
    (Ideal.sqrt (Ideal.div (sq g v) (Ideal.ofBits .f32 0x3C231ACC#32)) + Ideal.ofBits .f32 0x322BCC77#32) + Ideal.ofBits .f32 0x3C23D70A#32 * w)

section
open Cert.AdwReferenceIdeal Cert.AdwReferenceIdeal.Gen Cert.AdwReferenceIdeal.Read

variable (w g m v : FVec Ideal S4096x1408 .f32)

theorem reference_m : val_main_v4 (F := Ideal) g m = fun i => mom (g i) (m i) := by
  funext i
  pointwise [val_main_v4, val_main_v3, val_main_v2, val_main_v1, val_main_v0, val_main_cst, val_main_cst_0]
  rfl
theorem reference_v : val_main_v10 (F := Ideal) g v = fun i => sq (g i) (v i) := by
  funext i
  pointwise [val_main_v10, val_main_v9, val_main_v8, val_main_v7, val_main_v6, val_main_v5, val_main_cst_1, val_main_cst_2]
  rfl
theorem reference_d : val_main_v23 (F := Ideal) w g m v = fun i => delta (w i) (g i) (m i) (v i) := by
  funext i
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7]
  rw [reference_m, reference_v]
  rfl
end

section
open Cert.AdwKernelIdeal Cert.AdwKernelIdeal.Gen

section
variable (w g m v : FVec Ideal S256x1408 .f32)

theorem block_m : k0_pay1 (F := Ideal) g m = fun i => mom (g i) (m i) := by
  funext i
  pointwise [k0_pay1]
  rfl
theorem block_v : k0_pay2 (F := Ideal) g v = fun i => sq (g i) (v i) := by
  funext i
  pointwise [k0_pay2]
  rfl
theorem block_d : k0_pay3 (F := Ideal) g m v w = fun i => delta (w i) (g i) (m i) (v i) := by
  funext i
  pointwise [k0_pay3]
  rw [block_m, block_v]
  rfl
end

theorem idx0 : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- Where a point's rows lie. -/
abbrev at_ (t : Fin cfg0.N) (y : S256x1408.Idx) : S4096x1408.Idx :=
  ix2 ⟨256 * t.val + (y 0).val, by have h : t.val < 16 := t.isLt; have h0 : (y 0).val < 256 := (y 0).isLt; omega⟩ (y 1)

theorem read0 (t : Fin cfg0.N) (y : S256x1408.Idx) : (iblk m c 0 t : FVec Ideal S256x1408 .f32) y = (m ((c : Thread nD τ).loc main_arg0) : FVec Ideal S4096x1408 .f32) (at_ t y) := by
  blk_simp [iblk, idx0 t]
  entry_read
  blk_ext! [idx0 t]
  · show _ = 256 * t.val + (y 0).val; omega
  · rfl

theorem read1 (t : Fin cfg0.N) (y : S256x1408.Idx) : (iblk m c 1 t : FVec Ideal S256x1408 .f32) y = (m ((c : Thread nD τ).loc main_arg1) : FVec Ideal S4096x1408 .f32) (at_ t y) := by
  blk_simp [iblk, idx0 t]
  entry_read
  blk_ext! [idx0 t]
  · show _ = 256 * t.val + (y 0).val; omega
  · rfl

theorem read2 (t : Fin cfg0.N) (y : S256x1408.Idx) : (iblk m c 2 t : FVec Ideal S256x1408 .f32) y = (m ((c : Thread nD τ).loc main_arg2) : FVec Ideal S4096x1408 .f32) (at_ t y) := by
  blk_simp [iblk, idx0 t]
  entry_read
  blk_ext! [idx0 t]
  · show _ = 256 * t.val + (y 0).val; omega
  · rfl

theorem read3 (t : Fin cfg0.N) (y : S256x1408.Idx) : (iblk m c 3 t : FVec Ideal S256x1408 .f32) y = (m ((c : Thread nD τ).loc main_arg3) : FVec Ideal S4096x1408 .f32) (at_ t y) := by
  blk_simp [iblk, idx0 t]
  entry_read
  blk_ext! [idx0 t]
  · show _ = 256 * t.val + (y 0).val; omega
  · rfl

theorem kernel_d : (dats m 0 c).arrAt 4 cfg0.N = fun i => delta ((m ((c : Thread nD τ).loc main_arg0) : FVec Ideal S4096x1408 .f32) i) ((m ((c : Thread nD τ).loc main_arg1) : FVec Ideal S4096x1408 .f32) i) ((m ((c : Thread nD τ).loc main_arg2) : FVec Ideal S4096x1408 .f32) i) ((m ((c : Thread nD τ).loc main_arg3) : FVec Ideal S4096x1408 .f32) i) := by
  refine (dats m 0 c).arrAt_eq_of_covers 4 _ (by decide +kernel) fun t hf y => ?_
  blk_simp
  rw [after0_4]; frame_out
  refine (congrFun (block_d _ _ _ _) y).trans ?_
  rw [read0 m c t y, read1 m c t y, read2 m c t y, read3 m c t y]
  refine congrArg (fun i : S4096x1408.Idx => delta ((m ((c : Thread nD τ).loc main_arg0) : FVec Ideal S4096x1408 .f32) i) ((m ((c : Thread nD τ).loc main_arg1) : FVec Ideal S4096x1408 .f32) i) ((m ((c : Thread nD τ).loc main_arg2) : FVec Ideal S4096x1408 .f32) i) ((m ((c : Thread nD τ).loc main_arg3) : FVec Ideal S4096x1408 .f32) i)) ?_
  blk_ext [idx0 t]
  · show 256 * t.val + (y 0).val = _; omega
  · rfl

theorem kernel_m : (dats m 0 c).arrAt 5 cfg0.N = fun i => mom ((m ((c : Thread nD τ).loc main_arg1) : FVec Ideal S4096x1408 .f32) i) ((m ((c : Thread nD τ).loc main_arg2) : FVec Ideal S4096x1408 .f32) i) := by
  refine (dats m 0 c).arrAt_eq_of_covers 5 _ (by decide +kernel) fun t hf y => ?_
  blk_simp
  rw [after0_5]; frame_out
  refine (congrFun (block_m _ _) y).trans ?_
  rw [read1 m c t y, read2 m c t y]
  refine congrArg (fun i : S4096x1408.Idx => mom ((m ((c : Thread nD τ).loc main_arg1) : FVec Ideal S4096x1408 .f32) i) ((m ((c : Thread nD τ).loc main_arg2) : FVec Ideal S4096x1408 .f32) i)) ?_
  blk_ext [idx0 t]
  · show 256 * t.val + (y 0).val = _; omega
  · rfl

theorem kernel_v : (dats m 0 c).arrAt 6 cfg0.N = fun i => sq ((m ((c : Thread nD τ).loc main_arg1) : FVec Ideal S4096x1408 .f32) i) ((m ((c : Thread nD τ).loc main_arg3) : FVec Ideal S4096x1408 .f32) i) := by
  refine (dats m 0 c).arrAt_eq_of_covers 6 _ (by decide +kernel) fun t hf y => ?_
  blk_simp
  rw [after0_6]; frame_out
  refine (congrFun (block_v _ _) y).trans ?_
  rw [read1 m c t y, read3 m c t y]
  refine congrArg (fun i : S4096x1408.Idx => sq ((m ((c : Thread nD τ).loc main_arg1) : FVec Ideal S4096x1408 .f32) i) ((m ((c : Thread nD τ).loc main_arg3) : FVec Ideal S4096x1408 .f32) i)) ?_
  blk_ext [idx0 t]
  · show 256 * t.val + (y 0).val = _; omega
  · rfl
end

end Cert.AdwValue
end
-- ==== Proof.AdwClaim.lean ====
/- The claim about the optimiser's step: kernel and reference leave the same arrays, at any input. -/
module

public import proofs.«01_k».proof.Defs
public import proofs.«01_k».proof.Proof.Gen.AdwReferenceIdeal.Run
public import proofs.«01_k».proof.Proof.AdwKernelValue

@[expose] public section

set_option maxRecDepth 16384

noncomputable section

namespace Cert.AdwClaim

open Idealize.ShloMosaic Idealize.ShloMosaic.TcCoe Idealize.SL.Sem

/-- The reference ends with its arguments unchanged; it declares no semaphore. -/
theorem frame_reference : Cert.quiescent_AdwReferenceIdeal := fun m g _ =>
  (θ_run Cert.AdwReferenceIdeal.defs _ _).mono
    (fun _ h => ⟨fun c => (h c).2.2.2, sem_eq_zero_of_no_sems rfl _⟩) (Cert.AdwReferenceIdeal.Value.run m g)

theorem algebraic : Cert.algebraic_AdwKernelIdeal_AdwReferenceIdeal := by
  pair_intro
  · run_from Cert.AdwKernelIdeal.Value.run_blocks m g
  · run_from Cert.AdwReferenceIdeal.Value.run m' g'
    · rw [Cert.AdwValue.kernel_d m c]
      exact (Cert.AdwReferenceIdeal.Read.val_main_v23_eq _ _ _ _).symm.trans (Cert.AdwValue.reference_d _ _ _ _)
    · rw [Cert.AdwValue.kernel_m m c]
      exact (Cert.AdwReferenceIdeal.Read.val_main_v4_eq _ _).symm.trans (Cert.AdwValue.reference_m _ _)
    · rw [Cert.AdwValue.kernel_v m c]
      exact (Cert.AdwReferenceIdeal.Read.val_main_v10_eq _ _).symm.trans (Cert.AdwValue.reference_v _ _)

end Cert.AdwClaim
end
-- ==== Proof.ChsKernelValue.lean ====
/- The sum over a chip's two cores: what the kernel `chip_sum` and the reference leave, at any input. -/
module

public import proofs.«01_k».proof.Proof.Gen.ChsKernelIdeal.Frame
public import proofs.«01_k».proof.Proof.Gen.ChsKernel.Frame
public import proofs.«01_k».proof.Proof.Gen.ChsReferenceIdeal.Read
public import proofs.«01_k».proof.Proof.AttnArrays
public import Idealize.ShloMosaic.Lib.Pipeline.Value
public import Idealize.ShloMosaic.Lib.Pipeline.ValueKit
public import Idealize.ShloMosaic.Lib.StableHlo.Run

@[expose] public section

set_option maxRecDepth 16384

noncomputable section

namespace Cert.ChsValue

open Idealize.ShloMosaic Idealize.ShloMosaic.TcCoe Idealize.SL.Sem
open Idealize.ShloMosaic.Pipeline (Dat)
open Cert.Reals Cert.Attn

/-- The sum of two reals. -/
def addend (a b : EReal) : EReal := a + b

section
open Cert.ChsKernelIdeal Cert.ChsKernelIdeal.Gen
variable {F : FTy → Type} [FloatOps F]

/-- The prefetched word is zero. -/
abbrev word : pre0.Contents (Elt F) := fun j => match j with
  | ⟨0, _⟩ => (fun _ => 0#32 : S1.Idx → BitVec 32)

theorem tbl_eq (m : (ℓ : Loc nD τ sig) → Buf (Elt F) ℓ) : tbl m = word := by
  funext j
  obtain rfl : j = 0 := Subsingleton.elim _ _
  show StableHlo.after hostOps0 _ main_v0 = _
  after_results <;> rfl

theorem map0 (i : grid0.Coords) : cc0_transform_0 (F := F) inb_S1_S1_0 numel1_S1 word i = ![(i 0).val, (i 1).val, 0] := by
  have h0 : (i 0).val < 4 := (i 0).isLt
  have h1 : (i 1).val < 4 := (i 1).isLt
  funext a
  fin_cases a
  · show (BitVec.ofNat 32 (i 0).val).toNat = (i 0).val
    rw [BitVec.toNat_ofNat]; omega
  · show (Scalar.addi (Scalar.muli (0#32) 4#32) (BitVec.ofNat 32 (i 1).val)).toNat = (i 1).val
    generalize (i 1).val = n at *
    interval_cases n <;> decide
  · rfl

/-- So every block lies inside its array. -/
theorem ok (m : (ℓ : Loc nD τ sig) → Buf (Elt F) ℓ) : Ok m := by
  unfold Ok
  rw [tbl_eq]
  intro i
  have h0 : (i 0).val < 4 := (i 0).isLt
  have h1 : (i 1).val < 4 := (i 1).isLt
  refine ⟨?_, Or.inl rfl⟩
  rw [map0]
  intro a
  fin_cases a
  · show ((i 0).val + 1) * 1 ≤ 4; omega
  · show ((i 1).val + 1) * 256 ≤ 2048; omega
  · show (0 + 1) * 1408 ≤ 1408; omega
end

section
open Cert.ChsReferenceIdeal Cert.ChsReferenceIdeal.Gen Cert.ChsReferenceIdeal.Read

/-- What the sum holds: the first half of the rows plus the other core's. -/
abbrev total (g : FVec Ideal S4x2048x1408 .f32) (p : FVec Ideal S4x1024x1408 .f32) : FVec Ideal S4x1024x1408 .bf16 := fun i =>
  addend (g (ix3 (i 0) ⟨(i 1).val, by have h : (i 1).val < 1024 := (i 1).isLt; omega⟩ (i 2))) (p i)

theorem reference (g : FVec Ideal S4x2048x1408 .f32) (p : FVec Ideal S4x1024x1408 .f32) : val_main_v2 (F := Ideal) g p = total g p := by
  funext i
  pointwise [val_main_v2, val_main_v1, val_main_v0]
  refine congrArg (fun a : EReal => addend a (p i)) (congrArg g ?_)
  rfl
end

section
open Cert.ChsKernelIdeal Cert.ChsKernelIdeal.Gen

theorem block (g p : FVec Ideal S1x256x1408 .f32) : k0_pay1 (F := Ideal) g p = fun i => addend (g i) (p i) := by
  funext i
  pointwise [k0_pay1]
  rfl

theorem out (c : Dev nD) (i : grid0.Coords) (arg3 : Memref sig .tc .vmem S1x256x1408 .f32) (harg3 : arg3.IsWhole) (arg4 : Memref sig .tc .vmem S1x256x1408 .f32) (harg4 : arg4.IsWhole)
    (arg5 : Memref sig .tc .vmem S1x256x1408 .bf16) (harg5 : arg5.IsWhole) (x0 x1 : Vec Ideal S1x256x1408 .f32) (xt0 : TbBuf0 (F := Ideal) c tbM0_0) :
    out0_A_2 c i arg3 harg3 arg4 harg4 arg5 harg5 x0 x1 xt0 = fun i => addend (x0 i) (x1 i) := by
  rw [← block]
  frame_out

variable (m : (ℓ : Loc nD τ sig) → Buf (Elt Ideal) ℓ) (c : Dev nD)

theorem grid_at : ∀ t : Fin grid0.N, (grid0.coords t 0).val = t.val / 4 ∧ (grid0.coords t 1).val = t.val % 4 := by decide +kernel

theorem idx0 (t : Fin (cfgM m (ok m)).N) : ((cfgM m (ok m)).win 0).index t = ![t.val / 4, t.val % 4, 0] := by
  show cc0_transform_0 inb_S1_S1_0 numel1_S1 (tbl m) (grid0.coords t) = _
  rw [tbl_eq, map0, (grid_at t).1, (grid_at t).2]
theorem idx1 (t : Fin (cfgM m (ok m)).N) : ((cfgM m (ok m)).win 1).index t = ![t.val / 4, t.val % 4, 0] :=
  (by decide +kernel : ∀ t : Fin grid0.N, cc0_transform_1 (grid0.coords t) = ![t.val / 4, t.val % 4, 0]) t
theorem idx2 (t : Fin (cfgM m (ok m)).N) : ((cfgM m (ok m)).win 2).index t = ![t.val / 4, t.val % 4, 0] :=
  (by decide +kernel : ∀ t : Fin grid0.N, cc0_transform_2 (grid0.coords t) = ![t.val / 4, t.val % 4, 0]) t

/-- Where a point's rows lie. -/
abbrev at_ (t : Fin (cfgM m (ok m)).N) (y : S1x256x1408.Idx) : S4x1024x1408.Idx :=
  ix3 ⟨t.val / 4, by have h : t.val < 16 := t.isLt; omega⟩ ⟨256 * (t.val % 4) + (y 1).val, by have h1 : (y 1).val < 256 := (y 1).isLt; omega⟩ (y 2)

theorem read0 (t : Fin (cfgM m (ok m)).N) (y : S1x256x1408.Idx) : (iblk m (ok m) c 0 t : FVec Ideal S1x256x1408 .f32) y
    = (m ((c : Thread nD τ).loc main_arg0) : FVec Ideal S4x2048x1408 .f32) (ix3 (at_ m t y 0) ⟨(at_ m t y 1).val, by have h : (at_ m t y 1).val < 1024 := (at_ m t y 1).isLt; omega⟩ (at_ m t y 2)) := by
  unfold iblk
  show V m c main_arg0 ((((cfgM m (ok m)).win 0).blk t).view.emb y) = _
  rw [V_main_arg0]
  refine congrArg _ ?_
  blk_ext [idx0 m t]
  · rfl
  · show t.val % 4 * 256 + (y 1).val = 256 * (t.val % 4) + (y 1).val; omega
  · rfl
theorem read1 (t : Fin (cfgM m (ok m)).N) (y : S1x256x1408.Idx) : (iblk m (ok m) c 1 t : FVec Ideal S1x256x1408 .f32) y
    = (m ((c : Thread nD τ).loc main_arg1) : FVec Ideal S4x1024x1408 .f32) (at_ m t y) := by
  unfold iblk
  show V m c main_arg1 ((((cfgM m (ok m)).win 1).blk t).view.emb y) = _
  rw [V_main_arg1]
  refine congrArg _ ?_
  blk_ext [idx1 m t]
  · rfl
  · show t.val % 4 * 256 + (y 1).val = 256 * (t.val % 4) + (y 1).val; omega
  · rfl

/-- The prefetched word, with what it has to satisfy. -/
abbrev adm0 : (pcfg0 (F := Ideal)).Adm := ⟨word, by have h := ok (F := Ideal) (fun _ => Classical.choice inferInstance); unfold Ok at h; rwa [tbl_eq] at h⟩

theorem covers : ((cfgM m (ok m)).win 2).Covers := by
  have h : ∀ a : (pcfg0 (F := Ideal)).Adm, a = adm0 → ((cfg0 a).win 2).Covers := by
    rintro _ rfl
    decide +kernel
  exact h _ (Subtype.ext (tbl_eq m))

theorem place (t : Fin (cfgM m (ok m)).N) (y : S1x256x1408.Idx) : at_ m t y = (((cfgM m (ok m)).win 2).blk t).view.emb y := by
  blk_ext [idx2 m t]
  · rfl
  · show 256 * (t.val % 4) + (y 1).val = t.val % 4 * 256 + (y 1).val; omega
  · rfl

theorem kernel : (dats m (ok m) 0 c).arrAt 2 (cfgM m (ok m)).N = total (m ((c : Thread nD τ).loc main_arg0)) (m ((c : Thread nD τ).loc main_arg1)) := by
  refine (dats m (ok m) 0 c).arrAt_eq_of_covers 2 _ ?_ fun t hf y => ?_
  · exact covers m
  · blk_simp
    rw [after0_2]
    refine (congrFun (out c _ _ _ _ _ _ _ _ _ _) y).trans ?_
    rw [read0 m c t y, read1 m c t y]
    exact congrArg (fun i : S4x1024x1408.Idx => total (m ((c : Thread nD τ).loc main_arg0)) (m ((c : Thread nD τ).loc main_arg1)) i) (place m t y)

variable (ρ : Dev nD → PrngReg)

/-- The whole run: the result is the sum, the arguments are unchanged. -/
theorem run : θ_run defs (onTc (τ := τ) (main (F := Ideal))) ⟨m, fun _ => 0, ρ⟩ (fun r => ∀ c : Dev nD,
      r.2.mem ((c.tc : Thread nD τ).loc main_v1) = total (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (kernel m c),
    ((h c).1 0).trans (((dats m (ok m) 0 c).arrAt_in 0 rfl _).trans ((A_eq m (ok m) c 0).trans (V_main_arg0 m c))),
    ((h c).1 1).trans (((dats m (ok m) 0 c).arrAt_in 1 rfl _).trans ((A_eq m (ok m) c 1).trans (V_main_arg1 m c)))⟩) (run_main m ρ (ok m))
end

end Cert.ChsValue
end
-- ==== Proof.ChsClaim.lean ====
/- The claim about the sum over a chip's two cores: kernel and reference leave the same array, at any input. -/
module

public import proofs.«01_k».proof.Defs
public import proofs.«01_k».proof.Proof.Gen.ChsReferenceIdeal.Run
public import proofs.«01_k».proof.Proof.ChsKernelValue

@[expose] public section

set_option maxRecDepth 16384

noncomputable section

namespace Cert.ChsClaim

open Idealize.ShloMosaic Idealize.ShloMosaic.TcCoe Idealize.SL.Sem

theorem frame_kernel : Cert.quiescent_ChsKernel := fun m ρ _ => Cert.ChsKernel.Gen.frame m ρ (Cert.ChsValue.ok m)

theorem frame_kernelIdeal : Cert.quiescent_ChsKernelIdeal := fun m ρ _ => Cert.ChsKernelIdeal.Gen.frame m ρ (Cert.ChsValue.ok m)

/-- The reference ends with its arguments unchanged; it declares no semaphore. -/
theorem frame_reference : Cert.quiescent_ChsReferenceIdeal := fun m g _ =>
  (θ_run Cert.ChsReferenceIdeal.defs _ _).mono
    (fun _ h => ⟨fun c => (h c).2, sem_eq_zero_of_no_sems rfl _⟩) (Cert.ChsReferenceIdeal.Value.run m g)

theorem algebraic : Cert.algebraic_ChsKernelIdeal_ChsReferenceIdeal := by
  pair_intro
  · run_from Cert.ChsValue.run m g
  · run_from Cert.ChsReferenceIdeal.Value.run m' g'
    exact ((Cert.ChsReferenceIdeal.Read.val_main_v2_eq _ _).symm.trans (Cert.ChsValue.reference _ _))

end Cert.ChsClaim
end
-- ==== Proof.OwnKernelValue.lean ====
/- A chip's own slot of a packed weight: what the kernel `own_slot` and the reference leave, at any input. -/
module

public import proofs.«01_k».proof.Proof.Gen.OwnKernelIdeal.Frame
public import proofs.«01_k».proof.Proof.Gen.OwnKernel.Frame
public import proofs.«01_k».proof.Proof.Gen.OwnReferenceIdeal.Read
public import proofs.«01_k».proof.Proof.AttnArrays
public import Idealize.ShloMosaic.Lib.Pipeline.Value
public import Idealize.ShloMosaic.Lib.Pipeline.ValueKit
public import Idealize.ShloMosaic.Lib.StableHlo.Run

@[expose] public section

set_option maxRecDepth 16384

noncomputable section

namespace Cert.OwnValue

open Idealize.ShloMosaic Idealize.ShloMosaic.TcCoe Idealize.SL.Sem
open Idealize.ShloMosaic.Pipeline (Dat)
open Cert.Reals Cert.Attn

section
open Cert.OwnKernelIdeal Cert.OwnKernelIdeal.Gen
variable {F : FTy → Type} [FloatOps F]

/-- The prefetched word is zero. -/
abbrev word : pre0.Contents (Elt F) := fun j => match j with
  | ⟨0, _⟩ => (fun _ => 0#32 : S1.Idx → BitVec 32)

theorem tbl_eq (m : (ℓ : Loc nD τ sig) → Buf (Elt F) ℓ) : tbl m = word := by
  funext j
  obtain rfl : j = 0 := Subsingleton.elim _ _
  show StableHlo.after hostOps0 _ main_v0 = _
  after_results <;> rfl

theorem map1 (i : grid0.Coords) : cc0_transform_1 (F := F) inb_S1_S1_0 numel1_S1 word i = ![0, (i 0).val, (i 1).val, 0] := by
  have h0 : (i 0).val < 2 := (i 0).isLt
  have h1 : (i 1).val < 4 := (i 1).isLt
  funext a
  fin_cases a
  · rfl
  · show (BitVec.ofNat 32 (i 0).val).toNat = (i 0).val
    rw [BitVec.toNat_ofNat]; omega
  · show (BitVec.ofNat 32 (i 1).val).toNat = (i 1).val
    rw [BitVec.toNat_ofNat]; omega
  · rfl

/-- So every block lies inside its array. -/
theorem ok (m : (ℓ : Loc nD τ sig) → Buf (Elt F) ℓ) : Ok m := by
  unfold Ok
  rw [tbl_eq]
  intro i
  have h0 : (i 0).val < 2 := (i 0).isLt
  have h1 : (i 1).val < 4 := (i 1).isLt
  refine ⟨?_, ?_⟩
  · rw [map1]
    intro a
    fin_cases a
    · show (0 + 1) * 1 ≤ 4; omega
    · show ((i 0).val + 1) * 1 ≤ 2; omega
    · show ((i 1).val + 1) * 512 ≤ 2048; omega
    · show (0 + 1) * 1408 ≤ 1408; omega
  · exact .inr (Affine.block_words_dvd (of_decide_eq_true rfl) (by decide))
end

section
open Cert.OwnKernelIdeal Cert.OwnKernelIdeal.Gen

theorem block (w : FVec Ideal S1x512x1408 .f32) : k0_pay1 (F := Ideal) w = fun i => w (ix3 0 (i 2) (i 3)) := by
  funext i
  pointwise [k0_pay1]
  blk_ext

theorem out (c : Dev nD) (i : grid0.Coords) (arg3 : Memref sig .tc .vmem S1x512x1408 .f32) (harg3 : arg3.IsWhole) (arg4 : Memref sig .tc .vmem S1x1x512x1408 .bf16) (harg4 : arg4.IsWhole)
    (x0 : Vec Ideal S1x512x1408 .f32) (xt0 : TbBuf0 (F := Ideal) c tbM0_0) :
    out0_A_1 c i arg3 harg3 arg4 harg4 x0 xt0 = fun i => x0 (ix3 0 (i 2) (i 3)) := by
  rw [← block]
  frame_out

variable (m : (ℓ : Loc nD τ sig) → Buf (Elt Ideal) ℓ) (c : Dev nD)

theorem grid_at : ∀ t : Fin grid0.N, (grid0.coords t 0).val = t.val / 4 ∧ (grid0.coords t 1).val = t.val % 4 := by decide +kernel

theorem idx0 (t : Fin (cfgM m (ok m)).N) : ((cfgM m (ok m)).win 0).index t = ![t.val / 4, t.val % 4, 0] :=
  (by decide +kernel : ∀ t : Fin grid0.N, cc0_transform_0 (grid0.coords t) = ![t.val / 4, t.val % 4, 0]) t
theorem idx1 (t : Fin (cfgM m (ok m)).N) : ((cfgM m (ok m)).win 1).index t = ![0, t.val / 4, t.val % 4, 0] := by
  show cc0_transform_1 inb_S1_S1_0 numel1_S1 (tbl m) (grid0.coords t) = _
  rw [tbl_eq, map1, (grid_at t).1, (grid_at t).2]

/-- Where a point's rows lie in the weight. -/
abbrev at_ (t : Fin (cfgM m (ok m)).N) (y : S1x1x512x1408.Idx) : S2x2048x1408.Idx :=
  ix3 ⟨t.val / 4, by have h : t.val < 8 := t.isLt; omega⟩ ⟨512 * (t.val % 4) + (y 2).val, by have h1 : (y 2).val < 512 := (y 2).isLt; omega⟩ (y 3)

theorem read0 (t : Fin (cfgM m (ok m)).N) (y : S1x1x512x1408.Idx) : (iblk m (ok m) c 0 t : FVec Ideal S1x512x1408 .f32) (ix3 0 (y 2) (y 3))
    = (m ((c : Thread nD τ).loc main_arg0) : FVec Ideal S2x2048x1408 .f32) (at_ m t y) := by
  unfold iblk
  show V m c main_arg0 ((((cfgM m (ok m)).win 0).blk t).view.emb (ix3 0 (y 2) (y 3))) = _
  rw [V_main_arg0]
  refine congrArg _ ?_
  blk_ext [idx0 m t]
  · rfl
  · show t.val % 4 * 512 + (y 2).val = 512 * (t.val % 4) + (y 2).val; omega
  · rfl

theorem place (t : Fin (cfgM m (ok m)).N) (y : S1x1x512x1408.Idx) : at_ m t y = (fun i : S4x2x2048x1408.Idx => (ix3 (i 1) (i 2) (i 3) : S2x2048x1408.Idx)) ((((cfgM m (ok m)).win 1).blk t).view.emb y) := by
  blk_ext [idx1 m t]
  · rfl
  · show 512 * (t.val % 4) + (y 2).val = t.val % 4 * 512 + (y 2).val; omega
  · rfl

/-- The prefetched word, with what it has to satisfy. -/
abbrev adm0 : (pcfg0 (F := Ideal)).Adm := ⟨word, by have h := ok (F := Ideal) (fun _ => Classical.choice inferInstance); unfold Ok at h; rwa [tbl_eq] at h⟩

theorem covers : ((cfgM m (ok m)).win 1).CoversWhere (fun β => β (0 : Fin 4) = 0) := by
  have h : ∀ a : (pcfg0 (F := Ideal)).Adm, a = adm0 → ((cfg0 a).win 1).CoversWhere (fun β => β (0 : Fin 4) = 0) := by
    rintro _ rfl
    decide +kernel
  exact h _ (Subtype.ext (tbl_eq m))

/-- The chip's own slot holds the weight. -/
theorem kernel (i : S2x2048x1408.Idx) : ((dats m (ok m) 0 c).arrAt 1 (cfgM m (ok m)).N : FVec Ideal S4x2x2048x1408 .bf16) (ix4 (0 : Fin 4) (i 0 : Fin 2) (i 1 : Fin 2048) (i 2 : Fin 1408)) = (m ((c : Thread nD τ).loc main_arg0) : FVec Ideal S2x2048x1408 .f32) i := by
  refine ((dats m (ok m) 0 c).arrAt_apply_of_coversWhere 1 (fun j : S4x2x2048x1408.Idx => (m ((c : Thread nD τ).loc main_arg0) : FVec Ideal S2x2048x1408 .f32) (ix3 (j 1) (j 2) (j 3)))
    (P := fun j : S4x2x2048x1408.Idx => (j 0).val / 1 = 0) (fun β => β (0 : Fin 4) = 0) (covers m) (fun t hf y => ?_) (fun j => Iff.rfl) _).trans ?_
  · blk_simp
    rw [after0_1]
    refine (congrFun (out c _ _ _ _ _ _ _) y).trans ?_
    refine (read0 m c t y).trans ?_
    exact congrArg (fun i : S2x2048x1408.Idx => (m ((c : Thread nD τ).loc main_arg0) : FVec Ideal S2x2048x1408 .f32) i) (place m t y)
  · refine (if_pos ((Nat.div_one _).trans rfl)).trans ?_
    refine congrArg (fun i : S2x2048x1408.Idx => (m ((c : Thread nD τ).loc main_arg0) : FVec Ideal S2x2048x1408 .f32) i) ?_
    funext a
    fin_cases a <;> rfl

theorem inj : Function.Injective (Pipeline.arrRef spec0) := by decide

theorem result : Pipeline.afterTail pcfgs (fun _ => adm m (ok m)) (dats m (ok m)) 0 (V0 m) [hostOps1] c main_v3 = m ((c : Thread nD τ).loc main_arg0) := by
  have e : Pipeline.withArrays (Pipeline.pin pcfgs (fun _ => adm m (ok m)) 0).spec c (V0 m c) (fun w => (dats m (ok m) 0 c).arrAt w (Pipeline.pin pcfgs (fun _ => adm m (ok m)) 0).N) (Proc.devRef .tc main_v1)
      = (dats m (ok m) 0 c).arrAt 1 (cfgM m (ok m)).N :=
    Pipeline.withArrays_arr spec0 inj c (V0 m c) _ 1
  unfold Pipeline.afterTail hostOps1
  simp only [List.flatten_cons, List.flatten_nil, List.append_nil]
  after_results_simp
  rw [e]
  funext i
  refine Eq.trans ?_ (kernel m c i)
  pointwise []

variable (ρ : Dev nD → PrngReg)

/-- The whole run: the result is the weight, the argument is unchanged. -/
theorem run : θ_run defs (onTc (τ := τ) (main (F := Ideal))) ⟨m, fun _ => 0, ρ⟩ (fun r => ∀ c : Dev nD,
      r.2.mem ((c.tc : Thread nD τ).loc main_v3) = m ((c.tc : Thread nD τ).loc main_arg0)
      ∧ r.2.mem ((c.tc : Thread nD τ).loc main_arg0) = m ((c.tc : Thread nD τ).loc main_arg0)) :=
  (θ_run defs _ _).mono (fun _ h c => ⟨((h c).2 main_v3 (Pipeline.mem_restRefs_of main_v3 (by decide) (by decide : ∀ w : Fin 2, (spec0 w).arr.view.ref ≠ main_v3))).trans (result m c),
    ((h c).1 0).trans (((dats m (ok m) 0 c).arrAt_in 0 rfl _).trans ((A_eq m (ok m) c 0).trans (V_main_arg0 m c)))⟩) (run_main m ρ (ok m))
end

end Cert.OwnValue
end
-- ==== Proof.OwnClaim.lean ====
/- The claim about a chip's own slot of a packed weight: kernel and reference leave the same array, at any input. -/
module

public import proofs.«01_k».proof.Defs
public import proofs.«01_k».proof.Proof.Gen.OwnReferenceIdeal.Run
public import proofs.«01_k».proof.Proof.OwnKernelValue

@[expose] public section

set_option maxRecDepth 16384

noncomputable section

namespace Cert.OwnClaim

open Idealize.ShloMosaic Idealize.ShloMosaic.TcCoe Idealize.SL.Sem

theorem frame_kernel : Cert.quiescent_OwnKernel := fun m ρ _ => Cert.OwnKernel.Gen.frame m ρ (Cert.OwnValue.ok m)

theorem frame_kernelIdeal : Cert.quiescent_OwnKernelIdeal := fun m ρ _ => Cert.OwnKernelIdeal.Gen.frame m ρ (Cert.OwnValue.ok m)

/-- The reference ends with its arguments unchanged; it declares no semaphore. -/
theorem frame_reference : Cert.quiescent_OwnReferenceIdeal := fun m g _ =>
  (θ_run Cert.OwnReferenceIdeal.defs _ _).mono
    (fun _ h => ⟨fun c => (h c).2, sem_eq_zero_of_no_sems rfl _⟩) (Cert.OwnReferenceIdeal.Value.run m g)

theorem algebraic : Cert.algebraic_OwnKernelIdeal_OwnReferenceIdeal := by
  pair_intro
  · run_from Cert.OwnValue.run m g
  · run_from Cert.OwnReferenceIdeal.Value.run m' g'
    exact (Cert.OwnReferenceIdeal.Read.val_main_v0_eq _).symm

end Cert.OwnClaim
end
-- ==== Proof.TotKernelValue.lean ====
/- The sum over the four chips: what the kernel `total_sum` and the reference leave, at any input. -/
module

public import proofs.«01_k».proof.Proof.Gen.TotKernelIdeal.Frame
public import proofs.«01_k».proof.Proof.Gen.TotKernel.Frame
public import proofs.«01_k».proof.Proof.Gen.TotReferenceIdeal.Read
public import proofs.«01_k».proof.Proof.AttnArrays
public import Idealize.ShloMosaic.Lib.Pipeline.Value
public import Idealize.ShloMosaic.Lib.Pipeline.ValueKit
public import Idealize.ShloMosaic.Lib.StableHlo.Run

@[expose] public section

set_option maxRecDepth 16384

noncomputable section

namespace Cert.TotValue

open Idealize.ShloMosaic Idealize.ShloMosaic.TcCoe Idealize.SL.Sem
open Idealize.ShloMosaic.Pipeline (Dat)
open Cert.Reals Cert.Attn

/-- The sum of four reals. -/
def sum4 (a b c d : EReal) : EReal := a + b + c + d

/-- What the sum holds: the chip's own part plus those of the three others. -/
abbrev total (p : FVec Ideal ⟨3, ![4, 1024, 1408]⟩ .f32) (q : FVec Ideal ⟨3, ![3, 1024, 1408]⟩ .f32) : FVec Ideal ⟨2, ![1024, 1408]⟩ .f32 := fun i =>
  sum4 (p (ix3 0 (i 0) (i 1))) (q (ix3 0 (i 0) (i 1))) (q (ix3 1 (i 0) (i 1))) (q (ix3 2 (i 0) (i 1)))

section
open Cert.TotReferenceIdeal Cert.TotReferenceIdeal.Gen Cert.TotReferenceIdeal.Read

theorem reference (p : FVec Ideal S4x1024x1408 .f32) (q : FVec Ideal S3x1024x1408 .f32) : val_main_v7 (F := Ideal) p q = total p q := by
  funext i
  pointwise [val_main_v7, val_main_v6, val_main_v5, val_main_v4, val_main_v3, val_main_v2, val_main_v1, val_main_v0, val_main_cst]
  refine (congrArg (fun a : EReal => p (ix3 0 (i 0) (i 1)) + a) (Fin.sum_univ_three fun k : Fin 3 => (q (ix3 k (i 0) (i 1)) : EReal))).trans ?_
  show (p (ix3 0 (i 0) (i 1)) : EReal) + (q (ix3 0 (i 0) (i 1)) + q (ix3 1 (i 0) (i 1)) + q (ix3 2 (i 0) (i 1)))
    = p (ix3 0 (i 0) (i 1)) + q (ix3 0 (i 0) (i 1)) + q (ix3 1 (i 0) (i 1)) + q (ix3 2 (i 0) (i 1))
  rw [add_assoc (p (ix3 0 (i 0) (i 1)) + q (ix3 0 (i 0) (i 1)) : EReal), add_assoc (p (ix3 0 (i 0) (i 1)) : EReal), ← add_assoc (q (ix3 0 (i 0) (i 1)) : EReal)]
end

section
open Cert.TotKernelIdeal Cert.TotKernelIdeal.Gen
variable {F : FTy → Type} [FloatOps F]

/-- The two prefetched words are zero. -/
abbrev word : pre0.Contents (Elt F) := fun j => match j with
  | ⟨0, _⟩ => (fun _ => 0#32 : S1.Idx → BitVec 32)
  | ⟨1, _⟩ => (fun _ => 0#32 : S1.Idx → BitVec 32)

theorem tbl_eq (m : (ℓ : Loc nD τ sig) → Buf (Elt F) ℓ) : tbl m = word := by
  funext j
  match j with
  | ⟨0, _⟩ =>
    show StableHlo.after hostOps0 _ main_v2 = _
    after_results <;> rfl
  | ⟨1, _⟩ =>
    show StableHlo.after hostOps0 _ main_v3 = _
    after_results
    funext i
    show BitVec.ofNat 32 (i 0).val = 0#32
    have h : (i 0).val < 1 := (i 0).isLt
    rw [show (i 0).val = 0 by omega]

theorem map0 (i : grid0.Coords) : cc0_transform_0 (F := F) inb_S1_S1_0 numel1_S1 word i = ![0, (i 0).val, 0] := by
  have h0 : (i 0).val < 4 := (i 0).isLt
  funext a
  fin_cases a
  · rfl
  · show (BitVec.ofNat 32 (i 0).val).toNat = (i 0).val
    rw [BitVec.toNat_ofNat]; omega
  · rfl

theorem map2 (i : grid0.Coords) : cc0_transform_2 (F := F) inb_S1_S1_0 numel1_S1 word i = ![0, (i 0).val, 0] := by
  have h0 : (i 0).val < 4 := (i 0).isLt
  funext a
  fin_cases a
  · rfl
  · show (Scalar.addi (Scalar.muli (0#32) 4#32) (BitVec.ofNat 32 (i 0).val)).toNat = (i 0).val
    generalize (i 0).val = n at *
    interval_cases n <;> decide
  · rfl

/-- So every block lies inside its array. -/
theorem ok (m : (ℓ : Loc nD τ sig) → Buf (Elt F) ℓ) : Ok m := by
  unfold Ok
  rw [tbl_eq]
  refine ⟨fun i => ⟨?_, ?_⟩, fun i => ⟨?_, .inl rfl⟩⟩
  · have h0 : (i 0).val < 4 := (i 0).isLt
    rw [map0]
    intro a
    fin_cases a
    · show (0 + 1) * 1 ≤ 4; omega
    · show ((i 0).val + 1) * 256 ≤ 1024; omega
    · show (0 + 1) * 1408 ≤ 1408; omega
  · exact .inr (Affine.block_words_dvd (of_decide_eq_true rfl) (by decide))
  · have h0 : (i 0).val < 4 := (i 0).isLt
    rw [map2]
    intro a
    fin_cases a
    · show (0 + 1) * 1 ≤ 2; omega
    · show ((i 0).val + 1) * 256 ≤ 2048; omega
    · show (0 + 1) * 1408 ≤ 1408; omega
end

section
open Cert.TotKernelIdeal Cert.TotKernelIdeal.Gen

theorem block (p q r s : FVec Ideal S1x256x1408 .bf16) : k0_pay1 (F := Ideal) p q r s = fun i => sum4 (p i) (q i) (r i) (s i) := by
  funext i
  pointwise [k0_pay1]
  rfl

/-- One of the three others' parts, as the body loads it. -/
theorem part (x : Vec Ideal S3x256x1408 .bf16) (k : Fin 3) (inb : ∀ a, (![k.val, 0, 0] : Fin 3 → Nat) a + (![1, 256, 1408] : Fin 3 → Nat) a ≤ S3x256x1408.size a) (y : S1x256x1408.Idx) :
    View.ld (Val := Elt Ideal) (e' := .bf16) x (Rect.unit ![k.val, 0, 0] ![1, 256, 1408] inb) y = x (ix3 k (y 1) (y 2)) := by
  refine congrArg x ?_
  blk_ext
  · show k.val + 1 * (y 0).val = k.val; omega
  · show 0 + 1 * (y 1).val = (y 1).val; omega
  · show 0 + 1 * (y 2).val = (y 2).val; omega

theorem out (c : Dev nD) (i : grid0.Coords) (arg3 : Memref sig .tc .vmem S1x256x1408 .bf16) (harg3 : arg3.IsWhole) (arg4 : Memref sig .tc .vmem S3x256x1408 .bf16) (harg4 : arg4.IsWhole)
    (arg5 : Memref sig .tc .vmem S1x256x1408 .f32) (harg5 : arg5.IsWhole) (x0 : Vec Ideal S1x256x1408 .bf16) (x1 : Vec Ideal S3x256x1408 .bf16) (xt0 : TbBuf0 (F := Ideal) c tbM0_0) (xt1 : TbBuf0 (F := Ideal) c tbM0_1) :
    out0_A_2 c i arg3 harg3 arg4 harg4 arg5 harg5 x0 x1 xt0 xt1 = fun i => sum4 (x0 i) (x1 (ix3 0 (i 1) (i 2))) (x1 (ix3 1 (i 1) (i 2))) (x1 (ix3 2 (i 1) (i 2))) := by
  frame_out
  rw [block]
  funext y
  exact congr (congr (congrArg (sum4 (x0 y)) (part x1 0 _ y)) (part x1 1 _ y)) (part x1 2 _ y)

variable (m : (ℓ : Loc nD τ sig) → Buf (Elt Ideal) ℓ) (c : Dev nD)

theorem grid_at : ∀ t : Fin grid0.N, (grid0.coords t 0).val = t.val := by decide +kernel

theorem idx0 (t : Fin (cfgM m (ok m)).N) : ((cfgM m (ok m)).win 0).index t = ![0, t.val, 0] := by
  show cc0_transform_0 inb_S1_S1_0 numel1_S1 (tbl m) (grid0.coords t) = _
  rw [tbl_eq, map0, grid_at t]
theorem idx1 (t : Fin (cfgM m (ok m)).N) : ((cfgM m (ok m)).win 1).index t = ![0, t.val, 0] :=
  (by decide +kernel : ∀ t : Fin grid0.N, cc0_transform_1 (grid0.coords t) = ![0, t.val, 0]) t
theorem idx2 (t : Fin (cfgM m (ok m)).N) : ((cfgM m (ok m)).win 2).index t = ![0, t.val, 0] := by
  show cc0_transform_2 inb_S1_S1_0 numel1_S1 (tbl m) (grid0.coords t) = _
  rw [tbl_eq, map2, grid_at t]

/-- The two arguments as the call is handed them. -/
theorem arg0 : V m c main_v0 = m ((c : Thread nD τ).loc main_arg0) := by
  show StableHlo.after hostOps0 _ main_v0 = _
  after_results <;> rfl
theorem arg1 : V m c main_v1 = m ((c : Thread nD τ).loc main_arg1) := by
  show StableHlo.after hostOps0 _ main_v1 = _
  after_results <;> rfl

/-- Where a point's rows lie. -/
abbrev row (t : Fin (cfgM m (ok m)).N) (r : Fin 256) : Fin 1024 := ⟨256 * t.val + r.val, by have h : t.val < 4 := t.isLt; omega⟩

/-- The row and column of the sum that a place of a point's block holds. -/
abbrev at_ (t : Fin (cfgM m (ok m)).N) (y : S1x256x1408.Idx) : S1024x1408.Idx := ix2 (row m t (y 1)) (y 2)

theorem at_row (t : Fin (cfgM m (ok m)).N) (y : S1x256x1408.Idx) : (at_ m t y 0).val = (t.val * 256 + (y 1).val) % 1024 := by
  show 256 * t.val + (y 1).val = _
  have ht : t.val < 4 := t.isLt
  have hy : (y 1).val < 256 := (y 1).isLt
  omega

theorem read0 (t : Fin (cfgM m (ok m)).N) (y : S1x256x1408.Idx) : (iblk m (ok m) c 0 t : FVec Ideal S1x256x1408 .bf16) y
    = (m ((c : Thread nD τ).loc main_arg0) : FVec Ideal S4x1024x1408 .f32) (ix3 0 (row m t (y 1)) (y 2)) := by
  unfold iblk
  show V m c main_v0 ((((cfgM m (ok m)).win 0).blk t).view.emb y) = _
  rw [arg0]
  refine congrArg _ ?_
  blk_ext [idx0 m t]
  all_goals first | rfl | (show _ = 256 * t.val + (y 1).val; omega)

theorem read1 (t : Fin (cfgM m (ok m)).N) (k : Fin 3) (y : S1x256x1408.Idx) : (iblk m (ok m) c 1 t : FVec Ideal S3x256x1408 .bf16) (ix3 k (y 1) (y 2))
    = (m ((c : Thread nD τ).loc main_arg1) : FVec Ideal S3x1024x1408 .f32) (ix3 k (row m t (y 1)) (y 2)) := by
  unfold iblk
  show V m c main_v1 ((((cfgM m (ok m)).win 1).blk t).view.emb (ix3 k (y 1) (y 2))) = _
  rw [arg1]
  refine congrArg _ ?_
  blk_ext [idx1 m t]
  all_goals first | rfl | (show _ = 256 * t.val + (y 1).val; omega)

/-- The prefetched words, with what they have to satisfy. -/
abbrev adm0 : (pcfg0 (F := Ideal)).Adm := ⟨word, by have h := ok (F := Ideal) (fun _ => Classical.choice inferInstance); unfold Ok at h; rwa [tbl_eq] at h⟩

/-- The blocks written are the first four of the first layer's eight. -/
abbrev mine (β : Fin 3 → Nat) : Prop := β 0 = 0 ∧ β 1 < 4

theorem covers : ((cfgM m (ok m)).win 2).CoversWhere mine := by
  have h : ∀ a : (pcfg0 (F := Ideal)).Adm, a = adm0 → ((cfg0 a).win 2).CoversWhere mine := by
    rintro _ rfl
    decide +kernel
  exact h _ (Subtype.ext (tbl_eq m))

/-- The first half of the first layer's rows holds the sum. -/
theorem kernel (i : S1024x1408.Idx) : ((dats m (ok m) 0 c).arrAt 2 (cfgM m (ok m)).N : FVec Ideal S2x2048x1408 .f32) (ix3 (0 : Fin 2) ⟨(i 0).val, by have h : (i 0).val < 1024 := (i 0).isLt; omega⟩ (i 1 : Fin 1408))
    = total (m ((c : Thread nD τ).loc main_arg0)) (m ((c : Thread nD τ).loc main_arg1)) i := by
  have hi : (i 0).val < 1024 := (i 0).isLt
  refine ((dats m (ok m) 0 c).arrAt_apply_of_coversWhere 2 (fun j : S2x2048x1408.Idx => total (m ((c : Thread nD τ).loc main_arg0)) (m ((c : Thread nD τ).loc main_arg1)) (ix2 ⟨(j 1).val % 1024, Nat.mod_lt _ (by decide)⟩ (j 2)))
    (P := fun j : S2x2048x1408.Idx => (j 0).val / 1 = 0 ∧ (j 1).val / 256 < 4) mine (covers m) (fun t hf y => ?_) (fun j => Iff.rfl) _).trans ?_
  · blk_simp
    rw [after0_2]
    refine (congrFun (out c _ _ _ _ _ _ _ _ _ _ _) y).trans ?_
    refine (congr (congr (congr (congrArg sum4 ((congrArg _ ?_).trans (read0 m c t y))) (read1 m c t 0 y)) (read1 m c t 1 y)) (read1 m c t 2 y)).trans ?_
    · rfl
    · refine Eq.trans (b := total (m ((c : Thread nD τ).loc main_arg0)) (m ((c : Thread nD τ).loc main_arg1)) (at_ m t y)) rfl ?_
      refine congrArg (fun i : S1024x1408.Idx => total (m ((c : Thread nD τ).loc main_arg0)) (m ((c : Thread nD τ).loc main_arg1)) i) ?_
      blk_ext [idx2 m t]
      · exact at_row m t y
      · rfl
  · have hq : (i 0).val / 256 < 4 := by omega
    refine (if_pos ⟨(Nat.div_one _).trans rfl, hq⟩).trans ?_
    refine congrArg (fun i : S1024x1408.Idx => total (m ((c : Thread nD τ).loc main_arg0)) (m ((c : Thread nD τ).loc main_arg1)) i) ?_
    funext a
    fin_cases a
    · exact Fin.ext (Nat.mod_eq_of_lt hi)
    · rfl

theorem inj : Function.Injective (Pipeline.arrRef spec0) := by decide

theorem result : Pipeline.afterTail pcfgs (fun _ => adm m (ok m)) (dats m (ok m)) 0 (V0 m) [hostOps1] c main_v6 = total (m ((c : Thread nD τ).loc main_arg0)) (m ((c : Thread nD τ).loc main_arg1)) := by
  have e : Pipeline.withArrays (Pipeline.pin pcfgs (fun _ => adm m (ok m)) 0).spec c (V0 m c) (fun w => (dats m (ok m) 0 c).arrAt w (Pipeline.pin pcfgs (fun _ => adm m (ok m)) 0).N) (Proc.devRef .tc main_v4)
      = (dats m (ok m) 0 c).arrAt 2 (cfgM m (ok m)).N :=
    Pipeline.withArrays_arr spec0 inj c (V0 m c) _ 2
  unfold Pipeline.afterTail hostOps1
  simp only [List.flatten_cons, List.flatten_nil, List.append_nil]
  after_results_simp
  rw [e]
  funext i
  refine Eq.trans ?_ (kernel m c i)
  pointwise []

variable (ρ : Dev nD → PrngReg)

/-- The whole run: the result is the sum, the arguments are unchanged. -/
theorem run : θ_run defs (onTc (τ := τ) (main (F := Ideal))) ⟨m, fun _ => 0, ρ⟩ (fun r => ∀ c : Dev nD,
      r.2.mem ((c.tc : Thread nD τ).loc main_v6) = total (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).2 main_v6 (Pipeline.mem_restRefs_of main_v6 (by decide) (by decide : ∀ w : Fin 3, (spec0 w).arr.view.ref ≠ main_v6))).trans (result m c), h.2 c⟩)
    (θ_run_and (run_main m ρ (ok m)) (unchanged m ρ (ok m)))
end

end Cert.TotValue
end
-- ==== Proof.TotClaim.lean ====
/- The claim about the sum over the four chips: kernel and reference leave the same array, at any input. -/
module

public import proofs.«01_k».proof.Defs
public import proofs.«01_k».proof.Proof.Gen.TotReferenceIdeal.Run
public import proofs.«01_k».proof.Proof.TotKernelValue

@[expose] public section

set_option maxRecDepth 16384

noncomputable section

namespace Cert.TotClaim

open Idealize.ShloMosaic Idealize.ShloMosaic.TcCoe Idealize.SL.Sem

theorem frame_kernel : Cert.quiescent_TotKernel := fun m ρ _ => Cert.TotKernel.Gen.frame m ρ (Cert.TotValue.ok m)

theorem frame_kernelIdeal : Cert.quiescent_TotKernelIdeal := fun m ρ _ => Cert.TotKernelIdeal.Gen.frame m ρ (Cert.TotValue.ok m)

/-- The reference ends with its arguments unchanged; it declares no semaphore. -/
theorem frame_reference : Cert.quiescent_TotReferenceIdeal := fun m g _ =>
  (θ_run Cert.TotReferenceIdeal.defs _ _).mono
    (fun _ h => ⟨fun c => (h c).2, sem_eq_zero_of_no_sems rfl _⟩) (Cert.TotReferenceIdeal.Value.run m g)

theorem algebraic : Cert.algebraic_TotKernelIdeal_TotReferenceIdeal := by
  pair_intro
  · run_from Cert.TotValue.run m g
  · run_from Cert.TotReferenceIdeal.Value.run m' g'
    exact ((Cert.TotReferenceIdeal.Read.val_main_v7_eq _ _).symm.trans (Cert.TotValue.reference _ _))

end Cert.TotClaim
end
-- ==== Proof.lean ====
module

public import proofs.«01_k».proof.Proof.Gen.RmsKernel
public import proofs.«01_k».proof.Proof.Gen.RmsKernel.Frame
public import proofs.«01_k».proof.Proof.Gen.RmsKernelIdeal
public import proofs.«01_k».proof.Proof.Gen.RmsKernelIdeal.Frame
public import proofs.«01_k».proof.Proof.Gen.RmsReferenceIdeal
public import proofs.«01_k».proof.Proof.Gen.RmsReferenceIdeal.Run
public import proofs.«01_k».proof.Proof.Gen.RmsReferenceIdeal.Read
public import proofs.«01_k».proof.Proof.Gen.RmsKernelIdeal.Value
public import proofs.«01_k».proof.Proof.Gen.PlfKernel
public import proofs.«01_k».proof.Proof.Gen.PlfKernel.Frame
public import proofs.«01_k».proof.Proof.Gen.PlfKernelIdeal
public import proofs.«01_k».proof.Proof.Gen.PlfKernelIdeal.Frame
public import proofs.«01_k».proof.Proof.Gen.PlfReferenceIdeal
public import proofs.«01_k».proof.Proof.Gen.PlfReferenceIdeal.Run
public import proofs.«01_k».proof.Proof.Gen.PlfReferenceIdeal.Read
public import proofs.«01_k».proof.Proof.Gen.PlfKernelIdeal.Value
public import proofs.«01_k».proof.Proof.Gen.NormKernel
public import proofs.«01_k».proof.Proof.Gen.NormKernel.Frame
public import proofs.«01_k».proof.Proof.Gen.NormKernelIdeal
public import proofs.«01_k».proof.Proof.Gen.NormKernelIdeal.Frame
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.Pre_norm_finite
public import proofs.«01_k».proof.Proof.Gen.AttnReferenceIdeal.Read
public import proofs.«01_k».proof.Proof.Gen.AttnReferenceIdeal.Run
public import proofs.«01_k».proof.Defs
public import proofs.«01_k».proof.Proof.Gen.FfnKernel
public import proofs.«01_k».proof.Proof.Gen.FfnKernel.Frame
public import proofs.«01_k».proof.Proof.Gen.FfnKernelIdeal
public import proofs.«01_k».proof.Proof.Gen.FfnKernelIdeal.Frame
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Pre_ffn_finite
public import proofs.«01_k».proof.Proof.Gen.Pre_attn_finite
public import proofs.«01_k».proof.Proof.Gen.AttnKernel
public import proofs.«01_k».proof.Proof.Gen.AttnKernel.Frame
public import proofs.«01_k».proof.Proof.Gen.AttnKernelIdeal
public import proofs.«01_k».proof.Proof.Gen.AttnKernelIdeal.Frame
public import proofs.«01_k».proof.Proof.Gen.PoolKernel
public import proofs.«01_k».proof.Proof.Gen.PoolKernel.Frame
public import proofs.«01_k».proof.Proof.Gen.PoolKernelIdeal
public import proofs.«01_k».proof.Proof.Gen.PoolKernelIdeal.Frame
public import proofs.«01_k».proof.Proof.Gen.PoolKernelIdeal.Value
public import proofs.«01_k».proof.Proof.Gen.PoolReferenceIdeal
public import proofs.«01_k».proof.Proof.Gen.PoolReferenceIdeal.Run
public import proofs.«01_k».proof.Proof.Gen.PoolReferenceIdeal.Read
public import proofs.«01_k».proof.Proof.Gen.Pre_pool_finite
public import proofs.«01_k».proof.Proof.Gen.LossKernel
public import proofs.«01_k».proof.Proof.Gen.LossKernel.Frame
public import proofs.«01_k».proof.Proof.Gen.LossKernelIdeal
public import proofs.«01_k».proof.Proof.Gen.LossKernelIdeal.Frame
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.Pre_loss_finite
public import proofs.«01_k».proof.Proof.Gen.MixKernel
public import proofs.«01_k».proof.Proof.Gen.MixKernel.Frame
public import proofs.«01_k».proof.Proof.Gen.MixKernelIdeal
public import proofs.«01_k».proof.Proof.Gen.MixKernelIdeal.Frame
public import proofs.«01_k».proof.Proof.Gen.MixKernelIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.Pre_mix_finite
public import proofs.«01_k».proof.Proof.FfnClaim
public import proofs.«01_k».proof.Proof.AttnClaim
public import proofs.«01_k».proof.Proof.PoolClaim
public import proofs.«01_k».proof.Proof.Gen.AttnReferenceIdeal
public import proofs.«01_k».proof.Proof.LossClaim
public import proofs.«01_k».proof.Proof.MixClaim
public import proofs.«01_k».proof.Proof.NormClaim
public import proofs.«01_k».proof.Proof.RmsClaim
public import proofs.«01_k».proof.Proof.PlfClaim
public import proofs.«01_k».proof.Proof.Gen.Pre_plf_finite
public import proofs.«01_k».proof.Proof.Gen.InpKernel
public import proofs.«01_k».proof.Proof.Gen.InpKernel.Frame
public import proofs.«01_k».proof.Proof.Gen.InpKernelIdeal
public import proofs.«01_k».proof.Proof.Gen.InpKernelIdeal.Frame
public import proofs.«01_k».proof.Proof.Gen.InpKernelIdeal.Value
public import proofs.«01_k».proof.Proof.Gen.InpReferenceIdeal
public import proofs.«01_k».proof.Proof.Gen.InpReferenceIdeal.Run
public import proofs.«01_k».proof.Proof.Gen.InpReferenceIdeal.Read
public import proofs.«01_k».proof.Proof.InpClaim
public import proofs.«01_k».proof.Proof.Gen.MobKernel
public import proofs.«01_k».proof.Proof.Gen.MobKernel.Frame
public import proofs.«01_k».proof.Proof.Gen.MobKernelIdeal
public import proofs.«01_k».proof.Proof.Gen.MobKernelIdeal.Frame
public import proofs.«01_k».proof.Proof.Gen.MobKernelIdeal.Value
public import proofs.«01_k».proof.Proof.Gen.MobReferenceIdeal
public import proofs.«01_k».proof.Proof.Gen.MobReferenceIdeal.Run
public import proofs.«01_k».proof.Proof.Gen.MobReferenceIdeal.Read
public import proofs.«01_k».proof.Proof.MobClaim
public import proofs.«01_k».proof.Proof.Gen.WgrKernel
public import proofs.«01_k».proof.Proof.Gen.WgrKernel.Frame
public import proofs.«01_k».proof.Proof.Gen.WgrKernelIdeal
public import proofs.«01_k».proof.Proof.Gen.WgrKernelIdeal.Frame
public import proofs.«01_k».proof.Proof.Gen.WgrKernelIdeal.Value
public import proofs.«01_k».proof.Proof.Gen.WgrReferenceIdeal
public import proofs.«01_k».proof.Proof.Gen.WgrReferenceIdeal.Run
public import proofs.«01_k».proof.Proof.Gen.WgrReferenceIdeal.Read
public import proofs.«01_k».proof.Proof.WgrClaim
public import proofs.«01_k».proof.Proof.Gen.ResKernel
public import proofs.«01_k».proof.Proof.Gen.ResKernel.Frame
public import proofs.«01_k».proof.Proof.Gen.ResKernelIdeal
public import proofs.«01_k».proof.Proof.Gen.ResKernelIdeal.Frame
public import proofs.«01_k».proof.Proof.Gen.ResKernelIdeal.Value
public import proofs.«01_k».proof.Proof.Gen.ResReferenceIdeal
public import proofs.«01_k».proof.Proof.Gen.ResReferenceIdeal.Run
public import proofs.«01_k».proof.Proof.Gen.ResReferenceIdeal.Read
public import proofs.«01_k».proof.Proof.ResClaim
public import proofs.«01_k».proof.Proof.Gen.AdwKernel
public import proofs.«01_k».proof.Proof.Gen.AdwKernel.Frame
public import proofs.«01_k».proof.Proof.Gen.AdwKernelIdeal
public import proofs.«01_k».proof.Proof.Gen.AdwKernelIdeal.Frame
public import proofs.«01_k».proof.Proof.Gen.AdwKernelIdeal.Value
public import proofs.«01_k».proof.Proof.Gen.AdwReferenceIdeal
public import proofs.«01_k».proof.Proof.Gen.AdwReferenceIdeal.Run
public import proofs.«01_k».proof.Proof.Gen.AdwReferenceIdeal.Read
public import proofs.«01_k».proof.Proof.AdwClaim
public import proofs.«01_k».proof.Proof.Gen.ChsKernel
public import proofs.«01_k».proof.Proof.Gen.ChsKernel.Frame
public import proofs.«01_k».proof.Proof.Gen.ChsKernelIdeal
public import proofs.«01_k».proof.Proof.Gen.ChsKernelIdeal.Frame
public import proofs.«01_k».proof.Proof.Gen.ChsReferenceIdeal
public import proofs.«01_k».proof.Proof.Gen.ChsReferenceIdeal.Run
public import proofs.«01_k».proof.Proof.Gen.ChsReferenceIdeal.Read
public import proofs.«01_k».proof.Proof.ChsClaim
public import proofs.«01_k».proof.Proof.Gen.OwnKernel
public import proofs.«01_k».proof.Proof.Gen.OwnKernel.Frame
public import proofs.«01_k».proof.Proof.Gen.OwnKernelIdeal
public import proofs.«01_k».proof.Proof.Gen.OwnKernelIdeal.Frame
public import proofs.«01_k».proof.Proof.Gen.OwnReferenceIdeal
public import proofs.«01_k».proof.Proof.Gen.OwnReferenceIdeal.Run
public import proofs.«01_k».proof.Proof.Gen.OwnReferenceIdeal.Read
public import proofs.«01_k».proof.Proof.OwnClaim
public import proofs.«01_k».proof.Proof.Gen.TotKernel
public import proofs.«01_k».proof.Proof.Gen.TotKernel.Frame
public import proofs.«01_k».proof.Proof.Gen.TotKernelIdeal
public import proofs.«01_k».proof.Proof.Gen.TotKernelIdeal.Frame
public import proofs.«01_k».proof.Proof.Gen.TotReferenceIdeal
public import proofs.«01_k».proof.Proof.Gen.TotReferenceIdeal.Run
public import proofs.«01_k».proof.Proof.Gen.TotReferenceIdeal.Read
public import proofs.«01_k».proof.Proof.TotClaim

@[expose] public section

noncomputable section

namespace Cert.Proof

open Idealize.ShloMosaic Idealize.SL.Sem

theorem claim : Cert.Claim :=
  ⟨Cert.FfnKernel.Gen.facts,
    Cert.FfnKernelIdeal.Gen.facts,
    Cert.FfnReferenceIdeal.Gen.facts,
    Cert.AttnKernel.Gen.facts,
    Cert.AttnKernelIdeal.Gen.facts,
    Cert.AttnReferenceIdeal.Gen.facts,
    Cert.PoolKernel.Gen.facts,
    Cert.PoolKernelIdeal.Gen.facts,
    Cert.PoolReferenceIdeal.Gen.facts,
    Cert.LossKernel.Gen.facts,
    Cert.LossKernelIdeal.Gen.facts,
    Cert.LossReferenceIdeal.Gen.facts,
    Cert.MixKernel.Gen.facts,
    Cert.MixKernelIdeal.Gen.facts,
    Cert.MixReferenceIdeal.Gen.facts,
    Cert.NormKernel.Gen.facts,
    Cert.NormKernelIdeal.Gen.facts,
    Cert.NormReferenceIdeal.Gen.facts,
    Cert.RmsKernel.Gen.facts,
    Cert.RmsKernelIdeal.Gen.facts,
    Cert.RmsReferenceIdeal.Gen.facts,
    Cert.PlfKernel.Gen.facts,
    Cert.PlfKernelIdeal.Gen.facts,
    Cert.PlfReferenceIdeal.Gen.facts,
    Cert.InpKernel.Gen.facts,
    Cert.InpKernelIdeal.Gen.facts,
    Cert.InpReferenceIdeal.Gen.facts,
    Cert.MobKernel.Gen.facts,
    Cert.MobKernelIdeal.Gen.facts,
    Cert.MobReferenceIdeal.Gen.facts,
    Cert.WgrKernel.Gen.facts,
    Cert.WgrKernelIdeal.Gen.facts,
    Cert.WgrReferenceIdeal.Gen.facts,
    Cert.ResKernel.Gen.facts,
    Cert.ResKernelIdeal.Gen.facts,
    Cert.ResReferenceIdeal.Gen.facts,
    Cert.AdwKernel.Gen.facts,
    Cert.AdwKernelIdeal.Gen.facts,
    Cert.AdwReferenceIdeal.Gen.facts,
    Cert.ChsKernel.Gen.facts,
    Cert.ChsKernelIdeal.Gen.facts,
    Cert.ChsReferenceIdeal.Gen.facts,
    Cert.OwnKernel.Gen.facts,
    Cert.OwnKernelIdeal.Gen.facts,
    Cert.OwnReferenceIdeal.Gen.facts,
    Cert.TotKernel.Gen.facts,
    Cert.TotKernelIdeal.Gen.facts,
    Cert.TotReferenceIdeal.Gen.facts,
    Cert.Pre_ffn_finite.Gen.facts,
    Cert.Pre_attn_finite.Gen.facts,
    Cert.Pre_pool_finite.Gen.facts,
    Cert.Pre_loss_finite.Gen.facts,
    Cert.Pre_mix_finite.Gen.facts,
    Cert.Pre_norm_finite.Gen.facts,
    Cert.Pre_plf_finite.Gen.facts,
    fun m ρ _ => Cert.FfnKernel.Gen.frame m ρ,
    fun m ρ _ => Cert.FfnKernelIdeal.Gen.frame m ρ,
    fun m ρ _ => Cert.FfnKernelIdeal.Gen.frame m ρ,
    Cert.FfnClaim.frame_reference,
    fun m ρ _ => Cert.FfnClaim.frame_reference m ρ trivial,
    fun m ρ _ => Cert.AttnKernel.Gen.frame m ρ,
    fun m ρ _ => Cert.AttnKernelIdeal.Gen.frame m ρ,
    fun m ρ _ => Cert.AttnKernelIdeal.Gen.frame m ρ,
    Cert.AttnClaim.frame_reference,
    fun m ρ _ => Cert.AttnClaim.frame_reference m ρ trivial,
    fun m ρ _ => Cert.PoolKernel.Gen.frame m ρ,
    fun m ρ _ => Cert.PoolKernelIdeal.Gen.frame m ρ,
    fun m ρ _ => Cert.PoolKernelIdeal.Gen.frame m ρ,
    Cert.PoolClaim.frame_reference,
    fun m ρ _ => Cert.PoolClaim.frame_reference m ρ trivial,
    fun m ρ _ => Cert.LossKernel.Gen.frame m ρ,
    fun m ρ _ => Cert.LossKernelIdeal.Gen.frame m ρ,
    fun m ρ _ => Cert.LossKernelIdeal.Gen.frame m ρ,
    Cert.LossClaim.frame_reference,
    fun m ρ _ => Cert.LossClaim.frame_reference m ρ trivial,
    fun m ρ _ => Cert.MixKernel.Gen.frame m ρ,
    fun m ρ _ => Cert.MixKernelIdeal.Gen.frame m ρ,
    fun m ρ _ => Cert.MixKernelIdeal.Gen.frame m ρ,
    Cert.MixClaim.frame_reference,
    fun m ρ _ => Cert.MixClaim.frame_reference m ρ trivial,
    fun m ρ _ => Cert.NormKernel.Gen.frame m ρ,
    fun m ρ _ => Cert.NormKernelIdeal.Gen.frame m ρ,
    fun m ρ _ => Cert.NormKernelIdeal.Gen.frame m ρ,
    Cert.NormClaim.frame_reference,
    fun m ρ _ => Cert.NormClaim.frame_reference m ρ trivial,
    fun m ρ _ => Cert.RmsKernel.Gen.frame m ρ,
    fun m ρ _ => Cert.RmsKernelIdeal.Gen.frame m ρ,
    Cert.RmsClaim.frame_reference,
    fun m ρ _ => Cert.PlfKernel.Gen.frame m ρ,
    fun m ρ _ => Cert.PlfKernelIdeal.Gen.frame m ρ,
    fun m ρ _ => Cert.PlfKernelIdeal.Gen.frame m ρ,
    Cert.PlfClaim.frame_reference,
    fun m ρ _ => Cert.PlfClaim.frame_reference m ρ trivial,
    fun m ρ _ => Cert.InpKernel.Gen.frame m ρ,
    fun m ρ _ => Cert.InpKernelIdeal.Gen.frame m ρ,
    Cert.InpClaim.frame_reference,
    fun m ρ _ => Cert.MobKernel.Gen.frame m ρ,
    fun m ρ _ => Cert.MobKernelIdeal.Gen.frame m ρ,
    Cert.MobClaim.frame_reference,
    fun m ρ _ => Cert.WgrKernel.Gen.frame m ρ,
    fun m ρ _ => Cert.WgrKernelIdeal.Gen.frame m ρ,
    Cert.WgrClaim.frame_reference,
    fun m ρ _ => Cert.ResKernel.Gen.frame m ρ,
    fun m ρ _ => Cert.ResKernelIdeal.Gen.frame m ρ,
    Cert.ResClaim.frame_reference,
    fun m ρ _ => Cert.AdwKernel.Gen.frame m ρ,
    fun m ρ _ => Cert.AdwKernelIdeal.Gen.frame m ρ,
    Cert.AdwClaim.frame_reference,
    Cert.ChsClaim.frame_kernel,
    Cert.ChsClaim.frame_kernelIdeal,
    Cert.ChsClaim.frame_reference,
    Cert.OwnClaim.frame_kernel,
    Cert.OwnClaim.frame_kernelIdeal,
    Cert.OwnClaim.frame_reference,
    Cert.TotClaim.frame_kernel,
    Cert.TotClaim.frame_kernelIdeal,
    Cert.TotClaim.frame_reference,
    trivial,
    Cert.FfnClaim.algebraic,
    trivial,
    Cert.AttnClaim.algebraic,
    trivial,
    Cert.PoolClaim.algebraic,
    trivial,
    Cert.LossClaim.algebraic,
    trivial,
    Cert.MixClaim.algebraic,
    trivial,
    Cert.NormClaim.algebraic,
    trivial,
    Cert.RmsClaim.algebraic,
    trivial,
    Cert.PlfClaim.algebraic,
    trivial,
    Cert.InpClaim.algebraic,
    trivial,
    Cert.MobClaim.algebraic,
    trivial,
    Cert.WgrClaim.algebraic,
    trivial,
    Cert.ResClaim.algebraic,
    trivial,
    Cert.AdwClaim.algebraic,
    trivial,
    Cert.ChsClaim.algebraic,
    trivial,
    Cert.OwnClaim.algebraic,
    trivial,
    Cert.TotClaim.algebraic⟩

end Cert.Proof

end
